-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_tables_in_range [hPre_tables_in_range : Cert.Pre_tables_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_MoeLast [hPre_tables_in_range : Cert.Pre_tables_in_range.Facts] (m : (ℓ : Loc Cert.MoeLast.nD Cert.MoeLast.τ Cert.MoeLast.sig) → Buf (Elt Bits) ℓ) : Prop :=
  ∀ c : Dev Cert.MoeLast.nD,
    (Cert.Pre_tables_in_range.fn (F := Bits) (m ((c.tc : Thread Cert.MoeLast.nD Cert.MoeLast.τ).loc Cert.MoeLast.main_arg0)) (m ((c.tc : Thread Cert.MoeLast.nD Cert.MoeLast.τ).loc Cert.MoeLast.main_arg1)) (m ((c.tc : Thread Cert.MoeLast.nD Cert.MoeLast.τ).loc Cert.MoeLast.main_arg2)) (m ((c.tc : Thread Cert.MoeLast.nD Cert.MoeLast.τ).loc Cert.MoeLast.main_arg3)) (m ((c.tc : Thread Cert.MoeLast.nD Cert.MoeLast.τ).loc Cert.MoeLast.main_arg4)) (m ((c.tc : Thread Cert.MoeLast.nD Cert.MoeLast.τ).loc Cert.MoeLast.main_arg5))) = (fun _ => 1#1)

def Pre_MoeLastIdeal [hPre_tables_in_range : Cert.Pre_tables_in_range.Facts] (m : (ℓ : Loc Cert.MoeLastIdeal.nD Cert.MoeLastIdeal.τ Cert.MoeLastIdeal.sig) → Buf (Elt Ideal) ℓ) : Prop :=
  ∀ c : Dev Cert.MoeLastIdeal.nD,
    (Cert.Pre_tables_in_range.fn (F := Ideal) (m ((c.tc : Thread Cert.MoeLastIdeal.nD Cert.MoeLastIdeal.τ).loc Cert.MoeLastIdeal.main_arg0)) (m ((c.tc : Thread Cert.MoeLastIdeal.nD Cert.MoeLastIdeal.τ).loc Cert.MoeLastIdeal.main_arg1)) (m ((c.tc : Thread Cert.MoeLastIdeal.nD Cert.MoeLastIdeal.τ).loc Cert.MoeLastIdeal.main_arg2)) (m ((c.tc : Thread Cert.MoeLastIdeal.nD Cert.MoeLastIdeal.τ).loc Cert.MoeLastIdeal.main_arg3)) (m ((c.tc : Thread Cert.MoeLastIdeal.nD Cert.MoeLastIdeal.τ).loc Cert.MoeLastIdeal.main_arg4)) (m ((c.tc : Thread Cert.MoeLastIdeal.nD Cert.MoeLastIdeal.τ).loc Cert.MoeLastIdeal.main_arg5))) = (fun _ => 1#1)

def Pre_MoeLastReferenceIdeal (m : (ℓ : Loc Cert.MoeLastReferenceIdeal.nD Cert.MoeLastReferenceIdeal.τ Cert.MoeLastReferenceIdeal.sig) → Buf (Elt Ideal) ℓ) : Prop :=
  True

def Pre_MoeLastReferenceIdeal_tables_in_range [hPre_tables_in_range : Cert.Pre_tables_in_range.Facts] (m : (ℓ : Loc Cert.MoeLastReferenceIdeal.nD Cert.MoeLastReferenceIdeal.τ Cert.MoeLastReferenceIdeal.sig) → Buf (Elt Ideal) ℓ) : Prop :=
  ∀ c : Dev Cert.MoeLastReferenceIdeal.nD,
    (Cert.Pre_tables_in_range.fn (F := Ideal) (m ((c.tc : Thread Cert.MoeLastReferenceIdeal.nD Cert.MoeLastReferenceIdeal.τ).loc Cert.MoeLastReferenceIdeal.main_arg0)) (m ((c.tc : Thread Cert.MoeLastReferenceIdeal.nD Cert.MoeLastReferenceIdeal.τ).loc Cert.MoeLastReferenceIdeal.main_arg1)) (m ((c.tc : Thread Cert.MoeLastReferenceIdeal.nD Cert.MoeLastReferenceIdeal.τ).loc Cert.MoeLastReferenceIdeal.main_arg2)) (m ((c.tc : Thread Cert.MoeLastReferenceIdeal.nD Cert.MoeLastReferenceIdeal.τ).loc Cert.MoeLastReferenceIdeal.main_arg3)) (m ((c.tc : Thread Cert.MoeLastReferenceIdeal.nD Cert.MoeLastReferenceIdeal.τ).loc Cert.MoeLastReferenceIdeal.main_arg4)) (m ((c.tc : Thread Cert.MoeLastReferenceIdeal.nD Cert.MoeLastReferenceIdeal.τ).loc Cert.MoeLastReferenceIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_DenseLast (m : (ℓ : Loc Cert.DenseLast.nD Cert.DenseLast.τ Cert.DenseLast.sig) → Buf (Elt Bits) ℓ) : Prop :=
  True

def Pre_DenseLastIdeal (m : (ℓ : Loc Cert.DenseLastIdeal.nD Cert.DenseLastIdeal.τ Cert.DenseLastIdeal.sig) → Buf (Elt Ideal) ℓ) : Prop :=
  True

def Pre_DenseLastReferenceIdeal (m : (ℓ : Loc Cert.DenseLastReferenceIdeal.nD Cert.DenseLastReferenceIdeal.τ Cert.DenseLastReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_OutLastReferenceIdeal (m : (ℓ : Loc Cert.OutLastReferenceIdeal.nD Cert.OutLastReferenceIdeal.τ Cert.OutLastReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_EvenLast (m : (ℓ : Loc Cert.EvenLast.nD Cert.EvenLast.τ Cert.EvenLast.sig) → Buf (Elt Bits) ℓ) : Prop :=
  True

def Pre_EvenLastIdeal (m : (ℓ : Loc Cert.EvenLastIdeal.nD Cert.EvenLastIdeal.τ Cert.EvenLastIdeal.sig) → Buf (Elt Ideal) ℓ) : Prop :=
  True

def Pre_EvenLastReferenceIdeal (m : (ℓ : Loc Cert.EvenLastReferenceIdeal.nD Cert.EvenLastReferenceIdeal.τ Cert.EvenLastReferenceIdeal.sig) → Buf (Elt Ideal) ℓ) : Prop :=
  True

def Pre_AttnLast (m : (ℓ : Loc Cert.AttnLast.nD Cert.AttnLast.τ Cert.AttnLast.sig) → Buf (Elt Bits) ℓ) : Prop :=
  True

def Pre_AttnLastIdeal (m : (ℓ : Loc Cert.AttnLastIdeal.nD Cert.AttnLastIdeal.τ Cert.AttnLastIdeal.sig) → Buf (Elt Ideal) ℓ) : Prop :=
  True

def Pre_AttnLastIdeal_finite_scores_last [hPre_finite_scores_last : Cert.Pre_finite_scores_last.Facts] (m : (ℓ : Loc Cert.AttnLastIdeal.nD Cert.AttnLastIdeal.τ Cert.AttnLastIdeal.sig) → Buf (Elt Ideal) ℓ) : Prop :=
  ∀ c : Dev Cert.AttnLastIdeal.nD,
    (Cert.Pre_finite_scores_last.fn (F := Ideal) (m ((c.tc : Thread Cert.AttnLastIdeal.nD Cert.AttnLastIdeal.τ).loc Cert.AttnLastIdeal.main_arg0)) (m ((c.tc : Thread Cert.AttnLastIdeal.nD Cert.AttnLastIdeal.τ).loc Cert.AttnLastIdeal.main_arg1)) (m ((c.tc : Thread Cert.AttnLastIdeal.nD Cert.AttnLastIdeal.τ).loc Cert.AttnLastIdeal.main_arg2)) (m ((c.tc : Thread Cert.AttnLastIdeal.nD Cert.AttnLastIdeal.τ).loc Cert.AttnLastIdeal.main_arg3)) (m ((c.tc : Thread Cert.AttnLastIdeal.nD Cert.AttnLastIdeal.τ).loc Cert.AttnLastIdeal.main_arg4)) (m ((c.tc : Thread Cert.AttnLastIdeal.nD Cert.AttnLastIdeal.τ).loc Cert.AttnLastIdeal.main_arg5)) (m ((c.tc : Thread Cert.AttnLastIdeal.nD Cert.AttnLastIdeal.τ).loc Cert.AttnLastIdeal.main_arg6)) (m ((c.tc : Thread Cert.AttnLastIdeal.nD Cert.AttnLastIdeal.τ).loc Cert.AttnLastIdeal.main_arg7)) (m ((c.tc : Thread Cert.AttnLastIdeal.nD Cert.AttnLastIdeal.τ).loc Cert.AttnLastIdeal.main_arg8))) = (fun _ => 1#1)

def Pre_AttnLastReferenceIdeal (m : (ℓ : Loc Cert.AttnLastReferenceIdeal.nD Cert.AttnLastReferenceIdeal.τ Cert.AttnLastReferenceIdeal.sig) → Buf (Elt Ideal) ℓ) : Prop :=
  True

def Pre_AttnLastReferenceIdeal_finite_scores_last [hPre_finite_scores_last : Cert.Pre_finite_scores_last.Facts] (m : (ℓ : Loc Cert.AttnLastReferenceIdeal.nD Cert.AttnLastReferenceIdeal.τ Cert.AttnLastReferenceIdeal.sig) → Buf (Elt Ideal) ℓ) : Prop :=
  ∀ c : Dev Cert.AttnLastReferenceIdeal.nD,
    (Cert.Pre_finite_scores_last.fn (F := Ideal) (m ((c.tc : Thread Cert.AttnLastReferenceIdeal.nD Cert.AttnLastReferenceIdeal.τ).loc Cert.AttnLastReferenceIdeal.main_arg0)) (m ((c.tc : Thread Cert.AttnLastReferenceIdeal.nD Cert.AttnLastReferenceIdeal.τ).loc Cert.AttnLastReferenceIdeal.main_arg1)) (m ((c.tc : Thread Cert.AttnLastReferenceIdeal.nD Cert.AttnLastReferenceIdeal.τ).loc Cert.AttnLastReferenceIdeal.main_arg2)) (m ((c.tc : Thread Cert.AttnLastReferenceIdeal.nD Cert.AttnLastReferenceIdeal.τ).loc Cert.AttnLastReferenceIdeal.main_arg3)) (m ((c.tc : Thread Cert.AttnLastReferenceIdeal.nD Cert.AttnLastReferenceIdeal.τ).loc Cert.AttnLastReferenceIdeal.main_arg4)) (m ((c.tc : Thread Cert.AttnLastReferenceIdeal.nD Cert.AttnLastReferenceIdeal.τ).loc Cert.AttnLastReferenceIdeal.main_arg5)) (m ((c.tc : Thread Cert.AttnLastReferenceIdeal.nD Cert.AttnLastReferenceIdeal.τ).loc Cert.AttnLastReferenceIdeal.main_arg6)) (m ((c.tc : Thread Cert.AttnLastReferenceIdeal.nD Cert.AttnLastReferenceIdeal.τ).loc Cert.AttnLastReferenceIdeal.main_arg7)) (m ((c.tc : Thread Cert.AttnLastReferenceIdeal.nD Cert.AttnLastReferenceIdeal.τ).loc Cert.AttnLastReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_tables_in_range [hMoeReferenceIdeal : Cert.MoeReferenceIdeal.Facts] [hPre_tables_in_range : Cert.Pre_tables_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_tables_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeLast [hMoeLast : Cert.MoeLast.Facts] [hPre_tables_in_range : Cert.Pre_tables_in_range.Facts] : Prop :=
  ∀ (m : (ℓ : Loc Cert.MoeLast.nD Cert.MoeLast.τ Cert.MoeLast.sig) → Buf (Elt Bits) ℓ) (g : Dev Cert.MoeLast.nD → PrngReg), Pre_MoeLast m →
    θ_run (Cert.MoeLast.defs (F := Bits)) (onTc (τ := Cert.MoeLast.τ) (Cert.MoeLast.main (F := Bits))) ⟨m, fun _ => 0, g⟩ (fun r => (∀ c : Dev Cert.MoeLast.nD,
      r.2.mem ((c.tc : Thread Cert.MoeLast.nD Cert.MoeLast.τ).loc Cert.MoeLast.main_arg0) = m ((c.tc : Thread Cert.MoeLast.nD Cert.MoeLast.τ).loc Cert.MoeLast.main_arg0)
      ∧ r.2.mem ((c.tc : Thread Cert.MoeLast.nD Cert.MoeLast.τ).loc Cert.MoeLast.main_arg1) = m ((c.tc : Thread Cert.MoeLast.nD Cert.MoeLast.τ).loc Cert.MoeLast.main_arg1)
      ∧ r.2.mem ((c.tc : Thread Cert.MoeLast.nD Cert.MoeLast.τ).loc Cert.MoeLast.main_arg2) = m ((c.tc : Thread Cert.MoeLast.nD Cert.MoeLast.τ).loc Cert.MoeLast.main_arg2)
      ∧ r.2.mem ((c.tc : Thread Cert.MoeLast.nD Cert.MoeLast.τ).loc Cert.MoeLast.main_arg3) = m ((c.tc : Thread Cert.MoeLast.nD Cert.MoeLast.τ).loc Cert.MoeLast.main_arg3)
      ∧ r.2.mem ((c.tc : Thread Cert.MoeLast.nD Cert.MoeLast.τ).loc Cert.MoeLast.main_arg4) = m ((c.tc : Thread Cert.MoeLast.nD Cert.MoeLast.τ).loc Cert.MoeLast.main_arg4)
      ∧ r.2.mem ((c.tc : Thread Cert.MoeLast.nD Cert.MoeLast.τ).loc Cert.MoeLast.main_arg5) = m ((c.tc : Thread Cert.MoeLast.nD Cert.MoeLast.τ).loc Cert.MoeLast.main_arg5))
      ∧ r.2.sem = fun _ => 0)

def quiescent_MoeLastIdeal [hMoeLastIdeal : Cert.MoeLastIdeal.Facts] [hPre_tables_in_range : Cert.Pre_tables_in_range.Facts] : Prop :=
  ∀ (m : (ℓ : Loc Cert.MoeLastIdeal.nD Cert.MoeLastIdeal.τ Cert.MoeLastIdeal.sig) → Buf (Elt Ideal) ℓ) (g : Dev Cert.MoeLastIdeal.nD → PrngReg), Pre_MoeLastIdeal m →
    θ_run (Cert.MoeLastIdeal.defs (F := Ideal)) (onTc (τ := Cert.MoeLastIdeal.τ) (Cert.MoeLastIdeal.main (F := Ideal))) ⟨m, fun _ => 0, g⟩ (fun r => (∀ c : Dev Cert.MoeLastIdeal.nD,
      r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
      ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
      ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
      ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
      ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4)
      ∧ r.2.mem ((c.tc : Thread Cert.MoeLastIdeal.nD Cert.MoeLastIdeal.τ).loc Cert.MoeLastIdeal.main_arg5) = m ((c.tc : Thread Cert.MoeLastIdeal.nD Cert.MoeLastIdeal.τ).loc Cert.MoeLastIdeal.main_arg5))
      ∧ r.2.sem = fun _ => 0)

def quiescent_MoeLastReferenceIdeal [hMoeLastReferenceIdeal : Cert.MoeLastReferenceIdeal.Facts] : Prop :=
  ∀ (m : (ℓ : Loc Cert.MoeLastReferenceIdeal.nD Cert.MoeLastReferenceIdeal.τ Cert.MoeLastReferenceIdeal.sig) → Buf (Elt Ideal) ℓ) (g : Dev Cert.MoeLastReferenceIdeal.nD → PrngReg), Pre_MoeLastReferenceIdeal m →
    θ_run (Cert.MoeLastReferenceIdeal.defs (F := Ideal)) (onTc (τ := Cert.MoeLastReferenceIdeal.τ) (Cert.MoeLastReferenceIdeal.main (F := Ideal))) ⟨m, fun _ => 0, g⟩ (fun r => (∀ c : Dev Cert.MoeLastReferenceIdeal.nD,
      r.2.mem ((c.tc : Thread Cert.MoeLastReferenceIdeal.nD Cert.MoeLastReferenceIdeal.τ).loc Cert.MoeLastReferenceIdeal.main_arg0) = m ((c.tc : Thread Cert.MoeLastReferenceIdeal.nD Cert.MoeLastReferenceIdeal.τ).loc Cert.MoeLastReferenceIdeal.main_arg0)
      ∧ r.2.mem ((c.tc : Thread Cert.MoeLastReferenceIdeal.nD Cert.MoeLastReferenceIdeal.τ).loc Cert.MoeLastReferenceIdeal.main_arg1) = m ((c.tc : Thread Cert.MoeLastReferenceIdeal.nD Cert.MoeLastReferenceIdeal.τ).loc Cert.MoeLastReferenceIdeal.main_arg1)
      ∧ r.2.mem ((c.tc : Thread Cert.MoeLastReferenceIdeal.nD Cert.MoeLastReferenceIdeal.τ).loc Cert.MoeLastReferenceIdeal.main_arg2) = m ((c.tc : Thread Cert.MoeLastReferenceIdeal.nD Cert.MoeLastReferenceIdeal.τ).loc Cert.MoeLastReferenceIdeal.main_arg2)
      ∧ r.2.mem ((c.tc : Thread Cert.MoeLastReferenceIdeal.nD Cert.MoeLastReferenceIdeal.τ).loc Cert.MoeLastReferenceIdeal.main_arg3) = m ((c.tc : Thread Cert.MoeLastReferenceIdeal.nD Cert.MoeLastReferenceIdeal.τ).loc Cert.MoeLastReferenceIdeal.main_arg3)
      ∧ r.2.mem ((c.tc : Thread Cert.MoeLastReferenceIdeal.nD Cert.MoeLastReferenceIdeal.τ).loc Cert.MoeLastReferenceIdeal.main_arg4) = m ((c.tc : Thread Cert.MoeLastReferenceIdeal.nD Cert.MoeLastReferenceIdeal.τ).loc Cert.MoeLastReferenceIdeal.main_arg4)
      ∧ r.2.mem ((c.tc : Thread Cert.MoeLastReferenceIdeal.nD Cert.MoeLastReferenceIdeal.τ).loc Cert.MoeLastReferenceIdeal.main_arg5) = m ((c.tc : Thread Cert.MoeLastReferenceIdeal.nD Cert.MoeLastReferenceIdeal.τ).loc Cert.MoeLastReferenceIdeal.main_arg5))
      ∧ r.2.sem = fun _ => 0)

def quiescent_MoeLastReferenceIdeal_pre_tables_in_range [hMoeLastReferenceIdeal : Cert.MoeLastReferenceIdeal.Facts] [hPre_tables_in_range : Cert.Pre_tables_in_range.Facts] : Prop :=
  ∀ (m : (ℓ : Loc Cert.MoeLastReferenceIdeal.nD Cert.MoeLastReferenceIdeal.τ Cert.MoeLastReferenceIdeal.sig) → Buf (Elt Ideal) ℓ) (g : Dev Cert.MoeLastReferenceIdeal.nD → PrngReg), Pre_MoeLastReferenceIdeal_tables_in_range m →
    θ_run (Cert.MoeLastReferenceIdeal.defs (F := Ideal)) (onTc (τ := Cert.MoeLastReferenceIdeal.τ) (Cert.MoeLastReferenceIdeal.main (F := Ideal))) ⟨m, fun _ => 0, g⟩ (fun r => (∀ c : Dev Cert.MoeLastReferenceIdeal.nD,
      r.2.mem ((c.tc : Thread Cert.MoeLastReferenceIdeal.nD Cert.MoeLastReferenceIdeal.τ).loc Cert.MoeLastReferenceIdeal.main_arg0) = m ((c.tc : Thread Cert.MoeLastReferenceIdeal.nD Cert.MoeLastReferenceIdeal.τ).loc Cert.MoeLastReferenceIdeal.main_arg0)
      ∧ r.2.mem ((c.tc : Thread Cert.MoeLastReferenceIdeal.nD Cert.MoeLastReferenceIdeal.τ).loc Cert.MoeLastReferenceIdeal.main_arg1) = m ((c.tc : Thread Cert.MoeLastReferenceIdeal.nD Cert.MoeLastReferenceIdeal.τ).loc Cert.MoeLastReferenceIdeal.main_arg1)
      ∧ r.2.mem ((c.tc : Thread Cert.MoeLastReferenceIdeal.nD Cert.MoeLastReferenceIdeal.τ).loc Cert.MoeLastReferenceIdeal.main_arg2) = m ((c.tc : Thread Cert.MoeLastReferenceIdeal.nD Cert.MoeLastReferenceIdeal.τ).loc Cert.MoeLastReferenceIdeal.main_arg2)
      ∧ r.2.mem ((c.tc : Thread Cert.MoeLastReferenceIdeal.nD Cert.MoeLastReferenceIdeal.τ).loc Cert.MoeLastReferenceIdeal.main_arg3) = m ((c.tc : Thread Cert.MoeLastReferenceIdeal.nD Cert.MoeLastReferenceIdeal.τ).loc Cert.MoeLastReferenceIdeal.main_arg3)
      ∧ r.2.mem ((c.tc : Thread Cert.MoeLastReferenceIdeal.nD Cert.MoeLastReferenceIdeal.τ).loc Cert.MoeLastReferenceIdeal.main_arg4) = m ((c.tc : Thread Cert.MoeLastReferenceIdeal.nD Cert.MoeLastReferenceIdeal.τ).loc Cert.MoeLastReferenceIdeal.main_arg4)
      ∧ r.2.mem ((c.tc : Thread Cert.MoeLastReferenceIdeal.nD Cert.MoeLastReferenceIdeal.τ).loc Cert.MoeLastReferenceIdeal.main_arg5) = m ((c.tc : Thread Cert.MoeLastReferenceIdeal.nD Cert.MoeLastReferenceIdeal.τ).loc Cert.MoeLastReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5))
      ∧ r.2.sem = fun _ => 0)

def quiescent_DenseLast [hDenseLast : Cert.DenseLast.Facts] : Prop :=
  ∀ (m : (ℓ : Loc Cert.DenseLast.nD Cert.DenseLast.τ Cert.DenseLast.sig) → Buf (Elt Bits) ℓ) (g : Dev Cert.DenseLast.nD → PrngReg), Pre_DenseLast m →
    θ_run (Cert.DenseLast.defs (F := Bits)) (onTc (τ := Cert.DenseLast.τ) (Cert.DenseLast.main (F := Bits))) ⟨m, fun _ => 0, g⟩ (fun r => (∀ c : Dev Cert.DenseLast.nD,
      r.2.mem ((c.tc : Thread Cert.DenseLast.nD Cert.DenseLast.τ).loc Cert.DenseLast.main_arg0) = m ((c.tc : Thread Cert.DenseLast.nD Cert.DenseLast.τ).loc Cert.DenseLast.main_arg0)
      ∧ r.2.mem ((c.tc : Thread Cert.DenseLast.nD Cert.DenseLast.τ).loc Cert.DenseLast.main_arg1) = m ((c.tc : Thread Cert.DenseLast.nD Cert.DenseLast.τ).loc Cert.DenseLast.main_arg1)
      ∧ r.2.mem ((c.tc : Thread Cert.DenseLast.nD Cert.DenseLast.τ).loc Cert.DenseLast.main_arg2) = m ((c.tc : Thread Cert.DenseLast.nD Cert.DenseLast.τ).loc Cert.DenseLast.main_arg2)
      ∧ r.2.mem ((c.tc : Thread Cert.DenseLast.nD Cert.DenseLast.τ).loc Cert.DenseLast.main_arg3) = m ((c.tc : Thread Cert.DenseLast.nD Cert.DenseLast.τ).loc Cert.DenseLast.main_arg3)
      ∧ r.2.mem ((c.tc : Thread Cert.DenseLast.nD Cert.DenseLast.τ).loc Cert.DenseLast.main_arg4) = m ((c.tc : Thread Cert.DenseLast.nD Cert.DenseLast.τ).loc Cert.DenseLast.main_arg4)
      ∧ r.2.mem ((c.tc : Thread Cert.DenseLast.nD Cert.DenseLast.τ).loc Cert.DenseLast.main_arg5) = m ((c.tc : Thread Cert.DenseLast.nD Cert.DenseLast.τ).loc Cert.DenseLast.main_arg5))
      ∧ r.2.sem = fun _ => 0)

def quiescent_DenseLastIdeal [hDenseLastIdeal : Cert.DenseLastIdeal.Facts] : Prop :=
  ∀ (m : (ℓ : Loc Cert.DenseLastIdeal.nD Cert.DenseLastIdeal.τ Cert.DenseLastIdeal.sig) → Buf (Elt Ideal) ℓ) (g : Dev Cert.DenseLastIdeal.nD → PrngReg), Pre_DenseLastIdeal m →
    θ_run (Cert.DenseLastIdeal.defs (F := Ideal)) (onTc (τ := Cert.DenseLastIdeal.τ) (Cert.DenseLastIdeal.main (F := Ideal))) ⟨m, fun _ => 0, g⟩ (fun r => (∀ c : Dev Cert.DenseLastIdeal.nD,
      r.2.mem ((c.tc : Thread Cert.DenseLastIdeal.nD Cert.DenseLastIdeal.τ).loc Cert.DenseLastIdeal.main_arg0) = m ((c.tc : Thread Cert.DenseLastIdeal.nD Cert.DenseLastIdeal.τ).loc Cert.DenseLastIdeal.main_arg0)
      ∧ r.2.mem ((c.tc : Thread Cert.DenseLastIdeal.nD Cert.DenseLastIdeal.τ).loc Cert.DenseLastIdeal.main_arg1) = m ((c.tc : Thread Cert.DenseLastIdeal.nD Cert.DenseLastIdeal.τ).loc Cert.DenseLastIdeal.main_arg1)
      ∧ r.2.mem ((c.tc : Thread Cert.DenseLastIdeal.nD Cert.DenseLastIdeal.τ).loc Cert.DenseLastIdeal.main_arg2) = m ((c.tc : Thread Cert.DenseLastIdeal.nD Cert.DenseLastIdeal.τ).loc Cert.DenseLastIdeal.main_arg2)
      ∧ r.2.mem ((c.tc : Thread Cert.DenseLastIdeal.nD Cert.DenseLastIdeal.τ).loc Cert.DenseLastIdeal.main_arg3) = m ((c.tc : Thread Cert.DenseLastIdeal.nD Cert.DenseLastIdeal.τ).loc Cert.DenseLastIdeal.main_arg3)
      ∧ r.2.mem ((c.tc : Thread Cert.DenseLastIdeal.nD Cert.DenseLastIdeal.τ).loc Cert.DenseLastIdeal.main_arg4) = m ((c.tc : Thread Cert.DenseLastIdeal.nD Cert.DenseLastIdeal.τ).loc Cert.DenseLastIdeal.main_arg4)
      ∧ r.2.mem ((c.tc : Thread Cert.DenseLastIdeal.nD Cert.DenseLastIdeal.τ).loc Cert.DenseLastIdeal.main_arg5) = m ((c.tc : Thread Cert.DenseLastIdeal.nD Cert.DenseLastIdeal.τ).loc Cert.DenseLastIdeal.main_arg5))
      ∧ r.2.sem = fun _ => 0)

def quiescent_DenseLastReferenceIdeal [hDenseLastReferenceIdeal : Cert.DenseLastReferenceIdeal.Facts] : Prop :=
  ∀ (m : (ℓ : Loc Cert.DenseLastReferenceIdeal.nD Cert.DenseLastReferenceIdeal.τ Cert.DenseLastReferenceIdeal.sig) → Buf (Elt Ideal) ℓ) (g : Dev Cert.DenseLastReferenceIdeal.nD → PrngReg), Pre_DenseLastReferenceIdeal m →
    θ_run (Cert.DenseLastReferenceIdeal.defs (F := Ideal)) (onTc (τ := Cert.DenseLastReferenceIdeal.τ) (Cert.DenseLastReferenceIdeal.main (F := Ideal))) ⟨m, fun _ => 0, g⟩ (fun r => (∀ c : Dev Cert.DenseLastReferenceIdeal.nD,
      r.2.mem ((c.tc : Thread Cert.DenseLastReferenceIdeal.nD Cert.DenseLastReferenceIdeal.τ).loc Cert.DenseLastReferenceIdeal.main_arg0) = m ((c.tc : Thread Cert.DenseLastReferenceIdeal.nD Cert.DenseLastReferenceIdeal.τ).loc Cert.DenseLastReferenceIdeal.main_arg0)
      ∧ r.2.mem ((c.tc : Thread Cert.DenseLastReferenceIdeal.nD Cert.DenseLastReferenceIdeal.τ).loc Cert.DenseLastReferenceIdeal.main_arg1) = m ((c.tc : Thread Cert.DenseLastReferenceIdeal.nD Cert.DenseLastReferenceIdeal.τ).loc Cert.DenseLastReferenceIdeal.main_arg1)
      ∧ r.2.mem ((c.tc : Thread Cert.DenseLastReferenceIdeal.nD Cert.DenseLastReferenceIdeal.τ).loc Cert.DenseLastReferenceIdeal.main_arg2) = m ((c.tc : Thread Cert.DenseLastReferenceIdeal.nD Cert.DenseLastReferenceIdeal.τ).loc Cert.DenseLastReferenceIdeal.main_arg2)
      ∧ r.2.mem ((c.tc : Thread Cert.DenseLastReferenceIdeal.nD Cert.DenseLastReferenceIdeal.τ).loc Cert.DenseLastReferenceIdeal.main_arg3) = m ((c.tc : Thread Cert.DenseLastReferenceIdeal.nD Cert.DenseLastReferenceIdeal.τ).loc Cert.DenseLastReferenceIdeal.main_arg3)
      ∧ r.2.mem ((c.tc : Thread Cert.DenseLastReferenceIdeal.nD Cert.DenseLastReferenceIdeal.τ).loc Cert.DenseLastReferenceIdeal.main_arg4) = m ((c.tc : Thread Cert.DenseLastReferenceIdeal.nD Cert.DenseLastReferenceIdeal.τ).loc Cert.DenseLastReferenceIdeal.main_arg4)
      ∧ r.2.mem ((c.tc : Thread Cert.DenseLastReferenceIdeal.nD Cert.DenseLastReferenceIdeal.τ).loc Cert.DenseLastReferenceIdeal.main_arg5) = m ((c.tc : Thread Cert.DenseLastReferenceIdeal.nD Cert.DenseLastReferenceIdeal.τ).loc Cert.DenseLastReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3)
      ∧ r.2.mem ((c.tc : Thread Cert.OutLast.nD Cert.OutLast.τ).loc Cert.OutLast.main_arg4) = m ((c.tc : Thread Cert.OutLast.nD Cert.OutLast.τ).loc Cert.OutLast.main_arg4)
      ∧ r.2.mem ((c.tc : Thread Cert.OutLast.nD Cert.OutLast.τ).loc Cert.OutLast.main_arg5) = m ((c.tc : Thread Cert.OutLast.nD Cert.OutLast.τ).loc Cert.OutLast.main_arg5))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
      ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
      ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ r.2.sem = fun _ => 0)

def quiescent_OutLastReferenceIdeal [hOutLastReferenceIdeal : Cert.OutLastReferenceIdeal.Facts] : Prop :=
  ∀ (m : (ℓ : Loc Cert.OutLastReferenceIdeal.nD Cert.OutLastReferenceIdeal.τ Cert.OutLastReferenceIdeal.sig) → Buf (Elt Ideal) ℓ) (g : Dev Cert.OutLastReferenceIdeal.nD → PrngReg), Pre_OutLastReferenceIdeal m →
    θ_run (Cert.OutLastReferenceIdeal.defs (F := Ideal)) (onTc (τ := Cert.OutLastReferenceIdeal.τ) (Cert.OutLastReferenceIdeal.main (F := Ideal))) ⟨m, fun _ => 0, g⟩ (fun r => (∀ c : Dev Cert.OutLastReferenceIdeal.nD,
      r.2.mem ((c.tc : Thread Cert.OutLastReferenceIdeal.nD Cert.OutLastReferenceIdeal.τ).loc Cert.OutLastReferenceIdeal.main_arg0) = m ((c.tc : Thread Cert.OutLastReferenceIdeal.nD Cert.OutLastReferenceIdeal.τ).loc Cert.OutLastReferenceIdeal.main_arg0)
      ∧ r.2.mem ((c.tc : Thread Cert.OutLastReferenceIdeal.nD Cert.OutLastReferenceIdeal.τ).loc Cert.OutLastReferenceIdeal.main_arg1) = m ((c.tc : Thread Cert.OutLastReferenceIdeal.nD Cert.OutLastReferenceIdeal.τ).loc Cert.OutLastReferenceIdeal.main_arg1)
      ∧ r.2.mem ((c.tc : Thread Cert.OutLastReferenceIdeal.nD Cert.OutLastReferenceIdeal.τ).loc Cert.OutLastReferenceIdeal.main_arg2) = m ((c.tc : Thread Cert.OutLastReferenceIdeal.nD Cert.OutLastReferenceIdeal.τ).loc Cert.OutLastReferenceIdeal.main_arg2)
      ∧ r.2.mem ((c.tc : Thread Cert.OutLastReferenceIdeal.nD Cert.OutLastReferenceIdeal.τ).loc Cert.OutLastReferenceIdeal.main_arg3) = m ((c.tc : Thread Cert.OutLastReferenceIdeal.nD Cert.OutLastReferenceIdeal.τ).loc Cert.OutLastReferenceIdeal.main_arg3)
      ∧ r.2.mem ((c.tc : Thread Cert.OutLastReferenceIdeal.nD Cert.OutLastReferenceIdeal.τ).loc Cert.OutLastReferenceIdeal.main_arg4) = m ((c.tc : Thread Cert.OutLastReferenceIdeal.nD Cert.OutLastReferenceIdeal.τ).loc Cert.OutLastReferenceIdeal.main_arg4)
      ∧ r.2.mem ((c.tc : Thread Cert.OutLastReferenceIdeal.nD Cert.OutLastReferenceIdeal.τ).loc Cert.OutLastReferenceIdeal.main_arg5) = m ((c.tc : Thread Cert.OutLastReferenceIdeal.nD Cert.OutLastReferenceIdeal.τ).loc Cert.OutLastReferenceIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6))
      ∧ r.2.sem = fun _ => 0)

def quiescent_EvenLast [hEvenLast : Cert.EvenLast.Facts] : Prop :=
  ∀ (m : (ℓ : Loc Cert.EvenLast.nD Cert.EvenLast.τ Cert.EvenLast.sig) → Buf (Elt Bits) ℓ) (g : Dev Cert.EvenLast.nD → PrngReg), Pre_EvenLast m →
    θ_run (Cert.EvenLast.defs (F := Bits)) (onTc (τ := Cert.EvenLast.τ) (Cert.EvenLast.main (F := Bits))) ⟨m, fun _ => 0, g⟩ (fun r => (∀ c : Dev Cert.EvenLast.nD,
      r.2.mem ((c.tc : Thread Cert.EvenLast.nD Cert.EvenLast.τ).loc Cert.EvenLast.main_arg0) = m ((c.tc : Thread Cert.EvenLast.nD Cert.EvenLast.τ).loc Cert.EvenLast.main_arg0)
      ∧ r.2.mem ((c.tc : Thread Cert.EvenLast.nD Cert.EvenLast.τ).loc Cert.EvenLast.main_arg1) = m ((c.tc : Thread Cert.EvenLast.nD Cert.EvenLast.τ).loc Cert.EvenLast.main_arg1)
      ∧ r.2.mem ((c.tc : Thread Cert.EvenLast.nD Cert.EvenLast.τ).loc Cert.EvenLast.main_arg2) = m ((c.tc : Thread Cert.EvenLast.nD Cert.EvenLast.τ).loc Cert.EvenLast.main_arg2)
      ∧ r.2.mem ((c.tc : Thread Cert.EvenLast.nD Cert.EvenLast.τ).loc Cert.EvenLast.main_arg3) = m ((c.tc : Thread Cert.EvenLast.nD Cert.EvenLast.τ).loc Cert.EvenLast.main_arg3)
      ∧ r.2.mem ((c.tc : Thread Cert.EvenLast.nD Cert.EvenLast.τ).loc Cert.EvenLast.main_arg4) = m ((c.tc : Thread Cert.EvenLast.nD Cert.EvenLast.τ).loc Cert.EvenLast.main_arg4)
      ∧ r.2.mem ((c.tc : Thread Cert.EvenLast.nD Cert.EvenLast.τ).loc Cert.EvenLast.main_arg5) = m ((c.tc : Thread Cert.EvenLast.nD Cert.EvenLast.τ).loc Cert.EvenLast.main_arg5)
      ∧ r.2.mem ((c.tc : Thread Cert.EvenLast.nD Cert.EvenLast.τ).loc Cert.EvenLast.main_arg6) = m ((c.tc : Thread Cert.EvenLast.nD Cert.EvenLast.τ).loc Cert.EvenLast.main_arg6))
      ∧ r.2.sem = fun _ => 0)

def quiescent_EvenLastIdeal [hEvenLastIdeal : Cert.EvenLastIdeal.Facts] : Prop :=
  ∀ (m : (ℓ : Loc Cert.EvenLastIdeal.nD Cert.EvenLastIdeal.τ Cert.EvenLastIdeal.sig) → Buf (Elt Ideal) ℓ) (g : Dev Cert.EvenLastIdeal.nD → PrngReg), Pre_EvenLastIdeal m →
    θ_run (Cert.EvenLastIdeal.defs (F := Ideal)) (onTc (τ := Cert.EvenLastIdeal.τ) (Cert.EvenLastIdeal.main (F := Ideal))) ⟨m, fun _ => 0, g⟩ (fun r => (∀ c : Dev Cert.EvenLastIdeal.nD,
      r.2.mem ((c.tc : Thread Cert.EvenLastIdeal.nD Cert.EvenLastIdeal.τ).loc Cert.EvenLastIdeal.main_arg0) = m ((c.tc : Thread Cert.EvenLastIdeal.nD Cert.EvenLastIdeal.τ).loc Cert.EvenLastIdeal.main_arg0)
      ∧ r.2.mem ((c.tc : Thread Cert.EvenLastIdeal.nD Cert.EvenLastIdeal.τ).loc Cert.EvenLastIdeal.main_arg1) = m ((c.tc : Thread Cert.EvenLastIdeal.nD Cert.EvenLastIdeal.τ).loc Cert.EvenLastIdeal.main_arg1)
      ∧ r.2.mem ((c.tc : Thread Cert.EvenLastIdeal.nD Cert.EvenLastIdeal.τ).loc Cert.EvenLastIdeal.main_arg2) = m ((c.tc : Thread Cert.EvenLastIdeal.nD Cert.EvenLastIdeal.τ).loc Cert.EvenLastIdeal.main_arg2)
      ∧ r.2.mem ((c.tc : Thread Cert.EvenLastIdeal.nD Cert.EvenLastIdeal.τ).loc Cert.EvenLastIdeal.main_arg3) = m ((c.tc : Thread Cert.EvenLastIdeal.nD Cert.EvenLastIdeal.τ).loc Cert.EvenLastIdeal.main_arg3)
      ∧ r.2.mem ((c.tc : Thread Cert.EvenLastIdeal.nD Cert.EvenLastIdeal.τ).loc Cert.EvenLastIdeal.main_arg4) = m ((c.tc : Thread Cert.EvenLastIdeal.nD Cert.EvenLastIdeal.τ).loc Cert.EvenLastIdeal.main_arg4)
      ∧ r.2.mem ((c.tc : Thread Cert.EvenLastIdeal.nD Cert.EvenLastIdeal.τ).loc Cert.EvenLastIdeal.main_arg5) = m ((c.tc : Thread Cert.EvenLastIdeal.nD Cert.EvenLastIdeal.τ).loc Cert.EvenLastIdeal.main_arg5)
      ∧ r.2.mem ((c.tc : Thread Cert.EvenLastIdeal.nD Cert.EvenLastIdeal.τ).loc Cert.EvenLastIdeal.main_arg6) = m ((c.tc : Thread Cert.EvenLastIdeal.nD Cert.EvenLastIdeal.τ).loc Cert.EvenLastIdeal.main_arg6))
      ∧ r.2.sem = fun _ => 0)

def quiescent_EvenLastReferenceIdeal [hEvenLastReferenceIdeal : Cert.EvenLastReferenceIdeal.Facts] : Prop :=
  ∀ (m : (ℓ : Loc Cert.EvenLastReferenceIdeal.nD Cert.EvenLastReferenceIdeal.τ Cert.EvenLastReferenceIdeal.sig) → Buf (Elt Ideal) ℓ) (g : Dev Cert.EvenLastReferenceIdeal.nD → PrngReg), Pre_EvenLastReferenceIdeal m →
    θ_run (Cert.EvenLastReferenceIdeal.defs (F := Ideal)) (onTc (τ := Cert.EvenLastReferenceIdeal.τ) (Cert.EvenLastReferenceIdeal.main (F := Ideal))) ⟨m, fun _ => 0, g⟩ (fun r => (∀ c : Dev Cert.EvenLastReferenceIdeal.nD,
      r.2.mem ((c.tc : Thread Cert.EvenLastReferenceIdeal.nD Cert.EvenLastReferenceIdeal.τ).loc Cert.EvenLastReferenceIdeal.main_arg0) = m ((c.tc : Thread Cert.EvenLastReferenceIdeal.nD Cert.EvenLastReferenceIdeal.τ).loc Cert.EvenLastReferenceIdeal.main_arg0)
      ∧ r.2.mem ((c.tc : Thread Cert.EvenLastReferenceIdeal.nD Cert.EvenLastReferenceIdeal.τ).loc Cert.EvenLastReferenceIdeal.main_arg1) = m ((c.tc : Thread Cert.EvenLastReferenceIdeal.nD Cert.EvenLastReferenceIdeal.τ).loc Cert.EvenLastReferenceIdeal.main_arg1)
      ∧ r.2.mem ((c.tc : Thread Cert.EvenLastReferenceIdeal.nD Cert.EvenLastReferenceIdeal.τ).loc Cert.EvenLastReferenceIdeal.main_arg2) = m ((c.tc : Thread Cert.EvenLastReferenceIdeal.nD Cert.EvenLastReferenceIdeal.τ).loc Cert.EvenLastReferenceIdeal.main_arg2)
      ∧ r.2.mem ((c.tc : Thread Cert.EvenLastReferenceIdeal.nD Cert.EvenLastReferenceIdeal.τ).loc Cert.EvenLastReferenceIdeal.main_arg3) = m ((c.tc : Thread Cert.EvenLastReferenceIdeal.nD Cert.EvenLastReferenceIdeal.τ).loc Cert.EvenLastReferenceIdeal.main_arg3)
      ∧ r.2.mem ((c.tc : Thread Cert.EvenLastReferenceIdeal.nD Cert.EvenLastReferenceIdeal.τ).loc Cert.EvenLastReferenceIdeal.main_arg4) = m ((c.tc : Thread Cert.EvenLastReferenceIdeal.nD Cert.EvenLastReferenceIdeal.τ).loc Cert.EvenLastReferenceIdeal.main_arg4)
      ∧ r.2.mem ((c.tc : Thread Cert.EvenLastReferenceIdeal.nD Cert.EvenLastReferenceIdeal.τ).loc Cert.EvenLastReferenceIdeal.main_arg5) = m ((c.tc : Thread Cert.EvenLastReferenceIdeal.nD Cert.EvenLastReferenceIdeal.τ).loc Cert.EvenLastReferenceIdeal.main_arg5)
      ∧ r.2.mem ((c.tc : Thread Cert.EvenLastReferenceIdeal.nD Cert.EvenLastReferenceIdeal.τ).loc Cert.EvenLastReferenceIdeal.main_arg6) = m ((c.tc : Thread Cert.EvenLastReferenceIdeal.nD Cert.EvenLastReferenceIdeal.τ).loc Cert.EvenLastReferenceIdeal.main_arg6))
      ∧ r.2.sem = fun _ => 0)

def quiescent_AttnLast [hAttnLast : Cert.AttnLast.Facts] : Prop :=
  ∀ (m : (ℓ : Loc Cert.AttnLast.nD Cert.AttnLast.τ Cert.AttnLast.sig) → Buf (Elt Bits) ℓ) (g : Dev Cert.AttnLast.nD → PrngReg), Pre_AttnLast m →
    θ_run (Cert.AttnLast.defs (F := Bits)) (onTc (τ := Cert.AttnLast.τ) (Cert.AttnLast.main (F := Bits))) ⟨m, fun _ => 0, g⟩ (fun r => (∀ c : Dev Cert.AttnLast.nD,
      r.2.mem ((c.tc : Thread Cert.AttnLast.nD Cert.AttnLast.τ).loc Cert.AttnLast.main_arg0) = m ((c.tc : Thread Cert.AttnLast.nD Cert.AttnLast.τ).loc Cert.AttnLast.main_arg0)
      ∧ r.2.mem ((c.tc : Thread Cert.AttnLast.nD Cert.AttnLast.τ).loc Cert.AttnLast.main_arg1) = m ((c.tc : Thread Cert.AttnLast.nD Cert.AttnLast.τ).loc Cert.AttnLast.main_arg1)
      ∧ r.2.mem ((c.tc : Thread Cert.AttnLast.nD Cert.AttnLast.τ).loc Cert.AttnLast.main_arg2) = m ((c.tc : Thread Cert.AttnLast.nD Cert.AttnLast.τ).loc Cert.AttnLast.main_arg2)
      ∧ r.2.mem ((c.tc : Thread Cert.AttnLast.nD Cert.AttnLast.τ).loc Cert.AttnLast.main_arg3) = m ((c.tc : Thread Cert.AttnLast.nD Cert.AttnLast.τ).loc Cert.AttnLast.main_arg3)
      ∧ r.2.mem ((c.tc : Thread Cert.AttnLast.nD Cert.AttnLast.τ).loc Cert.AttnLast.main_arg4) = m ((c.tc : Thread Cert.AttnLast.nD Cert.AttnLast.τ).loc Cert.AttnLast.main_arg4)
      ∧ r.2.mem ((c.tc : Thread Cert.AttnLast.nD Cert.AttnLast.τ).loc Cert.AttnLast.main_arg5) = m ((c.tc : Thread Cert.AttnLast.nD Cert.AttnLast.τ).loc Cert.AttnLast.main_arg5)
      ∧ r.2.mem ((c.tc : Thread Cert.AttnLast.nD Cert.AttnLast.τ).loc Cert.AttnLast.main_arg6) = m ((c.tc : Thread Cert.AttnLast.nD Cert.AttnLast.τ).loc Cert.AttnLast.main_arg6)
      ∧ r.2.mem ((c.tc : Thread Cert.AttnLast.nD Cert.AttnLast.τ).loc Cert.AttnLast.main_arg7) = m ((c.tc : Thread Cert.AttnLast.nD Cert.AttnLast.τ).loc Cert.AttnLast.main_arg7)
      ∧ r.2.mem ((c.tc : Thread Cert.AttnLast.nD Cert.AttnLast.τ).loc Cert.AttnLast.main_arg8) = m ((c.tc : Thread Cert.AttnLast.nD Cert.AttnLast.τ).loc Cert.AttnLast.main_arg8))
      ∧ r.2.sem = fun _ => 0)

def quiescent_AttnLastIdeal [hAttnLastIdeal : Cert.AttnLastIdeal.Facts] : Prop :=
  ∀ (m : (ℓ : Loc Cert.AttnLastIdeal.nD Cert.AttnLastIdeal.τ Cert.AttnLastIdeal.sig) → Buf (Elt Ideal) ℓ) (g : Dev Cert.AttnLastIdeal.nD → PrngReg), Pre_AttnLastIdeal m →
    θ_run (Cert.AttnLastIdeal.defs (F := Ideal)) (onTc (τ := Cert.AttnLastIdeal.τ) (Cert.AttnLastIdeal.main (F := Ideal))) ⟨m, fun _ => 0, g⟩ (fun r => (∀ c : Dev Cert.AttnLastIdeal.nD,
      r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
      ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
      ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2)
      ∧ r.2.mem ((c.tc : Thread Cert.AttnLastIdeal.nD Cert.AttnLastIdeal.τ).loc Cert.AttnLastIdeal.main_arg3) = m ((c.tc : Thread Cert.AttnLastIdeal.nD Cert.AttnLastIdeal.τ).loc Cert.AttnLastIdeal.main_arg3)
      ∧ r.2.mem ((c.tc : Thread Cert.AttnLastIdeal.nD Cert.AttnLastIdeal.τ).loc Cert.AttnLastIdeal.main_arg4) = m ((c.tc : Thread Cert.AttnLastIdeal.nD Cert.AttnLastIdeal.τ).loc Cert.AttnLastIdeal.main_arg4)
      ∧ r.2.mem ((c.tc : Thread Cert.AttnLastIdeal.nD Cert.AttnLastIdeal.τ).loc Cert.AttnLastIdeal.main_arg5) = m ((c.tc : Thread Cert.AttnLastIdeal.nD Cert.AttnLastIdeal.τ).loc Cert.AttnLastIdeal.main_arg5)
      ∧ r.2.mem ((c.tc : Thread Cert.AttnLastIdeal.nD Cert.AttnLastIdeal.τ).loc Cert.AttnLastIdeal.main_arg6) = m ((c.tc : Thread Cert.AttnLastIdeal.nD Cert.AttnLastIdeal.τ).loc Cert.AttnLastIdeal.main_arg6)
      ∧ r.2.mem ((c.tc : Thread Cert.AttnLastIdeal.nD Cert.AttnLastIdeal.τ).loc Cert.AttnLastIdeal.main_arg7) = m ((c.tc : Thread Cert.AttnLastIdeal.nD Cert.AttnLastIdeal.τ).loc Cert.AttnLastIdeal.main_arg7)
      ∧ r.2.mem ((c.tc : Thread Cert.AttnLastIdeal.nD Cert.AttnLastIdeal.τ).loc Cert.AttnLastIdeal.main_arg8) = m ((c.tc : Thread Cert.AttnLastIdeal.nD Cert.AttnLastIdeal.τ).loc Cert.AttnLastIdeal.main_arg8))
      ∧ r.2.sem = fun _ => 0)

def quiescent_AttnLastIdeal_pre_finite_scores_last [hAttnLastIdeal : Cert.AttnLastIdeal.Facts] [hPre_finite_scores_last : Cert.Pre_finite_scores_last.Facts] : Prop :=
  ∀ (m : (ℓ : Loc Cert.AttnLastIdeal.nD Cert.AttnLastIdeal.τ Cert.AttnLastIdeal.sig) → Buf (Elt Ideal) ℓ) (g : Dev Cert.AttnLastIdeal.nD → PrngReg), Pre_AttnLastIdeal_finite_scores_last m →
    θ_run (Cert.AttnLastIdeal.defs (F := Ideal)) (onTc (τ := Cert.AttnLastIdeal.τ) (Cert.AttnLastIdeal.main (F := Ideal))) ⟨m, fun _ => 0, g⟩ (fun r => (∀ c : Dev Cert.AttnLastIdeal.nD,
      r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
      ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
      ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2)
      ∧ r.2.mem ((c.tc : Thread Cert.AttnLastIdeal.nD Cert.AttnLastIdeal.τ).loc Cert.AttnLastIdeal.main_arg3) = m ((c.tc : Thread Cert.AttnLastIdeal.nD Cert.AttnLastIdeal.τ).loc Cert.AttnLastIdeal.main_arg3)
      ∧ r.2.mem ((c.tc : Thread Cert.AttnLastIdeal.nD Cert.AttnLastIdeal.τ).loc Cert.AttnLastIdeal.main_arg4) = m ((c.tc : Thread Cert.AttnLastIdeal.nD Cert.AttnLastIdeal.τ).loc Cert.AttnLastIdeal.main_arg4)
      ∧ r.2.mem ((c.tc : Thread Cert.AttnLastIdeal.nD Cert.AttnLastIdeal.τ).loc Cert.AttnLastIdeal.main_arg5) = m ((c.tc : Thread Cert.AttnLastIdeal.nD Cert.AttnLastIdeal.τ).loc Cert.AttnLastIdeal.main_arg5)
      ∧ r.2.mem ((c.tc : Thread Cert.AttnLastIdeal.nD Cert.AttnLastIdeal.τ).loc Cert.AttnLastIdeal.main_arg6) = m ((c.tc : Thread Cert.AttnLastIdeal.nD Cert.AttnLastIdeal.τ).loc Cert.AttnLastIdeal.main_arg6)
      ∧ r.2.mem ((c.tc : Thread Cert.AttnLastIdeal.nD Cert.AttnLastIdeal.τ).loc Cert.AttnLastIdeal.main_arg7) = m ((c.tc : Thread Cert.AttnLastIdeal.nD Cert.AttnLastIdeal.τ).loc Cert.AttnLastIdeal.main_arg7)
      ∧ r.2.mem ((c.tc : Thread Cert.AttnLastIdeal.nD Cert.AttnLastIdeal.τ).loc Cert.AttnLastIdeal.main_arg8) = m ((c.tc : Thread Cert.AttnLastIdeal.nD Cert.AttnLastIdeal.τ).loc Cert.AttnLastIdeal.main_arg8))
      ∧ r.2.sem = fun _ => 0)

def quiescent_AttnLastReferenceIdeal [hAttnLastReferenceIdeal : Cert.AttnLastReferenceIdeal.Facts] : Prop :=
  ∀ (m : (ℓ : Loc Cert.AttnLastReferenceIdeal.nD Cert.AttnLastReferenceIdeal.τ Cert.AttnLastReferenceIdeal.sig) → Buf (Elt Ideal) ℓ) (g : Dev Cert.AttnLastReferenceIdeal.nD → PrngReg), Pre_AttnLastReferenceIdeal m →
    θ_run (Cert.AttnLastReferenceIdeal.defs (F := Ideal)) (onTc (τ := Cert.AttnLastReferenceIdeal.τ) (Cert.AttnLastReferenceIdeal.main (F := Ideal))) ⟨m, fun _ => 0, g⟩ (fun r => (∀ c : Dev Cert.AttnLastReferenceIdeal.nD,
      r.2.mem ((c.tc : Thread Cert.AttnLastReferenceIdeal.nD Cert.AttnLastReferenceIdeal.τ).loc Cert.AttnLastReferenceIdeal.main_arg0) = m ((c.tc : Thread Cert.AttnLastReferenceIdeal.nD Cert.AttnLastReferenceIdeal.τ).loc Cert.AttnLastReferenceIdeal.main_arg0)
      ∧ r.2.mem ((c.tc : Thread Cert.AttnLastReferenceIdeal.nD Cert.AttnLastReferenceIdeal.τ).loc Cert.AttnLastReferenceIdeal.main_arg1) = m ((c.tc : Thread Cert.AttnLastReferenceIdeal.nD Cert.AttnLastReferenceIdeal.τ).loc Cert.AttnLastReferenceIdeal.main_arg1)
      ∧ r.2.mem ((c.tc : Thread Cert.AttnLastReferenceIdeal.nD Cert.AttnLastReferenceIdeal.τ).loc Cert.AttnLastReferenceIdeal.main_arg2) = m ((c.tc : Thread Cert.AttnLastReferenceIdeal.nD Cert.AttnLastReferenceIdeal.τ).loc Cert.AttnLastReferenceIdeal.main_arg2)
      ∧ r.2.mem ((c.tc : Thread Cert.AttnLastReferenceIdeal.nD Cert.AttnLastReferenceIdeal.τ).loc Cert.AttnLastReferenceIdeal.main_arg3) = m ((c.tc : Thread Cert.AttnLastReferenceIdeal.nD Cert.AttnLastReferenceIdeal.τ).loc Cert.AttnLastReferenceIdeal.main_arg3)
      ∧ r.2.mem ((c.tc : Thread Cert.AttnLastReferenceIdeal.nD Cert.AttnLastReferenceIdeal.τ).loc Cert.AttnLastReferenceIdeal.main_arg4) = m ((c.tc : Thread Cert.AttnLastReferenceIdeal.nD Cert.AttnLastReferenceIdeal.τ).loc Cert.AttnLastReferenceIdeal.main_arg4)
      ∧ r.2.mem ((c.tc : Thread Cert.AttnLastReferenceIdeal.nD Cert.AttnLastReferenceIdeal.τ).loc Cert.AttnLastReferenceIdeal.main_arg5) = m ((c.tc : Thread Cert.AttnLastReferenceIdeal.nD Cert.AttnLastReferenceIdeal.τ).loc Cert.AttnLastReferenceIdeal.main_arg5)
      ∧ r.2.mem ((c.tc : Thread Cert.AttnLastReferenceIdeal.nD Cert.AttnLastReferenceIdeal.τ).loc Cert.AttnLastReferenceIdeal.main_arg6) = m ((c.tc : Thread Cert.AttnLastReferenceIdeal.nD Cert.AttnLastReferenceIdeal.τ).loc Cert.AttnLastReferenceIdeal.main_arg6)
      ∧ r.2.mem ((c.tc : Thread Cert.AttnLastReferenceIdeal.nD Cert.AttnLastReferenceIdeal.τ).loc Cert.AttnLastReferenceIdeal.main_arg7) = m ((c.tc : Thread Cert.AttnLastReferenceIdeal.nD Cert.AttnLastReferenceIdeal.τ).loc Cert.AttnLastReferenceIdeal.main_arg7)
      ∧ r.2.mem ((c.tc : Thread Cert.AttnLastReferenceIdeal.nD Cert.AttnLastReferenceIdeal.τ).loc Cert.AttnLastReferenceIdeal.main_arg8) = m ((c.tc : Thread Cert.AttnLastReferenceIdeal.nD Cert.AttnLastReferenceIdeal.τ).loc Cert.AttnLastReferenceIdeal.main_arg8))
      ∧ r.2.sem = fun _ => 0)

def quiescent_AttnLastReferenceIdeal_pre_finite_scores_last [hAttnLastReferenceIdeal : Cert.AttnLastReferenceIdeal.Facts] [hPre_finite_scores_last : Cert.Pre_finite_scores_last.Facts] : Prop :=
  ∀ (m : (ℓ : Loc Cert.AttnLastReferenceIdeal.nD Cert.AttnLastReferenceIdeal.τ Cert.AttnLastReferenceIdeal.sig) → Buf (Elt Ideal) ℓ) (g : Dev Cert.AttnLastReferenceIdeal.nD → PrngReg), Pre_AttnLastReferenceIdeal_finite_scores_last m →
    θ_run (Cert.AttnLastReferenceIdeal.defs (F := Ideal)) (onTc (τ := Cert.AttnLastReferenceIdeal.τ) (Cert.AttnLastReferenceIdeal.main (F := Ideal))) ⟨m, fun _ => 0, g⟩ (fun r => (∀ c : Dev Cert.AttnLastReferenceIdeal.nD,
      r.2.mem ((c.tc : Thread Cert.AttnLastReferenceIdeal.nD Cert.AttnLastReferenceIdeal.τ).loc Cert.AttnLastReferenceIdeal.main_arg0) = m ((c.tc : Thread Cert.AttnLastReferenceIdeal.nD Cert.AttnLastReferenceIdeal.τ).loc Cert.AttnLastReferenceIdeal.main_arg0)
      ∧ r.2.mem ((c.tc : Thread Cert.AttnLastReferenceIdeal.nD Cert.AttnLastReferenceIdeal.τ).loc Cert.AttnLastReferenceIdeal.main_arg1) = m ((c.tc : Thread Cert.AttnLastReferenceIdeal.nD Cert.AttnLastReferenceIdeal.τ).loc Cert.AttnLastReferenceIdeal.main_arg1)
      ∧ r.2.mem ((c.tc : Thread Cert.AttnLastReferenceIdeal.nD Cert.AttnLastReferenceIdeal.τ).loc Cert.AttnLastReferenceIdeal.main_arg2) = m ((c.tc : Thread Cert.AttnLastReferenceIdeal.nD Cert.AttnLastReferenceIdeal.τ).loc Cert.AttnLastReferenceIdeal.main_arg2)
      ∧ r.2.mem ((c.tc : Thread Cert.AttnLastReferenceIdeal.nD Cert.AttnLastReferenceIdeal.τ).loc Cert.AttnLastReferenceIdeal.main_arg3) = m ((c.tc : Thread Cert.AttnLastReferenceIdeal.nD Cert.AttnLastReferenceIdeal.τ).loc Cert.AttnLastReferenceIdeal.main_arg3)
      ∧ r.2.mem ((c.tc : Thread Cert.AttnLastReferenceIdeal.nD Cert.AttnLastReferenceIdeal.τ).loc Cert.AttnLastReferenceIdeal.main_arg4) = m ((c.tc : Thread Cert.AttnLastReferenceIdeal.nD Cert.AttnLastReferenceIdeal.τ).loc Cert.AttnLastReferenceIdeal.main_arg4)
      ∧ r.2.mem ((c.tc : Thread Cert.AttnLastReferenceIdeal.nD Cert.AttnLastReferenceIdeal.τ).loc Cert.AttnLastReferenceIdeal.main_arg5) = m ((c.tc : Thread Cert.AttnLastReferenceIdeal.nD Cert.AttnLastReferenceIdeal.τ).loc Cert.AttnLastReferenceIdeal.main_arg5)
      ∧ r.2.mem ((c.tc : Thread Cert.AttnLastReferenceIdeal.nD Cert.AttnLastReferenceIdeal.τ).loc Cert.AttnLastReferenceIdeal.main_arg6) = m ((c.tc : Thread Cert.AttnLastReferenceIdeal.nD Cert.AttnLastReferenceIdeal.τ).loc Cert.AttnLastReferenceIdeal.main_arg6)
      ∧ r.2.mem ((c.tc : Thread Cert.AttnLastReferenceIdeal.nD Cert.AttnLastReferenceIdeal.τ).loc Cert.AttnLastReferenceIdeal.main_arg7) = m ((c.tc : Thread Cert.AttnLastReferenceIdeal.nD Cert.AttnLastReferenceIdeal.τ).loc Cert.AttnLastReferenceIdeal.main_arg7)
      ∧ r.2.mem ((c.tc : Thread Cert.AttnLastReferenceIdeal.nD Cert.AttnLastReferenceIdeal.τ).loc Cert.AttnLastReferenceIdeal.main_arg8) = m ((c.tc : Thread Cert.AttnLastReferenceIdeal.nD Cert.AttnLastReferenceIdeal.τ).loc Cert.AttnLastReferenceIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Moe_MoeIdeal : Prop :=
  True

def algebraic_MoeIdeal_MoeReferenceIdeal [hMoeIdeal : Cert.MoeIdeal.Facts] [hMoeReferenceIdeal : Cert.MoeReferenceIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v12)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v12) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v38) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_MoeLast_MoeLastIdeal : Prop :=
  True

def algebraic_MoeLastIdeal_MoeLastReferenceIdeal [hMoeLastIdeal : Cert.MoeLastIdeal.Facts] [hMoeLastReferenceIdeal : Cert.MoeLastReferenceIdeal.Facts] [hPre_tables_in_range : Cert.Pre_tables_in_range.Facts] : Prop :=
  ∀ (m : (ℓ : Loc Cert.MoeLastIdeal.nD Cert.MoeLastIdeal.τ Cert.MoeLastIdeal.sig) → Buf (Elt Ideal) ℓ) (g : Dev Cert.MoeLastIdeal.nD → PrngReg)
    (m' : (ℓ : Loc Cert.MoeLastReferenceIdeal.nD Cert.MoeLastReferenceIdeal.τ Cert.MoeLastReferenceIdeal.sig) → Buf (Elt Ideal) ℓ) (g' : Dev Cert.MoeLastReferenceIdeal.nD → PrngReg), Pre_MoeLastIdeal m →
    (∀ c : Dev Cert.MoeLastIdeal.nD,
      m' ((c.tc : Thread Cert.MoeLastReferenceIdeal.nD Cert.MoeLastReferenceIdeal.τ).loc Cert.MoeLastReferenceIdeal.main_arg0) = m ((c.tc : Thread Cert.MoeLastIdeal.nD Cert.MoeLastIdeal.τ).loc Cert.MoeLastIdeal.main_arg0)
      ∧ m' ((c.tc : Thread Cert.MoeLastReferenceIdeal.nD Cert.MoeLastReferenceIdeal.τ).loc Cert.MoeLastReferenceIdeal.main_arg1) = m ((c.tc : Thread Cert.MoeLastIdeal.nD Cert.MoeLastIdeal.τ).loc Cert.MoeLastIdeal.main_arg1)
      ∧ m' ((c.tc : Thread Cert.MoeLastReferenceIdeal.nD Cert.MoeLastReferenceIdeal.τ).loc Cert.MoeLastReferenceIdeal.main_arg2) = m ((c.tc : Thread Cert.MoeLastIdeal.nD Cert.MoeLastIdeal.τ).loc Cert.MoeLastIdeal.main_arg2)
      ∧ m' ((c.tc : Thread Cert.MoeLastReferenceIdeal.nD Cert.MoeLastReferenceIdeal.τ).loc Cert.MoeLastReferenceIdeal.main_arg3) = m ((c.tc : Thread Cert.MoeLastIdeal.nD Cert.MoeLastIdeal.τ).loc Cert.MoeLastIdeal.main_arg3)
      ∧ m' ((c.tc : Thread Cert.MoeLastReferenceIdeal.nD Cert.MoeLastReferenceIdeal.τ).loc Cert.MoeLastReferenceIdeal.main_arg4) = m ((c.tc : Thread Cert.MoeLastIdeal.nD Cert.MoeLastIdeal.τ).loc Cert.MoeLastIdeal.main_arg4)
      ∧ m' ((c.tc : Thread Cert.MoeLastReferenceIdeal.nD Cert.MoeLastReferenceIdeal.τ).loc Cert.MoeLastReferenceIdeal.main_arg5) = m ((c.tc : Thread Cert.MoeLastIdeal.nD Cert.MoeLastIdeal.τ).loc Cert.MoeLastIdeal.main_arg5)) →
    ∃ (v0 : (c : Dev Cert.MoeLastIdeal.nD) → Buf (Elt Ideal) ((c.tc : Thread Cert.MoeLastIdeal.nD Cert.MoeLastIdeal.τ).loc Cert.MoeLastIdeal.main_v12)),
      θ_run (Cert.MoeLastIdeal.defs (F := Ideal)) (onTc (τ := Cert.MoeLastIdeal.τ) (Cert.MoeLastIdeal.main (F := Ideal))) ⟨m, fun _ => 0, g⟩ (fun r => ∀ c : Dev Cert.MoeLastIdeal.nD,
          r.2.mem ((c.tc : Thread Cert.MoeLastIdeal.nD Cert.MoeLastIdeal.τ).loc Cert.MoeLastIdeal.main_v12) = v0 c
          ∧ r.2.mem ((c.tc : Thread Cert.MoeLastIdeal.nD Cert.MoeLastIdeal.τ).loc Cert.MoeLastIdeal.main_arg0) = m ((c.tc : Thread Cert.MoeLastIdeal.nD Cert.MoeLastIdeal.τ).loc Cert.MoeLastIdeal.main_arg0)
          ∧ r.2.mem ((c.tc : Thread Cert.MoeLastIdeal.nD Cert.MoeLastIdeal.τ).loc Cert.MoeLastIdeal.main_arg1) = m ((c.tc : Thread Cert.MoeLastIdeal.nD Cert.MoeLastIdeal.τ).loc Cert.MoeLastIdeal.main_arg1)
          ∧ r.2.mem ((c.tc : Thread Cert.MoeLastIdeal.nD Cert.MoeLastIdeal.τ).loc Cert.MoeLastIdeal.main_arg2) = m ((c.tc : Thread Cert.MoeLastIdeal.nD Cert.MoeLastIdeal.τ).loc Cert.MoeLastIdeal.main_arg2)
          ∧ r.2.mem ((c.tc : Thread Cert.MoeLastIdeal.nD Cert.MoeLastIdeal.τ).loc Cert.MoeLastIdeal.main_arg3) = m ((c.tc : Thread Cert.MoeLastIdeal.nD Cert.MoeLastIdeal.τ).loc Cert.MoeLastIdeal.main_arg3)
          ∧ r.2.mem ((c.tc : Thread Cert.MoeLastIdeal.nD Cert.MoeLastIdeal.τ).loc Cert.MoeLastIdeal.main_arg4) = m ((c.tc : Thread Cert.MoeLastIdeal.nD Cert.MoeLastIdeal.τ).loc Cert.MoeLastIdeal.main_arg4)
          ∧ r.2.mem ((c.tc : Thread Cert.MoeLastIdeal.nD Cert.MoeLastIdeal.τ).loc Cert.MoeLastIdeal.main_arg5) = m ((c.tc : Thread Cert.MoeLastIdeal.nD Cert.MoeLastIdeal.τ).loc Cert.MoeLastIdeal.main_arg5))
      ∧ θ_run (Cert.MoeLastReferenceIdeal.defs (F := Ideal)) (onTc (τ := Cert.MoeLastReferenceIdeal.τ) (Cert.MoeLastReferenceIdeal.main (F := Ideal))) ⟨m', fun _ => 0, g'⟩ (fun r => ∀ c : Dev Cert.MoeLastReferenceIdeal.nD,
          r.2.mem ((c.tc : Thread Cert.MoeLastReferenceIdeal.nD Cert.MoeLastReferenceIdeal.τ).loc Cert.MoeLastReferenceIdeal.main_v38) = v0 c
          ∧ r.2.mem ((c.tc : Thread Cert.MoeLastReferenceIdeal.nD Cert.MoeLastReferenceIdeal.τ).loc Cert.MoeLastReferenceIdeal.main_arg0) = m' ((c.tc : Thread Cert.MoeLastReferenceIdeal.nD Cert.MoeLastReferenceIdeal.τ).loc Cert.MoeLastReferenceIdeal.main_arg0)
          ∧ r.2.mem ((c.tc : Thread Cert.MoeLastReferenceIdeal.nD Cert.MoeLastReferenceIdeal.τ).loc Cert.MoeLastReferenceIdeal.main_arg1) = m' ((c.tc : Thread Cert.MoeLastReferenceIdeal.nD Cert.MoeLastReferenceIdeal.τ).loc Cert.MoeLastReferenceIdeal.main_arg1)
          ∧ r.2.mem ((c.tc : Thread Cert.MoeLastReferenceIdeal.nD Cert.MoeLastReferenceIdeal.τ).loc Cert.MoeLastReferenceIdeal.main_arg2) = m' ((c.tc : Thread Cert.MoeLastReferenceIdeal.nD Cert.MoeLastReferenceIdeal.τ).loc Cert.MoeLastReferenceIdeal.main_arg2)
          ∧ r.2.mem ((c.tc : Thread Cert.MoeLastReferenceIdeal.nD Cert.MoeLastReferenceIdeal.τ).loc Cert.MoeLastReferenceIdeal.main_arg3) = m' ((c.tc : Thread Cert.MoeLastReferenceIdeal.nD Cert.MoeLastReferenceIdeal.τ).loc Cert.MoeLastReferenceIdeal.main_arg3)
          ∧ r.2.mem ((c.tc : Thread Cert.MoeLastReferenceIdeal.nD Cert.MoeLastReferenceIdeal.τ).loc Cert.MoeLastReferenceIdeal.main_arg4) = m' ((c.tc : Thread Cert.MoeLastReferenceIdeal.nD Cert.MoeLastReferenceIdeal.τ).loc Cert.MoeLastReferenceIdeal.main_arg4)
          ∧ r.2.mem ((c.tc : Thread Cert.MoeLastReferenceIdeal.nD Cert.MoeLastReferenceIdeal.τ).loc Cert.MoeLastReferenceIdeal.main_arg5) = m' ((c.tc : Thread Cert.MoeLastReferenceIdeal.nD Cert.MoeLastReferenceIdeal.τ).loc Cert.MoeLastReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v77) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5))

def preserves_DenseLast_DenseLastIdeal : Prop :=
  True

def algebraic_DenseLastIdeal_DenseLastReferenceIdeal [hDenseLastIdeal : Cert.DenseLastIdeal.Facts] [hDenseLastReferenceIdeal : Cert.DenseLastReferenceIdeal.Facts] : Prop :=
  ∀ (m : (ℓ : Loc Cert.DenseLastIdeal.nD Cert.DenseLastIdeal.τ Cert.DenseLastIdeal.sig) → Buf (Elt Ideal) ℓ) (g : Dev Cert.DenseLastIdeal.nD → PrngReg)
    (m' : (ℓ : Loc Cert.DenseLastReferenceIdeal.nD Cert.DenseLastReferenceIdeal.τ Cert.DenseLastReferenceIdeal.sig) → Buf (Elt Ideal) ℓ) (g' : Dev Cert.DenseLastReferenceIdeal.nD → PrngReg), Pre_DenseLastIdeal m →
    (∀ c : Dev Cert.DenseLastIdeal.nD,
      m' ((c.tc : Thread Cert.DenseLastReferenceIdeal.nD Cert.DenseLastReferenceIdeal.τ).loc Cert.DenseLastReferenceIdeal.main_arg0) = m ((c.tc : Thread Cert.DenseLastIdeal.nD Cert.DenseLastIdeal.τ).loc Cert.DenseLastIdeal.main_arg0)
      ∧ m' ((c.tc : Thread Cert.DenseLastReferenceIdeal.nD Cert.DenseLastReferenceIdeal.τ).loc Cert.DenseLastReferenceIdeal.main_arg1) = m ((c.tc : Thread Cert.DenseLastIdeal.nD Cert.DenseLastIdeal.τ).loc Cert.DenseLastIdeal.main_arg1)
      ∧ m' ((c.tc : Thread Cert.DenseLastReferenceIdeal.nD Cert.DenseLastReferenceIdeal.τ).loc Cert.DenseLastReferenceIdeal.main_arg2) = m ((c.tc : Thread Cert.DenseLastIdeal.nD Cert.DenseLastIdeal.τ).loc Cert.DenseLastIdeal.main_arg2)
      ∧ m' ((c.tc : Thread Cert.DenseLastReferenceIdeal.nD Cert.DenseLastReferenceIdeal.τ).loc Cert.DenseLastReferenceIdeal.main_arg3) = m ((c.tc : Thread Cert.DenseLastIdeal.nD Cert.DenseLastIdeal.τ).loc Cert.DenseLastIdeal.main_arg3)
      ∧ m' ((c.tc : Thread Cert.DenseLastReferenceIdeal.nD Cert.DenseLastReferenceIdeal.τ).loc Cert.DenseLastReferenceIdeal.main_arg4) = m ((c.tc : Thread Cert.DenseLastIdeal.nD Cert.DenseLastIdeal.τ).loc Cert.DenseLastIdeal.main_arg4)
      ∧ m' ((c.tc : Thread Cert.DenseLastReferenceIdeal.nD Cert.DenseLastReferenceIdeal.τ).loc Cert.DenseLastReferenceIdeal.main_arg5) = m ((c.tc : Thread Cert.DenseLastIdeal.nD Cert.DenseLastIdeal.τ).loc Cert.DenseLastIdeal.main_arg5)) →
    ∃ (v0 : (c : Dev Cert.DenseLastIdeal.nD) → Buf (Elt Ideal) ((c.tc : Thread Cert.DenseLastIdeal.nD Cert.DenseLastIdeal.τ).loc Cert.DenseLastIdeal.main_v4)),
      θ_run (Cert.DenseLastIdeal.defs (F := Ideal)) (onTc (τ := Cert.DenseLastIdeal.τ) (Cert.DenseLastIdeal.main (F := Ideal))) ⟨m, fun _ => 0, g⟩ (fun r => ∀ c : Dev Cert.DenseLastIdeal.nD,
          r.2.mem ((c.tc : Thread Cert.DenseLastIdeal.nD Cert.DenseLastIdeal.τ).loc Cert.DenseLastIdeal.main_v4) = v0 c
          ∧ r.2.mem ((c.tc : Thread Cert.DenseLastIdeal.nD Cert.DenseLastIdeal.τ).loc Cert.DenseLastIdeal.main_arg0) = m ((c.tc : Thread Cert.DenseLastIdeal.nD Cert.DenseLastIdeal.τ).loc Cert.DenseLastIdeal.main_arg0)
          ∧ r.2.mem ((c.tc : Thread Cert.DenseLastIdeal.nD Cert.DenseLastIdeal.τ).loc Cert.DenseLastIdeal.main_arg1) = m ((c.tc : Thread Cert.DenseLastIdeal.nD Cert.DenseLastIdeal.τ).loc Cert.DenseLastIdeal.main_arg1)
          ∧ r.2.mem ((c.tc : Thread Cert.DenseLastIdeal.nD Cert.DenseLastIdeal.τ).loc Cert.DenseLastIdeal.main_arg2) = m ((c.tc : Thread Cert.DenseLastIdeal.nD Cert.DenseLastIdeal.τ).loc Cert.DenseLastIdeal.main_arg2)
          ∧ r.2.mem ((c.tc : Thread Cert.DenseLastIdeal.nD Cert.DenseLastIdeal.τ).loc Cert.DenseLastIdeal.main_arg3) = m ((c.tc : Thread Cert.DenseLastIdeal.nD Cert.DenseLastIdeal.τ).loc Cert.DenseLastIdeal.main_arg3)
          ∧ r.2.mem ((c.tc : Thread Cert.DenseLastIdeal.nD Cert.DenseLastIdeal.τ).loc Cert.DenseLastIdeal.main_arg4) = m ((c.tc : Thread Cert.DenseLastIdeal.nD Cert.DenseLastIdeal.τ).loc Cert.DenseLastIdeal.main_arg4)
          ∧ r.2.mem ((c.tc : Thread Cert.DenseLastIdeal.nD Cert.DenseLastIdeal.τ).loc Cert.DenseLastIdeal.main_arg5) = m ((c.tc : Thread Cert.DenseLastIdeal.nD Cert.DenseLastIdeal.τ).loc Cert.DenseLastIdeal.main_arg5))
      ∧ θ_run (Cert.DenseLastReferenceIdeal.defs (F := Ideal)) (onTc (τ := Cert.DenseLastReferenceIdeal.τ) (Cert.DenseLastReferenceIdeal.main (F := Ideal))) ⟨m', fun _ => 0, g'⟩ (fun r => ∀ c : Dev Cert.DenseLastReferenceIdeal.nD,
          r.2.mem ((c.tc : Thread Cert.DenseLastReferenceIdeal.nD Cert.DenseLastReferenceIdeal.τ).loc Cert.DenseLastReferenceIdeal.main_v77) = v0 c
          ∧ r.2.mem ((c.tc : Thread Cert.DenseLastReferenceIdeal.nD Cert.DenseLastReferenceIdeal.τ).loc Cert.DenseLastReferenceIdeal.main_arg0) = m' ((c.tc : Thread Cert.DenseLastReferenceIdeal.nD Cert.DenseLastReferenceIdeal.τ).loc Cert.DenseLastReferenceIdeal.main_arg0)
          ∧ r.2.mem ((c.tc : Thread Cert.DenseLastReferenceIdeal.nD Cert.DenseLastReferenceIdeal.τ).loc Cert.DenseLastReferenceIdeal.main_arg1) = m' ((c.tc : Thread Cert.DenseLastReferenceIdeal.nD Cert.DenseLastReferenceIdeal.τ).loc Cert.DenseLastReferenceIdeal.main_arg1)
          ∧ r.2.mem ((c.tc : Thread Cert.DenseLastReferenceIdeal.nD Cert.DenseLastReferenceIdeal.τ).loc Cert.DenseLastReferenceIdeal.main_arg2) = m' ((c.tc : Thread Cert.DenseLastReferenceIdeal.nD Cert.DenseLastReferenceIdeal.τ).loc Cert.DenseLastReferenceIdeal.main_arg2)
          ∧ r.2.mem ((c.tc : Thread Cert.DenseLastReferenceIdeal.nD Cert.DenseLastReferenceIdeal.τ).loc Cert.DenseLastReferenceIdeal.main_arg3) = m' ((c.tc : Thread Cert.DenseLastReferenceIdeal.nD Cert.DenseLastReferenceIdeal.τ).loc Cert.DenseLastReferenceIdeal.main_arg3)
          ∧ r.2.mem ((c.tc : Thread Cert.DenseLastReferenceIdeal.nD Cert.DenseLastReferenceIdeal.τ).loc Cert.DenseLastReferenceIdeal.main_arg4) = m' ((c.tc : Thread Cert.DenseLastReferenceIdeal.nD Cert.DenseLastReferenceIdeal.τ).loc Cert.DenseLastReferenceIdeal.main_arg4)
          ∧ r.2.mem ((c.tc : Thread Cert.DenseLastReferenceIdeal.nD Cert.DenseLastReferenceIdeal.τ).loc Cert.DenseLastReferenceIdeal.main_arg5) = m' ((c.tc : Thread Cert.DenseLastReferenceIdeal.nD Cert.DenseLastReferenceIdeal.τ).loc Cert.DenseLastReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v47) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_OutLast_OutLastIdeal : Prop :=
  True

def algebraic_OutLastIdeal_OutLastReferenceIdeal [hOutLastIdeal : Cert.OutLastIdeal.Facts] [hOutLastReferenceIdeal : Cert.OutLastReferenceIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.OutLastReferenceIdeal.nD Cert.OutLastReferenceIdeal.τ Cert.OutLastReferenceIdeal.sig) → Buf (Elt Ideal) ℓ) (g' : Dev Cert.OutLastReferenceIdeal.nD → PrngReg), Pre_OutLastIdeal m →
    (∀ c : Dev Cert.OutLastIdeal.nD,
      m' ((c.tc : Thread Cert.OutLastReferenceIdeal.nD Cert.OutLastReferenceIdeal.τ).loc Cert.OutLastReferenceIdeal.main_arg0) = m ((c.tc : Thread Cert.OutLastIdeal.nD Cert.OutLastIdeal.τ).loc Cert.OutLastIdeal.main_arg0)
      ∧ m' ((c.tc : Thread Cert.OutLastReferenceIdeal.nD Cert.OutLastReferenceIdeal.τ).loc Cert.OutLastReferenceIdeal.main_arg1) = m ((c.tc : Thread Cert.OutLastIdeal.nD Cert.OutLastIdeal.τ).loc Cert.OutLastIdeal.main_arg1)
      ∧ m' ((c.tc : Thread Cert.OutLastReferenceIdeal.nD Cert.OutLastReferenceIdeal.τ).loc Cert.OutLastReferenceIdeal.main_arg2) = m ((c.tc : Thread Cert.OutLastIdeal.nD Cert.OutLastIdeal.τ).loc Cert.OutLastIdeal.main_arg2)
      ∧ m' ((c.tc : Thread Cert.OutLastReferenceIdeal.nD Cert.OutLastReferenceIdeal.τ).loc Cert.OutLastReferenceIdeal.main_arg3) = m ((c.tc : Thread Cert.OutLastIdeal.nD Cert.OutLastIdeal.τ).loc Cert.OutLastIdeal.main_arg3)
      ∧ m' ((c.tc : Thread Cert.OutLastReferenceIdeal.nD Cert.OutLastReferenceIdeal.τ).loc Cert.OutLastReferenceIdeal.main_arg4) = m ((c.tc : Thread Cert.OutLastIdeal.nD Cert.OutLastIdeal.τ).loc Cert.OutLastIdeal.main_arg4)
      ∧ m' ((c.tc : Thread Cert.OutLastReferenceIdeal.nD Cert.OutLastReferenceIdeal.τ).loc Cert.OutLastReferenceIdeal.main_arg5) = m ((c.tc : Thread Cert.OutLastIdeal.nD Cert.OutLastIdeal.τ).loc Cert.OutLastIdeal.main_arg5)) →
    ∃ (v0 : (c : Dev Cert.OutLastIdeal.nD) → Buf (Elt Ideal) ((c.tc : Thread Cert.OutLastIdeal.nD Cert.OutLastIdeal.τ).loc Cert.OutLastIdeal.main_v3)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v3) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
          ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
          ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ θ_run (Cert.OutLastReferenceIdeal.defs (F := Ideal)) (onTc (τ := Cert.OutLastReferenceIdeal.τ) (Cert.OutLastReferenceIdeal.main (F := Ideal))) ⟨m', fun _ => 0, g'⟩ (fun r => ∀ c : Dev Cert.OutLastReferenceIdeal.nD,
          r.2.mem ((c.tc : Thread Cert.OutLastReferenceIdeal.nD Cert.OutLastReferenceIdeal.τ).loc Cert.OutLastReferenceIdeal.main_v47) = v0 c
          ∧ r.2.mem ((c.tc : Thread Cert.OutLastReferenceIdeal.nD Cert.OutLastReferenceIdeal.τ).loc Cert.OutLastReferenceIdeal.main_arg0) = m' ((c.tc : Thread Cert.OutLastReferenceIdeal.nD Cert.OutLastReferenceIdeal.τ).loc Cert.OutLastReferenceIdeal.main_arg0)
          ∧ r.2.mem ((c.tc : Thread Cert.OutLastReferenceIdeal.nD Cert.OutLastReferenceIdeal.τ).loc Cert.OutLastReferenceIdeal.main_arg1) = m' ((c.tc : Thread Cert.OutLastReferenceIdeal.nD Cert.OutLastReferenceIdeal.τ).loc Cert.OutLastReferenceIdeal.main_arg1)
          ∧ r.2.mem ((c.tc : Thread Cert.OutLastReferenceIdeal.nD Cert.OutLastReferenceIdeal.τ).loc Cert.OutLastReferenceIdeal.main_arg2) = m' ((c.tc : Thread Cert.OutLastReferenceIdeal.nD Cert.OutLastReferenceIdeal.τ).loc Cert.OutLastReferenceIdeal.main_arg2)
          ∧ r.2.mem ((c.tc : Thread Cert.OutLastReferenceIdeal.nD Cert.OutLastReferenceIdeal.τ).loc Cert.OutLastReferenceIdeal.main_arg3) = m' ((c.tc : Thread Cert.OutLastReferenceIdeal.nD Cert.OutLastReferenceIdeal.τ).loc Cert.OutLastReferenceIdeal.main_arg3)
          ∧ r.2.mem ((c.tc : Thread Cert.OutLastReferenceIdeal.nD Cert.OutLastReferenceIdeal.τ).loc Cert.OutLastReferenceIdeal.main_arg4) = m' ((c.tc : Thread Cert.OutLastReferenceIdeal.nD Cert.OutLastReferenceIdeal.τ).loc Cert.OutLastReferenceIdeal.main_arg4)
          ∧ r.2.mem ((c.tc : Thread Cert.OutLastReferenceIdeal.nD Cert.OutLastReferenceIdeal.τ).loc Cert.OutLastReferenceIdeal.main_arg5) = m' ((c.tc : Thread Cert.OutLastReferenceIdeal.nD Cert.OutLastReferenceIdeal.τ).loc Cert.OutLastReferenceIdeal.main_arg5))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)
      ∧ m' ((c.tc : Thread Cert.EvenReferenceIdeal.nD Cert.EvenReferenceIdeal.τ).loc Cert.EvenReferenceIdeal.main_arg5) = m ((c.tc : Thread Cert.EvenIdeal.nD Cert.EvenIdeal.τ).loc Cert.EvenIdeal.main_arg5)
      ∧ m' ((c.tc : Thread Cert.EvenReferenceIdeal.nD Cert.EvenReferenceIdeal.τ).loc Cert.EvenReferenceIdeal.main_arg6) = m ((c.tc : Thread Cert.EvenIdeal.nD Cert.EvenIdeal.τ).loc Cert.EvenIdeal.main_arg6)) →
    ∃ (v0 : (c : Dev Cert.EvenIdeal.nD) → Buf (Elt Ideal) ((c.tc : Thread Cert.EvenIdeal.nD Cert.EvenIdeal.τ).loc Cert.EvenIdeal.main_v3)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v3) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v48) = v0 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6))

def preserves_EvenLast_EvenLastIdeal : Prop :=
  True

def algebraic_EvenLastIdeal_EvenLastReferenceIdeal [hEvenLastIdeal : Cert.EvenLastIdeal.Facts] [hEvenLastReferenceIdeal : Cert.EvenLastReferenceIdeal.Facts] : Prop :=
  ∀ (m : (ℓ : Loc Cert.EvenLastIdeal.nD Cert.EvenLastIdeal.τ Cert.EvenLastIdeal.sig) → Buf (Elt Ideal) ℓ) (g : Dev Cert.EvenLastIdeal.nD → PrngReg)
    (m' : (ℓ : Loc Cert.EvenLastReferenceIdeal.nD Cert.EvenLastReferenceIdeal.τ Cert.EvenLastReferenceIdeal.sig) → Buf (Elt Ideal) ℓ) (g' : Dev Cert.EvenLastReferenceIdeal.nD → PrngReg), Pre_EvenLastIdeal m →
    (∀ c : Dev Cert.EvenLastIdeal.nD,
      m' ((c.tc : Thread Cert.EvenLastReferenceIdeal.nD Cert.EvenLastReferenceIdeal.τ).loc Cert.EvenLastReferenceIdeal.main_arg0) = m ((c.tc : Thread Cert.EvenLastIdeal.nD Cert.EvenLastIdeal.τ).loc Cert.EvenLastIdeal.main_arg0)
      ∧ m' ((c.tc : Thread Cert.EvenLastReferenceIdeal.nD Cert.EvenLastReferenceIdeal.τ).loc Cert.EvenLastReferenceIdeal.main_arg1) = m ((c.tc : Thread Cert.EvenLastIdeal.nD Cert.EvenLastIdeal.τ).loc Cert.EvenLastIdeal.main_arg1)
      ∧ m' ((c.tc : Thread Cert.EvenLastReferenceIdeal.nD Cert.EvenLastReferenceIdeal.τ).loc Cert.EvenLastReferenceIdeal.main_arg2) = m ((c.tc : Thread Cert.EvenLastIdeal.nD Cert.EvenLastIdeal.τ).loc Cert.EvenLastIdeal.main_arg2)
      ∧ m' ((c.tc : Thread Cert.EvenLastReferenceIdeal.nD Cert.EvenLastReferenceIdeal.τ).loc Cert.EvenLastReferenceIdeal.main_arg3) = m ((c.tc : Thread Cert.EvenLastIdeal.nD Cert.EvenLastIdeal.τ).loc Cert.EvenLastIdeal.main_arg3)
      ∧ m' ((c.tc : Thread Cert.EvenLastReferenceIdeal.nD Cert.EvenLastReferenceIdeal.τ).loc Cert.EvenLastReferenceIdeal.main_arg4) = m ((c.tc : Thread Cert.EvenLastIdeal.nD Cert.EvenLastIdeal.τ).loc Cert.EvenLastIdeal.main_arg4)
      ∧ m' ((c.tc : Thread Cert.EvenLastReferenceIdeal.nD Cert.EvenLastReferenceIdeal.τ).loc Cert.EvenLastReferenceIdeal.main_arg5) = m ((c.tc : Thread Cert.EvenLastIdeal.nD Cert.EvenLastIdeal.τ).loc Cert.EvenLastIdeal.main_arg5)
      ∧ m' ((c.tc : Thread Cert.EvenLastReferenceIdeal.nD Cert.EvenLastReferenceIdeal.τ).loc Cert.EvenLastReferenceIdeal.main_arg6) = m ((c.tc : Thread Cert.EvenLastIdeal.nD Cert.EvenLastIdeal.τ).loc Cert.EvenLastIdeal.main_arg6)) →
    ∃ (v0 : (c : Dev Cert.EvenLastIdeal.nD) → Buf (Elt Ideal) ((c.tc : Thread Cert.EvenLastIdeal.nD Cert.EvenLastIdeal.τ).loc Cert.EvenLastIdeal.main_v3)),
      θ_run (Cert.EvenLastIdeal.defs (F := Ideal)) (onTc (τ := Cert.EvenLastIdeal.τ) (Cert.EvenLastIdeal.main (F := Ideal))) ⟨m, fun _ => 0, g⟩ (fun r => ∀ c : Dev Cert.EvenLastIdeal.nD,
          r.2.mem ((c.tc : Thread Cert.EvenLastIdeal.nD Cert.EvenLastIdeal.τ).loc Cert.EvenLastIdeal.main_v3) = v0 c
          ∧ r.2.mem ((c.tc : Thread Cert.EvenLastIdeal.nD Cert.EvenLastIdeal.τ).loc Cert.EvenLastIdeal.main_arg0) = m ((c.tc : Thread Cert.EvenLastIdeal.nD Cert.EvenLastIdeal.τ).loc Cert.EvenLastIdeal.main_arg0)
          ∧ r.2.mem ((c.tc : Thread Cert.EvenLastIdeal.nD Cert.EvenLastIdeal.τ).loc Cert.EvenLastIdeal.main_arg1) = m ((c.tc : Thread Cert.EvenLastIdeal.nD Cert.EvenLastIdeal.τ).loc Cert.EvenLastIdeal.main_arg1)
          ∧ r.2.mem ((c.tc : Thread Cert.EvenLastIdeal.nD Cert.EvenLastIdeal.τ).loc Cert.EvenLastIdeal.main_arg2) = m ((c.tc : Thread Cert.EvenLastIdeal.nD Cert.EvenLastIdeal.τ).loc Cert.EvenLastIdeal.main_arg2)
          ∧ r.2.mem ((c.tc : Thread Cert.EvenLastIdeal.nD Cert.EvenLastIdeal.τ).loc Cert.EvenLastIdeal.main_arg3) = m ((c.tc : Thread Cert.EvenLastIdeal.nD Cert.EvenLastIdeal.τ).loc Cert.EvenLastIdeal.main_arg3)
          ∧ r.2.mem ((c.tc : Thread Cert.EvenLastIdeal.nD Cert.EvenLastIdeal.τ).loc Cert.EvenLastIdeal.main_arg4) = m ((c.tc : Thread Cert.EvenLastIdeal.nD Cert.EvenLastIdeal.τ).loc Cert.EvenLastIdeal.main_arg4)
          ∧ r.2.mem ((c.tc : Thread Cert.EvenLastIdeal.nD Cert.EvenLastIdeal.τ).loc Cert.EvenLastIdeal.main_arg5) = m ((c.tc : Thread Cert.EvenLastIdeal.nD Cert.EvenLastIdeal.τ).loc Cert.EvenLastIdeal.main_arg5)
          ∧ r.2.mem ((c.tc : Thread Cert.EvenLastIdeal.nD Cert.EvenLastIdeal.τ).loc Cert.EvenLastIdeal.main_arg6) = m ((c.tc : Thread Cert.EvenLastIdeal.nD Cert.EvenLastIdeal.τ).loc Cert.EvenLastIdeal.main_arg6))
      ∧ θ_run (Cert.EvenLastReferenceIdeal.defs (F := Ideal)) (onTc (τ := Cert.EvenLastReferenceIdeal.τ) (Cert.EvenLastReferenceIdeal.main (F := Ideal))) ⟨m', fun _ => 0, g'⟩ (fun r => ∀ c : Dev Cert.EvenLastReferenceIdeal.nD,
          r.2.mem ((c.tc : Thread Cert.EvenLastReferenceIdeal.nD Cert.EvenLastReferenceIdeal.τ).loc Cert.EvenLastReferenceIdeal.main_v48) = v0 c
          ∧ r.2.mem ((c.tc : Thread Cert.EvenLastReferenceIdeal.nD Cert.EvenLastReferenceIdeal.τ).loc Cert.EvenLastReferenceIdeal.main_arg0) = m' ((c.tc : Thread Cert.EvenLastReferenceIdeal.nD Cert.EvenLastReferenceIdeal.τ).loc Cert.EvenLastReferenceIdeal.main_arg0)
          ∧ r.2.mem ((c.tc : Thread Cert.EvenLastReferenceIdeal.nD Cert.EvenLastReferenceIdeal.τ).loc Cert.EvenLastReferenceIdeal.main_arg1) = m' ((c.tc : Thread Cert.EvenLastReferenceIdeal.nD Cert.EvenLastReferenceIdeal.τ).loc Cert.EvenLastReferenceIdeal.main_arg1)
          ∧ r.2.mem ((c.tc : Thread Cert.EvenLastReferenceIdeal.nD Cert.EvenLastReferenceIdeal.τ).loc Cert.EvenLastReferenceIdeal.main_arg2) = m' ((c.tc : Thread Cert.EvenLastReferenceIdeal.nD Cert.EvenLastReferenceIdeal.τ).loc Cert.EvenLastReferenceIdeal.main_arg2)
          ∧ r.2.mem ((c.tc : Thread Cert.EvenLastReferenceIdeal.nD Cert.EvenLastReferenceIdeal.τ).loc Cert.EvenLastReferenceIdeal.main_arg3) = m' ((c.tc : Thread Cert.EvenLastReferenceIdeal.nD Cert.EvenLastReferenceIdeal.τ).loc Cert.EvenLastReferenceIdeal.main_arg3)
          ∧ r.2.mem ((c.tc : Thread Cert.EvenLastReferenceIdeal.nD Cert.EvenLastReferenceIdeal.τ).loc Cert.EvenLastReferenceIdeal.main_arg4) = m' ((c.tc : Thread Cert.EvenLastReferenceIdeal.nD Cert.EvenLastReferenceIdeal.τ).loc Cert.EvenLastReferenceIdeal.main_arg4)
          ∧ r.2.mem ((c.tc : Thread Cert.EvenLastReferenceIdeal.nD Cert.EvenLastReferenceIdeal.τ).loc Cert.EvenLastReferenceIdeal.main_arg5) = m' ((c.tc : Thread Cert.EvenLastReferenceIdeal.nD Cert.EvenLastReferenceIdeal.τ).loc Cert.EvenLastReferenceIdeal.main_arg5)
          ∧ r.2.mem ((c.tc : Thread Cert.EvenLastReferenceIdeal.nD Cert.EvenLastReferenceIdeal.τ).loc Cert.EvenLastReferenceIdeal.main_arg6) = m' ((c.tc : Thread Cert.EvenLastReferenceIdeal.nD Cert.EvenLastReferenceIdeal.τ).loc Cert.EvenLastReferenceIdeal.main_arg6))

def preserves_AttnLast_AttnLastIdeal : Prop :=
  True

def algebraic_AttnLastIdeal_AttnLastReferenceIdeal_pre_finite_scores_last [hAttnLastIdeal : Cert.AttnLastIdeal.Facts] [hAttnLastReferenceIdeal : Cert.AttnLastReferenceIdeal.Facts] [hPre_finite_scores_last : Cert.Pre_finite_scores_last.Facts] : Prop :=
  ∀ (m : (ℓ : Loc Cert.AttnLastIdeal.nD Cert.AttnLastIdeal.τ Cert.AttnLastIdeal.sig) → Buf (Elt Ideal) ℓ) (g : Dev Cert.AttnLastIdeal.nD → PrngReg)
    (m' : (ℓ : Loc Cert.AttnLastReferenceIdeal.nD Cert.AttnLastReferenceIdeal.τ Cert.AttnLastReferenceIdeal.sig) → Buf (Elt Ideal) ℓ) (g' : Dev Cert.AttnLastReferenceIdeal.nD → PrngReg), Pre_AttnLastIdeal_finite_scores_last m →
    (∀ c : Dev Cert.AttnLastIdeal.nD,
      m' ((c.tc : Thread Cert.AttnLastReferenceIdeal.nD Cert.AttnLastReferenceIdeal.τ).loc Cert.AttnLastReferenceIdeal.main_arg0) = m ((c.tc : Thread Cert.AttnLastIdeal.nD Cert.AttnLastIdeal.τ).loc Cert.AttnLastIdeal.main_arg0)
      ∧ m' ((c.tc : Thread Cert.AttnLastReferenceIdeal.nD Cert.AttnLastReferenceIdeal.τ).loc Cert.AttnLastReferenceIdeal.main_arg1) = m ((c.tc : Thread Cert.AttnLastIdeal.nD Cert.AttnLastIdeal.τ).loc Cert.AttnLastIdeal.main_arg1)
      ∧ m' ((c.tc : Thread Cert.AttnLastReferenceIdeal.nD Cert.AttnLastReferenceIdeal.τ).loc Cert.AttnLastReferenceIdeal.main_arg2) = m ((c.tc : Thread Cert.AttnLastIdeal.nD Cert.AttnLastIdeal.τ).loc Cert.AttnLastIdeal.main_arg2)
      ∧ m' ((c.tc : Thread Cert.AttnLastReferenceIdeal.nD Cert.AttnLastReferenceIdeal.τ).loc Cert.AttnLastReferenceIdeal.main_arg3) = m ((c.tc : Thread Cert.AttnLastIdeal.nD Cert.AttnLastIdeal.τ).loc Cert.AttnLastIdeal.main_arg3)
      ∧ m' ((c.tc : Thread Cert.AttnLastReferenceIdeal.nD Cert.AttnLastReferenceIdeal.τ).loc Cert.AttnLastReferenceIdeal.main_arg4) = m ((c.tc : Thread Cert.AttnLastIdeal.nD Cert.AttnLastIdeal.τ).loc Cert.AttnLastIdeal.main_arg4)
      ∧ m' ((c.tc : Thread Cert.AttnLastReferenceIdeal.nD Cert.AttnLastReferenceIdeal.τ).loc Cert.AttnLastReferenceIdeal.main_arg5) = m ((c.tc : Thread Cert.AttnLastIdeal.nD Cert.AttnLastIdeal.τ).loc Cert.AttnLastIdeal.main_arg5)
      ∧ m' ((c.tc : Thread Cert.AttnLastReferenceIdeal.nD Cert.AttnLastReferenceIdeal.τ).loc Cert.AttnLastReferenceIdeal.main_arg6) = m ((c.tc : Thread Cert.AttnLastIdeal.nD Cert.AttnLastIdeal.τ).loc Cert.AttnLastIdeal.main_arg6)
      ∧ m' ((c.tc : Thread Cert.AttnLastReferenceIdeal.nD Cert.AttnLastReferenceIdeal.τ).loc Cert.AttnLastReferenceIdeal.main_arg7) = m ((c.tc : Thread Cert.AttnLastIdeal.nD Cert.AttnLastIdeal.τ).loc Cert.AttnLastIdeal.main_arg7)
      ∧ m' ((c.tc : Thread Cert.AttnLastReferenceIdeal.nD Cert.AttnLastReferenceIdeal.τ).loc Cert.AttnLastReferenceIdeal.main_arg8) = m ((c.tc : Thread Cert.AttnLastIdeal.nD Cert.AttnLastIdeal.τ).loc Cert.AttnLastIdeal.main_arg8)) →
    ∃ (v0 : (c : Dev Cert.AttnLastIdeal.nD) → Buf (Elt Ideal) ((c.tc : Thread Cert.AttnLastIdeal.nD Cert.AttnLastIdeal.τ).loc Cert.AttnLastIdeal.main_v9)),
      θ_run (Cert.AttnLastIdeal.defs (F := Ideal)) (onTc (τ := Cert.AttnLastIdeal.τ) (Cert.AttnLastIdeal.main (F := Ideal))) ⟨m, fun _ => 0, g⟩ (fun r => ∀ c : Dev Cert.AttnLastIdeal.nD,
          r.2.mem ((c.tc : Thread Cert.AttnLastIdeal.nD Cert.AttnLastIdeal.τ).loc Cert.AttnLastIdeal.main_v9) = v0 c
          ∧ r.2.mem ((c.tc : Thread Cert.AttnLastIdeal.nD Cert.AttnLastIdeal.τ).loc Cert.AttnLastIdeal.main_arg0) = m ((c.tc : Thread Cert.AttnLastIdeal.nD Cert.AttnLastIdeal.τ).loc Cert.AttnLastIdeal.main_arg0)
          ∧ r.2.mem ((c.tc : Thread Cert.AttnLastIdeal.nD Cert.AttnLastIdeal.τ).loc Cert.AttnLastIdeal.main_arg1) = m ((c.tc : Thread Cert.AttnLastIdeal.nD Cert.AttnLastIdeal.τ).loc Cert.AttnLastIdeal.main_arg1)
          ∧ r.2.mem ((c.tc : Thread Cert.AttnLastIdeal.nD Cert.AttnLastIdeal.τ).loc Cert.AttnLastIdeal.main_arg2) = m ((c.tc : Thread Cert.AttnLastIdeal.nD Cert.AttnLastIdeal.τ).loc Cert.AttnLastIdeal.main_arg2)
          ∧ r.2.mem ((c.tc : Thread Cert.AttnLastIdeal.nD Cert.AttnLastIdeal.τ).loc Cert.AttnLastIdeal.main_arg3) = m ((c.tc : Thread Cert.AttnLastIdeal.nD Cert.AttnLastIdeal.τ).loc Cert.AttnLastIdeal.main_arg3)
          ∧ r.2.mem ((c.tc : Thread Cert.AttnLastIdeal.nD Cert.AttnLastIdeal.τ).loc Cert.AttnLastIdeal.main_arg4) = m ((c.tc : Thread Cert.AttnLastIdeal.nD Cert.AttnLastIdeal.τ).loc Cert.AttnLastIdeal.main_arg4)
          ∧ r.2.mem ((c.tc : Thread Cert.AttnLastIdeal.nD Cert.AttnLastIdeal.τ).loc Cert.AttnLastIdeal.main_arg5) = m ((c.tc : Thread Cert.AttnLastIdeal.nD Cert.AttnLastIdeal.τ).loc Cert.AttnLastIdeal.main_arg5)
          ∧ r.2.mem ((c.tc : Thread Cert.AttnLastIdeal.nD Cert.AttnLastIdeal.τ).loc Cert.AttnLastIdeal.main_arg6) = m ((c.tc : Thread Cert.AttnLastIdeal.nD Cert.AttnLastIdeal.τ).loc Cert.AttnLastIdeal.main_arg6)
          ∧ r.2.mem ((c.tc : Thread Cert.AttnLastIdeal.nD Cert.AttnLastIdeal.τ).loc Cert.AttnLastIdeal.main_arg7) = m ((c.tc : Thread Cert.AttnLastIdeal.nD Cert.AttnLastIdeal.τ).loc Cert.AttnLastIdeal.main_arg7)
          ∧ r.2.mem ((c.tc : Thread Cert.AttnLastIdeal.nD Cert.AttnLastIdeal.τ).loc Cert.AttnLastIdeal.main_arg8) = m ((c.tc : Thread Cert.AttnLastIdeal.nD Cert.AttnLastIdeal.τ).loc Cert.AttnLastIdeal.main_arg8))
      ∧ θ_run (Cert.AttnLastReferenceIdeal.defs (F := Ideal)) (onTc (τ := Cert.AttnLastReferenceIdeal.τ) (Cert.AttnLastReferenceIdeal.main (F := Ideal))) ⟨m', fun _ => 0, g'⟩ (fun r => ∀ c : Dev Cert.AttnLastReferenceIdeal.nD,
          r.2.mem ((c.tc : Thread Cert.AttnLastReferenceIdeal.nD Cert.AttnLastReferenceIdeal.τ).loc Cert.AttnLastReferenceIdeal.main_v74) = v0 c
          ∧ r.2.mem ((c.tc : Thread Cert.AttnLastReferenceIdeal.nD Cert.AttnLastReferenceIdeal.τ).loc Cert.AttnLastReferenceIdeal.main_arg0) = m' ((c.tc : Thread Cert.AttnLastReferenceIdeal.nD Cert.AttnLastReferenceIdeal.τ).loc Cert.AttnLastReferenceIdeal.main_arg0)
          ∧ r.2.mem ((c.tc : Thread Cert.AttnLastReferenceIdeal.nD Cert.AttnLastReferenceIdeal.τ).loc Cert.AttnLastReferenceIdeal.main_arg1) = m' ((c.tc : Thread Cert.AttnLastReferenceIdeal.nD Cert.AttnLastReferenceIdeal.τ).loc Cert.AttnLastReferenceIdeal.main_arg1)
          ∧ r.2.mem ((c.tc : Thread Cert.AttnLastReferenceIdeal.nD Cert.AttnLastReferenceIdeal.τ).loc Cert.AttnLastReferenceIdeal.main_arg2) = m' ((c.tc : Thread Cert.AttnLastReferenceIdeal.nD Cert.AttnLastReferenceIdeal.τ).loc Cert.AttnLastReferenceIdeal.main_arg2)
          ∧ r.2.mem ((c.tc : Thread Cert.AttnLastReferenceIdeal.nD Cert.AttnLastReferenceIdeal.τ).loc Cert.AttnLastReferenceIdeal.main_arg3) = m' ((c.tc : Thread Cert.AttnLastReferenceIdeal.nD Cert.AttnLastReferenceIdeal.τ).loc Cert.AttnLastReferenceIdeal.main_arg3)
          ∧ r.2.mem ((c.tc : Thread Cert.AttnLastReferenceIdeal.nD Cert.AttnLastReferenceIdeal.τ).loc Cert.AttnLastReferenceIdeal.main_arg4) = m' ((c.tc : Thread Cert.AttnLastReferenceIdeal.nD Cert.AttnLastReferenceIdeal.τ).loc Cert.AttnLastReferenceIdeal.main_arg4)
          ∧ r.2.mem ((c.tc : Thread Cert.AttnLastReferenceIdeal.nD Cert.AttnLastReferenceIdeal.τ).loc Cert.AttnLastReferenceIdeal.main_arg5) = m' ((c.tc : Thread Cert.AttnLastReferenceIdeal.nD Cert.AttnLastReferenceIdeal.τ).loc Cert.AttnLastReferenceIdeal.main_arg5)
          ∧ r.2.mem ((c.tc : Thread Cert.AttnLastReferenceIdeal.nD Cert.AttnLastReferenceIdeal.τ).loc Cert.AttnLastReferenceIdeal.main_arg6) = m' ((c.tc : Thread Cert.AttnLastReferenceIdeal.nD Cert.AttnLastReferenceIdeal.τ).loc Cert.AttnLastReferenceIdeal.main_arg6)
          ∧ r.2.mem ((c.tc : Thread Cert.AttnLastReferenceIdeal.nD Cert.AttnLastReferenceIdeal.τ).loc Cert.AttnLastReferenceIdeal.main_arg7) = m' ((c.tc : Thread Cert.AttnLastReferenceIdeal.nD Cert.AttnLastReferenceIdeal.τ).loc Cert.AttnLastReferenceIdeal.main_arg7)
          ∧ r.2.mem ((c.tc : Thread Cert.AttnLastReferenceIdeal.nD Cert.AttnLastReferenceIdeal.τ).loc Cert.AttnLastReferenceIdeal.main_arg8) = m' ((c.tc : Thread Cert.AttnLastReferenceIdeal.nD Cert.AttnLastReferenceIdeal.τ).loc Cert.AttnLastReferenceIdeal.main_arg8))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hMoeLast : Cert.MoeLast.Facts) (hMoeLastIdeal : Cert.MoeLastIdeal.Facts) (hMoeLastReferenceIdeal : Cert.MoeLastReferenceIdeal.Facts) (hDense : Cert.Dense.Facts) (hDenseIdeal : Cert.DenseIdeal.Facts) (hDenseReferenceIdeal : Cert.DenseReferenceIdeal.Facts) (hDenseLast : Cert.DenseLast.Facts) (hDenseLastIdeal : Cert.DenseLastIdeal.Facts) (hDenseLastReferenceIdeal : Cert.DenseLastReferenceIdeal.Facts) (hOut : Cert.Out.Facts) (hOutIdeal : Cert.OutIdeal.Facts) (hOutReferenceIdeal : Cert.OutReferenceIdeal.Facts) (hOutLast : Cert.OutLast.Facts) (hOutLastIdeal : Cert.OutLastIdeal.Facts) (hOutLastReferenceIdeal : Cert.OutLastReferenceIdeal.Facts) (hEven : Cert.Even.Facts) (hEvenIdeal : Cert.EvenIdeal.Facts) (hEvenReferenceIdeal : Cert.EvenReferenceIdeal.Facts) (hEvenLast : Cert.EvenLast.Facts) (hEvenLastIdeal : Cert.EvenLastIdeal.Facts) (hEvenLastReferenceIdeal : Cert.EvenLastReferenceIdeal.Facts) (hAttnLast : Cert.AttnLast.Facts) (hAttnLastIdeal : Cert.AttnLastIdeal.Facts) (hAttnLastReferenceIdeal : Cert.AttnLastReferenceIdeal.Facts) (hPre_finite_scores : Cert.Pre_finite_scores.Facts) (hPre_tables_in_range : Cert.Pre_tables_in_range.Facts) (hPre_finite_scores_last : Cert.Pre_finite_scores_last.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Moe (hMoe := hMoe) (hPre_tables_in_range := hPre_tables_in_range)
    ∧ quiescent_MoeIdeal (hMoeIdeal := hMoeIdeal) (hPre_tables_in_range := hPre_tables_in_range)
    ∧ quiescent_MoeReferenceIdeal (hMoeReferenceIdeal := hMoeReferenceIdeal)
    ∧ quiescent_MoeReferenceIdeal_pre_tables_in_range (hMoeReferenceIdeal := hMoeReferenceIdeal) (hPre_tables_in_range := hPre_tables_in_range)
    ∧ quiescent_MoeLast (hMoeLast := hMoeLast) (hPre_tables_in_range := hPre_tables_in_range)
    ∧ quiescent_MoeLastIdeal (hMoeLastIdeal := hMoeLastIdeal) (hPre_tables_in_range := hPre_tables_in_range)
    ∧ quiescent_MoeLastReferenceIdeal (hMoeLastReferenceIdeal := hMoeLastReferenceIdeal)
    ∧ quiescent_MoeLastReferenceIdeal_pre_tables_in_range (hMoeLastReferenceIdeal := hMoeLastReferenceIdeal) (hPre_tables_in_range := hPre_tables_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_DenseLast (hDenseLast := hDenseLast)
    ∧ quiescent_DenseLastIdeal (hDenseLastIdeal := hDenseLastIdeal)
    ∧ quiescent_DenseLastReferenceIdeal (hDenseLastReferenceIdeal := hDenseLastReferenceIdeal)
    ∧ quiescent_Out (hOut := hOut)
    ∧ quiescent_OutIdeal (hOutIdeal := hOutIdeal)
    ∧ quiescent_OutReferenceIdeal (hOutReferenceIdeal := hOutReferenceIdeal)
    ∧ quiescent_OutLast (hOutLast := hOutLast)
    ∧ quiescent_OutLastIdeal (hOutLastIdeal := hOutLastIdeal)
    ∧ quiescent_OutLastReferenceIdeal (hOutLastReferenceIdeal := hOutLastReferenceIdeal)
    ∧ quiescent_Even (hEven := hEven)
    ∧ quiescent_EvenIdeal (hEvenIdeal := hEvenIdeal)
    ∧ quiescent_EvenReferenceIdeal (hEvenReferenceIdeal := hEvenReferenceIdeal)
    ∧ quiescent_EvenLast (hEvenLast := hEvenLast)
    ∧ quiescent_EvenLastIdeal (hEvenLastIdeal := hEvenLastIdeal)
    ∧ quiescent_EvenLastReferenceIdeal (hEvenLastReferenceIdeal := hEvenLastReferenceIdeal)
    ∧ quiescent_AttnLast (hAttnLast := hAttnLast)
    ∧ quiescent_AttnLastIdeal (hAttnLastIdeal := hAttnLastIdeal)
    ∧ quiescent_AttnLastIdeal_pre_finite_scores_last (hAttnLastIdeal := hAttnLastIdeal) (hPre_finite_scores_last := hPre_finite_scores_last)
    ∧ quiescent_AttnLastReferenceIdeal (hAttnLastReferenceIdeal := hAttnLastReferenceIdeal)
    ∧ quiescent_AttnLastReferenceIdeal_pre_finite_scores_last (hAttnLastReferenceIdeal := hAttnLastReferenceIdeal) (hPre_finite_scores_last := hPre_finite_scores_last)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Moe_MoeIdeal
    ∧ algebraic_MoeIdeal_MoeReferenceIdeal (hMoeIdeal := hMoeIdeal) (hMoeReferenceIdeal := hMoeReferenceIdeal) (hPre_tables_in_range := hPre_tables_in_range)
    ∧ preserves_MoeLast_MoeLastIdeal
    ∧ algebraic_MoeLastIdeal_MoeLastReferenceIdeal (hMoeLastIdeal := hMoeLastIdeal) (hMoeLastReferenceIdeal := hMoeLastReferenceIdeal) (hPre_tables_in_range := hPre_tables_in_range)
    ∧ preserves_Dense_DenseIdeal
    ∧ algebraic_DenseIdeal_DenseReferenceIdeal (hDenseIdeal := hDenseIdeal) (hDenseReferenceIdeal := hDenseReferenceIdeal)
    ∧ preserves_DenseLast_DenseLastIdeal
    ∧ algebraic_DenseLastIdeal_DenseLastReferenceIdeal (hDenseLastIdeal := hDenseLastIdeal) (hDenseLastReferenceIdeal := hDenseLastReferenceIdeal)
    ∧ preserves_Out_OutIdeal
    ∧ algebraic_OutIdeal_OutReferenceIdeal (hOutIdeal := hOutIdeal) (hOutReferenceIdeal := hOutReferenceIdeal)
    ∧ preserves_OutLast_OutLastIdeal
    ∧ algebraic_OutLastIdeal_OutLastReferenceIdeal (hOutLastIdeal := hOutLastIdeal) (hOutLastReferenceIdeal := hOutLastReferenceIdeal)
    ∧ preserves_Even_EvenIdeal
    ∧ algebraic_EvenIdeal_EvenReferenceIdeal (hEvenIdeal := hEvenIdeal) (hEvenReferenceIdeal := hEvenReferenceIdeal)
    ∧ preserves_EvenLast_EvenLastIdeal
    ∧ algebraic_EvenLastIdeal_EvenLastReferenceIdeal (hEvenLastIdeal := hEvenLastIdeal) (hEvenLastReferenceIdeal := hEvenLastReferenceIdeal)
    ∧ preserves_AttnLast_AttnLastIdeal
    ∧ algebraic_AttnLastIdeal_AttnLastReferenceIdeal_pre_finite_scores_last (hAttnLastIdeal := hAttnLastIdeal) (hAttnLastReferenceIdeal := hAttnLastReferenceIdeal) (hPre_finite_scores_last := hPre_finite_scores_last)
-- ==== Pre_finite_scores.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S8192x4096 : Shape := ⟨2, ![8192, 4096]⟩
abbrev S_ : Shape := ⟨0, ![]⟩
abbrev S4x1x256x32x64 : Shape := ⟨5, ![4, 1, 256, 32, 64]⟩
abbrev S4x256x32x64 : Shape := ⟨4, ![4, 256, 32, 64]⟩

class Facts : Prop where
  slices_S12288x6144_S8192x4096_4096_0 : S12288x6144.Slices ![4096, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S4x2x256x32x64_S4x1x256x32x64_0_0_0_0_0 : S4x2x256x32x64.Slices ![0, 0, 0, 0, 0] S4x1x256x32x64
  shapeCasts_S4x1x256x32x64_S4x256x32x64 : S4x1x256x32x64.ShapeCasts S4x256x32x64
  bcast_S_S4x256x32x64 : S_.BroadcastsInDim S4x256x32x64 (![] : Fin 0 → Fin S4x256x32x64.rank)
  reducesTo_S4x256x32x64_S_d0_1_2_3 : S4x256x32x64.ReducesTo [0, 1, 2, 3] S_

variable [Facts]

def fn {F : FTy → Type} [FloatOps F] (main_arg0 : FVec F S12288x6144 .f32) (main_arg1 : FVec F S4x2x256x32x64 .f32) (main_arg2 : FVec F S4x2x256x16x128 .f32) (main_arg3 : FVec F S2x64 .f32) (main_arg4 : FVec F S2x64 .f32) (main_arg5 : FVec F S2x64 .f32) (main_arg6 : FVec F S2x64 .f32) (main_arg7 : FVec F S2x128 .f32) (main_arg8 : FVec F S12288x2048 .bf16) : IVec S_ 1 :=
  let main_v0 : FVec F S8192x4096 .f32 := (extractStridedSlice S8192x4096 ![4096, 0] · slices_S12288x6144_S8192x4096_4096_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S4x1x256x32x64 .f32 := (extractStridedSlice S4x1x256x32x64 ![0, 0, 0, 0, 0] · slices_S4x2x256x32x64_S4x1x256x32x64_0_0_0_0_0) main_arg1
  let main_v6 : FVec F S4x256x32x64 .f32 := shapeCast S4x256x32x64 main_v5 shapeCasts_S4x1x256x32x64_S4x256x32x64
  let main_v7 : FVec F S4x256x32x64 .f32 := Host.absf main_v6
  let main_cst_0 : FVec F S_ .f32 := constant S_ .f32 0x7F800000#32
  let main_v8 : FVec F S4x256x32x64 .f32 := broadcastInDim S4x256x32x64 ![] bcast_S_S4x256x32x64 main_cst_0
  let main_v9 : IVec S4x256x32x64 1 := cmpf .olt main_v7 main_v8
  let main_c_1 : IVec S_ 1 := constantI S_ 1 1#1
  let main_v10 : IVec S_ 1 := (fun x v => Host.reduce IntOp.andi x v reducesTo_S4x256x32x64_S_d0_1_2_3 h_S_) main_v9 main_c_1
  let main_v11 : IVec S_ 1 := andi main_v4 main_v10
  main_v11
-- ==== Pre_finite_scores_last.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S8192x4096 : Shape := ⟨2, ![8192, 4096]⟩
abbrev S_ : Shape := ⟨0, ![]⟩
abbrev S4x1x256x32x64 : Shape := ⟨5, ![4, 1, 256, 32, 64]⟩
abbrev S4x256x32x64 : Shape := ⟨4, ![4, 256, 32, 64]⟩

class Facts : Prop where
  slices_S12288x6144_S8192x4096_4096_0 : S12288x6144.Slices ![4096, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S4x2x256x32x64_S4x1x256x32x64_0_1_0_0_0 : S4x2x256x32x64.Slices ![0, 1, 0, 0, 0] S4x1x256x32x64
  shapeCasts_S4x1x256x32x64_S4x256x32x64 : S4x1x256x32x64.ShapeCasts S4x256x32x64
  bcast_S_S4x256x32x64 : S_.BroadcastsInDim S4x256x32x64 (![] : Fin 0 → Fin S4x256x32x64.rank)
  reducesTo_S4x256x32x64_S_d0_1_2_3 : S4x256x32x64.ReducesTo [0, 1, 2, 3] S_

variable [Facts]

def fn {F : FTy → Type} [FloatOps F] (main_arg0 : FVec F S12288x6144 .f32) (main_arg1 : FVec F S4x2x256x32x64 .f32) (main_arg2 : FVec F S4x2x256x16x128 .f32) (main_arg3 : FVec F S2x64 .f32) (main_arg4 : FVec F S2x64 .f32) (main_arg5 : FVec F S2x64 .f32) (main_arg6 : FVec F S2x64 .f32) (main_arg7 : FVec F S2x128 .f32) (main_arg8 : FVec F S12288x2048 .bf16) : IVec S_ 1 :=
  let main_v0 : FVec F S8192x4096 .f32 := (extractStridedSlice S8192x4096 ![4096, 0] · slices_S12288x6144_S8192x4096_4096_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S4x1x256x32x64 .f32 := (extractStridedSlice S4x1x256x32x64 ![0, 1, 0, 0, 0] · slices_S4x2x256x32x64_S4x1x256x32x64_0_1_0_0_0) main_arg1
  let main_v6 : FVec F S4x256x32x64 .f32 := shapeCast S4x256x32x64 main_v5 shapeCasts_S4x1x256x32x64_S4x256x32x64
  let main_v7 : FVec F S4x256x32x64 .f32 := Host.absf main_v6
  let main_cst_0 : FVec F S_ .f32 := constant S_ .f32 0x7F800000#32
  let main_v8 : FVec F S4x256x32x64 .f32 := broadcastInDim S4x256x32x64 ![] bcast_S_S4x256x32x64 main_cst_0
  let main_v9 : IVec S4x256x32x64 1 := cmpf .olt main_v7 main_v8
  let main_c_1 : IVec S_ 1 := constantI S_ 1 1#1
  let main_v10 : IVec S_ 1 := (fun x v => Host.reduce IntOp.andi x v reducesTo_S4x256x32x64_S_d0_1_2_3 h_S_) main_v9 main_c_1
  let main_v11 : IVec S_ 1 := andi main_v4 main_v10
  main_v11
-- ==== Pre_tables_in_range.lean ====
abbrev S47 : Shape := ⟨1, ![47]⟩
abbrev S1 : Shape := ⟨1, ![1]⟩
abbrev S30080 : Shape := ⟨1, ![30080]⟩
abbrev S12288x2048 : Shape := ⟨2, ![12288, 2048]⟩
abbrev S2x8x2048x14336 : Shape := ⟨4, ![2, 8, 2048, 14336]⟩
abbrev S2x8x7168x2048 : Shape := ⟨4, ![2, 8, 7168, 2048]⟩
abbrev S_ : Shape := ⟨0, ![]⟩

class Facts : Prop where
  bcast_S_S47 : S_.BroadcastsInDim S47 (![] : Fin 0 → Fin S47.rank)
  reducesTo_S47_S_d0 : S47.ReducesTo [0] S_
  h_S_ : 0 < S_.numel
  bcast_S_S30080 : S_.BroadcastsInDim S30080 (![] : Fin 0 → Fin S30080.rank)
  reducesTo_S30080_S_d0 : S30080.ReducesTo [0] S_

variable [Facts]

def fn {F : FTy → Type} [FloatOps F] (main_arg0 : IVec S47 32) (main_arg1 : IVec S1 32) (main_arg2 : IVec S30080 32) (main_arg3 : FVec F S12288x2048 .f32) (main_arg4 : FVec F S2x8x2048x14336 .f32) (main_arg5 : FVec F S2x8x7168x2048 .f32) : IVec S_ 1 :=
  let main_c : IVec S_ 32 := constantI S_ 32 0#32
  let main_v0 : IVec S47 32 := broadcastInDim S47 ![] bcast_S_S47 main_c
  let main_v1 : IVec S47 1 := cmpi .sge main_arg0 main_v0
  let main_c_0 : IVec S_ 1 := constantI S_ 1 1#1
  let main_v2 : IVec S_ 1 := (fun x v => Host.reduce IntOp.andi x v reducesTo_S47_S_d0 h_S_) main_v1 main_c_0
  let main_c_1 : IVec S_ 32 := constantI S_ 32 8#32
  let main_v3 : IVec S47 32 := broadcastInDim S47 ![] bcast_S_S47 main_c_1
  let main_v4 : IVec S47 1 := cmpi .slt main_arg0 main_v3
  let main_c_2 : IVec S_ 1 := constantI S_ 1 1#1
  let main_v5 : IVec S_ 1 := (fun x v => Host.reduce IntOp.andi x v reducesTo_S47_S_d0 h_S_) main_v4 main_c_2
  let main_v6 : IVec S_ 1 := andi main_v2 main_v5
  let main_c_3 : IVec S_ 32 := constantI S_ 32 0#32
  let main_v7 : IVec S30080 32 := broadcastInDim S30080 ![] bcast_S_S30080 main_c_3
  let main_v8 : IVec S30080 1 := cmpi .sge main_arg2 main_v7
  let main_c_4 : IVec S_ 1 := constantI S_ 1 1#1
  let main_v9 : IVec S_ 1 := (fun x v => Host.reduce IntOp.andi x v reducesTo_S30080_S_d0 h_S_) main_v8 main_c_4
  let main_v10 : IVec S_ 1 := andi main_v6 main_v9
  let main_c_5 : IVec S_ 32 := constantI S_ 32 12288#32
  let main_v11 : IVec S30080 32 := broadcastInDim S30080 ![] bcast_S_S30080 main_c_5
  let main_v12 : IVec S30080 1 := cmpi .slt main_arg2 main_v11
  let main_c_6 : IVec S_ 1 := constantI S_ 1 1#1
  let main_v13 : IVec S_ 1 := (fun x v => Host.reduce IntOp.andi x v reducesTo_S30080_S_d0 h_S_) main_v12 main_c_6
  let main_v14 : IVec S_ 1 := andi main_v10 main_v13
  main_v14
-- ==== Kernel.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S2x1x64 : Shape := ⟨3, ![2, 1, 64]⟩
abbrev S2x4x64 : Shape := ⟨3, ![2, 4, 64]⟩
abbrev S_ : Shape := ⟨0, ![]⟩
abbrev S2x8x128 : Shape := ⟨3, ![2, 8, 128]⟩
abbrev S2x1x128 : Shape := ⟨3, ![2, 1, 128]⟩
abbrev S4x2x256x2048 : Shape := ⟨4, ![4, 2, 256, 2048]⟩
abbrev S256x128 : Shape := ⟨2, ![256, 128]⟩
abbrev S2048x128 : Shape := ⟨2, ![2048, 128]⟩
abbrev S1x1x256x128 : Shape := ⟨4, ![1, 1, 256, 128]⟩
abbrev S1x8x128 : Shape := ⟨3, ![1, 8, 128]⟩
abbrev S1x1x128 : Shape := ⟨3, ![1, 1, 128]⟩
abbrev S8x128 : Shape := ⟨2, ![8, 128]⟩
abbrev S1x128 : Shape := ⟨2, ![1, 128]⟩
abbrev S1 : Shape := ⟨1, ![1]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S12288x6144, .f32⟩
  | .hbm, ⟨1, _⟩ => ⟨S4x2x256x32x64, .f32⟩
  | .hbm, ⟨2, _⟩ => ⟨S4x2x256x16x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S12288x2048, .bf16⟩
  | .hbm, ⟨9, _⟩ => ⟨S2x1x64, .f32⟩
  | .hbm, ⟨10, _⟩ => ⟨S2x1x64, .f32⟩
  | .hbm, ⟨11, _⟩ => ⟨S2x1x64, .f32⟩
  | .hbm, ⟨12, _⟩ => ⟨S2x1x64, .f32⟩
  | .hbm, ⟨13, _⟩ => ⟨S2x4x64, .f32⟩
  | .hbm, ⟨14, _⟩ => ⟨S_, .i32⟩
  | .hbm, ⟨15, _⟩ => ⟨S_, .f32⟩
  | .hbm, ⟨16, _⟩ => ⟨S2x8x128, .f32⟩
  | .hbm, ⟨17, _⟩ => ⟨S2x1x128, .f32⟩
  | .hbm, ⟨18, _⟩ => ⟨S4x2x256x2048, .f32⟩
  | .hbm, ⟨19, _⟩ => ⟨S4x2x256x2048, .f32⟩
  | .hbm, ⟨20, _⟩ => ⟨S12288x2048, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x8x128, .f32⟩
  | .local _ .vmem, ⟨11, _⟩ => ⟨S1x1x128, .f32⟩
  | .local _ .vmem, ⟨12, _⟩ => ⟨S256x128, .bf16⟩
  | .local _ .vmem, ⟨13, _⟩ => ⟨S256x128, .bf16⟩
  | _, _ => ⟨S12288x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c32_i32 : BitVec 32 := 32#32
  let v1 : BitVec 32 := Scalar.addi c32_i32 arg1
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S8192x6144 : Shape := ⟨2, ![8192, 6144]⟩
abbrev S4x2048x6144 : Shape := ⟨3, ![4, 2048, 6144]⟩
abbrev S4x2048x2048 : Shape := ⟨3, ![4, 2048, 2048]⟩
abbrev S4x2048x32x64 : Shape := ⟨4, ![4, 2048, 32, 64]⟩
abbrev S4x2048x16x128 : Shape := ⟨4, ![4, 2048, 16, 128]⟩
abbrev S4x1x256x32x64 : Shape := ⟨5, ![4, 1, 256, 32, 64]⟩
abbrev S4x256x32x64 : Shape := ⟨4, ![4, 256, 32, 64]⟩
abbrev S4x2304x32x64 : Shape := ⟨4, ![4, 2304, 32, 64]⟩
abbrev S4x1x256x16x128 : Shape := ⟨5, ![4, 1, 256, 16, 128]⟩
abbrev S4x256x16x128 : Shape := ⟨4, ![4, 256, 16, 128]⟩
abbrev S4x2304x16x128 : Shape := ⟨4, ![4, 2304, 16, 128]⟩
abbrev S1x64 : Shape := ⟨2, ![1, 64]⟩
abbrev S64 : Shape := ⟨1, ![64]⟩
abbrev S_ : Shape := ⟨0, ![]⟩
abbrev S4x32x2048x2304 : Shape := ⟨4, ![4, 32, 2048, 2304]⟩
abbrev S4x32x2048 : Shape := ⟨3, ![4, 32, 2048]⟩
abbrev S4x32x2048x1 : Shape := ⟨4, ![4, 32, 2048, 1]⟩
abbrev S4x16x2x2048x2304 : Shape := ⟨5, ![4, 16, 2, 2048, 2304]⟩
abbrev S4x16x1x2048x2304 : Shape := ⟨5, ![4, 16, 1, 2048, 2304]⟩
abbrev S4x16x2048x2304 : Shape := ⟨4, ![4, 16, 2048, 2304]⟩
abbrev S4x16x128x2048 : Shape := ⟨4, ![4, 16, 128, 2048]⟩
abbrev S1x128 : Shape := ⟨2, ![1, 128]⟩
abbrev S128 : Shape := ⟨1, ![128]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S4096x2048 : Shape := ⟨2, ![4096, 2048]⟩
abbrev S8192x2048 : Shape := ⟨2, ![8192, 2048]⟩

abbrev nBuf : Space → Nat
  | .hbm => 95
  | .vmem => 0
  | .smem => 0
  | _ => 0

abbrev bufTy : (tb : Table) → Fin (tcTables nBuf tb) → BufTy
  | .hbm, ⟨0, _⟩ => ⟨S12288x6144, .f32⟩
  | .hbm, ⟨1, _⟩ => ⟨S4x2x256x32x64, .f32⟩
  | .hbm, ⟨2, _⟩ => ⟨S4x2x256x16x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S12288x2048, .bf16⟩
  | .hbm, ⟨9, _⟩ => ⟨S8192x6144, .f32⟩
  | .hbm, ⟨10, _⟩ => ⟨S4x2048x6144, .f32⟩
  | .hbm, ⟨11, _⟩ => ⟨S4x2048x2048, .f32⟩
  | .hbm, ⟨12, _⟩ => ⟨S4x2048x32x64, .f32⟩
  | .hbm, ⟨13, _⟩ => ⟨S4x2048x2048, .f32⟩
  | .hbm, ⟨14, _⟩ => ⟨S4x2048x32x64, .f32⟩
  | .hbm, ⟨15, _⟩ => ⟨S4x2048x2048, .f32⟩
  | .hbm, ⟨16, _⟩ => ⟨S4x2048x16x128, .f32⟩
  | .hbm, ⟨17, _⟩ => ⟨S4x1x256x32x64, .f32⟩
  | .hbm, ⟨18, _⟩ => ⟨S4x256x32x64, .f32⟩
  | .hbm, ⟨19, _⟩ => ⟨S4x2304x32x64, .f32⟩
  | .hbm, ⟨20, _⟩ => ⟨S4x1x256x16x128, .f32⟩
  | .hbm, ⟨21, _⟩ => ⟨S4x256x16x128, .f32⟩
  | .hbm, ⟨22, _⟩ => ⟨S4x2304x16x128, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x32x2048x2304, .f32⟩
  | .hbm, ⟨43, _⟩ => ⟨S_, .f32⟩
  | .hbm, ⟨44, _⟩ => ⟨S4x32x2048x2304, .f32⟩
  | .hbm, ⟨45, _⟩ => ⟨S4x32x2048x2304, .f32⟩
  | .hbm, ⟨46, _⟩ => ⟨S_, .f32⟩
  | .hbm, ⟨47, _⟩ => ⟨S4x32x2048, .f32⟩
  | .hbm, ⟨48, _⟩ => ⟨S_, .f32⟩
  | .hbm, ⟨49, _⟩ => ⟨S4x32x2048, .f32⟩
  | .hbm, ⟨50, _⟩ => ⟨S4x32x2048, .f32⟩
  | .hbm, ⟨51, _⟩ => ⟨S4x32x2048x1, .f32⟩
  | .hbm, ⟨52, _⟩ => ⟨S4x32x2048x2304, .f32⟩
  | .hbm, ⟨53, _⟩ => ⟨S4x32x2048x2304, .f32⟩
  | .hbm, ⟨54, _⟩ => ⟨S4x32x2048x2304, .f32⟩
  | .hbm, ⟨55, _⟩ => ⟨S_, .f32⟩
  | .hbm, ⟨56, _⟩ => ⟨S4x32x2048, .f32⟩
  | .hbm, ⟨57, _⟩ => ⟨S4x32x2048x1, .f32⟩
  | .hbm, ⟨58, _⟩ => ⟨S4x32x2048x2304, .f32⟩
  | .hbm, ⟨59, _⟩ => ⟨S4x32x2048x2304, .f32⟩
  | .hbm, ⟨60, _⟩ => ⟨S4x16x2x2048x2304, .f32⟩
  | .hbm, ⟨61, _⟩ => ⟨S4x16x1x2048x2304, .f32⟩
  | .hbm, ⟨62, _⟩ => ⟨S4x16x2048x2304, .f32⟩
  | .hbm, ⟨63, _⟩ => ⟨S4x16x1x2048x2304, .f32⟩
  | .hbm, ⟨64, _⟩ => ⟨S4x16x2048x2304, .f32⟩
  | .hbm, ⟨65, _⟩ => ⟨S4x16x2048x2304, .f32⟩
  | .hbm, ⟨66, _⟩ => ⟨S4x16x2048x2304, .f32⟩
  | .hbm, ⟨67, _⟩ => ⟨S4x16x2048x2304, .f32⟩
  | .hbm, ⟨68, _⟩ => ⟨S4x16x128x2048, .f32⟩
  | .hbm, ⟨69, _⟩ => ⟨S4x2048x16x128, .f32⟩
  | .hbm, ⟨70, _⟩ => ⟨S1x128, .f32⟩
  | .hbm, ⟨71, _⟩ => ⟨S128, .f32⟩
  | .hbm, ⟨72, _⟩ => ⟨S4x2048x16x128, .f32⟩
  | .hbm, ⟨73, _⟩ => ⟨S_, .f32⟩
  | .hbm, ⟨74, _⟩ => ⟨S4x2048x16, .f32⟩
  | .hbm, ⟨75, _⟩ => ⟨S4x2048x16x1, .f32⟩
  | .hbm, ⟨76, _⟩ => ⟨S_, .f32⟩
  | .hbm, ⟨77, _⟩ => ⟨S4x2048x16x1, .f32⟩
  | .hbm, ⟨78, _⟩ => ⟨S4x2048x16x1, .f32⟩
  | .hbm, ⟨79, _⟩ => ⟨S_, .f32⟩
  | .hbm, ⟨80, _⟩ => ⟨S4x2048x16x1, .f32⟩
  | .hbm, ⟨81, _⟩ => ⟨S4x2048x16x1, .f32⟩
  | .hbm, ⟨82, _⟩ => ⟨S4x2048x16x1, .f32⟩
  | .hbm, ⟨83, _⟩ => ⟨S4x2048x16x128, .f32⟩
  | .hbm, ⟨84, _⟩ => ⟨S4x2048x16x128, .f32⟩
  | .hbm, ⟨85, _⟩ => ⟨S1x1x1x128, .f32⟩
  | .hbm, ⟨86, _⟩ => ⟨S4x2048x16x128, .f32⟩
  | .hbm, ⟨87, _⟩ => ⟨S4x2048x16x128, .f32⟩
  | .hbm, ⟨88, _⟩ => ⟨S_, .f32⟩
  | .hbm, ⟨89, _⟩ => ⟨S4x2048x16x128, .f32⟩
  | .hbm, ⟨90, _⟩ => ⟨S4x2048x16x128, .f32⟩
  | .hbm, ⟨91, _⟩ => ⟨S4096x2048, .bf16⟩
  | .hbm, ⟨92, _⟩ => ⟨S8192x2048, .f32⟩
  | .hbm, ⟨93, _⟩ => ⟨S8192x2048, .bf16⟩
  | .hbm, ⟨94, _⟩ => ⟨S12288x2048, .bf16⟩
  | _, _ => ⟨S12288x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Moe.lean ====
abbrev S47 : Shape := ⟨1, ![47]⟩
abbrev S1 : Shape := ⟨1, ![1]⟩
abbrev S30080 : Shape := ⟨1, ![30080]⟩
abbrev S12288x2048 : Shape := ⟨2, ![12288, 2048]⟩
abbrev S2x8x2048x14336 : Shape := ⟨4, ![2, 8, 2048, 14336]⟩
abbrev S2x8x7168x2048 : Shape := ⟨4, ![2, 8, 7168, 2048]⟩
abbrev S_ : Shape := ⟨0, ![]⟩
abbrev S47x1 : Shape := ⟨2, ![47, 1]⟩
abbrev S30080x2048 : Shape := ⟨2, ![30080, 2048]⟩
abbrev S1x1x2048x512 : Shape := ⟨4, ![1, 1, 2048, 512]⟩
abbrev S1x1x512x2048 : Shape := ⟨4, ![1, 1, 512, 2048]⟩
abbrev S640x2048 : Shape := ⟨2, ![640, 2048]⟩
abbrev S1x2048 : Shape := ⟨2, ![1, 2048]⟩
abbrev S2048x512 : Shape := ⟨2, ![2048, 512]⟩
abbrev S640x512 : Shape := ⟨2, ![640, 512]⟩
abbrev S512x2048 : Shape := ⟨2, ![512, 2048]⟩

abbrev nBuf : Space → Nat
  | .hbm => 19
  | .vmem => 9
  | .smem => 3
  | _ => 0

abbrev bufTy : (tb : Table) → Fin (tcTables nBuf tb) → BufTy
  | .hbm, ⟨0, _⟩ => ⟨S47, .i32⟩
  | .hbm, ⟨1, _⟩ => ⟨S12288x2048, .f32⟩
  | .hbm, ⟨2, _⟩ => ⟨S2x8x2048x14336, .f32⟩
  | .hbm, ⟨3, _⟩ => ⟨S2x8x7168x2048, .f32⟩
  | .hbm, ⟨4, _⟩ => ⟨S47, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S47, .i32⟩
  | .hbm, ⟨9, _⟩ => ⟨S47, .i32⟩
  | .hbm, ⟨10, _⟩ => ⟨S_, .i32⟩
  | .hbm, ⟨11, _⟩ => ⟨S47, .i32⟩
  | .hbm, ⟨12, _⟩ => ⟨S47, .i1⟩
  | .hbm, ⟨13, _⟩ => ⟨S_, .i32⟩
  | .hbm, ⟨14, _⟩ => ⟨S47, .i32⟩
  | .hbm, ⟨15, _⟩ => ⟨S47, .i32⟩
  | .hbm, ⟨16, _⟩ => ⟨S47, .i32⟩
  | .hbm, ⟨17, _⟩ => ⟨S47x1, .i32⟩
  | .hbm, ⟨18, _⟩ => ⟨S30080x2048, .f32⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x512x2048, .f32⟩
  | .local _ .vmem, ⟨5, _⟩ => ⟨S1x1x512x2048, .f32⟩
  | .local _ .vmem, ⟨6, _⟩ => ⟨S640x2048, .f32⟩
  | .local _ .vmem, ⟨7, _⟩ => ⟨S640x2048, .bf16⟩
  | .local _ .vmem, ⟨8, _⟩ => ⟨S640x2048, .f32⟩
  | .local _ .smem, ⟨0, _⟩ => ⟨S47, .i32⟩
  | .local _ .smem, ⟨1, _⟩ => ⟨S1, .i32⟩
  | .local _ .smem, ⟨2, _⟩ => ⟨S30080, .i32⟩
  | _, _ => ⟨S47, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![47, 14], ![false, false]⟩

abbrev pre0 : Pipeline.Prefetch sig := ⟨3, ![main_v11.idx, main_arg1.idx, main_arg2.idx], fun | 0 => main_v11.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
@[reducible] def k0_t1_loop : Scf.Loop 32 :=
  let c0_i32_5 : BitVec 32 := 0#32
  let c640_i32 : BitVec 32 := 640#32
  let v17 : BitVec 32 := Scalar.addi c0_i32_5 c640_i32
  let c1_i32 : BitVec 32 := 1#32
  ⟨c0_i32_5, v17, c1_i32⟩
def k0_off2 (i : grid0.Coords) (k0_t1 : Fin k0_t1_loop.trips) : Fin 1 → Nat :=
  let arg0 : BitVec 32 := BitVec.ofNat 32 (i 0).val
  let c640_i32_17 : BitVec 32 := 640#32
  let v28 : BitVec 32 := Scalar.muli arg0 c640_i32_17
  let c0_i32_5 : BitVec 32 := 0#32
  let c1_i32 : BitVec 32 := 1#32
  let arg13 : BitVec 32 := Scf.iv c0_i32_5 c1_i32 k0_t1
  let v29 : BitVec 32 := Scalar.addi v28 arg13
  let v30 : Index := Scalar.indexCast v29
  ![v30.toNat]
def k0_off3 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c0_i32_18 : BitVec 32 := 0#32
  ![arg13.toNat, 0]
def k0_off4 (v31 : BitVec 32) : Fin 2 → Nat :=
  let c0_i32_19 : BitVec 32 := 0#32
  ![v31.toNat, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_chk1 (i : grid0.Coords) (v0 : BitVec 32) (v31 : BitVec 32) : Prop :=
  (∀ (k0_h1 : k0_cond1 i v0 = 1#1), ∀ a, (k0_off4 v31) a + S1x2048.size a ≤ S12288x2048.size a)
theorem k0_off4_inb : ∀ (i : grid0.Coords) (v0 : BitVec 32) (v31 : BitVec 32) (k0_hw1 : k0_chk1 i v0 v31), ∀ (k0_h1 : k0_cond1 i v0 = 1#1), ∀ a, (k0_off4 v31) a + S1x2048.size a ≤ S12288x2048.size a := fun i v0 v31 k0_hw1 k0_h1 => k0_hw1 k0_h1

@[reducible] def k0_t2_loop : Scf.Loop 32 :=
  let c0_i32_7 : BitVec 32 := 0#32
  let c640_i32_8 : BitVec 32 := 640#32
  let v18 : BitVec 32 := Scalar.addi c0_i32_7 c640_i32_8
  let c1_i32_9 : BitVec 32 := 1#32
  ⟨c0_i32_7, v18, c1_i32_9⟩
def k0_off5 (i : grid0.Coords) (k0_t2 : Fin k0_t2_loop.trips) : Fin 1 → Nat :=
  let arg0 : BitVec 32 := BitVec.ofNat 32 (i 0).val
  let c640_i32_17 : BitVec 32 := 640#32
  let v28 : BitVec 32 := Scalar.muli arg0 c640_i32_17
  let c0_i32_7 : BitVec 32 := 0#32
  let c1_i32_9 : BitVec 32 := 1#32
  let arg13 : BitVec 32 := Scf.iv c0_i32_7 c1_i32_9 k0_t2
  let v29 : BitVec 32 := Scalar.addi v28 arg13
  let v30 : Index := Scalar.indexCast v29
  ![v30.toNat]
def k0_off6 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let c0_i32_18 : BitVec 32 := 0#32
  ![arg13.toNat, 0]
def k0_off7 (v31 : BitVec 32) : Fin 2 → Nat :=
  let c0_i32_19 : BitVec 32 := 0#32
  ![v31.toNat, 0]

def k0_chk2 (i : grid0.Coords) (v0 : BitVec 32) (v31 : BitVec 32) : Prop :=
  (∀ (k0_h1 : k0_cond1 i v0 = 1#1), ∀ a, (k0_off7 v31) a + S1x2048.size a ≤ S12288x2048.size a)
theorem k0_off7_inb : ∀ (i : grid0.Coords) (v0 : BitVec 32) (v31 : BitVec 32) (k0_hw2 : k0_chk2 i v0 v31), ∀ (k0_h1 : k0_cond1 i v0 = 1#1), ∀ a, (k0_off7 v31) a + S1x2048.size a ≤ S12288x2048.size a := fun i v0 v31 k0_hw2 k0_h1 => k0_hw2 k0_h1

def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c13_i32 : BitVec 32 := 13#32
  let v8 : BitVec 1 := Scalar.cmpi .eq arg1 c13_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c13_i32_3 : BitVec 32 := 13#32
  let v13 : BitVec 1 := Scalar.cmpi .eq arg1 c13_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![c0_i32_0.toNat, v3.toNat, c0_i32_1.toNat, v5.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c14_i32 : BitVec 32 := 14#32
  let v5 : BitVec 32 := Scalar.addi c14_i32 v4
  let c0_i32 : BitVec 32 := 0#32
  let c0_i32_0 : BitVec 32 := 0#32
  let c0_i32_1 : BitVec 32 := 0#32
  ![c0_i32.toNat, v3.toNat, c0_i32_0.toNat, v5.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c0_i32 : BitVec 32 := 0#32
  let c0_i32_0 : BitVec 32 := 0#32
  let c0_i32_1 : BitVec 32 := 0#32
  ![c0_i32.toNat, v3.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S640x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== MoeReferenceIdeal.lean ====
abbrev S47 : Shape := ⟨1, ![47]⟩
abbrev S1 : Shape := ⟨1, ![1]⟩
abbrev S30080 : Shape := ⟨1, ![30080]⟩
abbrev S12288x2048 : Shape := ⟨2, ![12288, 2048]⟩
abbrev S2x8x2048x14336 : Shape := ⟨4, ![2, 8, 2048, 14336]⟩
abbrev S2x8x7168x2048 : Shape := ⟨4, ![2, 8, 7168, 2048]⟩
abbrev S_ : Shape := ⟨0, ![]⟩
abbrev S30080x1 : Shape := ⟨2, ![30080, 1]⟩
abbrev S30080x2048 : Shape := ⟨2, ![30080, 2048]⟩
abbrev S47x640x2048 : Shape := ⟨3, ![47, 640, 2048]⟩
abbrev S1x8x2048x14336 : Shape := ⟨4, ![1, 8, 2048, 14336]⟩
abbrev S8x2048x14336 : Shape := ⟨3, ![8, 2048, 14336]⟩
abbrev S47x1 : Shape := ⟨2, ![47, 1]⟩
abbrev S47x2048x14336 : Shape := ⟨3, ![47, 2048, 14336]⟩
abbrev S47x640x14336 : Shape := ⟨3, ![47, 640, 14336]⟩
abbrev S47x640x7168 : Shape := ⟨3, ![47, 640, 7168]⟩
abbrev S1x8x7168x2048 : Shape := ⟨4, ![1, 8, 7168, 2048]⟩
abbrev S8x7168x2048 : Shape := ⟨3, ![8, 7168, 2048]⟩
abbrev S47x7168x2048 : Shape := ⟨3, ![47, 7168, 2048]⟩
abbrev S47x1x1 : Shape := ⟨3, ![47, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S47, .i32⟩
  | .hbm, ⟨1, _⟩ => ⟨S1, .i32⟩
  | .hbm, ⟨2, _⟩ => ⟨S30080, .i32⟩
  | .hbm, ⟨3, _⟩ => ⟨S12288x2048, .f32⟩
  | .hbm, ⟨4, _⟩ => ⟨S2x8x2048x14336, .f32⟩
  | .hbm, ⟨5, _⟩ => ⟨S2x8x7168x2048, .f32⟩
  | .hbm, ⟨6, _⟩ => ⟨S_, .i32⟩
  | .hbm, ⟨7, _⟩ => ⟨S30080, .i32⟩
  | .hbm, ⟨8, _⟩ => ⟨S30080, .i1⟩
  | .hbm, ⟨9, _⟩ => ⟨S_, .i32⟩
  | .hbm, ⟨10, _⟩ => ⟨S30080, .i32⟩
  | .hbm, ⟨11, _⟩ => ⟨S30080, .i32⟩
  | .hbm, ⟨12, _⟩ => ⟨S30080, .i32⟩
  | .hbm, ⟨13, _⟩ => ⟨S30080x1, .i32⟩
  | .hbm, ⟨14, _⟩ => ⟨S30080x2048, .f32⟩
  | .hbm, ⟨15, _⟩ => ⟨S47x640x2048, .f32⟩
  | .hbm, ⟨16, _⟩ => ⟨S1x8x2048x14336, .f32⟩
  | .hbm, ⟨17, _⟩ => ⟨S8x2048x14336, .f32⟩
  | .hbm, ⟨18, _⟩ => ⟨S_, .i32⟩
  | .hbm, ⟨19, _⟩ => ⟨S47, .i32⟩
  | .hbm, ⟨20, _⟩ => ⟨S47, .i1⟩
  | .hbm, ⟨21, _⟩ => ⟨S_, .i32⟩
  | .hbm, ⟨22, _⟩ => ⟨S47, .i32⟩
  | .hbm, ⟨23, _⟩ => ⟨S47, .i32⟩
  | .hbm, ⟨24, _⟩ => ⟨S47, .i32⟩
  | .hbm, ⟨25, _⟩ => ⟨S47x1, .i32⟩
  | .hbm, ⟨26, _⟩ => ⟨S47x2048x14336, .f32⟩
  | .hbm, ⟨27, _⟩ => ⟨S47x640x14336, .f32⟩
  | .hbm, ⟨28, _⟩ => ⟨S47x640x7168, .f32⟩
  | .hbm, ⟨29, _⟩ => ⟨S47x640x7168, .f32⟩
  | .hbm, ⟨30, _⟩ => ⟨S47x640x7168, .f32⟩
  | .hbm, ⟨31, _⟩ => ⟨S47x640x7168, .f32⟩
  | .hbm, ⟨32, _⟩ => ⟨S_, .f32⟩
  | .hbm, ⟨33, _⟩ => ⟨S47x640x7168, .f32⟩
  | .hbm, ⟨34, _⟩ => ⟨S47x640x7168, .f32⟩
  | .hbm, ⟨35, _⟩ => ⟨S_, .f32⟩
  | .hbm, ⟨36, _⟩ => ⟨S47x640x7168, .f32⟩
  | .hbm, ⟨37, _⟩ => ⟨S47x640x7168, .f32⟩
  | .hbm, ⟨38, _⟩ => ⟨S47x640x7168, .f32⟩
  | .hbm, ⟨39, _⟩ => ⟨S47x640x7168, .f32⟩
  | .hbm, ⟨40, _⟩ => ⟨S1x8x7168x2048, .f32⟩
  | .hbm, ⟨41, _⟩ => ⟨S8x7168x2048, .f32⟩
  | .hbm, ⟨42, _⟩ => ⟨S_, .i32⟩
  | .hbm, ⟨43, _⟩ => ⟨S47, .i32⟩
  | .hbm, ⟨44, _⟩ => ⟨S47, .i1⟩
  | .hbm, ⟨45, _⟩ => ⟨S_, .i32⟩
  | .hbm, ⟨46, _⟩ => ⟨S47, .i32⟩
  | .hbm, ⟨47, _⟩ => ⟨S47, .i32⟩
  | .hbm, ⟨48, _⟩ => ⟨S47, .i32⟩
  | .hbm, ⟨49, _⟩ => ⟨S47x1, .i32⟩
  | .hbm, ⟨50, _⟩ => ⟨S47x7168x2048, .f32⟩
  | .hbm, ⟨51, _⟩ => ⟨S47x640x2048, .f32⟩
  | .hbm, ⟨52, _⟩ => ⟨S47, .i32⟩
  | .hbm, ⟨53, _⟩ => ⟨S_, .i32⟩
  | .hbm, ⟨54, _⟩ => ⟨S47, .i32⟩
  | .hbm, ⟨55, _⟩ => ⟨S47, .i1⟩
  | .hbm, ⟨56, _⟩ => ⟨S47x1x1, .i1⟩
  | .hbm, ⟨57, _⟩ => ⟨S_, .f32⟩
  | .hbm, ⟨58, _⟩ => ⟨S_, .f32⟩
  | .hbm, ⟨59, _⟩ => ⟨S47x640x2048, .i1⟩
  | .hbm, ⟨60, _⟩ => ⟨S47x640x2048, .f32⟩
  | .hbm, ⟨61, _⟩ => ⟨S47x640x2048, .f32⟩
  | .hbm, ⟨62, _⟩ => ⟨S30080x2048, .f32⟩
  | _, _ => ⟨S47, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== MoeLast.lean ====
abbrev S47 : Shape := ⟨1, ![47]⟩
abbrev S1 : Shape := ⟨1, ![1]⟩
abbrev S30080 : Shape := ⟨1, ![30080]⟩
abbrev S12288x2048 : Shape := ⟨2, ![12288, 2048]⟩
abbrev S2x8x2048x14336 : Shape := ⟨4, ![2, 8, 2048, 14336]⟩
abbrev S2x8x7168x2048 : Shape := ⟨4, ![2, 8, 7168, 2048]⟩
abbrev S_ : Shape := ⟨0, ![]⟩
abbrev S47x1 : Shape := ⟨2, ![47, 1]⟩
abbrev S30080x2048 : Shape := ⟨2, ![30080, 2048]⟩
abbrev S1x1x2048x512 : Shape := ⟨4, ![1, 1, 2048, 512]⟩
abbrev S1x1x512x2048 : Shape := ⟨4, ![1, 1, 512, 2048]⟩
abbrev S640x2048 : Shape := ⟨2, ![640, 2048]⟩
abbrev S1x2048 : Shape := ⟨2, ![1, 2048]⟩
abbrev S2048x512 : Shape := ⟨2, ![2048, 512]⟩
abbrev S640x512 : Shape := ⟨2, ![640, 512]⟩
abbrev S512x2048 : Shape := ⟨2, ![512, 2048]⟩

abbrev nBuf : Space → Nat
  | .hbm => 19
  | .vmem => 9
  | .smem => 3
  | _ => 0

abbrev bufTy : (tb : Table) → Fin (tcTables nBuf tb) → BufTy
  | .hbm, ⟨0, _⟩ => ⟨S47, .i32⟩
  | .hbm, ⟨1, _⟩ => ⟨S12288x2048, .f32⟩
  | .hbm, ⟨2, _⟩ => ⟨S2x8x2048x14336, .f32⟩
  | .hbm, ⟨3, _⟩ => ⟨S2x8x7168x2048, .f32⟩
  | .hbm, ⟨4, _⟩ => ⟨S47, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S47, .i32⟩
  | .hbm, ⟨9, _⟩ => ⟨S47, .i32⟩
  | .hbm, ⟨10, _⟩ => ⟨S_, .i32⟩
  | .hbm, ⟨11, _⟩ => ⟨S47, .i32⟩
  | .hbm, ⟨12, _⟩ => ⟨S47, .i1⟩
  | .hbm, ⟨13, _⟩ => ⟨S_, .i32⟩
  | .hbm, ⟨14, _⟩ => ⟨S47, .i32⟩
  | .hbm, ⟨15, _⟩ => ⟨S47, .i32⟩
  | .hbm, ⟨16, _⟩ => ⟨S47, .i32⟩
  | .hbm, ⟨17, _⟩ => ⟨S47x1, .i32⟩
  | .hbm, ⟨18, _⟩ => ⟨S30080x2048, .f32⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x512x2048, .f32⟩
  | .local _ .vmem, ⟨5, _⟩ => ⟨S1x1x512x2048, .f32⟩
  | .local _ .vmem, ⟨6, _⟩ => ⟨S640x2048, .f32⟩
  | .local _ .vmem, ⟨7, _⟩ => ⟨S640x2048, .bf16⟩
  | .local _ .vmem, ⟨8, _⟩ => ⟨S640x2048, .f32⟩
  | .local _ .smem, ⟨0, _⟩ => ⟨S47, .i32⟩
  | .local _ .smem, ⟨1, _⟩ => ⟨S1, .i32⟩
  | .local _ .smem, ⟨2, _⟩ => ⟨S30080, .i32⟩
  | _, _ => ⟨S47, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![47, 14], ![false, false]⟩

abbrev pre0 : Pipeline.Prefetch sig := ⟨3, ![main_v11.idx, main_arg1.idx, main_arg2.idx], fun | 0 => main_v11.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
@[reducible] def k0_t1_loop : Scf.Loop 32 :=
  let c0_i32_5 : BitVec 32 := 0#32
  let c640_i32 : BitVec 32 := 640#32
  let v17 : BitVec 32 := Scalar.addi c0_i32_5 c640_i32
  let c1_i32 : BitVec 32 := 1#32
  ⟨c0_i32_5, v17, c1_i32⟩
def k0_off2 (i : grid0.Coords) (k0_t1 : Fin k0_t1_loop.trips) : Fin 1 → Nat :=
  let arg0 : BitVec 32 := BitVec.ofNat 32 (i 0).val
  let c640_i32_17 : BitVec 32 := 640#32
  let v28 : BitVec 32 := Scalar.muli arg0 c640_i32_17
  let c0_i32_5 : BitVec 32 := 0#32
  let c1_i32 : BitVec 32 := 1#32
  let arg13 : BitVec 32 := Scf.iv c0_i32_5 c1_i32 k0_t1
  let v29 : BitVec 32 := Scalar.addi v28 arg13
  let v30 : Index := Scalar.indexCast v29
  ![v30.toNat]
def k0_off3 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c0_i32_18 : BitVec 32 := 0#32
  ![arg13.toNat, 0]
def k0_off4 (v31 : BitVec 32) : Fin 2 → Nat :=
  let c0_i32_19 : BitVec 32 := 0#32
  ![v31.toNat, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_chk1 (i : grid0.Coords) (v0 : BitVec 32) (v31 : BitVec 32) : Prop :=
  (∀ (k0_h1 : k0_cond1 i v0 = 1#1), ∀ a, (k0_off4 v31) a + S1x2048.size a ≤ S12288x2048.size a)
theorem k0_off4_inb : ∀ (i : grid0.Coords) (v0 : BitVec 32) (v31 : BitVec 32) (k0_hw1 : k0_chk1 i v0 v31), ∀ (k0_h1 : k0_cond1 i v0 = 1#1), ∀ a, (k0_off4 v31) a + S1x2048.size a ≤ S12288x2048.size a := fun i v0 v31 k0_hw1 k0_h1 => k0_hw1 k0_h1

@[reducible] def k0_t2_loop : Scf.Loop 32 :=
  let c0_i32_7 : BitVec 32 := 0#32
  let c640_i32_8 : BitVec 32 := 640#32
  let v18 : BitVec 32 := Scalar.addi c0_i32_7 c640_i32_8
  let c1_i32_9 : BitVec 32 := 1#32
  ⟨c0_i32_7, v18, c1_i32_9⟩
def k0_off5 (i : grid0.Coords) (k0_t2 : Fin k0_t2_loop.trips) : Fin 1 → Nat :=
  let arg0 : BitVec 32 := BitVec.ofNat 32 (i 0).val
  let c640_i32_17 : BitVec 32 := 640#32
  let v28 : BitVec 32 := Scalar.muli arg0 c640_i32_17
  let c0_i32_7 : BitVec 32 := 0#32
  let c1_i32_9 : BitVec 32 := 1#32
  let arg13 : BitVec 32 := Scf.iv c0_i32_7 c1_i32_9 k0_t2
  let v29 : BitVec 32 := Scalar.addi v28 arg13
  let v30 : Index := Scalar.indexCast v29
  ![v30.toNat]
def k0_off6 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let c0_i32_18 : BitVec 32 := 0#32
  ![arg13.toNat, 0]
def k0_off7 (v31 : BitVec 32) : Fin 2 → Nat :=
  let c0_i32_19 : BitVec 32 := 0#32
  ![v31.toNat, 0]

def k0_chk2 (i : grid0.Coords) (v0 : BitVec 32) (v31 : BitVec 32) : Prop :=
  (∀ (k0_h1 : k0_cond1 i v0 = 1#1), ∀ a, (k0_off7 v31) a + S1x2048.size a ≤ S12288x2048.size a)
theorem k0_off7_inb : ∀ (i : grid0.Coords) (v0 : BitVec 32) (v31 : BitVec 32) (k0_hw2 : k0_chk2 i v0 v31), ∀ (k0_h1 : k0_cond1 i v0 = 1#1), ∀ a, (k0_off7 v31) a + S1x2048.size a ≤ S12288x2048.size a := fun i v0 v31 k0_hw2 k0_h1 => k0_hw2 k0_h1

def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c13_i32 : BitVec 32 := 13#32
  let v8 : BitVec 1 := Scalar.cmpi .eq arg1 c13_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c13_i32_3 : BitVec 32 := 13#32
  let v13 : BitVec 1 := Scalar.cmpi .eq arg1 c13_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c0_i32 : BitVec 32 := 0#32
  let v5 : BitVec 32 := Scalar.addi c0_i32 v4
  let c1_i32 : BitVec 32 := 1#32
  let c0_i32_0 : BitVec 32 := 0#32
  let c0_i32_1 : BitVec 32 := 0#32
  ![c1_i32.toNat, v3.toNat, c0_i32_0.toNat, v5.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c14_i32 : BitVec 32 := 14#32
  let v5 : BitVec 32 := Scalar.addi c14_i32 v4
  let c1_i32 : BitVec 32 := 1#32
  let c0_i32 : BitVec 32 := 0#32
  let c0_i32_0 : BitVec 32 := 0#32
  ![c1_i32.toNat, v3.toNat, c0_i32.toNat, v5.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S47.size a) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S47) ![v2.toNat] S1.size (k0_off1_inb i)) numel1_S1
  let c13_i32 : BitVec 32 := 13#32
  let v4 : BitVec 32 := Scalar.select v1 arg1 c13_i32
  let c1_i32 : BitVec 32 := 1#32
  let c0_i32 : BitVec 32 := 0#32
  let c0_i32_0 : BitVec 32 := 0#32
  ![c1_i32.toNat, v3.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S640x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== MoeLastReferenceIdeal.lean ====
abbrev S47 : Shape := ⟨1, ![47]⟩
abbrev S1 : Shape := ⟨1, ![1]⟩
abbrev S30080 : Shape := ⟨1, ![30080]⟩
abbrev S12288x2048 : Shape := ⟨2, ![12288, 2048]⟩
abbrev S2x8x2048x14336 : Shape := ⟨4, ![2, 8, 2048, 14336]⟩
abbrev S2x8x7168x2048 : Shape := ⟨4, ![2, 8, 7168, 2048]⟩
abbrev S_ : Shape := ⟨0, ![]⟩
abbrev S30080x1 : Shape := ⟨2, ![30080, 1]⟩
abbrev S30080x2048 : Shape := ⟨2, ![30080, 2048]⟩
abbrev S47x640x2048 : Shape := ⟨3, ![47, 640, 2048]⟩
abbrev S1x8x2048x14336 : Shape := ⟨4, ![1, 8, 2048, 14336]⟩
abbrev S8x2048x14336 : Shape := ⟨3, ![8, 2048, 14336]⟩
abbrev S47x1 : Shape := ⟨2, ![47, 1]⟩
abbrev S47x2048x14336 : Shape := ⟨3, ![47, 2048, 14336]⟩
abbrev S47x640x14336 : Shape := ⟨3, ![47, 640, 14336]⟩
abbrev S47x640x7168 : Shape := ⟨3, ![47, 640, 7168]⟩
abbrev S1x8x7168x2048 : Shape := ⟨4, ![1, 8, 7168, 2048]⟩
abbrev S8x7168x2048 : Shape := ⟨3, ![8, 7168, 2048]⟩
abbrev S47x7168x2048 : Shape := ⟨3, ![47, 7168, 2048]⟩
abbrev S47x1x1 : Shape := ⟨3, ![47, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S47, .i32⟩
  | .hbm, ⟨1, _⟩ => ⟨S1, .i32⟩
  | .hbm, ⟨2, _⟩ => ⟨S30080, .i32⟩
  | .hbm, ⟨3, _⟩ => ⟨S12288x2048, .f32⟩
  | .hbm, ⟨4, _⟩ => ⟨S2x8x2048x14336, .f32⟩
  | .hbm, ⟨5, _⟩ => ⟨S2x8x7168x2048, .f32⟩
  | .hbm, ⟨6, _⟩ => ⟨S_, .i32⟩
  | .hbm, ⟨7, _⟩ => ⟨S30080, .i32⟩
  | .hbm, ⟨8, _⟩ => ⟨S30080, .i1⟩
  | .hbm, ⟨9, _⟩ => ⟨S_, .i32⟩
  | .hbm, ⟨10, _⟩ => ⟨S30080, .i32⟩
  | .hbm, ⟨11, _⟩ => ⟨S30080, .i32⟩
  | .hbm, ⟨12, _⟩ => ⟨S30080, .i32⟩
  | .hbm, ⟨13, _⟩ => ⟨S30080x1, .i32⟩
  | .hbm, ⟨14, _⟩ => ⟨S30080x2048, .f32⟩
  | .hbm, ⟨15, _⟩ => ⟨S47x640x2048, .f32⟩
  | .hbm, ⟨16, _⟩ => ⟨S1x8x2048x14336, .f32⟩
  | .hbm, ⟨17, _⟩ => ⟨S8x2048x14336, .f32⟩
  | .hbm, ⟨18, _⟩ => ⟨S_, .i32⟩
  | .hbm, ⟨19, _⟩ => ⟨S47, .i32⟩
  | .hbm, ⟨20, _⟩ => ⟨S47, .i1⟩
  | .hbm, ⟨21, _⟩ => ⟨S_, .i32⟩
  | .hbm, ⟨22, _⟩ => ⟨S47, .i32⟩
  | .hbm, ⟨23, _⟩ => ⟨S47, .i32⟩
  | .hbm, ⟨24, _⟩ => ⟨S47, .i32⟩
  | .hbm, ⟨25, _⟩ => ⟨S47x1, .i32⟩
  | .hbm, ⟨26, _⟩ => ⟨S47x2048x14336, .f32⟩
  | .hbm, ⟨27, _⟩ => ⟨S47x640x14336, .f32⟩
  | .hbm, ⟨28, _⟩ => ⟨S47x640x7168, .f32⟩
  | .hbm, ⟨29, _⟩ => ⟨S47x640x7168, .f32⟩
  | .hbm, ⟨30, _⟩ => ⟨S47x640x7168, .f32⟩
  | .hbm, ⟨31, _⟩ => ⟨S47x640x7168, .f32⟩
  | .hbm, ⟨32, _⟩ => ⟨S_, .f32⟩
  | .hbm, ⟨33, _⟩ => ⟨S47x640x7168, .f32⟩
  | .hbm, ⟨34, _⟩ => ⟨S47x640x7168, .f32⟩
  | .hbm, ⟨35, _⟩ => ⟨S_, .f32⟩
  | .hbm, ⟨36, _⟩ => ⟨S47x640x7168, .f32⟩
  | .hbm, ⟨37, _⟩ => ⟨S47x640x7168, .f32⟩
  | .hbm, ⟨38, _⟩ => ⟨S47x640x7168, .f32⟩
  | .hbm, ⟨39, _⟩ => ⟨S47x640x7168, .f32⟩
  | .hbm, ⟨40, _⟩ => ⟨S1x8x7168x2048, .f32⟩
  | .hbm, ⟨41, _⟩ => ⟨S8x7168x2048, .f32⟩
  | .hbm, ⟨42, _⟩ => ⟨S_, .i32⟩
  | .hbm, ⟨43, _⟩ => ⟨S47, .i32⟩
  | .hbm, ⟨44, _⟩ => ⟨S47, .i1⟩
  | .hbm, ⟨45, _⟩ => ⟨S_, .i32⟩
  | .hbm, ⟨46, _⟩ => ⟨S47, .i32⟩
  | .hbm, ⟨47, _⟩ => ⟨S47, .i32⟩
  | .hbm, ⟨48, _⟩ => ⟨S47, .i32⟩
  | .hbm, ⟨49, _⟩ => ⟨S47x1, .i32⟩
  | .hbm, ⟨50, _⟩ => ⟨S47x7168x2048, .f32⟩
  | .hbm, ⟨51, _⟩ => ⟨S47x640x2048, .f32⟩
  | .hbm, ⟨52, _⟩ => ⟨S47, .i32⟩
  | .hbm, ⟨53, _⟩ => ⟨S_, .i32⟩
  | .hbm, ⟨54, _⟩ => ⟨S47, .i32⟩
  | .hbm, ⟨55, _⟩ => ⟨S47, .i1⟩
  | .hbm, ⟨56, _⟩ => ⟨S47x1x1, .i1⟩
  | .hbm, ⟨57, _⟩ => ⟨S_, .f32⟩
  | .hbm, ⟨58, _⟩ => ⟨S_, .f32⟩
  | .hbm, ⟨59, _⟩ => ⟨S47x640x2048, .i1⟩
  | .hbm, ⟨60, _⟩ => ⟨S47x640x2048, .f32⟩
  | .hbm, ⟨61, _⟩ => ⟨S47x640x2048, .f32⟩
  | .hbm, ⟨62, _⟩ => ⟨S30080x2048, .f32⟩
  | _, _ => ⟨S47, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Dense.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x11264 : Shape := ⟨3, ![2, 2048, 11264]⟩
abbrev S2x5632x2048 : Shape := ⟨3, ![2, 5632, 2048]⟩
abbrev S8x2048 : Shape := ⟨2, ![8, 2048]⟩
abbrev S512x2048 : Shape := ⟨2, ![512, 2048]⟩
abbrev S1x1x8x2048 : Shape := ⟨4, ![1, 1, 8, 2048]⟩
abbrev S1x2048x512 : Shape := ⟨3, ![1, 2048, 512]⟩
abbrev S1x512x2048 : Shape := ⟨3, ![1, 512, 2048]⟩
abbrev S1x2048 : Shape := ⟨2, ![1, 2048]⟩
abbrev S2048x512 : Shape := ⟨2, ![2048, 512]⟩
abbrev S512x512 : Shape := ⟨2, ![512, 512]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S12288x2048, .f32⟩
  | .hbm, ⟨1, _⟩ => ⟨S4x5x8x2048, .f32⟩
  | .hbm, ⟨2, _⟩ => ⟨S4x2x2048, .f32⟩
  | .hbm, ⟨3, _⟩ => ⟨S4x2x2048, .f32⟩
  | .hbm, ⟨4, _⟩ => ⟨S2x2048x11264, .f32⟩
  | .hbm, ⟨5, _⟩ => ⟨S2x5632x2048, .f32⟩
  | .hbm, ⟨6, _⟩ => ⟨S8x2048, .f32⟩
  | .hbm, ⟨7, _⟩ => ⟨S8x2048, .f32⟩
  | .hbm, ⟨8, _⟩ => ⟨S2x2048x11264, .bf16⟩
  | .hbm, ⟨9, _⟩ => ⟨S2x5632x2048, .bf16⟩
  | .hbm, ⟨10, _⟩ => ⟨S12288x2048, .f32⟩
  | .local _ .vmem, ⟨0, _⟩ => ⟨S512x2048, .f32⟩
  | .local _ .vmem, ⟨1, _⟩ => ⟨S512x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S8x2048, .f32⟩
  | .local _ .vmem, ⟨5, _⟩ => ⟨S8x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![24, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![c0_i32_7.toNat, v21.toNat, c0_i32_8.toNat, c0_i32_9.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseReferenceIdeal.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x11264 : Shape := ⟨3, ![2, 2048, 11264]⟩
abbrev S2x5632x2048 : Shape := ⟨3, ![2, 5632, 2048]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S_ : Shape := ⟨0, ![]⟩
abbrev S1x2048x11264 : Shape := ⟨3, ![1, 2048, 11264]⟩
abbrev S2048x11264 : Shape := ⟨2, ![2048, 11264]⟩
abbrev S12288x11264 : Shape := ⟨2, ![12288, 11264]⟩
abbrev S12288x5632 : Shape := ⟨2, ![12288, 5632]⟩
abbrev S1x5632x2048 : Shape := ⟨3, ![1, 5632, 2048]⟩
abbrev S5632x2048 : Shape := ⟨2, ![5632, 2048]⟩
abbrev S12288 : Shape := ⟨1, ![12288]⟩
abbrev S12288x1 : Shape := ⟨2, ![12288, 1]⟩

abbrev nBuf : Space → Nat
  | .hbm => 99
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S4x5x8x2048, .f32⟩
  | .hbm, ⟨2, _⟩ => ⟨S4x2x2048, .f32⟩
  | .hbm, ⟨3, _⟩ => ⟨S4x2x2048, .f32⟩
  | .hbm, ⟨4, _⟩ => ⟨S2x2048x11264, .f32⟩
  | .hbm, ⟨5, _⟩ => ⟨S2x5632x2048, .f32⟩
  | .hbm, ⟨6, _⟩ => ⟨S1x5x8x2048, .f32⟩
  | .hbm, ⟨7, _⟩ => ⟨S5x8x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S8192x2048, .f32⟩
  | .hbm, ⟨17, _⟩ => ⟨S12288x2048, .f32⟩
  | .hbm, ⟨18, _⟩ => ⟨S_, .f32⟩
  | .hbm, ⟨19, _⟩ => ⟨S12288x2048, .f32⟩
  | .hbm, ⟨20, _⟩ => ⟨S12288x2048, .f32⟩
  | .hbm, ⟨21, _⟩ => ⟨S12288x2048, .f32⟩
  | .hbm, ⟨22, _⟩ => ⟨S1x1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4x1x2048, .f32⟩
  | .hbm, ⟨27, _⟩ => ⟨S4x2048, .f32⟩
  | .hbm, ⟨28, _⟩ => ⟨S4x1x2048, .f32⟩
  | .hbm, ⟨29, _⟩ => ⟨S4x2048x2048, .f32⟩
  | .hbm, ⟨30, _⟩ => ⟨S8192x2048, .f32⟩
  | .hbm, ⟨31, _⟩ => ⟨S12288x2048, .f32⟩
  | .hbm, ⟨32, _⟩ => ⟨S12288x2048, .f32⟩
  | .hbm, ⟨33, _⟩ => ⟨S1x2048x11264, .f32⟩
  | .hbm, ⟨34, _⟩ => ⟨S2048x11264, .f32⟩
  | .hbm, ⟨35, _⟩ => ⟨S12288x11264, .f32⟩
  | .hbm, ⟨36, _⟩ => ⟨S12288x5632, .f32⟩
  | .hbm, ⟨37, _⟩ => ⟨S12288x5632, .f32⟩
  | .hbm, ⟨38, _⟩ => ⟨S12288x5632, .f32⟩
  | .hbm, ⟨39, _⟩ => ⟨S12288x5632, .f32⟩
  | .hbm, ⟨40, _⟩ => ⟨S_, .f32⟩
  | .hbm, ⟨41, _⟩ => ⟨S12288x5632, .f32⟩
  | .hbm, ⟨42, _⟩ => ⟨S12288x5632, .f32⟩
  | .hbm, ⟨43, _⟩ => ⟨S_, .f32⟩
  | .hbm, ⟨44, _⟩ => ⟨S12288x5632, .f32⟩
  | .hbm, ⟨45, _⟩ => ⟨S12288x5632, .f32⟩
  | .hbm, ⟨46, _⟩ => ⟨S12288x5632, .f32⟩
  | .hbm, ⟨47, _⟩ => ⟨S12288x5632, .f32⟩
  | .hbm, ⟨48, _⟩ => ⟨S1x5632x2048, .f32⟩
  | .hbm, ⟨49, _⟩ => ⟨S5632x2048, .f32⟩
  | .hbm, ⟨50, _⟩ => ⟨S12288x2048, .f32⟩
  | .hbm, ⟨51, _⟩ => ⟨S_, .f32⟩
  | .hbm, ⟨52, _⟩ => ⟨S12288x2048, .f32⟩
  | .hbm, ⟨53, _⟩ => ⟨S12288x2048, .f32⟩
  | .hbm, ⟨54, _⟩ => ⟨S1x1x2048, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S4x2048x2048, .f32⟩
  | .hbm, ⟨62, _⟩ => ⟨S8192x2048, .f32⟩
  | .hbm, ⟨63, _⟩ => ⟨S12288x2048, .f32⟩
  | .hbm, ⟨64, _⟩ => ⟨S12288x2048, .f32⟩
  | .hbm, ⟨65, _⟩ => ⟨S12288x2048, .f32⟩
  | .hbm, ⟨66, _⟩ => ⟨S1x1x2048, .f32⟩
  | .hbm, ⟨67, _⟩ => ⟨S2048, .f32⟩
  | .hbm, ⟨68, _⟩ => ⟨S1x1x2048, .f32⟩
  | .hbm, ⟨69, _⟩ => ⟨S2048, .f32⟩
  | .hbm, ⟨70, _⟩ => ⟨S_, .f32⟩
  | .hbm, ⟨71, _⟩ => ⟨S12288, .f32⟩
  | .hbm, ⟨72, _⟩ => ⟨S12288x1, .f32⟩
  | .hbm, ⟨73, _⟩ => ⟨S_, .f32⟩
  | .hbm, ⟨74, _⟩ => ⟨S12288x1, .f32⟩
  | .hbm, ⟨75, _⟩ => ⟨S12288x1, .f32⟩
  | .hbm, ⟨76, _⟩ => ⟨S12288x2048, .f32⟩
  | .hbm, ⟨77, _⟩ => ⟨S12288x2048, .f32⟩
  | .hbm, ⟨78, _⟩ => ⟨S12288x2048, .f32⟩
  | .hbm, ⟨79, _⟩ => ⟨S_, .f32⟩
  | .hbm, ⟨80, _⟩ => ⟨S12288, .f32⟩
  | .hbm, ⟨81, _⟩ => ⟨S12288x1, .f32⟩
  | .hbm, ⟨82, _⟩ => ⟨S_, .f32⟩
  | .hbm, ⟨83, _⟩ => ⟨S12288x1, .f32⟩
  | .hbm, ⟨84, _⟩ => ⟨S12288x1, .f32⟩
  | .hbm, ⟨85, _⟩ => ⟨S12288x2048, .f32⟩
  | .hbm, ⟨86, _⟩ => ⟨S12288x2048, .f32⟩
  | .hbm, ⟨87, _⟩ => ⟨S_, .f32⟩
  | .hbm, ⟨88, _⟩ => ⟨S12288x1, .f32⟩
  | .hbm, ⟨89, _⟩ => ⟨S12288x1, .f32⟩
  | .hbm, ⟨90, _⟩ => ⟨S12288x1, .f32⟩
  | .hbm, ⟨91, _⟩ => ⟨S12288x2048, .f32⟩
  | .hbm, ⟨92, _⟩ => ⟨S12288x2048, .f32⟩
  | .hbm, ⟨93, _⟩ => ⟨S1x2048, .f32⟩
  | .hbm, ⟨94, _⟩ => ⟨S12288x2048, .f32⟩
  | .hbm, ⟨95, _⟩ => ⟨S12288x2048, .f32⟩
  | .hbm, ⟨96, _⟩ => ⟨S1x2048, .f32⟩
  | .hbm, ⟨97, _⟩ => ⟨S12288x2048, .f32⟩
  | .hbm, ⟨98, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_1 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== DenseLast.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x11264 : Shape := ⟨3, ![2, 2048, 11264]⟩
abbrev S2x5632x2048 : Shape := ⟨3, ![2, 5632, 2048]⟩
abbrev S8x2048 : Shape := ⟨2, ![8, 2048]⟩
abbrev S512x2048 : Shape := ⟨2, ![512, 2048]⟩
abbrev S1x1x8x2048 : Shape := ⟨4, ![1, 1, 8, 2048]⟩
abbrev S1x2048x512 : Shape := ⟨3, ![1, 2048, 512]⟩
abbrev S1x512x2048 : Shape := ⟨3, ![1, 512, 2048]⟩
abbrev S1x2048 : Shape := ⟨2, ![1, 2048]⟩
abbrev S2048x512 : Shape := ⟨2, ![2048, 512]⟩
abbrev S512x512 : Shape := ⟨2, ![512, 512]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S12288x2048, .f32⟩
  | .hbm, ⟨1, _⟩ => ⟨S4x5x8x2048, .f32⟩
  | .hbm, ⟨2, _⟩ => ⟨S4x2x2048, .f32⟩
  | .hbm, ⟨3, _⟩ => ⟨S4x2x2048, .f32⟩
  | .hbm, ⟨4, _⟩ => ⟨S2x2048x11264, .f32⟩
  | .hbm, ⟨5, _⟩ => ⟨S2x5632x2048, .f32⟩
  | .hbm, ⟨6, _⟩ => ⟨S8x2048, .f32⟩
  | .hbm, ⟨7, _⟩ => ⟨S8x2048, .f32⟩
  | .hbm, ⟨8, _⟩ => ⟨S2x2048x11264, .bf16⟩
  | .hbm, ⟨9, _⟩ => ⟨S2x5632x2048, .bf16⟩
  | .hbm, ⟨10, _⟩ => ⟨S12288x2048, .f32⟩
  | .local _ .vmem, ⟨0, _⟩ => ⟨S512x2048, .f32⟩
  | .local _ .vmem, ⟨1, _⟩ => ⟨S512x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S8x2048, .f32⟩
  | .local _ .vmem, ⟨5, _⟩ => ⟨S8x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![24, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  let c0_i32_9 : BitVec 32 := 0#32
  ![c2_i32.toNat, v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseLastReferenceIdeal.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x11264 : Shape := ⟨3, ![2, 2048, 11264]⟩
abbrev S2x5632x2048 : Shape := ⟨3, ![2, 5632, 2048]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S_ : Shape := ⟨0, ![]⟩
abbrev S1x2048x11264 : Shape := ⟨3, ![1, 2048, 11264]⟩
abbrev S2048x11264 : Shape := ⟨2, ![2048, 11264]⟩
abbrev S12288x11264 : Shape := ⟨2, ![12288, 11264]⟩
abbrev S12288x5632 : Shape := ⟨2, ![12288, 5632]⟩
abbrev S1x5632x2048 : Shape := ⟨3, ![1, 5632, 2048]⟩
abbrev S5632x2048 : Shape := ⟨2, ![5632, 2048]⟩
abbrev S12288 : Shape := ⟨1, ![12288]⟩
abbrev S12288x1 : Shape := ⟨2, ![12288, 1]⟩

abbrev nBuf : Space → Nat
  | .hbm => 99
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S4x5x8x2048, .f32⟩
  | .hbm, ⟨2, _⟩ => ⟨S4x2x2048, .f32⟩
  | .hbm, ⟨3, _⟩ => ⟨S4x2x2048, .f32⟩
  | .hbm, ⟨4, _⟩ => ⟨S2x2048x11264, .f32⟩
  | .hbm, ⟨5, _⟩ => ⟨S2x5632x2048, .f32⟩
  | .hbm, ⟨6, _⟩ => ⟨S1x5x8x2048, .f32⟩
  | .hbm, ⟨7, _⟩ => ⟨S5x8x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S8192x2048, .f32⟩
  | .hbm, ⟨17, _⟩ => ⟨S12288x2048, .f32⟩
  | .hbm, ⟨18, _⟩ => ⟨S_, .f32⟩
  | .hbm, ⟨19, _⟩ => ⟨S12288x2048, .f32⟩
  | .hbm, ⟨20, _⟩ => ⟨S12288x2048, .f32⟩
  | .hbm, ⟨21, _⟩ => ⟨S12288x2048, .f32⟩
  | .hbm, ⟨22, _⟩ => ⟨S1x1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4x1x2048, .f32⟩
  | .hbm, ⟨27, _⟩ => ⟨S4x2048, .f32⟩
  | .hbm, ⟨28, _⟩ => ⟨S4x1x2048, .f32⟩
  | .hbm, ⟨29, _⟩ => ⟨S4x2048x2048, .f32⟩
  | .hbm, ⟨30, _⟩ => ⟨S8192x2048, .f32⟩
  | .hbm, ⟨31, _⟩ => ⟨S12288x2048, .f32⟩
  | .hbm, ⟨32, _⟩ => ⟨S12288x2048, .f32⟩
  | .hbm, ⟨33, _⟩ => ⟨S1x2048x11264, .f32⟩
  | .hbm, ⟨34, _⟩ => ⟨S2048x11264, .f32⟩
  | .hbm, ⟨35, _⟩ => ⟨S12288x11264, .f32⟩
  | .hbm, ⟨36, _⟩ => ⟨S12288x5632, .f32⟩
  | .hbm, ⟨37, _⟩ => ⟨S12288x5632, .f32⟩
  | .hbm, ⟨38, _⟩ => ⟨S12288x5632, .f32⟩
  | .hbm, ⟨39, _⟩ => ⟨S12288x5632, .f32⟩
  | .hbm, ⟨40, _⟩ => ⟨S_, .f32⟩
  | .hbm, ⟨41, _⟩ => ⟨S12288x5632, .f32⟩
  | .hbm, ⟨42, _⟩ => ⟨S12288x5632, .f32⟩
  | .hbm, ⟨43, _⟩ => ⟨S_, .f32⟩
  | .hbm, ⟨44, _⟩ => ⟨S12288x5632, .f32⟩
  | .hbm, ⟨45, _⟩ => ⟨S12288x5632, .f32⟩
  | .hbm, ⟨46, _⟩ => ⟨S12288x5632, .f32⟩
  | .hbm, ⟨47, _⟩ => ⟨S12288x5632, .f32⟩
  | .hbm, ⟨48, _⟩ => ⟨S1x5632x2048, .f32⟩
  | .hbm, ⟨49, _⟩ => ⟨S5632x2048, .f32⟩
  | .hbm, ⟨50, _⟩ => ⟨S12288x2048, .f32⟩
  | .hbm, ⟨51, _⟩ => ⟨S_, .f32⟩
  | .hbm, ⟨52, _⟩ => ⟨S12288x2048, .f32⟩
  | .hbm, ⟨53, _⟩ => ⟨S12288x2048, .f32⟩
  | .hbm, ⟨54, _⟩ => ⟨S1x1x2048, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S4x2048x2048, .f32⟩
  | .hbm, ⟨62, _⟩ => ⟨S8192x2048, .f32⟩
  | .hbm, ⟨63, _⟩ => ⟨S12288x2048, .f32⟩
  | .hbm, ⟨64, _⟩ => ⟨S12288x2048, .f32⟩
  | .hbm, ⟨65, _⟩ => ⟨S12288x2048, .f32⟩
  | .hbm, ⟨66, _⟩ => ⟨S1x1x2048, .f32⟩
  | .hbm, ⟨67, _⟩ => ⟨S2048, .f32⟩
  | .hbm, ⟨68, _⟩ => ⟨S1x1x2048, .f32⟩
  | .hbm, ⟨69, _⟩ => ⟨S2048, .f32⟩
  | .hbm, ⟨70, _⟩ => ⟨S_, .f32⟩
  | .hbm, ⟨71, _⟩ => ⟨S12288, .f32⟩
  | .hbm, ⟨72, _⟩ => ⟨S12288x1, .f32⟩
  | .hbm, ⟨73, _⟩ => ⟨S_, .f32⟩
  | .hbm, ⟨74, _⟩ => ⟨S12288x1, .f32⟩
  | .hbm, ⟨75, _⟩ => ⟨S12288x1, .f32⟩
  | .hbm, ⟨76, _⟩ => ⟨S12288x2048, .f32⟩
  | .hbm, ⟨77, _⟩ => ⟨S12288x2048, .f32⟩
  | .hbm, ⟨78, _⟩ => ⟨S12288x2048, .f32⟩
  | .hbm, ⟨79, _⟩ => ⟨S_, .f32⟩
  | .hbm, ⟨80, _⟩ => ⟨S12288, .f32⟩
  | .hbm, ⟨81, _⟩ => ⟨S12288x1, .f32⟩
  | .hbm, ⟨82, _⟩ => ⟨S_, .f32⟩
  | .hbm, ⟨83, _⟩ => ⟨S12288x1, .f32⟩
  | .hbm, ⟨84, _⟩ => ⟨S12288x1, .f32⟩
  | .hbm, ⟨85, _⟩ => ⟨S12288x2048, .f32⟩
  | .hbm, ⟨86, _⟩ => ⟨S12288x2048, .f32⟩
  | .hbm, ⟨87, _⟩ => ⟨S_, .f32⟩
  | .hbm, ⟨88, _⟩ => ⟨S12288x1, .f32⟩
  | .hbm, ⟨89, _⟩ => ⟨S12288x1, .f32⟩
  | .hbm, ⟨90, _⟩ => ⟨S12288x1, .f32⟩
  | .hbm, ⟨91, _⟩ => ⟨S12288x2048, .f32⟩
  | .hbm, ⟨92, _⟩ => ⟨S12288x2048, .f32⟩
  | .hbm, ⟨93, _⟩ => ⟨S1x2048, .f32⟩
  | .hbm, ⟨94, _⟩ => ⟨S12288x2048, .f32⟩
  | .hbm, ⟨95, _⟩ => ⟨S12288x2048, .f32⟩
  | .hbm, ⟨96, _⟩ => ⟨S1x2048, .f32⟩
  | .hbm, ⟨97, _⟩ => ⟨S12288x2048, .f32⟩
  | .hbm, ⟨98, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_1 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Out.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S8x2048 : Shape := ⟨2, ![8, 2048]⟩
abbrev S512x2048 : Shape := ⟨2, ![512, 2048]⟩
abbrev S1x2048x2048 : Shape := ⟨3, ![1, 2048, 2048]⟩
abbrev S1x1x8x2048 : Shape := ⟨4, ![1, 1, 8, 2048]⟩
abbrev S2048x2048 : Shape := ⟨2, ![2048, 2048]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S4x5x8x2048, .f32⟩
  | .hbm, ⟨3, _⟩ => ⟨S4x2x2048, .f32⟩
  | .hbm, ⟨4, _⟩ => ⟨S4x2x2048, .f32⟩
  | .hbm, ⟨5, _⟩ => ⟨S2x2048x2048, .f32⟩
  | .hbm, ⟨6, _⟩ => ⟨S8x2048, .f32⟩
  | .hbm, ⟨7, _⟩ => ⟨S8x2048, .f32⟩
  | .hbm, ⟨8, _⟩ => ⟨S2x2048x2048, .bf16⟩
  | .hbm, ⟨9, _⟩ => ⟨S12288x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x8x2048, .f32⟩
  | .local _ .vmem, ⟨6, _⟩ => ⟨S1x1x8x2048, .f32⟩
  | .local _ .vmem, ⟨7, _⟩ => ⟨S8x2048, .f32⟩
  | .local _ .vmem, ⟨8, _⟩ => ⟨S8x2048, .f32⟩
  | .local _ .vmem, ⟨9, _⟩ => ⟨S512x2048, .f32⟩
  | .local _ .vmem, ⟨10, _⟩ => ⟨S512x2048, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![c1_i32_7.toNat, v21.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S12288 : Shape := ⟨1, ![12288]⟩
abbrev S12288x1 : Shape := ⟨2, ![12288, 1]⟩

abbrev nBuf : Space → Nat
  | .hbm => 60
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S4x5x8x2048, .f32⟩
  | .hbm, ⟨3, _⟩ => ⟨S4x2x2048, .f32⟩
  | .hbm, ⟨4, _⟩ => ⟨S4x2x2048, .f32⟩
  | .hbm, ⟨5, _⟩ => ⟨S2x2048x2048, .f32⟩
  | .hbm, ⟨6, _⟩ => ⟨S12288x2048, .f32⟩
  | .hbm, ⟨7, _⟩ => ⟨S1x2048x2048, .f32⟩
  | .hbm, ⟨8, _⟩ => ⟨S2048x2048, .f32⟩
  | .hbm, ⟨9, _⟩ => ⟨S12288x2048, .f32⟩
  | .hbm, ⟨10, _⟩ => ⟨S_, .f32⟩
  | .hbm, ⟨11, _⟩ => ⟨S12288x2048, .f32⟩
  | .hbm, ⟨12, _⟩ => ⟨S12288x2048, .f32⟩
  | .hbm, ⟨13, _⟩ => ⟨S1x5x8x2048, .f32⟩
  | .hbm, ⟨14, _⟩ => ⟨S5x8x2048, .f32⟩
  | .hbm, ⟨15, _⟩ => ⟨S1x1x2048, .f32⟩
  | .hbm, ⟨16, _⟩ => ⟨S2048, .f32⟩
  | .hbm, ⟨17, _⟩ => ⟨S1x2048, .f32⟩
  | .hbm, ⟨18, _⟩ => ⟨S4096x2048, .f32⟩
  | .hbm, ⟨19, _⟩ => ⟨S4x1x2048, .f32⟩
  | .hbm, ⟨20, _⟩ => ⟨S4x2048, .f32⟩
  | .hbm, ⟨21, _⟩ => ⟨S4x1x2048, .f32⟩
  | .hbm, ⟨22, _⟩ => ⟨S4x2048x2048, .f32⟩
  | .hbm, ⟨23, _⟩ => ⟨S8192x2048, .f32⟩
  | .hbm, ⟨24, _⟩ => ⟨S12288x2048, .f32⟩
  | .hbm, ⟨25, _⟩ => ⟨S12288x2048, .f32⟩
  | .hbm, ⟨26, _⟩ => ⟨S12288x2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S12288, .f32⟩
  | .hbm, ⟨33, _⟩ => ⟨S12288x1, .f32⟩
  | .hbm, ⟨34, _⟩ => ⟨S_, .f32⟩
  | .hbm, ⟨35, _⟩ => ⟨S12288x1, .f32⟩
  | .hbm, ⟨36, _⟩ => ⟨S12288x1, .f32⟩
  | .hbm, ⟨37, _⟩ => ⟨S12288x2048, .f32⟩
  | .hbm, ⟨38, _⟩ => ⟨S12288x2048, .f32⟩
  | .hbm, ⟨39, _⟩ => ⟨S12288x2048, .f32⟩
  | .hbm, ⟨40, _⟩ => ⟨S_, .f32⟩
  | .hbm, ⟨41, _⟩ => ⟨S12288, .f32⟩
  | .hbm, ⟨42, _⟩ => ⟨S12288x1, .f32⟩
  | .hbm, ⟨43, _⟩ => ⟨S_, .f32⟩
  | .hbm, ⟨44, _⟩ => ⟨S12288x1, .f32⟩
  | .hbm, ⟨45, _⟩ => ⟨S12288x1, .f32⟩
  | .hbm, ⟨46, _⟩ => ⟨S12288x2048, .f32⟩
  | .hbm, ⟨47, _⟩ => ⟨S12288x2048, .f32⟩
  | .hbm, ⟨48, _⟩ => ⟨S_, .f32⟩
  | .hbm, ⟨49, _⟩ => ⟨S12288x1, .f32⟩
  | .hbm, ⟨50, _⟩ => ⟨S12288x1, .f32⟩
  | .hbm, ⟨51, _⟩ => ⟨S12288x1, .f32⟩
  | .hbm, ⟨52, _⟩ => ⟨S12288x2048, .f32⟩
  | .hbm, ⟨53, _⟩ => ⟨S12288x2048, .f32⟩
  | .hbm, ⟨54, _⟩ => ⟨S1x2048, .f32⟩
  | .hbm, ⟨55, _⟩ => ⟨S12288x2048, .f32⟩
  | .hbm, ⟨56, _⟩ => ⟨S12288x2048, .f32⟩
  | .hbm, ⟨57, _⟩ => ⟨S1x2048, .f32⟩
  | .hbm, ⟨58, _⟩ => ⟨S12288x2048, .f32⟩
  | .hbm, ⟨59, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== OutLast.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S8x2048 : Shape := ⟨2, ![8, 2048]⟩
abbrev S512x2048 : Shape := ⟨2, ![512, 2048]⟩
abbrev S1x2048x2048 : Shape := ⟨3, ![1, 2048, 2048]⟩
abbrev S1x1x8x2048 : Shape := ⟨4, ![1, 1, 8, 2048]⟩
abbrev S2048x2048 : Shape := ⟨2, ![2048, 2048]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S4x5x8x2048, .f32⟩
  | .hbm, ⟨3, _⟩ => ⟨S4x2x2048, .f32⟩
  | .hbm, ⟨4, _⟩ => ⟨S4x2x2048, .f32⟩
  | .hbm, ⟨5, _⟩ => ⟨S2x2048x2048, .f32⟩
  | .hbm, ⟨6, _⟩ => ⟨S8x2048, .f32⟩
  | .hbm, ⟨7, _⟩ => ⟨S8x2048, .f32⟩
  | .hbm, ⟨8, _⟩ => ⟨S2x2048x2048, .bf16⟩
  | .hbm, ⟨9, _⟩ => ⟨S12288x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x8x2048, .f32⟩
  | .local _ .vmem, ⟨6, _⟩ => ⟨S1x1x8x2048, .f32⟩
  | .local _ .vmem, ⟨7, _⟩ => ⟨S8x2048, .f32⟩
  | .local _ .vmem, ⟨8, _⟩ => ⟨S8x2048, .f32⟩
  | .local _ .vmem, ⟨9, _⟩ => ⟨S512x2048, .f32⟩
  | .local _ .vmem, ⟨10, _⟩ => ⟨S512x2048, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c3_i32 : BitVec 32 := 3#32
  let c0_i32_7 : BitVec 32 := 0#32
  let c0_i32_8 : BitVec 32 := 0#32
  let c0_i32_9 : BitVec 32 := 0#32
  ![c3_i32.toNat, v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutLastReferenceIdeal.lean ====
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S12288 : Shape := ⟨1, ![12288]⟩
abbrev S12288x1 : Shape := ⟨2, ![12288, 1]⟩

abbrev nBuf : Space → Nat
  | .hbm => 60
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S4x5x8x2048, .f32⟩
  | .hbm, ⟨3, _⟩ => ⟨S4x2x2048, .f32⟩
  | .hbm, ⟨4, _⟩ => ⟨S4x2x2048, .f32⟩
  | .hbm, ⟨5, _⟩ => ⟨S2x2048x2048, .f32⟩
  | .hbm, ⟨6, _⟩ => ⟨S12288x2048, .f32⟩
  | .hbm, ⟨7, _⟩ => ⟨S1x2048x2048, .f32⟩
  | .hbm, ⟨8, _⟩ => ⟨S2048x2048, .f32⟩
  | .hbm, ⟨9, _⟩ => ⟨S12288x2048, .f32⟩
  | .hbm, ⟨10, _⟩ => ⟨S_, .f32⟩
  | .hbm, ⟨11, _⟩ => ⟨S12288x2048, .f32⟩
  | .hbm, ⟨12, _⟩ => ⟨S12288x2048, .f32⟩
  | .hbm, ⟨13, _⟩ => ⟨S1x5x8x2048, .f32⟩
  | .hbm, ⟨14, _⟩ => ⟨S5x8x2048, .f32⟩
  | .hbm, ⟨15, _⟩ => ⟨S1x1x2048, .f32⟩
  | .hbm, ⟨16, _⟩ => ⟨S2048, .f32⟩
  | .hbm, ⟨17, _⟩ => ⟨S1x2048, .f32⟩
  | .hbm, ⟨18, _⟩ => ⟨S4096x2048, .f32⟩
  | .hbm, ⟨19, _⟩ => ⟨S4x1x2048, .f32⟩
  | .hbm, ⟨20, _⟩ => ⟨S4x2048, .f32⟩
  | .hbm, ⟨21, _⟩ => ⟨S4x1x2048, .f32⟩
  | .hbm, ⟨22, _⟩ => ⟨S4x2048x2048, .f32⟩
  | .hbm, ⟨23, _⟩ => ⟨S8192x2048, .f32⟩
  | .hbm, ⟨24, _⟩ => ⟨S12288x2048, .f32⟩
  | .hbm, ⟨25, _⟩ => ⟨S12288x2048, .f32⟩
  | .hbm, ⟨26, _⟩ => ⟨S12288x2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S12288, .f32⟩
  | .hbm, ⟨33, _⟩ => ⟨S12288x1, .f32⟩
  | .hbm, ⟨34, _⟩ => ⟨S_, .f32⟩
  | .hbm, ⟨35, _⟩ => ⟨S12288x1, .f32⟩
  | .hbm, ⟨36, _⟩ => ⟨S12288x1, .f32⟩
  | .hbm, ⟨37, _⟩ => ⟨S12288x2048, .f32⟩
  | .hbm, ⟨38, _⟩ => ⟨S12288x2048, .f32⟩
  | .hbm, ⟨39, _⟩ => ⟨S12288x2048, .f32⟩
  | .hbm, ⟨40, _⟩ => ⟨S_, .f32⟩
  | .hbm, ⟨41, _⟩ => ⟨S12288, .f32⟩
  | .hbm, ⟨42, _⟩ => ⟨S12288x1, .f32⟩
  | .hbm, ⟨43, _⟩ => ⟨S_, .f32⟩
  | .hbm, ⟨44, _⟩ => ⟨S12288x1, .f32⟩
  | .hbm, ⟨45, _⟩ => ⟨S12288x1, .f32⟩
  | .hbm, ⟨46, _⟩ => ⟨S12288x2048, .f32⟩
  | .hbm, ⟨47, _⟩ => ⟨S12288x2048, .f32⟩
  | .hbm, ⟨48, _⟩ => ⟨S_, .f32⟩
  | .hbm, ⟨49, _⟩ => ⟨S12288x1, .f32⟩
  | .hbm, ⟨50, _⟩ => ⟨S12288x1, .f32⟩
  | .hbm, ⟨51, _⟩ => ⟨S12288x1, .f32⟩
  | .hbm, ⟨52, _⟩ => ⟨S12288x2048, .f32⟩
  | .hbm, ⟨53, _⟩ => ⟨S12288x2048, .f32⟩
  | .hbm, ⟨54, _⟩ => ⟨S1x2048, .f32⟩
  | .hbm, ⟨55, _⟩ => ⟨S12288x2048, .f32⟩
  | .hbm, ⟨56, _⟩ => ⟨S12288x2048, .f32⟩
  | .hbm, ⟨57, _⟩ => ⟨S1x2048, .f32⟩
  | .hbm, ⟨58, _⟩ => ⟨S12288x2048, .f32⟩
  | .hbm, ⟨59, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Even.lean ====
abbrev S12288x1024 : Shape := ⟨2, ![12288, 1024]⟩
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S8x2048 : Shape := ⟨2, ![8, 2048]⟩
abbrev S512x1024 : Shape := ⟨2, ![512, 1024]⟩
abbrev S1x1024x2048 : Shape := ⟨3, ![1, 1024, 2048]⟩
abbrev S512x2048 : Shape := ⟨2, ![512, 2048]⟩
abbrev S1x1x8x2048 : Shape := ⟨4, ![1, 1, 8, 2048]⟩
abbrev S1024x2048 : Shape := ⟨2, ![1024, 2048]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S4x5x8x2048, .f32⟩
  | .hbm, ⟨4, _⟩ => ⟨S4x2x2048, .f32⟩
  | .hbm, ⟨5, _⟩ => ⟨S4x2x2048, .f32⟩
  | .hbm, ⟨6, _⟩ => ⟨S2x2048x2048, .f32⟩
  | .hbm, ⟨7, _⟩ => ⟨S8x2048, .f32⟩
  | .hbm, ⟨8, _⟩ => ⟨S8x2048, .f32⟩
  | .hbm, ⟨9, _⟩ => ⟨S2x2048x2048, .bf16⟩
  | .hbm, ⟨10, _⟩ => ⟨S12288x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x8x2048, .f32⟩
  | .local _ .vmem, ⟨9, _⟩ => ⟨S1x1x8x2048, .f32⟩
  | .local _ .vmem, ⟨10, _⟩ => ⟨S8x2048, .f32⟩
  | .local _ .vmem, ⟨11, _⟩ => ⟨S8x2048, .f32⟩
  | .local _ .vmem, ⟨12, _⟩ => ⟨S512x2048, .f32⟩
  | .local _ .vmem, ⟨13, _⟩ => ⟨S512x2048, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![c0_i32_7.toNat, v21.toNat, c0_i32_8.toNat, c0_i32_9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenReferenceIdeal.lean ====
abbrev S12288x1024 : Shape := ⟨2, ![12288, 1024]⟩
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S12288 : Shape := ⟨1, ![12288]⟩
abbrev S12288x1 : Shape := ⟨2, ![12288, 1]⟩

abbrev nBuf : Space → Nat
  | .hbm => 62
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S4x5x8x2048, .f32⟩
  | .hbm, ⟨4, _⟩ => ⟨S4x2x2048, .f32⟩
  | .hbm, ⟨5, _⟩ => ⟨S4x2x2048, .f32⟩
  | .hbm, ⟨6, _⟩ => ⟨S2x2048x2048, .f32⟩
  | .hbm, ⟨7, _⟩ => ⟨S12288x2048, .bf16⟩
  | .hbm, ⟨8, _⟩ => ⟨S12288x2048, .f32⟩
  | .hbm, ⟨9, _⟩ => ⟨S1x2048x2048, .f32⟩
  | .hbm, ⟨10, _⟩ => ⟨S2048x2048, .f32⟩
  | .hbm, ⟨11, _⟩ => ⟨S12288x2048, .f32⟩
  | .hbm, ⟨12, _⟩ => ⟨S_, .f32⟩
  | .hbm, ⟨13, _⟩ => ⟨S12288x2048, .f32⟩
  | .hbm, ⟨14, _⟩ => ⟨S12288x2048, .f32⟩
  | .hbm, ⟨15, _⟩ => ⟨S1x5x8x2048, .f32⟩
  | .hbm, ⟨16, _⟩ => ⟨S5x8x2048, .f32⟩
  | .hbm, ⟨17, _⟩ => ⟨S1x1x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4x1x2048, .f32⟩
  | .hbm, ⟨22, _⟩ => ⟨S4x2048, .f32⟩
  | .hbm, ⟨23, _⟩ => ⟨S4x1x2048, .f32⟩
  | .hbm, ⟨24, _⟩ => ⟨S4x2048x2048, .f32⟩
  | .hbm, ⟨25, _⟩ => ⟨S8192x2048, .f32⟩
  | .hbm, ⟨26, _⟩ => ⟨S12288x2048, .f32⟩
  | .hbm, ⟨27, _⟩ => ⟨S12288x2048, .f32⟩
  | .hbm, ⟨28, _⟩ => ⟨S12288x2048, .f32⟩
  | .hbm, ⟨29, _⟩ => ⟨S1x1x2048, .f32⟩
  | .hbm, ⟨30, _⟩ => ⟨S2048, .f32⟩
  | .hbm, ⟨31, _⟩ => ⟨S1x1x2048, .f32⟩
  | .hbm, ⟨32, _⟩ => ⟨S2048, .f32⟩
  | .hbm, ⟨33, _⟩ => ⟨S_, .f32⟩
  | .hbm, ⟨34, _⟩ => ⟨S12288, .f32⟩
  | .hbm, ⟨35, _⟩ => ⟨S12288x1, .f32⟩
  | .hbm, ⟨36, _⟩ => ⟨S_, .f32⟩
  | .hbm, ⟨37, _⟩ => ⟨S12288x1, .f32⟩
  | .hbm, ⟨38, _⟩ => ⟨S12288x1, .f32⟩
  | .hbm, ⟨39, _⟩ => ⟨S12288x2048, .f32⟩
  | .hbm, ⟨40, _⟩ => ⟨S12288x2048, .f32⟩
  | .hbm, ⟨41, _⟩ => ⟨S12288x2048, .f32⟩
  | .hbm, ⟨42, _⟩ => ⟨S_, .f32⟩
  | .hbm, ⟨43, _⟩ => ⟨S12288, .f32⟩
  | .hbm, ⟨44, _⟩ => ⟨S12288x1, .f32⟩
  | .hbm, ⟨45, _⟩ => ⟨S_, .f32⟩
  | .hbm, ⟨46, _⟩ => ⟨S12288x1, .f32⟩
  | .hbm, ⟨47, _⟩ => ⟨S12288x1, .f32⟩
  | .hbm, ⟨48, _⟩ => ⟨S12288x2048, .f32⟩
  | .hbm, ⟨49, _⟩ => ⟨S12288x2048, .f32⟩
  | .hbm, ⟨50, _⟩ => ⟨S_, .f32⟩
  | .hbm, ⟨51, _⟩ => ⟨S12288x1, .f32⟩
  | .hbm, ⟨52, _⟩ => ⟨S12288x1, .f32⟩
  | .hbm, ⟨53, _⟩ => ⟨S12288x1, .f32⟩
  | .hbm, ⟨54, _⟩ => ⟨S12288x2048, .f32⟩
  | .hbm, ⟨55, _⟩ => ⟨S12288x2048, .f32⟩
  | .hbm, ⟨56, _⟩ => ⟨S1x2048, .f32⟩
  | .hbm, ⟨57, _⟩ => ⟨S12288x2048, .f32⟩
  | .hbm, ⟨58, _⟩ => ⟨S12288x2048, .f32⟩
  | .hbm, ⟨59, _⟩ => ⟨S1x2048, .f32⟩
  | .hbm, ⟨60, _⟩ => ⟨S12288x2048, .f32⟩
  | .hbm, ⟨61, _⟩ => ⟨S12288x2048, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== EvenLast.lean ====
abbrev S12288x1024 : Shape := ⟨2, ![12288, 1024]⟩
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S8x2048 : Shape := ⟨2, ![8, 2048]⟩
abbrev S512x1024 : Shape := ⟨2, ![512, 1024]⟩
abbrev S1x1024x2048 : Shape := ⟨3, ![1, 1024, 2048]⟩
abbrev S512x2048 : Shape := ⟨2, ![512, 2048]⟩
abbrev S1x1x8x2048 : Shape := ⟨4, ![1, 1, 8, 2048]⟩
abbrev S1024x2048 : Shape := ⟨2, ![1024, 2048]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S4x5x8x2048, .f32⟩
  | .hbm, ⟨4, _⟩ => ⟨S4x2x2048, .f32⟩
  | .hbm, ⟨5, _⟩ => ⟨S4x2x2048, .f32⟩
  | .hbm, ⟨6, _⟩ => ⟨S2x2048x2048, .f32⟩
  | .hbm, ⟨7, _⟩ => ⟨S8x2048, .f32⟩
  | .hbm, ⟨8, _⟩ => ⟨S8x2048, .f32⟩
  | .hbm, ⟨9, _⟩ => ⟨S2x2048x2048, .bf16⟩
  | .hbm, ⟨10, _⟩ => ⟨S12288x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x8x2048, .f32⟩
  | .local _ .vmem, ⟨9, _⟩ => ⟨S1x1x8x2048, .f32⟩
  | .local _ .vmem, ⟨10, _⟩ => ⟨S8x2048, .f32⟩
  | .local _ .vmem, ⟨11, _⟩ => ⟨S8x2048, .f32⟩
  | .local _ .vmem, ⟨12, _⟩ => ⟨S512x2048, .f32⟩
  | .local _ .vmem, ⟨13, _⟩ => ⟨S512x2048, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  let c0_i32_9 : BitVec 32 := 0#32
  ![c2_i32.toNat, v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenLastReferenceIdeal.lean ====
abbrev S12288x1024 : Shape := ⟨2, ![12288, 1024]⟩
abbrev S12288x2048 : Shape := ⟨2, ![12288, 2048]⟩
abbrev S4x5x8x2048 : Shape := ⟨4, ![4, 5, 8, 2048]⟩
abbrev S4x2x2048 : Shape := ⟨3, ![4, 2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S1x5x8x2048 : Shape := ⟨4, ![1, 5, 8, 2048]⟩
abbrev S5x8x2048 : Shape := ⟨3, ![5, 8, 2048]⟩
abbrev S1x1x2048 : Shape := ⟨3, ![1, 1, 2048]⟩
abbrev S2048 : Shape := ⟨1, ![2048]⟩
abbrev S1x2048 : Shape := ⟨2, ![1, 2048]⟩
abbrev S4096x2048 : Shape := ⟨2, ![4096, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x2048 : Shape := ⟨2, ![8192, 2048]⟩
abbrev S12288 : Shape := ⟨1, ![12288]⟩
abbrev S12288x1 : Shape := ⟨2, ![12288, 1]⟩

abbrev nBuf : Space → Nat
  | .hbm => 62
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S4x5x8x2048, .f32⟩
  | .hbm, ⟨4, _⟩ => ⟨S4x2x2048, .f32⟩
  | .hbm, ⟨5, _⟩ => ⟨S4x2x2048, .f32⟩
  | .hbm, ⟨6, _⟩ => ⟨S2x2048x2048, .f32⟩
  | .hbm, ⟨7, _⟩ => ⟨S12288x2048, .bf16⟩
  | .hbm, ⟨8, _⟩ => ⟨S12288x2048, .f32⟩
  | .hbm, ⟨9, _⟩ => ⟨S1x2048x2048, .f32⟩
  | .hbm, ⟨10, _⟩ => ⟨S2048x2048, .f32⟩
  | .hbm, ⟨11, _⟩ => ⟨S12288x2048, .f32⟩
  | .hbm, ⟨12, _⟩ => ⟨S_, .f32⟩
  | .hbm, ⟨13, _⟩ => ⟨S12288x2048, .f32⟩
  | .hbm, ⟨14, _⟩ => ⟨S12288x2048, .f32⟩
  | .hbm, ⟨15, _⟩ => ⟨S1x5x8x2048, .f32⟩
  | .hbm, ⟨16, _⟩ => ⟨S5x8x2048, .f32⟩
  | .hbm, ⟨17, _⟩ => ⟨S1x1x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4x1x2048, .f32⟩
  | .hbm, ⟨22, _⟩ => ⟨S4x2048, .f32⟩
  | .hbm, ⟨23, _⟩ => ⟨S4x1x2048, .f32⟩
  | .hbm, ⟨24, _⟩ => ⟨S4x2048x2048, .f32⟩
  | .hbm, ⟨25, _⟩ => ⟨S8192x2048, .f32⟩
  | .hbm, ⟨26, _⟩ => ⟨S12288x2048, .f32⟩
  | .hbm, ⟨27, _⟩ => ⟨S12288x2048, .f32⟩
  | .hbm, ⟨28, _⟩ => ⟨S12288x2048, .f32⟩
  | .hbm, ⟨29, _⟩ => ⟨S1x1x2048, .f32⟩
  | .hbm, ⟨30, _⟩ => ⟨S2048, .f32⟩
  | .hbm, ⟨31, _⟩ => ⟨S1x1x2048, .f32⟩
  | .hbm, ⟨32, _⟩ => ⟨S2048, .f32⟩
  | .hbm, ⟨33, _⟩ => ⟨S_, .f32⟩
  | .hbm, ⟨34, _⟩ => ⟨S12288, .f32⟩
  | .hbm, ⟨35, _⟩ => ⟨S12288x1, .f32⟩
  | .hbm, ⟨36, _⟩ => ⟨S_, .f32⟩
  | .hbm, ⟨37, _⟩ => ⟨S12288x1, .f32⟩
  | .hbm, ⟨38, _⟩ => ⟨S12288x1, .f32⟩
  | .hbm, ⟨39, _⟩ => ⟨S12288x2048, .f32⟩
  | .hbm, ⟨40, _⟩ => ⟨S12288x2048, .f32⟩
  | .hbm, ⟨41, _⟩ => ⟨S12288x2048, .f32⟩
  | .hbm, ⟨42, _⟩ => ⟨S_, .f32⟩
  | .hbm, ⟨43, _⟩ => ⟨S12288, .f32⟩
  | .hbm, ⟨44, _⟩ => ⟨S12288x1, .f32⟩
  | .hbm, ⟨45, _⟩ => ⟨S_, .f32⟩
  | .hbm, ⟨46, _⟩ => ⟨S12288x1, .f32⟩
  | .hbm, ⟨47, _⟩ => ⟨S12288x1, .f32⟩
  | .hbm, ⟨48, _⟩ => ⟨S12288x2048, .f32⟩
  | .hbm, ⟨49, _⟩ => ⟨S12288x2048, .f32⟩
  | .hbm, ⟨50, _⟩ => ⟨S_, .f32⟩
  | .hbm, ⟨51, _⟩ => ⟨S12288x1, .f32⟩
  | .hbm, ⟨52, _⟩ => ⟨S12288x1, .f32⟩
  | .hbm, ⟨53, _⟩ => ⟨S12288x1, .f32⟩
  | .hbm, ⟨54, _⟩ => ⟨S12288x2048, .f32⟩
  | .hbm, ⟨55, _⟩ => ⟨S12288x2048, .f32⟩
  | .hbm, ⟨56, _⟩ => ⟨S1x2048, .f32⟩
  | .hbm, ⟨57, _⟩ => ⟨S12288x2048, .f32⟩
  | .hbm, ⟨58, _⟩ => ⟨S12288x2048, .f32⟩
  | .hbm, ⟨59, _⟩ => ⟨S1x2048, .f32⟩
  | .hbm, ⟨60, _⟩ => ⟨S12288x2048, .f32⟩
  | .hbm, ⟨61, _⟩ => ⟨S12288x2048, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== AttnLast.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S2x1x64 : Shape := ⟨3, ![2, 1, 64]⟩
abbrev S2x4x64 : Shape := ⟨3, ![2, 4, 64]⟩
abbrev S_ : Shape := ⟨0, ![]⟩
abbrev S2x8x128 : Shape := ⟨3, ![2, 8, 128]⟩
abbrev S2x1x128 : Shape := ⟨3, ![2, 1, 128]⟩
abbrev S4x2x256x2048 : Shape := ⟨4, ![4, 2, 256, 2048]⟩
abbrev S256x128 : Shape := ⟨2, ![256, 128]⟩
abbrev S2048x128 : Shape := ⟨2, ![2048, 128]⟩
abbrev S1x1x256x128 : Shape := ⟨4, ![1, 1, 256, 128]⟩
abbrev S1x8x128 : Shape := ⟨3, ![1, 8, 128]⟩
abbrev S1x1x128 : Shape := ⟨3, ![1, 1, 128]⟩
abbrev S8x128 : Shape := ⟨2, ![8, 128]⟩
abbrev S1x128 : Shape := ⟨2, ![1, 128]⟩
abbrev S1 : Shape := ⟨1, ![1]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S12288x6144, .f32⟩
  | .hbm, ⟨1, _⟩ => ⟨S4x2x256x32x64, .f32⟩
  | .hbm, ⟨2, _⟩ => ⟨S4x2x256x16x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S12288x2048, .bf16⟩
  | .hbm, ⟨9, _⟩ => ⟨S2x1x64, .f32⟩
  | .hbm, ⟨10, _⟩ => ⟨S2x1x64, .f32⟩
  | .hbm, ⟨11, _⟩ => ⟨S2x1x64, .f32⟩
  | .hbm, ⟨12, _⟩ => ⟨S2x1x64, .f32⟩
  | .hbm, ⟨13, _⟩ => ⟨S2x4x64, .f32⟩
  | .hbm, ⟨14, _⟩ => ⟨S_, .i32⟩
  | .hbm, ⟨15, _⟩ => ⟨S_, .f32⟩
  | .hbm, ⟨16, _⟩ => ⟨S2x8x128, .f32⟩
  | .hbm, ⟨17, _⟩ => ⟨S2x1x128, .f32⟩
  | .hbm, ⟨18, _⟩ => ⟨S4x2x256x2048, .f32⟩
  | .hbm, ⟨19, _⟩ => ⟨S4x2x256x2048, .f32⟩
  | .hbm, ⟨20, _⟩ => ⟨S12288x2048, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x8x128, .f32⟩
  | .local _ .vmem, ⟨11, _⟩ => ⟨S1x1x128, .f32⟩
  | .local _ .vmem, ⟨12, _⟩ => ⟨S256x128, .bf16⟩
  | .local _ .vmem, ⟨13, _⟩ => ⟨S256x128, .bf16⟩
  | _, _ => ⟨S12288x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c32_i32 : BitVec 32 := 32#32
  let v1 : BitVec 32 := Scalar.addi c32_i32 arg1
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnLastReferenceIdeal.lean ====
abbrev S12288x6144 : Shape := ⟨2, ![12288, 6144]⟩
abbrev S4x2x256x32x64 : Shape := ⟨5, ![4, 2, 256, 32, 64]⟩
abbrev S4x2x256x16x128 : Shape := ⟨5, ![4, 2, 256, 16, 128]⟩
abbrev S2x64 : Shape := ⟨2, ![2, 64]⟩
abbrev S2x128 : Shape := ⟨2, ![2, 128]⟩
abbrev S12288x2048 : Shape := ⟨2, ![12288, 2048]⟩
abbrev S8192x6144 : Shape := ⟨2, ![8192, 6144]⟩
abbrev S4x2048x6144 : Shape := ⟨3, ![4, 2048, 6144]⟩
abbrev S4x2048x2048 : Shape := ⟨3, ![4, 2048, 2048]⟩
abbrev S4x2048x32x64 : Shape := ⟨4, ![4, 2048, 32, 64]⟩
abbrev S4x2048x16x128 : Shape := ⟨4, ![4, 2048, 16, 128]⟩
abbrev S4x1x256x32x64 : Shape := ⟨5, ![4, 1, 256, 32, 64]⟩
abbrev S4x256x32x64 : Shape := ⟨4, ![4, 256, 32, 64]⟩
abbrev S4x2304x32x64 : Shape := ⟨4, ![4, 2304, 32, 64]⟩
abbrev S4x1x256x16x128 : Shape := ⟨5, ![4, 1, 256, 16, 128]⟩
abbrev S4x256x16x128 : Shape := ⟨4, ![4, 256, 16, 128]⟩
abbrev S4x2304x16x128 : Shape := ⟨4, ![4, 2304, 16, 128]⟩
abbrev S1x64 : Shape := ⟨2, ![1, 64]⟩
abbrev S64 : Shape := ⟨1, ![64]⟩
abbrev S_ : Shape := ⟨0, ![]⟩
abbrev S4x32x2048x2304 : Shape := ⟨4, ![4, 32, 2048, 2304]⟩
abbrev S4x32x2048 : Shape := ⟨3, ![4, 32, 2048]⟩
abbrev S4x32x2048x1 : Shape := ⟨4, ![4, 32, 2048, 1]⟩
abbrev S4x16x2x2048x2304 : Shape := ⟨5, ![4, 16, 2, 2048, 2304]⟩
abbrev S4x16x1x2048x2304 : Shape := ⟨5, ![4, 16, 1, 2048, 2304]⟩
abbrev S4x16x2048x2304 : Shape := ⟨4, ![4, 16, 2048, 2304]⟩
abbrev S4x16x128x2048 : Shape := ⟨4, ![4, 16, 128, 2048]⟩
abbrev S1x128 : Shape := ⟨2, ![1, 128]⟩
abbrev S128 : Shape := ⟨1, ![128]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S4096x2048 : Shape := ⟨2, ![4096, 2048]⟩
abbrev S8192x2048 : Shape := ⟨2, ![8192, 2048]⟩

abbrev nBuf : Space → Nat
  | .hbm => 95
  | .vmem => 0
  | .smem => 0
  | _ => 0

abbrev bufTy : (tb : Table) → Fin (tcTables nBuf tb) → BufTy
  | .hbm, ⟨0, _⟩ => ⟨S12288x6144, .f32⟩
  | .hbm, ⟨1, _⟩ => ⟨S4x2x256x32x64, .f32⟩
  | .hbm, ⟨2, _⟩ => ⟨S4x2x256x16x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S12288x2048, .bf16⟩
  | .hbm, ⟨9, _⟩ => ⟨S8192x6144, .f32⟩
  | .hbm, ⟨10, _⟩ => ⟨S4x2048x6144, .f32⟩
  | .hbm, ⟨11, _⟩ => ⟨S4x2048x2048, .f32⟩
  | .hbm, ⟨12, _⟩ => ⟨S4x2048x32x64, .f32⟩
  | .hbm, ⟨13, _⟩ => ⟨S4x2048x2048, .f32⟩
  | .hbm, ⟨14, _⟩ => ⟨S4x2048x32x64, .f32⟩
  | .hbm, ⟨15, _⟩ => ⟨S4x2048x2048, .f32⟩
  | .hbm, ⟨16, _⟩ => ⟨S4x2048x16x128, .f32⟩
  | .hbm, ⟨17, _⟩ => ⟨S4x1x256x32x64, .f32⟩
  | .hbm, ⟨18, _⟩ => ⟨S4x256x32x64, .f32⟩
  | .hbm, ⟨19, _⟩ => ⟨S4x2304x32x64, .f32⟩
  | .hbm, ⟨20, _⟩ => ⟨S4x1x256x16x128, .f32⟩
  | .hbm, ⟨21, _⟩ => ⟨S4x256x16x128, .f32⟩
  | .hbm, ⟨22, _⟩ => ⟨S4x2304x16x128, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x32x2048x2304, .f32⟩
  | .hbm, ⟨43, _⟩ => ⟨S_, .f32⟩
  | .hbm, ⟨44, _⟩ => ⟨S4x32x2048x2304, .f32⟩
  | .hbm, ⟨45, _⟩ => ⟨S4x32x2048x2304, .f32⟩
  | .hbm, ⟨46, _⟩ => ⟨S_, .f32⟩
  | .hbm, ⟨47, _⟩ => ⟨S4x32x2048, .f32⟩
  | .hbm, ⟨48, _⟩ => ⟨S_, .f32⟩
  | .hbm, ⟨49, _⟩ => ⟨S4x32x2048, .f32⟩
  | .hbm, ⟨50, _⟩ => ⟨S4x32x2048, .f32⟩
  | .hbm, ⟨51, _⟩ => ⟨S4x32x2048x1, .f32⟩
  | .hbm, ⟨52, _⟩ => ⟨S4x32x2048x2304, .f32⟩
  | .hbm, ⟨53, _⟩ => ⟨S4x32x2048x2304, .f32⟩
  | .hbm, ⟨54, _⟩ => ⟨S4x32x2048x2304, .f32⟩
  | .hbm, ⟨55, _⟩ => ⟨S_, .f32⟩
  | .hbm, ⟨56, _⟩ => ⟨S4x32x2048, .f32⟩
  | .hbm, ⟨57, _⟩ => ⟨S4x32x2048x1, .f32⟩
  | .hbm, ⟨58, _⟩ => ⟨S4x32x2048x2304, .f32⟩
  | .hbm, ⟨59, _⟩ => ⟨S4x32x2048x2304, .f32⟩
  | .hbm, ⟨60, _⟩ => ⟨S4x16x2x2048x2304, .f32⟩
  | .hbm, ⟨61, _⟩ => ⟨S4x16x1x2048x2304, .f32⟩
  | .hbm, ⟨62, _⟩ => ⟨S4x16x2048x2304, .f32⟩
  | .hbm, ⟨63, _⟩ => ⟨S4x16x1x2048x2304, .f32⟩
  | .hbm, ⟨64, _⟩ => ⟨S4x16x2048x2304, .f32⟩
  | .hbm, ⟨65, _⟩ => ⟨S4x16x2048x2304, .f32⟩
  | .hbm, ⟨66, _⟩ => ⟨S4x16x2048x2304, .f32⟩
  | .hbm, ⟨67, _⟩ => ⟨S4x16x2048x2304, .f32⟩
  | .hbm, ⟨68, _⟩ => ⟨S4x16x128x2048, .f32⟩
  | .hbm, ⟨69, _⟩ => ⟨S4x2048x16x128, .f32⟩
  | .hbm, ⟨70, _⟩ => ⟨S1x128, .f32⟩
  | .hbm, ⟨71, _⟩ => ⟨S128, .f32⟩
  | .hbm, ⟨72, _⟩ => ⟨S4x2048x16x128, .f32⟩
  | .hbm, ⟨73, _⟩ => ⟨S_, .f32⟩
  | .hbm, ⟨74, _⟩ => ⟨S4x2048x16, .f32⟩
  | .hbm, ⟨75, _⟩ => ⟨S4x2048x16x1, .f32⟩
  | .hbm, ⟨76, _⟩ => ⟨S_, .f32⟩
  | .hbm, ⟨77, _⟩ => ⟨S4x2048x16x1, .f32⟩
  | .hbm, ⟨78, _⟩ => ⟨S4x2048x16x1, .f32⟩
  | .hbm, ⟨79, _⟩ => ⟨S_, .f32⟩
  | .hbm, ⟨80, _⟩ => ⟨S4x2048x16x1, .f32⟩
  | .hbm, ⟨81, _⟩ => ⟨S4x2048x16x1, .f32⟩
  | .hbm, ⟨82, _⟩ => ⟨S4x2048x16x1, .f32⟩
  | .hbm, ⟨83, _⟩ => ⟨S4x2048x16x128, .f32⟩
  | .hbm, ⟨84, _⟩ => ⟨S4x2048x16x128, .f32⟩
  | .hbm, ⟨85, _⟩ => ⟨S1x1x1x128, .f32⟩
  | .hbm, ⟨86, _⟩ => ⟨S4x2048x16x128, .f32⟩
  | .hbm, ⟨87, _⟩ => ⟨S4x2048x16x128, .f32⟩
  | .hbm, ⟨88, _⟩ => ⟨S_, .f32⟩
  | .hbm, ⟨89, _⟩ => ⟨S4x2048x16x128, .f32⟩
  | .hbm, ⟨90, _⟩ => ⟨S4x2048x16x128, .f32⟩
  | .hbm, ⟨91, _⟩ => ⟨S4096x2048, .bf16⟩
  | .hbm, ⟨92, _⟩ => ⟨S8192x2048, .f32⟩
  | .hbm, ⟨93, _⟩ => ⟨S8192x2048, .bf16⟩
  | .hbm, ⟨94, _⟩ => ⟨S12288x2048, .bf16⟩
  | _, _ => ⟨S12288x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Proof.AttnMath.lean ====
module

public import Idealize.ShloMosaic.Lib.Pipeline.ValueKit
public import Idealize.ShloMosaic.PureOps.Ideal.Laws

@[expose] public section

set_option maxRecDepth 16384

noncomputable section

namespace Cert.AttnMath

open Idealize.ShloMosaic

/-- A sum over the 2304 keys is the sum over the 2048 new ones plus the sum over the 256 cached ones. -/
theorem sum_keys {M : Type} [AddCommMonoid M] (f : Fin 2304 → M) :
    ∑ x, f x = ∑ x : Fin 2048, f ⟨256 + x.val, by omega⟩ + ∑ x : Fin 256, f ⟨x.val, by omega⟩ := by
  rw [show (∑ x, f x) = ∑ x : Fin (256 + 2048), f x from rfl, Fin.sum_univ_add, add_comm]
  rfl

/-- The maximum over the 2304 keys is the larger of the two groups' maxima. -/
theorem fold_keys (b : EReal) (f : Fin 2304 → EReal) :
    Finset.fold max b f Finset.univ
      = max (Finset.fold max b (fun x : Fin 2048 => f ⟨256 + x.val, by omega⟩) Finset.univ)
          (Finset.fold max b (fun x : Fin 256 => f ⟨x.val, by omega⟩) Finset.univ) := by
  refine eq_of_forall_ge_iff fun c => ?_
  simp only [max_le_iff, Finset.fold_max_le, Finset.mem_univ, true_implies]
  constructor
  · rintro ⟨h, k⟩
    exact ⟨⟨h, fun x => k _⟩, h, fun x => k _⟩
  · rintro ⟨⟨h, k⟩, -, k'⟩
    refine ⟨h, fun x => ?_⟩
    by_cases hx : x.val < 256
    · exact k' ⟨x.val, hx⟩
    · have := k ⟨x.val - 256, by omega⟩
      simpa [show 256 + (x.val - 256) = x.val by omega] using this

/-- The maximum over a group dominates the value it starts from. -/
theorem le_fold {n : ℕ} (b : EReal) (f : Fin n → EReal) : b ≤ Finset.fold max b f Finset.univ :=
  ((Finset.fold_max_le _).mp le_rfl).1

/-- Multiplying by the reciprocal of a nonzero number is dividing by it. -/
theorem mul_recip {e d : EReal} (h : d ≠ 0) : e * Ideal.div 1 d = Ideal.div e d := by
  simp [Ideal.div, h]

/-- A finite nonnegative factor goes through a sum. -/
theorem sum_mul_const {n : ℕ} (f : Fin n → EReal) {c : EReal} (h0 : 0 ≤ c) (ht : c ≠ ⊤) :
    (∑ x, f x) * c = ∑ x, f x * c := by
  induction n with
  | zero => simp
  | succ n ih => rw [Fin.sum_univ_succ, Fin.sum_univ_succ, EReal.right_distrib_of_nonneg_of_ne_top h0 ht, ih]

/-- The 128 lanes of a head pair are two groups of 64. -/
theorem sum_lanes {M : Type} [AddCommMonoid M] (f : Fin 128 → M) :
    ∑ x, f x = ∑ x : Fin 64, f ⟨x.val, by omega⟩ + ∑ x : Fin 64, f ⟨64 + x.val, by omega⟩ := by
  rw [show (∑ x, f x) = ∑ x : Fin (64 + 64), f x from rfl, Fin.sum_univ_add]
  rfl

/-- The sum over the lanes of a pair with the second group masked: the first group's product, scaled. -/
theorem score_lo (q k : Fin 128 → EReal) {c : EReal} (h0 : 0 ≤ c) (ht : c ≠ ⊤) :
    ∑ x : Fin 128, (if x.val < 64 then q x * c else 0) * k x
      = (∑ x : Fin 64, q ⟨x.val, by omega⟩ * k ⟨x.val, by omega⟩) * c := by
  rw [sum_lanes, sum_mul_const _ h0 ht]
  have h2 : ∀ x : Fin 64, ¬ (64 + x.val < 64) := fun x => by omega
  simp only [h2, if_false, zero_mul, Finset.sum_const_zero, add_zero, Fin.is_lt, if_true]
  exact Finset.sum_congr rfl fun x _ => by rw [mul_right_comm]

/-- The same with the first group masked. -/
theorem score_hi (q k : Fin 128 → EReal) {c : EReal} (h0 : 0 ≤ c) (ht : c ≠ ⊤) :
    ∑ x : Fin 128, (if 64 ≤ x.val then q x * c else 0) * k x
      = (∑ x : Fin 64, q ⟨64 + x.val, by omega⟩ * k ⟨64 + x.val, by omega⟩) * c := by
  rw [sum_lanes, sum_mul_const _ h0 ht]
  have h2 : ∀ x : Fin 64, ¬ (64 ≤ x.val) := fun x => by omega
  simp only [h2, if_false, zero_mul, Finset.sum_const_zero, zero_add, Nat.le_add_right, if_true]
  exact Finset.sum_congr rfl fun x _ => by rw [mul_right_comm]

/-- Finite extended reals. -/
def Fin' (x : EReal) : Prop := x ≠ ⊤ ∧ x ≠ ⊥

/-- A product of finite numbers is finite. -/
theorem Fin'.mul {x y : EReal} (hx : Fin' x) (hy : Fin' y) : Fin' (x * y) := by
  lift x to ℝ using hx
  lift y to ℝ using hy
  rw [← EReal.coe_mul]
  exact ⟨EReal.coe_ne_top _, EReal.coe_ne_bot _⟩

/-- A sum of two finite numbers is finite. -/
theorem Fin'.add {x y : EReal} (hx : Fin' x) (hy : Fin' y) : Fin' (x + y) := by
  lift x to ℝ using hx
  lift y to ℝ using hy
  rw [← EReal.coe_add]
  exact ⟨EReal.coe_ne_top _, EReal.coe_ne_bot _⟩

/-- A sum of finite numbers is finite. -/
theorem Fin'.sum {n : ℕ} (f : Fin n → EReal) (h : ∀ x, Fin' (f x)) : Fin' (∑ x, f x) := by
  induction n with
  | zero => simp [Fin']
  | succ n ih => rw [Fin.sum_univ_succ]; exact (h 0).add (ih _ fun x => h _)

/-- The bits of the least float. -/
theorem bits_bot : Ideal.ofBits .f32 0xFF800000#32 = ⊥ := by simp [Ideal.ofBits, Ideal.ieee]

/-- The bits of infinity. -/
theorem bits_top : Ideal.ofBits .f32 0x7F800000#32 = ⊤ := by simp [Ideal.ofBits, Ideal.ieee]

/-- The factor on the scores is a real number, at least zero. -/
theorem bits_scale : 0 ≤ Ideal.ofBits .f32 0x3E000000#32 ∧ Fin' (Ideal.ofBits .f32 0x3E000000#32) := by
  have h : Ideal.ofBits .f32 0x3E000000#32 = ((1 / 8 : ℝ) : EReal) := by
    have h1 : ((1 / 67108864 : ℝ)) * 8388608 = 1 / 8 := by norm_num
    rw [← h1, mul_comm, EReal.coe_mul]
    simp [Ideal.ofBits, Ideal.ieee]
    norm_num
  rw [h]
  exact ⟨EReal.coe_nonneg.mpr (by norm_num), EReal.coe_ne_top _, EReal.coe_ne_bot _⟩

/-- An exponential is not negative. -/
theorem exp_nonneg (x : EReal) : 0 ≤ Ideal.exp x := by
  induction x using EReal.rec with
  | bot => simp
  | top => simp
  | coe r => simp [Real.exp_nonneg, EReal.coe_nonneg]

/-- The sum of the exponentials of finite scores less a number that is one of them is not zero. -/
theorem den_ne_zero {n : ℕ} (u : Fin n → EReal) (m : EReal) (hu : ∀ x, Fin' (u x)) (hm : ∃ x, u x = m) :
    ∑ x, Ideal.exp (u x - m) ≠ 0 := by
  obtain ⟨x, rfl⟩ := hm
  have h1 : Ideal.exp (u x - u x) = 1 := by
    have := hu x
    rw [EReal.sub_self this.1 this.2]
    simpa using Ideal.exp_coe 0
  have h2 : Ideal.exp (u x - u x) ≤ ∑ y, Ideal.exp (u y - u x) :=
    Finset.single_le_sum (f := fun y => Ideal.exp (u y - u x)) (fun y _ => exp_nonneg _) (Finset.mem_univ x)
  rw [h1] at h2
  intro h
  rw [h] at h2
  exact absurd h2 (by simp)

/-- A maximum started from the least element is attained. -/
theorem fold_attained {n : ℕ} (hn : 0 < n) (u : Fin n → EReal) : ∃ x, u x = Finset.fold max ⊥ u Finset.univ := by
  haveI : Nonempty (Fin n) := ⟨⟨0, hn⟩⟩
  obtain ⟨x, -, hx⟩ := Finset.exists_max_image (Finset.univ : Finset (Fin n)) u Finset.univ_nonempty
  refine ⟨x, le_antisymm ?_ ?_⟩
  · exact ((Finset.fold_max_le _).mp le_rfl).2 x (Finset.mem_univ x)
  · exact (Finset.fold_max_le _).mpr ⟨bot_le, fun y _ => hx y (Finset.mem_univ y)⟩

/-- The largest of the new and the cached scores. -/
def top (t : Fin 2048 → EReal) (s : Fin 256 → EReal) : EReal :=
  max (Finset.fold max ⊥ t Finset.univ) (Finset.fold max ⊥ s Finset.univ)

/-- The reciprocal of the sum of both groups' exponentials. -/
def inv (t : Fin 2048 → EReal) (s : Fin 256 → EReal) : EReal :=
  Ideal.div 1 (∑ x, Ideal.exp (t x - top t s) + ∑ x, Ideal.exp (s x - top t s))

/-- The softmax over all keys, as the reference takes it. -/
def soft (u : Fin 2304 → EReal) (c : Fin 2304) : EReal :=
  Ideal.div (Ideal.exp (u c - max ⊥ (Finset.fold max ⊥ u Finset.univ)))
    (∑ x, Ideal.exp (u x - max ⊥ (Finset.fold max ⊥ u Finset.univ)))

/-- The softmax over all keys is the exponential less the larger maximum, times the reciprocal of the sum of both groups. -/
theorem soft_eq (u : Fin 2304 → EReal) (hu : ∀ x, Fin' (u x)) (c : Fin 2304) :
    soft u c = Ideal.exp (u c - top (fun x => u ⟨256 + x.val, by omega⟩) (fun x => u ⟨x.val, by omega⟩))
      * inv (fun x => u ⟨256 + x.val, by omega⟩) (fun x => u ⟨x.val, by omega⟩) := by
  have hd := den_ne_zero u _ hu (fold_attained (by norm_num) u)
  unfold soft inv
  rw [max_eq_right bot_le, ← mul_recip hd, sum_keys, show Finset.fold max ⊥ u Finset.univ = top (fun x => u ⟨256 + x.val, by omega⟩) (fun x => u ⟨x.val, by omega⟩) from fold_keys ⊥ u]

end Cert.AttnMath

end
-- ==== Proof.AttnPre.lean ====
module

public import proofs.«01_k».proof.Pre_finite_scores
public import proofs.«01_k».proof.Proof.Gen.Pre_finite_scores
public import proofs.«01_k».proof.Proof.AttnMath
public import Idealize.ShloMosaic.Lib.ReduceAll
public import Idealize.ShloMosaic.Lib.Pipeline.ValueKit

@[expose] public section

noncomputable section

namespace Cert.Pre_finite_scores.Attn

open Cert.Pre_finite_scores Idealize.ShloMosaic
open Cert.AttnMath (Fin')

/-- Where the comparison with infinity answers true, the number is finite. -/
theorem finite_of_lt {x : EReal} (h : Ideal.cmp .olt (max x (-x)) (Ideal.ofBits .f32 0x7F800000#32) = 1#1) : Fin' x := by
  rw [Cert.AttnMath.bits_top] at h
  have h' : max x (-x) < ⊤ := by
    by_contra hn
    simp [Ideal.cmp, hn] at h
  refine ⟨fun e => ?_, fun e => ?_⟩ <;> simp [e] at h'

/-- The comparison the precondition makes of a projected number. -/
theorem cmp_at2 (x : FVec Ideal S12288x6144 .f32) (h1) (h2) (r : Fin 8192) (k : Fin 4096) :
    cmpf .olt (Host.absf (extractStridedSlice S8192x4096 ![4096, 0] x h1)) (broadcastInDim S8192x4096 ![] h2 (constant (F := Ideal) S_ .f32 0x7F800000#32)) (ix2 r k)
      = Ideal.cmp .olt (max (x (ix2 ⟨4096 + r.val, by omega⟩ ⟨k.val, by omega⟩)) (-(x (ix2 ⟨4096 + r.val, by omega⟩ ⟨k.val, by omega⟩)))) (Ideal.ofBits .f32 0x7F800000#32) := by
  pointwise []
  rfl

/-- The comparison it makes of a cached key. -/
theorem cmp_at4 (x : FVec Ideal S4x2x256x32x64 .f32) (h1) (h2) (h3) (b : Fin 4) (r : Fin 256) (H : Fin 32) (d : Fin 64) :
    cmpf .olt (Host.absf (shapeCast S4x256x32x64 (extractStridedSlice S4x1x256x32x64 ![0, 0, 0, 0, 0] x h1) h3)) (broadcastInDim S4x256x32x64 ![] h2 (constant (F := Ideal) S_ .f32 0x7F800000#32)) (ix4 b r H d)
      = Ideal.cmp .olt (max (x (ix5 b 0 r H d)) (-(x (ix5 b 0 r H d)))) (Ideal.ofBits .f32 0x7F800000#32) := by
  pointwise []
  rfl

/-- The precondition read: the queries, the new keys and the cached keys of the layer are finite. -/
theorem finite (x0 : FVec Ideal S12288x6144 .f32) (x1 : FVec Ideal S4x2x256x32x64 .f32) (x2 : FVec Ideal S4x2x256x16x128 .f32)
    (x3 x4 x5 x6 : FVec Ideal S2x64 .f32) (x7 : FVec Ideal S2x128 .f32) (x8 : FVec Ideal S12288x2048 .bf16)
    (hp : fn (F := Ideal) x0 x1 x2 x3 x4 x5 x6 x7 x8 = fun _ => 1#1) :
    (∀ (r : Fin 8192) (k : Fin 4096), Fin' (x0 (ix2 ⟨4096 + r.val, by omega⟩ ⟨k.val, by omega⟩)))
      ∧ ∀ (b : Fin 4) (r : Fin 256) (H : Fin 32) (d : Fin 64), Fin' (x1 (ix5 b 0 r H d)) := by
  have h : ∀ a b : BitVec 1, IntOp.andi a b = 1#1 → a = 1#1 ∧ b = 1#1 := by decide
  haveI : Subsingleton S_.Idx := ⟨fun a b => funext fun k => k.elim0⟩
  obtain ⟨ha, hb⟩ := h _ _ (congrFun hp ix0)
  refine ⟨fun r k => finite_of_lt ?_, fun b r H d => finite_of_lt ?_⟩
  · rw [← cmp_at2 x0 Facts.slices_S12288x6144_S8192x4096_4096_0 Facts.bcast_S_S8192x4096]
    exact Host.reduce_andi_all _ _ _ _ _ ha _
  · rw [← cmp_at4 x1 Facts.slices_S4x2x256x32x64_S4x1x256x32x64_0_0_0_0_0 Facts.bcast_S_S4x256x32x64 Facts.shapeCasts_S4x1x256x32x64_S4x256x32x64]
    exact Host.reduce_andi_all _ _ _ _ _ hb _

end Cert.Pre_finite_scores.Attn
end
end
-- ==== Proof.AttnPay.lean ====
module

public import proofs.«01_k».proof.Proof.Gen.KernelIdeal.Frame
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The scores of a head against the new keys: a product over the 128 lanes. -/
theorem pay16_at (a : FVec Ideal S256x128 .bf16) (b : FVec Ideal S2048x128 .bf16) (r : Fin 256) (x : Fin 2048) :
    k0_pay16 a b (ix2 r x) = ∑ k : Fin 128, a (ix2 r k) * b (ix2 x k) := by
  pointwise [k0_pay16]
/-- The scores of a head against the cached keys. -/
theorem pay17_at (a : FVec Ideal S256x128 .bf16) (b : FVec Ideal S256x128 .bf16) (r : Fin 256) (x : Fin 256) :
    k0_pay17 a b (ix2 r x) = ∑ k : Fin 128, a (ix2 r k) * b (ix2 x k) := by
  pointwise [k0_pay17]
/-- The largest score of a row over both groups of keys. -/
theorem pay18_at (a : FVec Ideal S256x128 .bf16) (b : FVec Ideal S2048x128 .bf16) (c : FVec Ideal S256x128 .bf16) (r : Fin 256) :
    k0_pay18 a b c (ix2 r 0) = max (Finset.fold max (Ideal.ofBits FTy.f32 0xFF800000#32) (fun x => k0_pay16 a b (ix2 r x)) Finset.univ)
      (Finset.fold max (Ideal.ofBits FTy.f32 0xFF800000#32) (fun x => k0_pay17 a c (ix2 r x)) Finset.univ) := by
  pointwise [k0_pay18]
/-- The exponentials of the cached keys' scores. -/
theorem pay19_at (a : FVec Ideal S256x128 .bf16) (b : FVec Ideal S2048x128 .bf16) (c : FVec Ideal S256x128 .bf16) (r : Fin 256) (x : Fin 256) :
    k0_pay19 a b c (ix2 r x) = Ideal.exp (k0_pay17 a c (ix2 r x) - k0_pay18 a b c (ix2 r 0)) := by
  pointwise [k0_pay19]
/-- The exponentials of the new keys' scores. -/
theorem pay20_at (a : FVec Ideal S256x128 .bf16) (b : FVec Ideal S2048x128 .bf16) (c : FVec Ideal S256x128 .bf16) (r : Fin 256) (x : Fin 2048) :
    k0_pay20 a b c (ix2 r x) = Ideal.exp (k0_pay16 a b (ix2 r x) - k0_pay18 a b c (ix2 r 0)) := by
  pointwise [k0_pay20]
/-- The reciprocal of a row's sum over both groups. -/
theorem pay21_at (a : FVec Ideal S256x128 .bf16) (b : FVec Ideal S2048x128 .bf16) (c : FVec Ideal S256x128 .bf16) (r : Fin 256) :
    k0_pay21 a b c (ix2 r 0) = Ideal.div 1 (∑ x : Fin 2048, k0_pay20 a b c (ix2 r x) + ∑ x : Fin 256, k0_pay19 a b c (ix2 r x)) := by
  pointwise [k0_pay21]
/-- The probabilities of the new keys. -/
theorem pay22_at (a : FVec Ideal S256x128 .bf16) (b : FVec Ideal S2048x128 .bf16) (c : FVec Ideal S256x128 .bf16) (r : Fin 256) (x : Fin 2048) :
    k0_pay22 a b c (ix2 r x) = k0_pay20 a b c (ix2 r x) * k0_pay21 a b c (ix2 r 0) := by
  pointwise [k0_pay22]
/-- The probabilities of the cached keys. -/
theorem pay23_at (a : FVec Ideal S256x128 .bf16) (b : FVec Ideal S2048x128 .bf16) (c : FVec Ideal S256x128 .bf16) (r : Fin 256) (x : Fin 256) :
    k0_pay23 a b c (ix2 r x) = k0_pay19 a b c (ix2 r x) * k0_pay21 a b c (ix2 r 0) := by
  pointwise [k0_pay23]
/-- The first head's queries: scaled, the second head's lanes zero. -/
theorem pay4_at (a : Vec Ideal S256x128 .f32) (r : Fin 256) (x : Fin 128) :
    k0_pay4 (F := Ideal) a (ix2 r x) = if x.val < 64 then a (ix2 r x) * Ideal.ofBits FTy.f32 0x3E000000#32 else (0 : EReal) := by
  pointwise [k0_pay4, k0_pay3]
  have h : IntOp.cmpi CmpIPredicate.slt (BitVec.ofNat 32 x.val) 64#32 = if x.val < 64 then 1#1 else 0#1 :=
    (by decide +kernel : ∀ v : Fin 128, IntOp.cmpi CmpIPredicate.slt (BitVec.ofNat 32 v.val) 64#32 = if v.val < 64 then 1#1 else 0#1) x
  rw [h]
  split <;> rfl
/-- The second head's queries. -/
theorem pay5_at (a : Vec Ideal S256x128 .f32) (r : Fin 256) (x : Fin 128) :
    k0_pay5 (F := Ideal) a (ix2 r x) = if 64 ≤ x.val then a (ix2 r x) * Ideal.ofBits FTy.f32 0x3E000000#32 else (0 : EReal) := by
  pointwise [k0_pay5, k0_pay3]
  have h : IntOp.cmpi CmpIPredicate.sge (BitVec.ofNat 32 x.val) 64#32 = if 64 ≤ x.val then 1#1 else 0#1 :=
    (by decide +kernel : ∀ v : Fin 128, IntOp.cmpi CmpIPredicate.sge (BitVec.ofNat 32 v.val) 64#32 = if 64 ≤ v.val then 1#1 else 0#1) x
  rw [h]
  split <;> rfl
/-- The keys as they are. -/
theorem pay6_at (a : Vec Ideal S2048x128 .f32)  (j) :
    k0_pay6 (F := Ideal) a j = a j := by
  pointwise [k0_pay6]
/-- The cached keys as they are. -/
theorem pay7_at (a : Vec Ideal S1x1x256x128 .f32) (r : Fin 256) (x : Fin 128) :
    k0_pay7 (F := Ideal) a (ix2 r x) = a (ix4 0 0 r x) := by
  pointwise [k0_pay7]
/-- The factor on the second head, from the four rows of its weights. -/
theorem pay2_at (a : Vec Ideal S1x8x128 .f32) :
    k0_pay2 (F := Ideal) a (ix2 0 0) = Ideal.exp (∑ x : Fin 128, a (ix3 0 0 x) * a (ix3 0 1 x)) - Ideal.exp (∑ x : Fin 128, a (ix3 0 2 x) * a (ix3 0 3 x)) +
      Ideal.ofBits FTy.f32 1052116297#32 := by
  pointwise [k0_pay2]
/-- What a point stores: the difference of the two heads against the values, its norm and factors. -/
theorem pay1_at (l : FVec Ideal S1x1 .f32) (p : FVec Ideal S256x2048 .f32) (pc : FVec Ideal S256x256 .f32) (q : FVec Ideal S256x2048 .f32) (qc : FVec Ideal S256x256 .f32)
    (v : Vec Ideal S2048x128 .f32) (vc : Vec Ideal S1x1x256x128 .f32) (g : Vec Ideal S1x1x128 .f32) (r : Fin 256) (y : Fin 128) (o : Fin 128 → EReal)
    (ho : ∀ e : Fin 128, o e = ∑ x : Fin 2048, (p (ix2 r x) - l (ix2 0 0) * q (ix2 r x)) * v (ix2 x e) +
            ∑ x : Fin 256, (pc (ix2 r x) - l (ix2 0 0) * qc (ix2 r x)) * vc (ix4 0 0 x e)) :
    k0_pay1 (F := Ideal) l p pc q qc v vc g (ix2 r y) = o y * Ideal.rsqrt (Ideal.div (∑ e, o e * o e) (Ideal.ofBits FTy.f32 1124073472#32) + Ideal.ofBits FTy.f32 897988541#32)
      * g (ix3 0 0 y) * Ideal.ofBits FTy.f32 1059388764#32 := by
  rw [show (∑ e, o e * o e) = ∑ e, (∑ x : Fin 2048, (p (ix2 r x) - l (ix2 0 0) * q (ix2 r x)) * v (ix2 x e) +
            ∑ x : Fin 256, (pc (ix2 r x) - l (ix2 0 0) * qc (ix2 r x)) * vc (ix4 0 0 x e)) * (∑ x : Fin 2048, (p (ix2 r x) - l (ix2 0 0) * q (ix2 r x)) * v (ix2 x e) +
            ∑ x : Fin 256, (pc (ix2 r x) - l (ix2 0 0) * qc (ix2 r x)) * vc (ix4 0 0 x e)) from
      Finset.sum_congr rfl fun e _ => by rw [ho e], ho y]
  pointwise [k0_pay1]
/-- The first head's probabilities are the same term as the second's, over the new keys. -/
theorem eq14 (q : Vec Ideal S256x128 .f32) (k : Vec Ideal S2048x128 .f32) (c : FVec Ideal S256x128 .bf16) : k0_pay14 (F := Ideal) (k0_pay4 q) c (k0_pay8 q k) = k0_pay22 (k0_pay4 q) (k0_pay6 k) c := rfl
/-- The same over the cached keys. -/
theorem eq15 (q : Vec Ideal S256x128 .f32) (k : Vec Ideal S2048x128 .f32) (c : FVec Ideal S256x128 .bf16) : k0_pay15 (F := Ideal) (k0_pay4 q) c (k0_pay8 q k) = k0_pay23 (k0_pay4 q) (k0_pay6 k) c := rfl
/-- Where each window's block sits at each point. -/
theorem idx : ∀ t : Fin cfg0.N, win0_0.index t = ![16 + (grid0.coords t 0).val * 8 + (grid0.coords t 2).val, (grid0.coords t 1).val] ∧ win0_1.index t = ![2 + (grid0.coords t 0).val, 16 + (grid0.coords t 1).val]
   ∧ win0_2.index t = ![2 + (grid0.coords t 0).val, 32 + (grid0.coords t 1).val] ∧ win0_3.index t = ![(grid0.coords t 0).val, 0, 0, (grid0.coords t 1).val]  ∧ win0_4.index t = ![(grid0.coords t 0).val, 0, 0, (grid0.coords t 1).val] ∧ win0_5.index t = ![0, 0, 0] ∧ win0_6.index t = ![0, 0, 0] ∧ win0_7.index t = ![16 + (grid0.coords t 0).val * 8 + (grid0.coords t 2).val, (grid0.coords t 1).val] :=
  (by decide +kernel : ∀ t : Fin grid0.N, _)

variable (m : (ℓ : Loc nD τ sig) → Buf (Elt Ideal) ℓ)

/-- The rows of weights the call is given: four rows stacked and padded by zeros. -/
def lamT (x3 x4 x5 x6 : FVec Ideal S2x64 .f32) : FVec Ideal S2x8x128 .f32 :=
  pad S2x8x128 ![0, 0, 0] ![0, 4, 64] ![0, 0, 0]
    (concatenate S2x4x64 1 [⟨S2x1x64, broadcastInDim S2x1x64 ![0, 2] bcast_S2x64_S2x1x64_0_2 x3⟩,
      ⟨S2x1x64, broadcastInDim S2x1x64 ![0, 2] bcast_S2x64_S2x1x64_0_2 x4⟩,
      ⟨S2x1x64, broadcastInDim S2x1x64 ![0, 2] bcast_S2x64_S2x1x64_0_2 x5⟩,
      ⟨S2x1x64, broadcastInDim S2x1x64 ![0, 2] bcast_S2x64_S2x1x64_0_2 x6⟩] concatenates_S2x1x64_S2x1x64_S2x1x64_S2x1x64_S2x4x64_d1)
    (sitofp .f32 (constantI S_ 32 0#32)) pads_S2x4x64_S2x8x128_000_040_0640 h_S_

/-! What the host prepares for the call. -/

/-- The stacked rows of weights. -/
theorem v5_read (c : Dev nD) : V m c main_v5 = lamT (m ((c : Thread nD τ).loc main_arg3)) (m ((c : Thread nD τ).loc main_arg4)) (m ((c : Thread nD τ).loc main_arg5)) (m ((c : Thread nD τ).loc main_arg6)) := by
  unfold V; simp only [hostOps0, hostOps0_1, hostOps0_2, List.flatten_cons, List.flatten_nil, List.append_nil, List.cons_append, List.nil_append]; after_results; rfl
/-- The norm's weights. -/
theorem v6_read (c : Dev nD) : V m c main_v6 = shapeCast S2x1x128 (show FVec Ideal S2x128 .f32 from m ((c : Thread nD τ).loc main_arg7)) shapeCasts_S2x128_S2x1x128 := by
  unfold V; simp only [hostOps0, hostOps0_1, hostOps0_2, List.flatten_cons, List.flatten_nil, List.append_nil, List.cons_append, List.nil_append]; after_results; rfl
/-- The cached keys. -/
theorem v7_read (c : Dev nD) : V m c main_v7 = shapeCast S4x2x256x2048 (show FVec Ideal S4x2x256x32x64 .f32 from m ((c : Thread nD τ).loc main_arg1)) shapeCasts_S4x2x256x32x64_S4x2x256x2048 := by
  unfold V; simp only [hostOps0, hostOps0_1, hostOps0_2, List.flatten_cons, List.flatten_nil, List.append_nil, List.cons_append, List.nil_append]; after_results; rfl
/-- The cached values. -/
theorem v8_read (c : Dev nD) : V m c main_v8 = shapeCast S4x2x256x2048 (show FVec Ideal S4x2x256x16x128 .f32 from m ((c : Thread nD τ).loc main_arg2)) shapeCasts_S4x2x256x16x128_S4x2x256x2048 := by
  unfold V; simp only [hostOps0, hostOps0_1, hostOps0_2, List.flatten_cons, List.flatten_nil, List.append_nil, List.cons_append, List.nil_append]; after_results; rfl
/-- The array whose rows the call replaces. -/
theorem v9_read (c : Dev nD) : V m c main_v9 = m ((c : Thread nD τ).loc main_arg8) := by
  unfold V; simp only [hostOps0, hostOps0_1, hostOps0_2, List.flatten_cons, List.flatten_nil, List.append_nil, List.cons_append, List.nil_append]; after_results; rfl

/-- The stacked rows at an index. -/
theorem lam_at (x3 x4 x5 x6 : FVec Ideal S2x64 .f32) (r : Fin 8) (x : Fin 128) : lamT x3 x4 x5 x6 (ix3 0 r x)
    = if h : r.val < 4 ∧ x.val < 64 then
        (if r.val < 1 then x3 (ix2 0 ⟨x.val, h.2⟩) else if r.val - 1 < 1 then x4 (ix2 0 ⟨x.val, h.2⟩)
          else if r.val - 1 - 1 < 1 then x5 (ix2 0 ⟨x.val, h.2⟩) else x6 (ix2 0 ⟨x.val, h.2⟩))
      else (0 : EReal) := by
  pointwise [lamT]
  have h0 : FloatOps.sitofp (F := Ideal) FTy.f32 (0#32) = (0 : EReal) := by
    show ((((0#32 : BitVec 32).toInt : ℝ)) : EReal) = 0
    simp
  split
  · split
    · rfl
    · split
      · rfl
      · split <;> rfl
  · exact h0
/-- The cached keys of the layer at an index. -/
theorem ck_at (x1 : FVec Ideal S4x2x256x32x64 .f32) (b : Fin 4) (r : Fin 256) (x : Fin 2048) : shapeCast S4x2x256x2048 x1 shapeCasts_S4x2x256x32x64_S4x2x256x2048 (ix4 b 0 r x)
    = x1 (ix5 b 0 r ⟨x.val / 64, by omega⟩ ⟨x.val % 64, by omega⟩) := by
  pointwise []
/-- The cached values of the layer at an index. -/
theorem cv_at (x2 : FVec Ideal S4x2x256x16x128 .f32) (b : Fin 4) (r : Fin 256) (x : Fin 2048) : shapeCast S4x2x256x2048 x2 shapeCasts_S4x2x256x16x128_S4x2x256x2048 (ix4 b 0 r x)
    = x2 (ix5 b 0 r ⟨x.val / 128, by omega⟩ ⟨x.val % 128, by omega⟩) := by
  pointwise []
/-- The norm's weights of the layer at an index. -/
theorem g_at (x7 : FVec Ideal S2x128 .f32) (x : Fin 128) : shapeCast S2x1x128 x7 shapeCasts_S2x128_S2x1x128 (ix3 0 0 x)
    = x7 (ix2 0 x) := by
  pointwise []

end Cert.KernelIdeal.Attn
end
-- ==== Proof.AttnRef.lean ====
module

public import proofs.«01_k».proof.Proof.Gen.ReferenceIdeal.Read
public import Idealize.ShloMosaic.Lib.Pipeline.ValueKit
public import proofs.«01_k».proof.Proof.AttnMath

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem

variable (x0 : FVec Ideal S12288x6144 .f32) (x1 : FVec Ideal S4x2x256x32x64 .f32) (x2 : FVec Ideal S4x2x256x16x128 .f32) (x3 x4 x5 x6 : FVec Ideal S2x64 .f32) (x7 : FVec Ideal S2x128 .f32) (x8 : FVec Ideal S12288x2048 .bf16)

section
variable {F : FTy → Type} [FloatOps F]

/-- the largest score of each row -/
def rowMaxT (y : FVec F S4x32x2048x2304 .f32) : FVec F S4x32x2048 .f32 :=
  have cst_3 : FVec F S_ .f32 := constant S_ .f32 0xFF800000#32
  have v33 : FVec F S4x32x2048 .f32 := Host.reduce FloatOps.maximumf y cst_3 reducesTo_S4x32x2048x2304_S4x32x2048_d3 h_S_
  v33

/-- that maximum against the least float, as the reference writes it -/
def capT (v33 : FVec F S4x32x2048 .f32) : FVec F S4x32x2048 .f32 :=
  have cst_4 : FVec F S_ .f32 := constant S_ .f32 0xFF800000#32
  have v34 : FVec F S4x32x2048 .f32 := broadcastInDim S4x32x2048 ![] bcast_S_S4x32x2048 cst_4
  have v35 : FVec F S4x32x2048 .f32 := maximumf v34 v33
  v35

/-- the exponential of each score less its row's largest -/
def expT (y : FVec F S4x32x2048x2304 .f32) (v35 : FVec F S4x32x2048 .f32) : FVec F S4x32x2048x2304 .f32 :=
  have v36 : FVec F S4x32x2048x1 .f32 := broadcastInDim S4x32x2048x1 ![0, 1, 2] bcast_S4x32x2048_S4x32x2048x1_0_1_2 v35
  have v37 : FVec F S4x32x2048x2304 .f32 := broadcastInDim S4x32x2048x2304 ![0, 1, 2, 3] bcast_S4x32x2048x1_S4x32x2048x2304_0_1_2_3 v36
  have v38 : FVec F S4x32x2048x2304 .f32 := subf y v37
  have v39 : FVec F S4x32x2048x2304 .f32 := Host.exp v38
  v39

/-- the sum of each row of exponentials -/
def sumT (v39 : FVec F S4x32x2048x2304 .f32) : FVec F S4x32x2048 .f32 :=
  have cst_5 : FVec F S_ .f32 := constant S_ .f32 0x00000000#32
  have v40 : FVec F S4x32x2048 .f32 := Host.reduceAdd v39 cst_5 reducesTo_S4x32x2048x2304_S4x32x2048_d3 h_S_
  v40

/-- each exponential over its row's sum -/
def quotT (v39 : FVec F S4x32x2048x2304 .f32) (v40 : FVec F S4x32x2048 .f32) : FVec F S4x32x2048x2304 .f32 :=
  have v41 : FVec F S4x32x2048x1 .f32 := broadcastInDim S4x32x2048x1 ![0, 1, 2] bcast_S4x32x2048_S4x32x2048x1_0_1_2 v40
  have v42 : FVec F S4x32x2048x2304 .f32 := broadcastInDim S4x32x2048x2304 ![0, 1, 2, 3] bcast_S4x32x2048x1_S4x32x2048x2304_0_1_2_3 v41
  have v43 : FVec F S4x32x2048x2304 .f32 := Host.divf v39 v42
  v43

/-- the difference of the two attentions against the values, rows first -/
def attT (p : FVec F S4x32x2048x2304 .f32) (v : FVec F S4x2304x16x128 .f32) (lam : FVec F S_ .f32) : FVec F S4x2048x16x128 .f32 :=
  have v44 : FVec F S4x16x2x2048x2304 .f32 := shapeCast _ p shapeCasts_S4x32x2048x2304_S4x16x2x2048x2304
  have v45 : FVec F S4x16x1x2048x2304 .f32 := extractStridedSlice S4x16x1x2048x2304 ![0, 0, 0, 0, 0] v44 slices_S4x16x2x2048x2304_S4x16x1x2048x2304_0_0_0_0_0
  have v46 : FVec F S4x16x2048x2304 .f32 := shapeCast _ v45 shapeCasts_S4x16x1x2048x2304_S4x16x2048x2304
  have v47 : FVec F S4x16x1x2048x2304 .f32 := extractStridedSlice S4x16x1x2048x2304 ![0, 0, 1, 0, 0] v44 slices_S4x16x2x2048x2304_S4x16x1x2048x2304_0_0_1_0_0
  have v48 : FVec F S4x16x2048x2304 .f32 := shapeCast _ v47 shapeCasts_S4x16x1x2048x2304_S4x16x2048x2304
  have v49 : FVec F S4x16x2048x2304 .f32 := broadcastInDim S4x16x2048x2304 ![] bcast_S_S4x16x2048x2304 lam
  have v50 : FVec F S4x16x2048x2304 .f32 := mulf v49 v48
  have v51 : FVec F S4x16x2048x2304 .f32 := subf v46 v50
  have v52 : FVec F S4x16x128x2048 .f32 := Host.dotGeneral dot_S4x2304x16x128_S4x16x2048x2304_S4x16x128x2048_1_3_3_2_02_01 none v v51
  have v53 : FVec F S4x2048x16x128 .f32 := transpose S4x2048x16x128 [0, 3, 1, 2] v52 transposes_S4x16x128x2048_S4x2048x16x128_0_3_1_2
  v53

/-- the root-mean-square norm of each head, its weight and the output factor -/
def normT (o : FVec F S4x2048x16x128 .f32) (x7 : FVec F S2x128 .f32) : FVec F S4x2048x16x128 .f32 :=
  have v54 : FVec F S1x128 .f32 := extractStridedSlice S1x128 ![0, 0] (x7) slices_S2x128_S1x128_0_0
  have v55 : FVec F S128 .f32 := shapeCast _ v54 shapeCasts_S1x128_S128
  have v56 : FVec F S4x2048x16x128 .f32 := mulf o o
  have cst_6 : FVec F S_ .f32 := constant S_ .f32 0x00000000#32
  have v57 : FVec F S4x2048x16 .f32 := Host.reduceAdd v56 cst_6 reducesTo_S4x2048x16x128_S4x2048x16_d3 h_S_
  have v58 : FVec F S4x2048x16x1 .f32 := broadcastInDim S4x2048x16x1 ![0, 1, 2] bcast_S4x2048x16_S4x2048x16x1_0_1_2 v57
  have cst_7 : FVec F S_ .f32 := constant S_ .f32 0x43000000#32
  have v59 : FVec F S4x2048x16x1 .f32 := broadcastInDim S4x2048x16x1 ![] bcast_S_S4x2048x16x1 cst_7
  have v60 : FVec F S4x2048x16x1 .f32 := Host.divf v58 v59
  have cst_8 : FVec F S_ .f32 := constant S_ .f32 0x358637BD#32
  have v61 : FVec F S4x2048x16x1 .f32 := broadcastInDim S4x2048x16x1 ![] bcast_S_S4x2048x16x1 cst_8
  have v62 : FVec F S4x2048x16x1 .f32 := addf v60 v61
  have v63 : FVec F S4x2048x16x1 .f32 := Host.rsqrt v62
  have v64 : FVec F S4x2048x16x128 .f32 := broadcastInDim S4x2048x16x128 ![0, 1, 2, 3] bcast_S4x2048x16x1_S4x2048x16x128_0_1_2_3 v63
  have v65 : FVec F S4x2048x16x128 .f32 := mulf o v64
  have v66 : FVec F S1x1x1x128 .f32 := broadcastInDim S1x1x1x128 ![3] bcast_S128_S1x1x1x128_3 v55
  have v67 : FVec F S4x2048x16x128 .f32 := broadcastInDim S4x2048x16x128 ![0, 1, 2, 3] bcast_S1x1x1x128_S4x2048x16x128_0_1_2_3 v66
  have v68 : FVec F S4x2048x16x128 .f32 := mulf v65 v67
  have cst_9 : FVec F S_ .f32 := constant S_ .f32 0x3F24FD5C#32
  have v69 : FVec F S4x2048x16x128 .f32 := broadcastInDim S4x2048x16x128 ![] bcast_S_S4x2048x16x128 cst_9
  have v70 : FVec F S4x2048x16x128 .f32 := mulf v68 v69
  v70

/-- the prompt rows as they were, then the latent tokens' rows -/
def outT (o : FVec F S4x2048x16x128 .f32) (x8 : FVec F S12288x2048 .bf16) : FVec F S12288x2048 .bf16 :=
  have v71 : FVec F S4096x2048 .bf16 := extractStridedSlice S4096x2048 ![0, 0] (x8) slices_S12288x2048_S4096x2048_0_0
  have v72 : FVec F S8192x2048 .f32 := shapeCast _ o shapeCasts_S4x2048x16x128_S8192x2048
  have v73 : FVec F S8192x2048 .bf16 := truncf .bf16 v72 bitsLt_bf16_f32
  have v74 : FVec F S12288x2048 .bf16 := concatenate S12288x2048 0 [⟨S4096x2048, v71⟩, ⟨S8192x2048, v73⟩] concatenates_S4096x2048_S8192x2048_S12288x2048_d0
  v74
end

/-! The reference's stages, as the small terms above over the stage before. -/

/-- The row maxima. -/
theorem v35_eq : val_main_v35 (F := Ideal) x0 x1 = capT (F := Ideal) (rowMaxT (F := Ideal) (val_main_v32 (F := Ideal) x0 x1)) := rfl
/-- The exponentials. -/
theorem v39_eq : val_main_v39 (F := Ideal) x0 x1 = expT (F := Ideal) (val_main_v32 (F := Ideal) x0 x1) (val_main_v35 (F := Ideal) x0 x1) := rfl
/-- The probabilities. -/
theorem v43_eq : val_main_v43 (F := Ideal) x0 x1 = quotT (F := Ideal) (val_main_v39 (F := Ideal) x0 x1) (sumT (F := Ideal) (val_main_v39 (F := Ideal) x0 x1)) := rfl
/-- The difference of the two heads against the values. -/
theorem v53_eq : val_main_v53 (F := Ideal) x0 x1 x2 x3 x4 x5 x6 = attT (F := Ideal) (val_main_v43 (F := Ideal) x0 x1) (val_main_v13 (F := Ideal) x0 x2) (val_main_v29 (F := Ideal) x3 x4 x5 x6) := rfl
/-- Its norm and factors. -/
theorem v70_eq : val_main_v70 (F := Ideal) x0 x1 x2 x3 x4 x5 x6 x7 = normT (F := Ideal) (val_main_v53 (F := Ideal) x0 x1 x2 x3 x4 x5 x6) x7 := rfl
/-- The result: the sampled rows replaced. -/
theorem v74_eq : val_main_v74 (F := Ideal) x0 x1 x2 x3 x4 x5 x6 x7 x8 = outT (F := Ideal) (val_main_v70 (F := Ideal) x0 x1 x2 x3 x4 x5 x6 x7) x8 := rfl

/-- A row's largest score. -/
theorem rowMax_at (y : FVec Ideal S4x32x2048x2304 .f32) (b : Fin 4) (H : Fin 32) (r : Fin 2048) :
    rowMaxT y (ix3 b H r) = Finset.fold max (Ideal.ofBits FTy.f32 0xFF800000#32) (fun x => y (ix4 b H r x)) Finset.univ := by
  pointwise [rowMaxT]
/-- The maximum with minus infinity. -/
theorem cap_at (y : FVec Ideal S4x32x2048 .f32) (j : S4x32x2048.Idx) : capT y j = max (Ideal.ofBits FTy.f32 0xFF800000#32) (y j) := by
  pointwise [capT]
/-- An exponential at an index. -/
theorem exp_at (y : FVec Ideal S4x32x2048x2304 .f32) (z : FVec Ideal S4x32x2048 .f32) (b : Fin 4) (H : Fin 32) (r : Fin 2048) (x : Fin 2304) :
    expT y z (ix4 b H r x) = Ideal.exp (y (ix4 b H r x) - z (ix3 b H r)) := by
  pointwise [expT]
/-- A row's sum. -/
theorem sum_at (y : FVec Ideal S4x32x2048x2304 .f32) (b : Fin 4) (H : Fin 32) (r : Fin 2048) : sumT y (ix3 b H r) = ∑ x : Fin 2304, y (ix4 b H r x) := by
  pointwise [sumT]
/-- A probability at an index. -/
theorem quot_at (y : FVec Ideal S4x32x2048x2304 .f32) (z : FVec Ideal S4x32x2048 .f32) (b : Fin 4) (H : Fin 32) (r : Fin 2048) (x : Fin 2304) :
    quotT y z (ix4 b H r x) = Ideal.div (y (ix4 b H r x)) (z (ix3 b H r)) := by
  pointwise [quotT]

/-- The reference's probabilities: the softmax of a row of scores. -/
theorem v43_at (b : Fin 4) (H : Fin 32) (r : Fin 2048) (x : Fin 2304) :
    val_main_v43 (F := Ideal) x0 x1 (ix4 b H r x) = Cert.AttnMath.soft (fun x => val_main_v32 (F := Ideal) x0 x1 (ix4 b H r x)) x := by
  rw [v43_eq, quot_at, sum_at, v39_eq]
  simp only [exp_at, v35_eq, cap_at, rowMax_at, Cert.AttnMath.bits_bot]
  rfl

/-- The reference's scores. -/
theorem v32_at (b : Fin 4) (H : Fin 32) (r : Fin 2048) (x : Fin 2304) : val_main_v32 (F := Ideal) x0 x1 (ix4 b H r x)
    = (∑ d : Fin 64, x0 (ix2 ⟨4096 + (b.val * 2048 + r.val), by omega⟩ ⟨H.val * 64 + d.val, by omega⟩) * val_main_v10 (F := Ideal) x0 x1 (ix4 b x H d))
      * Ideal.ofBits FTy.f32 0x3E000000#32 := by
  pointwise [val_main_v32, val_main_v31, val_main_cst_2, val_main_v30, val_main_v3, val_main_v2, val_main_v1, val_main_v0]

/-- The keys of a sequence: the cache, then the new ones. -/
theorem v10_at (b : Fin 4) (H : Fin 32) (x : Fin 2304) (d : Fin 64) : val_main_v10 (F := Ideal) x0 x1 (ix4 b x H d)
    = if h : x.val < 256 then x1 (ix5 b 0 ⟨x.val, h⟩ H d)
      else x0 (ix2 ⟨4096 + (b.val * 2048 + (x.val - 256)), by omega⟩ ⟨2048 + (H.val * 64 + d.val), by omega⟩) := by
  pointwise [val_main_v10, val_main_v9, val_main_v8, val_main_v5, val_main_v4, val_main_v1, val_main_v0]

/-- The cached keys come first. -/
theorem v10_old (b : Fin 4) (H : Fin 32) (x : Fin 256) (d : Fin 64) : val_main_v10 (F := Ideal) x0 x1 (ix4 b ⟨x.val, by omega⟩ H d)
    = x1 (ix5 b 0 x H d) := by
  rw [v10_at, dif_pos x.isLt]
/-- Then the new ones. -/
theorem v10_new (b : Fin 4) (H : Fin 32) (x : Fin 2048) (d : Fin 64) : val_main_v10 (F := Ideal) x0 x1 (ix4 b ⟨256 + x.val, by omega⟩ H d)
    = x0 (ix2 ⟨4096 + (b.val * 2048 + x.val), by omega⟩ ⟨2048 + (H.val * 64 + d.val), by omega⟩) := by
  rw [v10_at, dif_neg (show ¬ (256 + x.val < 256) by omega)]
  congr 3
  simp

/-- The values of a sequence: the cache, then the new ones. -/
theorem v13_at (b : Fin 4) (h : Fin 16) (x : Fin 2304) (e : Fin 128) : val_main_v13 (F := Ideal) x0 x2 (ix4 b x h e)
    = if hx : x.val < 256 then x2 (ix5 b 0 ⟨x.val, hx⟩ h e)
      else x0 (ix2 ⟨4096 + (b.val * 2048 + (x.val - 256)), by omega⟩ ⟨4096 + (h.val * 128 + e.val), by omega⟩) := by
  pointwise [val_main_v13, val_main_v12, val_main_v11, val_main_v7, val_main_v6, val_main_v1, val_main_v0]
/-- The cached values come first. -/
theorem v13_old (b : Fin 4) (h : Fin 16) (x : Fin 256) (e : Fin 128) : val_main_v13 (F := Ideal) x0 x2 (ix4 b ⟨x.val, by omega⟩ h e)
    = x2 (ix5 b 0 x h e) := by
  rw [v13_at, dif_pos x.isLt]
/-- Then the new ones. -/
theorem v13_new (b : Fin 4) (h : Fin 16) (x : Fin 2048) (e : Fin 128) : val_main_v13 (F := Ideal) x0 x2 (ix4 b ⟨256 + x.val, by omega⟩ h e)
    = x0 (ix2 ⟨4096 + (b.val * 2048 + x.val), by omega⟩ ⟨4096 + (h.val * 128 + e.val), by omega⟩) := by
  rw [v13_at, dif_neg (show ¬ (256 + x.val < 256) by omega)]
  congr 3
  simp

/-- The factor on the second head. -/
theorem v29_at : val_main_v29 (F := Ideal) x3 x4 x5 x6 ix0 = Ideal.exp (∑ x : Fin 64, x3 (ix2 0 x) * x4 (ix2 0 x)) - Ideal.exp (∑ x : Fin 64, x5 (ix2 0 x) * x6 (ix2 0 x)) +
      Ideal.ofBits FTy.f32 1052116297#32 := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_1, val_main_cst, val_main_cst_0]

/-- Head `2h` less the factor times head `2h+1`, against the values. -/
theorem att_at (p : FVec Ideal S4x32x2048x2304 .f32) (v : FVec Ideal S4x2304x16x128 .f32) (lam : FVec Ideal S_ .f32) (b : Fin 4) (r : Fin 2048) (h : Fin 16) (e : Fin 128) :
    attT p v lam (ix4 b r h e) = ∑ x : Fin 2304, v (ix4 b x h e) *
        (p (ix4 b ⟨h.val * 2, by omega⟩ r x) - lam ix0 * p (ix4 b ⟨h.val * 2 + 1, by omega⟩ r x)) := by
  pointwise [attT]
/-- The norm over a head's 128 numbers. -/
theorem norm_at (o : FVec Ideal S4x2048x16x128 .f32) (x7 : FVec Ideal S2x128 .f32) (b : Fin 4) (r : Fin 2048) (h : Fin 16) (e : Fin 128) :
    normT o x7 (ix4 b r h e) = o (ix4 b r h e) * Ideal.rsqrt
            (Ideal.div (∑ x : Fin 128, o (ix4 b r h x) * o (ix4 b r h x))
                (Ideal.ofBits FTy.f32 1124073472#32) + Ideal.ofBits FTy.f32 897988541#32) * x7 (ix2 0 e) * Ideal.ofBits FTy.f32 1059388764#32 := by
  pointwise [normT]
/-- The first 4096 rows are the given ones. -/
theorem out_at (o : FVec Ideal S4x2048x16x128 .f32) (i : Fin 12288) (k : Fin 2048) : outT o x8 (ix2 i k)
    = if i.val < 4096 then x8 (ix2 i k)
      else o (ix4 ⟨(i.val - 4096) / 2048, by omega⟩ ⟨(i.val - 4096) % 2048, by omega⟩ ⟨k.val / 128, by omega⟩ ⟨k.val % 128, by omega⟩) := by
  pointwise [outT]
  split <;> rfl
end Cert.ReferenceIdeal.Attn
end
end
-- ==== Proof.AttnValue.lean ====
module

public import proofs.«01_k».proof.Proof.AttnPay
public import proofs.«01_k».proof.Proof.AttnRef

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.AttnMath
open Cert.ReferenceIdeal.Read (val_main_v32 val_main_v43 val_main_v53 val_main_v70 val_main_v74 val_main_v13 val_main_v29)
open Cert.ReferenceIdeal.Attn (v32_at v43_at v10_old v10_new v13_old v13_new v29_at v53_eq v70_eq v74_eq att_at norm_at out_at)

/-- Where the two products of a row are the two parts of one row `u` of finite scores, the kernel's
    probabilities are the softmax of `u`. -/
theorem probs (a : FVec Ideal S256x128 .bf16) (K : FVec Ideal S2048x128 .bf16) (C : FVec Ideal S256x128 .bf16) (r : Fin 256)
    (u : Fin 2304 → EReal) (hu : ∀ x, Fin' (u x))
    (hn : ∀ x : Fin 2048, k0_pay16 a K (ix2 r x) = u ⟨256 + x.val, by omega⟩)
    (ho : ∀ x : Fin 256, k0_pay17 a C (ix2 r x) = u ⟨x.val, by omega⟩) :
    (∀ x : Fin 2048, k0_pay22 a K C (ix2 r x) = soft u ⟨256 + x.val, by omega⟩)
      ∧ ∀ x : Fin 256, k0_pay23 a K C (ix2 r x) = soft u ⟨x.val, by omega⟩ := by
  have h18 : k0_pay18 a K C (ix2 r 0) = top (fun x => u ⟨256 + x.val, by omega⟩) (fun x => u ⟨x.val, by omega⟩) := by
    rw [pay18_at, bits_bot]
    unfold top
    congr 1
    · congr 1; funext x; exact hn x
    · congr 1; funext x; exact ho x
  have h21 : k0_pay21 a K C (ix2 r 0) = AttnMath.inv (fun x => u ⟨256 + x.val, by omega⟩) (fun x => u ⟨x.val, by omega⟩) := by
    have e1 : ∑ x, k0_pay20 a K C (ix2 r x) = ∑ x : Fin 2048, Ideal.exp (u ⟨256 + x.val, by omega⟩ - top (fun x => u ⟨256 + x.val, by omega⟩) (fun x => u ⟨x.val, by omega⟩)) :=
      Finset.sum_congr rfl fun x _ => by rw [pay20_at, h18, hn]
    have e2 : ∑ x, k0_pay19 a K C (ix2 r x) = ∑ x : Fin 256, Ideal.exp (u ⟨x.val, by omega⟩ - top (fun x => u ⟨256 + x.val, by omega⟩) (fun x => u ⟨x.val, by omega⟩)) :=
      Finset.sum_congr rfl fun x _ => by rw [pay19_at, h18, ho]
    rw [pay21_at, e1, e2]
    rfl
  exact ⟨fun x => by rw [pay22_at, pay20_at, h18, h21, hn, soft_eq u hu],
    fun x => by rw [pay23_at, pay19_at, h18, h21, ho, soft_eq u hu]⟩

section
variable (x0 : FVec Ideal S12288x6144 .f32) (x1 : FVec Ideal S4x2x256x32x64 .f32) (x2 : FVec Ideal S4x2x256x16x128 .f32)
  (x3 x4 x5 x6 : FVec Ideal S2x64 .f32) (x7 : FVec Ideal S2x128 .f32) (x8 : FVec Ideal S12288x2048 .bf16)

/-- The finiteness of what the scores are taken from. -/
def Finite : Prop := (∀ (r : Fin 8192) (k : Fin 4096), Fin' (x0 (ix2 ⟨4096 + r.val, by omega⟩ ⟨k.val, by omega⟩)))
      ∧ ∀ (b : Fin 4) (r : Fin 256) (H : Fin 32) (d : Fin 64), Fin' (x1 (ix5 b 0 r H d))

/-- A score against a cached key. -/
theorem u_old (b : Fin 4) (H : Fin 32) (r : Fin 2048) (x : Fin 256) : val_main_v32 (F := Ideal) x0 x1 (ix4 b H r ⟨x.val, by omega⟩)
    = (∑ d : Fin 64, x0 (ix2 ⟨4096 + (b.val * 2048 + r.val), by omega⟩ ⟨H.val * 64 + d.val, by omega⟩) * x1 (ix5 b 0 x H d)) * Ideal.ofBits FTy.f32 0x3E000000#32 := by
  rw [v32_at]
  simp only [v10_old]
/-- A score against a new key. -/
theorem u_new (b : Fin 4) (H : Fin 32) (r : Fin 2048) (x : Fin 2048) : val_main_v32 (F := Ideal) x0 x1 (ix4 b H r ⟨256 + x.val, by omega⟩)
    = (∑ d : Fin 64, x0 (ix2 ⟨4096 + (b.val * 2048 + r.val), by omega⟩ ⟨H.val * 64 + d.val, by omega⟩)
        * x0 (ix2 ⟨4096 + (b.val * 2048 + x.val), by omega⟩ ⟨2048 + (H.val * 64 + d.val), by omega⟩)) * Ideal.ofBits FTy.f32 0x3E000000#32 := by
  rw [v32_at]
  simp only [v10_new]

/-- The scores are finite. -/
theorem u_finite (hf : Finite x0 x1) (b : Fin 4) (H : Fin 32) (r : Fin 2048) (x : Fin 2304) : Fin' (val_main_v32 (F := Ideal) x0 x1 (ix4 b H r x)) := by
  rcases Nat.lt_or_ge x.val 256 with h | h
  · refine (show Fin' (val_main_v32 (F := Ideal) x0 x1 (ix4 b H r ⟨(⟨x.val, h⟩ : Fin 256).val, by omega⟩)) from ?_)
    rw [u_old]
    exact (Fin'.sum _ fun d => (hf.1 ⟨b.val * 2048 + r.val, by omega⟩ ⟨H.val * 64 + d.val, by omega⟩).mul (hf.2 b _ H d)).mul bits_scale.2
  · have e : x = ⟨256 + (⟨x.val - 256, by omega⟩ : Fin 2048).val, by omega⟩ := Fin.ext (by simp; omega)
    rw [e, u_new]
    exact (Fin'.sum _ fun d => (hf.1 ⟨b.val * 2048 + r.val, by omega⟩ ⟨H.val * 64 + d.val, by omega⟩).mul
      (hf.1 ⟨b.val * 2048 + (x.val - 256), by omega⟩ ⟨2048 + (H.val * 64 + d.val), by omega⟩)).mul bits_scale.2

/-- One point's block: what the body stores from its blocks is the reference's normalised attention. -/
theorem tile (b : Fin 4) (h : Fin 16) (i : Fin 8) (q : Vec Ideal S256x128 .f32) (k v : Vec Ideal S2048x128 .f32)
    (kc vc : Vec Ideal S1x1x256x128 .f32) (l : Vec Ideal S1x8x128 .f32) (g : Vec Ideal S1x1x128 .f32) (hf : Finite x0 x1)
    (hq : ∀ (r : Fin 256) (x : Fin 128), q (ix2 r x) = x0 (ix2 ⟨4096 + (b.val * 2048 + (i.val * 256 + r.val)), by omega⟩ ⟨h.val * 128 + x.val, by omega⟩))
    (hk : ∀ (r : Fin 2048) (x : Fin 128), k (ix2 r x) = x0 (ix2 ⟨4096 + (b.val * 2048 + r.val), by omega⟩ ⟨2048 + (h.val * 128 + x.val), by omega⟩))
    (hv : ∀ (r : Fin 2048) (x : Fin 128), v (ix2 r x) = x0 (ix2 ⟨4096 + (b.val * 2048 + r.val), by omega⟩ ⟨4096 + (h.val * 128 + x.val), by omega⟩))
    (hkc : ∀ (r : Fin 256) (x : Fin 128), kc (ix4 0 0 r x) = x1 (ix5 b 0 r ⟨(h.val * 128 + x.val) / 64, by omega⟩ ⟨(h.val * 128 + x.val) % 64, by omega⟩))
    (hvc : ∀ (r : Fin 256) (x : Fin 128), vc (ix4 0 0 r x) = x2 (ix5 b 0 r h x))
    (hl : ∀ (r : Fin 8) (x : Fin 128), l (ix3 0 r x) = lamT x3 x4 x5 x6 (ix3 0 r x))
    (hg : ∀ x : Fin 128, g (ix3 0 0 x) = x7 (ix2 0 x)) (r : Fin 256) (e : Fin 128) :
    k0_pay1 (F := Ideal) (k0_pay2 l) (k0_pay14 (k0_pay4 q) (k0_pay7 kc) (k0_pay8 q k)) (k0_pay15 (k0_pay4 q) (k0_pay7 kc) (k0_pay8 q k))
        (k0_pay22 (k0_pay5 q) (k0_pay6 k) (k0_pay7 kc)) (k0_pay23 (k0_pay5 q) (k0_pay6 k) (k0_pay7 kc)) v vc g (ix2 r e)
      = val_main_v70 (F := Ideal) x0 x1 x2 x3 x4 x5 x6 x7 (ix4 b ⟨i.val * 256 + r.val, by omega⟩ h e) := by
  obtain ⟨P1, P1c⟩ := probs (k0_pay4 q) (k0_pay6 k) (k0_pay7 kc) r
    (fun x => val_main_v32 (F := Ideal) x0 x1 (ix4 b ⟨h.val * 2, by omega⟩ ⟨i.val * 256 + r.val, by omega⟩ x)) (fun x => u_finite x0 x1 hf _ _ _ x)
    (fun x => by
      rw [pay16_at]
      simp only [pay4_at, pay6_at]
      rw [score_lo (fun x => q (ix2 r x)) (fun y => k (ix2 x y)) bits_scale.1 bits_scale.2.1, u_new]
      refine congrArg (· * _) (Finset.sum_congr rfl fun d _ => ?_)
      rw [hq, hk]
      congr 3 <;> exact Fin.ext (by simp; omega))
    (fun x => by
      rw [pay17_at]
      simp only [pay4_at, pay7_at]
      rw [score_lo (fun x => q (ix2 r x)) (fun y => kc (ix4 0 0 x y)) bits_scale.1 bits_scale.2.1, u_old]
      refine congrArg (· * _) (Finset.sum_congr rfl fun d _ => ?_)
      rw [hq, hkc]
      congr 3 <;> exact Fin.ext (by simp; omega))
  obtain ⟨P2, P2c⟩ := probs (k0_pay5 q) (k0_pay6 k) (k0_pay7 kc) r
    (fun x => val_main_v32 (F := Ideal) x0 x1 (ix4 b ⟨h.val * 2 + 1, by omega⟩ ⟨i.val * 256 + r.val, by omega⟩ x)) (fun x => u_finite x0 x1 hf _ _ _ x)
    (fun x => by
      rw [pay16_at]
      simp only [pay5_at, pay6_at]
      rw [score_hi (fun x => q (ix2 r x)) (fun y => k (ix2 x y)) bits_scale.1 bits_scale.2.1, u_new]
      refine congrArg (· * _) (Finset.sum_congr rfl fun d _ => ?_)
      rw [hq, hk]
      congr 3 <;> exact Fin.ext (by simp; omega))
    (fun x => by
      rw [pay17_at]
      simp only [pay5_at, pay7_at]
      rw [score_hi (fun x => q (ix2 r x)) (fun y => kc (ix4 0 0 x y)) bits_scale.1 bits_scale.2.1, u_old]
      refine congrArg (· * _) (Finset.sum_congr rfl fun d _ => ?_)
      rw [hq, hkc]
      congr 3 <;> exact Fin.ext (by simp; omega))
  have hlam : k0_pay2 (F := Ideal) l (ix2 0 0) = val_main_v29 (F := Ideal) x3 x4 x5 x6 ix0 := by
    rw [pay2_at, v29_at]
    simp only [hl, lam_at, sum_lanes]
    simp
  rw [eq14, eq15, pay1_at _ _ _ _ _ v vc g r e
    (fun e => val_main_v53 (F := Ideal) x0 x1 x2 x3 x4 x5 x6 (ix4 b ⟨i.val * 256 + r.val, by omega⟩ h e)) (fun e => by
      rw [v53_eq, att_at, sum_keys, hlam]
      congr 1
      · refine Finset.sum_congr rfl fun x _ => ?_
        rw [v13_new, v43_at, v43_at, P1, P2, hv, mul_comm]
      · refine Finset.sum_congr rfl fun x _ => ?_
        rw [v13_old, v43_at, v43_at, P1c, P2c, hvc, mul_comm]), hg, v70_eq, norm_at]

end

variable (m : (ℓ : Loc nD τ sig) → Buf (Elt Ideal) ℓ)

/-- The sequences. -/
theorem bound0 (t : Fin cfg0.N) : (grid0.coords t 0).val < 4 := (grid0.coords t 0).isLt
/-- The pairs of heads. -/
theorem bound1 (t : Fin cfg0.N) : (grid0.coords t 1).val < 16 := (grid0.coords t 1).isLt
/-- The tiles of queries. -/
theorem bound2 (t : Fin cfg0.N) : (grid0.coords t 2).val < 8 := (grid0.coords t 2).isLt

/-- The queries of a point. -/
theorem blk0 (c : Dev nD) (t : Fin cfg0.N) (r : Fin 256) (x : Fin 128) : iblk m c 0 t (ix2 r x) = m ((c : Thread nD τ).loc main_arg0)
    (ix2 ⟨4096 + ((grid0.coords t 0).val * 2048 + ((grid0.coords t 2).val * 256 + r.val)), by have := bound0 t; have := bound2 t; omega⟩
      ⟨(grid0.coords t 1).val * 128 + x.val, by have := bound1 t; omega⟩) := by
  obtain ⟨i0, -⟩ := idx t
  have := bound0 t; have := bound1 t; have := bound2 t
  blk_ext [iblk, V, i0]
/-- The new keys of a point. -/
theorem blk1 (c : Dev nD) (t : Fin cfg0.N) (r : Fin 2048) (x : Fin 128) : iblk m c 1 t (ix2 r x) = m ((c : Thread nD τ).loc main_arg0)
    (ix2 ⟨4096 + ((grid0.coords t 0).val * 2048 + r.val), by have := bound0 t; omega⟩
      ⟨2048 + ((grid0.coords t 1).val * 128 + x.val), by have := bound1 t; omega⟩) := by
  obtain ⟨-, i1, -⟩ := idx t
  have := bound0 t; have := bound1 t
  blk_ext [iblk, V, i1]
/-- The new values of a point. -/
theorem blk2 (c : Dev nD) (t : Fin cfg0.N) (r : Fin 2048) (x : Fin 128) : iblk m c 2 t (ix2 r x) = m ((c : Thread nD τ).loc main_arg0)
    (ix2 ⟨4096 + ((grid0.coords t 0).val * 2048 + r.val), by have := bound0 t; omega⟩
      ⟨4096 + ((grid0.coords t 1).val * 128 + x.val), by have := bound1 t; omega⟩) := by
  obtain ⟨-, -, i2, -⟩ := idx t
  have := bound0 t; have := bound1 t
  blk_ext [iblk, V, i2]
/-- The cached keys of a point. -/
theorem blk3 (c : Dev nD) (t : Fin cfg0.N) (r : Fin 256) (x : Fin 128) : iblk m c 3 t (ix4 0 0 r x) = V m c main_v7
    (ix4 (grid0.coords t 0) 0 r ⟨(grid0.coords t 1).val * 128 + x.val, by have := bound1 t; omega⟩) := by
  obtain ⟨-, -, -, i3, -⟩ := idx t
  have := bound0 t; have := bound1 t
  blk_ext [iblk, i3]
/-- The cached values of a point. -/
theorem blk4 (c : Dev nD) (t : Fin cfg0.N) (r : Fin 256) (x : Fin 128) : iblk m c 4 t (ix4 0 0 r x) = V m c main_v8
    (ix4 (grid0.coords t 0) 0 r ⟨(grid0.coords t 1).val * 128 + x.val, by have := bound1 t; omega⟩) := by
  obtain ⟨-, -, -, -, i4, -⟩ := idx t
  have := bound0 t; have := bound1 t
  blk_ext [iblk, i4]
/-- The rows of weights. -/
theorem blk5 (c : Dev nD) (t : Fin cfg0.N) (r : Fin 8) (x : Fin 128) : iblk m c 5 t (ix3 0 r x) = V m c main_v5 (ix3 0 r x) := by
  obtain ⟨-, -, -, -, -, i5, -⟩ := idx t
  blk_ext [iblk, i5]
/-- The norm's weights. -/
theorem blk6 (c : Dev nD) (t : Fin cfg0.N) (x : Fin 128) : iblk m c 6 t (ix3 0 0 x) = V m c main_v6 (ix3 0 0 x) := by
  obtain ⟨-, -, -, -, -, -, i6, -⟩ := idx t
  blk_ext [iblk, i6]

/-- The results array after the call: the normalised attention on the sampled rows, the given array on the others. -/
theorem final (c : Dev nD) (hf : Finite (m ((c : Thread nD τ).loc main_arg0)) (m ((c : Thread nD τ).loc main_arg1))) :
    (dats m 0 c).arrAt 7 (cfgs 0).N = val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  have hfin : (dats m 0 c).arrAt 7 (cfgs 0).N = fun i => if 4096 ≤ (i 0 : ℕ) then val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) i else V m c main_v9 i := by
    refine (dats m 0 c).arrAt_eq_of_coversWhere 7 _ (fun β => 16 ≤ β 0) (by decide +kernel) (fun t hf' y => ?_)
      (fun j => by blk_simp [Pipeline.Window.cell_apply]; omega)
    blk_simp; rw [after0_7]; unfold outsAt0; frame_out
    obtain ⟨-, -, -, -, -, -, -, i7⟩ := idx t
    have t0 : (grid0.coords t 0).val < 4 := (grid0.coords t 0).isLt
    have t1 : (grid0.coords t 1).val < 16 := (grid0.coords t 1).isLt
    have t2 : (grid0.coords t 2).val < 8 := (grid0.coords t 2).isLt
    obtain ⟨r, e, rfl⟩ : ∃ (r : Fin 256) (e : Fin 128), y = ix2 r e := ⟨y 0, y 1, by funext k; fin_cases k <;> rfl⟩
    have hemb : ((View.whole main_v9).slice (win0_7.rect t)).emb (ix2 r e)
        = ix2 ⟨4096 + ((grid0.coords t 0).val * 2048 + ((grid0.coords t 2).val * 256 + r.val)), by omega⟩ ⟨(grid0.coords t 1).val * 128 + e.val, by omega⟩ := by
      blk_ext [i7]
    rw [hemb, v74_eq, out_at, if_neg (by show ¬ (4096 + _ < 4096); omega)]
    refine (tile (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (grid0.coords t 0) (grid0.coords t 1) (grid0.coords t 2) _ _ _ _ _ _ _ hf
      (fun r x => ?_) (fun r x => ?_) (fun r x => ?_) (fun r x => ?_) (fun r x => ?_) (fun r x => ?_) (fun x => ?_) r e).trans ?_
    · exact blk0 m c t r x
    · exact blk1 m c t r x
    · exact blk2 m c t r x
    · rw [blk3, v7_read]
      exact ck_at _ _ _ _
    · rw [blk4, v8_read]
      refine (cv_at _ _ _ _).trans (congrArg (m ((c : Thread nD τ).loc main_arg2)) ?_)
      have h1 : ((grid0.coords t 1).val * 128 + x.val) / 128 = (grid0.coords t 1).val := by omega
      have h2 : ((grid0.coords t 1).val * 128 + x.val) % 128 = x.val := by omega
      exact congrArg₂ (fun a b => ix5 (grid0.coords t 0) 0 r a b) (Fin.ext h1) (Fin.ext h2)
    · rw [blk5, v5_read]
    · rw [blk6, v6_read]
      exact g_at _ _
    · refine congrArg (val_main_v70 (F := Ideal) _ _ _ _ _ _ _ _) ?_
      have h0 : (grid0.coords t 0).val = (4096 + ((grid0.coords t 0).val * 2048 + ((grid0.coords t 2).val * 256 + r.val)) - 4096) / 2048 := by omega
      have h1 : (grid0.coords t 2).val * 256 + r.val = (4096 + ((grid0.coords t 0).val * 2048 + ((grid0.coords t 2).val * 256 + r.val)) - 4096) % 2048 := by omega
      have h2 : (grid0.coords t 1).val = ((grid0.coords t 1).val * 128 + e.val) / 128 := by omega
      have h3 : e.val = ((grid0.coords t 1).val * 128 + e.val) % 128 := by omega
      funext k
      fin_cases k
      · exact Fin.ext h0
      · exact Fin.ext h1
      · exact Fin.ext h2
      · exact Fin.ext h3
  rw [hfin]
  funext i
  split
  · rfl
  · rename_i hi
    rw [v9_read, v74_eq]
    obtain ⟨a, b, rfl⟩ : ∃ (a : Fin 12288) (b : Fin 2048), i = ix2 a b := ⟨i 0, i 1, by funext k; fin_cases k <;> rfl⟩
    rw [out_at, if_pos (by have : ¬ 4096 ≤ a.val := hi; omega)]
end Cert.KernelIdeal.Attn
end
end
-- ==== Proof.MoeGather.lean ====
module

public import proofs.«01_k».proof.Proof.Gen.MoeIdeal.Launch
public import proofs.«01_k».proof.Proof.Gen.MoeIdeal.Skeleton
public import proofs.«01_k».proof.Proof.Gen.MoeIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The kernel's buffers -/

/-- The table of the tiles' experts, -/
abbrev tM0 : Memref sig .tc .smem S47 .i32 := Memref.whole main_v11
/-- the number of used tiles, -/
abbrev tM1 : Memref sig .tc .smem S1 .i32 := Memref.whole main_arg1
/-- the table of the rows, -/
abbrev tM2 : Memref sig .tc .smem S30080 .i32 := Memref.whole main_arg2
/-- the model's rows, -/
abbrev hM : Memref sig .tc .hbm S12288x2048 .f32 := Memref.whole main_arg3
/-- the gathered rows' buffer, -/
abbrev aM : Memref sig .tc .vmem S640x2048 .bf16 := Memref.whole cc0_scratch0
/-- and the accumulator's. -/
abbrev bM : Memref sig .tc .vmem S640x2048 .f32 := Memref.whole cc0_scratch1

/-- A table's half as the region hands it to the body. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f
/-- A buffer held whole. -/
abbrev bufPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A row of the accumulator is inside it. -/
theorem inbRow (b : Fin 640) : ∀ a, (![b.val, 0] : Fin 2 → Nat) a + S1x2048.size a ≤ S640x2048.size a := by
  have := b.isLt; intro a; fin_cases a
  · show b.val + 1 ≤ 640; omega
  · show 0 + 2048 ≤ 2048; omega
/-- A row of the model's array is inside it. -/
theorem inbSrc (r : ℕ) (hr : r < 12288) : ∀ a, (![r, 0] : Fin 2 → Nat) a + S1x2048.size a ≤ S12288x2048.size a := by
  intro a; fin_cases a
  · show r + 1 ≤ 12288; omega
  · show 0 + 2048 ≤ 2048; omega
/-- Row `b` of the gathered tile. -/
def rowBlk (b : Fin 640) : Memref sig .tc .vmem S1x2048 .f32 := bM.slice (Rect.unit (s := S640x2048) ![b.val, 0] S1x2048.size (inbRow b)) (fun _ => rfl)
/-- Row `r` of the tokens' array. -/
def srcRow (r : ℕ) (hr : r < 12288) : Memref sig .tc .hbm S1x2048 .f32 := hM.slice (Rect.unit (s := S12288x2048) ![r, 0] S1x2048.size (inbSrc r hr)) (fun _ => rfl)

/-- The loop that starts the copies makes 640 rounds, -/
theorem trips1 : k0_t1_loop.trips = 640 := by decide +kernel
/-- and so does the loop that waits for them. -/
theorem trips2 : k0_t2_loop.trips = 640 := by decide +kernel

/-- The prefetched row numbers are rows. -/
def RowsOk (tb : S30080.Idx → BitVec 32) : Prop := ∀ x, (tb x).toNat < 12288

/-- Word `n` of the row numbers' table. -/
def tcell (n : ℕ) (hn : n < 30080) : S30080.Idx
  | 0 => ⟨n, hn⟩

/-- The word trip `k` of tile `i` loads. -/
def word (i : grid0.Coords) (k : Fin 640) (tb : S30080.Idx → BitVec 32) : BitVec 32 :=
  tb (tcell (640 * (i 0).val + k.val) (by have h0 : (i 0).val < 47 := (i 0).isLt; have := k.isLt; omega))

/-- A word of the row table names a row. -/
theorem word_lt {i : grid0.Coords} {k : Fin 640} {tb : S30080.Idx → BitVec 32} (h : RowsOk tb) : (word i k tb).toNat < 12288 := h _

/-- Element `(r, s)` of the tokens' array. -/
def cell (r s : ℕ) (hr : r < 12288) (hs : s < 2048) : S12288x2048.Idx
  | 0 => ⟨r, hr⟩
  | 1 => ⟨s, hs⟩

/-- The tile gathered from the tokens' array. -/
def gath (i : grid0.Coords) (tb : S30080.Idx → BitVec 32) (hr : RowsOk tb) (fh : S12288x2048.Idx → Elt F .f32) : S640x2048.Idx → Elt F .f32 :=
  fun x => fh (cell (word i (x 0) tb).toNat (x 1).val (word_lt hr) (x 1).isLt)

/-- A share of a buffer can be stored. -/
theorem stor_pt {ℓ : Loc nD τ sig} (S : Finset (Idx ℓ)) (q : PosShare TreeShare) (f : Buf (Elt F) ℓ) :
    Storable (upEmb : UEmb _ 𝕄) (ℓ ↦[S]{q} f : sProp 𝕄) := inferInstance

section Deliveries

variable (c : Dev nD) (i : grid0.Coords) (tb : S30080.Idx → BitVec 32) (hr : RowsOk tb) (fh : S12288x2048.Idx → Elt F .f32)

/-- The source of a copy. -/
abbrev rowSrc (k : Fin 640) : Memref sig .tc .hbm S1x2048 .f32 := srcRow (word i k tb).toNat (word_lt hr)
/-- Row `k`'s read token of the source row. -/
def tok (k : Fin 640) : sProp 𝕄 :=
  (rowSrc i tb hr k).view.loc (c : Thread nD τ) ↦[(rowSrc i tb hr k).view.set]{Transfers.shareTokN fullShare k.val} fh
/-- Row `k` owned at any contents; -/
def own (k : Fin 640) : sProp 𝕄 := iprop(∃ g, (rowBlk k).view.loc (c : Thread nD τ) ↦[(rowBlk k).view.set]{fullShare} g)
/-- and holding the gathered row. -/
def got (k : Fin 640) : sProp 𝕄 := (rowBlk k).view.loc (c : Thread nD τ) ↦[(rowBlk k).view.set]{fullShare} gath i tb hr fh
/-- Transfer `k` delivers the gathered row and its token back. -/
def deliv (k : Fin 640) : sProp 𝕄 := iprop(got c i tb hr fh k ∗ tok c i tb hr fh k)

/-- What a copy delivers can be stored. -/
instance deliv_storable (k : Fin 640) : BI.Storable (upEmb : UEmb _ 𝕄) (deliv c i tb hr fh k) := by
  unfold deliv got tok; exact @Storable.sep _ _ _ _ _ _ _ _ (stor_pt _ _ _) (stor_pt _ _ _)

/-- What the semaphore counts for one copy. -/
abbrev NN : ℕ := 256
/-- The batch on the body's own cell. -/
abbrev batch (j u : ℕ) : sProp 𝕄 :=
  Transfers.Batch (countersEmb (U := Pipeline.UD sig nD τ)) (c : Thread nD τ) (.dma cc0_scratch2.sem) () NN (deliv c i tb hr fh) j u

/-- Each copy counts that much. -/
theorem amountN (k : Fin 640) : (rowBlk k).view.amount (.dma cc0_scratch2.sem) = NN := by
  show RefSig.tileCredit S1x2048 .f32 = 256; decide

/-- A place is in a row's block when its first coordinate is the row. -/
theorem mem_row (k : Fin 640) (y : S640x2048.Idx) : y ∈ ((rowBlk k).view.set : Finset S640x2048.Idx) ↔ (y 0).val = k.val := by
  have e : ((rowBlk k).view.set : Finset S640x2048.Idx) = (Rect.unit (s := S640x2048) ![k.val, 0] S1x2048.size (inbRow k)).set := View.set_slice_whole _ _
  rw [e]
  refine (Rect.mem_set_unit ..).trans ?_
  have h2 : (y 1).val < 2048 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 2048; omega

/-- What a transfer leaves in its row is the gathered row. -/
theorem landed (k : Fin 640) (g : Buf (Elt F) ((rowBlk k).view.loc (c : Thread nD τ))) (y : S640x2048.Idx) (hy : y ∈ (rowBlk k).view.set) :
    (rowBlk k).view.write (Elt F) g ((rowSrc i tb hr k).view.read (Elt F) fh) Finset.univ y = gath i tb hr fh y := by
  have hk : (y 0).val = k.val := (mem_row k y).mp hy
  obtain ⟨x, -, hx⟩ := Finset.mem_map.mp hy
  have e := View.write_emb_of_mem (v := (rowBlk k).view) (Val := Elt F) g ((rowSrc i tb hr k).view.read (Elt F) fh) (Finset.mem_univ x)
  rw [show (rowBlk k).view.emb x = y from hx] at e
  refine e.trans ?_
  show fh ((rowSrc i tb hr k).view.emb x) = gath i tb hr fh y
  unfold gath
  have hw : word i (y 0) tb = word i k tb := congrArg (fun z => word i z tb) (Fin.ext hk)
  congr 1
  funext a
  apply Fin.ext
  have h1 : (y 1).val = 0 + 1 * (x 1).val := by rw [← hx]; rfl
  fin_cases a
  · show (word i k tb).toNat + 1 * (x 0).val = (word i (y 0) tb).toNat
    rw [hw]
    have : (x 0).val < 1 := (x 0).isLt
    omega
  · show 0 + 1 * (x 1).val = (y 1).val
    rw [h1]

end Deliveries

/-! ## The two loops -/

section Loops

variable (c : Dev nD) (i : grid0.Coords) (tb : S30080.Idx → BitVec 32) (hr : RowsOk tb) (fh : S12288x2048.Idx → Elt F .f32)
  (arg6 : Memref sig .tc .vmem S1x1x2048x512 .f32) (harg6 : arg6.IsWhole) (arg7 : Memref sig .tc .vmem S1x1x2048x512 .f32) (harg7 : arg7.IsWhole)
  (arg8 : Memref sig .tc .vmem S1x1x512x2048 .f32) (harg8 : arg8.IsWhole) (arg9 : Memref sig .tc .vmem S640x2048 .f32) (harg9 : arg9.IsWhole)
  (v0 : Elt F .i32) (h1 : k0_cond1 i v0 = 1#1)

/-- The body's read of a word of the row table. -/
theorem read_word (n : ℕ) (hn : n < 640) (o : Fin 1 → ℕ) (ho : o = ![640 * (i 0).val + n]) (inb : ∀ a, o a + S1.size a ≤ S30080.size a) :
    View.readAt (Elt F) tM2.view (Rect.unit (s := S30080) o S1.size inb).toLoadRect tb (Shape.Idx.first (s := S1) (by decide)) = word i ⟨n, hn⟩ tb := by
  subst ho
  unfold word
  refine congrArg tb ?_
  funext a
  apply Fin.ext
  fin_cases a
  show 640 * (i 0).val + n + 1 * 0 = 640 * (i 0).val + n
  omega

/-- The printed destination of a copy is the row. -/
theorem row_eq {k : Fin 640} (o : Fin 2 → ℕ) (ho : o = ![k.val, 0]) (inb : ∀ a, o a + S1x2048.size a ≤ S640x2048.size a) :
    bM.slice (Rect.unit (s := S640x2048) o S1x2048.size inb) (fun _ => rfl) = rowBlk k := by
  subst ho; rfl

/-- What a copy leaves is what it delivers. -/
theorem deliv_of (k : Fin 640) (g : Buf (Elt F) ((rowBlk k).view.loc (c : Thread nD τ))) :
    (iprop(((rowBlk k).view.loc (c : Thread nD τ) ↦[(rowBlk k).view.set]{fullShare}
        ((rowBlk k).view.write (Elt F) g ((ReadAs.same (Val := Elt F)).apply ((rowSrc i tb hr k).view.read (Elt F) fh)) Finset.univ))
      ∗ ((rowSrc i tb hr k).view.loc (c : Thread nD τ) ↦[(rowSrc i tb hr k).view.set]{Transfers.shareTokN fullShare k.val} fh)) : sProp 𝕄)
      ⊢ deliv c i tb hr fh k := by
  unfold deliv got tok
  iintro ⟨Hd, Hs⟩
  isplitl [Hd]
  · iapply (Entails.of_eq (pointsTo_congr (fun y hy => landed c i tb hr fh k g y hy))); iexact Hd
  iexact Hs

/-- Starting transfer `k`. -/
theorem issue_wp [∀ e, Nonempty (Elt F e)] (k : Fin 640) {src : Memref sig .tc .hbm S1x2048 .f32} {dst : Memref sig .tc .vmem S1x2048 .f32}
    (es : src = rowSrc i tb hr k) (ed : dst = rowBlk k) {hsrc : src.view.WordExact} {hdst : dst.view.WordExact}
    {hsem : DmaTarget.Typed (nD := nD) .hbm (.dma cc0_scratch2.sem) (DmaTarget.here (nD := nD) (p := (Proc.tc : Proc τ)) dst)} {kk : PUnit → Prog (TpuEff nD τ sig (Elt F) Λ₀ .tc) Unit} {Q : Unit → sProp 𝕄} :
    (iprop(tok c i tb hr fh k ∗ own c k ∗ batch c i tb hr fh k.val 0) : sProp 𝕄)
      ⊢ iprop((batch c i tb hr fh (k.val + 1) 0 -∗ wp frame (wpE defs₀ Variants.none (c : Thread nD τ) none) Set.univ (kk ⟨⟩) Q)
        -∗ wp frame (wpE defs₀ Variants.none (c : Thread nD τ) none) Set.univ
            (.op (.enqueueDma src (.here dst) (.dma cc0_scratch2.sem) hsrc hdst hsem) kk) Q) := by
  subst es ed
  unfold own
  iintro ⟨Hk, ⟨%g, Ho⟩, HB⟩ HC
  iapply (Transfers.wp_dmaBatch (countersEmb (U := Pipeline.UD sig nD τ)) Variants.none (c : Thread nD τ) none (via := ReadAs.same) () NN
    (amountN k) (fun _ h => h) k.isLt (Nat.zero_le _) (deliv_of c i tb hr fh k g)) $$ [Hk Ho HB]
  · isplitl [Hk]; · unfold tok; iexact Hk
    isplitl [Ho]; · iexact Ho
    iexact HB
  iexact HC

/-- Where the loop reads the row table. -/
theorem off2 (k : Fin k0_t1_loop.trips) : k0_off2 i k = ![640 * (i 0).val + k.val] := k0_off2_eq i k

/-- Trip `k`'s region of the issue loop on the kernel's buffers; -/
abbrev issueBody (k : Fin k0_t1_loop.trips) (u : Unit) :=
  k0_t1_body (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2 v0 h1 k u
/-- and of the drain loop. -/
abbrev drainBody (k : Fin k0_t2_loop.trips) (u : Unit) :=
  k0_t2_body (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2 v0 h1 k u

/-- Before trip `k` of the issue loop. -/
def issueAt (k : ℕ) (_ : Unit) : sProp 𝕄 :=
  iprop(tbPt c tM2 tb ∗ batch c i tb hr fh k 0 ∗ bigSep (Ring.rangeSet 640 k 640) (own c) ∗ bigSep (Ring.rangeSet 640 k 640) (tok c i tb hr fh))

/-- One round of the loop that starts the copies. -/
theorem issue_step [∀ e, Nonempty (Elt F e)] (k : Fin k0_t1_loop.trips) (acc : Unit) :
    issueAt c i tb hr fh k acc ⊢ wp frame (wpE defs₀ Variants.none (c : Thread nD τ) none) Set.univ
      (issueBody i arg6 harg6 arg7 harg7 arg8 harg8 arg9 harg9 v0 h1 k acc) (issueAt c i tb hr fh (k.val + 1)) := by
  have hk : k.val < 640 := trips1 ▸ k.isLt
  unfold issueAt
  rw [Ring.bigSep_rangeSet_head (Φ := own c) (by omega) (by omega), Ring.bigSep_rangeSet_head (Φ := tok c i tb hr fh) (by omega) (by omega)]
  iintro ⟨Ht, HB, ⟨Ho, Hos⟩, ⟨Hk, Hks⟩⟩
  dsimp only [issueBody, k0_t1_body]
  sl_exec
  have e : issue_step.sl.r (F := F) i tb k = word i ⟨k.val, hk⟩ tb := by
    unfold issue_step.sl.r
    exact read_word i tb k.val hk _ (off2 i k) _
  rw [e]
  have hchk : k0_chk1 i v0 (word i ⟨k.val, hk⟩ tb) := fun _ => inbSrc _ (word_lt hr)
  sl_exec
  iapply (issue_wp c i tb hr fh ⟨k.val, hk⟩ rfl (row_eq _ (k0_off3_eq k) _)) $$ [Hk Ho HB]
  · isplitl [Hk]; · iexact Hk
    isplitl [Ho]; · iexact Ho
    iexact HB
  iintro HB
  sl_step
  isplitl [Ht]; · iexact Ht
  isplitl [HB]; · iexact HB
  isplitl [Hos]; · iexact Hos
  iexact Hks

/-- Before trip `k` of the drain loop: `k` of the transfers waited for. -/
def drainAt (k : ℕ) (_ : Unit) : sProp 𝕄 :=
  iprop(tbPt c tM2 tb ∗ batch c i tb hr fh 640 (k * NN) ∗ ∃ W, owes (c : Thread nD τ) 0 W)

/-- Waiting for one transfer. -/
theorem drain_wp [∀ e, Nonempty (Elt F e)] (k : ℕ) (hk : k < 640) {src : Memref sig .tc .hbm S1x2048 .f32} {dst : Memref sig .tc .vmem S1x2048 .f32}
    {b : Fin 640} (ed : dst = rowBlk b) {hsrc : src.view.WordExact} {hdst : dst.view.WordExact}
    {kk : PUnit → Prog (TpuEff nD τ sig (Elt F) Λ₀ .tc) Unit} {Q : Unit → sProp 𝕄} :
    (iprop(batch c i tb hr fh 640 (k * NN) ∗ ∃ W, owes (c : Thread nD τ) 0 W) : sProp 𝕄)
      ⊢ iprop((iprop(batch c i tb hr fh 640 ((k + 1) * NN) ∗ ∃ W, owes (c : Thread nD τ) 0 W) -∗ wp frame (wpE defs₀ Variants.none (c : Thread nD τ) none) Set.univ (kk ⟨⟩) Q)
        -∗ wp frame (wpE defs₀ Variants.none (c : Thread nD τ) none) Set.univ
            (.op (.waitDma2 cc0_scratch2.sem src dst hsrc hdst) kk) Q) := by
  subst ed
  iintro ⟨HB, ⟨%W, HW⟩⟩ HC
  iapply (Transfers.wp_waitBatchMulO (countersEmb (U := Pipeline.UD sig nD τ)) Variants.none (c : Thread nD τ) none (O := 0) (W := W) () (N := NN) 1
    ((amountN b).trans (by decide)) (j := 640) (u := k * NN) (by show k * 256 + 1 * 256 ≤ 256 * 640; omega)) $$ [HB HW]
  · isplitl [HB]; · iexact HB
    isplitl [HW]; · iexact HW
    rw [MayWait_zero]; iempintro
  iintro ⟨HB, HW⟩
  iapply HC
  isplitl [HB]
  · rw [show (k + 1) * NN = k * NN + 1 * NN by show (k + 1) * 256 = k * 256 + 1 * 256; omega]; iexact HB
  iexists _; iexact HW

/-- One round of the loop that waits. -/
theorem drain_step [∀ e, Nonempty (Elt F e)] (k : Fin k0_t2_loop.trips) (acc : Unit) :
    drainAt c i tb hr fh k acc ⊢ wp frame (wpE defs₀ Variants.none (c : Thread nD τ) none) Set.univ
      (drainBody i arg6 harg6 arg7 harg7 arg8 harg8 arg9 harg9 v0 h1 k acc) (drainAt c i tb hr fh (k.val + 1)) := by
  have hk : k.val < 640 := trips2 ▸ k.isLt
  unfold drainAt
  iintro ⟨Ht, HB, HW⟩
  dsimp only [drainBody, k0_t2_body]
  sl_exec
  have e : drain_step.sl.r (F := F) i tb k = word i ⟨k.val, hk⟩ tb := by
    unfold drain_step.sl.r
    exact read_word i tb k.val hk _ (k0_off5_eq i k) _
  rw [e]
  have hchk : k0_chk2 i v0 (word i ⟨k.val, hk⟩ tb) := fun _ => inbSrc _ (word_lt hr)
  sl_exec
  iapply (drain_wp c i tb hr fh k.val hk (row_eq (k := ⟨k.val, hk⟩) _ (k0_off6_eq k) _)) $$ [HB HW]
  · isplitl [HB]; · iexact HB
    iexact HW
  iintro ⟨HB, HW⟩
  sl_step
  isplitl [Ht]; · iexact Ht
  isplitl [HB]; · iexact HB
  iexact HW

end Loops

/-! ## The gather as a whole -/

section Whole

variable (c : Dev nD) (i : grid0.Coords) (tb : S30080.Idx → BitVec 32) (hr : RowsOk tb) (fh : S12288x2048.Idx → Elt F .f32)

/-- Row `b`'s elements. -/
def rowSet (b : Fin 640) : Finset (Idx (bM.view.loc (c : Thread nD τ))) := (rowBlk b).view.set

/-- The same, for the row's set of places. -/
theorem mem_rowSet (k : Fin 640) (y : S640x2048.Idx) : y ∈ (rowSet c k : Finset S640x2048.Idx) ↔ (y 0).val = k.val := mem_row k y

/-- Two rows share no place. -/
theorem rows_disj (a b : Fin 640) (hab : a ≠ b) : Disjoint (rowSet c a) (rowSet c b) := by
  rw [Finset.disjoint_left]
  intro y ha hb
  exact hab (Fin.ext (((mem_rowSet c a y).mp ha).symm.trans ((mem_rowSet c b y).mp hb)))

/-- The rows are the whole buffer. -/
theorem rows_cover : Finset.univ.biUnion (rowSet c) = Finset.univ := by
  ext y
  simp only [Finset.mem_biUnion, Finset.mem_univ, true_and, iff_true]
  exact ⟨(show S640x2048.Idx from y) 0, (mem_rowSet c _ y).mpr rfl⟩

/-- The source row's elements. -/
def srcSet (k : Fin 640) : Finset (Idx (hM.view.loc (c : Thread nD τ))) := (rowSrc i tb hr k).view.set

/-- A copy's share of the model's rows, row by row. -/
theorem tok_split (k : Fin 640) : (hM.view.loc (c : Thread nD τ) ↦{Transfers.shareTokN fullShare k.val} fh : sProp 𝕄)
    = iprop(tok c i tb hr fh k ∗ hM.view.loc (c : Thread nD τ) ↦[Finset.univ \ srcSet c i tb hr k]{Transfers.shareTokN fullShare k.val} fh) :=
  let h := pointsTo_split_subset (Ix := Unit) (Name := ℕ) (U := Pipeline.UD sig nD τ) (Lvl := ℕ) (ℓ := hM.view.loc (c : Thread nD τ)) (f := fh)
    (q := Transfers.shareTokN fullShare k.val) (Finset.subset_univ (srcSet c i tb hr k))
  BI.equiv_iff.mp ⟨h.1, h.2⟩

/-- What is left of the tokens' array beside the transfers' tokens. -/
def rest : sProp 𝕄 :=
  iprop((hM.view.loc (c : Thread nD τ) ↦{Transfers.shareDrop fullShare 640} fh)
    ∗ bigSep Finset.univ fun k : Fin 640 => hM.view.loc (c : Thread nD τ) ↦[Finset.univ \ srcSet c i tb hr k]{Transfers.shareTokN fullShare k.val} fh)

/-- The model's rows, split into a share for each copy and a rest. -/
theorem h_split : (bufPt c hM fh : sProp 𝕄) ⊣⊢ iprop(bigSep Finset.univ (tok c i tb hr fh) ∗ rest c i tb hr fh) := by
  have e1 := Transfers.pointsTo_toks_range (Ix := Unit) (Name := ℕ) (U := Pipeline.UD sig nD τ) (Lvl := ℕ) (ℓ := hM.view.loc (c : Thread nD τ)) (S := Finset.univ) (f := fh) fullShare 640
  have e2 : bigSep (Finset.range 640) (fun n => (hM.view.loc (c : Thread nD τ) ↦{Transfers.shareTokN fullShare n} fh : sProp 𝕄))
      = iprop(bigSep Finset.univ (tok c i tb hr fh) ∗ bigSep Finset.univ fun k : Fin 640 => hM.view.loc (c : Thread nD τ) ↦[Finset.univ \ srcSet c i tb hr k]{Transfers.shareTokN fullShare k.val} fh) := by
    rw [← Ring.bigSep_fin_eq_range 640 (fun k : Fin 640 => (hM.view.loc (c : Thread nD τ) ↦{Transfers.shareTokN fullShare k.val} fh : sProp 𝕄)) _ (fun _ _ => rfl)]
    refine Eq.trans ?_ (BI.bigSep_sep Finset.univ _ _)
    refine BI.bigSep_congr fun k _ => ?_
    exact tok_split c i tb hr fh k
  rw [e2] at e1
  unfold rest
  constructor
  · iintro H
    ihave H := e1.1 $$ H
    icases H with ⟨HR, HT, HC⟩
    isplitl [HT]; · iexact HT
    isplitl [HR]; · iexact HR
    iexact HC
  · iintro ⟨HT, HR, HC⟩
    iapply e1.2
    isplitl [HR]; · iexact HR
    isplitl [HT]; · iexact HT
    iexact HC

/-- A row of the accumulator owned for a copy. -/
theorem own_of (g : Buf (Elt F) (bM.view.loc (c : Thread nD τ))) (b : Fin 640) :
    (iprop(bM.view.loc (c : Thread nD τ) ↦[rowSet c b]{fullShare} g) : sProp 𝕄) ⊢ own (F := F) c b := by
  unfold own
  iintro H; iexists g; iexact H

/-- The gathered tile's buffer at any contents is its rows. -/
theorem b_split (g : Buf (Elt F) (bM.view.loc (c : Thread nD τ))) : (bufPt c bM g : sProp 𝕄) ⊢ bigSep Finset.univ (own (F := F) c) := by
  refine (Entails.of_eq (Ring.pointsTo_blocks (rowSet c) (rows_disj c) (rows_cover c) g)).trans (BI.bigSep_mono fun b _ => own_of c g b)

/-- The delivered rows are the gathered buffer. -/
theorem b_join : bigSep Finset.univ (got c i tb hr fh) ⊢ (bufPt c bM (gath i tb hr fh) : sProp 𝕄) :=
  Entails.of_eq (Ring.pointsTo_blocks (rowSet c) (rows_disj c) (rows_cover c) (gath i tb hr fh)).symm

/-- Into the issue loop. -/
theorem gather_in (g : Buf (Elt F) (bM.view.loc (c : Thread nD τ))) :
    (iprop(bufPt c hM fh ∗ bufPt c bM g ∗ semVal ((c : Thread nD τ), SemLoc.dma cc0_scratch2.sem) 0) : sProp 𝕄)
      ⊢ |={Set.univ}=> iprop(batch c i tb hr fh 0 0 ∗ bigSep (Ring.rangeSet 640 0 640) (own c) ∗ bigSep (Ring.rangeSet 640 0 640) (tok c i tb hr fh) ∗ rest c i tb hr fh) := by
  rw [Ring.rangeSet_univ]
  iintro ⟨Hh, Hb, Hs⟩
  imod (Transfers.batch_alloc' (countersEmb (U := Pipeline.UD sig nD τ)) (c : Thread nD τ) () NN (deliv c i tb hr fh)) $$ Hs with HB
  imodintro
  ihave Hh := (h_split c i tb hr fh).1 $$ Hh
  icases Hh with ⟨HT, HR⟩
  ihave Hb := (b_split c g) $$ Hb
  isplitl [HB]; · iexact HB
  isplitl [Hb]; · iexact Hb
  isplitl [HT]; · iexact HT
  iexact HR

/-- Out of the drain loop. -/
theorem gather_out :
    (iprop(batch c i tb hr fh 640 (640 * NN) ∗ rest c i tb hr fh) : sProp 𝕄)
      ⊢ |={Set.univ}=> iprop(bufPt c hM fh ∗ bufPt c bM (gath i tb hr fh) ∗ semVal ((c : Thread nD τ), SemLoc.dma cc0_scratch2.sem) 0) := by
  rw [Nat.mul_comm 640 NN]
  iintro ⟨HB, HR⟩
  imod (Transfers.batch_collect' (countersEmb (U := Pipeline.UD sig nD τ)) (c : Thread nD τ) (by decide)) $$ HB with ⟨HD, Hs⟩
  imodintro
  have e : bigSep Finset.univ (deliv c i tb hr fh) = iprop(bigSep Finset.univ (got c i tb hr fh) ∗ bigSep Finset.univ (tok c i tb hr fh)) :=
    BI.bigSep_sep Finset.univ _ _
  ihave HD := (Entails.of_eq e) $$ HD
  icases HD with ⟨HG, HT⟩
  ihave Hh := (h_split c i tb hr fh).2 $$ [HT HR]
  · isplitl [HT]; · iexact HT
    iexact HR
  ihave Hb := (b_join c i tb hr fh) $$ HG
  isplitl [Hh]; · iexact Hh
  isplitl [Hb]; · iexact Hb
  iexact Hs

end Whole

end Cert.MoeIdeal.Hand

end
-- ==== Proof.MoeBody.lean ====
module

public import proofs.«01_k».proof.Proof.MoeGather
public import Idealize.ShloMosaic.Lib.VecWindow
public import Idealize.ShloMosaic.Lib.Pipeline.TableIdle

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's conditions -/

/-- Tile `i 0` is one of the used tiles. -/
def used (i : grid0.Coords) (n : BitVec 32) : BitVec 1 := Scalar.cmpi .slt (BitVec.ofNat 32 (i 0).val) n

/-- The printed test of a conjunction holds when both bits are set. -/
theorem and_ne (a b : BitVec 1) : Scalar.cmpi .ne (Scalar.extui (Scalar.andi a b) : BitVec 32) 0#32 = 1#1 ↔ a = 1#1 ∧ b = 1#1 := by
  revert a b; decide
/-- The printed test of a bit holds when the bit is set. -/
theorem ne_one (a : BitVec 1) : Scalar.cmpi .ne (Scalar.extui a : BitVec 32) 0#32 = 1#1 ↔ a = 1#1 := by
  revert a; decide
/-- A bit's negation is set when the bit is not. -/
theorem xor_one (a : BitVec 1) : Scalar.xori a 1#1 = 1#1 ↔ ¬ a = 1#1 := by
  revert a; decide
/-- The printed comparison of a coordinate with a constant. -/
theorem eq_cond (j : Fin 14) (k : ℕ) (hk : k < 14) : Scalar.cmpi .eq (BitVec.ofNat 32 j.val) (BitVec.ofNat 32 k) = 1#1 ↔ j.val = k := by
  have : ∀ (j : Fin 14) (k : Fin 14), Scalar.cmpi .eq (BitVec.ofNat 32 j.val) (BitVec.ofNat 32 k.val) = 1#1 ↔ j.val = k.val := by decide
  exact this j ⟨k, hk⟩

/-- The first branch is taken at the first weight block of a used tile. -/
theorem cond1_iff (i : grid0.Coords) (n : BitVec 32) : k0_cond1 i n = 1#1 ↔ used i n = 1#1 ∧ (i 1).val = 0 :=
  (and_ne _ _).trans (and_congr_right fun _ => eq_cond (i 1) 0 (by decide))
/-- The write-out is taken at the last weight block of a used tile. -/
theorem cond3_iff (i : grid0.Coords) (n : BitVec 32) : k0_cond3 i n = 1#1 ↔ used i n = 1#1 ∧ (i 1).val = 13 :=
  (and_ne _ _).trans (and_congr_right fun _ => eq_cond (i 1) 13 (by decide))
/-- The zero fill is taken at the last weight block of an unused tile. -/
theorem cond4_iff (i : grid0.Coords) (n : BitVec 32) : k0_cond4 i n = 1#1 ↔ ¬ used i n = 1#1 ∧ (i 1).val = 13 :=
  (and_ne _ _).trans (and_congr (xor_one _) (eq_cond (i 1) 13 (by decide)))

/-! ## The body's runs -/

section Runs

variable (c : Dev nD) (i : grid0.Coords) (w1 : S1.Idx → BitVec 32) (tb : S30080.Idx → BitVec 32) (hr : RowsOk tb) (fh : S12288x2048.Idx → Elt F .f32)
  (arg6 : Memref sig .tc .vmem S1x1x2048x512 .f32) (harg6 : arg6.IsWhole) (arg7 : Memref sig .tc .vmem S1x1x2048x512 .f32) (harg7 : arg7.IsWhole)
  (arg8 : Memref sig .tc .vmem S1x1x512x2048 .f32) (harg8 : arg8.IsWhole) (arg9 : Memref sig .tc .vmem S640x2048 .f32) (harg9 : arg9.IsWhole)

/-- The number of used tiles. -/
def nOf : BitVec 32 := w1 (Shape.Idx.first (s := S1) (by decide))

/-- The body's read of the number of used tiles. -/
theorem read_n (o) : View.readAt (Elt F) tM1.view (Rect.unit (s := S1) ![0] S1.size o).toLoadRect w1 (Shape.Idx.first (s := S1) (by decide)) = nOf w1 := by
  unfold nOf
  refine congrArg w1 (funext fun a => Fin.ext ?_)
  fin_cases a
  rfl

/-- The body at a grid point. -/
abbrev bodyP : Prog (TpuEff nD τ sig (Elt F) Λ₀ .tc) PUnit :=
  cc0_ffn_moe (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2

/-- What the body keeps between its points: the tables' halves, the tokens' array, the two scratch buffers, its cell at zero. -/
def held (d10 : S640x2048.Idx → Elt F .bf16) (d11 : S640x2048.Idx → Elt F .f32) : sProp 𝕄 :=
  iprop(tbPt c tM1 w1 ∗ tbPt c tM2 tb ∗ bufPt c hM fh ∗ bufPt c aM d10 ∗ bufPt c bM d11 ∗ semVal ((c : Thread nD τ), SemLoc.dma cc0_scratch2.sem) 0)

/-- The staged blocks of the two weights. -/
def blks (x6 x7 : S1x1x2048x512.Idx → Elt F .f32) (x8 : S1x1x512x2048.Idx → Elt F .f32) : sProp 𝕄 :=
  iprop(owns (c : Thread nD τ) arg6 fullShare x6 ∗ owns (c : Thread nD τ) arg7 fullShare x7 ∗ owns (c : Thread nD τ) arg8 fullShare x8)

/-- The low-precision scratch, fully stored, holds the payload of its last store. -/
theorem a_full (c : Dev nD) (d x y : S640x2048.Idx → Elt F .bf16) (L : List (View.Piece (Elt F) S640x2048 .bf16)) (h : x = y) :
    iprop(aM.view.loc (c : Thread nD τ) ↦{fullShare} aM.view.writes (Elt F) d
      (⟨Rect.unit ![0, 0] S640x2048.size Gen.inb_S640x2048_S640x2048_0_0, x⟩ :: L)) ⊢ bufPt c aM y := by
  have e : aM.view.writes (Elt F) d (⟨Rect.unit ![0, 0] S640x2048.size Gen.inb_S640x2048_S640x2048_0_0, x⟩ :: L) = y :=
    (View.read_whole (Val := Elt F) cc0_scratch0 _).symm.trans ((View.read_writes_full (View.whole cc0_scratch0) d Gen.inb_S640x2048_S640x2048_0_0 x L).trans h)
  rw [e]

/-- The accumulator, fully stored, holds the payload of its last store. -/
theorem b_full (c : Dev nD) (d x : S640x2048.Idx → Elt F .f32) (L : List (View.Piece (Elt F) S640x2048 .f32)) :
    iprop(bM.view.loc (c : Thread nD τ) ↦{fullShare} bM.view.writes (Elt F) d
      (⟨Rect.unit ![0, 0] S640x2048.size Gen.inb_S640x2048_S640x2048_0_0, x⟩ :: L)) ⊢ bufPt c bM x := by
  have e : bM.view.writes (Elt F) d (⟨Rect.unit ![0, 0] S640x2048.size Gen.inb_S640x2048_S640x2048_0_0, x⟩ :: L) = x :=
    (View.read_whole (Val := Elt F) cc0_scratch1 _).symm.trans (View.read_writes_full (View.whole cc0_scratch1) d Gen.inb_S640x2048_S640x2048_0_0 x L)
  rw [e]

/-- The body at an unused tile before its last block: nothing changes. -/
theorem run_unused [∀ e, Nonempty (Elt F e)] (hu : ¬ used i (nOf w1) = 1#1) (hj : ¬ (i 1).val = 13) (d10 d11 x9) (W : Waits sig Unit) (K : PUnit → sProp 𝕄) :
    iprop(held c w1 tb fh d10 d11 ∗ owes (c : Thread nD τ) 0 W ∗ owns (c : Thread nD τ) arg9 fullShare x9
      ∗ (iprop(held c w1 tb fh d10 d11 ∗ (∃ W', owes (c : Thread nD τ) 0 W') ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held
  iintro ⟨⟨H1, H2, Hh, Ha, Hb, Hs⟩, HW, H9, Hk⟩
  sl_exec
  have er : run_unused.sl.r (F := F) w1 = nOf w1 := read_n w1 _
  have ev : run_unused.sl.v1 (F := F) i w1 = used i (nOf w1) := by unfold run_unused.sl.v1; rw [er]; rfl
  rw [er, ev]
  have hc1 : ¬ k0_cond1 i (nOf w1) = 1#1 := fun h => hu ((cond1_iff _ _).mp h).1
  have hc2 : ¬ Scalar.cmpi .ne (Scalar.extui (used i (nOf w1)) : BitVec 32) 0#32 = 1#1 := fun h => hu ((ne_one _).mp h)
  have hc3 : ¬ k0_cond3 i (nOf w1) = 1#1 := fun h => hu ((cond3_iff _ _).mp h).1
  have hc4 : ¬ k0_cond4 i (nOf w1) = 1#1 := fun h => hj ((cond4_iff _ _).mp h).2
  sl_exec
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  iexact H9

/-- The body at the last block of an unused tile: the result's block is zeroed. -/
theorem run_zero [∀ e, Nonempty (Elt F e)] (hu : ¬ used i (nOf w1) = 1#1) (hj : (i 1).val = 13) (d10 d11 x9) (W : Waits sig Unit) (K : PUnit → sProp 𝕄) :
    iprop(held c w1 tb fh d10 d11 ∗ owes (c : Thread nD τ) 0 W ∗ owns (c : Thread nD τ) arg9 fullShare x9
      ∗ (iprop(held c w1 tb fh d10 d11 ∗ (∃ W', owes (c : Thread nD τ) 0 W') ∗ owns (c : Thread nD τ) arg9 fullShare (k0_pay4 (F := F))) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held
  iintro ⟨⟨H1, H2, Hh, Ha, Hb, Hs⟩, HW, H9, Hk⟩
  sl_exec
  have er : run_zero.sl.r (F := F) w1 = nOf w1 := read_n w1 _
  have ev : run_zero.sl.v1 (F := F) i w1 = used i (nOf w1) := by unfold run_zero.sl.v1; rw [er]; rfl
  rw [er, ev]
  have hc1 : ¬ k0_cond1 i (nOf w1) = 1#1 := fun h => hu ((cond1_iff _ _).mp h).1
  have hc2 : ¬ Scalar.cmpi .ne (Scalar.extui (used i (nOf w1)) : BitVec 32) 0#32 = 1#1 := fun h => hu ((ne_one _).mp h)
  have hc3 : ¬ k0_cond3 i (nOf w1) = 1#1 := fun h => hu ((cond3_iff _ _).mp h).1
  have hc4 : k0_cond4 i (nOf w1) = 1#1 := (cond4_iff _ _).mpr ⟨hu, hj⟩
  unfold owns
  icases H9 with ⟨%f9, %hf9, H9⟩
  sl_exec
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  iexists _; isplitr; swap; · iexact H9
  ipureintro; exact View.read_writes_full _ _ _ _ _

/-- The body at a middle block of a used tile: the accumulator takes one more part. -/
theorem run_mid [∀ e, Nonempty (Elt F e)] (hu : used i (nOf w1) = 1#1) (h0 : ¬ (i 1).val = 0) (hj : ¬ (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh d10 (k0_pay3 d10 x6 x7 d11 x8) ∗ (∃ W', owes (c : Thread nD τ) 0 W') ∗ blks c arg6 arg7 arg8 x6 x7 x8 ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_mid.sl.r (F := F) w1 = nOf w1 := read_n w1 _
  have ev : run_mid.sl.v1 (F := F) i w1 = used i (nOf w1) := by unfold run_mid.sl.v1; rw [er]; rfl
  rw [er, ev]
  have hc1 : ¬ k0_cond1 i (nOf w1) = 1#1 := fun h => h0 ((cond1_iff _ _).mp h).2
  have hc2 : Scalar.cmpi .ne (Scalar.extui (used i (nOf w1)) : BitVec 32) 0#32 = 1#1 := (ne_one _).mpr hu
  have hc3 : ¬ k0_cond3 i (nOf w1) = 1#1 := fun h => hj ((cond3_iff _ _).mp h).2
  have hc4 : ¬ k0_cond4 i (nOf w1) = 1#1 := fun h => ((cond4_iff _ _).mp h).1 hu
  sl_exec
  have e18 : run_mid.sl.v18 (F := F) c arg6 x6 = x6 := View.readAt_rep_full _ _ _
  have e22 : run_mid.sl.v22 (F := F) c arg7 x7 = x7 := View.readAt_rep_full _ _ _
  have e37 : run_mid.sl.v37 (F := F) c arg8 x8 = x8 := View.readAt_rep_full _ _ _
  have ea : View.readAt (Elt F) aM.view (Rect.unit ![0, 0] S640x2048.size Gen.inb_S640x2048_S640x2048_0_0).toLoadRect d10 = d10 := View.readAt_full _ _ _
  have eb : View.readAt (Elt F) bM.view (Rect.unit ![0, 0] S640x2048.size Gen.inb_S640x2048_S640x2048_0_0).toLoadRect d11 = d11 := View.readAt_full _ _ _
  rw [e18, e22, e37, ea, eb]
  ihave Hb := (b_full c d11 (k0_pay3 d10 x6 x7 d11 x8) _) $$ Hb
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexact H9

/-- The body at the last block of a used tile: the accumulator takes its last part and is written out. -/
theorem run_last [∀ e, Nonempty (Elt F e)] (hu : used i (nOf w1) = 1#1) (h0 : ¬ (i 1).val = 0) (hj : (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh d10 (k0_pay3 d10 x6 x7 d11 x8) ∗ (∃ W', owes (c : Thread nD τ) 0 W') ∗ blks c arg6 arg7 arg8 x6 x7 x8 ∗ owns (c : Thread nD τ) arg9 fullShare (k0_pay3 d10 x6 x7 d11 x8)) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_last.sl.r (F := F) w1 = nOf w1 := read_n w1 _
  have ev : run_last.sl.v1 (F := F) i w1 = used i (nOf w1) := by unfold run_last.sl.v1; rw [er]; rfl
  rw [er, ev]
  have hc1 : ¬ k0_cond1 i (nOf w1) = 1#1 := fun h => h0 ((cond1_iff _ _).mp h).2
  have hc2 : Scalar.cmpi .ne (Scalar.extui (used i (nOf w1)) : BitVec 32) 0#32 = 1#1 := (ne_one _).mpr hu
  have hc3 : k0_cond3 i (nOf w1) = 1#1 := (cond3_iff _ _).mpr ⟨hu, hj⟩
  have hc4 : ¬ k0_cond4 i (nOf w1) = 1#1 := fun h => ((cond4_iff _ _).mp h).1 hu
  unfold owns
  icases H9 with ⟨%f9, %hf9, H9⟩
  sl_exec
  have e18 : run_last.sl.v18 (F := F) c arg6 x6 = x6 := View.readAt_rep_full _ _ _
  have e22 : run_last.sl.v22 (F := F) c arg7 x7 = x7 := View.readAt_rep_full _ _ _
  have e37 : run_last.sl.v37 (F := F) c arg8 x8 = x8 := View.readAt_rep_full _ _ _
  have ea : View.readAt (Elt F) aM.view (Rect.unit ![0, 0] S640x2048.size Gen.inb_S640x2048_S640x2048_0_0).toLoadRect d10 = d10 := View.readAt_full _ _ _
  have eb : View.readAt (Elt F) bM.view (Rect.unit ![0, 0] S640x2048.size Gen.inb_S640x2048_S640x2048_0_0).toLoadRect d11 = d11 := View.readAt_full _ _ _
  unfold run_last.sl.Hb_1
  have ew : k0_pay3 (View.readAt (Elt F) aM.view (Rect.unit ![0, 0] S640x2048.size Gen.inb_S640x2048_S640x2048_0_0).toLoadRect d10)
      (run_last.sl.v18 c arg6 x6) (run_last.sl.v22 c arg7 x7)
      (View.readAt (Elt F) bM.view (Rect.unit ![0, 0] S640x2048.size Gen.inb_S640x2048_S640x2048_0_0).toLoadRect d11)
      (run_last.sl.v37 c arg8 x8) = k0_pay3 d10 x6 x7 d11 x8 := by rw [e18, e22, e37, ea, eb]
  rw [ew]
  ihave Hb := (b_full c d11 (k0_pay3 d10 x6 x7 d11 x8) _) $$ Hb
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexists _; isplitr; swap; · iexact H9
  ipureintro
  refine (View.read_writes_full _ _ _ _ _).trans ?_
  refine (View.readCov_full bM.view _ _ _ _).trans ?_
  rw [e18, e22, e37, ea, eb]

/-- The body at the first block of a used tile: the rows are gathered and the accumulator starts from zero. -/
theorem run_first [∀ e, Nonempty (Elt F e)] (hu : used i (nOf w1) = 1#1) (h0 : (i 1).val = 0) (hj : ¬ (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh (k0_pay1 (gath i tb hr fh)) (k0_pay3 (k0_pay1 (gath i tb hr fh)) x6 x7 (k0_pay2 (F := F)) x8) ∗ (∃ W', owes (c : Thread nD τ) 0 W') ∗ blks c arg6 arg7 arg8 x6 x7 x8 ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_first.sl.r (F := F) w1 = nOf w1 := read_n w1 _
  have ev : run_first.sl.v1 (F := F) i w1 = used i (nOf w1) := by unfold run_first.sl.v1; rw [er]; rfl
  rw [er, ev]
  have hc1 : k0_cond1 i (nOf w1) = 1#1 := (cond1_iff _ _).mpr ⟨hu, h0⟩
  have hc2 : Scalar.cmpi .ne (Scalar.extui (used i (nOf w1)) : BitVec 32) 0#32 = 1#1 := (ne_one _).mpr hu
  have hc3 : ¬ k0_cond3 i (nOf w1) = 1#1 := fun h => hj ((cond3_iff _ _).mp h).2
  have hc4 : ¬ k0_cond4 i (nOf w1) = 1#1 := fun h => ((cond4_iff _ _).mp h).1 hu
  imod (gather_in c i tb hr fh d11) $$ [Hh Hb Hs] with ⟨HB, Ho, Hk', HR⟩
  · isplitl [Hh]; · iexact Hh
    isplitl [Hb]; · iexact Hb
    iexact Hs
  sl_exec
  sl_for (issueAt c i tb hr fh) $$ [H2 HB Ho Hk']
  case region => intro k acc; exact issue_step c i tb hr fh arg6 harg6 arg7 harg7 arg8 harg8 arg9 harg9 (nOf w1) hc1 k acc
  · unfold issueAt
    isplitl [H2]; · iexact H2
    isplitl [HB]; · iexact HB
    isplitl [Ho]; · iexact Ho
    iexact Hk'
  iintro %acc HL
  rw [show Scf.trips k0_t1_loop.lb k0_t1_loop.ub k0_t1_loop.st = 640 from trips1]
  unfold issueAt
  icases HL with ⟨H2, HB, -, -⟩
  sl_exec
  sl_for (drainAt c i tb hr fh) $$ [H2 HB HW]
  case region => intro k acc; exact drain_step c i tb hr fh arg6 harg6 arg7 harg7 arg8 harg8 arg9 harg9 (nOf w1) hc1 k acc
  · unfold drainAt
    rw [show 0 * NN = 0 from rfl]
    isplitl [H2]; · iexact H2
    isplitl [HB]; · iexact HB
    iexists _; iexact HW
  iintro %acc' HL
  rw [show Scf.trips k0_t2_loop.lb k0_t2_loop.ub k0_t2_loop.st = 640 from trips2]
  unfold drainAt
  icases HL with ⟨H2, HB, %W', HW⟩
  imod (gather_out c i tb hr fh) $$ [HB HR] with ⟨Hh, Hb, Hs⟩
  · isplitl [HB]; · iexact HB
    iexact HR
  sl_exec
  have e18 : run_first.sl.v18 (F := F) c arg6 x6 = x6 := View.readAt_rep_full _ _ _
  have e22 : run_first.sl.v22 (F := F) c arg7 x7 = x7 := View.readAt_rep_full _ _ _
  have e37 : run_first.sl.v37 (F := F) c arg8 x8 = x8 := View.readAt_rep_full _ _ _
  have e17 : run_first.sl.v17 (F := F) i tb hr fh = k0_pay1 (gath i tb hr fh) :=
    (View.readCov_full _ _ _ _ _).trans (congrArg k0_pay1 (View.readAt_full _ _ _))
  have e36 : run_first.sl.v36 (F := F) = k0_pay2 (F := F) := View.readCov_full _ _ _ _ _
  rw [e17, e18, e22, e36, e37]
  ihave Hb := (b_full c (gath i tb hr fh) (k0_pay3 (k0_pay1 (gath i tb hr fh)) x6 x7 (k0_pay2 (F := F)) x8) _) $$ Hb
  unfold run_first.sl.Ha_1
  ihave Ha := (a_full c d10 _ _ _ (congrArg k0_pay1 (View.readAt_full bM.view (gath i tb hr fh) Gen.inb_S640x2048_S640x2048_0_0))) $$ Ha
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexact H9

end Runs

end Cert.MoeIdeal.Hand

end
-- ==== Proof.MoeFrame.lean ====
module

public import proofs.«01_k».proof.Proof.MoeBody
public import Idealize.ShloMosaic.Lib.Pipeline.FrameBody

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The schedule -/

/-- The tile of a grid point. -/
theorem co0 (t : Fin grid0.N) : (grid0.coords t 0).val = t.val / 14 % 47 := Pipeline.Grid.coords_val t 0 (by decide) (by decide)
/-- The weight block of a grid point. -/
theorem co1 (t : Fin grid0.N) : (grid0.coords t 1).val = t.val / 1 % 14 := Pipeline.Grid.coords_val t 1 (by decide) (by decide)

/-- A point's first coordinate is its tile, -/
theorem tile (t : Fin grid0.N) : (grid0.coords t 0).val = t.val / 14 := by
  have := co0 t; have h : t.val < 658 := lt_of_lt_of_eq t.isLt N_0; omega
/-- and its second its weight block. -/
theorem blk (t : Fin grid0.N) : (grid0.coords t 1).val = t.val % 14 := by
  have := co1 t; omega

/-- A tile's rows are written back after its last weight block. -/
theorem flush_tab : ∀ t : Fin grid0.N, Window.flushOf grid0 true cc0_transform_4 t = decide (t.val % 14 = 13) := by decide +kernel

/-! ## The data of the pipeline -/

section Data

variable (m : (ℓ : Loc nD τ sig) → Buf (Elt F) ℓ)

/-- The buffers as the host code leaves them. -/
def V (c : Dev nD) (b : Ref sig .tc) : Buf (Elt F) ((c : Thread nD τ).loc b) := StableHlo.after hostOps0 (fun b => m (c, b)) b

/-- The three tables as the pipeline finds them. -/
def tbl : pre0.Contents (Elt F) := fun k => V m 0 (pre0.ref k)

/-- The number of used tiles. -/
def nt : BitVec 32 := nOf (V m 0 main_arg1)

/-- The number of used tiles as the pipeline's table holds it. -/
theorem nt_eq : Pipeline.Prefetch.Contents.atD (tbl m) 1 ![0] = nt m := by
  have hh : ∀ a, (![0] : Fin 1 → ℕ) a + 1 ≤ (pre0.ref 1).ty.shape.size a := fun a => by fin_cases a; exact Nat.le_refl 1
  unfold nt nOf
  refine (dif_pos hh).trans (congrArg (V m 0 main_arg1) (funext fun a => Fin.ext ?_))
  fin_cases a
  rfl

/-- The weight blocks the tables name lie inside the weights, and the rows they name are rows. -/
structure Ok : Prop where
  ok : ok0 (tbl m)
  rows : RowsOk (V m 0 main_arg2)

variable (h : Ok m)

/-- The tables, admissible. -/
def adm : (p : Fin 1) → (pcfgs (F := F) p).Adm := fun _ => ⟨tbl m, h.ok⟩

/-- The pipeline's configuration at the launched tables. -/
abbrev cf : Cfg sig Λ₀ := cfg0 (adm m h 0)

/-- Input window `w`'s block at a grid point. -/
def iblk (c : Dev nD) (w : Fin (cf m h).W) (t : Fin (cf m h).N) : (((cf m h).win w).xblock ((cf m h).grid.coords t)).Idx → Elt F ((cf m h).win w).elt :=
  (((cf m h).win w).blk t).view.read (Elt F) (V m c (Pipeline.arrRef spec0 w))

/-- The gathered tile at a grid point, in the low-precision format. -/
def tileAt (c : Dev nD) (i : grid0.Coords) : S640x2048.Idx → Elt F .bf16 := k0_pay1 (gath i (V m 0 main_arg2) h.rows (V m c main_arg3))

/-- One step of the accumulator. -/
def stepAt (c : Dev nD) (t : Fin (cf m h).N) (b : S640x2048.Idx → Elt F .f32) : S640x2048.Idx → Elt F .f32 :=
  k0_pay3 (tileAt m h c (grid0.coords t)) (iblk m h c 0 t) (iblk m h c 1 t) b (iblk m h c 2 t)

/-- The accumulator after `n` points. -/
def accN (c : Dev nD) : ℕ → S640x2048.Idx → Elt F .f32
  | 0 => k0_pay2
  | n + 1 => if hn : n < (cf m h).N then stepAt m h c ⟨n, hn⟩ (if n % 14 = 0 then k0_pay2 else accN c n) else k0_pay2

/-- One more point of the accumulator. -/
theorem accN_succ (c : Dev nD) (t : Fin (cf m h).N) :
    accN m h c (t.val + 1) = stepAt m h c t (if t.val % 14 = 0 then k0_pay2 else accN m h c t.val) := by
  rw [accN, dif_pos t.isLt]

/-- What is known of the two scratch buffers after `n` points: if the last point's tile is used, the gathered tile and the accumulator. -/
def Known (c : Dev nD) (n : ℕ) (d10 : S640x2048.Idx → Elt F .bf16) (d11 : S640x2048.Idx → Elt F .f32) : Prop :=
  ∀ q : Fin grid0.N, q.val + 1 = n → used (grid0.coords q) (nt m) = 1#1 → d10 = tileAt m h c (grid0.coords q) ∧ d11 = accN m h c n

/-- The body's invariant after `n` points. -/
def inv (c : Dev nD) (n : ℕ) : sProp 𝕄 :=
  iprop((∃ d10 d11, ⌜Known m h c n d10 d11⌝ ∗ held c (V m 0 main_arg1) (V m 0 main_arg2) (V m c main_arg3) d10 d11)
    ∗ tbPt c tM0 (V m 0 main_v11) ∗ (∃ r, prngReg c r))

/-- The proof data of the pipeline. -/
def dats (_ : Fin 1) (c : Dev nD) : Dat τ (Elt F) Unit ℕ (Pipeline.UD sig nD τ) ℕ (cf m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => if used (grid0.coords t) (nt m) = 1#1 then accN m h c (t.val + 1) else k0_pay4
  Φ n := inv m h c n.val
  q w := Pipeline.shareOf spec0 w
  owed _ := 0

/-- A window's array before the call. -/
theorem A_eq (c : Dev nD) (w : Fin (cf m h).W) : (dats m h 0 c).A w = V m c (Pipeline.arrRef spec0 w) := by dsimp only [dats]

/-- The first weight window keeps its block, -/
theorem after_0 (c : Dev nD) (t) : (dats m h 0 c).after 0 t = iblk m h c 0 t := by dsimp only [dats]; rfl
/-- so does the second, -/
theorem after_1 (c : Dev nD) (t) : (dats m h 0 c).after 1 t = iblk m h c 1 t := by dsimp only [dats]; rfl
/-- and the third. -/
theorem after_2 (c : Dev nD) (t) : (dats m h 0 c).after 2 t = iblk m h c 2 t := by dsimp only [dats]; rfl
/-- What the result's window holds after a point. -/
theorem after_3 (c : Dev nD) (t : Fin (cf m h).N) : (dats m h 0 c).after 3 t = if used (grid0.coords t) (nt m) = 1#1 then accN m h c (t.val + 1) else k0_pay4 := by
  dsimp only [dats]; rfl

/-- A point finds the first weight block in its window, -/
theorem before_0 (c : Dev nD) (t : Fin (cf m h).N) (d) : (dats m h 0 c).before 0 t d = iblk m h c 0 t :=
  ((dats m h 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- the second in its own, -/
theorem before_1 (c : Dev nD) (t : Fin (cf m h).N) (d) : (dats m h 0 c).before 1 t d = iblk m h c 1 t :=
  ((dats m h 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- and the third. -/
theorem before_2 (c : Dev nD) (t : Fin (cf m h).N) (d) : (dats m h 0 c).before 2 t d = iblk m h c 2 t :=
  ((dats m h 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The result's rows are not written back before a tile's last weight block, -/
theorem flush_3 (t : Fin (cf m h).N) : ((cf m h).win 3).flush t = decide (t.val % 14 = 13) := by
  rw [Pipeline.Window.flush_eq_flushOf]; exact flush_tab t

/-- and are stored there only. -/
theorem idle_3 (t : Fin (cf m h).N) : (cf m h).idle 3 ((cf m h).grid.coords t) = !decide (t.val % 14 = 13) := by
  show (!(k0_cond3 (grid0.coords t) (Pipeline.Prefetch.Contents.atD (tbl m) 1 ![0]) == 1#1) && !(k0_cond4 (grid0.coords t) (Pipeline.Prefetch.Contents.atD (tbl m) 1 ![0]) == 1#1)) = _
  rw [nt_eq]
  have h3 := cond3_iff (grid0.coords t) (nt m)
  have h4 := cond4_iff (grid0.coords t) (nt m)
  rw [blk t] at h3 h4
  by_cases hj : t.val % 14 = 13
  · by_cases hu : used (grid0.coords t) (nt m) = 1#1
    · have : k0_cond3 (grid0.coords t) (nt m) = 1#1 := h3.mpr ⟨hu, hj⟩
      simp [this, hj]
    · have : k0_cond4 (grid0.coords t) (nt m) = 1#1 := h4.mpr ⟨hu, hj⟩
      simp [this, hj]
  · have n3 : ¬ k0_cond3 (grid0.coords t) (nt m) = 1#1 := fun e => hj (h3.mp e).2
    have n4 : ¬ k0_cond4 (grid0.coords t) (nt m) = 1#1 := fun e => hj (h4.mp e).2
    simp [n3, n4, hj]

/-! ## The body obligation -/

/-- The gathered rows depend on the tile only. -/
theorem gath_congr {i i' : grid0.Coords} (e : (i 0).val = (i' 0).val) (tb : S30080.Idx → BitVec 32) (hr : RowsOk tb) (fh : S12288x2048.Idx → Elt F .f32) :
    gath i tb hr fh = gath i' tb hr fh := by
  have ew (k : Fin 640) : word i k tb = word i' k tb := by
    unfold word
    refine congrArg tb (funext fun a => ?_)
    fin_cases a
    exact Fin.ext (by show 640 * (i 0).val + k.val = 640 * (i' 0).val + k.val; rw [e])
  have et : ∀ k : Fin 640, (word i k tb).toNat = (word i' k tb).toNat := fun k => by rw [ew]
  funext x
  unfold gath
  refine congrArg fh (funext fun a => ?_)
  fin_cases a
  · exact Fin.ext (et (x 0))
  · rfl

/-- Being used depends on the tile only. -/
theorem used_congr {i i' : grid0.Coords} (e : (i 0).val = (i' 0).val) (n : BitVec 32) : used i n = used i' n := by unfold used; rw [e]

/-- Inside a used tile the buffers hold the gathered tile and the accumulator. -/
theorem known_mid (c : Dev nD) (t : Fin grid0.N) {d10 d11} (hk : Known m h c t.val d10 d11) (hu : used (grid0.coords t) (nt m) = 1#1)
    (h0 : ¬ t.val % 14 = 0) : d10 = tileAt m h c (grid0.coords t) ∧ d11 = accN m h c t.val := by
  have hl : t.val < grid0.N := t.isLt
  have hn : t.val - 1 < grid0.N := by omega
  have e : (grid0.coords ⟨t.val - 1, hn⟩ 0).val = (grid0.coords t 0).val := by
    rw [tile, tile]; show (t.val - 1) / 14 = t.val / 14; omega
  obtain ⟨e1, e2⟩ := hk ⟨t.val - 1, hn⟩ (by show t.val - 1 + 1 = t.val; omega) (by rw [used_congr e]; exact hu)
  refine ⟨e1.trans ?_, e2⟩
  unfold tileAt
  rw [gath_congr e]

/-- What the body leaves known after a point of a used tile. -/
theorem known_used (c : Dev nD) (t : Fin grid0.N) {d10 d11} (e10 : d10 = tileAt m h c (grid0.coords t)) (e11 : d11 = accN m h c (t.val + 1)) :
    Known m h c (t.val + 1) d10 d11 := by
  intro q hq _
  have : q = t := Fin.ext (by omega)
  subst this
  exact ⟨e10, e11⟩

/-- After a point of an unused tile nothing is known. -/
theorem known_unused (c : Dev nD) (t : Fin grid0.N) {d10 d11} (hu : ¬ used (grid0.coords t) (nt m) = 1#1) : Known m h c (t.val + 1) d10 d11 := by
  intro q hq hq'
  have : q = t := Fin.ext (by omega)
  subst this
  exact absurd hq' hu

/-- The buffer the first weight window uses at a point, -/
abbrev st_0 (t : Fin (cf m h).N) := ((cf m h).win 0).stage ((cf m h).slots t 0)
/-- the second's, -/
abbrev st_1 (t : Fin (cf m h).N) := ((cf m h).win 1).stage ((cf m h).slots t 1)
/-- the third's, -/
abbrev st_2 (t : Fin (cf m h).N) := ((cf m h).win 2).stage ((cf m h).slots t 2)
/-- and the result's. -/
abbrev st_3 (t : Fin (cf m h).N) := ((cf m h).win 3).stage ((cf m h).slots t 3)
/-- The first window's buffer is a whole buffer, -/
theorem hst_0 (t : Fin (cf m h).N) : (st_0 m h t).IsWhole := Gen.hstage0_0 (((cf m h).slots t 0).cast Gen.nbuf0_0)
/-- the second's, -/
theorem hst_1 (t : Fin (cf m h).N) : (st_1 m h t).IsWhole := Gen.hstage0_1 (((cf m h).slots t 1).cast Gen.nbuf0_1)
/-- the third's, -/
theorem hst_2 (t : Fin (cf m h).N) : (st_2 m h t).IsWhole := Gen.hstage0_2 (((cf m h).slots t 2).cast Gen.nbuf0_2)
/-- and the result's. -/
theorem hst_3 (t : Fin (cf m h).N) : (st_3 m h t).IsWhole := Gen.hstage0_3 (((cf m h).slots t 3).cast Gen.nbuf0_3)

/-- The body at a grid point, on what the pipeline calls it with. -/
abbrev bodyAt (t : Fin (cf m h).N) : Prog (TpuEff nD τ sig (Elt F) Λ₀ .tc) PUnit :=
  bodyP (F := F) (grid0.coords t) (st_0 m h t) (hst_0 m h t) (st_1 m h t) (hst_1 m h t) (st_2 m h t) (hst_2 m h t) (st_3 m h t) (hst_3 m h t)

/-- What the body leaves in the result's buffer: at a point that stores nothing there what it found, else the data's contents. -/
def left3 (c : Dev nD) (t : Fin (cf m h).N) : sProp 𝕄 :=
  match (cf m h).idle 3 ((cf m h).grid.coords t) with
  | true =>
    match ((cf m h).win 3).flush t with
    | false => iprop(∃ d, owns (c : Thread nD τ) (st_3 m h t) fullShare ((dats m h 0 c).before 3 t d))
    | true => owns (c : Thread nD τ) (st_3 m h t) fullShare ((dats m h 0 c).after 3 t)
  | false => owns (c : Thread nD τ) (st_3 m h t) fullShare ((dats m h 0 c).after 3 t)

/-- Before a tile's last block nothing is asked of the result's buffer. -/
theorem left3_idle (c : Dev nD) (t : Fin (cf m h).N) (hj : ¬ t.val % 14 = 13) :
    left3 m h c t = iprop(∃ d, owns (c : Thread nD τ) (st_3 m h t) fullShare ((dats m h 0 c).before 3 t d)) := by
  unfold left3
  rw [idle_3, flush_3]
  simp only [hj, decide_false, Bool.not_false]

/-- At a tile's last block the result's buffer holds the result's block. -/
theorem left3_live (c : Dev nD) (t : Fin (cf m h).N) (hj : t.val % 14 = 13) :
    left3 m h c t = owns (c : Thread nD τ) (st_3 m h t) fullShare ((dats m h 0 c).after 3 t) := by
  unfold left3
  rw [idle_3]
  simp only [hj, decide_true, Bool.not_true]

/-- What a point's body starts from. -/
def bodyPre (c : Dev nD) (t : Fin (cf m h).N) : sProp 𝕄 :=
  iprop((dats m h 0 c).Φ t.castSucc ∗ (dats m h 0 c).owesAt () t.castSucc
    ∗ (∃ d, owns (c : Thread nD τ) (st_0 m h t) fullShare ((dats m h 0 c).before 0 t d))
    ∗ (∃ d, owns (c : Thread nD τ) (st_1 m h t) fullShare ((dats m h 0 c).before 1 t d))
    ∗ (∃ d, owns (c : Thread nD τ) (st_2 m h t) fullShare ((dats m h 0 c).before 2 t d))
    ∗ (∃ d, owns (c : Thread nD τ) (st_3 m h t) fullShare ((dats m h 0 c).before 3 t d)))
/-- What a point's body leaves. -/
def bodyPost (c : Dev nD) (t : Fin (cf m h).N) : sProp 𝕄 :=
  iprop((dats m h 0 c).Φ t.succ ∗ (dats m h 0 c).owesAt () t.succ
    ∗ owns (c : Thread nD τ) (st_0 m h t) fullShare ((dats m h 0 c).after 0 t)
    ∗ owns (c : Thread nD τ) (st_1 m h t) fullShare ((dats m h 0 c).after 1 t)
    ∗ owns (c : Thread nD τ) (st_2 m h t) fullShare ((dats m h 0 c).after 2 t)
    ∗ left3 m h c t)

/-- The invariant before a point. -/
theorem phi_pre (c : Dev nD) (t : Fin (cf m h).N) : (dats m h 0 c).Φ t.castSucc = inv m h c t.val := by
  dsimp only [dats]; exact Pipeline.Dat.Φ_castSucc (fun n _ => inv m h c n) t
/-- The invariant after a point. -/
theorem phi_post (c : Dev nD) (t : Fin (cf m h).N) : (dats m h 0 c).Φ t.succ = inv m h c (t.val + 1) := by
  dsimp only [dats]; rfl

/-- A point of an unused tile before its last block. -/
theorem body_unused [∀ e, Nonempty (Elt F e)] (c : Dev nD) (t : Fin (cf m h).N) (hu : ¬ used (grid0.coords t) (nt m) = 1#1) (hj : ¬ t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_unused c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact hj) d10 d11 _ W _)
  isplitl [Hh]; · iexact Hh
  isplitl [HW]; · iexact HW
  isplitl [H3]; · iexact H3
  iintro ⟨Hh, ⟨%W', HW'⟩, H3⟩
  isplitl [Hh Ht0 Hg]
  · isplitl [Hh]
    · iexists _, _; isplitr; swap; · iexact Hh
      ipureintro; exact known_unused m h c t hu
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t hj]
  iexists d3; iexact H3

/-- The last point of an unused tile. -/
theorem body_zero [∀ e, Nonempty (Elt F e)] (c : Dev nD) (t : Fin (cf m h).N) (hu : ¬ used (grid0.coords t) (nt m) = 1#1) (hj : t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_zero c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact hj) d10 d11 _ W _)
  isplitl [Hh]; · iexact Hh
  isplitl [HW]; · iexact HW
  isplitl [H3]; · iexact H3
  iintro ⟨Hh, ⟨%W', HW'⟩, H3⟩
  isplitl [Hh Ht0 Hg]
  · isplitl [Hh]
    · iexists _, _; isplitr; swap; · iexact Hh
      ipureintro; exact known_unused m h c t hu
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_live m h c t hj, after_3, if_neg hu]
  iexact H3

/-- A middle point of a used tile. -/
theorem body_mid [∀ e, Nonempty (Elt F e)] (c : Dev nD) (t : Fin (cf m h).N) (hu : used (grid0.coords t) (nt m) = 1#1) (h0 : ¬ t.val % 14 = 0) (hj : ¬ t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  obtain ⟨rfl, rfl⟩ := known_mid m h c t hk hu h0
  iapply (run_mid c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact h0) (by rw [blk]; exact hj) _ _ _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_neg h0]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t hj]
  iexists d3; iexact H3

/-- The last point of a used tile. -/
theorem body_last [∀ e, Nonempty (Elt F e)] (c : Dev nD) (t : Fin (cf m h).N) (hu : used (grid0.coords t) (nt m) = 1#1) (hj : t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  obtain ⟨rfl, rfl⟩ := known_mid m h c t hk hu (by omega)
  iapply (run_last c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; omega) (by rw [blk]; exact hj) _ _ _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_neg (by omega)]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_live m h c t hj, after_3, if_pos hu, accN_succ, if_neg (by omega)]
  iexact H3

/-- The first point of a used tile. -/
theorem body_first [∀ e, Nonempty (Elt F e)] (c : Dev nD) (t : Fin (cf m h).N) (hu : used (grid0.coords t) (nt m) = 1#1) (h0 : t.val % 14 = 0) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_first c (grid0.coords t) (V m 0 main_arg1) (V m 0 main_arg2) h.rows (V m c main_arg3) (st_0 m h t) (hst_0 m h t) (st_1 m h t) (hst_1 m h t) (st_2 m h t) (hst_2 m h t) (st_3 m h t) (hst_3 m h t) hu (by rw [blk]; exact h0) (by rw [blk]; omega) d10 d11 _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_pos h0]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t (by omega)]
  iexists d3; iexact H3

/-- Every point's body, by the five cases. -/
theorem sound_body [∀ e, Nonempty (Elt F e)] (c : Dev nD) (t : Fin (cf m h).N) :
    bodyPre m h c t ⊢ wp frame (wpE (defs₀ (F := F)) Variants.none (c : Thread nD τ) none) Set.univ (bodyAt m h t) (fun _ => bodyPost m h c t) := by
  by_cases hu : used (grid0.coords t) (nt m) = 1#1
  · by_cases h0 : t.val % 14 = 0
    · exact body_first m h c t hu h0
    · by_cases hj : t.val % 14 = 13
      · exact body_last m h c t hu hj
      · exact body_mid m h c t hu h0 hj
  · by_cases hj : t.val % 14 = 13
    · exact body_zero m h c t hu hj
    · exact body_unused m h c t hu hj

/-- The call's body is the printed one. -/
theorem defs₀_row (t : Fin (cf m h).N) : defs₀ (F := F) .tc (cf m h).body ((cf m h).bodyArgs t ((cf m h).slots t)) = bodyAt m h t := by
  unfold defs₀; rw [Defs.onTc_tc]; rfl

/-- The body meets what the pipeline asks of it. -/
theorem body_obligation [∀ e, Nonempty (Elt F e)] (c : Dev nD) : BodyObligation (dats (F := F) m h 0 c) (defs₀ (F := F)) Variants.none () Set.univ := fun t => by
  rw [bigSep_W0, bigSep_W0, defs₀_row]
  exact triple_restated (sound_body m h c t) rfl .rfl fun _ => .rfl

end Data

end Cert.MoeIdeal.Hand

end
-- ==== Proof.MoeRun.lean ====
module

public import proofs.«01_k».proof.Proof.MoeFrame
public import Idealize.ShloMosaic.Lib.Pipeline.Frame

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host code before the call -/

/-- The host's operations take no new memory. -/
theorem host_fresh : (hostOps0 : List (HloOp τ sig (Elt F))).Forall fun op => op.fresh = ∅ := by
  simp only [List.Forall]; repeat' constructor

section Run

variable (m : (ℓ : Loc nD τ sig) → Buf (Elt F) ℓ) (ρ : Dev nD → PrngReg)

/-- The host code leaves a buffer it does not write as launched. -/
theorem V_arg (c : Dev nD) (b : Ref sig .tc) (hb : b ∈ ([main_arg0, main_arg1, main_arg2, main_arg3, main_arg4, main_arg5] : List (Ref sig .tc))) :
    V m c b = m ((c : Thread nD τ).loc b) := by
  unfold V
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes,
    StableHlo.reshape_writes, Finset.mem_singleton]
  fin_cases hb <;> (repeat' apply And.intro) <;> exact StableHlo.devRef_ne_of_ne (by decide)

/-- The host's part of the run up to the call. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub host_fresh main_chain

/-! ## What the body keeps of its own -/

/-- The body's own cell. -/
abbrev osem0 : Fin 1 → SemLoc sig := fun j => (![SemLoc.dma 7] : Fin 1 → SemLoc sig) j
/-- The call's own semaphore is its own. -/
theorem ownSemFacts0 : Pipeline.OwnSemFacts spec0 osem0 := by decide
/-- The call's own semaphores, listed. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The operand the body's transfers read: the tokens. -/
def H0 : Finset (Ref sig .tc) := {main_arg3}
/-- The model's rows are among the arrays the pipeline leaves alone. -/
theorem H0_sub : H0 ⊆ Pipeline.restRefsP sig pre0 spec0 := by decide
/-- The arrays the body reads itself, listed. -/
theorem hbmPts0_eq (c : Dev nD) :
    (bigSep H0 (fun b => ((c : Thread nD τ).loc b) ↦{fullShare} V m c b) : sProp 𝕄) = bufPt c hM (V m c main_arg3) := by
  unfold H0; rw [bigSep_singleton]

/-- There is one device. -/
theorem dev0 (c : Dev nD) : c = 0 := Subsingleton.elim _ _

/-- The launched tables, listed. -/
theorem PhiT_eq (c : Dev nD) : (Pipeline.ΦT pre0 (tbl m) c : sProp 𝕄)
    = iprop(tbPt c tM0 (V m 0 main_v11) ∗ tbPt c tM1 (V m 0 main_arg1) ∗ tbPt c tM2 (V m 0 main_arg2)) := by
  unfold Pipeline.ΦT Pipeline.prefHeld
  rw [show (Finset.univ : Finset (Fin 3)) = insert (0 : Fin 3) (insert 1 {2}) from by decide, bigSep_insert (by decide), bigSep_insert (by decide), bigSep_singleton]
  rfl

variable (h : Ok m)

/-- Before the first point nothing is known of the buffers. -/
theorem known_zero (c : Dev nD) (d10 d11) : Known m h c 0 d10 d11 := fun q hq _ => absurd hq (Nat.succ_ne_zero _)

/-- What the region hands the body opens its invariant. -/
theorem inv_in (c : Dev nD) : iprop(Pipeline.ΦD osem0 spec0 H0 (V m) c ∗ Pipeline.ΦT pre0 (tbl m) c) ⊢ inv m h c 0 := by
  rw [Pipeline.ΦD_eq, scopedRest0_eq, ownSems00_eq, hbmPts0_eq, PhiT_eq]
  unfold inv held
  iintro ⟨⟨⟨⟨%f0, Ha⟩, ⟨%f1, Hb⟩⟩, Hg, Hs, Hh⟩, Ht0, Ht1, Ht2⟩
  isplitl [Ha Hb Hs Hh Ht1 Ht2]
  · iexists f0, f1; isplitr
    · ipureintro; exact known_zero m h c _ _
    isplitl [Ht1]; · iexact Ht1
    isplitl [Ht2]; · iexact Ht2
    isplitl [Hh]; · iexact Hh
    isplitl [Ha]; · iexact Ha
    isplitl [Hb]; · iexact Hb
    iexact Hs
  isplitl [Ht0]; · iexact Ht0
  iexact Hg

/-- The invariant after the last point gives back what the region handed over. -/
theorem inv_out (c : Dev nD) (n : ℕ) : inv m h c n ⊢ Pipeline.ΦD osem0 spec0 H0 (V m) c := by
  rw [Pipeline.ΦD_eq, scopedRest0_eq, ownSems00_eq, hbmPts0_eq]
  unfold inv held
  iintro ⟨⟨%d0, %d1, -, -, -, Hh, Ha, Hb, Hs⟩, -, Hg⟩
  isplitl [Ha Hb]
  · isplitl [Ha]; · iexists d0; iexact Ha
    iexists d1; iexact Hb
  isplitl [Hg]; · iexact Hg
  isplitl [Hs]; · iexact Hs
  iexact Hh

/-! ## The run -/

set_option backward.isDefEq.respectTransparency.types false in
/-- The whole run. -/
theorem run_main [∀ e, Nonempty (Elt F e)] : θ_run defs (onTc (τ := τ) (main (F := F))) (s₀ m ρ)
    (fun r => Pipeline.FramePost (Pipeline.pin pcfgs (adm m h)) (dats m h) 0 (V m) r ∧ r.2.sem = fun _ => 0) :=
  Pipeline.θ_run_frameP_dma_shared (Q' := _) pcfgs (adm m h) (dats m h) (0 : Fin 1) launch₀0 osem0 defs₀ Variants.none ownSemFacts0 H0 H0_sub m ρ main
    (hbody := fun c => (body_obligation m h c).loose) (hq := fun _ _ _ => rfl)
    (howed := fun _ _ => rfl) (V := V m) (hmain := hmain m Variants.none) (hA := A_eq m h)
    (hpf := fun c k => by rw [dev0 c]; rfl)
    (hin := fun c => inv_in m h c) (hout := fun c => inv_out m h c _)

/-- The first four arguments are not arrays of the windows. -/
theorem rest_arg (b : Ref sig .tc) (hb : b ∈ ([main_arg0, main_arg1, main_arg2, main_arg3] : List (Ref sig .tc))) : b ∈ Pipeline.restRefs sig spec0 := by
  fin_cases hb <;> exact Pipeline.mem_restRefs_of _ (by decide) (by decide)

/-- The frame and the result's array, from the run. -/
theorem run_post [∀ e, Nonempty (Elt F e)] : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v12) = (dats m h 0 c).arrAt 3 (cf m h).N)
      ∧ r.2.sem = fun _ => 0) :=
  (θ_run defs _ _).mono (fun r hr => ⟨fun c => ⟨⟨
      ((hr.1 c).2 main_arg0 (rest_arg main_arg0 (by decide))).trans (V_arg m c main_arg0 (by decide)),
      ((hr.1 c).2 main_arg1 (rest_arg main_arg1 (by decide))).trans (V_arg m c main_arg1 (by decide)),
      ((hr.1 c).2 main_arg2 (rest_arg main_arg2 (by decide))).trans (V_arg m c main_arg2 (by decide)),
      ((hr.1 c).2 main_arg3 (rest_arg main_arg3 (by decide))).trans (V_arg m c main_arg3 (by decide)),
      ((hr.1 c).1 0).trans (((dats m h 0 c).arrAt_in 0 rfl _).trans ((A_eq m h c 0).trans (V_arg m c main_arg4 (by decide)))),
      ((hr.1 c).1 2).trans (((dats m h 0 c).arrAt_in 2 rfl _).trans ((A_eq m h c 2).trans (V_arg m c main_arg5 (by decide))))⟩, (hr.1 c).1 3⟩, hr.2⟩) (run_main m ρ h)

end Run

end Cert.MoeIdeal.Hand

end
-- ==== Proof.MoePre.lean ====
module

public import proofs.«01_k».proof.Pre_tables_in_range
public import proofs.«01_k».proof.Proof.Gen.Pre_tables_in_range
public import Idealize.ShloMosaic.Lib.ReduceAll
public import Idealize.ShloMosaic.Lib.WordArith
public import Idealize.ShloMosaic.Lib.Pipeline.ValueKit

@[expose] public section

noncomputable section

namespace Cert.Pre_tables_in_range.Moe

open Cert.Pre_tables_in_range Idealize.ShloMosaic

/-- A word between two numbers in the signed order, as a natural number. -/
theorem nat_of_cmp {x : BitVec 32} {k : ℕ} (hk : k < 2 ^ 31) (h0 : IntOp.cmpi .sge x 0#32 = 1#1) (h1 : IntOp.cmpi .slt x (BitVec.ofNat 32 k) = 1#1) : x.toNat < k := by
  simp only [IntOp.cmpi, WordArith.ofBool_eq_one_iff, BitVec.sle_eq_decide, BitVec.slt_eq_decide, decide_eq_true_eq, BitVec.toInt_eq_toNat_cond, BitVec.toNat_ofNat] at h0 h1
  omega

/-- The precondition read: the experts and the rows are in range. -/
theorem ranges {F : FTy → Type} [FloatOps F] (x0 : IVec S47 32) (x1 : IVec S1 32) (x2 : IVec S30080 32) (x3 : FVec F S12288x2048 .f32) (x4 : FVec F S2x8x2048x14336 .f32)
    (x5 : FVec F S2x8x7168x2048 .f32) (hp : fn (F := F) x0 x1 x2 x3 x4 x5 = fun _ => 1#1) :
    (∀ i, (x0 i).toNat < 8) ∧ ∀ i, (x2 i).toNat < 12288 := by
  have h : ∀ a b : BitVec 1, IntOp.andi a b = 1#1 → a = 1#1 ∧ b = 1#1 := by decide
  haveI : Subsingleton S_.Idx := ⟨fun a b => funext fun k => k.elim0⟩
  obtain ⟨h3, hd⟩ := h _ _ (congrFun hp ix0)
  obtain ⟨h2, hc⟩ := h _ _ h3
  obtain ⟨ha, hb⟩ := h _ _ h2
  exact ⟨fun i => nat_of_cmp (by norm_num) (Host.reduce_andi_all _ _ _ _ _ ha i) (Host.reduce_andi_all _ _ _ _ _ hb i),
    fun i => nat_of_cmp (by norm_num) (Host.reduce_andi_all _ _ _ _ _ hc i) (Host.reduce_andi_all _ _ _ _ _ hd i)⟩

end Cert.Pre_tables_in_range.Moe
end
end
-- ==== Proof.MoeTab.lean ====
module

public import proofs.«01_k».proof.Proof.MoeRun
public import proofs.«01_k».proof.Proof.MoePre
public import Idealize.ShloMosaic.Lib.StableHlo.Predicate
public import Idealize.ShloMosaic.Lib.WordCmp

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe Idealize.ShloMosaic.Tactic
open Idealize.SL Idealize.SL.Sem

variable {F : FTy → Type} [FloatOps F]

section Tab

variable (m : (ℓ : Loc nD τ sig) → Buf (Elt F) ℓ)

/-- The expert tables and the rows as launched, and their ranges. -/
def Ranges : Prop :=
  (∀ i, (m (((0 : Dev nD).tc : Thread nD τ).loc main_arg0) i).toNat < 8)
    ∧ ∀ i, (m (((0 : Dev nD).tc : Thread nD τ).loc main_arg2) i).toNat < 12288

/-- The position of a tile in the table of experts: the last used tile's where the tile is not used. -/
def posn (x1 : IVec S1 32) : IVec S47 32 :=
  minsi (iotaInDim S47 32 0) (broadcastInDim S47 ![] Gen.bcast_S_S47 (subi (shapeCast S_ x1 Gen.shapeCasts_S1_S_) (constantI S_ 32 1#32)))

/-- The table of experts the pipeline finds. -/
theorem V_tab (c : Dev nD) : V m c main_v11 = Host.gather gather_S47_S47x1_S47_n_0_n_n_0_1_1 (m ((c : Thread nD τ).loc main_arg0))
    (broadcastInDim S47x1 ![0] Gen.bcast_S47_S47x1_0 (select (cmpi .slt (posn (m ((c : Thread nD τ).loc main_arg1))) (broadcastInDim S47 ![] Gen.bcast_S_S47 (constantI S_ 32 0#32)))
      (addi (posn (m ((c : Thread nD τ).loc main_arg1))) (broadcastInDim S47 ![] Gen.bcast_S_S47 (constantI S_ 32 47#32))) (posn (m ((c : Thread nD τ).loc main_arg1))))) := by
  unfold V; after_results; try rfl

/-- The table's position of a tile. -/
def e47 (k : Fin 47) : S47.Idx := fun a => match a with | ⟨0, _⟩ => k

/-- Every position is one of those. -/
theorem of_idx (x : S47.Idx) : x = e47 ⟨(x 0).val, (x 0).isLt⟩ := by
  funext a; fin_cases a; rfl

/-- A gather from a table of 47 words, read at a position. -/
theorem take_at (x : IVec S47 32) (idx : IVec S47x1 32) (p : Fin 47) :
    Host.gather gather_S47_S47x1_S47_n_0_n_n_0_1_1 x idx (e47 p) = x (e47 ⟨min (idx (ix2 p 0)).toInt.toNat 46, by omega⟩) := by
  have e : ∀ q : Fin 47, e47 q = Shape.Idx.ofFin q := fun q => by funext a; fin_cases a; rfl
  rw [e, e]
  refine (StableHlo.Predicate.gather_take gather_S47_S47x1_S47_n_0_n_n_0_1_1 rfl rfl rfl rfl x idx p (by norm_num)).trans ?_
  have e2 : StableHlo.Predicate.ixP p = (ix2 p 0 : S47x1.Idx) := by funext a; fin_cases a <;> rfl
  exact congrArg (fun q => x (Shape.Idx.ofFin q)) (Fin.ext (show min (idx (StableHlo.Predicate.ixP p)).toInt.toNat 46 = min (idx (ix2 p 0)).toInt.toNat 46 by rw [e2]))

/-- Its entries are experts. -/
theorem tab_lt (hr : Ranges m) (c : Dev nD) (x : S47.Idx) : (V m c main_v11 x).toNat < 8 := by
  rw [V_tab, of_idx x, dev0 c, take_at]
  exact hr.1 _

/-- The position of a used tile is its own. -/
theorem posn_used (x1 : IVec S1 32) (h1 : (x1 (ix1 0)).toNat < 2 ^ 31) (p : Fin 47) (hp : p.val < (x1 (ix1 0)).toNat) :
    posn x1 (e47 p) = BitVec.ofNat 32 p.val := by
  have e : posn x1 (e47 p) = IntOp.minsi (BitVec.ofNat 32 p.val) (x1 (ix1 0) - 1#32) := by
    unfold posn
    show IntOp.minsi (BitVec.ofNat 32 p.val) (IntOp.subi (shapeCast S_ x1 Gen.shapeCasts_S1_S_ _) 1#32) = _
    pointwise []
    rfl
  rw [e]
  generalize x1 (ix1 0) = n at *
  unfold IntOp.minsi
  have hs : (n - 1#32).toNat = n.toNat - 1 := by rw [BitVec.toNat_sub]; have := n.isLt; simp; omega
  have hq := p.isLt
  by_cases hlt : p.val + 1 < n.toNat
  · rw [if_pos]
    rw [BitVec.slt_eq_decide, decide_eq_true_eq, BitVec.toInt_eq_toNat_cond, BitVec.toInt_eq_toNat_cond, hs, BitVec.toNat_ofNat]
    omega
  · rw [if_neg]
    · apply BitVec.eq_of_toNat_eq
      rw [hs, BitVec.toNat_ofNat]
      omega
    · rw [BitVec.slt_eq_decide, decide_eq_true_eq, BitVec.toInt_eq_toNat_cond, BitVec.toInt_eq_toNat_cond, hs, BitVec.toNat_ofNat]
      omega

/-- A word above a tile's number in the signed order is positive and above it as a number. -/
theorem lt_of_slt (n : BitVec 32) (p : Fin 47) (hu : IntOp.cmpi .slt (BitVec.ofNat 32 p.val) n = 1#1) : p.val < n.toNat ∧ n.toNat < 2 ^ 31 := by
  have hp := p.isLt
  have hn := n.isLt
  simp only [IntOp.cmpi, WordArith.ofBool_eq_one_iff, BitVec.slt_eq_decide, decide_eq_true_eq, BitVec.toInt_eq_toNat_cond, BitVec.toNat_ofNat] at hu
  omega

/-- The table holds a used tile's own expert. -/
theorem tab_used (hr : Ranges m) (c : Dev nD) (p : Fin 47)
    (hu : IntOp.cmpi .slt (BitVec.ofNat 32 p.val) (m ((c.tc : Thread nD τ).loc main_arg1) (ix1 0)) = 1#1) :
    V m c main_v11 (e47 p) = m ((c.tc : Thread nD τ).loc main_arg0) (e47 p) := by
  obtain rfl := dev0 c
  rw [V_tab, take_at]
  obtain ⟨hp, h1⟩ := lt_of_slt _ p hu
  have hq := posn_used _ h1 p hp
  refine congrArg _ (congrArg e47 (Fin.ext ?_))
  have e : ∀ w a b : IVec S47 32, broadcastInDim S47x1 ![0] Gen.bcast_S47_S47x1_0 (select (cmpi .slt w a) (addi w b) w) (ix2 p 0)
      = Scalar.select (IntOp.cmpi .slt (w (e47 p)) (a (e47 p))) (IntOp.addi (w (e47 p)) (b (e47 p))) (w (e47 p)) := fun w a b => by
    have : ∀ z : IVec S47 32, broadcastInDim S47x1 ![0] Gen.bcast_S47_S47x1_0 z (ix2 p 0) = z (e47 p) := fun z =>
      congrArg z (by funext a; fin_cases a; rfl)
    rw [this]; rfl
  have k : ∀ q : Fin 47, (Scalar.select (IntOp.cmpi .slt (BitVec.ofNat 32 q.val) 0#32) (IntOp.addi (BitVec.ofNat 32 q.val) 47#32) (BitVec.ofNat 32 q.val)).toInt.toNat = q.val := by decide
  show min (BitVec.toInt _).toNat 46 = p.val
  rw [e, hq]
  have := k p
  exact (congrArg (min · 46) this).trans (by have := p.isLt; omega)

/-- The weight block a grid point reads: its own, the last where the tile is not used. -/
def jj (i : grid0.Coords) (n : BitVec 32) : ℕ := (Scalar.select (used i n) (BitVec.ofNat 32 (i 1).val) 13#32).toNat

/-- The weight block a point asks for is one of the fourteen. -/
theorem jj_lt (i : grid0.Coords) (n : BitVec 32) : jj i n < 14 := by
  have h1 : (i 1).val < 14 := (i 1).isLt
  unfold jj Scalar.select
  split
  · rw [BitVec.toNat_ofNat]; omega
  · decide

/-- A used tile's point asks for its own block. -/
theorem jj_used (i : grid0.Coords) (n : BitVec 32) (hu : used i n = 1#1) : jj i n = (i 1).val := by
  have h1 : (i 1).val < 14 := (i 1).isLt
  unfold jj; rw [hu]
  show (BitVec.ofNat 32 (i 1).val).toNat = _
  rw [BitVec.toNat_ofNat]; omega

/-- The word of the table of experts a grid point reads. -/
theorem at_tab (i : grid0.Coords) (hh) (h1) : (tbl m).at 0 (Rect.unit (s := S47) ![(Scalar.indexCast (BitVec.ofNat 32 (i 0).val)).toNat] S1.size hh) h1
    = V m 0 main_v11 (e47 ⟨(i 0).val, (i 0).isLt⟩) := by
  refine congrArg (V m 0 main_v11) (funext fun a => Fin.ext ?_)
  have h0 : (i 0).val < 47 := (i 0).isLt
  fin_cases a
  show (BitVec.ofNat 32 (i 0).val).toNat + 1 * _ = (i 0).val
  rw [BitVec.toNat_ofNat]
  have h2 : (Shape.Idx.first (s := (Rect.unit (s := S47) ![(Scalar.indexCast (BitVec.ofNat 32 (i 0).val)).toNat] S1.size hh).shape) (h1.symm ▸ Nat.one_pos) 0).val < 1 := Fin.isLt _
  refine (congrArg (fun z => (i 0).val % 2 ^ 32 + 1 * z) (Nat.lt_one_iff.mp h2)).trans ?_
  omega

/-- The number of used tiles as it reads it. -/
theorem at_n (hh) (h1) : (tbl m).at 1 (Rect.unit (s := S1) ![0] S1.size hh) h1 = nt m :=
  congrArg (V m 0 main_arg1) (funext fun a => Fin.ext (by
    fin_cases a
    exact (Nat.lt_one_iff.mp (Fin.isLt _)).trans (Nat.lt_one_iff.mp (Fin.isLt _)).symm))

/-- The first weights' index map at a grid point, from the words it reads, -/
def f1 (i : grid0.Coords) (w n : BitVec 32) : Fin 4 → ℕ := ![0, w.toNat, 0, (Scalar.addi 0#32 (Scalar.select (used i n) (BitVec.ofNat 32 (i 1).val) 13#32)).toNat]
/-- The printed index map of the first weight window, -/
theorem f1_eq (pf : pre0.Contents (Elt F)) (i : grid0.Coords) : cc0_transform_1 Facts₀.inb_S1_S1_0 Facts₀.numel1_S1 Facts₀.k0_off1_inb pf i
    = f1 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f1_val (i : grid0.Coords) (w n : BitVec 32) : f1 i w n = ![0, w.toNat, 0, jj i n] := by
  unfold f1 jj
  rw [show ∀ x : BitVec 32, Scalar.addi 0#32 x = x from fun x => BitVec.zero_add x]
/-- It read in the tables. -/
theorem tr1 (i : grid0.Coords) : cc0_transform_1 Facts₀.inb_S1_S1_0 Facts₀.numel1_S1 Facts₀.k0_off1_inb (tbl m) i
    = ![0, (V m 0 main_v11 (e47 ⟨(i 0).val, (i 0).isLt⟩)).toNat, 0, jj i (nt m)] :=
  (f1_eq (tbl m) i).trans ((congrArg₂ (f1 i) (at_tab m i _ _) (at_n m _ _)).trans (f1_val i _ _))

/-- the second's, -/
def f2 (i : grid0.Coords) (w n : BitVec 32) : Fin 4 → ℕ := ![0, w.toNat, 0, (Scalar.addi 14#32 (Scalar.select (used i n) (BitVec.ofNat 32 (i 1).val) 13#32)).toNat]
/-- The printed index map of the second, -/
theorem f2_eq (pf : pre0.Contents (Elt F)) (i : grid0.Coords) : cc0_transform_2 Facts₀.inb_S1_S1_0 Facts₀.numel1_S1 Facts₀.k0_off1_inb pf i
    = f2 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f2_val (i : grid0.Coords) (w n : BitVec 32) : f2 i w n = ![0, w.toNat, 0, 14 + jj i n] := by
  have hj := jj_lt i n
  have e : (Scalar.addi 14#32 (Scalar.select (used i n) (BitVec.ofNat 32 (i 1).val) 13#32)).toNat = 14 + jj i n := by
    show (14#32 + Scalar.select (used i n) (BitVec.ofNat 32 (i 1).val) 13#32).toNat = 14 + jj i n
    rw [BitVec.toNat_add]
    show (14 + jj i n) % 2 ^ 32 = _
    omega
  unfold f2
  rw [e]
/-- It read in the tables. -/
theorem tr2 (i : grid0.Coords) : cc0_transform_2 Facts₀.inb_S1_S1_0 Facts₀.numel1_S1 Facts₀.k0_off1_inb (tbl m) i
    = ![0, (V m 0 main_v11 (e47 ⟨(i 0).val, (i 0).isLt⟩)).toNat, 0, 14 + jj i (nt m)] :=
  (f2_eq (tbl m) i).trans ((congrArg₂ (f2 i) (at_tab m i _ _) (at_n m _ _)).trans (f2_val i _ _))

/-- and the third's. -/
def f3 (i : grid0.Coords) (w n : BitVec 32) : Fin 4 → ℕ := ![0, w.toNat, (Scalar.select (used i n) (BitVec.ofNat 32 (i 1).val) 13#32).toNat, 0]
/-- The printed index map of the third, -/
theorem f3_eq (pf : pre0.Contents (Elt F)) (i : grid0.Coords) : cc0_transform_3 Facts₀.inb_S1_S1_0 Facts₀.numel1_S1 Facts₀.k0_off1_inb pf i
    = f3 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f3_val (i : grid0.Coords) (w n : BitVec 32) : f3 i w n = ![0, w.toNat, jj i n, 0] := by
  rfl
/-- It read in the tables. -/
theorem tr3 (i : grid0.Coords) : cc0_transform_3 Facts₀.inb_S1_S1_0 Facts₀.numel1_S1 Facts₀.k0_off1_inb (tbl m) i
    = ![0, (V m 0 main_v11 (e47 ⟨(i 0).val, (i 0).isLt⟩)).toNat, jj i (nt m), 0] :=
  (f3_eq (tbl m) i).trans ((congrArg₂ (f3 i) (at_tab m i _ _) (at_n m _ _)).trans (f3_val i _ _))

/-- The ranges make the tables admissible. -/
theorem ok_of (hr : Ranges m) : Ok m where
  ok := ⟨fun i => ⟨fun a => by
      have ht := tab_lt m hr 0 (e47 ⟨(i 0).val, (i 0).isLt⟩); have hj := jj_lt i (nt m)
      rw [tr1]; fin_cases a
      · exact Nat.le_of_ble_eq_true rfl
      · exact (Nat.mul_one _).trans_le (Nat.succ_le_of_lt ht)
      · exact Nat.le_of_ble_eq_true rfl
      · show (jj i (nt m) + 1) * 512 ≤ 14336; omega, .inl rfl⟩,
    fun i => ⟨fun a => by
      have ht := tab_lt m hr 0 (e47 ⟨(i 0).val, (i 0).isLt⟩); have hj := jj_lt i (nt m)
      rw [tr2]; fin_cases a
      · exact Nat.le_of_ble_eq_true rfl
      · exact (Nat.mul_one _).trans_le (Nat.succ_le_of_lt ht)
      · exact Nat.le_of_ble_eq_true rfl
      · show (14 + jj i (nt m) + 1) * 512 ≤ 14336; omega, .inl rfl⟩,
    fun i => ⟨fun a => by
      have ht := tab_lt m hr 0 (e47 ⟨(i 0).val, (i 0).isLt⟩); have hj := jj_lt i (nt m)
      rw [tr3]; fin_cases a
      · exact Nat.le_of_ble_eq_true rfl
      · exact (Nat.mul_one _).trans_le (Nat.succ_le_of_lt ht)
      · show (jj i (nt m) + 1) * 512 ≤ 7168; omega
      · exact Nat.le_of_ble_eq_true rfl, .inl rfl⟩⟩
  rows := fun x => by rw [V_arg m 0 main_arg2 (by decide)]; exact hr.2 x

end Tab

end Cert.MoeIdeal.Hand
end
-- ==== Proof.MoeFrames.lean ====
module

public import proofs.«01_k».proof.Defs
public import proofs.«01_k».proof.Proof.MoeTab
public import proofs.«01_k».proof.Proof.Gen.Moe
public import proofs.«01_k».proof.Proof.Gen.MoeIdeal

@[expose] public section

noncomputable section

namespace Cert.MoeIdeal.Hand

open Cert.MoeIdeal Cert.MoeIdeal.Gen Cert.MoeIdeal.Facts₀ Cert.MoeIdeal.Facts
open Idealize.ShloMosaic Idealize.ShloMosaic.TcCoe
open Idealize.SL Idealize.SL.Sem

/-- The precondition gives the ranges. -/
theorem ranges_of (m : (ℓ : Loc nD τ sig) → Buf (Elt Ideal) ℓ) (hp : Cert.Pre_MoeIdeal m) : Ranges m :=
  Cert.Pre_tables_in_range.Moe.ranges _ _ _ _ _ _ (hp 0)

/-- The call ends and keeps its arguments, over any floats. -/
theorem frame_of {F : FTy → Type} [FloatOps F] [∀ e, Nonempty (Elt F e)] (m : (ℓ : Loc nD τ sig) → Buf (Elt F) ℓ) (g : Dev nD → PrngReg) (h : Ok m) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ q => ⟨fun c => (q.1 c).1, q.2⟩) (run_post m g h)

/-- The experts' call at the extended reals: it ends and keeps its arguments. -/
theorem frame_ideal : Cert.quiescent_MoeIdeal := fun m g hp => frame_of m g (ok_of m (ranges_of m hp))

/-- The precondition gives the ranges, at the bits. -/
theorem ranges_bits (m : (ℓ : Loc nD τ sig) → Buf (Elt Bits) ℓ) (hp : Cert.Pre_Moe m) : Ranges m :=
  Cert.Pre_tables_in_range.Moe.ranges _ _ _ _ _ _ (hp 0)

/-- The two programs have one table of kernels at the bits. -/
theorem kernels_same : @Cert.Moe.defs₀ Bits _ _ = @Cert.MoeIdeal.defs₀ Bits _ _ := by
  unfold Cert.Moe.defs₀ Cert.MoeIdeal.defs₀
  refine congrArg (Defs.onTc (Λ := Cert.MoeIdeal.Λ₀) (sig := Cert.MoeIdeal.sig)) (funext fun l => funext fun x => ?_)
  match l, x with
  | ⟨0, _⟩, (t, s) => rfl
  | ⟨n + 1, hl⟩, x => exact absurd hl (Nat.not_lt.2 (Nat.le_add_left _ _))

/-- The two programs have one table of bodies at the bits. -/
theorem defs_same : @Cert.Moe.defs Bits _ _ = @Cert.MoeIdeal.defs Bits _ _ := by
  unfold Cert.Moe.defs Cert.MoeIdeal.defs
  exact congrArg (fun d => Pipeline.defs (Cert.MoeIdeal.pcfgs (F := Bits)) d) kernels_same

set_option maxHeartbeats 1000000 in
/-- The two programs have one main function at the bits. -/
theorem main_same : @Cert.Moe.main Bits _ _ = @Cert.MoeIdeal.main Bits _ _ := rfl

/-- The same call at the bits: the run above, its text the same. -/
theorem frame_bits : Cert.quiescent_Moe := fun m g hp => by
  have k := frame_of (F := Bits) m g (ok_of m (ranges_bits m hp))
  rw [← defs_same, ← main_same] at k
  exact k

end Cert.MoeIdeal.Hand
end
-- ==== Proof.MoeMath.lean ====
module

public import Idealize.ShloMosaic.Lib.ValueIdx
public import Idealize.ShloMosaic.Lib.Pipeline.ValueKit
public import proofs.«01_k».proof.Proof.AttnMath

@[expose] public section

noncomputable section

namespace Cert.MoeMath

open Idealize.ShloMosaic

/-- The dimension numbers of `table[idx]` over the matrices of a table of matrices. -/
abbrev takeMats (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- That gather at an element: the element of the matrix the index names, clamped. -/
theorem takeMats_apply {α : Type} {N A B n w : ℕ} (hN : 0 < N) (wf) (x : (⟨3, ![N, A, B]⟩ : Shape).Idx → α) (idx : IVec ⟨2, ![n, 1]⟩ w)
    (c : Fin n) (a : Fin A) (b : Fin B) :
    Host.gather (takeMats N A B n wf) x idx (ix3 c a b) = x (ix3 ⟨min (idx (ix2 c 0)).toInt.toNat (N - 1), by omega⟩ a b) := by
  unfold Host.gather
  refine congrArg x (funext fun k => Fin.ext ?_)
  show (takeMats N A B n wf).start (ix3 c a b) idx k + (takeMats N A B n wf).batchCoord (ix3 c a b) k + (takeMats N A B n wf).offCoord (ix3 c a b) k = _
  rw [GatherDims.batchCoord_eq_zero _ _ _ List.not_mem_nil]
  match k with
  | ⟨0, _⟩ =>
    rw [GatherDims.offCoord_eq_zero _ _ _ (fun h => ((GatherDims.mem_sKept _ _).mp h).1 (List.mem_singleton.mpr rfl))]
    unfold GatherDims.start
    refine (congrArg (· + 0 + 0) (dif_pos (show (0 : Fin 3) ∈ (takeMats N A B n wf).startIndexMap from List.mem_singleton.mpr rfl))).trans ?_
    have hsi : (takeMats N A B n wf).siIdx (ix3 c a b) ⟨List.idxOf (0 : Fin 3) (takeMats N A B n wf).startIndexMap,
        List.idxOf_lt_length_iff.2 (List.mem_singleton.mpr rfl)⟩ = ix2 c 0 := by
      funext q; refine Fin.ext ?_
      match q with
      | ⟨0, _⟩ => rfl
      | ⟨1, _⟩ => rfl
    exact congrArg (fun q => min (idx q).toInt.toNat (N - 1)) hsi
  | ⟨1, _⟩ =>
    have h1 : (takeMats N A B n wf).start (ix3 c a b) idx (1 : Fin 3) = 0 :=
      dif_neg (show (1 : Fin 3) ∉ (takeMats N A B n wf).startIndexMap from by simp)
    have h2 : (takeMats N A B n wf).offCoord (ix3 c a b) (1 : Fin 3) = a.val :=
      dif_pos ((GatherDims.mem_sKept _ _).mpr ⟨by simp, by simp⟩)
    exact (congrArg₂ (fun p q => p + 0 + q) h1 h2).trans (by show 0 + 0 + a.val = a.val; omega)
  | ⟨2, _⟩ =>
    have h1 : (takeMats N A B n wf).start (ix3 c a b) idx (2 : Fin 3) = 0 :=
      dif_neg (show (2 : Fin 3) ∉ (takeMats N A B n wf).startIndexMap from by simp)
    have h2 : (takeMats N A B n wf).offCoord (ix3 c a b) (2 : Fin 3) = b.val :=
      dif_pos ((GatherDims.mem_sKept _ _).mpr ⟨by simp, by simp⟩)
    exact (congrArg₂ (fun p q => p + 0 + q) h1 h2).trans (by show 0 + 0 + b.val = b.val; omega)

/-- A word that holds a small number, read signed. -/
theorem toInt_small {x : BitVec 32} (h : x.toNat < 2 ^ 31) : x.toInt.toNat = x.toNat := by
  rw [BitVec.toInt_eq_toNat_cond]; omega

/-- A wrapped index that is in range is itself. -/
theorem wrap_small {x : BitVec 32} (h : x.toNat < 2 ^ 31) (k : BitVec 32) : Scalar.select (IntOp.cmpi .slt x 0#32) (IntOp.addi x k) x = x := by
  have e : IntOp.cmpi .slt x 0#32 = 0#1 := by
    show BitVec.ofBool (x.slt 0#32) = 0#1
    have : x.slt 0#32 = false := by
      rw [BitVec.slt_eq_decide, decide_eq_false_iff_not, BitVec.toInt_eq_toNat_cond]; simp; omega
    rw [this]; rfl
  rw [e]; rfl

/-- The hidden activation of a row: the gate, through its logistic, times the up projection. -/
def act (g u : EReal) : EReal := g * Ideal.div 1 (1 + Ideal.exp (-g)) * u

/-- Seven thousand hidden numbers, block by block. -/
theorem sum_blocks {M : Type} [AddCommMonoid M] (f : Fin 7168 → M) :
    ∑ k : Fin 7168, f k = ∑ j : Fin 14, ∑ q : Fin 512, f ⟨j.val * 512 + q.val, by omega⟩ := by
  rw [← Fintype.sum_prod_type' (f := fun (j : Fin 14) (q : Fin 512) => f ⟨j.val * 512 + q.val, by omega⟩)]
  exact (Equiv.sum_comp (finProdFinEquiv (m := 14) (n := 512)) f).symm.trans (Finset.sum_congr rfl fun p _ => congrArg f (Fin.ext (by
    show p.2.val + 512 * p.1.val = p.1.val * 512 + p.2.val; omega)))

/-- A hidden number of a row of the model, through the first matrix of an expert of layer `l`. -/
def hidden (l : Fin 2) (h : (⟨2, ![12288, 2048]⟩ : Shape).Idx → EReal) (w : (⟨4, ![2, 8, 2048, 14336]⟩ : Shape).Idx → EReal) (r : Fin 12288) (e : Fin 8)
    (f : Fin 14336) : EReal := ∑ k : Fin 2048, h (ix2 r k) * w (ix4 l e k f)

/-- One term of an expert's output for a row: a hidden activation times its row of the second matrix. -/
def term (l : Fin 2) (h : (⟨2, ![12288, 2048]⟩ : Shape).Idx → EReal) (w : (⟨4, ![2, 8, 2048, 14336]⟩ : Shape).Idx → EReal)
    (wd : (⟨4, ![2, 8, 7168, 2048]⟩ : Shape).Idx → EReal) (r : Fin 12288) (e : Fin 8) (d : Fin 2048) (f : Fin 7168) : EReal :=
  act (hidden l h w r e ⟨f.val, by omega⟩) (hidden l h w r e ⟨7168 + f.val, by omega⟩) * wd (ix4 l e f d)

end Cert.MoeMath
end
end
-- ==== Proof.MoePay.lean ====
module

public import proofs.«01_k».proof.Proof.MoeTab
public import proofs.«01_k».proof.Proof.MoeMath
public import Idealize.ShloMosaic.Lib.IdealHost
public import Idealize.ShloMosaic.Lib.Pipeline.ValueKit

@[expose] public section

set_option maxRecDepth 16384

noncomputable section

namespace Cert.MoeIdeal.Hand

open Cert.MoeIdeal Cert.MoeIdeal.Gen
open Idealize.ShloMosaic Idealize.ShloMosaic.TcCoe Idealize.SL.Sem
open Cert.MoeMath

/-- The accumulator starts at zero. -/
theorem pay2_at (p : Fin 640) (d : Fin 2048) : k0_pay2 (F := Ideal) (ix2 p d) = (0 : EReal) := by
  pointwise [k0_pay2]
/-- An unused tile's rows are zero. -/
theorem pay4_at (p : Fin 640) (d : Fin 2048) : k0_pay4 (F := Ideal) (ix2 p d) = (0 : EReal) := by
  pointwise [k0_pay4]
/-- The gathered tile is stored as it is. -/
theorem pay1_at (v : FVec Ideal S640x2048 .f32) (p : Fin 640) (d : Fin 2048) : k0_pay1 (F := Ideal) v (ix2 p d) = v (ix2 p d) := by
  pointwise [k0_pay1]

/-- One step: the hidden block's activations against its rows of the second matrix, added to the accumulator. -/
theorem pay3_at (T : FVec Ideal S640x2048 .bf16) (A B : FVec Ideal S1x1x2048x512 .f32) (acc : FVec Ideal S640x2048 .f32)
    (W : FVec Ideal S1x1x512x2048 .f32) (p : Fin 640) (d : Fin 2048) :
    k0_pay3 (F := Ideal) T A B acc W (ix2 p d) = acc (ix2 p d) + ∑ q : Fin 512,
      act (∑ k : Fin 2048, T (ix2 p k) * A (ix4 0 0 k q)) (∑ k : Fin 2048, T (ix2 p k) * B (ix4 0 0 k q)) * W (ix4 0 0 q d) := by
  simp only [act, ← zero_sub]
  pointwise [k0_pay3]

end Cert.MoeIdeal.Hand
end
-- ==== Proof.MoeVal.lean ====
module

public import proofs.«01_k».proof.Proof.MoePay

@[expose] public section

set_option maxRecDepth 16384

noncomputable section

namespace Cert.MoeIdeal.Hand

open Cert.MoeIdeal Cert.MoeIdeal.Gen
open Idealize.ShloMosaic Idealize.ShloMosaic.TcCoe Idealize.SL.Sem
open Idealize.ShloMosaic.Pipeline (Dat Cfg Window)
open Cert.MoeMath

variable (m : (ℓ : Loc nD τ sig) → Buf (Elt Ideal) ℓ) (hr : Ranges m)

/-- The launched table of the tiles' experts, -/
abbrev X0 : IVec S47 32 := m (((0 : Dev nD).tc : Thread nD τ).loc main_arg0)
/-- the launched number of used tiles, -/
abbrev X1 : IVec S1 32 := m (((0 : Dev nD).tc : Thread nD τ).loc main_arg1)
/-- the launched table of rows, -/
abbrev X2 : IVec S30080 32 := m (((0 : Dev nD).tc : Thread nD τ).loc main_arg2)
/-- the model's rows, -/
abbrev X3 : FVec Ideal S12288x2048 .f32 := m (((0 : Dev nD).tc : Thread nD τ).loc main_arg3)
/-- the gate and up weights, -/
abbrev X4 : FVec Ideal S2x8x2048x14336 .f32 := m (((0 : Dev nD).tc : Thread nD τ).loc main_arg4)
/-- and the down weights. -/
abbrev X5 : FVec Ideal S2x8x7168x2048 .f32 := m (((0 : Dev nD).tc : Thread nD τ).loc main_arg5)

/-- The expert the pipeline's table holds for a tile. -/
def ex (hr : Ranges m) (t : Fin grid0.N) : Fin 8 := ⟨(V m 0 main_v11 (e47 ⟨(grid0.coords t 0).val, (grid0.coords t 0).isLt⟩)).toNat, tab_lt m hr 0 _⟩

/-- The gate's weights of a point. -/
theorem wblk0 (t : Fin grid0.N) (k : Fin 2048) (q : Fin 512) : iblk m (ok_of m hr) 0 0 t (ix4 0 0 k q)
    = X4 m (ix4 0 (ex m hr t) k ⟨jj (grid0.coords t) (nt m) * 512 + q.val, by have := jj_lt (grid0.coords t) (nt m); omega⟩) := by
  have e : (pcfg0.win (adm m (ok_of m hr) 0) 0).index t = ![0, (ex m hr t).val, 0, jj (grid0.coords t) (nt m)] := tr1 m (grid0.coords t)
  refine Eq.trans ?_ (congrFun (V_arg m 0 main_arg4 (by decide)) _)
  blk_ext [iblk, e]
  · exact congrArg (fun z => z + 0) (congrFun e 0)
  · exact congrArg (fun z => z + 0) (congrFun e 1)
  · refine (congrArg (fun z => z * 2048 + k.val) (congrFun e 2)).trans ?_
    show 0 * 2048 + k.val = k.val; omega
  · exact congrArg (fun z => z * 512 + q.val) (congrFun e 3)

/-- The up projection's weights of a point. -/
theorem wblk1 (t : Fin grid0.N) (k : Fin 2048) (q : Fin 512) : iblk m (ok_of m hr) 0 1 t (ix4 0 0 k q)
    = X4 m (ix4 0 (ex m hr t) k ⟨(14 + jj (grid0.coords t) (nt m)) * 512 + q.val, by have := jj_lt (grid0.coords t) (nt m); omega⟩) := by
  have e : (pcfg0.win (adm m (ok_of m hr) 0) 1).index t = ![0, (ex m hr t).val, 0, 14 + jj (grid0.coords t) (nt m)] := tr2 m (grid0.coords t)
  refine Eq.trans ?_ (congrFun (V_arg m 0 main_arg4 (by decide)) _)
  blk_ext [iblk, e]
  · exact congrArg (fun z => z + 0) (congrFun e 0)
  · exact congrArg (fun z => z + 0) (congrFun e 1)
  · refine (congrArg (fun z => z * 2048 + k.val) (congrFun e 2)).trans ?_
    show 0 * 2048 + k.val = k.val; omega
  · exact congrArg (fun z => z * 512 + q.val) (congrFun e 3)

/-- The second matrix's rows of a point. -/
theorem wblk2 (t : Fin grid0.N) (q : Fin 512) (d : Fin 2048) : iblk m (ok_of m hr) 0 2 t (ix4 0 0 q d)
    = X5 m (ix4 0 (ex m hr t) ⟨jj (grid0.coords t) (nt m) * 512 + q.val, by have := jj_lt (grid0.coords t) (nt m); omega⟩ d) := by
  have e : (pcfg0.win (adm m (ok_of m hr) 0) 2).index t = ![0, (ex m hr t).val, jj (grid0.coords t) (nt m), 0] := tr3 m (grid0.coords t)
  refine Eq.trans ?_ (congrFun (V_arg m 0 main_arg5 (by decide)) _)
  blk_ext [iblk, e]
  · exact congrArg (fun z => z + 0) (congrFun e 0)
  · exact congrArg (fun z => z + 0) (congrFun e 1)
  · exact congrArg (fun z => z * 512 + q.val) (congrFun e 2)
  · refine (congrArg (fun z => z * 2048 + d.val) (congrFun e 3)).trans ?_
    show 0 * 2048 + d.val = d.val; omega

/-- The row of the model that row `p` of a tile is for. -/
def rw_ (hr : Ranges m) (t : Fin grid0.N) (p : Fin 640) : Fin 12288 :=
  ⟨(X2 m (ix1 ⟨(grid0.coords t 0).val * 640 + p.val, by have h0 : (grid0.coords t 0).val < 47 := (grid0.coords t 0).isLt; omega⟩)).toNat, hr.2 _⟩

/-- The gathered tile of a point. -/
theorem tile_at (t : Fin grid0.N) (p : Fin 640) (k : Fin 2048) : tileAt m (ok_of m hr) 0 (grid0.coords t) (ix2 p k) = X3 m (ix2 (rw_ m hr t p) k) := by
  unfold tileAt
  refine (pay1_at _ p k).trans ?_
  refine Eq.trans ?_ (congrFun (V_arg m 0 main_arg3 (by decide)) _)
  unfold gath
  refine congrArg (V m 0 main_arg3) (funext fun a => Fin.ext ?_)
  have ew : word (grid0.coords t) p (V m 0 main_arg2) = X2 m (ix1 ⟨(grid0.coords t 0).val * 640 + p.val, by have h0 : (grid0.coords t 0).val < 47 := (grid0.coords t 0).isLt; omega⟩) := by
    unfold word
    refine (congrFun (V_arg m 0 main_arg2 (by decide)) _).trans (congrArg (X2 m) (funext fun a => Fin.ext ?_))
    fin_cases a
    show 640 * (grid0.coords t 0).val + p.val = (grid0.coords t 0).val * 640 + p.val
    omega
  fin_cases a
  · show (word (grid0.coords t) p (V m 0 main_arg2)).toNat = _
    rw [ew]; rfl
  · rfl

/-- What a point of a used tile adds to the accumulator. -/
theorem step_at (t : Fin grid0.N) (hu : used (grid0.coords t) (nt m) = 1#1) (b : FVec Ideal S640x2048 .f32) (p : Fin 640) (d : Fin 2048) :
    stepAt m (ok_of m hr) 0 t b (ix2 p d) = b (ix2 p d) + ∑ q : Fin 512,
      term 0 (X3 m) (X4 m) (X5 m) (rw_ m hr t p) (ex m hr t) d ⟨t.val % 14 * 512 + q.val, by omega⟩ := by
  unfold stepAt
  refine (pay3_at _ _ _ _ _ p d).trans (congrArg (fun z => b (ix2 p d) + z) (Finset.sum_congr rfl fun q _ => ?_))
  have ej : jj (grid0.coords t) (nt m) = t.val % 14 := (jj_used _ _ hu).trans (blk t)
  unfold term MoeMath.hidden
  refine congrArg₂ (· * ·) (congrArg₂ act (Finset.sum_congr rfl fun k _ => ?_) (Finset.sum_congr rfl fun k _ => ?_)) ?_
  · refine congrArg₂ (· * ·) (tile_at m hr t p k) ((wblk0 m hr t k q).trans ?_)
    simp only [ej]
    rfl
  · refine congrArg₂ (· * ·) (tile_at m hr t p k) ((wblk1 m hr t k q).trans ?_)
    refine congrArg (fun z => X4 m (ix4 0 (ex m hr t) k z)) (Fin.ext ?_)
    show (14 + jj (grid0.coords t) (nt m)) * 512 + q.val = 7168 + (t.val % 14 * 512 + q.val)
    rw [ej]; omega
  · refine (wblk2 m hr t q d).trans ?_
    simp only [ej]
    rfl

/-- The expert of a tile, as launched, -/
def eT (hr : Ranges m) (T : Fin 47) : Fin 8 := ⟨(X0 m (ix1 T)).toNat, hr.1 _⟩
/-- and the row of the model its row `p` is for. -/
def rT (hr : Ranges m) (T : Fin 47) (p : Fin 640) : Fin 12288 := ⟨(X2 m (ix1 ⟨T.val * 640 + p.val, by omega⟩)).toNat, hr.2 _⟩

/-- The number of used tiles is the launched word. -/
theorem nt_word : nt m = X1 m (ix1 0) := by
  unfold nt nOf
  refine (congrFun (V_arg m 0 main_arg1 (by decide)) _).trans (congrArg (X1 m) (funext fun a => Fin.ext ?_))
  fin_cases a
  exact Nat.lt_one_iff.mp (Fin.isLt _)

/-- A tile is used if the word says so. -/
theorem used_word (t : Fin grid0.N) (T : Fin 47) (hT : t.val / 14 = T.val) :
    used (grid0.coords t) (nt m) = IntOp.cmpi .slt (BitVec.ofNat 32 T.val) (X1 m (ix1 0)) := by
  unfold used
  rw [nt_word, tile t, hT]
  rfl

/-- A point's rows are its tile's. -/
theorem rw_tile (t : Fin grid0.N) (T : Fin 47) (hT : t.val / 14 = T.val) (p : Fin 640) : rw_ m hr t p = rT m hr T p := by
  have e : (grid0.coords t 0).val = T.val := (tile t).trans hT
  unfold rw_ rT
  simp only [e]

/-- A point of a used tile has the tile's expert. -/
theorem ex_tile (t : Fin grid0.N) (T : Fin 47) (hT : t.val / 14 = T.val) (hu : IntOp.cmpi .slt (BitVec.ofNat 32 T.val) (X1 m (ix1 0)) = 1#1) :
    ex m hr t = eT m hr T := by
  have e : (⟨(grid0.coords t 0).val, (grid0.coords t 0).isLt⟩ : Fin 47) = T := Fin.ext ((tile t).trans hT)
  refine Fin.ext ?_
  show (V m 0 main_v11 (e47 ⟨(grid0.coords t 0).val, (grid0.coords t 0).isLt⟩)).toNat = (X0 m (ix1 T)).toNat
  rw [e, tab_used m hr 0 T hu]
  refine congrArg (fun z => (X0 m z).toNat) ?_
  funext a; fin_cases a; rfl

/-- What weight block `j` adds to row `p` of a used tile. -/
def part (hr : Ranges m) (T : Fin 47) (p : Fin 640) (d : Fin 2048) (j : ℕ) : EReal :=
  ∑ q : Fin 512, term 0 (X3 m) (X4 m) (X5 m) (rT m hr T p) (eT m hr T) d ⟨j % 14 * 512 + q.val, by omega⟩

/-- The accumulator of a used tile after some of its weight blocks. -/
theorem acc_at (T : Fin 47) (hu : IntOp.cmpi .slt (BitVec.ofNat 32 T.val) (X1 m (ix1 0)) = 1#1) (p : Fin 640) (d : Fin 2048) :
    ∀ j : ℕ, j < 14 → accN m (ok_of m hr) 0 (T.val * 14 + j + 1) (ix2 p d) = ∑ i ∈ Finset.range (j + 1), part m hr T p d i := by
  intro j
  induction j with
  | zero =>
    intro _
    have hT := T.isLt
    have hN : T.val * 14 + 0 < grid0.N := by rw [N_0]; omega
    have e := accN_succ m (ok_of m hr) 0 ⟨T.val * 14 + 0, hN⟩
    have hd : (T.val * 14 + 0) / 14 = T.val := by omega
    refine (congrFun e (ix2 p d)).trans ?_
    rw [if_pos (by show (T.val * 14 + 0) % 14 = 0; omega)]
    refine (step_at m hr ⟨T.val * 14 + 0, hN⟩ ((used_word m _ T hd).trans hu) _ p d).trans ?_
    rw [pay2_at, zero_add, Finset.sum_range_one, rw_tile m hr _ T hd, ex_tile m hr _ T hd hu]
    unfold part
    refine Finset.sum_congr rfl fun q _ => congrArg _ (Fin.ext ?_)
    show (T.val * 14 + 0) % 14 * 512 + q.val = 0 % 14 * 512 + q.val
    omega
  | succ j ih =>
    intro hj
    have hT := T.isLt
    have hN : T.val * 14 + (j + 1) < grid0.N := by rw [N_0]; omega
    have e := accN_succ m (ok_of m hr) 0 ⟨T.val * 14 + (j + 1), hN⟩
    have hd : (T.val * 14 + (j + 1)) / 14 = T.val := by omega
    refine (congrFun e (ix2 p d)).trans ?_
    rw [if_neg (by show ¬ (T.val * 14 + (j + 1)) % 14 = 0; omega)]
    refine (step_at m hr ⟨T.val * 14 + (j + 1), hN⟩ ((used_word m _ T hd).trans hu) _ p d).trans ?_
    rw [Finset.sum_range_succ, rw_tile m hr _ T hd, ex_tile m hr _ T hd hu]
    refine congrArg₂ (· + ·) (ih (by omega)) ?_
    unfold part
    refine Finset.sum_congr rfl fun q _ => congrArg _ (Fin.ext ?_)
    show (T.val * 14 + (j + 1)) % 14 * 512 + q.val = (j + 1) % 14 * 512 + q.val
    omega

/-- All its weight blocks together are the whole sum over the hidden numbers. -/
theorem parts_sum (T : Fin 47) (p : Fin 640) (d : Fin 2048) : ∑ i ∈ Finset.range 14, part m hr T p d i
    = ∑ f : Fin 7168, term 0 (X3 m) (X4 m) (X5 m) (rT m hr T p) (eT m hr T) d f := by
  rw [sum_blocks, Finset.sum_range]
  refine Finset.sum_congr rfl fun j _ => Finset.sum_congr rfl fun q _ => congrArg _ (Fin.ext ?_)
  have := j.isLt
  show j.val % 14 * 512 + q.val = j.val * 512 + q.val
  omega

/-- The result at a row `r` of tile `T`: a used tile's row through its expert, the other tiles' zero. -/
def outOf (hr : Ranges m) (T : Fin 47) (r : Fin 30080) (d : Fin 2048) : EReal :=
  if IntOp.cmpi .slt (BitVec.ofNat 32 T.val) (X1 m (ix1 0)) = 1#1 then
    ∑ f : Fin 7168, term 0 (X3 m) (X4 m) (X5 m) ⟨(X2 m (ix1 r)).toNat, hr.2 _⟩ (eT m hr T) d f
  else 0

/-- The whole result: row `r` is a row of tile `r / 640`. -/
def out (hr : Ranges m) (i : S30080x2048.Idx) : EReal :=
  outOf m hr ⟨(i 0).val / 640, by have h : (i 0).val < 30080 := (i 0).isLt; omega⟩ (i 0) (i 1)

/-- What a tile's last point leaves in the result's block. -/
theorem last_at (t : Fin grid0.N) (hj : t.val % 14 = 13) (p : Fin 640) (d : Fin 2048) (i : S30080x2048.Idx)
    (h0 : (i 0).val = t.val / 14 * 640 + p.val) (h1 : (i 1).val = d.val) :
    (if used (grid0.coords t) (nt m) = 1#1 then accN m (ok_of m hr) 0 (t.val + 1) else k0_pay4 (F := Ideal)) (ix2 p d) = out m hr i := by
  have ht : t.val < 658 := lt_of_lt_of_eq t.isLt N_0
  obtain ⟨T, hT⟩ : ∃ T : Fin 47, t.val / 14 = T.val := ⟨⟨t.val / 14, by omega⟩, rfl⟩
  have hi : out m hr i = outOf m hr T ⟨T.val * 640 + p.val, by omega⟩ d := by
    unfold out
    have e0 : (⟨(i 0).val / 640, by have h : (i 0).val < 30080 := (i 0).isLt; omega⟩ : Fin 47) = T := Fin.ext (by show (i 0).val / 640 = T.val; omega)
    have e1 : i 0 = (⟨T.val * 640 + p.val, by omega⟩ : Fin 30080) := Fin.ext (by show (i 0).val = T.val * 640 + p.val; omega)
    have e2 : i 1 = d := Fin.ext h1
    rw [e0]
    exact congrArg₂ (outOf m hr T) e1 e2
  rw [hi, used_word m t T hT]
  unfold outOf
  by_cases hu : IntOp.cmpi .slt (BitVec.ofNat 32 T.val) (X1 m (ix1 0)) = 1#1
  · rw [if_pos hu, if_pos hu]
    have et : t.val = T.val * 14 + 13 := by omega
    have ea := acc_at m hr T hu p d 13 (by omega)
    rw [parts_sum] at ea
    rw [et]
    exact ea
  · rw [if_neg hu, if_neg hu]
    exact pay4_at p d

/-- The block index of the result's window: the tile on the rows, -/
theorem ix_0 (t : Fin grid0.N) : ((cf m (ok_of m hr)).win 3).index t (0 : Fin 2) = t.val / 14 := by
  have ht : t.val < 658 := lt_of_lt_of_eq t.isLt N_0
  show (BitVec.ofNat 32 (grid0.coords t 0).val).toNat = _
  rw [tile t, BitVec.toNat_ofNat]
  exact Nat.mod_eq_of_lt (by omega)

/-- and all the columns. -/
theorem ix_1 (t : Fin grid0.N) : ((cf m (ok_of m hr)).win 3).index t (1 : Fin 2) = 0 := rfl

/-- Where a block's row and column lie in the result: the row, -/
theorem emb_0 (t : Fin grid0.N) (p : Fin 640) (d : Fin 2048) :
    ((((cf m (ok_of m hr)).win 3).blk t).view.emb (ix2 p d) (0 : Fin 2)).val = t.val / 14 * 640 + p.val :=
  (((cf m (ok_of m hr)).win 3).rect_emb_val t (ix2 p d) (0 : Fin 2)).trans (congrArg (fun z => z * 640 + p.val) (ix_0 m hr t))

/-- and the column. -/
theorem emb_1 (t : Fin grid0.N) (p : Fin 640) (d : Fin 2048) :
    ((((cf m (ok_of m hr)).win 3).blk t).view.emb (ix2 p d) (1 : Fin 2)).val = d.val :=
  (((cf m (ok_of m hr)).win 3).rect_emb_val t (ix2 p d) (1 : Fin 2)).trans
    ((congrArg (fun z => z * 2048 + d.val) (ix_1 m hr t)).trans (by omega))

/-- Every place of the result is in the block of its tile's last point. -/
theorem covered (i : S30080x2048.Idx) (t : Fin grid0.N) (ht : t.val = (i 0).val / 640 * 14 + 13) :
    i ∈ (((cf m (ok_of m hr)).win 3).blk t).view.set := by
  have h1 : (i 1).val < 2048 := (i 1).isLt
  refine (((cf m (ok_of m hr)).win 3).emb_mem_blk_iff t i).mpr fun (a : Fin 2) => ?_
  have e0 := ix_0 m hr t
  have e1 := ix_1 m hr t
  have ez (a : Fin 2) : ((cf m (ok_of m hr)).win 3).size a = ![640, 2048] a := rfl
  have ex (a : Fin 2) : ((cf m (ok_of m hr)).win 3).xsize ((cf m (ok_of m hr)).grid.coords t) a = ![640, 2048] a := by fin_cases a <;> rfl
  rw [ez, ex]
  fin_cases a
  · refine ⟨(congrArg (· * 640) e0).trans_le ?_, lt_of_lt_of_eq ?_ (congrArg (· * 640 + 640) e0).symm⟩
    · show t.val / 14 * 640 ≤ (i 0).val; omega
    · show (i 0).val < t.val / 14 * 640 + 640; omega
  · refine ⟨(congrArg (· * 2048) e1).trans_le ?_, lt_of_lt_of_eq ?_ (congrArg (· * 2048 + 2048) e1).symm⟩
    · show 0 * 2048 ≤ (i 1).val; omega
    · show (i 1).val < 0 * 2048 + 2048; omega

/-- What a tile's last point writes back. -/
theorem flushed_at (t : Fin grid0.N) (p : Fin 640) (d : Fin 2048) : (dats m (ok_of m hr) 0 0).flushed 3 t (ix2 p d)
    = (if used (grid0.coords t) (nt m) = 1#1 then accN m (ok_of m hr) 0 (t.val + 1) else k0_pay4 (F := Ideal)) (ix2 p d) := by
  refine ((dats m (ok_of m hr) 0 0).flushed_apply 3 t (ix2 p d)).trans ?_
  have hx : ((cf m (ok_of m hr)).win 3).xinj ((cf m (ok_of m hr)).grid.coords t) (ix2 p d) = ix2 p d := by
    funext (a : Fin 2)
    fin_cases a <;> rfl
  refine (congrArg _ hx).trans ?_
  exact congrFun (after_3 m (ok_of m hr) 0 t) (ix2 p d)

/-- It is the result's block. -/
theorem flushed_eq (t : Fin grid0.N) (hj : t.val % 14 = 13) : (dats m (ok_of m hr) 0 0).flushed 3 t
    = fun (y : S640x2048.Idx) => out m hr ((((cf m (ok_of m hr)).win 3).blk t).view.emb y) := by
  refine funext fun (y : S640x2048.Idx) => ?_
  obtain ⟨p, d, rfl⟩ : ∃ (p : Fin 640) (d : Fin 2048), y = ix2 p d := ⟨y 0, y 1, by funext k; fin_cases k <;> rfl⟩
  exact (flushed_at m hr t p d).trans (last_at m hr t hj p d _ (emb_0 m hr t p d) (emb_1 m hr t p d))

/-- The result's array after the call. -/
theorem final : (dats m (ok_of m hr) 0 0).arrAt 3 (cf m (ok_of m hr)).N = out m hr := by
  refine (dats m (ok_of m hr) 0 0).arrAt_eq_of_cover 3 (out m hr) (fun t hf => ?_) (fun i => ?_)
  · have hj : t.val % 14 = 13 := by rw [flush_3] at hf; exact of_decide_eq_true hf
    exact flushed_eq m hr t hj
  · have h0 : (i (0 : Fin 2)).val < 30080 := (i (0 : Fin 2)).isLt
    have hN : (i (0 : Fin 2)).val / 640 * 14 + 13 < grid0.N := by rw [N_0]; omega
    refine ⟨⟨(i (0 : Fin 2)).val / 640 * 14 + 13, hN⟩, ?_, covered m hr i _ rfl⟩
    rw [flush_3]
    exact decide_eq_true (by show ((i (0 : Fin 2)).val / 640 * 14 + 13) % 14 = 13; omega)

end Cert.MoeIdeal.Hand
end
-- ==== Proof.MoeRef.lean ====
module

public import proofs.«01_k».proof.Proof.Gen.MoeReferenceIdeal.Read
public import Idealize.ShloMosaic.Lib.Pipeline.ValueKit
public import Idealize.ShloMosaic.Lib.Routing.Ops
public import Idealize.ShloMosaic.Lib.IdealHost
public import proofs.«01_k».proof.Proof.MoeMath

@[expose] public section

set_option maxRecDepth 16384

noncomputable section

namespace Cert.MoeReferenceIdeal.Experts

open Cert.MoeReferenceIdeal Cert.MoeReferenceIdeal.Gen Cert.MoeReferenceIdeal.Read Idealize.ShloMosaic Idealize.ShloMosaic.TcCoe Idealize.SL.Sem
open Cert.MoeMath

variable (x0 : IVec S47 32) (x1 : IVec S1 32) (x2 : IVec S30080 32) (x3 : FVec Ideal S12288x2048 .f32) (x4 : FVec Ideal S2x8x2048x14336 .f32)
  (x5 : FVec Ideal S2x8x7168x2048 .f32)

/-- The row of the model that a row of the buffer is for, wrapped as the reference wraps it. -/
theorem row_word (h2 : ∀ i, (x2 i).toNat < 12288) (r : Fin 30080) : val_main_v5 (F := Ideal) x2 (ix2 r 0) = x2 (ix1 r) := by
  rw [val_main_v5_apply, val_main_v4_apply, val_main_v1_apply, val_main_v3_apply, val_main_v0_apply, val_main_v2_apply]
  have e : idx_main_v5 (ix2 r 0) = ix1 r := by funext a; fin_cases a; rfl
  rw [e]
  exact wrap_small (by have := h2 (ix1 r); omega) _

/-- The expert of a tile, wrapped as the reference wraps it, for the first matrices. -/
theorem expert_word (h0 : ∀ i, (x0 i).toNat < 8) (t : Fin 47) : val_main_v15 (F := Ideal) x0 (ix2 t 0) = x0 (ix1 t) := by
  rw [val_main_v15_apply, val_main_v14_apply, val_main_v11_apply, val_main_v13_apply, val_main_v10_apply, val_main_v12_apply]
  have e : idx_main_v15 (ix2 t 0) = ix1 t := by funext a; fin_cases a; rfl
  rw [e]
  exact wrap_small (by have := h0 (ix1 t); omega) _

/-- The same for the second matrices. -/
theorem expert_word' (h0 : ∀ i, (x0 i).toNat < 8) (t : Fin 47) : val_main_v29 (F := Ideal) x0 (ix2 t 0) = x0 (ix1 t) := by
  rw [val_main_v29_apply, val_main_v28_apply, val_main_v25_apply, val_main_v27_apply, val_main_v24_apply, val_main_v26_apply]
  have e : idx_main_v29 (ix2 t 0) = ix1 t := by funext a; fin_cases a; rfl
  rw [e]
  exact wrap_small (by have := h0 (ix1 t); omega) _

/-- The rows of a tile are the model's rows its words name. -/
theorem rows_at (h2 : ∀ i, (x2 i).toNat < 12288) (t : Fin 47) (p : Fin 640) (k : Fin 2048) :
    val_main_v7 (F := Ideal) x2 x3 (ix3 t p k) = x3 (ix2 ⟨(x2 (ix1 ⟨t.val * 640 + p.val, by omega⟩)).toNat, h2 _⟩ k) := by
  rw [val_main_v7_apply]
  have e : idx_main_v7 (ix3 t p k) = ix2 ⟨t.val * 640 + p.val, by omega⟩ k := by
    funext a; refine Fin.ext ?_
    match a with
    | ⟨0, _⟩ => show ((t.val * 640 + p.val) * 2048 + k.val) / 2048 = t.val * 640 + p.val; omega
    | ⟨1, _⟩ => show ((t.val * 640 + p.val) * 2048 + k.val) % 2048 = k.val; omega
  rw [e]
  unfold val_main_v6
  refine Routing.gather_row _ rfl rfl rfl rfl rfl x3 _ _ k ⟨(x2 (ix1 ⟨t.val * 640 + p.val, by omega⟩)).toNat, h2 _⟩ ?_ (by norm_num)
  refine (row_word x2 h2 _).trans ?_
  exact BitVec.eq_of_toNat_eq ((BitVec.toNat_ofNat _ _).trans (Nat.mod_eq_of_lt (x2 (ix1 ⟨t.val * 640 + p.val, by omega⟩)).isLt)).symm

/-- The first matrices of the layer, the layer's axis dropped. -/
theorem first_at (e : Fin 8) (k : Fin 2048) (f : Fin 14336) : val_main_v9 (F := Ideal) x4 (ix3 e k f) = x4 (ix4 0 e k f) := by
  rw [val_main_v9_apply, val_main_v8_apply]
  refine congrArg x4 (funext fun a => Fin.ext ?_)
  match a with
  | ⟨0, _⟩ => rfl
  | ⟨1, _⟩ => show ((e.val * 2048 + k.val) * 14336 + f.val) / 29360128 % 8 = e.val; omega
  | ⟨2, _⟩ => show ((e.val * 2048 + k.val) * 14336 + f.val) / 14336 % 2048 = k.val; omega
  | ⟨3, _⟩ => show ((e.val * 2048 + k.val) * 14336 + f.val) % 14336 = f.val; omega

/-- The second matrices of the layer, the layer's axis dropped. -/
theorem second_at (e : Fin 8) (f : Fin 7168) (d : Fin 2048) : val_main_v23 (F := Ideal) x5 (ix3 e f d) = x5 (ix4 0 e f d) := by
  rw [val_main_v23_apply, val_main_v22_apply]
  refine congrArg x5 (funext fun a => Fin.ext ?_)
  match a with
  | ⟨0, _⟩ => rfl
  | ⟨1, _⟩ => show ((e.val * 7168 + f.val) * 2048 + d.val) / 14680064 % 8 = e.val; omega
  | ⟨2, _⟩ => show ((e.val * 7168 + f.val) * 2048 + d.val) / 2048 % 7168 = f.val; omega
  | ⟨3, _⟩ => show ((e.val * 7168 + f.val) * 2048 + d.val) % 2048 = d.val; omega

/-- The first matrix of a tile is its expert's. -/
theorem first_of (h0 : ∀ i, (x0 i).toNat < 8) (t : Fin 47) (k : Fin 2048) (f : Fin 14336) :
    val_main_v16 (F := Ideal) x0 x4 (ix3 t k f) = x4 (ix4 0 ⟨(x0 (ix1 t)).toNat, h0 _⟩ k f) := by
  unfold val_main_v16
  refine (takeMats_apply (by norm_num) _ _ _ t k f).trans ?_
  rw [first_at]
  refine congrArg (fun q => x4 (ix4 0 q k f)) (Fin.ext ?_)
  show min (val_main_v15 (F := Ideal) x0 (ix2 t 0)).toInt.toNat 7 = _
  have := h0 (ix1 t)
  rw [expert_word x0 h0, toInt_small (by omega)]
  show min _ 7 = (x0 (ix1 t)).toNat
  omega

/-- The second matrix of a tile is its expert's. -/
theorem second_of (h0 : ∀ i, (x0 i).toNat < 8) (t : Fin 47) (f : Fin 7168) (d : Fin 2048) :
    val_main_v30 (F := Ideal) x0 x5 (ix3 t f d) = x5 (ix4 0 ⟨(x0 (ix1 t)).toNat, h0 _⟩ f d) := by
  unfold val_main_v30
  refine (takeMats_apply (by norm_num) _ _ _ t f d).trans ?_
  rw [second_at]
  refine congrArg (fun q => x5 (ix4 0 q f d)) (Fin.ext ?_)
  show min (val_main_v29 (F := Ideal) x0 (ix2 t 0)).toInt.toNat 7 = _
  have := h0 (ix1 t)
  rw [expert_word' x0 h0, toInt_small (by omega)]
  show min _ 7 = (x0 (ix1 t)).toNat
  omega

/-- The hidden numbers of a tile's row. -/
theorem hidden_at (h0 : ∀ i, (x0 i).toNat < 8) (h2 : ∀ i, (x2 i).toNat < 12288) (t : Fin 47) (p : Fin 640) (f : Fin 14336) :
    val_main_v17 (F := Ideal) x0 x2 x3 x4 (ix3 t p f)
      = hidden 0 x3 x4 ⟨(x2 (ix1 ⟨t.val * 640 + p.val, by omega⟩)).toNat, h2 _⟩ ⟨(x0 (ix1 t)).toNat, h0 _⟩ f := by
  rw [val_main_v17_apply]
  refine Finset.sum_congr rfl fun k _ => ?_
  have el : lidx_main_v17 (ix3 t p f) k = ix3 t p k := by funext a; fin_cases a <;> rfl
  have er : ridx_main_v17 (ix3 t p f) k = ix3 t k f := by funext a; fin_cases a <;> rfl
  rw [el, er, rows_at x2 x3 h2, first_of x0 x4 h0]

/-- The hidden activations of a tile's row. -/
theorem act_at (h0 : ∀ i, (x0 i).toNat < 8) (h2 : ∀ i, (x2 i).toNat < 12288) (t : Fin 47) (p : Fin 640) (f : Fin 7168) :
    val_main_v21 (F := Ideal) x0 x2 x3 x4 (ix3 t p f)
      = act (hidden 0 x3 x4 ⟨(x2 (ix1 ⟨t.val * 640 + p.val, by omega⟩)).toNat, h2 _⟩ ⟨(x0 (ix1 t)).toNat, h0 _⟩ ⟨f.val, by omega⟩)
        (hidden 0 x3 x4 ⟨(x2 (ix1 ⟨t.val * 640 + p.val, by omega⟩)).toNat, h2 _⟩ ⟨(x0 (ix1 t)).toNat, h0 _⟩ ⟨7168 + f.val, by omega⟩) := by
  rw [val_main_v21_apply, val_main_v20_apply, val_main_call0_v5_apply, val_main_call0_v3_apply, val_main_call0_v1_apply, val_main_call0_v0_apply,
    val_main_call0_v2_apply, val_main_call0_v4_apply, val_main_call0_cst_apply, val_main_call0_cst_0_apply, val_main_v18_apply, val_main_v19_apply]
  have e1 : idx_main_v18 (ix3 t p f) = ix3 t p ⟨f.val, by omega⟩ := by funext a; fin_cases a <;> rfl
  have e2 : idx_main_v19 (ix3 t p f) = ix3 t p ⟨7168 + f.val, by omega⟩ := by funext a; fin_cases a <;> rfl
  rw [e1, e2, hidden_at x0 x2 x3 x4 h0 h2, hidden_at x0 x2 x3 x4 h0 h2]
  simp only [Ideal.mulf_def, Ideal.hostDivf_def, Ideal.ofBits_def, Ideal.ofBits_one_f32, Ideal.addf_def, Ideal.hostUnary_exp_def, Ideal.hostNegf_def, Ideal.negf_def, act]

/-- The reference's value: a used tile's rows through its expert, the other tiles zero. -/
theorem value_at (h0 : ∀ i, (x0 i).toNat < 8) (h2 : ∀ i, (x2 i).toNat < 12288) (r : Fin 30080) (d : Fin 2048) :
    val_main_v38 (F := Ideal) x0 x1 x2 x3 x4 x5 (ix2 r d)
      = if IntOp.cmpi .slt (BitVec.ofNat 32 (r.val / 640)) (x1 (ix1 0)) = 1#1 then
          ∑ f : Fin 7168, term 0 x3 x4 x5 ⟨(x2 (ix1 r)).toNat, h2 _⟩ ⟨(x0 (ix1 ⟨r.val / 640, by omega⟩)).toNat, h0 _⟩ d f
        else 0 := by
  rw [val_main_v38_apply]
  have e : idx_main_v38 (ix2 r d) = ix3 ⟨r.val / 640, by omega⟩ ⟨r.val % 640, by omega⟩ d := by
    funext a; refine Fin.ext ?_
    match a with
    | ⟨0, _⟩ => show (r.val * 2048 + d.val) / 1310720 = r.val / 640; omega
    | ⟨1, _⟩ => show (r.val * 2048 + d.val) / 2048 % 640 = r.val % 640; omega
    | ⟨2, _⟩ => show (r.val * 2048 + d.val) % 2048 = d.val; omega
  rw [e, val_main_v37_apply, val_main_call1_v1_apply, val_main_v36_apply, val_main_v35_apply, val_main_v32_apply, val_main_v34_apply,
    val_main_call1_v2_apply, val_main_call1_v0_apply, val_main_cst_apply]
  have en : ∀ j : S_.Idx, val_main_v33 (F := Ideal) x1 j = x1 (ix1 0) := fun j => by
    unfold val_main_v33
    exact shapeCast_apply x1 shapeCasts_S1_S_ j (ix1 0) (by
      have h1 : (S1.rowMajor (ix1 0)).val < 1 := (S1.rowMajor (ix1 0)).isLt
      have h2 : (S_.rowMajor j).val < 1 := (S_.rowMajor j).isLt
      omega)
  rw [en]
  have ev : val_main_v31 (F := Ideal) x0 x2 x3 x4 x5 (ix3 ⟨r.val / 640, by omega⟩ ⟨r.val % 640, by omega⟩ d)
      = ∑ f : Fin 7168, term 0 x3 x4 x5 ⟨(x2 (ix1 r)).toNat, h2 _⟩ ⟨(x0 (ix1 ⟨r.val / 640, by omega⟩)).toNat, h0 _⟩ d f := by
    rw [val_main_v31_apply]
    refine Finset.sum_congr rfl fun f _ => ?_
    have el : lidx_main_v31 (ix3 ⟨r.val / 640, by omega⟩ ⟨r.val % 640, by omega⟩ d) f = ix3 ⟨r.val / 640, by omega⟩ ⟨r.val % 640, by omega⟩ f := by
      funext a; fin_cases a <;> rfl
    have er : ridx_main_v31 (ix3 ⟨r.val / 640, by omega⟩ ⟨r.val % 640, by omega⟩ d) f = ix3 ⟨r.val / 640, by omega⟩ f d := by
      funext a; fin_cases a <;> rfl
    have eR : (⟨r.val / 640 * 640 + r.val % 640, by omega⟩ : Fin 30080) = r := Fin.ext (by show r.val / 640 * 640 + r.val % 640 = r.val; omega)
    rw [el, er, act_at x0 x2 x3 x4 h0 h2, second_of x0 x5 h0]
    unfold term
    simp only [eR]
  rw [ev]
  show Scalar.select (IntOp.cmpi .slt (BitVec.ofNat 32 (r.val / 640)) (x1 (ix1 0))) _ (Ideal.ofBits .f32 0x00000000#32) = _
  rw [Ideal.ofBits_zero_f32]
  rfl

end Cert.MoeReferenceIdeal.Experts
end
-- ==== Proof.MoeLastGather.lean ====
module

public import proofs.«01_k».proof.Proof.Gen.MoeLastIdeal.Launch
public import proofs.«01_k».proof.Proof.Gen.MoeLastIdeal.Skeleton
public import proofs.«01_k».proof.Proof.Gen.MoeLastIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The kernel's buffers -/

/-- The table of the tiles' experts, -/
abbrev tM0 : Memref sig .tc .smem S47 .i32 := Memref.whole main_v11
/-- the number of used tiles, -/
abbrev tM1 : Memref sig .tc .smem S1 .i32 := Memref.whole main_arg1
/-- the table of the rows, -/
abbrev tM2 : Memref sig .tc .smem S30080 .i32 := Memref.whole main_arg2
/-- the model's rows, -/
abbrev hM : Memref sig .tc .hbm S12288x2048 .f32 := Memref.whole main_arg3
/-- the gathered rows' buffer, -/
abbrev aM : Memref sig .tc .vmem S640x2048 .bf16 := Memref.whole cc0_scratch0
/-- and the accumulator's. -/
abbrev bM : Memref sig .tc .vmem S640x2048 .f32 := Memref.whole cc0_scratch1

/-- A table's half as the region hands it to the body. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f
/-- A buffer held whole. -/
abbrev bufPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A row of the accumulator is inside it. -/
theorem inbRow (b : Fin 640) : ∀ a, (![b.val, 0] : Fin 2 → Nat) a + S1x2048.size a ≤ S640x2048.size a := by
  have := b.isLt; intro a; fin_cases a
  · show b.val + 1 ≤ 640; omega
  · show 0 + 2048 ≤ 2048; omega
/-- A row of the model's array is inside it. -/
theorem inbSrc (r : ℕ) (hr : r < 12288) : ∀ a, (![r, 0] : Fin 2 → Nat) a + S1x2048.size a ≤ S12288x2048.size a := by
  intro a; fin_cases a
  · show r + 1 ≤ 12288; omega
  · show 0 + 2048 ≤ 2048; omega
/-- Row `b` of the gathered tile. -/
def rowBlk (b : Fin 640) : Memref sig .tc .vmem S1x2048 .f32 := bM.slice (Rect.unit (s := S640x2048) ![b.val, 0] S1x2048.size (inbRow b)) (fun _ => rfl)
/-- Row `r` of the tokens' array. -/
def srcRow (r : ℕ) (hr : r < 12288) : Memref sig .tc .hbm S1x2048 .f32 := hM.slice (Rect.unit (s := S12288x2048) ![r, 0] S1x2048.size (inbSrc r hr)) (fun _ => rfl)

/-- The loop that starts the copies makes 640 rounds, -/
theorem trips1 : k0_t1_loop.trips = 640 := by decide +kernel
/-- and so does the loop that waits for them. -/
theorem trips2 : k0_t2_loop.trips = 640 := by decide +kernel

/-- The prefetched row numbers are rows. -/
def RowsOk (tb : S30080.Idx → BitVec 32) : Prop := ∀ x, (tb x).toNat < 12288

/-- Word `n` of the row numbers' table. -/
def tcell (n : ℕ) (hn : n < 30080) : S30080.Idx
  | 0 => ⟨n, hn⟩

/-- The word trip `k` of tile `i` loads. -/
def word (i : grid0.Coords) (k : Fin 640) (tb : S30080.Idx → BitVec 32) : BitVec 32 :=
  tb (tcell (640 * (i 0).val + k.val) (by have h0 : (i 0).val < 47 := (i 0).isLt; have := k.isLt; omega))

/-- A word of the row table names a row. -/
theorem word_lt {i : grid0.Coords} {k : Fin 640} {tb : S30080.Idx → BitVec 32} (h : RowsOk tb) : (word i k tb).toNat < 12288 := h _

/-- Element `(r, s)` of the tokens' array. -/
def cell (r s : ℕ) (hr : r < 12288) (hs : s < 2048) : S12288x2048.Idx
  | 0 => ⟨r, hr⟩
  | 1 => ⟨s, hs⟩

/-- The tile gathered from the tokens' array. -/
def gath (i : grid0.Coords) (tb : S30080.Idx → BitVec 32) (hr : RowsOk tb) (fh : S12288x2048.Idx → Elt F .f32) : S640x2048.Idx → Elt F .f32 :=
  fun x => fh (cell (word i (x 0) tb).toNat (x 1).val (word_lt hr) (x 1).isLt)

/-- A share of a buffer can be stored. -/
theorem stor_pt {ℓ : Loc nD τ sig} (S : Finset (Idx ℓ)) (q : PosShare TreeShare) (f : Buf (Elt F) ℓ) :
    Storable (upEmb : UEmb _ 𝕄) (ℓ ↦[S]{q} f : sProp 𝕄) := inferInstance

section Deliveries

variable (c : Dev nD) (i : grid0.Coords) (tb : S30080.Idx → BitVec 32) (hr : RowsOk tb) (fh : S12288x2048.Idx → Elt F .f32)

/-- The source of a copy. -/
abbrev rowSrc (k : Fin 640) : Memref sig .tc .hbm S1x2048 .f32 := srcRow (word i k tb).toNat (word_lt hr)
/-- Row `k`'s read token of the source row. -/
def tok (k : Fin 640) : sProp 𝕄 :=
  (rowSrc i tb hr k).view.loc (c : Thread nD τ) ↦[(rowSrc i tb hr k).view.set]{Transfers.shareTokN fullShare k.val} fh
/-- Row `k` owned at any contents; -/
def own (k : Fin 640) : sProp 𝕄 := iprop(∃ g, (rowBlk k).view.loc (c : Thread nD τ) ↦[(rowBlk k).view.set]{fullShare} g)
/-- and holding the gathered row. -/
def got (k : Fin 640) : sProp 𝕄 := (rowBlk k).view.loc (c : Thread nD τ) ↦[(rowBlk k).view.set]{fullShare} gath i tb hr fh
/-- Transfer `k` delivers the gathered row and its token back. -/
def deliv (k : Fin 640) : sProp 𝕄 := iprop(got c i tb hr fh k ∗ tok c i tb hr fh k)

/-- What a copy delivers can be stored. -/
instance deliv_storable (k : Fin 640) : BI.Storable (upEmb : UEmb _ 𝕄) (deliv c i tb hr fh k) := by
  unfold deliv got tok; exact @Storable.sep _ _ _ _ _ _ _ _ (stor_pt _ _ _) (stor_pt _ _ _)

/-- What the semaphore counts for one copy. -/
abbrev NN : ℕ := 256
/-- The batch on the body's own cell. -/
abbrev batch (j u : ℕ) : sProp 𝕄 :=
  Transfers.Batch (countersEmb (U := Pipeline.UD sig nD τ)) (c : Thread nD τ) (.dma cc0_scratch2.sem) () NN (deliv c i tb hr fh) j u

/-- Each copy counts that much. -/
theorem amountN (k : Fin 640) : (rowBlk k).view.amount (.dma cc0_scratch2.sem) = NN := by
  show RefSig.tileCredit S1x2048 .f32 = 256; decide

/-- A place is in a row's block when its first coordinate is the row. -/
theorem mem_row (k : Fin 640) (y : S640x2048.Idx) : y ∈ ((rowBlk k).view.set : Finset S640x2048.Idx) ↔ (y 0).val = k.val := by
  have e : ((rowBlk k).view.set : Finset S640x2048.Idx) = (Rect.unit (s := S640x2048) ![k.val, 0] S1x2048.size (inbRow k)).set := View.set_slice_whole _ _
  rw [e]
  refine (Rect.mem_set_unit ..).trans ?_
  have h2 : (y 1).val < 2048 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 2048; omega

/-- What a transfer leaves in its row is the gathered row. -/
theorem landed (k : Fin 640) (g : Buf (Elt F) ((rowBlk k).view.loc (c : Thread nD τ))) (y : S640x2048.Idx) (hy : y ∈ (rowBlk k).view.set) :
    (rowBlk k).view.write (Elt F) g ((rowSrc i tb hr k).view.read (Elt F) fh) Finset.univ y = gath i tb hr fh y := by
  have hk : (y 0).val = k.val := (mem_row k y).mp hy
  obtain ⟨x, -, hx⟩ := Finset.mem_map.mp hy
  have e := View.write_emb_of_mem (v := (rowBlk k).view) (Val := Elt F) g ((rowSrc i tb hr k).view.read (Elt F) fh) (Finset.mem_univ x)
  rw [show (rowBlk k).view.emb x = y from hx] at e
  refine e.trans ?_
  show fh ((rowSrc i tb hr k).view.emb x) = gath i tb hr fh y
  unfold gath
  have hw : word i (y 0) tb = word i k tb := congrArg (fun z => word i z tb) (Fin.ext hk)
  congr 1
  funext a
  apply Fin.ext
  have h1 : (y 1).val = 0 + 1 * (x 1).val := by rw [← hx]; rfl
  fin_cases a
  · show (word i k tb).toNat + 1 * (x 0).val = (word i (y 0) tb).toNat
    rw [hw]
    have : (x 0).val < 1 := (x 0).isLt
    omega
  · show 0 + 1 * (x 1).val = (y 1).val
    rw [h1]

end Deliveries

/-! ## The two loops -/

section Loops

variable (c : Dev nD) (i : grid0.Coords) (tb : S30080.Idx → BitVec 32) (hr : RowsOk tb) (fh : S12288x2048.Idx → Elt F .f32)
  (arg6 : Memref sig .tc .vmem S1x1x2048x512 .f32) (harg6 : arg6.IsWhole) (arg7 : Memref sig .tc .vmem S1x1x2048x512 .f32) (harg7 : arg7.IsWhole)
  (arg8 : Memref sig .tc .vmem S1x1x512x2048 .f32) (harg8 : arg8.IsWhole) (arg9 : Memref sig .tc .vmem S640x2048 .f32) (harg9 : arg9.IsWhole)
  (v0 : Elt F .i32) (h1 : k0_cond1 i v0 = 1#1)

/-- The body's read of a word of the row table. -/
theorem read_word (n : ℕ) (hn : n < 640) (o : Fin 1 → ℕ) (ho : o = ![640 * (i 0).val + n]) (inb : ∀ a, o a + S1.size a ≤ S30080.size a) :
    View.readAt (Elt F) tM2.view (Rect.unit (s := S30080) o S1.size inb).toLoadRect tb (Shape.Idx.first (s := S1) (by decide)) = word i ⟨n, hn⟩ tb := by
  subst ho
  unfold word
  refine congrArg tb ?_
  funext a
  apply Fin.ext
  fin_cases a
  show 640 * (i 0).val + n + 1 * 0 = 640 * (i 0).val + n
  omega

/-- The printed destination of a copy is the row. -/
theorem row_eq {k : Fin 640} (o : Fin 2 → ℕ) (ho : o = ![k.val, 0]) (inb : ∀ a, o a + S1x2048.size a ≤ S640x2048.size a) :
    bM.slice (Rect.unit (s := S640x2048) o S1x2048.size inb) (fun _ => rfl) = rowBlk k := by
  subst ho; rfl

/-- What a copy leaves is what it delivers. -/
theorem deliv_of (k : Fin 640) (g : Buf (Elt F) ((rowBlk k).view.loc (c : Thread nD τ))) :
    (iprop(((rowBlk k).view.loc (c : Thread nD τ) ↦[(rowBlk k).view.set]{fullShare}
        ((rowBlk k).view.write (Elt F) g ((ReadAs.same (Val := Elt F)).apply ((rowSrc i tb hr k).view.read (Elt F) fh)) Finset.univ))
      ∗ ((rowSrc i tb hr k).view.loc (c : Thread nD τ) ↦[(rowSrc i tb hr k).view.set]{Transfers.shareTokN fullShare k.val} fh)) : sProp 𝕄)
      ⊢ deliv c i tb hr fh k := by
  unfold deliv got tok
  iintro ⟨Hd, Hs⟩
  isplitl [Hd]
  · iapply (Entails.of_eq (pointsTo_congr (fun y hy => landed c i tb hr fh k g y hy))); iexact Hd
  iexact Hs

/-- Starting transfer `k`. -/
theorem issue_wp [∀ e, Nonempty (Elt F e)] (k : Fin 640) {src : Memref sig .tc .hbm S1x2048 .f32} {dst : Memref sig .tc .vmem S1x2048 .f32}
    (es : src = rowSrc i tb hr k) (ed : dst = rowBlk k) {hsrc : src.view.WordExact} {hdst : dst.view.WordExact}
    {hsem : DmaTarget.Typed (nD := nD) .hbm (.dma cc0_scratch2.sem) (DmaTarget.here (nD := nD) (p := (Proc.tc : Proc τ)) dst)} {kk : PUnit → Prog (TpuEff nD τ sig (Elt F) Λ₀ .tc) Unit} {Q : Unit → sProp 𝕄} :
    (iprop(tok c i tb hr fh k ∗ own c k ∗ batch c i tb hr fh k.val 0) : sProp 𝕄)
      ⊢ iprop((batch c i tb hr fh (k.val + 1) 0 -∗ wp frame (wpE defs₀ Variants.none (c : Thread nD τ) none) Set.univ (kk ⟨⟩) Q)
        -∗ wp frame (wpE defs₀ Variants.none (c : Thread nD τ) none) Set.univ
            (.op (.enqueueDma src (.here dst) (.dma cc0_scratch2.sem) hsrc hdst hsem) kk) Q) := by
  subst es ed
  unfold own
  iintro ⟨Hk, ⟨%g, Ho⟩, HB⟩ HC
  iapply (Transfers.wp_dmaBatch (countersEmb (U := Pipeline.UD sig nD τ)) Variants.none (c : Thread nD τ) none (via := ReadAs.same) () NN
    (amountN k) (fun _ h => h) k.isLt (Nat.zero_le _) (deliv_of c i tb hr fh k g)) $$ [Hk Ho HB]
  · isplitl [Hk]; · unfold tok; iexact Hk
    isplitl [Ho]; · iexact Ho
    iexact HB
  iexact HC

/-- Where the loop reads the row table. -/
theorem off2 (k : Fin k0_t1_loop.trips) : k0_off2 i k = ![640 * (i 0).val + k.val] := k0_off2_eq i k

/-- Trip `k`'s region of the issue loop on the kernel's buffers; -/
abbrev issueBody (k : Fin k0_t1_loop.trips) (u : Unit) :=
  k0_t1_body (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2 v0 h1 k u
/-- and of the drain loop. -/
abbrev drainBody (k : Fin k0_t2_loop.trips) (u : Unit) :=
  k0_t2_body (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2 v0 h1 k u

/-- Before trip `k` of the issue loop. -/
def issueAt (k : ℕ) (_ : Unit) : sProp 𝕄 :=
  iprop(tbPt c tM2 tb ∗ batch c i tb hr fh k 0 ∗ bigSep (Ring.rangeSet 640 k 640) (own c) ∗ bigSep (Ring.rangeSet 640 k 640) (tok c i tb hr fh))

/-- One round of the loop that starts the copies. -/
theorem issue_step [∀ e, Nonempty (Elt F e)] (k : Fin k0_t1_loop.trips) (acc : Unit) :
    issueAt c i tb hr fh k acc ⊢ wp frame (wpE defs₀ Variants.none (c : Thread nD τ) none) Set.univ
      (issueBody i arg6 harg6 arg7 harg7 arg8 harg8 arg9 harg9 v0 h1 k acc) (issueAt c i tb hr fh (k.val + 1)) := by
  have hk : k.val < 640 := trips1 ▸ k.isLt
  unfold issueAt
  rw [Ring.bigSep_rangeSet_head (Φ := own c) (by omega) (by omega), Ring.bigSep_rangeSet_head (Φ := tok c i tb hr fh) (by omega) (by omega)]
  iintro ⟨Ht, HB, ⟨Ho, Hos⟩, ⟨Hk, Hks⟩⟩
  dsimp only [issueBody, k0_t1_body]
  sl_exec
  have e : issue_step.sl.r (F := F) i tb k = word i ⟨k.val, hk⟩ tb := by
    unfold issue_step.sl.r
    exact read_word i tb k.val hk _ (off2 i k) _
  rw [e]
  have hchk : k0_chk1 i v0 (word i ⟨k.val, hk⟩ tb) := fun _ => inbSrc _ (word_lt hr)
  sl_exec
  iapply (issue_wp c i tb hr fh ⟨k.val, hk⟩ rfl (row_eq _ (k0_off3_eq k) _)) $$ [Hk Ho HB]
  · isplitl [Hk]; · iexact Hk
    isplitl [Ho]; · iexact Ho
    iexact HB
  iintro HB
  sl_step
  isplitl [Ht]; · iexact Ht
  isplitl [HB]; · iexact HB
  isplitl [Hos]; · iexact Hos
  iexact Hks

/-- Before trip `k` of the drain loop: `k` of the transfers waited for. -/
def drainAt (k : ℕ) (_ : Unit) : sProp 𝕄 :=
  iprop(tbPt c tM2 tb ∗ batch c i tb hr fh 640 (k * NN) ∗ ∃ W, owes (c : Thread nD τ) 0 W)

/-- Waiting for one transfer. -/
theorem drain_wp [∀ e, Nonempty (Elt F e)] (k : ℕ) (hk : k < 640) {src : Memref sig .tc .hbm S1x2048 .f32} {dst : Memref sig .tc .vmem S1x2048 .f32}
    {b : Fin 640} (ed : dst = rowBlk b) {hsrc : src.view.WordExact} {hdst : dst.view.WordExact}
    {kk : PUnit → Prog (TpuEff nD τ sig (Elt F) Λ₀ .tc) Unit} {Q : Unit → sProp 𝕄} :
    (iprop(batch c i tb hr fh 640 (k * NN) ∗ ∃ W, owes (c : Thread nD τ) 0 W) : sProp 𝕄)
      ⊢ iprop((iprop(batch c i tb hr fh 640 ((k + 1) * NN) ∗ ∃ W, owes (c : Thread nD τ) 0 W) -∗ wp frame (wpE defs₀ Variants.none (c : Thread nD τ) none) Set.univ (kk ⟨⟩) Q)
        -∗ wp frame (wpE defs₀ Variants.none (c : Thread nD τ) none) Set.univ
            (.op (.waitDma2 cc0_scratch2.sem src dst hsrc hdst) kk) Q) := by
  subst ed
  iintro ⟨HB, ⟨%W, HW⟩⟩ HC
  iapply (Transfers.wp_waitBatchMulO (countersEmb (U := Pipeline.UD sig nD τ)) Variants.none (c : Thread nD τ) none (O := 0) (W := W) () (N := NN) 1
    ((amountN b).trans (by decide)) (j := 640) (u := k * NN) (by show k * 256 + 1 * 256 ≤ 256 * 640; omega)) $$ [HB HW]
  · isplitl [HB]; · iexact HB
    isplitl [HW]; · iexact HW
    rw [MayWait_zero]; iempintro
  iintro ⟨HB, HW⟩
  iapply HC
  isplitl [HB]
  · rw [show (k + 1) * NN = k * NN + 1 * NN by show (k + 1) * 256 = k * 256 + 1 * 256; omega]; iexact HB
  iexists _; iexact HW

/-- One round of the loop that waits. -/
theorem drain_step [∀ e, Nonempty (Elt F e)] (k : Fin k0_t2_loop.trips) (acc : Unit) :
    drainAt c i tb hr fh k acc ⊢ wp frame (wpE defs₀ Variants.none (c : Thread nD τ) none) Set.univ
      (drainBody i arg6 harg6 arg7 harg7 arg8 harg8 arg9 harg9 v0 h1 k acc) (drainAt c i tb hr fh (k.val + 1)) := by
  have hk : k.val < 640 := trips2 ▸ k.isLt
  unfold drainAt
  iintro ⟨Ht, HB, HW⟩
  dsimp only [drainBody, k0_t2_body]
  sl_exec
  have e : drain_step.sl.r (F := F) i tb k = word i ⟨k.val, hk⟩ tb := by
    unfold drain_step.sl.r
    exact read_word i tb k.val hk _ (k0_off5_eq i k) _
  rw [e]
  have hchk : k0_chk2 i v0 (word i ⟨k.val, hk⟩ tb) := fun _ => inbSrc _ (word_lt hr)
  sl_exec
  iapply (drain_wp c i tb hr fh k.val hk (row_eq (k := ⟨k.val, hk⟩) _ (k0_off6_eq k) _)) $$ [HB HW]
  · isplitl [HB]; · iexact HB
    iexact HW
  iintro ⟨HB, HW⟩
  sl_step
  isplitl [Ht]; · iexact Ht
  isplitl [HB]; · iexact HB
  iexact HW

end Loops

/-! ## The gather as a whole -/

section Whole

variable (c : Dev nD) (i : grid0.Coords) (tb : S30080.Idx → BitVec 32) (hr : RowsOk tb) (fh : S12288x2048.Idx → Elt F .f32)

/-- Row `b`'s elements. -/
def rowSet (b : Fin 640) : Finset (Idx (bM.view.loc (c : Thread nD τ))) := (rowBlk b).view.set

/-- The same, for the row's set of places. -/
theorem mem_rowSet (k : Fin 640) (y : S640x2048.Idx) : y ∈ (rowSet c k : Finset S640x2048.Idx) ↔ (y 0).val = k.val := mem_row k y

/-- Two rows share no place. -/
theorem rows_disj (a b : Fin 640) (hab : a ≠ b) : Disjoint (rowSet c a) (rowSet c b) := by
  rw [Finset.disjoint_left]
  intro y ha hb
  exact hab (Fin.ext (((mem_rowSet c a y).mp ha).symm.trans ((mem_rowSet c b y).mp hb)))

/-- The rows are the whole buffer. -/
theorem rows_cover : Finset.univ.biUnion (rowSet c) = Finset.univ := by
  ext y
  simp only [Finset.mem_biUnion, Finset.mem_univ, true_and, iff_true]
  exact ⟨(show S640x2048.Idx from y) 0, (mem_rowSet c _ y).mpr rfl⟩

/-- The source row's elements. -/
def srcSet (k : Fin 640) : Finset (Idx (hM.view.loc (c : Thread nD τ))) := (rowSrc i tb hr k).view.set

/-- A copy's share of the model's rows, row by row. -/
theorem tok_split (k : Fin 640) : (hM.view.loc (c : Thread nD τ) ↦{Transfers.shareTokN fullShare k.val} fh : sProp 𝕄)
    = iprop(tok c i tb hr fh k ∗ hM.view.loc (c : Thread nD τ) ↦[Finset.univ \ srcSet c i tb hr k]{Transfers.shareTokN fullShare k.val} fh) :=
  let h := pointsTo_split_subset (Ix := Unit) (Name := ℕ) (U := Pipeline.UD sig nD τ) (Lvl := ℕ) (ℓ := hM.view.loc (c : Thread nD τ)) (f := fh)
    (q := Transfers.shareTokN fullShare k.val) (Finset.subset_univ (srcSet c i tb hr k))
  BI.equiv_iff.mp ⟨h.1, h.2⟩

/-- What is left of the tokens' array beside the transfers' tokens. -/
def rest : sProp 𝕄 :=
  iprop((hM.view.loc (c : Thread nD τ) ↦{Transfers.shareDrop fullShare 640} fh)
    ∗ bigSep Finset.univ fun k : Fin 640 => hM.view.loc (c : Thread nD τ) ↦[Finset.univ \ srcSet c i tb hr k]{Transfers.shareTokN fullShare k.val} fh)

/-- The model's rows, split into a share for each copy and a rest. -/
theorem h_split : (bufPt c hM fh : sProp 𝕄) ⊣⊢ iprop(bigSep Finset.univ (tok c i tb hr fh) ∗ rest c i tb hr fh) := by
  have e1 := Transfers.pointsTo_toks_range (Ix := Unit) (Name := ℕ) (U := Pipeline.UD sig nD τ) (Lvl := ℕ) (ℓ := hM.view.loc (c : Thread nD τ)) (S := Finset.univ) (f := fh) fullShare 640
  have e2 : bigSep (Finset.range 640) (fun n => (hM.view.loc (c : Thread nD τ) ↦{Transfers.shareTokN fullShare n} fh : sProp 𝕄))
      = iprop(bigSep Finset.univ (tok c i tb hr fh) ∗ bigSep Finset.univ fun k : Fin 640 => hM.view.loc (c : Thread nD τ) ↦[Finset.univ \ srcSet c i tb hr k]{Transfers.shareTokN fullShare k.val} fh) := by
    rw [← Ring.bigSep_fin_eq_range 640 (fun k : Fin 640 => (hM.view.loc (c : Thread nD τ) ↦{Transfers.shareTokN fullShare k.val} fh : sProp 𝕄)) _ (fun _ _ => rfl)]
    refine Eq.trans ?_ (BI.bigSep_sep Finset.univ _ _)
    refine BI.bigSep_congr fun k _ => ?_
    exact tok_split c i tb hr fh k
  rw [e2] at e1
  unfold rest
  constructor
  · iintro H
    ihave H := e1.1 $$ H
    icases H with ⟨HR, HT, HC⟩
    isplitl [HT]; · iexact HT
    isplitl [HR]; · iexact HR
    iexact HC
  · iintro ⟨HT, HR, HC⟩
    iapply e1.2
    isplitl [HR]; · iexact HR
    isplitl [HT]; · iexact HT
    iexact HC

/-- A row of the accumulator owned for a copy. -/
theorem own_of (g : Buf (Elt F) (bM.view.loc (c : Thread nD τ))) (b : Fin 640) :
    (iprop(bM.view.loc (c : Thread nD τ) ↦[rowSet c b]{fullShare} g) : sProp 𝕄) ⊢ own (F := F) c b := by
  unfold own
  iintro H; iexists g; iexact H

/-- The gathered tile's buffer at any contents is its rows. -/
theorem b_split (g : Buf (Elt F) (bM.view.loc (c : Thread nD τ))) : (bufPt c bM g : sProp 𝕄) ⊢ bigSep Finset.univ (own (F := F) c) := by
  refine (Entails.of_eq (Ring.pointsTo_blocks (rowSet c) (rows_disj c) (rows_cover c) g)).trans (BI.bigSep_mono fun b _ => own_of c g b)

/-- The delivered rows are the gathered buffer. -/
theorem b_join : bigSep Finset.univ (got c i tb hr fh) ⊢ (bufPt c bM (gath i tb hr fh) : sProp 𝕄) :=
  Entails.of_eq (Ring.pointsTo_blocks (rowSet c) (rows_disj c) (rows_cover c) (gath i tb hr fh)).symm

/-- Into the issue loop. -/
theorem gather_in (g : Buf (Elt F) (bM.view.loc (c : Thread nD τ))) :
    (iprop(bufPt c hM fh ∗ bufPt c bM g ∗ semVal ((c : Thread nD τ), SemLoc.dma cc0_scratch2.sem) 0) : sProp 𝕄)
      ⊢ |={Set.univ}=> iprop(batch c i tb hr fh 0 0 ∗ bigSep (Ring.rangeSet 640 0 640) (own c) ∗ bigSep (Ring.rangeSet 640 0 640) (tok c i tb hr fh) ∗ rest c i tb hr fh) := by
  rw [Ring.rangeSet_univ]
  iintro ⟨Hh, Hb, Hs⟩
  imod (Transfers.batch_alloc' (countersEmb (U := Pipeline.UD sig nD τ)) (c : Thread nD τ) () NN (deliv c i tb hr fh)) $$ Hs with HB
  imodintro
  ihave Hh := (h_split c i tb hr fh).1 $$ Hh
  icases Hh with ⟨HT, HR⟩
  ihave Hb := (b_split c g) $$ Hb
  isplitl [HB]; · iexact HB
  isplitl [Hb]; · iexact Hb
  isplitl [HT]; · iexact HT
  iexact HR

/-- Out of the drain loop. -/
theorem gather_out :
    (iprop(batch c i tb hr fh 640 (640 * NN) ∗ rest c i tb hr fh) : sProp 𝕄)
      ⊢ |={Set.univ}=> iprop(bufPt c hM fh ∗ bufPt c bM (gath i tb hr fh) ∗ semVal ((c : Thread nD τ), SemLoc.dma cc0_scratch2.sem) 0) := by
  rw [Nat.mul_comm 640 NN]
  iintro ⟨HB, HR⟩
  imod (Transfers.batch_collect' (countersEmb (U := Pipeline.UD sig nD τ)) (c : Thread nD τ) (by decide)) $$ HB with ⟨HD, Hs⟩
  imodintro
  have e : bigSep Finset.univ (deliv c i tb hr fh) = iprop(bigSep Finset.univ (got c i tb hr fh) ∗ bigSep Finset.univ (tok c i tb hr fh)) :=
    BI.bigSep_sep Finset.univ _ _
  ihave HD := (Entails.of_eq e) $$ HD
  icases HD with ⟨HG, HT⟩
  ihave Hh := (h_split c i tb hr fh).2 $$ [HT HR]
  · isplitl [HT]; · iexact HT
    iexact HR
  ihave Hb := (b_join c i tb hr fh) $$ HG
  isplitl [Hh]; · iexact Hh
  isplitl [Hb]; · iexact Hb
  iexact Hs

end Whole

end Cert.MoeLastIdeal.Hand

end
-- ==== Proof.MoeLastBody.lean ====
module

public import proofs.«01_k».proof.Proof.MoeLastGather
public import Idealize.ShloMosaic.Lib.VecWindow
public import Idealize.ShloMosaic.Lib.Pipeline.TableIdle

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's conditions -/

/-- Tile `i 0` is one of the used tiles. -/
def used (i : grid0.Coords) (n : BitVec 32) : BitVec 1 := Scalar.cmpi .slt (BitVec.ofNat 32 (i 0).val) n

/-- The printed test of a conjunction holds when both bits are set. -/
theorem and_ne (a b : BitVec 1) : Scalar.cmpi .ne (Scalar.extui (Scalar.andi a b) : BitVec 32) 0#32 = 1#1 ↔ a = 1#1 ∧ b = 1#1 := by
  revert a b; decide
/-- The printed test of a bit holds when the bit is set. -/
theorem ne_one (a : BitVec 1) : Scalar.cmpi .ne (Scalar.extui a : BitVec 32) 0#32 = 1#1 ↔ a = 1#1 := by
  revert a; decide
/-- A bit's negation is set when the bit is not. -/
theorem xor_one (a : BitVec 1) : Scalar.xori a 1#1 = 1#1 ↔ ¬ a = 1#1 := by
  revert a; decide
/-- The printed comparison of a coordinate with a constant. -/
theorem eq_cond (j : Fin 14) (k : ℕ) (hk : k < 14) : Scalar.cmpi .eq (BitVec.ofNat 32 j.val) (BitVec.ofNat 32 k) = 1#1 ↔ j.val = k := by
  have : ∀ (j : Fin 14) (k : Fin 14), Scalar.cmpi .eq (BitVec.ofNat 32 j.val) (BitVec.ofNat 32 k.val) = 1#1 ↔ j.val = k.val := by decide
  exact this j ⟨k, hk⟩

/-- The first branch is taken at the first weight block of a used tile. -/
theorem cond1_iff (i : grid0.Coords) (n : BitVec 32) : k0_cond1 i n = 1#1 ↔ used i n = 1#1 ∧ (i 1).val = 0 :=
  (and_ne _ _).trans (and_congr_right fun _ => eq_cond (i 1) 0 (by decide))
/-- The write-out is taken at the last weight block of a used tile. -/
theorem cond3_iff (i : grid0.Coords) (n : BitVec 32) : k0_cond3 i n = 1#1 ↔ used i n = 1#1 ∧ (i 1).val = 13 :=
  (and_ne _ _).trans (and_congr_right fun _ => eq_cond (i 1) 13 (by decide))
/-- The zero fill is taken at the last weight block of an unused tile. -/
theorem cond4_iff (i : grid0.Coords) (n : BitVec 32) : k0_cond4 i n = 1#1 ↔ ¬ used i n = 1#1 ∧ (i 1).val = 13 :=
  (and_ne _ _).trans (and_congr (xor_one _) (eq_cond (i 1) 13 (by decide)))

/-! ## The body's runs -/

section Runs

variable (c : Dev nD) (i : grid0.Coords) (w1 : S1.Idx → BitVec 32) (tb : S30080.Idx → BitVec 32) (hr : RowsOk tb) (fh : S12288x2048.Idx → Elt F .f32)
  (arg6 : Memref sig .tc .vmem S1x1x2048x512 .f32) (harg6 : arg6.IsWhole) (arg7 : Memref sig .tc .vmem S1x1x2048x512 .f32) (harg7 : arg7.IsWhole)
  (arg8 : Memref sig .tc .vmem S1x1x512x2048 .f32) (harg8 : arg8.IsWhole) (arg9 : Memref sig .tc .vmem S640x2048 .f32) (harg9 : arg9.IsWhole)

/-- The number of used tiles. -/
def nOf : BitVec 32 := w1 (Shape.Idx.first (s := S1) (by decide))

/-- The body's read of the number of used tiles. -/
theorem read_n (o) : View.readAt (Elt F) tM1.view (Rect.unit (s := S1) ![0] S1.size o).toLoadRect w1 (Shape.Idx.first (s := S1) (by decide)) = nOf w1 := by
  unfold nOf
  refine congrArg w1 (funext fun a => Fin.ext ?_)
  fin_cases a
  rfl

/-- The body at a grid point. -/
abbrev bodyP : Prog (TpuEff nD τ sig (Elt F) Λ₀ .tc) PUnit :=
  cc0_ffn_moe (F := F) i tM0 (Memref.isWhole_whole _) tM1 (Memref.isWhole_whole _) tM2 (Memref.isWhole_whole _) hM (Memref.isWhole_whole _)
    arg6 harg6 arg7 harg7 arg8 harg8 arg9 harg9 aM (Memref.isWhole_whole _) bM (Memref.isWhole_whole _) cc0_scratch2

/-- What the body keeps between its points: the tables' halves, the tokens' array, the two scratch buffers, its cell at zero. -/
def held (d10 : S640x2048.Idx → Elt F .bf16) (d11 : S640x2048.Idx → Elt F .f32) : sProp 𝕄 :=
  iprop(tbPt c tM1 w1 ∗ tbPt c tM2 tb ∗ bufPt c hM fh ∗ bufPt c aM d10 ∗ bufPt c bM d11 ∗ semVal ((c : Thread nD τ), SemLoc.dma cc0_scratch2.sem) 0)

/-- The staged blocks of the two weights. -/
def blks (x6 x7 : S1x1x2048x512.Idx → Elt F .f32) (x8 : S1x1x512x2048.Idx → Elt F .f32) : sProp 𝕄 :=
  iprop(owns (c : Thread nD τ) arg6 fullShare x6 ∗ owns (c : Thread nD τ) arg7 fullShare x7 ∗ owns (c : Thread nD τ) arg8 fullShare x8)

/-- The low-precision scratch, fully stored, holds the payload of its last store. -/
theorem a_full (c : Dev nD) (d x y : S640x2048.Idx → Elt F .bf16) (L : List (View.Piece (Elt F) S640x2048 .bf16)) (h : x = y) :
    iprop(aM.view.loc (c : Thread nD τ) ↦{fullShare} aM.view.writes (Elt F) d
      (⟨Rect.unit ![0, 0] S640x2048.size Gen.inb_S640x2048_S640x2048_0_0, x⟩ :: L)) ⊢ bufPt c aM y := by
  have e : aM.view.writes (Elt F) d (⟨Rect.unit ![0, 0] S640x2048.size Gen.inb_S640x2048_S640x2048_0_0, x⟩ :: L) = y :=
    (View.read_whole (Val := Elt F) cc0_scratch0 _).symm.trans ((View.read_writes_full (View.whole cc0_scratch0) d Gen.inb_S640x2048_S640x2048_0_0 x L).trans h)
  rw [e]

/-- The accumulator, fully stored, holds the payload of its last store. -/
theorem b_full (c : Dev nD) (d x : S640x2048.Idx → Elt F .f32) (L : List (View.Piece (Elt F) S640x2048 .f32)) :
    iprop(bM.view.loc (c : Thread nD τ) ↦{fullShare} bM.view.writes (Elt F) d
      (⟨Rect.unit ![0, 0] S640x2048.size Gen.inb_S640x2048_S640x2048_0_0, x⟩ :: L)) ⊢ bufPt c bM x := by
  have e : bM.view.writes (Elt F) d (⟨Rect.unit ![0, 0] S640x2048.size Gen.inb_S640x2048_S640x2048_0_0, x⟩ :: L) = x :=
    (View.read_whole (Val := Elt F) cc0_scratch1 _).symm.trans (View.read_writes_full (View.whole cc0_scratch1) d Gen.inb_S640x2048_S640x2048_0_0 x L)
  rw [e]

/-- The body at an unused tile before its last block: nothing changes. -/
theorem run_unused [∀ e, Nonempty (Elt F e)] (hu : ¬ used i (nOf w1) = 1#1) (hj : ¬ (i 1).val = 13) (d10 d11 x9) (W : Waits sig Unit) (K : PUnit → sProp 𝕄) :
    iprop(held c w1 tb fh d10 d11 ∗ owes (c : Thread nD τ) 0 W ∗ owns (c : Thread nD τ) arg9 fullShare x9
      ∗ (iprop(held c w1 tb fh d10 d11 ∗ (∃ W', owes (c : Thread nD τ) 0 W') ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held
  iintro ⟨⟨H1, H2, Hh, Ha, Hb, Hs⟩, HW, H9, Hk⟩
  sl_exec
  have er : run_unused.sl.r (F := F) w1 = nOf w1 := read_n w1 _
  have ev : run_unused.sl.v1 (F := F) i w1 = used i (nOf w1) := by unfold run_unused.sl.v1; rw [er]; rfl
  rw [er, ev]
  have hc1 : ¬ k0_cond1 i (nOf w1) = 1#1 := fun h => hu ((cond1_iff _ _).mp h).1
  have hc2 : ¬ Scalar.cmpi .ne (Scalar.extui (used i (nOf w1)) : BitVec 32) 0#32 = 1#1 := fun h => hu ((ne_one _).mp h)
  have hc3 : ¬ k0_cond3 i (nOf w1) = 1#1 := fun h => hu ((cond3_iff _ _).mp h).1
  have hc4 : ¬ k0_cond4 i (nOf w1) = 1#1 := fun h => hj ((cond4_iff _ _).mp h).2
  sl_exec
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  iexact H9

/-- The body at the last block of an unused tile: the result's block is zeroed. -/
theorem run_zero [∀ e, Nonempty (Elt F e)] (hu : ¬ used i (nOf w1) = 1#1) (hj : (i 1).val = 13) (d10 d11 x9) (W : Waits sig Unit) (K : PUnit → sProp 𝕄) :
    iprop(held c w1 tb fh d10 d11 ∗ owes (c : Thread nD τ) 0 W ∗ owns (c : Thread nD τ) arg9 fullShare x9
      ∗ (iprop(held c w1 tb fh d10 d11 ∗ (∃ W', owes (c : Thread nD τ) 0 W') ∗ owns (c : Thread nD τ) arg9 fullShare (k0_pay4 (F := F))) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held
  iintro ⟨⟨H1, H2, Hh, Ha, Hb, Hs⟩, HW, H9, Hk⟩
  sl_exec
  have er : run_zero.sl.r (F := F) w1 = nOf w1 := read_n w1 _
  have ev : run_zero.sl.v1 (F := F) i w1 = used i (nOf w1) := by unfold run_zero.sl.v1; rw [er]; rfl
  rw [er, ev]
  have hc1 : ¬ k0_cond1 i (nOf w1) = 1#1 := fun h => hu ((cond1_iff _ _).mp h).1
  have hc2 : ¬ Scalar.cmpi .ne (Scalar.extui (used i (nOf w1)) : BitVec 32) 0#32 = 1#1 := fun h => hu ((ne_one _).mp h)
  have hc3 : ¬ k0_cond3 i (nOf w1) = 1#1 := fun h => hu ((cond3_iff _ _).mp h).1
  have hc4 : k0_cond4 i (nOf w1) = 1#1 := (cond4_iff _ _).mpr ⟨hu, hj⟩
  unfold owns
  icases H9 with ⟨%f9, %hf9, H9⟩
  sl_exec
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  iexists _; isplitr; swap; · iexact H9
  ipureintro; exact View.read_writes_full _ _ _ _ _

/-- The body at a middle block of a used tile: the accumulator takes one more part. -/
theorem run_mid [∀ e, Nonempty (Elt F e)] (hu : used i (nOf w1) = 1#1) (h0 : ¬ (i 1).val = 0) (hj : ¬ (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh d10 (k0_pay3 d10 x6 x7 d11 x8) ∗ (∃ W', owes (c : Thread nD τ) 0 W') ∗ blks c arg6 arg7 arg8 x6 x7 x8 ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_mid.sl.r (F := F) w1 = nOf w1 := read_n w1 _
  have ev : run_mid.sl.v1 (F := F) i w1 = used i (nOf w1) := by unfold run_mid.sl.v1; rw [er]; rfl
  rw [er, ev]
  have hc1 : ¬ k0_cond1 i (nOf w1) = 1#1 := fun h => h0 ((cond1_iff _ _).mp h).2
  have hc2 : Scalar.cmpi .ne (Scalar.extui (used i (nOf w1)) : BitVec 32) 0#32 = 1#1 := (ne_one _).mpr hu
  have hc3 : ¬ k0_cond3 i (nOf w1) = 1#1 := fun h => hj ((cond3_iff _ _).mp h).2
  have hc4 : ¬ k0_cond4 i (nOf w1) = 1#1 := fun h => ((cond4_iff _ _).mp h).1 hu
  sl_exec
  have e18 : run_mid.sl.v18 (F := F) c arg6 x6 = x6 := View.readAt_rep_full _ _ _
  have e22 : run_mid.sl.v22 (F := F) c arg7 x7 = x7 := View.readAt_rep_full _ _ _
  have e37 : run_mid.sl.v37 (F := F) c arg8 x8 = x8 := View.readAt_rep_full _ _ _
  have ea : View.readAt (Elt F) aM.view (Rect.unit ![0, 0] S640x2048.size Gen.inb_S640x2048_S640x2048_0_0).toLoadRect d10 = d10 := View.readAt_full _ _ _
  have eb : View.readAt (Elt F) bM.view (Rect.unit ![0, 0] S640x2048.size Gen.inb_S640x2048_S640x2048_0_0).toLoadRect d11 = d11 := View.readAt_full _ _ _
  rw [e18, e22, e37, ea, eb]
  ihave Hb := (b_full c d11 (k0_pay3 d10 x6 x7 d11 x8) _) $$ Hb
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexact H9

/-- The body at the last block of a used tile: the accumulator takes its last part and is written out. -/
theorem run_last [∀ e, Nonempty (Elt F e)] (hu : used i (nOf w1) = 1#1) (h0 : ¬ (i 1).val = 0) (hj : (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh d10 (k0_pay3 d10 x6 x7 d11 x8) ∗ (∃ W', owes (c : Thread nD τ) 0 W') ∗ blks c arg6 arg7 arg8 x6 x7 x8 ∗ owns (c : Thread nD τ) arg9 fullShare (k0_pay3 d10 x6 x7 d11 x8)) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_last.sl.r (F := F) w1 = nOf w1 := read_n w1 _
  have ev : run_last.sl.v1 (F := F) i w1 = used i (nOf w1) := by unfold run_last.sl.v1; rw [er]; rfl
  rw [er, ev]
  have hc1 : ¬ k0_cond1 i (nOf w1) = 1#1 := fun h => h0 ((cond1_iff _ _).mp h).2
  have hc2 : Scalar.cmpi .ne (Scalar.extui (used i (nOf w1)) : BitVec 32) 0#32 = 1#1 := (ne_one _).mpr hu
  have hc3 : k0_cond3 i (nOf w1) = 1#1 := (cond3_iff _ _).mpr ⟨hu, hj⟩
  have hc4 : ¬ k0_cond4 i (nOf w1) = 1#1 := fun h => ((cond4_iff _ _).mp h).1 hu
  unfold owns
  icases H9 with ⟨%f9, %hf9, H9⟩
  sl_exec
  have e18 : run_last.sl.v18 (F := F) c arg6 x6 = x6 := View.readAt_rep_full _ _ _
  have e22 : run_last.sl.v22 (F := F) c arg7 x7 = x7 := View.readAt_rep_full _ _ _
  have e37 : run_last.sl.v37 (F := F) c arg8 x8 = x8 := View.readAt_rep_full _ _ _
  have ea : View.readAt (Elt F) aM.view (Rect.unit ![0, 0] S640x2048.size Gen.inb_S640x2048_S640x2048_0_0).toLoadRect d10 = d10 := View.readAt_full _ _ _
  have eb : View.readAt (Elt F) bM.view (Rect.unit ![0, 0] S640x2048.size Gen.inb_S640x2048_S640x2048_0_0).toLoadRect d11 = d11 := View.readAt_full _ _ _
  unfold run_last.sl.Hb_1
  have ew : k0_pay3 (View.readAt (Elt F) aM.view (Rect.unit ![0, 0] S640x2048.size Gen.inb_S640x2048_S640x2048_0_0).toLoadRect d10)
      (run_last.sl.v18 c arg6 x6) (run_last.sl.v22 c arg7 x7)
      (View.readAt (Elt F) bM.view (Rect.unit ![0, 0] S640x2048.size Gen.inb_S640x2048_S640x2048_0_0).toLoadRect d11)
      (run_last.sl.v37 c arg8 x8) = k0_pay3 d10 x6 x7 d11 x8 := by rw [e18, e22, e37, ea, eb]
  rw [ew]
  ihave Hb := (b_full c d11 (k0_pay3 d10 x6 x7 d11 x8) _) $$ Hb
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexists _; isplitr; swap; · iexact H9
  ipureintro
  refine (View.read_writes_full _ _ _ _ _).trans ?_
  refine (View.readCov_full bM.view _ _ _ _).trans ?_
  rw [e18, e22, e37, ea, eb]

/-- The body at the first block of a used tile: the rows are gathered and the accumulator starts from zero. -/
theorem run_first [∀ e, Nonempty (Elt F e)] (hu : used i (nOf w1) = 1#1) (h0 : (i 1).val = 0) (hj : ¬ (i 1).val = 13) (d10 d11 x9) (x6 x7 x8) (W : Waits sig Unit) (K : PUnit → sProp 𝕄) :
    iprop(held c w1 tb fh d10 d11 ∗ owes (c : Thread nD τ) 0 W ∗ blks c arg6 arg7 arg8 x6 x7 x8 ∗ owns (c : Thread nD τ) arg9 fullShare x9
      ∗ (iprop(held c w1 tb fh (k0_pay1 (gath i tb hr fh)) (k0_pay3 (k0_pay1 (gath i tb hr fh)) x6 x7 (k0_pay2 (F := F)) x8) ∗ (∃ W', owes (c : Thread nD τ) 0 W') ∗ blks c arg6 arg7 arg8 x6 x7 x8 ∗ owns (c : Thread nD τ) arg9 fullShare x9) -∗ K ⟨⟩))
      ⊢ wp frame (wpE (defs₀ (F := F)) Variants.none (c : Thread nD τ) none) Set.univ
          (bodyP i arg6 harg6 arg7 harg7 arg8 harg8 arg9 harg9) K := by
  unfold bodyP
  simp only [cc0_ffn_moe_eq_skeleton]; unfold cc0_ffn_moe_skel
  unfold held blks
  rw [owns_eq_rep (c : Thread nD τ) arg6, owns_eq_rep (c : Thread nD τ) arg7, owns_eq_rep (c : Thread nD τ) arg8]
  iintro ⟨⟨H1, H2, Hh, Ha, Hb, Hs⟩, HW, ⟨H6, H7, H8⟩, H9, Hk⟩
  sl_exec
  have er : run_first.sl.r (F := F) w1 = nOf w1 := read_n w1 _
  have ev : run_first.sl.v1 (F := F) i w1 = used i (nOf w1) := by unfold run_first.sl.v1; rw [er]; rfl
  rw [er, ev]
  have hc1 : k0_cond1 i (nOf w1) = 1#1 := (cond1_iff _ _).mpr ⟨hu, h0⟩
  have hc2 : Scalar.cmpi .ne (Scalar.extui (used i (nOf w1)) : BitVec 32) 0#32 = 1#1 := (ne_one _).mpr hu
  have hc3 : ¬ k0_cond3 i (nOf w1) = 1#1 := fun h => hj ((cond3_iff _ _).mp h).2
  have hc4 : ¬ k0_cond4 i (nOf w1) = 1#1 := fun h => ((cond4_iff _ _).mp h).1 hu
  imod (gather_in c i tb hr fh d11) $$ [Hh Hb Hs] with ⟨HB, Ho, Hk', HR⟩
  · isplitl [Hh]; · iexact Hh
    isplitl [Hb]; · iexact Hb
    iexact Hs
  sl_exec
  sl_for (issueAt c i tb hr fh) $$ [H2 HB Ho Hk']
  case region => intro k acc; exact issue_step c i tb hr fh arg6 harg6 arg7 harg7 arg8 harg8 arg9 harg9 (nOf w1) hc1 k acc
  · unfold issueAt
    isplitl [H2]; · iexact H2
    isplitl [HB]; · iexact HB
    isplitl [Ho]; · iexact Ho
    iexact Hk'
  iintro %acc HL
  rw [show Scf.trips k0_t1_loop.lb k0_t1_loop.ub k0_t1_loop.st = 640 from trips1]
  unfold issueAt
  icases HL with ⟨H2, HB, -, -⟩
  sl_exec
  sl_for (drainAt c i tb hr fh) $$ [H2 HB HW]
  case region => intro k acc; exact drain_step c i tb hr fh arg6 harg6 arg7 harg7 arg8 harg8 arg9 harg9 (nOf w1) hc1 k acc
  · unfold drainAt
    rw [show 0 * NN = 0 from rfl]
    isplitl [H2]; · iexact H2
    isplitl [HB]; · iexact HB
    iexists _; iexact HW
  iintro %acc' HL
  rw [show Scf.trips k0_t2_loop.lb k0_t2_loop.ub k0_t2_loop.st = 640 from trips2]
  unfold drainAt
  icases HL with ⟨H2, HB, %W', HW⟩
  imod (gather_out c i tb hr fh) $$ [HB HR] with ⟨Hh, Hb, Hs⟩
  · isplitl [HB]; · iexact HB
    iexact HR
  sl_exec
  have e18 : run_first.sl.v18 (F := F) c arg6 x6 = x6 := View.readAt_rep_full _ _ _
  have e22 : run_first.sl.v22 (F := F) c arg7 x7 = x7 := View.readAt_rep_full _ _ _
  have e37 : run_first.sl.v37 (F := F) c arg8 x8 = x8 := View.readAt_rep_full _ _ _
  have e17 : run_first.sl.v17 (F := F) i tb hr fh = k0_pay1 (gath i tb hr fh) :=
    (View.readCov_full _ _ _ _ _).trans (congrArg k0_pay1 (View.readAt_full _ _ _))
  have e36 : run_first.sl.v36 (F := F) = k0_pay2 (F := F) := View.readCov_full _ _ _ _ _
  rw [e17, e18, e22, e36, e37]
  ihave Hb := (b_full c (gath i tb hr fh) (k0_pay3 (k0_pay1 (gath i tb hr fh)) x6 x7 (k0_pay2 (F := F)) x8) _) $$ Hb
  unfold run_first.sl.Ha_1
  ihave Ha := (a_full c d10 _ _ _ (congrArg k0_pay1 (View.readAt_full bM.view (gath i tb hr fh) Gen.inb_S640x2048_S640x2048_0_0))) $$ Ha
  sl_step
  iapply Hk
  isplitl [H1 H2 Hh Ha Hb Hs]
  · isplitl [H1]; · iexact H1
    isplitl [H2]; · iexact H2
    isplitl [Hh]; · iexact Hh
    isplitl [Ha]; · iexact Ha
    isplitl [Hb]; · iexact Hb
    iexact Hs
  isplitl [HW]; · iexists _; iexact HW
  isplitl [H6 H7 H8]
  · isplitl [H6]; · iexact H6
    isplitl [H7]; · iexact H7
    iexact H8
  iexact H9

end Runs

end Cert.MoeLastIdeal.Hand

end
-- ==== Proof.MoeLastFrame.lean ====
module

public import proofs.«01_k».proof.Proof.MoeLastBody
public import Idealize.ShloMosaic.Lib.Pipeline.FrameBody

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The schedule -/

/-- The tile of a grid point. -/
theorem co0 (t : Fin grid0.N) : (grid0.coords t 0).val = t.val / 14 % 47 := Pipeline.Grid.coords_val t 0 (by decide) (by decide)
/-- The weight block of a grid point. -/
theorem co1 (t : Fin grid0.N) : (grid0.coords t 1).val = t.val / 1 % 14 := Pipeline.Grid.coords_val t 1 (by decide) (by decide)

/-- A point's first coordinate is its tile, -/
theorem tile (t : Fin grid0.N) : (grid0.coords t 0).val = t.val / 14 := by
  have := co0 t; have h : t.val < 658 := lt_of_lt_of_eq t.isLt N_0; omega
/-- and its second its weight block. -/
theorem blk (t : Fin grid0.N) : (grid0.coords t 1).val = t.val % 14 := by
  have := co1 t; omega

/-- A tile's rows are written back after its last weight block. -/
theorem flush_tab : ∀ t : Fin grid0.N, Window.flushOf grid0 true cc0_transform_4 t = decide (t.val % 14 = 13) := by decide +kernel

/-! ## The data of the pipeline -/

section Data

variable (m : (ℓ : Loc nD τ sig) → Buf (Elt F) ℓ)

/-- The buffers as the host code leaves them. -/
def V (c : Dev nD) (b : Ref sig .tc) : Buf (Elt F) ((c : Thread nD τ).loc b) := StableHlo.after hostOps0 (fun b => m (c, b)) b

/-- The three tables as the pipeline finds them. -/
def tbl : pre0.Contents (Elt F) := fun k => V m 0 (pre0.ref k)

/-- The number of used tiles. -/
def nt : BitVec 32 := nOf (V m 0 main_arg1)

/-- The number of used tiles as the pipeline's table holds it. -/
theorem nt_eq : Pipeline.Prefetch.Contents.atD (tbl m) 1 ![0] = nt m := by
  have hh : ∀ a, (![0] : Fin 1 → ℕ) a + 1 ≤ (pre0.ref 1).ty.shape.size a := fun a => by fin_cases a; exact Nat.le_refl 1
  unfold nt nOf
  refine (dif_pos hh).trans (congrArg (V m 0 main_arg1) (funext fun a => Fin.ext ?_))
  fin_cases a
  rfl

/-- The weight blocks the tables name lie inside the weights, and the rows they name are rows. -/
structure Ok : Prop where
  ok : ok0 (tbl m)
  rows : RowsOk (V m 0 main_arg2)

variable (h : Ok m)

/-- The tables, admissible. -/
def adm : (p : Fin 1) → (pcfgs (F := F) p).Adm := fun _ => ⟨tbl m, h.ok⟩

/-- The pipeline's configuration at the launched tables. -/
abbrev cf : Cfg sig Λ₀ := cfg0 (adm m h 0)

/-- Input window `w`'s block at a grid point. -/
def iblk (c : Dev nD) (w : Fin (cf m h).W) (t : Fin (cf m h).N) : (((cf m h).win w).xblock ((cf m h).grid.coords t)).Idx → Elt F ((cf m h).win w).elt :=
  (((cf m h).win w).blk t).view.read (Elt F) (V m c (Pipeline.arrRef spec0 w))

/-- The gathered tile at a grid point, in the low-precision format. -/
def tileAt (c : Dev nD) (i : grid0.Coords) : S640x2048.Idx → Elt F .bf16 := k0_pay1 (gath i (V m 0 main_arg2) h.rows (V m c main_arg3))

/-- One step of the accumulator. -/
def stepAt (c : Dev nD) (t : Fin (cf m h).N) (b : S640x2048.Idx → Elt F .f32) : S640x2048.Idx → Elt F .f32 :=
  k0_pay3 (tileAt m h c (grid0.coords t)) (iblk m h c 0 t) (iblk m h c 1 t) b (iblk m h c 2 t)

/-- The accumulator after `n` points. -/
def accN (c : Dev nD) : ℕ → S640x2048.Idx → Elt F .f32
  | 0 => k0_pay2
  | n + 1 => if hn : n < (cf m h).N then stepAt m h c ⟨n, hn⟩ (if n % 14 = 0 then k0_pay2 else accN c n) else k0_pay2

/-- One more point of the accumulator. -/
theorem accN_succ (c : Dev nD) (t : Fin (cf m h).N) :
    accN m h c (t.val + 1) = stepAt m h c t (if t.val % 14 = 0 then k0_pay2 else accN m h c t.val) := by
  rw [accN, dif_pos t.isLt]

/-- What is known of the two scratch buffers after `n` points: if the last point's tile is used, the gathered tile and the accumulator. -/
def Known (c : Dev nD) (n : ℕ) (d10 : S640x2048.Idx → Elt F .bf16) (d11 : S640x2048.Idx → Elt F .f32) : Prop :=
  ∀ q : Fin grid0.N, q.val + 1 = n → used (grid0.coords q) (nt m) = 1#1 → d10 = tileAt m h c (grid0.coords q) ∧ d11 = accN m h c n

/-- The body's invariant after `n` points. -/
def inv (c : Dev nD) (n : ℕ) : sProp 𝕄 :=
  iprop((∃ d10 d11, ⌜Known m h c n d10 d11⌝ ∗ held c (V m 0 main_arg1) (V m 0 main_arg2) (V m c main_arg3) d10 d11)
    ∗ tbPt c tM0 (V m 0 main_v11) ∗ (∃ r, prngReg c r))

/-- The proof data of the pipeline. -/
def dats (_ : Fin 1) (c : Dev nD) : Dat τ (Elt F) Unit ℕ (Pipeline.UD sig nD τ) ℕ (cf m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => if used (grid0.coords t) (nt m) = 1#1 then accN m h c (t.val + 1) else k0_pay4
  Φ n := inv m h c n.val
  q w := Pipeline.shareOf spec0 w
  owed _ := 0

/-- A window's array before the call. -/
theorem A_eq (c : Dev nD) (w : Fin (cf m h).W) : (dats m h 0 c).A w = V m c (Pipeline.arrRef spec0 w) := by dsimp only [dats]

/-- The first weight window keeps its block, -/
theorem after_0 (c : Dev nD) (t) : (dats m h 0 c).after 0 t = iblk m h c 0 t := by dsimp only [dats]; rfl
/-- so does the second, -/
theorem after_1 (c : Dev nD) (t) : (dats m h 0 c).after 1 t = iblk m h c 1 t := by dsimp only [dats]; rfl
/-- and the third. -/
theorem after_2 (c : Dev nD) (t) : (dats m h 0 c).after 2 t = iblk m h c 2 t := by dsimp only [dats]; rfl
/-- What the result's window holds after a point. -/
theorem after_3 (c : Dev nD) (t : Fin (cf m h).N) : (dats m h 0 c).after 3 t = if used (grid0.coords t) (nt m) = 1#1 then accN m h c (t.val + 1) else k0_pay4 := by
  dsimp only [dats]; rfl

/-- A point finds the first weight block in its window, -/
theorem before_0 (c : Dev nD) (t : Fin (cf m h).N) (d) : (dats m h 0 c).before 0 t d = iblk m h c 0 t :=
  ((dats m h 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- the second in its own, -/
theorem before_1 (c : Dev nD) (t : Fin (cf m h).N) (d) : (dats m h 0 c).before 1 t d = iblk m h c 1 t :=
  ((dats m h 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- and the third. -/
theorem before_2 (c : Dev nD) (t : Fin (cf m h).N) (d) : (dats m h 0 c).before 2 t d = iblk m h c 2 t :=
  ((dats m h 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The result's rows are not written back before a tile's last weight block, -/
theorem flush_3 (t : Fin (cf m h).N) : ((cf m h).win 3).flush t = decide (t.val % 14 = 13) := by
  rw [Pipeline.Window.flush_eq_flushOf]; exact flush_tab t

/-- and are stored there only. -/
theorem idle_3 (t : Fin (cf m h).N) : (cf m h).idle 3 ((cf m h).grid.coords t) = !decide (t.val % 14 = 13) := by
  show (!(k0_cond3 (grid0.coords t) (Pipeline.Prefetch.Contents.atD (tbl m) 1 ![0]) == 1#1) && !(k0_cond4 (grid0.coords t) (Pipeline.Prefetch.Contents.atD (tbl m) 1 ![0]) == 1#1)) = _
  rw [nt_eq]
  have h3 := cond3_iff (grid0.coords t) (nt m)
  have h4 := cond4_iff (grid0.coords t) (nt m)
  rw [blk t] at h3 h4
  by_cases hj : t.val % 14 = 13
  · by_cases hu : used (grid0.coords t) (nt m) = 1#1
    · have : k0_cond3 (grid0.coords t) (nt m) = 1#1 := h3.mpr ⟨hu, hj⟩
      simp [this, hj]
    · have : k0_cond4 (grid0.coords t) (nt m) = 1#1 := h4.mpr ⟨hu, hj⟩
      simp [this, hj]
  · have n3 : ¬ k0_cond3 (grid0.coords t) (nt m) = 1#1 := fun e => hj (h3.mp e).2
    have n4 : ¬ k0_cond4 (grid0.coords t) (nt m) = 1#1 := fun e => hj (h4.mp e).2
    simp [n3, n4, hj]

/-! ## The body obligation -/

/-- The gathered rows depend on the tile only. -/
theorem gath_congr {i i' : grid0.Coords} (e : (i 0).val = (i' 0).val) (tb : S30080.Idx → BitVec 32) (hr : RowsOk tb) (fh : S12288x2048.Idx → Elt F .f32) :
    gath i tb hr fh = gath i' tb hr fh := by
  have ew (k : Fin 640) : word i k tb = word i' k tb := by
    unfold word
    refine congrArg tb (funext fun a => ?_)
    fin_cases a
    exact Fin.ext (by show 640 * (i 0).val + k.val = 640 * (i' 0).val + k.val; rw [e])
  have et : ∀ k : Fin 640, (word i k tb).toNat = (word i' k tb).toNat := fun k => by rw [ew]
  funext x
  unfold gath
  refine congrArg fh (funext fun a => ?_)
  fin_cases a
  · exact Fin.ext (et (x 0))
  · rfl

/-- Being used depends on the tile only. -/
theorem used_congr {i i' : grid0.Coords} (e : (i 0).val = (i' 0).val) (n : BitVec 32) : used i n = used i' n := by unfold used; rw [e]

/-- Inside a used tile the buffers hold the gathered tile and the accumulator. -/
theorem known_mid (c : Dev nD) (t : Fin grid0.N) {d10 d11} (hk : Known m h c t.val d10 d11) (hu : used (grid0.coords t) (nt m) = 1#1)
    (h0 : ¬ t.val % 14 = 0) : d10 = tileAt m h c (grid0.coords t) ∧ d11 = accN m h c t.val := by
  have hl : t.val < grid0.N := t.isLt
  have hn : t.val - 1 < grid0.N := by omega
  have e : (grid0.coords ⟨t.val - 1, hn⟩ 0).val = (grid0.coords t 0).val := by
    rw [tile, tile]; show (t.val - 1) / 14 = t.val / 14; omega
  obtain ⟨e1, e2⟩ := hk ⟨t.val - 1, hn⟩ (by show t.val - 1 + 1 = t.val; omega) (by rw [used_congr e]; exact hu)
  refine ⟨e1.trans ?_, e2⟩
  unfold tileAt
  rw [gath_congr e]

/-- What the body leaves known after a point of a used tile. -/
theorem known_used (c : Dev nD) (t : Fin grid0.N) {d10 d11} (e10 : d10 = tileAt m h c (grid0.coords t)) (e11 : d11 = accN m h c (t.val + 1)) :
    Known m h c (t.val + 1) d10 d11 := by
  intro q hq _
  have : q = t := Fin.ext (by omega)
  subst this
  exact ⟨e10, e11⟩

/-- After a point of an unused tile nothing is known. -/
theorem known_unused (c : Dev nD) (t : Fin grid0.N) {d10 d11} (hu : ¬ used (grid0.coords t) (nt m) = 1#1) : Known m h c (t.val + 1) d10 d11 := by
  intro q hq hq'
  have : q = t := Fin.ext (by omega)
  subst this
  exact absurd hq' hu

/-- The buffer the first weight window uses at a point, -/
abbrev st_0 (t : Fin (cf m h).N) := ((cf m h).win 0).stage ((cf m h).slots t 0)
/-- the second's, -/
abbrev st_1 (t : Fin (cf m h).N) := ((cf m h).win 1).stage ((cf m h).slots t 1)
/-- the third's, -/
abbrev st_2 (t : Fin (cf m h).N) := ((cf m h).win 2).stage ((cf m h).slots t 2)
/-- and the result's. -/
abbrev st_3 (t : Fin (cf m h).N) := ((cf m h).win 3).stage ((cf m h).slots t 3)
/-- The first window's buffer is a whole buffer, -/
theorem hst_0 (t : Fin (cf m h).N) : (st_0 m h t).IsWhole := Gen.hstage0_0 (((cf m h).slots t 0).cast Gen.nbuf0_0)
/-- the second's, -/
theorem hst_1 (t : Fin (cf m h).N) : (st_1 m h t).IsWhole := Gen.hstage0_1 (((cf m h).slots t 1).cast Gen.nbuf0_1)
/-- the third's, -/
theorem hst_2 (t : Fin (cf m h).N) : (st_2 m h t).IsWhole := Gen.hstage0_2 (((cf m h).slots t 2).cast Gen.nbuf0_2)
/-- and the result's. -/
theorem hst_3 (t : Fin (cf m h).N) : (st_3 m h t).IsWhole := Gen.hstage0_3 (((cf m h).slots t 3).cast Gen.nbuf0_3)

/-- The body at a grid point, on what the pipeline calls it with. -/
abbrev bodyAt (t : Fin (cf m h).N) : Prog (TpuEff nD τ sig (Elt F) Λ₀ .tc) PUnit :=
  bodyP (F := F) (grid0.coords t) (st_0 m h t) (hst_0 m h t) (st_1 m h t) (hst_1 m h t) (st_2 m h t) (hst_2 m h t) (st_3 m h t) (hst_3 m h t)

/-- What the body leaves in the result's buffer: at a point that stores nothing there what it found, else the data's contents. -/
def left3 (c : Dev nD) (t : Fin (cf m h).N) : sProp 𝕄 :=
  match (cf m h).idle 3 ((cf m h).grid.coords t) with
  | true =>
    match ((cf m h).win 3).flush t with
    | false => iprop(∃ d, owns (c : Thread nD τ) (st_3 m h t) fullShare ((dats m h 0 c).before 3 t d))
    | true => owns (c : Thread nD τ) (st_3 m h t) fullShare ((dats m h 0 c).after 3 t)
  | false => owns (c : Thread nD τ) (st_3 m h t) fullShare ((dats m h 0 c).after 3 t)

/-- Before a tile's last block nothing is asked of the result's buffer. -/
theorem left3_idle (c : Dev nD) (t : Fin (cf m h).N) (hj : ¬ t.val % 14 = 13) :
    left3 m h c t = iprop(∃ d, owns (c : Thread nD τ) (st_3 m h t) fullShare ((dats m h 0 c).before 3 t d)) := by
  unfold left3
  rw [idle_3, flush_3]
  simp only [hj, decide_false, Bool.not_false]

/-- At a tile's last block the result's buffer holds the result's block. -/
theorem left3_live (c : Dev nD) (t : Fin (cf m h).N) (hj : t.val % 14 = 13) :
    left3 m h c t = owns (c : Thread nD τ) (st_3 m h t) fullShare ((dats m h 0 c).after 3 t) := by
  unfold left3
  rw [idle_3]
  simp only [hj, decide_true, Bool.not_true]

/-- What a point's body starts from. -/
def bodyPre (c : Dev nD) (t : Fin (cf m h).N) : sProp 𝕄 :=
  iprop((dats m h 0 c).Φ t.castSucc ∗ (dats m h 0 c).owesAt () t.castSucc
    ∗ (∃ d, owns (c : Thread nD τ) (st_0 m h t) fullShare ((dats m h 0 c).before 0 t d))
    ∗ (∃ d, owns (c : Thread nD τ) (st_1 m h t) fullShare ((dats m h 0 c).before 1 t d))
    ∗ (∃ d, owns (c : Thread nD τ) (st_2 m h t) fullShare ((dats m h 0 c).before 2 t d))
    ∗ (∃ d, owns (c : Thread nD τ) (st_3 m h t) fullShare ((dats m h 0 c).before 3 t d)))
/-- What a point's body leaves. -/
def bodyPost (c : Dev nD) (t : Fin (cf m h).N) : sProp 𝕄 :=
  iprop((dats m h 0 c).Φ t.succ ∗ (dats m h 0 c).owesAt () t.succ
    ∗ owns (c : Thread nD τ) (st_0 m h t) fullShare ((dats m h 0 c).after 0 t)
    ∗ owns (c : Thread nD τ) (st_1 m h t) fullShare ((dats m h 0 c).after 1 t)
    ∗ owns (c : Thread nD τ) (st_2 m h t) fullShare ((dats m h 0 c).after 2 t)
    ∗ left3 m h c t)

/-- The invariant before a point. -/
theorem phi_pre (c : Dev nD) (t : Fin (cf m h).N) : (dats m h 0 c).Φ t.castSucc = inv m h c t.val := by
  dsimp only [dats]; exact Pipeline.Dat.Φ_castSucc (fun n _ => inv m h c n) t
/-- The invariant after a point. -/
theorem phi_post (c : Dev nD) (t : Fin (cf m h).N) : (dats m h 0 c).Φ t.succ = inv m h c (t.val + 1) := by
  dsimp only [dats]; rfl

/-- A point of an unused tile before its last block. -/
theorem body_unused [∀ e, Nonempty (Elt F e)] (c : Dev nD) (t : Fin (cf m h).N) (hu : ¬ used (grid0.coords t) (nt m) = 1#1) (hj : ¬ t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_unused c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact hj) d10 d11 _ W _)
  isplitl [Hh]; · iexact Hh
  isplitl [HW]; · iexact HW
  isplitl [H3]; · iexact H3
  iintro ⟨Hh, ⟨%W', HW'⟩, H3⟩
  isplitl [Hh Ht0 Hg]
  · isplitl [Hh]
    · iexists _, _; isplitr; swap; · iexact Hh
      ipureintro; exact known_unused m h c t hu
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t hj]
  iexists d3; iexact H3

/-- The last point of an unused tile. -/
theorem body_zero [∀ e, Nonempty (Elt F e)] (c : Dev nD) (t : Fin (cf m h).N) (hu : ¬ used (grid0.coords t) (nt m) = 1#1) (hj : t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_zero c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact hj) d10 d11 _ W _)
  isplitl [Hh]; · iexact Hh
  isplitl [HW]; · iexact HW
  isplitl [H3]; · iexact H3
  iintro ⟨Hh, ⟨%W', HW'⟩, H3⟩
  isplitl [Hh Ht0 Hg]
  · isplitl [Hh]
    · iexists _, _; isplitr; swap; · iexact Hh
      ipureintro; exact known_unused m h c t hu
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_live m h c t hj, after_3, if_neg hu]
  iexact H3

/-- A middle point of a used tile. -/
theorem body_mid [∀ e, Nonempty (Elt F e)] (c : Dev nD) (t : Fin (cf m h).N) (hu : used (grid0.coords t) (nt m) = 1#1) (h0 : ¬ t.val % 14 = 0) (hj : ¬ t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  obtain ⟨rfl, rfl⟩ := known_mid m h c t hk hu h0
  iapply (run_mid c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; exact h0) (by rw [blk]; exact hj) _ _ _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_neg h0]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t hj]
  iexists d3; iexact H3

/-- The last point of a used tile. -/
theorem body_last [∀ e, Nonempty (Elt F e)] (c : Dev nD) (t : Fin (cf m h).N) (hu : used (grid0.coords t) (nt m) = 1#1) (hj : t.val % 14 = 13) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  obtain ⟨rfl, rfl⟩ := known_mid m h c t hk hu (by omega)
  iapply (run_last c (grid0.coords t) (V m 0 main_arg1) (V m 0 main_arg2) (V m c main_arg3) (st_0 m h t) (hst_0 m h t) (st_1 m h t) (hst_1 m h t) (st_2 m h t) (hst_2 m h t) (st_3 m h t) (hst_3 m h t) hu (by rw [blk]; omega) (by rw [blk]; exact hj) _ _ _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_neg (by omega)]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_live m h c t hj, after_3, if_pos hu, accN_succ, if_neg (by omega)]
  iexact H3

/-- The first point of a used tile. -/
theorem body_first [∀ e, Nonempty (Elt F e)] (c : Dev nD) (t : Fin (cf m h).N) (hu : used (grid0.coords t) (nt m) = 1#1) (h0 : t.val % 14 = 0) :
    bodyPre m h c t ⊢ wp frame (wpE (defs₀ (F := F)) Variants.none (c : Thread nD τ) none) Set.univ (bodyAt m h t) (fun _ => bodyPost m h c t) := by
  unfold bodyPre bodyPost
  rw [phi_pre, phi_post, after_0, after_1, after_2]
  simp only [before_0, before_1, before_2]
  unfold Dat.owesAt Pipeline.owesWithin
  rw [show (dats m h 0 c).owed t.castSucc = 0 from rfl, show (dats m h 0 c).owed t.succ = 0 from rfl]
  unfold inv
  iintro ⟨⟨⟨%d10, %d11, %hk, Hh⟩, Ht0, Hg⟩, ⟨%W, -, HW⟩, ⟨%_, H0⟩, ⟨%_, H1⟩, ⟨%_, H2⟩, ⟨%d3, H3⟩⟩
  iapply (run_first c (grid0.coords t) (V m 0 main_arg1) (V m 0 main_arg2) h.rows (V m c main_arg3) (st_0 m h t) (hst_0 m h t) (st_1 m h t) (hst_1 m h t) (st_2 m h t) (hst_2 m h t) (st_3 m h t) (hst_3 m h t) hu (by rw [blk]; exact h0) (by rw [blk]; omega) d10 d11 _ (iblk m h c 0 t) (iblk m h c 1 t) (iblk m h c 2 t) W _)
  isplitl [Hh]; · iexact Hh
  isplitl [HW]; · iexact HW
  isplitl [H0 H1 H2]
  · unfold blks
    isplitl [H0]; · iexact H0
    isplitl [H1]; · iexact H1
    iexact H2
  isplitl [H3]; · iexact H3
  iintro ⟨Hh, ⟨%W', HW'⟩, HB, H3⟩
  unfold blks
  icases HB with ⟨H0, H1, H2⟩
  isplitl [Hh Ht0 Hg]
  · isplitl [Hh]
    · iexists _, _; isplitr; swap; · iexact Hh
      ipureintro; exact known_used m h c t rfl (by rw [accN_succ, if_pos h0]; rfl)
    isplitl [Ht0]; · iexact Ht0
    iexact Hg
  isplitl [HW']
  · iexists W'; isplitr; · ipureintro; exact fun _ _ => Or.inl trivial
    iexact HW'
  isplitl [H0]; · iexact H0
  isplitl [H1]; · iexact H1
  isplitl [H2]; · iexact H2
  rw [left3_idle m h c t (by omega)]
  iexists d3; iexact H3

/-- Every point's body, by the five cases. -/
theorem sound_body [∀ e, Nonempty (Elt F e)] (c : Dev nD) (t : Fin (cf m h).N) :
    bodyPre m h c t ⊢ wp frame (wpE (defs₀ (F := F)) Variants.none (c : Thread nD τ) none) Set.univ (bodyAt m h t) (fun _ => bodyPost m h c t) := by
  by_cases hu : used (grid0.coords t) (nt m) = 1#1
  · by_cases h0 : t.val % 14 = 0
    · exact body_first m h c t hu h0
    · by_cases hj : t.val % 14 = 13
      · exact body_last m h c t hu hj
      · exact body_mid m h c t hu h0 hj
  · by_cases hj : t.val % 14 = 13
    · exact body_zero m h c t hu hj
    · exact body_unused m h c t hu hj

/-- The call's body is the printed one. -/
theorem defs₀_row (t : Fin (cf m h).N) : defs₀ (F := F) .tc (cf m h).body ((cf m h).bodyArgs t ((cf m h).slots t)) = bodyAt m h t := by
  unfold defs₀; rw [Defs.onTc_tc]; rfl

/-- The body meets what the pipeline asks of it. -/
theorem body_obligation [∀ e, Nonempty (Elt F e)] (c : Dev nD) : BodyObligation (dats (F := F) m h 0 c) (defs₀ (F := F)) Variants.none () Set.univ := fun t => by
  rw [bigSep_W0, bigSep_W0, defs₀_row]
  exact triple_restated (sound_body m h c t) rfl .rfl fun _ => .rfl

end Data

end Cert.MoeLastIdeal.Hand

end
-- ==== Proof.MoeLastRun.lean ====
module

public import proofs.«01_k».proof.Proof.MoeLastFrame
public import Idealize.ShloMosaic.Lib.Pipeline.Frame

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host code before the call -/

/-- The host's operations take no new memory. -/
theorem host_fresh : (hostOps0 : List (HloOp τ sig (Elt F))).Forall fun op => op.fresh = ∅ := by
  simp only [List.Forall]; repeat' constructor

section Run

variable (m : (ℓ : Loc nD τ sig) → Buf (Elt F) ℓ) (ρ : Dev nD → PrngReg)

/-- The host code leaves a buffer it does not write as launched. -/
theorem V_arg (c : Dev nD) (b : Ref sig .tc) (hb : b ∈ ([main_arg0, main_arg1, main_arg2, main_arg3, main_arg4, main_arg5] : List (Ref sig .tc))) :
    V m c b = m ((c : Thread nD τ).loc b) := by
  unfold V
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes,
    StableHlo.reshape_writes, Finset.mem_singleton]
  fin_cases hb <;> (repeat' apply And.intro) <;> exact StableHlo.devRef_ne_of_ne (by decide)

/-- The host's part of the run up to the call. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub host_fresh main_chain

/-! ## What the body keeps of its own -/

/-- The body's own cell. -/
abbrev osem0 : Fin 1 → SemLoc sig := fun j => (![SemLoc.dma 7] : Fin 1 → SemLoc sig) j
/-- The call's own semaphore is its own. -/
theorem ownSemFacts0 : Pipeline.OwnSemFacts spec0 osem0 := by decide
/-- The call's own semaphores, listed. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The operand the body's transfers read: the tokens. -/
def H0 : Finset (Ref sig .tc) := {main_arg3}
/-- The model's rows are among the arrays the pipeline leaves alone. -/
theorem H0_sub : H0 ⊆ Pipeline.restRefsP sig pre0 spec0 := by decide
/-- The arrays the body reads itself, listed. -/
theorem hbmPts0_eq (c : Dev nD) :
    (bigSep H0 (fun b => ((c : Thread nD τ).loc b) ↦{fullShare} V m c b) : sProp 𝕄) = bufPt c hM (V m c main_arg3) := by
  unfold H0; rw [bigSep_singleton]

/-- There is one device. -/
theorem dev0 (c : Dev nD) : c = 0 := Subsingleton.elim _ _

/-- The launched tables, listed. -/
theorem PhiT_eq (c : Dev nD) : (Pipeline.ΦT pre0 (tbl m) c : sProp 𝕄)
    = iprop(tbPt c tM0 (V m 0 main_v11) ∗ tbPt c tM1 (V m 0 main_arg1) ∗ tbPt c tM2 (V m 0 main_arg2)) := by
  unfold Pipeline.ΦT Pipeline.prefHeld
  rw [show (Finset.univ : Finset (Fin 3)) = insert (0 : Fin 3) (insert 1 {2}) from by decide, bigSep_insert (by decide), bigSep_insert (by decide), bigSep_singleton]
  rfl

variable (h : Ok m)

/-- Before the first point nothing is known of the buffers. -/
theorem known_zero (c : Dev nD) (d10 d11) : Known m h c 0 d10 d11 := fun q hq _ => absurd hq (Nat.succ_ne_zero _)

/-- What the region hands the body opens its invariant. -/
theorem inv_in (c : Dev nD) : iprop(Pipeline.ΦD osem0 spec0 H0 (V m) c ∗ Pipeline.ΦT pre0 (tbl m) c) ⊢ inv m h c 0 := by
  rw [Pipeline.ΦD_eq, scopedRest0_eq, ownSems00_eq, hbmPts0_eq, PhiT_eq]
  unfold inv held
  iintro ⟨⟨⟨⟨%f0, Ha⟩, ⟨%f1, Hb⟩⟩, Hg, Hs, Hh⟩, Ht0, Ht1, Ht2⟩
  isplitl [Ha Hb Hs Hh Ht1 Ht2]
  · iexists f0, f1; isplitr
    · ipureintro; exact known_zero m h c _ _
    isplitl [Ht1]; · iexact Ht1
    isplitl [Ht2]; · iexact Ht2
    isplitl [Hh]; · iexact Hh
    isplitl [Ha]; · iexact Ha
    isplitl [Hb]; · iexact Hb
    iexact Hs
  isplitl [Ht0]; · iexact Ht0
  iexact Hg

/-- The invariant after the last point gives back what the region handed over. -/
theorem inv_out (c : Dev nD) (n : ℕ) : inv m h c n ⊢ Pipeline.ΦD osem0 spec0 H0 (V m) c := by
  rw [Pipeline.ΦD_eq, scopedRest0_eq, ownSems00_eq, hbmPts0_eq]
  unfold inv held
  iintro ⟨⟨%d0, %d1, -, -, -, Hh, Ha, Hb, Hs⟩, -, Hg⟩
  isplitl [Ha Hb]
  · isplitl [Ha]; · iexists d0; iexact Ha
    iexists d1; iexact Hb
  isplitl [Hg]; · iexact Hg
  isplitl [Hs]; · iexact Hs
  iexact Hh

/-! ## The run -/

set_option backward.isDefEq.respectTransparency.types false in
/-- The whole run. -/
theorem run_main [∀ e, Nonempty (Elt F e)] : θ_run defs (onTc (τ := τ) (main (F := F))) (s₀ m ρ)
    (fun r => Pipeline.FramePost (Pipeline.pin pcfgs (adm m h)) (dats m h) 0 (V m) r ∧ r.2.sem = fun _ => 0) :=
  Pipeline.θ_run_frameP_dma_shared (Q' := _) pcfgs (adm m h) (dats m h) (0 : Fin 1) launch₀0 osem0 defs₀ Variants.none ownSemFacts0 H0 H0_sub m ρ main
    (hbody := fun c => (body_obligation m h c).loose) (hq := fun _ _ _ => rfl)
    (howed := fun _ _ => rfl) (V := V m) (hmain := hmain m Variants.none) (hA := A_eq m h)
    (hpf := fun c k => by rw [dev0 c]; rfl)
    (hin := fun c => inv_in m h c) (hout := fun c => inv_out m h c _)

/-- The first four arguments are not arrays of the windows. -/
theorem rest_arg (b : Ref sig .tc) (hb : b ∈ ([main_arg0, main_arg1, main_arg2, main_arg3] : List (Ref sig .tc))) : b ∈ Pipeline.restRefs sig spec0 := by
  fin_cases hb <;> exact Pipeline.mem_restRefs_of _ (by decide) (by decide)

/-- The frame and the result's array, from the run. -/
theorem run_post [∀ e, Nonempty (Elt F e)] : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v12) = (dats m h 0 c).arrAt 3 (cf m h).N)
      ∧ r.2.sem = fun _ => 0) :=
  (θ_run defs _ _).mono (fun r hr => ⟨fun c => ⟨⟨
      ((hr.1 c).2 main_arg0 (rest_arg main_arg0 (by decide))).trans (V_arg m c main_arg0 (by decide)),
      ((hr.1 c).2 main_arg1 (rest_arg main_arg1 (by decide))).trans (V_arg m c main_arg1 (by decide)),
      ((hr.1 c).2 main_arg2 (rest_arg main_arg2 (by decide))).trans (V_arg m c main_arg2 (by decide)),
      ((hr.1 c).2 main_arg3 (rest_arg main_arg3 (by decide))).trans (V_arg m c main_arg3 (by decide)),
      ((hr.1 c).1 0).trans (((dats m h 0 c).arrAt_in 0 rfl _).trans ((A_eq m h c 0).trans (V_arg m c main_arg4 (by decide)))),
      ((hr.1 c).1 2).trans (((dats m h 0 c).arrAt_in 2 rfl _).trans ((A_eq m h c 2).trans (V_arg m c main_arg5 (by decide))))⟩, (hr.1 c).1 3⟩, hr.2⟩) (run_main m ρ h)

end Run

end Cert.MoeLastIdeal.Hand

end
-- ==== Proof.MoeLastTab.lean ====
module

public import proofs.«01_k».proof.Proof.MoeLastRun
public import proofs.«01_k».proof.Proof.MoePre
public import Idealize.ShloMosaic.Lib.StableHlo.Predicate
public import Idealize.ShloMosaic.Lib.WordCmp

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe Idealize.ShloMosaic.Tactic
open Idealize.SL Idealize.SL.Sem

variable {F : FTy → Type} [FloatOps F]

section Tab

variable (m : (ℓ : Loc nD τ sig) → Buf (Elt F) ℓ)

/-- The expert tables and the rows as launched, and their ranges. -/
def Ranges : Prop :=
  (∀ i, (m (((0 : Dev nD).tc : Thread nD τ).loc main_arg0) i).toNat < 8)
    ∧ ∀ i, (m (((0 : Dev nD).tc : Thread nD τ).loc main_arg2) i).toNat < 12288

/-- The position of a tile in the table of experts: the last used tile's where the tile is not used. -/
def posn (x1 : IVec S1 32) : IVec S47 32 :=
  minsi (iotaInDim S47 32 0) (broadcastInDim S47 ![] Gen.bcast_S_S47 (subi (shapeCast S_ x1 Gen.shapeCasts_S1_S_) (constantI S_ 32 1#32)))

/-- The table of experts the pipeline finds. -/
theorem V_tab (c : Dev nD) : V m c main_v11 = Host.gather gather_S47_S47x1_S47_n_0_n_n_0_1_1 (m ((c : Thread nD τ).loc main_arg0))
    (broadcastInDim S47x1 ![0] Gen.bcast_S47_S47x1_0 (select (cmpi .slt (posn (m ((c : Thread nD τ).loc main_arg1))) (broadcastInDim S47 ![] Gen.bcast_S_S47 (constantI S_ 32 0#32)))
      (addi (posn (m ((c : Thread nD τ).loc main_arg1))) (broadcastInDim S47 ![] Gen.bcast_S_S47 (constantI S_ 32 47#32))) (posn (m ((c : Thread nD τ).loc main_arg1))))) := by
  unfold V; after_results; try rfl

/-- The table's position of a tile. -/
def e47 (k : Fin 47) : S47.Idx := fun a => match a with | ⟨0, _⟩ => k

/-- Every position is one of those. -/
theorem of_idx (x : S47.Idx) : x = e47 ⟨(x 0).val, (x 0).isLt⟩ := by
  funext a; fin_cases a; rfl

/-- A gather from a table of 47 words, read at a position. -/
theorem take_at (x : IVec S47 32) (idx : IVec S47x1 32) (p : Fin 47) :
    Host.gather gather_S47_S47x1_S47_n_0_n_n_0_1_1 x idx (e47 p) = x (e47 ⟨min (idx (ix2 p 0)).toInt.toNat 46, by omega⟩) := by
  have e : ∀ q : Fin 47, e47 q = Shape.Idx.ofFin q := fun q => by funext a; fin_cases a; rfl
  rw [e, e]
  refine (StableHlo.Predicate.gather_take gather_S47_S47x1_S47_n_0_n_n_0_1_1 rfl rfl rfl rfl x idx p (by norm_num)).trans ?_
  have e2 : StableHlo.Predicate.ixP p = (ix2 p 0 : S47x1.Idx) := by funext a; fin_cases a <;> rfl
  exact congrArg (fun q => x (Shape.Idx.ofFin q)) (Fin.ext (show min (idx (StableHlo.Predicate.ixP p)).toInt.toNat 46 = min (idx (ix2 p 0)).toInt.toNat 46 by rw [e2]))

/-- Its entries are experts. -/
theorem tab_lt (hr : Ranges m) (c : Dev nD) (x : S47.Idx) : (V m c main_v11 x).toNat < 8 := by
  rw [V_tab, of_idx x, dev0 c, take_at]
  exact hr.1 _

/-- The position of a used tile is its own. -/
theorem posn_used (x1 : IVec S1 32) (h1 : (x1 (ix1 0)).toNat < 2 ^ 31) (p : Fin 47) (hp : p.val < (x1 (ix1 0)).toNat) :
    posn x1 (e47 p) = BitVec.ofNat 32 p.val := by
  have e : posn x1 (e47 p) = IntOp.minsi (BitVec.ofNat 32 p.val) (x1 (ix1 0) - 1#32) := by
    unfold posn
    show IntOp.minsi (BitVec.ofNat 32 p.val) (IntOp.subi (shapeCast S_ x1 Gen.shapeCasts_S1_S_ _) 1#32) = _
    pointwise []
    rfl
  rw [e]
  generalize x1 (ix1 0) = n at *
  unfold IntOp.minsi
  have hs : (n - 1#32).toNat = n.toNat - 1 := by rw [BitVec.toNat_sub]; have := n.isLt; simp; omega
  have hq := p.isLt
  by_cases hlt : p.val + 1 < n.toNat
  · rw [if_pos]
    rw [BitVec.slt_eq_decide, decide_eq_true_eq, BitVec.toInt_eq_toNat_cond, BitVec.toInt_eq_toNat_cond, hs, BitVec.toNat_ofNat]
    omega
  · rw [if_neg]
    · apply BitVec.eq_of_toNat_eq
      rw [hs, BitVec.toNat_ofNat]
      omega
    · rw [BitVec.slt_eq_decide, decide_eq_true_eq, BitVec.toInt_eq_toNat_cond, BitVec.toInt_eq_toNat_cond, hs, BitVec.toNat_ofNat]
      omega

/-- A word above a tile's number in the signed order is positive and above it as a number. -/
theorem lt_of_slt (n : BitVec 32) (p : Fin 47) (hu : IntOp.cmpi .slt (BitVec.ofNat 32 p.val) n = 1#1) : p.val < n.toNat ∧ n.toNat < 2 ^ 31 := by
  have hp := p.isLt
  have hn := n.isLt
  simp only [IntOp.cmpi, WordArith.ofBool_eq_one_iff, BitVec.slt_eq_decide, decide_eq_true_eq, BitVec.toInt_eq_toNat_cond, BitVec.toNat_ofNat] at hu
  omega

/-- The table holds a used tile's own expert. -/
theorem tab_used (hr : Ranges m) (c : Dev nD) (p : Fin 47)
    (hu : IntOp.cmpi .slt (BitVec.ofNat 32 p.val) (m ((c.tc : Thread nD τ).loc main_arg1) (ix1 0)) = 1#1) :
    V m c main_v11 (e47 p) = m ((c.tc : Thread nD τ).loc main_arg0) (e47 p) := by
  obtain rfl := dev0 c
  rw [V_tab, take_at]
  obtain ⟨hp, h1⟩ := lt_of_slt _ p hu
  have hq := posn_used _ h1 p hp
  refine congrArg _ (congrArg e47 (Fin.ext ?_))
  have e : ∀ w a b : IVec S47 32, broadcastInDim S47x1 ![0] Gen.bcast_S47_S47x1_0 (select (cmpi .slt w a) (addi w b) w) (ix2 p 0)
      = Scalar.select (IntOp.cmpi .slt (w (e47 p)) (a (e47 p))) (IntOp.addi (w (e47 p)) (b (e47 p))) (w (e47 p)) := fun w a b => by
    have : ∀ z : IVec S47 32, broadcastInDim S47x1 ![0] Gen.bcast_S47_S47x1_0 z (ix2 p 0) = z (e47 p) := fun z =>
      congrArg z (by funext a; fin_cases a; rfl)
    rw [this]; rfl
  have k : ∀ q : Fin 47, (Scalar.select (IntOp.cmpi .slt (BitVec.ofNat 32 q.val) 0#32) (IntOp.addi (BitVec.ofNat 32 q.val) 47#32) (BitVec.ofNat 32 q.val)).toInt.toNat = q.val := by decide
  show min (BitVec.toInt _).toNat 46 = p.val
  rw [e, hq]
  have := k p
  exact (congrArg (min · 46) this).trans (by have := p.isLt; omega)

/-- The weight block a grid point reads: its own, the last where the tile is not used. -/
def jj (i : grid0.Coords) (n : BitVec 32) : ℕ := (Scalar.select (used i n) (BitVec.ofNat 32 (i 1).val) 13#32).toNat

/-- The weight block a point asks for is one of the fourteen. -/
theorem jj_lt (i : grid0.Coords) (n : BitVec 32) : jj i n < 14 := by
  have h1 : (i 1).val < 14 := (i 1).isLt
  unfold jj Scalar.select
  split
  · rw [BitVec.toNat_ofNat]; omega
  · decide

/-- A used tile's point asks for its own block. -/
theorem jj_used (i : grid0.Coords) (n : BitVec 32) (hu : used i n = 1#1) : jj i n = (i 1).val := by
  have h1 : (i 1).val < 14 := (i 1).isLt
  unfold jj; rw [hu]
  show (BitVec.ofNat 32 (i 1).val).toNat = _
  rw [BitVec.toNat_ofNat]; omega

/-- The word of the table of experts a grid point reads. -/
theorem at_tab (i : grid0.Coords) (hh) (h1) : (tbl m).at 0 (Rect.unit (s := S47) ![(Scalar.indexCast (BitVec.ofNat 32 (i 0).val)).toNat] S1.size hh) h1
    = V m 0 main_v11 (e47 ⟨(i 0).val, (i 0).isLt⟩) := by
  refine congrArg (V m 0 main_v11) (funext fun a => Fin.ext ?_)
  have h0 : (i 0).val < 47 := (i 0).isLt
  fin_cases a
  show (BitVec.ofNat 32 (i 0).val).toNat + 1 * _ = (i 0).val
  rw [BitVec.toNat_ofNat]
  have h2 : (Shape.Idx.first (s := (Rect.unit (s := S47) ![(Scalar.indexCast (BitVec.ofNat 32 (i 0).val)).toNat] S1.size hh).shape) (h1.symm ▸ Nat.one_pos) 0).val < 1 := Fin.isLt _
  refine (congrArg (fun z => (i 0).val % 2 ^ 32 + 1 * z) (Nat.lt_one_iff.mp h2)).trans ?_
  omega

/-- The number of used tiles as it reads it. -/
theorem at_n (hh) (h1) : (tbl m).at 1 (Rect.unit (s := S1) ![0] S1.size hh) h1 = nt m :=
  congrArg (V m 0 main_arg1) (funext fun a => Fin.ext (by
    fin_cases a
    exact (Nat.lt_one_iff.mp (Fin.isLt _)).trans (Nat.lt_one_iff.mp (Fin.isLt _)).symm))

/-- The first weights' index map at a grid point, from the words it reads, -/
def f1 (i : grid0.Coords) (w n : BitVec 32) : Fin 4 → ℕ := ![1, w.toNat, 0, (Scalar.addi 0#32 (Scalar.select (used i n) (BitVec.ofNat 32 (i 1).val) 13#32)).toNat]
/-- The printed index map of the first weight window, -/
theorem f1_eq (pf : pre0.Contents (Elt F)) (i : grid0.Coords) : cc0_transform_1 Facts₀.inb_S1_S1_0 Facts₀.numel1_S1 Facts₀.k0_off1_inb pf i
    = f1 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f1_val (i : grid0.Coords) (w n : BitVec 32) : f1 i w n = ![1, w.toNat, 0, jj i n] := by
  unfold f1 jj
  rw [show ∀ x : BitVec 32, Scalar.addi 0#32 x = x from fun x => BitVec.zero_add x]
/-- It read in the tables. -/
theorem tr1 (i : grid0.Coords) : cc0_transform_1 Facts₀.inb_S1_S1_0 Facts₀.numel1_S1 Facts₀.k0_off1_inb (tbl m) i
    = ![1, (V m 0 main_v11 (e47 ⟨(i 0).val, (i 0).isLt⟩)).toNat, 0, jj i (nt m)] :=
  (f1_eq (tbl m) i).trans ((congrArg₂ (f1 i) (at_tab m i _ _) (at_n m _ _)).trans (f1_val i _ _))

/-- the second's, -/
def f2 (i : grid0.Coords) (w n : BitVec 32) : Fin 4 → ℕ := ![1, w.toNat, 0, (Scalar.addi 14#32 (Scalar.select (used i n) (BitVec.ofNat 32 (i 1).val) 13#32)).toNat]
/-- The printed index map of the second, -/
theorem f2_eq (pf : pre0.Contents (Elt F)) (i : grid0.Coords) : cc0_transform_2 Facts₀.inb_S1_S1_0 Facts₀.numel1_S1 Facts₀.k0_off1_inb pf i
    = f2 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f2_val (i : grid0.Coords) (w n : BitVec 32) : f2 i w n = ![1, w.toNat, 0, 14 + jj i n] := by
  have hj := jj_lt i n
  have e : (Scalar.addi 14#32 (Scalar.select (used i n) (BitVec.ofNat 32 (i 1).val) 13#32)).toNat = 14 + jj i n := by
    show (14#32 + Scalar.select (used i n) (BitVec.ofNat 32 (i 1).val) 13#32).toNat = 14 + jj i n
    rw [BitVec.toNat_add]
    show (14 + jj i n) % 2 ^ 32 = _
    omega
  unfold f2
  rw [e]
/-- It read in the tables. -/
theorem tr2 (i : grid0.Coords) : cc0_transform_2 Facts₀.inb_S1_S1_0 Facts₀.numel1_S1 Facts₀.k0_off1_inb (tbl m) i
    = ![1, (V m 0 main_v11 (e47 ⟨(i 0).val, (i 0).isLt⟩)).toNat, 0, 14 + jj i (nt m)] :=
  (f2_eq (tbl m) i).trans ((congrArg₂ (f2 i) (at_tab m i _ _) (at_n m _ _)).trans (f2_val i _ _))

/-- and the third's. -/
def f3 (i : grid0.Coords) (w n : BitVec 32) : Fin 4 → ℕ := ![1, w.toNat, (Scalar.select (used i n) (BitVec.ofNat 32 (i 1).val) 13#32).toNat, 0]
/-- The printed index map of the third, -/
theorem f3_eq (pf : pre0.Contents (Elt F)) (i : grid0.Coords) : cc0_transform_3 Facts₀.inb_S1_S1_0 Facts₀.numel1_S1 Facts₀.k0_off1_inb pf i
    = f3 i (pf.at 0 (Rect.unit (s := S47) ![(Scalar.indexCast (BitVec.ofNat 32 (i 0).val)).toNat] S1.size (Facts₀.k0_off1_inb i)) Facts₀.numel1_S1)
      (pf.at 1 (Rect.unit (s := S1) ![0] S1.size Facts₀.inb_S1_S1_0) Facts₀.numel1_S1) := rfl
/-- and its value. -/
theorem f3_val (i : grid0.Coords) (w n : BitVec 32) : f3 i w n = ![1, w.toNat, jj i n, 0] := by
  rfl
/-- It read in the tables. -/
theorem tr3 (i : grid0.Coords) : cc0_transform_3 Facts₀.inb_S1_S1_0 Facts₀.numel1_S1 Facts₀.k0_off1_inb (tbl m) i
    = ![1, (V m 0 main_v11 (e47 ⟨(i 0).val, (i 0).isLt⟩)).toNat, jj i (nt m), 0] :=
  (f3_eq (tbl m) i).trans ((congrArg₂ (f3 i) (at_tab m i _ _) (at_n m _ _)).trans (f3_val i _ _))

/-- The ranges make the tables admissible. -/
theorem ok_of (hr : Ranges m) : Ok m where
  ok := ⟨fun i => ⟨fun a => by
      have ht := tab_lt m hr 0 (e47 ⟨(i 0).val, (i 0).isLt⟩); have hj := jj_lt i (nt m)
      rw [tr1]; fin_cases a
      · exact Nat.le_of_ble_eq_true rfl
      · exact (Nat.mul_one _).trans_le (Nat.succ_le_of_lt ht)
      · exact Nat.le_of_ble_eq_true rfl
      · show (jj i (nt m) + 1) * 512 ≤ 14336; omega, .inl rfl⟩,
    fun i => ⟨fun a => by
      have ht := tab_lt m hr 0 (e47 ⟨(i 0).val, (i 0).isLt⟩); have hj := jj_lt i (nt m)
      rw [tr2]; fin_cases a
      · exact Nat.le_of_ble_eq_true rfl
      · exact (Nat.mul_one _).trans_le (Nat.succ_le_of_lt ht)
      · exact Nat.le_of_ble_eq_true rfl
      · show (14 + jj i (nt m) + 1) * 512 ≤ 14336; omega, .inl rfl⟩,
    fun i => ⟨fun a => by
      have ht := tab_lt m hr 0 (e47 ⟨(i 0).val, (i 0).isLt⟩); have hj := jj_lt i (nt m)
      rw [tr3]; fin_cases a
      · exact Nat.le_of_ble_eq_true rfl
      · exact (Nat.mul_one _).trans_le (Nat.succ_le_of_lt ht)
      · show (jj i (nt m) + 1) * 512 ≤ 7168; omega
      · exact Nat.le_of_ble_eq_true rfl, .inl rfl⟩⟩
  rows := fun x => by rw [V_arg m 0 main_arg2 (by decide)]; exact hr.2 x

end Tab

end Cert.MoeLastIdeal.Hand
end
-- ==== Proof.MoeLastFrames.lean ====
module

public import proofs.«01_k».proof.Defs
public import proofs.«01_k».proof.Proof.MoeLastTab
public import proofs.«01_k».proof.Proof.Gen.MoeLast
public import proofs.«01_k».proof.Proof.Gen.MoeLastIdeal

@[expose] public section

noncomputable section

namespace Cert.MoeLastIdeal.Hand

open Cert.MoeLastIdeal Cert.MoeLastIdeal.Gen Cert.MoeLastIdeal.Facts₀ Cert.MoeLastIdeal.Facts
open Idealize.ShloMosaic Idealize.ShloMosaic.TcCoe
open Idealize.SL Idealize.SL.Sem

/-- The precondition gives the ranges. -/
theorem ranges_of (m : (ℓ : Loc nD τ sig) → Buf (Elt Ideal) ℓ) (hp : Cert.Pre_MoeLastIdeal m) : Ranges m :=
  Cert.Pre_tables_in_range.Moe.ranges _ _ _ _ _ _ (hp 0)

/-- The call ends and keeps its arguments, over any floats. -/
theorem frame_of {F : FTy → Type} [FloatOps F] [∀ e, Nonempty (Elt F e)] (m : (ℓ : Loc nD τ sig) → Buf (Elt F) ℓ) (g : Dev nD → PrngReg) (h : Ok m) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ q => ⟨fun c => (q.1 c).1, q.2⟩) (run_post m g h)

/-- The experts' call at the extended reals: it ends and keeps its arguments. -/
theorem frame_ideal : Cert.quiescent_MoeLastIdeal := fun m g hp => frame_of m g (ok_of m (ranges_of m hp))

/-- The precondition gives the ranges, at the bits. -/
theorem ranges_bits (m : (ℓ : Loc nD τ sig) → Buf (Elt Bits) ℓ) (hp : Cert.Pre_MoeLast m) : Ranges m :=
  Cert.Pre_tables_in_range.Moe.ranges _ _ _ _ _ _ (hp 0)

/-- The two programs have one table of kernels at the bits. -/
theorem kernels_same : @Cert.MoeLast.defs₀ Bits _ _ = @Cert.MoeLastIdeal.defs₀ Bits _ _ := by
  unfold Cert.MoeLast.defs₀ Cert.MoeLastIdeal.defs₀
  refine congrArg (Defs.onTc (Λ := Cert.MoeLastIdeal.Λ₀) (sig := Cert.MoeLastIdeal.sig)) (funext fun l => funext fun x => ?_)
  match l, x with
  | ⟨0, _⟩, (t, s) => rfl
  | ⟨n + 1, hl⟩, x => exact absurd hl (Nat.not_lt.2 (Nat.le_add_left _ _))

/-- The two programs have one table of bodies at the bits. -/
theorem defs_same : @Cert.MoeLast.defs Bits _ _ = @Cert.MoeLastIdeal.defs Bits _ _ := by
  unfold Cert.MoeLast.defs Cert.MoeLastIdeal.defs
  exact congrArg (fun d => Pipeline.defs (Cert.MoeLastIdeal.pcfgs (F := Bits)) d) kernels_same

set_option maxHeartbeats 1000000 in
/-- The two programs have one main function at the bits. -/
theorem main_same : @Cert.MoeLast.main Bits _ _ = @Cert.MoeLastIdeal.main Bits _ _ := rfl

/-- The same call at the bits: the run above, its text the same. -/
theorem frame_bits : Cert.quiescent_MoeLast := fun m g hp => by
  have k := frame_of (F := Bits) m g (ok_of m (ranges_bits m hp))
  rw [← defs_same, ← main_same] at k
  exact k

end Cert.MoeLastIdeal.Hand
end
-- ==== Proof.MoeLastPay.lean ====
module

public import proofs.«01_k».proof.Proof.MoeLastTab
public import proofs.«01_k».proof.Proof.MoeMath
public import Idealize.ShloMosaic.Lib.IdealHost
public import Idealize.ShloMosaic.Lib.Pipeline.ValueKit

@[expose] public section

set_option maxRecDepth 16384

noncomputable section

namespace Cert.MoeLastIdeal.Hand

open Cert.MoeLastIdeal Cert.MoeLastIdeal.Gen
open Idealize.ShloMosaic Idealize.ShloMosaic.TcCoe Idealize.SL.Sem
open Cert.MoeMath

/-- The accumulator starts at zero. -/
theorem pay2_at (p : Fin 640) (d : Fin 2048) : k0_pay2 (F := Ideal) (ix2 p d) = (0 : EReal) := by
  pointwise [k0_pay2]
/-- An unused tile's rows are zero. -/
theorem pay4_at (p : Fin 640) (d : Fin 2048) : k0_pay4 (F := Ideal) (ix2 p d) = (0 : EReal) := by
  pointwise [k0_pay4]
/-- The gathered tile is stored as it is. -/
theorem pay1_at (v : FVec Ideal S640x2048 .f32) (p : Fin 640) (d : Fin 2048) : k0_pay1 (F := Ideal) v (ix2 p d) = v (ix2 p d) := by
  pointwise [k0_pay1]

/-- One step: the hidden block's activations against its rows of the second matrix, added to the accumulator. -/
theorem pay3_at (T : FVec Ideal S640x2048 .bf16) (A B : FVec Ideal S1x1x2048x512 .f32) (acc : FVec Ideal S640x2048 .f32)
    (W : FVec Ideal S1x1x512x2048 .f32) (p : Fin 640) (d : Fin 2048) :
    k0_pay3 (F := Ideal) T A B acc W (ix2 p d) = acc (ix2 p d) + ∑ q : Fin 512,
      act (∑ k : Fin 2048, T (ix2 p k) * A (ix4 0 0 k q)) (∑ k : Fin 2048, T (ix2 p k) * B (ix4 0 0 k q)) * W (ix4 0 0 q d) := by
  simp only [act, ← zero_sub]
  pointwise [k0_pay3]

end Cert.MoeLastIdeal.Hand
end
-- ==== Proof.MoeLastVal.lean ====
module

public import proofs.«01_k».proof.Proof.MoeLastPay

@[expose] public section

set_option maxRecDepth 16384

noncomputable section

namespace Cert.MoeLastIdeal.Hand

open Cert.MoeLastIdeal Cert.MoeLastIdeal.Gen
open Idealize.ShloMosaic Idealize.ShloMosaic.TcCoe Idealize.SL.Sem
open Idealize.ShloMosaic.Pipeline (Dat Cfg Window)
open Cert.MoeMath

variable (m : (ℓ : Loc nD τ sig) → Buf (Elt Ideal) ℓ) (hr : Ranges m)

/-- The launched table of the tiles' experts, -/
abbrev X0 : IVec S47 32 := m (((0 : Dev nD).tc : Thread nD τ).loc main_arg0)
/-- the launched number of used tiles, -/
abbrev X1 : IVec S1 32 := m (((0 : Dev nD).tc : Thread nD τ).loc main_arg1)
/-- the launched table of rows, -/
abbrev X2 : IVec S30080 32 := m (((0 : Dev nD).tc : Thread nD τ).loc main_arg2)
/-- the model's rows, -/
abbrev X3 : FVec Ideal S12288x2048 .f32 := m (((0 : Dev nD).tc : Thread nD τ).loc main_arg3)
/-- the gate and up weights, -/
abbrev X4 : FVec Ideal S2x8x2048x14336 .f32 := m (((0 : Dev nD).tc : Thread nD τ).loc main_arg4)
/-- and the down weights. -/
abbrev X5 : FVec Ideal S2x8x7168x2048 .f32 := m (((0 : Dev nD).tc : Thread nD τ).loc main_arg5)

/-- The expert the pipeline's table holds for a tile. -/
def ex (hr : Ranges m) (t : Fin grid0.N) : Fin 8 := ⟨(V m 0 main_v11 (e47 ⟨(grid0.coords t 0).val, (grid0.coords t 0).isLt⟩)).toNat, tab_lt m hr 0 _⟩

/-- The gate's weights of a point. -/
theorem wblk0 (t : Fin grid0.N) (k : Fin 2048) (q : Fin 512) : iblk m (ok_of m hr) 0 0 t (ix4 0 0 k q)
    = X4 m (ix4 1 (ex m hr t) k ⟨jj (grid0.coords t) (nt m) * 512 + q.val, by have := jj_lt (grid0.coords t) (nt m); omega⟩) := by
  have e : (pcfg0.win (adm m (ok_of m hr) 0) 0).index t = ![1, (ex m hr t).val, 0, jj (grid0.coords t) (nt m)] := tr1 m (grid0.coords t)
  refine Eq.trans ?_ (congrFun (V_arg m 0 main_arg4 (by decide)) _)
  blk_ext [iblk, e]
  · exact congrArg (fun z => z + 0) (congrFun e 0)
  · exact congrArg (fun z => z + 0) (congrFun e 1)
  · refine (congrArg (fun z => z * 2048 + k.val) (congrFun e 2)).trans ?_
    show 0 * 2048 + k.val = k.val; omega
  · exact congrArg (fun z => z * 512 + q.val) (congrFun e 3)

/-- The up projection's weights of a point. -/
theorem wblk1 (t : Fin grid0.N) (k : Fin 2048) (q : Fin 512) : iblk m (ok_of m hr) 0 1 t (ix4 0 0 k q)
    = X4 m (ix4 1 (ex m hr t) k ⟨(14 + jj (grid0.coords t) (nt m)) * 512 + q.val, by have := jj_lt (grid0.coords t) (nt m); omega⟩) := by
  have e : (pcfg0.win (adm m (ok_of m hr) 0) 1).index t = ![1, (ex m hr t).val, 0, 14 + jj (grid0.coords t) (nt m)] := tr2 m (grid0.coords t)
  refine Eq.trans ?_ (congrFun (V_arg m 0 main_arg4 (by decide)) _)
  blk_ext [iblk, e]
  · exact congrArg (fun z => z + 0) (congrFun e 0)
  · exact congrArg (fun z => z + 0) (congrFun e 1)
  · refine (congrArg (fun z => z * 2048 + k.val) (congrFun e 2)).trans ?_
    show 0 * 2048 + k.val = k.val; omega
  · exact congrArg (fun z => z * 512 + q.val) (congrFun e 3)

/-- The second matrix's rows of a point. -/
theorem wblk2 (t : Fin grid0.N) (q : Fin 512) (d : Fin 2048) : iblk m (ok_of m hr) 0 2 t (ix4 0 0 q d)
    = X5 m (ix4 1 (ex m hr t) ⟨jj (grid0.coords t) (nt m) * 512 + q.val, by have := jj_lt (grid0.coords t) (nt m); omega⟩ d) := by
  have e : (pcfg0.win (adm m (ok_of m hr) 0) 2).index t = ![1, (ex m hr t).val, jj (grid0.coords t) (nt m), 0] := tr3 m (grid0.coords t)
  refine Eq.trans ?_ (congrFun (V_arg m 0 main_arg5 (by decide)) _)
  blk_ext [iblk, e]
  · exact congrArg (fun z => z + 0) (congrFun e 0)
  · exact congrArg (fun z => z + 0) (congrFun e 1)
  · exact congrArg (fun z => z * 512 + q.val) (congrFun e 2)
  · refine (congrArg (fun z => z * 2048 + d.val) (congrFun e 3)).trans ?_
    show 0 * 2048 + d.val = d.val; omega

/-- The row of the model that row `p` of a tile is for. -/
def rw_ (hr : Ranges m) (t : Fin grid0.N) (p : Fin 640) : Fin 12288 :=
  ⟨(X2 m (ix1 ⟨(grid0.coords t 0).val * 640 + p.val, by have h0 : (grid0.coords t 0).val < 47 := (grid0.coords t 0).isLt; omega⟩)).toNat, hr.2 _⟩

/-- The gathered tile of a point. -/
theorem tile_at (t : Fin grid0.N) (p : Fin 640) (k : Fin 2048) : tileAt m (ok_of m hr) 0 (grid0.coords t) (ix2 p k) = X3 m (ix2 (rw_ m hr t p) k) := by
  unfold tileAt
  refine (pay1_at _ p k).trans ?_
  refine Eq.trans ?_ (congrFun (V_arg m 0 main_arg3 (by decide)) _)
  unfold gath
  refine congrArg (V m 0 main_arg3) (funext fun a => Fin.ext ?_)
  have ew : word (grid0.coords t) p (V m 0 main_arg2) = X2 m (ix1 ⟨(grid0.coords t 0).val * 640 + p.val, by have h0 : (grid0.coords t 0).val < 47 := (grid0.coords t 0).isLt; omega⟩) := by
    unfold word
    refine (congrFun (V_arg m 0 main_arg2 (by decide)) _).trans (congrArg (X2 m) (funext fun a => Fin.ext ?_))
    fin_cases a
    show 640 * (grid0.coords t 0).val + p.val = (grid0.coords t 0).val * 640 + p.val
    omega
  fin_cases a
  · show (word (grid0.coords t) p (V m 0 main_arg2)).toNat = _
    rw [ew]; rfl
  · rfl

/-- What a point of a used tile adds to the accumulator. -/
theorem step_at (t : Fin grid0.N) (hu : used (grid0.coords t) (nt m) = 1#1) (b : FVec Ideal S640x2048 .f32) (p : Fin 640) (d : Fin 2048) :
    stepAt m (ok_of m hr) 0 t b (ix2 p d) = b (ix2 p d) + ∑ q : Fin 512,
      term 1 (X3 m) (X4 m) (X5 m) (rw_ m hr t p) (ex m hr t) d ⟨t.val % 14 * 512 + q.val, by omega⟩ := by
  unfold stepAt
  refine (pay3_at _ _ _ _ _ p d).trans (congrArg (fun z => b (ix2 p d) + z) (Finset.sum_congr rfl fun q _ => ?_))
  have ej : jj (grid0.coords t) (nt m) = t.val % 14 := (jj_used _ _ hu).trans (blk t)
  unfold term MoeMath.hidden
  refine congrArg₂ (· * ·) (congrArg₂ act (Finset.sum_congr rfl fun k _ => ?_) (Finset.sum_congr rfl fun k _ => ?_)) ?_
  · refine congrArg₂ (· * ·) (tile_at m hr t p k) ((wblk0 m hr t k q).trans ?_)
    simp only [ej]
    rfl
  · refine congrArg₂ (· * ·) (tile_at m hr t p k) ((wblk1 m hr t k q).trans ?_)
    refine congrArg (fun z => X4 m (ix4 1 (ex m hr t) k z)) (Fin.ext ?_)
    show (14 + jj (grid0.coords t) (nt m)) * 512 + q.val = 7168 + (t.val % 14 * 512 + q.val)
    rw [ej]; omega
  · refine (wblk2 m hr t q d).trans ?_
    simp only [ej]
    rfl

/-- The expert of a tile, as launched, -/
def eT (hr : Ranges m) (T : Fin 47) : Fin 8 := ⟨(X0 m (ix1 T)).toNat, hr.1 _⟩
/-- and the row of the model its row `p` is for. -/
def rT (hr : Ranges m) (T : Fin 47) (p : Fin 640) : Fin 12288 := ⟨(X2 m (ix1 ⟨T.val * 640 + p.val, by omega⟩)).toNat, hr.2 _⟩

/-- The number of used tiles is the launched word. -/
theorem nt_word : nt m = X1 m (ix1 0) := by
  unfold nt nOf
  refine (congrFun (V_arg m 0 main_arg1 (by decide)) _).trans (congrArg (X1 m) (funext fun a => Fin.ext ?_))
  fin_cases a
  exact Nat.lt_one_iff.mp (Fin.isLt _)

/-- A tile is used if the word says so. -/
theorem used_word (t : Fin grid0.N) (T : Fin 47) (hT : t.val / 14 = T.val) :
    used (grid0.coords t) (nt m) = IntOp.cmpi .slt (BitVec.ofNat 32 T.val) (X1 m (ix1 0)) := by
  unfold used
  rw [nt_word, tile t, hT]
  rfl

/-- A point's rows are its tile's. -/
theorem rw_tile (t : Fin grid0.N) (T : Fin 47) (hT : t.val / 14 = T.val) (p : Fin 640) : rw_ m hr t p = rT m hr T p := by
  have e : (grid0.coords t 0).val = T.val := (tile t).trans hT
  unfold rw_ rT
  simp only [e]

/-- A point of a used tile has the tile's expert. -/
theorem ex_tile (t : Fin grid0.N) (T : Fin 47) (hT : t.val / 14 = T.val) (hu : IntOp.cmpi .slt (BitVec.ofNat 32 T.val) (X1 m (ix1 0)) = 1#1) :
    ex m hr t = eT m hr T := by
  have e : (⟨(grid0.coords t 0).val, (grid0.coords t 0).isLt⟩ : Fin 47) = T := Fin.ext ((tile t).trans hT)
  refine Fin.ext ?_
  show (V m 0 main_v11 (e47 ⟨(grid0.coords t 0).val, (grid0.coords t 0).isLt⟩)).toNat = (X0 m (ix1 T)).toNat
  rw [e, tab_used m hr 0 T hu]
  refine congrArg (fun z => (X0 m z).toNat) ?_
  funext a; fin_cases a; rfl

/-- What weight block `j` adds to row `p` of a used tile. -/
def part (hr : Ranges m) (T : Fin 47) (p : Fin 640) (d : Fin 2048) (j : ℕ) : EReal :=
  ∑ q : Fin 512, term 1 (X3 m) (X4 m) (X5 m) (rT m hr T p) (eT m hr T) d ⟨j % 14 * 512 + q.val, by omega⟩

/-- The accumulator of a used tile after some of its weight blocks. -/
theorem acc_at (T : Fin 47) (hu : IntOp.cmpi .slt (BitVec.ofNat 32 T.val) (X1 m (ix1 0)) = 1#1) (p : Fin 640) (d : Fin 2048) :
    ∀ j : ℕ, j < 14 → accN m (ok_of m hr) 0 (T.val * 14 + j + 1) (ix2 p d) = ∑ i ∈ Finset.range (j + 1), part m hr T p d i := by
  intro j
  induction j with
  | zero =>
    intro _
    have hT := T.isLt
    have hN : T.val * 14 + 0 < grid0.N := by rw [N_0]; omega
    have e := accN_succ m (ok_of m hr) 0 ⟨T.val * 14 + 0, hN⟩
    have hd : (T.val * 14 + 0) / 14 = T.val := by omega
    refine (congrFun e (ix2 p d)).trans ?_
    rw [if_pos (by show (T.val * 14 + 0) % 14 = 0; omega)]
    refine (step_at m hr ⟨T.val * 14 + 0, hN⟩ ((used_word m _ T hd).trans hu) _ p d).trans ?_
    rw [pay2_at, zero_add, Finset.sum_range_one, rw_tile m hr _ T hd, ex_tile m hr _ T hd hu]
    unfold part
    refine Finset.sum_congr rfl fun q _ => congrArg _ (Fin.ext ?_)
    show (T.val * 14 + 0) % 14 * 512 + q.val = 0 % 14 * 512 + q.val
    omega
  | succ j ih =>
    intro hj
    have hT := T.isLt
    have hN : T.val * 14 + (j + 1) < grid0.N := by rw [N_0]; omega
    have e := accN_succ m (ok_of m hr) 0 ⟨T.val * 14 + (j + 1), hN⟩
    have hd : (T.val * 14 + (j + 1)) / 14 = T.val := by omega
    refine (congrFun e (ix2 p d)).trans ?_
    rw [if_neg (by show ¬ (T.val * 14 + (j + 1)) % 14 = 0; omega)]
    refine (step_at m hr ⟨T.val * 14 + (j + 1), hN⟩ ((used_word m _ T hd).trans hu) _ p d).trans ?_
    rw [Finset.sum_range_succ, rw_tile m hr _ T hd, ex_tile m hr _ T hd hu]
    refine congrArg₂ (· + ·) (ih (by omega)) ?_
    unfold part
    refine Finset.sum_congr rfl fun q _ => congrArg _ (Fin.ext ?_)
    show (T.val * 14 + (j + 1)) % 14 * 512 + q.val = (j + 1) % 14 * 512 + q.val
    omega

/-- All its weight blocks together are the whole sum over the hidden numbers. -/
theorem parts_sum (T : Fin 47) (p : Fin 640) (d : Fin 2048) : ∑ i ∈ Finset.range 14, part m hr T p d i
    = ∑ f : Fin 7168, term 1 (X3 m) (X4 m) (X5 m) (rT m hr T p) (eT m hr T) d f := by
  rw [sum_blocks, Finset.sum_range]
  refine Finset.sum_congr rfl fun j _ => Finset.sum_congr rfl fun q _ => congrArg _ (Fin.ext ?_)
  have := j.isLt
  show j.val % 14 * 512 + q.val = j.val * 512 + q.val
  omega

/-- The result at a row `r` of tile `T`: a used tile's row through its expert, the other tiles' zero. -/
def outOf (hr : Ranges m) (T : Fin 47) (r : Fin 30080) (d : Fin 2048) : EReal :=
  if IntOp.cmpi .slt (BitVec.ofNat 32 T.val) (X1 m (ix1 0)) = 1#1 then
    ∑ f : Fin 7168, term 1 (X3 m) (X4 m) (X5 m) ⟨(X2 m (ix1 r)).toNat, hr.2 _⟩ (eT m hr T) d f
  else 0

/-- The whole result: row `r` is a row of tile `r / 640`. -/
def out (hr : Ranges m) (i : S30080x2048.Idx) : EReal :=
  outOf m hr ⟨(i 0).val / 640, by have h : (i 0).val < 30080 := (i 0).isLt; omega⟩ (i 0) (i 1)

/-- What a tile's last point leaves in the result's block. -/
theorem last_at (t : Fin grid0.N) (hj : t.val % 14 = 13) (p : Fin 640) (d : Fin 2048) (i : S30080x2048.Idx)
    (h0 : (i 0).val = t.val / 14 * 640 + p.val) (h1 : (i 1).val = d.val) :
    (if used (grid0.coords t) (nt m) = 1#1 then accN m (ok_of m hr) 0 (t.val + 1) else k0_pay4 (F := Ideal)) (ix2 p d) = out m hr i := by
  have ht : t.val < 658 := lt_of_lt_of_eq t.isLt N_0
  obtain ⟨T, hT⟩ : ∃ T : Fin 47, t.val / 14 = T.val := ⟨⟨t.val / 14, by omega⟩, rfl⟩
  have hi : out m hr i = outOf m hr T ⟨T.val * 640 + p.val, by omega⟩ d := by
    unfold out
    have e0 : (⟨(i 0).val / 640, by have h : (i 0).val < 30080 := (i 0).isLt; omega⟩ : Fin 47) = T := Fin.ext (by show (i 0).val / 640 = T.val; omega)
    have e1 : i 0 = (⟨T.val * 640 + p.val, by omega⟩ : Fin 30080) := Fin.ext (by show (i 0).val = T.val * 640 + p.val; omega)
    have e2 : i 1 = d := Fin.ext h1
    rw [e0]
    exact congrArg₂ (outOf m hr T) e1 e2
  rw [hi, used_word m t T hT]
  unfold outOf
  by_cases hu : IntOp.cmpi .slt (BitVec.ofNat 32 T.val) (X1 m (ix1 0)) = 1#1
  · rw [if_pos hu, if_pos hu]
    have et : t.val = T.val * 14 + 13 := by omega
    have ea := acc_at m hr T hu p d 13 (by omega)
    rw [parts_sum] at ea
    rw [et]
    exact ea
  · rw [if_neg hu, if_neg hu]
    exact pay4_at p d

/-- The block index of the result's window: the tile on the rows, -/
theorem ix_0 (t : Fin grid0.N) : ((cf m (ok_of m hr)).win 3).index t (0 : Fin 2) = t.val / 14 := by
  have ht : t.val < 658 := lt_of_lt_of_eq t.isLt N_0
  show (BitVec.ofNat 32 (grid0.coords t 0).val).toNat = _
  rw [tile t, BitVec.toNat_ofNat]
  exact Nat.mod_eq_of_lt (by omega)

/-- and all the columns. -/
theorem ix_1 (t : Fin grid0.N) : ((cf m (ok_of m hr)).win 3).index t (1 : Fin 2) = 0 := rfl

/-- Where a block's row and column lie in the result: the row, -/
theorem emb_0 (t : Fin grid0.N) (p : Fin 640) (d : Fin 2048) :
    ((((cf m (ok_of m hr)).win 3).blk t).view.emb (ix2 p d) (0 : Fin 2)).val = t.val / 14 * 640 + p.val :=
  (((cf m (ok_of m hr)).win 3).rect_emb_val t (ix2 p d) (0 : Fin 2)).trans (congrArg (fun z => z * 640 + p.val) (ix_0 m hr t))

/-- and the column. -/
theorem emb_1 (t : Fin grid0.N) (p : Fin 640) (d : Fin 2048) :
    ((((cf m (ok_of m hr)).win 3).blk t).view.emb (ix2 p d) (1 : Fin 2)).val = d.val :=
  (((cf m (ok_of m hr)).win 3).rect_emb_val t (ix2 p d) (1 : Fin 2)).trans
    ((congrArg (fun z => z * 2048 + d.val) (ix_1 m hr t)).trans (by omega))

/-- Every place of the result is in the block of its tile's last point. -/
theorem covered (i : S30080x2048.Idx) (t : Fin grid0.N) (ht : t.val = (i 0).val / 640 * 14 + 13) :
    i ∈ (((cf m (ok_of m hr)).win 3).blk t).view.set := by
  have h1 : (i 1).val < 2048 := (i 1).isLt
  refine (((cf m (ok_of m hr)).win 3).emb_mem_blk_iff t i).mpr fun (a : Fin 2) => ?_
  have e0 := ix_0 m hr t
  have e1 := ix_1 m hr t
  have ez (a : Fin 2) : ((cf m (ok_of m hr)).win 3).size a = ![640, 2048] a := rfl
  have ex (a : Fin 2) : ((cf m (ok_of m hr)).win 3).xsize ((cf m (ok_of m hr)).grid.coords t) a = ![640, 2048] a := by fin_cases a <;> rfl
  rw [ez, ex]
  fin_cases a
  · refine ⟨(congrArg (· * 640) e0).trans_le ?_, lt_of_lt_of_eq ?_ (congrArg (· * 640 + 640) e0).symm⟩
    · show t.val / 14 * 640 ≤ (i 0).val; omega
    · show (i 0).val < t.val / 14 * 640 + 640; omega
  · refine ⟨(congrArg (· * 2048) e1).trans_le ?_, lt_of_lt_of_eq ?_ (congrArg (· * 2048 + 2048) e1).symm⟩
    · show 0 * 2048 ≤ (i 1).val; omega
    · show (i 1).val < 0 * 2048 + 2048; omega

/-- What a tile's last point writes back. -/
theorem flushed_at (t : Fin grid0.N) (p : Fin 640) (d : Fin 2048) : (dats m (ok_of m hr) 0 0).flushed 3 t (ix2 p d)
    = (if used (grid0.coords t) (nt m) = 1#1 then accN m (ok_of m hr) 0 (t.val + 1) else k0_pay4 (F := Ideal)) (ix2 p d) := by
  refine ((dats m (ok_of m hr) 0 0).flushed_apply 3 t (ix2 p d)).trans ?_
  have hx : ((cf m (ok_of m hr)).win 3).xinj ((cf m (ok_of m hr)).grid.coords t) (ix2 p d) = ix2 p d := by
    funext (a : Fin 2)
    fin_cases a <;> rfl
  refine (congrArg _ hx).trans ?_
  exact congrFun (after_3 m (ok_of m hr) 0 t) (ix2 p d)

/-- It is the result's block. -/
theorem flushed_eq (t : Fin grid0.N) (hj : t.val % 14 = 13) : (dats m (ok_of m hr) 0 0).flushed 3 t
    = fun (y : S640x2048.Idx) => out m hr ((((cf m (ok_of m hr)).win 3).blk t).view.emb y) := by
  refine funext fun (y : S640x2048.Idx) => ?_
  obtain ⟨p, d, rfl⟩ : ∃ (p : Fin 640) (d : Fin 2048), y = ix2 p d := ⟨y 0, y 1, by funext k; fin_cases k <;> rfl⟩
  exact (flushed_at m hr t p d).trans (last_at m hr t hj p d _ (emb_0 m hr t p d) (emb_1 m hr t p d))

/-- The result's array after the call. -/
theorem final : (dats m (ok_of m hr) 0 0).arrAt 3 (cf m (ok_of m hr)).N = out m hr := by
  refine (dats m (ok_of m hr) 0 0).arrAt_eq_of_cover 3 (out m hr) (fun t hf => ?_) (fun i => ?_)
  · have hj : t.val % 14 = 13 := by rw [flush_3] at hf; exact of_decide_eq_true hf
    exact flushed_eq m hr t hj
  · have h0 : (i (0 : Fin 2)).val < 30080 := (i (0 : Fin 2)).isLt
    have hN : (i (0 : Fin 2)).val / 640 * 14 + 13 < grid0.N := by rw [N_0]; omega
    refine ⟨⟨(i (0 : Fin 2)).val / 640 * 14 + 13, hN⟩, ?_, covered m hr i _ rfl⟩
    rw [flush_3]
    exact decide_eq_true (by show ((i (0 : Fin 2)).val / 640 * 14 + 13) % 14 = 13; omega)

end Cert.MoeLastIdeal.Hand
end
-- ==== Proof.MoeLastRef.lean ====
module

public import proofs.«01_k».proof.Proof.Gen.MoeLastReferenceIdeal.Read
public import Idealize.ShloMosaic.Lib.Pipeline.ValueKit
public import Idealize.ShloMosaic.Lib.Routing.Ops
public import Idealize.ShloMosaic.Lib.IdealHost
public import proofs.«01_k».proof.Proof.MoeMath

@[expose] public section

set_option maxRecDepth 16384

noncomputable section

namespace Cert.MoeLastReferenceIdeal.Experts

open Cert.MoeLastReferenceIdeal Cert.MoeLastReferenceIdeal.Gen Cert.MoeLastReferenceIdeal.Read Idealize.ShloMosaic Idealize.ShloMosaic.TcCoe Idealize.SL.Sem
open Cert.MoeMath

variable (x0 : IVec S47 32) (x1 : IVec S1 32) (x2 : IVec S30080 32) (x3 : FVec Ideal S12288x2048 .f32) (x4 : FVec Ideal S2x8x2048x14336 .f32)
  (x5 : FVec Ideal S2x8x7168x2048 .f32)

/-- The row of the model that a row of the buffer is for, wrapped as the reference wraps it. -/
theorem row_word (h2 : ∀ i, (x2 i).toNat < 12288) (r : Fin 30080) : val_main_v5 (F := Ideal) x2 (ix2 r 0) = x2 (ix1 r) := by
  rw [val_main_v5_apply, val_main_v4_apply, val_main_v1_apply, val_main_v3_apply, val_main_v0_apply, val_main_v2_apply]
  have e : idx_main_v5 (ix2 r 0) = ix1 r := by funext a; fin_cases a; rfl
  rw [e]
  exact wrap_small (by have := h2 (ix1 r); omega) _

/-- The expert of a tile, wrapped as the reference wraps it, for the first matrices. -/
theorem expert_word (h0 : ∀ i, (x0 i).toNat < 8) (t : Fin 47) : val_main_v15 (F := Ideal) x0 (ix2 t 0) = x0 (ix1 t) := by
  rw [val_main_v15_apply, val_main_v14_apply, val_main_v11_apply, val_main_v13_apply, val_main_v10_apply, val_main_v12_apply]
  have e : idx_main_v15 (ix2 t 0) = ix1 t := by funext a; fin_cases a; rfl
  rw [e]
  exact wrap_small (by have := h0 (ix1 t); omega) _

/-- The same for the second matrices. -/
theorem expert_word' (h0 : ∀ i, (x0 i).toNat < 8) (t : Fin 47) : val_main_v29 (F := Ideal) x0 (ix2 t 0) = x0 (ix1 t) := by
  rw [val_main_v29_apply, val_main_v28_apply, val_main_v25_apply, val_main_v27_apply, val_main_v24_apply, val_main_v26_apply]
  have e : idx_main_v29 (ix2 t 0) = ix1 t := by funext a; fin_cases a; rfl
  rw [e]
  exact wrap_small (by have := h0 (ix1 t); omega) _

/-- The rows of a tile are the model's rows its words name. -/
theorem rows_at (h2 : ∀ i, (x2 i).toNat < 12288) (t : Fin 47) (p : Fin 640) (k : Fin 2048) :
    val_main_v7 (F := Ideal) x2 x3 (ix3 t p k) = x3 (ix2 ⟨(x2 (ix1 ⟨t.val * 640 + p.val, by omega⟩)).toNat, h2 _⟩ k) := by
  rw [val_main_v7_apply]
  have e : idx_main_v7 (ix3 t p k) = ix2 ⟨t.val * 640 + p.val, by omega⟩ k := by
    funext a; refine Fin.ext ?_
    match a with
    | ⟨0, _⟩ => show ((t.val * 640 + p.val) * 2048 + k.val) / 2048 = t.val * 640 + p.val; omega
    | ⟨1, _⟩ => show ((t.val * 640 + p.val) * 2048 + k.val) % 2048 = k.val; omega
  rw [e]
  unfold val_main_v6
  refine Routing.gather_row _ rfl rfl rfl rfl rfl x3 _ _ k ⟨(x2 (ix1 ⟨t.val * 640 + p.val, by omega⟩)).toNat, h2 _⟩ ?_ (by norm_num)
  refine (row_word x2 h2 _).trans ?_
  exact BitVec.eq_of_toNat_eq ((BitVec.toNat_ofNat _ _).trans (Nat.mod_eq_of_lt (x2 (ix1 ⟨t.val * 640 + p.val, by omega⟩)).isLt)).symm

/-- The first matrices of the layer, the layer's axis dropped. -/
theorem first_at (e : Fin 8) (k : Fin 2048) (f : Fin 14336) : val_main_v9 (F := Ideal) x4 (ix3 e k f) = x4 (ix4 1 e k f) := by
  rw [val_main_v9_apply, val_main_v8_apply]
  refine congrArg x4 (funext fun a => Fin.ext ?_)
  match a with
  | ⟨0, _⟩ => rfl
  | ⟨1, _⟩ => show ((e.val * 2048 + k.val) * 14336 + f.val) / 29360128 % 8 = e.val; omega
  | ⟨2, _⟩ => show ((e.val * 2048 + k.val) * 14336 + f.val) / 14336 % 2048 = k.val; omega
  | ⟨3, _⟩ => show ((e.val * 2048 + k.val) * 14336 + f.val) % 14336 = f.val; omega

/-- The second matrices of the layer, the layer's axis dropped. -/
theorem second_at (e : Fin 8) (f : Fin 7168) (d : Fin 2048) : val_main_v23 (F := Ideal) x5 (ix3 e f d) = x5 (ix4 1 e f d) := by
  rw [val_main_v23_apply, val_main_v22_apply]
  refine congrArg x5 (funext fun a => Fin.ext ?_)
  match a with
  | ⟨0, _⟩ => rfl
  | ⟨1, _⟩ => show ((e.val * 7168 + f.val) * 2048 + d.val) / 14680064 % 8 = e.val; omega
  | ⟨2, _⟩ => show ((e.val * 7168 + f.val) * 2048 + d.val) / 2048 % 7168 = f.val; omega
  | ⟨3, _⟩ => show ((e.val * 7168 + f.val) * 2048 + d.val) % 2048 = d.val; omega

/-- The first matrix of a tile is its expert's. -/
theorem first_of (h0 : ∀ i, (x0 i).toNat < 8) (t : Fin 47) (k : Fin 2048) (f : Fin 14336) :
    val_main_v16 (F := Ideal) x0 x4 (ix3 t k f) = x4 (ix4 1 ⟨(x0 (ix1 t)).toNat, h0 _⟩ k f) := by
  unfold val_main_v16
  refine (takeMats_apply (by norm_num) _ _ _ t k f).trans ?_
  rw [first_at]
  refine congrArg (fun q => x4 (ix4 1 q k f)) (Fin.ext ?_)
  show min (val_main_v15 (F := Ideal) x0 (ix2 t 0)).toInt.toNat 7 = _
  have := h0 (ix1 t)
  rw [expert_word x0 h0, toInt_small (by omega)]
  show min _ 7 = (x0 (ix1 t)).toNat
  omega

/-- The second matrix of a tile is its expert's. -/
theorem second_of (h0 : ∀ i, (x0 i).toNat < 8) (t : Fin 47) (f : Fin 7168) (d : Fin 2048) :
    val_main_v30 (F := Ideal) x0 x5 (ix3 t f d) = x5 (ix4 1 ⟨(x0 (ix1 t)).toNat, h0 _⟩ f d) := by
  unfold val_main_v30
  refine (takeMats_apply (by norm_num) _ _ _ t f d).trans ?_
  rw [second_at]
  refine congrArg (fun q => x5 (ix4 1 q f d)) (Fin.ext ?_)
  show min (val_main_v29 (F := Ideal) x0 (ix2 t 0)).toInt.toNat 7 = _
  have := h0 (ix1 t)
  rw [expert_word' x0 h0, toInt_small (by omega)]
  show min _ 7 = (x0 (ix1 t)).toNat
  omega

/-- The hidden numbers of a tile's row. -/
theorem hidden_at (h0 : ∀ i, (x0 i).toNat < 8) (h2 : ∀ i, (x2 i).toNat < 12288) (t : Fin 47) (p : Fin 640) (f : Fin 14336) :
    val_main_v17 (F := Ideal) x0 x2 x3 x4 (ix3 t p f)
      = hidden 1 x3 x4 ⟨(x2 (ix1 ⟨t.val * 640 + p.val, by omega⟩)).toNat, h2 _⟩ ⟨(x0 (ix1 t)).toNat, h0 _⟩ f := by
  rw [val_main_v17_apply]
  refine Finset.sum_congr rfl fun k _ => ?_
  have el : lidx_main_v17 (ix3 t p f) k = ix3 t p k := by funext a; fin_cases a <;> rfl
  have er : ridx_main_v17 (ix3 t p f) k = ix3 t k f := by funext a; fin_cases a <;> rfl
  rw [el, er, rows_at x2 x3 h2, first_of x0 x4 h0]

/-- The hidden activations of a tile's row. -/
theorem act_at (h0 : ∀ i, (x0 i).toNat < 8) (h2 : ∀ i, (x2 i).toNat < 12288) (t : Fin 47) (p : Fin 640) (f : Fin 7168) :
    val_main_v21 (F := Ideal) x0 x2 x3 x4 (ix3 t p f)
      = act (hidden 1 x3 x4 ⟨(x2 (ix1 ⟨t.val * 640 + p.val, by omega⟩)).toNat, h2 _⟩ ⟨(x0 (ix1 t)).toNat, h0 _⟩ ⟨f.val, by omega⟩)
        (hidden 1 x3 x4 ⟨(x2 (ix1 ⟨t.val * 640 + p.val, by omega⟩)).toNat, h2 _⟩ ⟨(x0 (ix1 t)).toNat, h0 _⟩ ⟨7168 + f.val, by omega⟩) := by
  rw [val_main_v21_apply, val_main_v20_apply, val_main_call0_v5_apply, val_main_call0_v3_apply, val_main_call0_v1_apply, val_main_call0_v0_apply,
    val_main_call0_v2_apply, val_main_call0_v4_apply, val_main_call0_cst_apply, val_main_call0_cst_0_apply, val_main_v18_apply, val_main_v19_apply]
  have e1 : idx_main_v18 (ix3 t p f) = ix3 t p ⟨f.val, by omega⟩ := by funext a; fin_cases a <;> rfl
  have e2 : idx_main_v19 (ix3 t p f) = ix3 t p ⟨7168 + f.val, by omega⟩ := by funext a; fin_cases a <;> rfl
  rw [e1, e2, hidden_at x0 x2 x3 x4 h0 h2, hidden_at x0 x2 x3 x4 h0 h2]
  simp only [Ideal.mulf_def, Ideal.hostDivf_def, Ideal.ofBits_def, Ideal.ofBits_one_f32, Ideal.addf_def, Ideal.hostUnary_exp_def, Ideal.hostNegf_def, Ideal.negf_def, act]

/-- The reference's value: a used tile's rows through its expert, the other tiles zero. -/
theorem value_at (h0 : ∀ i, (x0 i).toNat < 8) (h2 : ∀ i, (x2 i).toNat < 12288) (r : Fin 30080) (d : Fin 2048) :
    val_main_v38 (F := Ideal) x0 x1 x2 x3 x4 x5 (ix2 r d)
      = if IntOp.cmpi .slt (BitVec.ofNat 32 (r.val / 640)) (x1 (ix1 0)) = 1#1 then
          ∑ f : Fin 7168, term 1 x3 x4 x5 ⟨(x2 (ix1 r)).toNat, h2 _⟩ ⟨(x0 (ix1 ⟨r.val / 640, by omega⟩)).toNat, h0 _⟩ d f
        else 0 := by
  rw [val_main_v38_apply]
  have e : idx_main_v38 (ix2 r d) = ix3 ⟨r.val / 640, by omega⟩ ⟨r.val % 640, by omega⟩ d := by
    funext a; refine Fin.ext ?_
    match a with
    | ⟨0, _⟩ => show (r.val * 2048 + d.val) / 1310720 = r.val / 640; omega
    | ⟨1, _⟩ => show (r.val * 2048 + d.val) / 2048 % 640 = r.val % 640; omega
    | ⟨2, _⟩ => show (r.val * 2048 + d.val) % 2048 = d.val; omega
  rw [e, val_main_v37_apply, val_main_call1_v1_apply, val_main_v36_apply, val_main_v35_apply, val_main_v32_apply, val_main_v34_apply,
    val_main_call1_v2_apply, val_main_call1_v0_apply, val_main_cst_apply]
  have en : ∀ j : S_.Idx, val_main_v33 (F := Ideal) x1 j = x1 (ix1 0) := fun j => by
    unfold val_main_v33
    exact shapeCast_apply x1 shapeCasts_S1_S_ j (ix1 0) (by
      have h1 : (S1.rowMajor (ix1 0)).val < 1 := (S1.rowMajor (ix1 0)).isLt
      have h2 : (S_.rowMajor j).val < 1 := (S_.rowMajor j).isLt
      omega)
  rw [en]
  have ev : val_main_v31 (F := Ideal) x0 x2 x3 x4 x5 (ix3 ⟨r.val / 640, by omega⟩ ⟨r.val % 640, by omega⟩ d)
      = ∑ f : Fin 7168, term 1 x3 x4 x5 ⟨(x2 (ix1 r)).toNat, h2 _⟩ ⟨(x0 (ix1 ⟨r.val / 640, by omega⟩)).toNat, h0 _⟩ d f := by
    rw [val_main_v31_apply]
    refine Finset.sum_congr rfl fun f _ => ?_
    have el : lidx_main_v31 (ix3 ⟨r.val / 640, by omega⟩ ⟨r.val % 640, by omega⟩ d) f = ix3 ⟨r.val / 640, by omega⟩ ⟨r.val % 640, by omega⟩ f := by
      funext a; fin_cases a <;> rfl
    have er : ridx_main_v31 (ix3 ⟨r.val / 640, by omega⟩ ⟨r.val % 640, by omega⟩ d) f = ix3 ⟨r.val / 640, by omega⟩ f d := by
      funext a; fin_cases a <;> rfl
    have eR : (⟨r.val / 640 * 640 + r.val % 640, by omega⟩ : Fin 30080) = r := Fin.ext (by show r.val / 640 * 640 + r.val % 640 = r.val; omega)
    rw [el, er, act_at x0 x2 x3 x4 h0 h2, second_of x0 x5 h0]
    unfold term
    simp only [eR]
  rw [ev]
  show Scalar.select (IntOp.cmpi .slt (BitVec.ofNat 32 (r.val / 640)) (x1 (ix1 0))) _ (Ideal.ofBits .f32 0x00000000#32) = _
  rw [Ideal.ofBits_zero_f32]
  rfl

end Cert.MoeLastReferenceIdeal.Experts
end
-- ==== Proof.DenseRun.lean ====
module

public import proofs.«01_k».proof.Proof.Gen.DenseIdeal.Frame
public import Idealize.ShloMosaic.Lib.Pipeline.Value

@[expose] public section

noncomputable section

namespace Cert.DenseIdeal.Hand

open Cert.DenseIdeal Cert.DenseIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c⟩)
    (run_main m ρ)

end Cert.DenseIdeal.Hand
end
end
-- ==== Proof.DenseMath.lean ====
module

public import Idealize.ShloMosaic.Lib.ValueIdx
public import Idealize.ShloMosaic.Lib.Pipeline.ValueKit
public import proofs.«01_k».proof.Proof.AttnMath

@[expose] public section

noncomputable section

namespace Cert.DenseMath

open Idealize.ShloMosaic

/-- The hidden activation of a row: the gate, through its logistic, times the up projection. -/
def act (g u : EReal) : EReal := g * Ideal.div 1 (1 + Ideal.exp (-g)) * u

/-- The group of modulations of a row: the prompt's rows share the first, every 2048 rows after them have their own. -/
def grp (r : ℕ) : ℕ := if r < 4096 then 0 else 1 + (r - 4096) / 2048

/-- There are five groups. -/
theorem grp_lt (r : Fin 12288) : grp r.val < 5 := by
  unfold grp; split <;> omega

/-- The mean of a row. -/
def mean (f : Fin 2048 → EReal) : EReal := Ideal.div (∑ k, f k) (Ideal.ofBits FTy.f32 0x45000000#32)

/-- The layer norm of a row, with its weights and offsets. -/
def norm (f g b : Fin 2048 → EReal) (d : Fin 2048) : EReal :=
  (f d - mean f) * Ideal.rsqrt (mean (fun k => (f k - mean f) * (f k - mean f)) + Ideal.ofBits FTy.f32 0x3727C5AC#32) * g d + b d

/-- The hidden numbers, block by block. -/
theorem sum_blocks {M : Type} [AddCommMonoid M] (f : Fin 5632 → M) :
    ∑ k : Fin 5632, f k = ∑ j : Fin 11, ∑ q : Fin 512, f ⟨j.val * 512 + q.val, by omega⟩ := by
  rw [← Fintype.sum_prod_type' (f := fun (j : Fin 11) (q : Fin 512) => f ⟨j.val * 512 + q.val, by omega⟩)]
  exact (Equiv.sum_comp (finProdFinEquiv (m := 11) (n := 512)) f).symm.trans (Finset.sum_congr rfl fun p _ => congrArg f (Fin.ext (by
    show p.2.val + 512 * p.1.val = p.1.val * 512 + p.2.val; omega)))

/-- The modulated row `r` in layer `l`. -/
def hrow (l : Fin 4) (x : (⟨2, ![12288, 2048]⟩ : Shape).Idx → EReal) (M : (⟨4, ![4, 5, 8, 2048]⟩ : Shape).Idx → EReal) (r : Fin 12288) (k : Fin 2048) : EReal :=
  x (ix2 r k) * (1 + M (ix4 l ⟨grp r.val, grp_lt r⟩ 4 k)) + M (ix4 l ⟨grp r.val, grp_lt r⟩ 3 k)

/-- A hidden number of a row, through the first matrix of weight layer `w`. -/
def hidden (w : Fin 2) (h : Fin 2048 → EReal) (W : (⟨3, ![2, 2048, 11264]⟩ : Shape).Idx → EReal) (f : Fin 11264) : EReal :=
  ∑ k : Fin 2048, h k * W (ix3 w k f)

/-- One term of a row's output: a hidden activation times its row of the second matrix. -/
def term (w : Fin 2) (h : Fin 2048 → EReal) (W : (⟨3, ![2, 2048, 11264]⟩ : Shape).Idx → EReal) (D : (⟨3, ![2, 5632, 2048]⟩ : Shape).Idx → EReal)
    (d : Fin 2048) (f : Fin 5632) : EReal :=
  act (hidden w h W ⟨f.val, by omega⟩) (hidden w h W ⟨5632 + f.val, by omega⟩) * D (ix3 w f d)

/-- The residual of row `r`: the row times the factor, and the gated output. -/
def resid (l : Fin 4) (w : Fin 2) (x : (⟨2, ![12288, 2048]⟩ : Shape).Idx → EReal) (M : (⟨4, ![4, 5, 8, 2048]⟩ : Shape).Idx → EReal)
    (W : (⟨3, ![2, 2048, 11264]⟩ : Shape).Idx → EReal) (D : (⟨3, ![2, 5632, 2048]⟩ : Shape).Idx → EReal) (r : Fin 12288) (d : Fin 2048) : EReal :=
  Ideal.ofBits FTy.f32 0x3FD744FD#32 * x (ix2 r d) + M (ix4 l ⟨grp r.val, grp_lt r⟩ 5 d) * ∑ f : Fin 5632, term w (hrow l x M r) W D d f

/-- Row `r` of the result: the norm of the residual. -/
def res (l : Fin 4) (w : Fin 2) (x : (⟨2, ![12288, 2048]⟩ : Shape).Idx → EReal) (M : (⟨4, ![4, 5, 8, 2048]⟩ : Shape).Idx → EReal)
    (g b : (⟨3, ![4, 2, 2048]⟩ : Shape).Idx → EReal)
    (W : (⟨3, ![2, 2048, 11264]⟩ : Shape).Idx → EReal) (D : (⟨3, ![2, 5632, 2048]⟩ : Shape).Idx → EReal) (r : Fin 12288) (d : Fin 2048) : EReal :=
  norm (resid l w x M W D r) (fun k => g (ix3 l 1 k)) (fun k => b (ix3 l 1 k)) d

end Cert.DenseMath
end
end
-- ==== Proof.DensePay.lean ====
module

public import proofs.«01_k».proof.Proof.Gen.DenseIdeal.Frame
public import Idealize.ShloMosaic.Lib.Pipeline.ValueKit
public import Idealize.ShloMosaic.Lib.Pipeline.ReadBack
public import proofs.«01_k».proof.Proof.DenseMath

@[expose] public section

set_option maxRecDepth 16384

noncomputable section

namespace Cert.DenseIdeal.Hand

open Cert.DenseIdeal Cert.DenseIdeal.Gen Idealize.ShloMosaic Idealize.ShloMosaic.TcCoe Idealize.SL.Sem
open Idealize.ShloMosaic.Pipeline (Dat)
open Cert.DenseMath

/-- The modulated row of a tile. -/
theorem pay2_at (mod : Vec Ideal S1x1x8x2048 .f32) (x : Vec Ideal S512x2048 .f32) (p : Fin 512) (k : Fin 2048) :
    k0_pay2 (F := Ideal) mod x (ix2 p k) = x (ix2 p k) * (1 + mod (ix4 0 0 4 k)) + mod (ix4 0 0 3 k) := by
  pointwise [k0_pay2]
/-- The accumulator starts at zero. -/
theorem pay3_at (p : Fin 512) (k : Fin 2048) : k0_pay3 (F := Ideal) (ix2 p k) = (0 : EReal) := by
  pointwise [k0_pay3]
/-- What a block of the weights adds to the accumulator. -/
theorem pay4_at (h : Vec Ideal S512x2048 .bf16) (wg wu : Vec Ideal S1x2048x512 .bf16) (a : Vec Ideal S512x2048 .f32) (wd : Vec Ideal S1x512x2048 .bf16)
    (p : Fin 512) (d : Fin 2048) : k0_pay4 (F := Ideal) h wg wu a wd (ix2 p d) = a (ix2 p d) + ∑ q : Fin 512,
      act (∑ k : Fin 2048, h (ix2 p k) * wg (ix3 0 k q)) (∑ k : Fin 2048, h (ix2 p k) * wu (ix3 0 k q)) * wd (ix3 0 q d) := by
  simp only [act, ← zero_sub]
  pointwise [k0_pay4]
/-- The rows of the result: the residual and its norm. -/
theorem pay1_at (x : Vec Ideal S512x2048 .f32) (gate : Vec Ideal S1x1x1x2048 .f32) (a : Vec Ideal S512x2048 .f32) (g b : Vec Ideal S1x2048 .f32)
    (p : Fin 512) (d : Fin 2048) : k0_pay1 (F := Ideal) x gate a g b (ix2 p d)
      = DenseMath.norm (fun k => Ideal.ofBits FTy.f32 0x3FD744FD#32 * x (ix2 p k) + gate (ix4 0 0 0 k) * a (ix2 p k)) (fun k => g (ix2 0 k)) (fun k => b (ix2 0 k)) d := by
  unfold DenseMath.norm DenseMath.mean
  pointwise [k0_pay1]
/-- Where each window's block sits at each point. -/
theorem idx : ∀ t : Fin cfg0.N, win0_0.index t = ![t.val / 11, 0] ∧ win0_1.index t = ![0, grp (t.val / 11 * 512), 0, 0]
   ∧ win0_2.index t = ![0, 0] ∧ win0_3.index t = ![0, 0] ∧ win0_4.index t = ![0, 0, t.val % 11] ∧ win0_5.index t = ![0, 0, 11 + t.val % 11]
   ∧ win0_6.index t = ![0, t.val % 11, 0] ∧ win0_7.index t = ![t.val / 11, 0] :=
  (by decide +kernel : ∀ t : Fin grid0.N, _)

/-- The gate's row of a group. -/
theorem ld5_at (x : Vec Ideal S1x1x8x2048 .f32) (k : Fin 2048) :
    View.ld x (Rect.unit ![0, 0, 5, 0] ![1, 1, 1, 2048] inb_S1x1x8x2048_S1x1x1x2048_0_0_5_0) (ix4 0 0 0 k) = x (ix4 0 0 5 k) := by
  pointwise
/-- The norm's row of a layer. -/
theorem ld1_at (x : Vec Ideal S8x2048 .f32) (k : Fin 2048) :
    View.ld x (Rect.unit ![1, 0] ![1, 2048] inb_S8x2048_S1x2048_1_0) (ix2 0 k) = x (ix2 1 k) := by
  pointwise

variable (m : (ℓ : Loc nD τ sig) → Buf (Elt Ideal) ℓ)

/-- The first point of a tile: the modulated rows, -/
theorem at_A0 (c : Dev nD) (t : Fin cfg0.N) (h0 : t.val % 11 = 0) (h1 : ¬t.val % 11 = 10) :
    (outsAt0 m c t.val t.isLt).2.1 = k0_pay2 (iblk m c 1 t) (iblk m c 0 t) := by
  rw [outsAt0_A m c t h0 h1]; frame_out
/-- and what its weight block leaves. -/
theorem at_A1 (c : Dev nD) (t : Fin cfg0.N) (h0 : t.val % 11 = 0) (h1 : ¬t.val % 11 = 10) :
    (outsAt0 m c t.val t.isLt).2.2 = k0_pay4 (k0_pay2 (iblk m c 1 t) (iblk m c 0 t)) (iblk m c 4 t) (iblk m c 5 t) (k0_pay3 (F := Ideal)) (iblk m c 6 t) := by
  rw [outsAt0_A m c t h0 h1]; frame_out
/-- A middle point of a tile: the rows stay, -/
theorem at_B0 (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]; rfl
/-- and the accumulator is added to. -/
theorem at_B1 (c : Dev nD) (t : Fin cfg0.N) (h0 : ¬t.val % 11 = 0) (h1 : ¬t.val % 11 = 10) :
    (outsAt0 m c t.val t.isLt).2.2 = k0_pay4 (outsAt0 m c (t.val - 1) (Nat.lt_of_le_of_lt (Nat.sub_le _ _) t.isLt)).2.1 (iblk m c 4 t) (iblk m c 5 t)
      (outsAt0 m c (t.val - 1) (Nat.lt_of_le_of_lt (Nat.sub_le _ _) t.isLt)).2.2 (iblk m c 6 t) := by
  rw [outsAt0_B m c t h0 h1]; frame_out; simp only [read_unread_whole]; try rfl
/-- The last point of a tile: what it stores. -/
theorem at_C (c : Dev nD) (t : Fin cfg0.N) (h0 : ¬t.val % 11 = 0) (h1 : t.val % 11 = 10) :
    (outsAt0 m c t.val t.isLt).1 = k0_pay1 (iblk m c 0 t) (View.ld (iblk m c 1 t) (Rect.unit ![0, 0, 5, 0] ![1, 1, 1, 2048] inb_S1x1x8x2048_S1x1x1x2048_0_0_5_0))
      (k0_pay4 (outsAt0 m c (t.val - 1) (Nat.lt_of_le_of_lt (Nat.sub_le _ _) t.isLt)).2.1 (iblk m c 4 t) (iblk m c 5 t)
      (outsAt0 m c (t.val - 1) (Nat.lt_of_le_of_lt (Nat.sub_le _ _) t.isLt)).2.2 (iblk m c 6 t))
      (View.ld (iblk m c 2 t) (Rect.unit ![1, 0] ![1, 2048] inb_S8x2048_S1x2048_1_0))
      (View.ld (iblk m c 3 t) (Rect.unit ![1, 0] ![1, 2048] inb_S8x2048_S1x2048_1_0)) := by
  rw [outsAt0_C m c t h0 h1]; frame_out; simp only [read_unread_whole]; try rfl

end Cert.DenseIdeal.Hand
end
-- ==== Proof.DenseVal.lean ====
module

public import proofs.«01_k».proof.Proof.DensePay

@[expose] public section

set_option maxRecDepth 16384

noncomputable section

namespace Cert.DenseIdeal.Hand

open Cert.DenseIdeal Cert.DenseIdeal.Gen Idealize.ShloMosaic Idealize.ShloMosaic.TcCoe Idealize.SL.Sem
open Idealize.ShloMosaic.Pipeline (Dat)
open Cert.DenseMath

variable (m : (ℓ : Loc nD τ sig) → Buf (Elt Ideal) ℓ) (c : Dev nD)

/-- The model's rows, -/
abbrev X0 : FVec Ideal S12288x2048 .f32 := m ((c : Thread nD τ).loc main_arg0)
/-- the modulations, -/
abbrev X1 : FVec Ideal S4x5x8x2048 .f32 := m ((c : Thread nD τ).loc main_arg1)
/-- the norms' weights, -/
abbrev X2 : FVec Ideal S4x2x2048 .f32 := m ((c : Thread nD τ).loc main_arg2)
/-- the norms' offsets, -/
abbrev X3 : FVec Ideal S4x2x2048 .f32 := m ((c : Thread nD τ).loc main_arg3)
/-- the gate and up weights, -/
abbrev X4 : FVec Ideal S2x2048x11264 .f32 := m ((c : Thread nD τ).loc main_arg4)
/-- and the down weights. -/
abbrev X5 : FVec Ideal S2x5632x2048 .f32 := m ((c : Thread nD τ).loc main_arg5)

/-- The norms' weights as the call is given them, -/
theorem v0_read : V m c main_v0 = shapeCast S8x2048 (X2 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X3 m c) shapeCasts_S4x2x2048_S8x2048 := by
  unfold V; simp only [hostOps0, List.flatten_cons, List.flatten_nil, List.append_nil, List.cons_append, List.nil_append]; after_results; rfl
/-- the first matrices, -/
theorem v2_read : (V m c main_v2 : S2x2048x11264.Idx → EReal) = X4 m c := by
  unfold V; simp only [hostOps0, List.flatten_cons, List.flatten_nil, List.append_nil, List.cons_append, List.nil_append]; after_results; rfl
/-- and the second. -/
theorem v3_read : (V m c main_v3 : S2x5632x2048.Idx → EReal) = X5 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 1 k) = x (ix3 0 1 k) := by
  pointwise

/-- There are 24 tiles of 11 points. -/
theorem bound (t : Fin cfg0.N) : t.val < 264 := lt_of_lt_of_eq t.isLt N_0

/-- The row of the model that row `p` of a point's tile is. -/
def row (t : Fin cfg0.N) (p : Fin 512) : Fin 12288 := ⟨t.val / 11 * 512 + p.val, by have := bound t; omega⟩

/-- All rows of a tile have one group. -/
theorem grp_row (t : Fin cfg0.N) (p : Fin 512) : grp (t.val / 11 * 512) = grp (row t p).val := by
  have := bound t
  have := p.isLt
  unfold row grp
  split
  · rw [if_pos (by show t.val / 11 * 512 + p.val < 4096; omega)]
  · rw [if_neg (by show ¬ t.val / 11 * 512 + p.val < 4096; omega)]
    show _ = 1 + (t.val / 11 * 512 + p.val - 4096) / 2048
    omega

/-- The rows of a point. -/
theorem blk0 (t : Fin cfg0.N) (p : Fin 512) (k : Fin 2048) : iblk m c 0 t (ix2 p k) = X0 m c (ix2 (row t p) k) := by
  obtain ⟨i0, -⟩ := idx t
  unfold row
  blk_ext [iblk, V, i0]
/-- Their modulations. -/
theorem blk1 (t : Fin cfg0.N) (p : Fin 512) (j : Fin 8) (k : Fin 2048) :
    iblk m c 1 t (ix4 0 0 j k) = X1 m c (ix4 0 ⟨grp (row t p).val, grp_lt (row t p)⟩ j k) := by
  obtain ⟨-, i1, -⟩ := idx t
  rw [grp_row t p] at i1
  blk_ext [iblk, V, i1]
/-- The norm's weights. -/
theorem blk2 (t : Fin cfg0.N) (k : Fin 2048) : iblk m c 2 t (ix2 1 k) = X2 m c (ix3 0 1 k) := by
  obtain ⟨-, -, i2, -⟩ := idx t
  refine Eq.trans ?_ ((congrFun (v0_read m c) (ix2 1 k)).trans (cast_at _ k))
  blk_ext [iblk, i2]
/-- Its offsets. -/
theorem blk3 (t : Fin cfg0.N) (k : Fin 2048) : iblk m c 3 t (ix2 1 k) = X3 m c (ix3 0 1 k) := by
  obtain ⟨-, -, -, i3, -⟩ := idx t
  refine Eq.trans ?_ ((congrFun (v1_read m c) (ix2 1 k)).trans (cast_at _ k))
  blk_ext [iblk, i3]
/-- The gate's weights of a point. -/
theorem blk4 (t : Fin cfg0.N) (k : Fin 2048) (q : Fin 512) : iblk m c 4 t (ix3 0 k q) = X4 m c (ix3 0 k ⟨t.val % 11 * 512 + q.val, by omega⟩) := by
  obtain ⟨-, -, -, -, i4, -⟩ := idx t
  refine Eq.trans ?_ (congrFun (v2_read m c) _)
  blk_ext [iblk, i4]
/-- The up projection's weights of a point. -/
theorem blk5 (t : Fin cfg0.N) (k : Fin 2048) (q : Fin 512) : iblk m c 5 t (ix3 0 k q) = X4 m c (ix3 0 k ⟨5632 + (t.val % 11 * 512 + q.val), by omega⟩) := by
  obtain ⟨-, -, -, -, -, i5, -⟩ := idx t
  refine Eq.trans ?_ (congrFun (v2_read m c) _)
  blk_ext [iblk, i5]
/-- The second matrix's rows of a point. -/
theorem blk6 (t : Fin cfg0.N) (q : Fin 512) (d : Fin 2048) : iblk m c 6 t (ix3 0 q d) = X5 m c (ix3 0 ⟨t.val % 11 * 512 + q.val, by omega⟩ d) := by
  obtain ⟨-, -, -, -, -, -, i6, -⟩ := idx t
  refine Eq.trans ?_ (congrFun (v3_read m c) _)
  blk_ext [iblk, i6]

/-- What a point adds to the accumulator. -/
def part (t : Fin cfg0.N) (p : Fin 512) (d : Fin 2048) : EReal :=
  ∑ q : Fin 512, term 0 (hrow 0 (X0 m c) (X1 m c) (row t p)) (X4 m c) (X5 m c) d ⟨t.val % 11 * 512 + q.val, by omega⟩

/-- A point's step, where it is given the modulated rows of its tile. -/
theorem step_at (t : Fin cfg0.N) (h : Vec Ideal S512x2048 .bf16) (a : Vec Ideal S512x2048 .f32) (p : Fin 512) (d : Fin 2048)
    (hh : ∀ k, h (ix2 p k) = hrow 0 (X0 m c) (X1 m c) (row t p) k) :
    k0_pay4 (F := Ideal) h (iblk m c 4 t) (iblk m c 5 t) a (iblk m c 6 t) (ix2 p d) = a (ix2 p d) + part m c t p d := by
  rw [pay4_at]
  unfold part term DenseMath.hidden
  simp only [hh, blk4, blk5, blk6]

/-- The modulated rows of a point's tile. -/
theorem rows_at (t : Fin cfg0.N) (p : Fin 512) (k : Fin 2048) : k0_pay2 (F := Ideal) (iblk m c 1 t) (iblk m c 0 t) (ix2 p k) = hrow 0 (X0 m c) (X1 m c) (row t p) k := by
  rw [pay2_at, blk0, blk1 m c t p, blk1 m c t p]
  rfl

/-- The point of a tile's weight block. -/
def pt (i : Fin 24) (j : ℕ) (hj : j < 11) : Fin cfg0.N := ⟨i.val * 11 + j, by rw [show cfg0.N = 264 from N_0]; omega⟩

/-- A tile's rows do not depend on the weight block. -/
theorem row_pt (i : Fin 24) (j : ℕ) (hj : j < 11) (p : Fin 512) : row (pt i j hj) p = ⟨i.val * 512 + p.val, by omega⟩ := by
  refine Fin.ext ?_
  show (i.val * 11 + j) / 11 * 512 + p.val = i.val * 512 + p.val
  omega

/-- What weight block `j` adds to row `p` of tile `i`. -/
def partN (i : Fin 24) (p : Fin 512) (d : Fin 2048) (j : ℕ) : EReal :=
  ∑ q : Fin 512, term 0 (hrow 0 (X0 m c) (X1 m c) ⟨i.val * 512 + p.val, by omega⟩) (X4 m c) (X5 m c) d ⟨j % 11 * 512 + q.val, by omega⟩

/-- It is the point's. -/
theorem part_pt (i : Fin 24) (j : ℕ) (hj : j < 11) (p : Fin 512) (d : Fin 2048) : part m c (pt i j hj) p d = partN m c i p d j := by
  unfold part partN
  rw [row_pt]
  refine Finset.sum_congr rfl fun q _ => congrArg _ (Fin.ext ?_)
  show (i.val * 11 + j) % 11 * 512 + q.val = j % 11 * 512 + q.val
  omega

/-- The contents after a point, at the point's number. -/
theorem outs_congr {n n' : ℕ} (e : n = n') (hn : n < cfg0.N) (hn' : n' < cfg0.N) : outsAt0 m c n hn = outsAt0 m c n' hn' := by
  subst e; rfl

/-- After some of a tile's weight blocks: the modulated rows are kept, and the accumulator holds what the blocks add. -/
theorem acc_at (i : Fin 24) : ∀ (j : ℕ) (hj : j < 10),
    (∀ (p : Fin 512) (k : Fin 2048), (outsAt0 m c (pt i j (by omega)).val (pt i j (by omega)).isLt).2.1 (ix2 p k) = hrow 0 (X0 m c) (X1 m c) ⟨i.val * 512 + p.val, by omega⟩ k)
    ∧ ∀ (p : Fin 512) (d : Fin 2048), (outsAt0 m c (pt i j (by omega)).val (pt i j (by omega)).isLt).2.2 (ix2 p d) = ∑ b ∈ Finset.range (j + 1), partN m c i p d b := by
  intro j
  induction j with
  | zero =>
    intro hj
    have h0 : (pt i 0 (by omega)).val % 11 = 0 := by show (i.val * 11 + 0) % 11 = 0; omega
    have h1 : ¬ (pt i 0 (by omega)).val % 11 = 10 := by omega
    constructor
    · intro p k
      rw [at_A0 m c _ h0 h1, rows_at, row_pt]
    · intro p d
      rw [at_A1 m c _ h0 h1, step_at m c _ _ _ p d (fun k => rows_at m c _ p k), pay3_at, zero_add, Finset.sum_range_one, part_pt]
  | succ j ih =>
    intro hj
    obtain ⟨r, a⟩ := ih (by omega)
    have he : (pt i (j + 1) (by omega)).val - 1 = (pt i j (by omega)).val := by show i.val * 11 + (j + 1) - 1 = i.val * 11 + j; omega
    have h0 : ¬ (pt i (j + 1) (by omega)).val % 11 = 0 := by show ¬ (i.val * 11 + (j + 1)) % 11 = 0; omega
    have h1 : ¬ (pt i (j + 1) (by omega)).val % 11 = 10 := by show ¬ (i.val * 11 + (j + 1)) % 11 = 10; omega
    constructor
    · intro p k
      rw [at_B0 m c _ h0 h1, outs_congr m c he _ (pt i j (by omega)).isLt]
      exact r p k
    · intro p d
      rw [at_B1 m c _ h0 h1, outs_congr m c he _ (pt i j (by omega)).isLt, step_at m c _ _ _ p d (fun k => (r p k).trans (by rw [row_pt])), Finset.sum_range_succ _ (j + 1), part_pt]
      exact congrArg (· + _) (a p d)

/-- All the weight blocks together are the whole sum over the hidden numbers. -/
theorem parts_sum (i : Fin 24) (p : Fin 512) (d : Fin 2048) : ∑ b ∈ Finset.range 11, partN m c i p d b
    = ∑ f : Fin 5632, term 0 (hrow 0 (X0 m c) (X1 m c) ⟨i.val * 512 + p.val, by omega⟩) (X4 m c) (X5 m c) d f := by
  rw [sum_blocks, Finset.sum_range]
  refine Finset.sum_congr rfl fun j _ => Finset.sum_congr rfl fun q _ => congrArg _ (Fin.ext ?_)
  have := j.isLt
  show j.val % 11 * 512 + q.val = j.val * 512 + q.val
  omega

/-- The accumulator at a tile's last point, before it is stored. -/
theorem last_acc (i : Fin 24) (p : Fin 512) (d : Fin 2048) :
    k0_pay4 (F := Ideal) (outsAt0 m c ((pt i 10 (by omega)).val - 1) (Nat.lt_of_le_of_lt (Nat.sub_le _ _) (pt i 10 (by omega)).isLt)).2.1
      (iblk m c 4 (pt i 10 (by omega))) (iblk m c 5 (pt i 10 (by omega)))
      (outsAt0 m c ((pt i 10 (by omega)).val - 1) (Nat.lt_of_le_of_lt (Nat.sub_le _ _) (pt i 10 (by omega)).isLt)).2.2 (iblk m c 6 (pt i 10 (by omega))) (ix2 p d)
    = ∑ f : Fin 5632, term 0 (hrow 0 (X0 m c) (X1 m c) ⟨i.val * 512 + p.val, by omega⟩) (X4 m c) (X5 m c) d f := by
  obtain ⟨r, a⟩ := acc_at m c i 9 (by omega)
  have he : (pt i 10 (by omega)).val - 1 = (pt i 9 (by omega)).val := by show i.val * 11 + 10 - 1 = i.val * 11 + 9; omega
  rw [outs_congr m c he _ (pt i 9 (by omega)).isLt, step_at m c _ _ _ p d (fun k => (r p k).trans (by rw [row_pt])), part_pt, ← parts_sum, Finset.sum_range_succ _ 10]
  exact congrArg (· + _) (a p d)

/-- What a tile's last point stores. -/
theorem last_at (i : Fin 24) (p : Fin 512) (d : Fin 2048) : (outsAt0 m c (pt i 10 (by omega)).val (pt i 10 (by omega)).isLt).1 (ix2 p d)
    = res 0 0 (X0 m c) (X1 m c) (X2 m c) (X3 m c) (X4 m c) (X5 m c) ⟨i.val * 512 + p.val, by omega⟩ d := by
  have h0 : ¬ (pt i 10 (by omega)).val % 11 = 0 := by show ¬ (i.val * 11 + 10) % 11 = 0; omega
  have h1 : (pt i 10 (by omega)).val % 11 = 10 := by show (i.val * 11 + 10) % 11 = 10; omega
  rw [at_C m c _ h0 h1, pay1_at, ← row_pt i 10 (by omega) p]
  unfold res
  refine congrFun (congr (congr (congrArg DenseMath.norm (funext fun k => ?_)) (funext fun k => ?_)) (funext fun k => ?_)) d
  · unfold resid
    refine congrArg₂ (· + ·) (congrArg _ (blk0 m c _ p k)) (congrArg₂ (· * ·) ((ld5_at _ k).trans (blk1 m c _ p 5 k)) ?_)
    refine (last_acc m c i p k).trans ?_
    rw [row_pt]
  · exact (ld1_at _ k).trans (blk2 m c _ k)
  · exact (ld1_at _ k).trans (blk3 m c _ k)

/-- The whole result. -/
def out (i : S12288x2048.Idx) : EReal := res 0 0 (X0 m c) (X1 m c) (X2 m c) (X3 m c) (X4 m c) (X5 m c) (i 0) (i 1)

/-- The result's array after the call. -/
theorem final : (dats m 0 c).arrAt 7 (cfgs 0).N = out m c := by
  refine (dats m 0 c).arrAt_eq_of_covers 7 _ (by decide +kernel) fun t hf y => ?_
  blk_simp
  rw [after0_7]
  have h10 : 10 < 11 := by omega
  have hj : t.val % 11 = 10 := (flush0_7 t).mp hf
  have hb := bound t
  obtain ⟨-, -, -, -, -, -, -, i7⟩ := idx t
  obtain ⟨p, d, rfl⟩ : ∃ (p : Fin 512) (d : Fin 2048), y = ix2 p d := ⟨y 0, y 1, by funext k; fin_cases k <;> rfl⟩
  have hemb : ((View.whole main_v4).slice (win0_7.rect t)).emb (ix2 p d) = ix2 ⟨t.val / 11 * 512 + p.val, by omega⟩ d := by
    blk_ext [i7]
  rw [hemb]
  obtain ⟨i, rfl⟩ : ∃ i : Fin 24, t = pt i 10 h10 := ⟨⟨t.val / 11, by omega⟩, Fin.ext (by show t.val = t.val / 11 * 11 + 10; omega)⟩
  refine (last_at m c i p d).trans ?_
  unfold out
  refine congrArg (fun r => res 0 0 (X0 m c) (X1 m c) (X2 m c) (X3 m c) (X4 m c) (X5 m c) r d) (Fin.ext ?_)
  show i.val * 512 + p.val = (i.val * 11 + 10) / 11 * 512 + p.val
  omega

end Cert.DenseIdeal.Hand
end
-- ==== Proof.DenseRef.lean ====
module

public import proofs.«01_k».proof.Proof.Gen.DenseReferenceIdeal.Read
public import Idealize.ShloMosaic.Lib.Pipeline.ValueKit
public import proofs.«01_k».proof.Proof.DenseMath

@[expose] public section

set_option maxRecDepth 16384

noncomputable section

namespace Cert.DenseReferenceIdeal.Hand

open Cert.DenseReferenceIdeal Cert.DenseReferenceIdeal.Gen Cert.DenseReferenceIdeal.Read Idealize.ShloMosaic Idealize.ShloMosaic.TcCoe Idealize.SL.Sem
open Cert.DenseMath

variable (x0 : FVec Ideal S12288x2048 .f32) (x1 : FVec Ideal S4x5x8x2048 .f32) (x2 x3 : FVec Ideal S4x2x2048 .f32)
  (x4 : FVec Ideal S2x2048x11264 .f32) (x5 : FVec Ideal S2x5632x2048 .f32)

/-- Row `j` of the modulations, for the rows of the prompt and of the sequences. -/
def modRow (j : Fin 8) (r : Fin 12288) (k : Fin 2048) : EReal :=
  if h : r.val < 4096 then x1 (ix4 0 0 j k) else x1 (ix4 0 ⟨1 + (r.val - 4096) / 2048, by omega⟩ j k)

/-- It is the row of the group. -/
theorem modRow_eq (j : Fin 8) (r : Fin 12288) (k : Fin 2048) : modRow x1 j r k = x1 (ix4 0 ⟨grp r.val, grp_lt r⟩ j k) := by
  unfold modRow
  split
  · rename_i h
    refine congrArg (fun z => x1 (ix4 0 z j k)) (Fin.ext ?_)
    show 0 = grp r.val
    unfold grp; rw [if_pos h]
  · rename_i h
    refine congrArg (fun z => x1 (ix4 0 z j k)) (Fin.ext ?_)
    show 1 + (r.val - 4096) / 2048 = grp r.val
    unfold grp; rw [if_neg h]

/-- The scales of the rows. -/
theorem v11_at (r : Fin 12288) (k : Fin 2048) : val_main_v11 (F := Ideal) x1 (ix2 r k) = modRow x1 4 r k := by
  unfold modRow
  pointwise [val_main_v11, val_main_v10, val_main_v9, val_main_v8, val_main_v7, val_main_v6, val_main_v5, val_main_v4, val_main_v3, val_main_v2, val_main_v1, val_main_v0]
/-- The shifts of the rows. -/
theorem v24_at (r : Fin 12288) (k : Fin 2048) : val_main_v24 (F := Ideal) x1 (ix2 r k) = modRow x1 3 r k := by
  unfold modRow
  pointwise [val_main_v24, val_main_v23, val_main_v22, val_main_v21, val_main_v20, val_main_v19, val_main_v18, val_main_v17, val_main_v16, val_main_v15, val_main_v1, val_main_v0]
/-- The gates of the rows. -/
theorem v47_at (r : Fin 12288) (k : Fin 2048) : val_main_v47 (F := Ideal) x1 (ix2 r k) = modRow x1 5 r k := by
  unfold modRow
  pointwise [val_main_v47, val_main_v46, val_main_v45, val_main_v44, val_main_v43, val_main_v42, val_main_v41, val_main_v40, val_main_v39, val_main_v38, val_main_v1, val_main_v0]

/-- The modulated rows. -/
theorem v25_at (r : Fin 12288) (k : Fin 2048) : val_main_v25 (F := Ideal) x0 x1 (ix2 r k) = hrow 0 x0 x1 r k := by
  unfold hrow
  rw [← modRow_eq x1, ← modRow_eq x1, ← v11_at, ← v24_at]
  pointwise [val_main_v25, val_main_v14, val_main_v13, val_main_v12, val_main_cst]
/-- The hidden numbers. -/
theorem v28_at (r : Fin 12288) (f : Fin 11264) : val_main_v28 (F := Ideal) x0 x1 x4 (ix2 r f) = hidden 0 (hrow 0 x0 x1 r) x4 f := by
  unfold DenseMath.hidden
  simp only [← v25_at]
  pointwise [val_main_v28, val_main_v27, val_main_v26]
/-- The hidden activations. -/
theorem v32_at (r : Fin 12288) (f : Fin 5632) : val_main_v32 (F := Ideal) x0 x1 x4 (ix2 r f)
    = act (hidden 0 (hrow 0 x0 x1 r) x4 ⟨f.val, by omega⟩) (hidden 0 (hrow 0 x0 x1 r) x4 ⟨5632 + f.val, by omega⟩) := by
  unfold act
  simp only [← v28_at]
  pointwise [val_main_v32, val_main_v31, val_main_v30, val_main_v29, val_main_call0_v0, val_main_call0_v1, val_main_call0_v2, val_main_call0_v3,
    val_main_call0_v4, val_main_call0_v5, val_main_call0_cst, val_main_call0_cst_0]
/-- The output of the two matrices. -/
theorem v35_at (r : Fin 12288) (d : Fin 2048) : val_main_v35 (F := Ideal) x0 x1 x4 x5 (ix2 r d) = ∑ f : Fin 5632, term 0 (hrow 0 x0 x1 r) x4 x5 d f := by
  unfold term
  simp only [← v32_at]
  pointwise [val_main_v35, val_main_v34, val_main_v33]
/-- The residual. -/
theorem v49_at (r : Fin 12288) (d : Fin 2048) : val_main_v49 (F := Ideal) x0 x1 x4 x5 (ix2 r d) = resid 0 0 x0 x1 x4 x5 r d := by
  unfold resid
  rw [← v35_at, ← modRow_eq x1, ← v47_at]
  pointwise [val_main_v49, val_main_v48, val_main_v37, val_main_v36, val_main_cst_0]
/-- The mean of a row. -/
theorem v57_at (r : Fin 12288) : val_main_v57 (F := Ideal) x0 x1 x4 x5 (ix2 r 0) = mean (fun k => val_main_v49 (F := Ideal) x0 x1 x4 x5 (ix2 r k)) := by
  unfold mean
  pointwise [val_main_v57, val_main_v56, val_main_v55, val_main_v54, val_main_cst_2, val_main_cst_1]
/-- The mean of its squared distances from the mean. -/
theorem v64_at (r : Fin 12288) : val_main_v64 (F := Ideal) x0 x1 x4 x5 (ix2 r 0) = mean (fun k => (val_main_v49 (F := Ideal) x0 x1 x4 x5 (ix2 r k) - val_main_v57 (F := Ideal) x0 x1 x4 x5 (ix2 r 0))
      * (val_main_v49 (F := Ideal) x0 x1 x4 x5 (ix2 r k) - val_main_v57 (F := Ideal) x0 x1 x4 x5 (ix2 r 0))) := by
  unfold mean
  pointwise [val_main_v64, val_main_v63, val_main_v62, val_main_v61, val_main_v60, val_main_v59, val_main_v58, val_main_cst_4, val_main_cst_3]
/-- The result. -/
theorem v77_at (r : Fin 12288) (d : Fin 2048) : val_main_v77 (F := Ideal) x0 x1 x2 x3 x4 x5 (ix2 r d) = res 0 0 x0 x1 x2 x3 x4 x5 r d := by
  have e : resid 0 0 x0 x1 x4 x5 r = fun k => val_main_v49 (F := Ideal) x0 x1 x4 x5 (ix2 r k) := funext fun k => (v49_at x0 x1 x4 x5 r k).symm
  unfold res DenseMath.norm
  rw [e, ← v57_at, ← v64_at]
  pointwise [val_main_v77, val_main_v76, val_main_v75, val_main_v74, val_main_v73, val_main_v72, val_main_v71, val_main_v70, val_main_v69, val_main_v68, val_main_v67,
    val_main_v66, val_main_v65, val_main_v53, val_main_v52, val_main_v51, val_main_v50, val_main_cst_5]

end Cert.DenseReferenceIdeal.Hand
end
-- ==== Proof.DenseLastRun.lean ====
module

public import proofs.«01_k».proof.Proof.Gen.DenseLastIdeal.Frame
public import Idealize.ShloMosaic.Lib.Pipeline.Value

@[expose] public section

noncomputable section

namespace Cert.DenseLastIdeal.Hand

open Cert.DenseLastIdeal Cert.DenseLastIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c⟩)
    (run_main m ρ)

end Cert.DenseLastIdeal.Hand
end
end
-- ==== Proof.DenseLastPay.lean ====
module

public import proofs.«01_k».proof.Proof.Gen.DenseLastIdeal.Frame
public import Idealize.ShloMosaic.Lib.Pipeline.ValueKit
public import Idealize.ShloMosaic.Lib.Pipeline.ReadBack
public import proofs.«01_k».proof.Proof.DenseMath

@[expose] public section

set_option maxRecDepth 16384

noncomputable section

namespace Cert.DenseLastIdeal.Hand

open Cert.DenseLastIdeal Cert.DenseLastIdeal.Gen Idealize.ShloMosaic Idealize.ShloMosaic.TcCoe Idealize.SL.Sem
open Idealize.ShloMosaic.Pipeline (Dat)
open Cert.DenseMath

/-- The modulated row of a tile. -/
theorem pay2_at (mod : Vec Ideal S1x1x8x2048 .f32) (x : Vec Ideal S512x2048 .f32) (p : Fin 512) (k : Fin 2048) :
    k0_pay2 (F := Ideal) mod x (ix2 p k) = x (ix2 p k) * (1 + mod (ix4 0 0 4 k)) + mod (ix4 0 0 3 k) := by
  pointwise [k0_pay2]
/-- The accumulator starts at zero. -/
theorem pay3_at (p : Fin 512) (k : Fin 2048) : k0_pay3 (F := Ideal) (ix2 p k) = (0 : EReal) := by
  pointwise [k0_pay3]
/-- What a block of the weights adds to the accumulator. -/
theorem pay4_at (h : Vec Ideal S512x2048 .bf16) (wg wu : Vec Ideal S1x2048x512 .bf16) (a : Vec Ideal S512x2048 .f32) (wd : Vec Ideal S1x512x2048 .bf16)
    (p : Fin 512) (d : Fin 2048) : k0_pay4 (F := Ideal) h wg wu a wd (ix2 p d) = a (ix2 p d) + ∑ q : Fin 512,
      act (∑ k : Fin 2048, h (ix2 p k) * wg (ix3 0 k q)) (∑ k : Fin 2048, h (ix2 p k) * wu (ix3 0 k q)) * wd (ix3 0 q d) := by
  simp only [act, ← zero_sub]
  pointwise [k0_pay4]
/-- The rows of the result: the residual and its norm. -/
theorem pay1_at (x : Vec Ideal S512x2048 .f32) (gate : Vec Ideal S1x1x1x2048 .f32) (a : Vec Ideal S512x2048 .f32) (g b : Vec Ideal S1x2048 .f32)
    (p : Fin 512) (d : Fin 2048) : k0_pay1 (F := Ideal) x gate a g b (ix2 p d)
      = DenseMath.norm (fun k => Ideal.ofBits FTy.f32 0x3FD744FD#32 * x (ix2 p k) + gate (ix4 0 0 0 k) * a (ix2 p k)) (fun k => g (ix2 0 k)) (fun k => b (ix2 0 k)) d := by
  unfold DenseMath.norm DenseMath.mean
  pointwise [k0_pay1]
/-- Where each window's block sits at each point. -/
theorem idx : ∀ t : Fin cfg0.N, win0_0.index t = ![t.val / 11, 0] ∧ win0_1.index t = ![2, grp (t.val / 11 * 512), 0, 0]
   ∧ win0_2.index t = ![0, 0] ∧ win0_3.index t = ![0, 0] ∧ win0_4.index t = ![1, 0, t.val % 11] ∧ win0_5.index t = ![1, 0, 11 + t.val % 11]
   ∧ win0_6.index t = ![1, t.val % 11, 0] ∧ win0_7.index t = ![t.val / 11, 0] :=
  (by decide +kernel : ∀ t : Fin grid0.N, _)

/-- The gate's row of a group. -/
theorem ld5_at (x : Vec Ideal S1x1x8x2048 .f32) (k : Fin 2048) :
    View.ld x (Rect.unit ![0, 0, 5, 0] ![1, 1, 1, 2048] inb_S1x1x8x2048_S1x1x1x2048_0_0_5_0) (ix4 0 0 0 k) = x (ix4 0 0 5 k) := by
  pointwise
/-- The norm's row of a layer. -/
theorem ld1_at (x : Vec Ideal S8x2048 .f32) (k : Fin 2048) :
    View.ld x (Rect.unit ![5, 0] ![1, 2048] inb_S8x2048_S1x2048_5_0) (ix2 0 k) = x (ix2 5 k) := by
  pointwise

variable (m : (ℓ : Loc nD τ sig) → Buf (Elt Ideal) ℓ)

/-- The first point of a tile: the modulated rows, -/
theorem at_A0 (c : Dev nD) (t : Fin cfg0.N) (h0 : t.val % 11 = 0) (h1 : ¬t.val % 11 = 10) :
    (outsAt0 m c t.val t.isLt).2.1 = k0_pay2 (iblk m c 1 t) (iblk m c 0 t) := by
  rw [outsAt0_A m c t h0 h1]; frame_out
/-- and what its weight block leaves. -/
theorem at_A1 (c : Dev nD) (t : Fin cfg0.N) (h0 : t.val % 11 = 0) (h1 : ¬t.val % 11 = 10) :
    (outsAt0 m c t.val t.isLt).2.2 = k0_pay4 (k0_pay2 (iblk m c 1 t) (iblk m c 0 t)) (iblk m c 4 t) (iblk m c 5 t) (k0_pay3 (F := Ideal)) (iblk m c 6 t) := by
  rw [outsAt0_A m c t h0 h1]; frame_out
/-- A middle point of a tile: the rows stay, -/
theorem at_B0 (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]; rfl
/-- and the accumulator is added to. -/
theorem at_B1 (c : Dev nD) (t : Fin cfg0.N) (h0 : ¬t.val % 11 = 0) (h1 : ¬t.val % 11 = 10) :
    (outsAt0 m c t.val t.isLt).2.2 = k0_pay4 (outsAt0 m c (t.val - 1) (Nat.lt_of_le_of_lt (Nat.sub_le _ _) t.isLt)).2.1 (iblk m c 4 t) (iblk m c 5 t)
      (outsAt0 m c (t.val - 1) (Nat.lt_of_le_of_lt (Nat.sub_le _ _) t.isLt)).2.2 (iblk m c 6 t) := by
  rw [outsAt0_B m c t h0 h1]; frame_out; simp only [read_unread_whole]; try rfl
/-- The last point of a tile: what it stores. -/
theorem at_C (c : Dev nD) (t : Fin cfg0.N) (h0 : ¬t.val % 11 = 0) (h1 : t.val % 11 = 10) :
    (outsAt0 m c t.val t.isLt).1 = k0_pay1 (iblk m c 0 t) (View.ld (iblk m c 1 t) (Rect.unit ![0, 0, 5, 0] ![1, 1, 1, 2048] inb_S1x1x8x2048_S1x1x1x2048_0_0_5_0))
      (k0_pay4 (outsAt0 m c (t.val - 1) (Nat.lt_of_le_of_lt (Nat.sub_le _ _) t.isLt)).2.1 (iblk m c 4 t) (iblk m c 5 t)
      (outsAt0 m c (t.val - 1) (Nat.lt_of_le_of_lt (Nat.sub_le _ _) t.isLt)).2.2 (iblk m c 6 t))
      (View.ld (iblk m c 2 t) (Rect.unit ![5, 0] ![1, 2048] inb_S8x2048_S1x2048_5_0))
      (View.ld (iblk m c 3 t) (Rect.unit ![5, 0] ![1, 2048] inb_S8x2048_S1x2048_5_0)) := by
  rw [outsAt0_C m c t h0 h1]; frame_out; simp only [read_unread_whole]; try rfl

end Cert.DenseLastIdeal.Hand
end
-- ==== Proof.DenseLastVal.lean ====
module

public import proofs.«01_k».proof.Proof.DenseLastPay

@[expose] public section

set_option maxRecDepth 16384

noncomputable section

namespace Cert.DenseLastIdeal.Hand

open Cert.DenseLastIdeal Cert.DenseLastIdeal.Gen Idealize.ShloMosaic Idealize.ShloMosaic.TcCoe Idealize.SL.Sem
open Idealize.ShloMosaic.Pipeline (Dat)
open Cert.DenseMath

variable (m : (ℓ : Loc nD τ sig) → Buf (Elt Ideal) ℓ) (c : Dev nD)

/-- The model's rows, -/
abbrev X0 : FVec Ideal S12288x2048 .f32 := m ((c : Thread nD τ).loc main_arg0)
/-- the modulations, -/
abbrev X1 : FVec Ideal S4x5x8x2048 .f32 := m ((c : Thread nD τ).loc main_arg1)
/-- the norms' weights, -/
abbrev X2 : FVec Ideal S4x2x2048 .f32 := m ((c : Thread nD τ).loc main_arg2)
/-- the norms' offsets, -/
abbrev X3 : FVec Ideal S4x2x2048 .f32 := m ((c : Thread nD τ).loc main_arg3)
/-- the gate and up weights, -/
abbrev X4 : FVec Ideal S2x2048x11264 .f32 := m ((c : Thread nD τ).loc main_arg4)
/-- and the down weights. -/
abbrev X5 : FVec Ideal S2x5632x2048 .f32 := m ((c : Thread nD τ).loc main_arg5)

/-- The norms' weights as the call is given them, -/
theorem v0_read : V m c main_v0 = shapeCast S8x2048 (X2 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X3 m c) shapeCasts_S4x2x2048_S8x2048 := by
  unfold V; simp only [hostOps0, List.flatten_cons, List.flatten_nil, List.append_nil, List.cons_append, List.nil_append]; after_results; rfl
/-- the first matrices, -/
theorem v2_read : (V m c main_v2 : S2x2048x11264.Idx → EReal) = X4 m c := by
  unfold V; simp only [hostOps0, List.flatten_cons, List.flatten_nil, List.append_nil, List.cons_append, List.nil_append]; after_results; rfl
/-- and the second. -/
theorem v3_read : (V m c main_v3 : S2x5632x2048.Idx → EReal) = X5 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 5 k) = x (ix3 2 1 k) := by
  pointwise

/-- There are 24 tiles of 11 points. -/
theorem bound (t : Fin cfg0.N) : t.val < 264 := lt_of_lt_of_eq t.isLt N_0

/-- The row of the model that row `p` of a point's tile is. -/
def row (t : Fin cfg0.N) (p : Fin 512) : Fin 12288 := ⟨t.val / 11 * 512 + p.val, by have := bound t; omega⟩

/-- All rows of a tile have one group. -/
theorem grp_row (t : Fin cfg0.N) (p : Fin 512) : grp (t.val / 11 * 512) = grp (row t p).val := by
  have := bound t
  have := p.isLt
  unfold row grp
  split
  · rw [if_pos (by show t.val / 11 * 512 + p.val < 4096; omega)]
  · rw [if_neg (by show ¬ t.val / 11 * 512 + p.val < 4096; omega)]
    show _ = 1 + (t.val / 11 * 512 + p.val - 4096) / 2048
    omega

/-- The rows of a point. -/
theorem blk0 (t : Fin cfg0.N) (p : Fin 512) (k : Fin 2048) : iblk m c 0 t (ix2 p k) = X0 m c (ix2 (row t p) k) := by
  obtain ⟨i0, -⟩ := idx t
  unfold row
  blk_ext [iblk, V, i0]
/-- Their modulations. -/
theorem blk1 (t : Fin cfg0.N) (p : Fin 512) (j : Fin 8) (k : Fin 2048) :
    iblk m c 1 t (ix4 0 0 j k) = X1 m c (ix4 2 ⟨grp (row t p).val, grp_lt (row t p)⟩ j k) := by
  obtain ⟨-, i1, -⟩ := idx t
  rw [grp_row t p] at i1
  blk_ext [iblk, V, i1]
/-- The norm's weights. -/
theorem blk2 (t : Fin cfg0.N) (k : Fin 2048) : iblk m c 2 t (ix2 5 k) = X2 m c (ix3 2 1 k) := by
  obtain ⟨-, -, i2, -⟩ := idx t
  refine Eq.trans ?_ ((congrFun (v0_read m c) (ix2 5 k)).trans (cast_at _ k))
  blk_ext [iblk, i2]
/-- Its offsets. -/
theorem blk3 (t : Fin cfg0.N) (k : Fin 2048) : iblk m c 3 t (ix2 5 k) = X3 m c (ix3 2 1 k) := by
  obtain ⟨-, -, -, i3, -⟩ := idx t
  refine Eq.trans ?_ ((congrFun (v1_read m c) (ix2 5 k)).trans (cast_at _ k))
  blk_ext [iblk, i3]
/-- The gate's weights of a point. -/
theorem blk4 (t : Fin cfg0.N) (k : Fin 2048) (q : Fin 512) : iblk m c 4 t (ix3 0 k q) = X4 m c (ix3 1 k ⟨t.val % 11 * 512 + q.val, by omega⟩) := by
  obtain ⟨-, -, -, -, i4, -⟩ := idx t
  refine Eq.trans ?_ (congrFun (v2_read m c) _)
  blk_ext [iblk, i4]
/-- The up projection's weights of a point. -/
theorem blk5 (t : Fin cfg0.N) (k : Fin 2048) (q : Fin 512) : iblk m c 5 t (ix3 0 k q) = X4 m c (ix3 1 k ⟨5632 + (t.val % 11 * 512 + q.val), by omega⟩) := by
  obtain ⟨-, -, -, -, -, i5, -⟩ := idx t
  refine Eq.trans ?_ (congrFun (v2_read m c) _)
  blk_ext [iblk, i5]
/-- The second matrix's rows of a point. -/
theorem blk6 (t : Fin cfg0.N) (q : Fin 512) (d : Fin 2048) : iblk m c 6 t (ix3 0 q d) = X5 m c (ix3 1 ⟨t.val % 11 * 512 + q.val, by omega⟩ d) := by
  obtain ⟨-, -, -, -, -, -, i6, -⟩ := idx t
  refine Eq.trans ?_ (congrFun (v3_read m c) _)
  blk_ext [iblk, i6]

/-- What a point adds to the accumulator. -/
def part (t : Fin cfg0.N) (p : Fin 512) (d : Fin 2048) : EReal :=
  ∑ q : Fin 512, term 1 (hrow 2 (X0 m c) (X1 m c) (row t p)) (X4 m c) (X5 m c) d ⟨t.val % 11 * 512 + q.val, by omega⟩

/-- A point's step, where it is given the modulated rows of its tile. -/
theorem step_at (t : Fin cfg0.N) (h : Vec Ideal S512x2048 .bf16) (a : Vec Ideal S512x2048 .f32) (p : Fin 512) (d : Fin 2048)
    (hh : ∀ k, h (ix2 p k) = hrow 2 (X0 m c) (X1 m c) (row t p) k) :
    k0_pay4 (F := Ideal) h (iblk m c 4 t) (iblk m c 5 t) a (iblk m c 6 t) (ix2 p d) = a (ix2 p d) + part m c t p d := by
  rw [pay4_at]
  unfold part term DenseMath.hidden
  simp only [hh, blk4, blk5, blk6]

/-- The modulated rows of a point's tile. -/
theorem rows_at (t : Fin cfg0.N) (p : Fin 512) (k : Fin 2048) : k0_pay2 (F := Ideal) (iblk m c 1 t) (iblk m c 0 t) (ix2 p k) = hrow 2 (X0 m c) (X1 m c) (row t p) k := by
  rw [pay2_at, blk0, blk1 m c t p, blk1 m c t p]
  rfl

/-- The point of a tile's weight block. -/
def pt (i : Fin 24) (j : ℕ) (hj : j < 11) : Fin cfg0.N := ⟨i.val * 11 + j, by rw [show cfg0.N = 264 from N_0]; omega⟩

/-- A tile's rows do not depend on the weight block. -/
theorem row_pt (i : Fin 24) (j : ℕ) (hj : j < 11) (p : Fin 512) : row (pt i j hj) p = ⟨i.val * 512 + p.val, by omega⟩ := by
  refine Fin.ext ?_
  show (i.val * 11 + j) / 11 * 512 + p.val = i.val * 512 + p.val
  omega

/-- What weight block `j` adds to row `p` of tile `i`. -/
def partN (i : Fin 24) (p : Fin 512) (d : Fin 2048) (j : ℕ) : EReal :=
  ∑ q : Fin 512, term 1 (hrow 2 (X0 m c) (X1 m c) ⟨i.val * 512 + p.val, by omega⟩) (X4 m c) (X5 m c) d ⟨j % 11 * 512 + q.val, by omega⟩

/-- It is the point's. -/
theorem part_pt (i : Fin 24) (j : ℕ) (hj : j < 11) (p : Fin 512) (d : Fin 2048) : part m c (pt i j hj) p d = partN m c i p d j := by
  unfold part partN
  rw [row_pt]
  refine Finset.sum_congr rfl fun q _ => congrArg _ (Fin.ext ?_)
  show (i.val * 11 + j) % 11 * 512 + q.val = j % 11 * 512 + q.val
  omega

/-- The contents after a point, at the point's number. -/
theorem outs_congr {n n' : ℕ} (e : n = n') (hn : n < cfg0.N) (hn' : n' < cfg0.N) : outsAt0 m c n hn = outsAt0 m c n' hn' := by
  subst e; rfl

/-- After some of a tile's weight blocks: the modulated rows are kept, and the accumulator holds what the blocks add. -/
theorem acc_at (i : Fin 24) : ∀ (j : ℕ) (hj : j < 10),
    (∀ (p : Fin 512) (k : Fin 2048), (outsAt0 m c (pt i j (by omega)).val (pt i j (by omega)).isLt).2.1 (ix2 p k) = hrow 2 (X0 m c) (X1 m c) ⟨i.val * 512 + p.val, by omega⟩ k)
    ∧ ∀ (p : Fin 512) (d : Fin 2048), (outsAt0 m c (pt i j (by omega)).val (pt i j (by omega)).isLt).2.2 (ix2 p d) = ∑ b ∈ Finset.range (j + 1), partN m c i p d b := by
  intro j
  induction j with
  | zero =>
    intro hj
    have h0 : (pt i 0 (by omega)).val % 11 = 0 := by show (i.val * 11 + 0) % 11 = 0; omega
    have h1 : ¬ (pt i 0 (by omega)).val % 11 = 10 := by omega
    constructor
    · intro p k
      rw [at_A0 m c _ h0 h1, rows_at, row_pt]
    · intro p d
      rw [at_A1 m c _ h0 h1, step_at m c _ _ _ p d (fun k => rows_at m c _ p k), pay3_at, zero_add, Finset.sum_range_one, part_pt]
  | succ j ih =>
    intro hj
    obtain ⟨r, a⟩ := ih (by omega)
    have he : (pt i (j + 1) (by omega)).val - 1 = (pt i j (by omega)).val := by show i.val * 11 + (j + 1) - 1 = i.val * 11 + j; omega
    have h0 : ¬ (pt i (j + 1) (by omega)).val % 11 = 0 := by show ¬ (i.val * 11 + (j + 1)) % 11 = 0; omega
    have h1 : ¬ (pt i (j + 1) (by omega)).val % 11 = 10 := by show ¬ (i.val * 11 + (j + 1)) % 11 = 10; omega
    constructor
    · intro p k
      rw [at_B0 m c _ h0 h1, outs_congr m c he _ (pt i j (by omega)).isLt]
      exact r p k
    · intro p d
      rw [at_B1 m c _ h0 h1, outs_congr m c he _ (pt i j (by omega)).isLt, step_at m c _ _ _ p d (fun k => (r p k).trans (by rw [row_pt])), Finset.sum_range_succ _ (j + 1), part_pt]
      exact congrArg (· + _) (a p d)

/-- All the weight blocks together are the whole sum over the hidden numbers. -/
theorem parts_sum (i : Fin 24) (p : Fin 512) (d : Fin 2048) : ∑ b ∈ Finset.range 11, partN m c i p d b
    = ∑ f : Fin 5632, term 1 (hrow 2 (X0 m c) (X1 m c) ⟨i.val * 512 + p.val, by omega⟩) (X4 m c) (X5 m c) d f := by
  rw [sum_blocks, Finset.sum_range]
  refine Finset.sum_congr rfl fun j _ => Finset.sum_congr rfl fun q _ => congrArg _ (Fin.ext ?_)
  have := j.isLt
  show j.val % 11 * 512 + q.val = j.val * 512 + q.val
  omega

/-- The accumulator at a tile's last point, before it is stored. -/
theorem last_acc (i : Fin 24) (p : Fin 512) (d : Fin 2048) :
    k0_pay4 (F := Ideal) (outsAt0 m c ((pt i 10 (by omega)).val - 1) (Nat.lt_of_le_of_lt (Nat.sub_le _ _) (pt i 10 (by omega)).isLt)).2.1
      (iblk m c 4 (pt i 10 (by omega))) (iblk m c 5 (pt i 10 (by omega)))
      (outsAt0 m c ((pt i 10 (by omega)).val - 1) (Nat.lt_of_le_of_lt (Nat.sub_le _ _) (pt i 10 (by omega)).isLt)).2.2 (iblk m c 6 (pt i 10 (by omega))) (ix2 p d)
    = ∑ f : Fin 5632, term 1 (hrow 2 (X0 m c) (X1 m c) ⟨i.val * 512 + p.val, by omega⟩) (X4 m c) (X5 m c) d f := by
  obtain ⟨r, a⟩ := acc_at m c i 9 (by omega)
  have he : (pt i 10 (by omega)).val - 1 = (pt i 9 (by omega)).val := by show i.val * 11 + 10 - 1 = i.val * 11 + 9; omega
  rw [outs_congr m c he _ (pt i 9 (by omega)).isLt, step_at m c _ _ _ p d (fun k => (r p k).trans (by rw [row_pt])), part_pt, ← parts_sum, Finset.sum_range_succ _ 10]
  exact congrArg (· + _) (a p d)

/-- What a tile's last point stores. -/
theorem last_at (i : Fin 24) (p : Fin 512) (d : Fin 2048) : (outsAt0 m c (pt i 10 (by omega)).val (pt i 10 (by omega)).isLt).1 (ix2 p d)
    = res 2 1 (X0 m c) (X1 m c) (X2 m c) (X3 m c) (X4 m c) (X5 m c) ⟨i.val * 512 + p.val, by omega⟩ d := by
  have h0 : ¬ (pt i 10 (by omega)).val % 11 = 0 := by show ¬ (i.val * 11 + 10) % 11 = 0; omega
  have h1 : (pt i 10 (by omega)).val % 11 = 10 := by show (i.val * 11 + 10) % 11 = 10; omega
  rw [at_C m c _ h0 h1, pay1_at, ← row_pt i 10 (by omega) p]
  unfold res
  refine congrFun (congr (congr (congrArg DenseMath.norm (funext fun k => ?_)) (funext fun k => ?_)) (funext fun k => ?_)) d
  · unfold resid
    refine congrArg₂ (· + ·) (congrArg _ (blk0 m c _ p k)) (congrArg₂ (· * ·) ((ld5_at _ k).trans (blk1 m c _ p 5 k)) ?_)
    refine (last_acc m c i p k).trans ?_
    rw [row_pt]
  · exact (ld1_at _ k).trans (blk2 m c _ k)
  · exact (ld1_at _ k).trans (blk3 m c _ k)

/-- The whole result. -/
def out (i : S12288x2048.Idx) : EReal := res 2 1 (X0 m c) (X1 m c) (X2 m c) (X3 m c) (X4 m c) (X5 m c) (i 0) (i 1)

/-- The result's array after the call. -/
theorem final : (dats m 0 c).arrAt 7 (cfgs 0).N = out m c := by
  refine (dats m 0 c).arrAt_eq_of_covers 7 _ (by decide +kernel) fun t hf y => ?_
  blk_simp
  rw [after0_7]
  have h10 : 10 < 11 := by omega
  have hj : t.val % 11 = 10 := (flush0_7 t).mp hf
  have hb := bound t
  obtain ⟨-, -, -, -, -, -, -, i7⟩ := idx t
  obtain ⟨p, d, rfl⟩ : ∃ (p : Fin 512) (d : Fin 2048), y = ix2 p d := ⟨y 0, y 1, by funext k; fin_cases k <;> rfl⟩
  have hemb : ((View.whole main_v4).slice (win0_7.rect t)).emb (ix2 p d) = ix2 ⟨t.val / 11 * 512 + p.val, by omega⟩ d := by
    blk_ext [i7]
  rw [hemb]
  obtain ⟨i, rfl⟩ : ∃ i : Fin 24, t = pt i 10 h10 := ⟨⟨t.val / 11, by omega⟩, Fin.ext (by show t.val = t.val / 11 * 11 + 10; omega)⟩
  refine (last_at m c i p d).trans ?_
  unfold out
  refine congrArg (fun r => res 2 1 (X0 m c) (X1 m c) (X2 m c) (X3 m c) (X4 m c) (X5 m c) r d) (Fin.ext ?_)
  show i.val * 512 + p.val = (i.val * 11 + 10) / 11 * 512 + p.val
  omega

end Cert.DenseLastIdeal.Hand
end
-- ==== Proof.DenseLastRef.lean ====
module

public import proofs.«01_k».proof.Proof.Gen.DenseLastReferenceIdeal.Read
public import Idealize.ShloMosaic.Lib.Pipeline.ValueKit
public import proofs.«01_k».proof.Proof.DenseMath

@[expose] public section

set_option maxRecDepth 16384

noncomputable section

namespace Cert.DenseLastReferenceIdeal.Hand

open Cert.DenseLastReferenceIdeal Cert.DenseLastReferenceIdeal.Gen Cert.DenseLastReferenceIdeal.Read Idealize.ShloMosaic Idealize.ShloMosaic.TcCoe Idealize.SL.Sem
open Cert.DenseMath

variable (x0 : FVec Ideal S12288x2048 .f32) (x1 : FVec Ideal S4x5x8x2048 .f32) (x2 x3 : FVec Ideal S4x2x2048 .f32)
  (x4 : FVec Ideal S2x2048x11264 .f32) (x5 : FVec Ideal S2x5632x2048 .f32)

/-- Row `j` of the modulations, for the rows of the prompt and of the sequences. -/
def modRow (j : Fin 8) (r : Fin 12288) (k : Fin 2048) : EReal :=
  if h : r.val < 4096 then x1 (ix4 2 0 j k) else x1 (ix4 2 ⟨1 + (r.val - 4096) / 2048, by omega⟩ j k)

/-- It is the row of the group. -/
theorem modRow_eq (j : Fin 8) (r : Fin 12288) (k : Fin 2048) : modRow x1 j r k = x1 (ix4 2 ⟨grp r.val, grp_lt r⟩ j k) := by
  unfold modRow
  split
  · rename_i h
    refine congrArg (fun z => x1 (ix4 2 z j k)) (Fin.ext ?_)
    show 0 = grp r.val
    unfold grp; rw [if_pos h]
  · rename_i h
    refine congrArg (fun z => x1 (ix4 2 z j k)) (Fin.ext ?_)
    show 1 + (r.val - 4096) / 2048 = grp r.val
    unfold grp; rw [if_neg h]

/-- The scales of the rows. -/
theorem v11_at (r : Fin 12288) (k : Fin 2048) : val_main_v11 (F := Ideal) x1 (ix2 r k) = modRow x1 4 r k := by
  unfold modRow
  pointwise [val_main_v11, val_main_v10, val_main_v9, val_main_v8, val_main_v7, val_main_v6, val_main_v5, val_main_v4, val_main_v3, val_main_v2, val_main_v1, val_main_v0]
/-- The shifts of the rows. -/
theorem v24_at (r : Fin 12288) (k : Fin 2048) : val_main_v24 (F := Ideal) x1 (ix2 r k) = modRow x1 3 r k := by
  unfold modRow
  pointwise [val_main_v24, val_main_v23, val_main_v22, val_main_v21, val_main_v20, val_main_v19, val_main_v18, val_main_v17, val_main_v16, val_main_v15, val_main_v1, val_main_v0]
/-- The gates of the rows. -/
theorem v47_at (r : Fin 12288) (k : Fin 2048) : val_main_v47 (F := Ideal) x1 (ix2 r k) = modRow x1 5 r k := by
  unfold modRow
  pointwise [val_main_v47, val_main_v46, val_main_v45, val_main_v44, val_main_v43, val_main_v42, val_main_v41, val_main_v40, val_main_v39, val_main_v38, val_main_v1, val_main_v0]

/-- The modulated rows. -/
theorem v25_at (r : Fin 12288) (k : Fin 2048) : val_main_v25 (F := Ideal) x0 x1 (ix2 r k) = hrow 2 x0 x1 r k := by
  unfold hrow
  rw [← modRow_eq x1, ← modRow_eq x1, ← v11_at, ← v24_at]
  pointwise [val_main_v25, val_main_v14, val_main_v13, val_main_v12, val_main_cst]
/-- The hidden numbers. -/
theorem v28_at (r : Fin 12288) (f : Fin 11264) : val_main_v28 (F := Ideal) x0 x1 x4 (ix2 r f) = hidden 1 (hrow 2 x0 x1 r) x4 f := by
  unfold DenseMath.hidden
  simp only [← v25_at]
  pointwise [val_main_v28, val_main_v27, val_main_v26]
/-- The hidden activations. -/
theorem v32_at (r : Fin 12288) (f : Fin 5632) : val_main_v32 (F := Ideal) x0 x1 x4 (ix2 r f)
    = act (hidden 1 (hrow 2 x0 x1 r) x4 ⟨f.val, by omega⟩) (hidden 1 (hrow 2 x0 x1 r) x4 ⟨5632 + f.val, by omega⟩) := by
  unfold act
  simp only [← v28_at]
  pointwise [val_main_v32, val_main_v31, val_main_v30, val_main_v29, val_main_call0_v0, val_main_call0_v1, val_main_call0_v2, val_main_call0_v3,
    val_main_call0_v4, val_main_call0_v5, val_main_call0_cst, val_main_call0_cst_0]
/-- The output of the two matrices. -/
theorem v35_at (r : Fin 12288) (d : Fin 2048) : val_main_v35 (F := Ideal) x0 x1 x4 x5 (ix2 r d) = ∑ f : Fin 5632, term 1 (hrow 2 x0 x1 r) x4 x5 d f := by
  unfold term
  simp only [← v32_at]
  pointwise [val_main_v35, val_main_v34, val_main_v33]
/-- The residual. -/
theorem v49_at (r : Fin 12288) (d : Fin 2048) : val_main_v49 (F := Ideal) x0 x1 x4 x5 (ix2 r d) = resid 2 1 x0 x1 x4 x5 r d := by
  unfold resid
  rw [← v35_at, ← modRow_eq x1, ← v47_at]
  pointwise [val_main_v49, val_main_v48, val_main_v37, val_main_v36, val_main_cst_0]
/-- The mean of a row. -/
theorem v57_at (r : Fin 12288) : val_main_v57 (F := Ideal) x0 x1 x4 x5 (ix2 r 0) = mean (fun k => val_main_v49 (F := Ideal) x0 x1 x4 x5 (ix2 r k)) := by
  unfold mean
  pointwise [val_main_v57, val_main_v56, val_main_v55, val_main_v54, val_main_cst_2, val_main_cst_1]
/-- The mean of its squared distances from the mean. -/
theorem v64_at (r : Fin 12288) : val_main_v64 (F := Ideal) x0 x1 x4 x5 (ix2 r 0) = mean (fun k => (val_main_v49 (F := Ideal) x0 x1 x4 x5 (ix2 r k) - val_main_v57 (F := Ideal) x0 x1 x4 x5 (ix2 r 0))
      * (val_main_v49 (F := Ideal) x0 x1 x4 x5 (ix2 r k) - val_main_v57 (F := Ideal) x0 x1 x4 x5 (ix2 r 0))) := by
  unfold mean
  pointwise [val_main_v64, val_main_v63, val_main_v62, val_main_v61, val_main_v60, val_main_v59, val_main_v58, val_main_cst_4, val_main_cst_3]
/-- The result. -/
theorem v77_at (r : Fin 12288) (d : Fin 2048) : val_main_v77 (F := Ideal) x0 x1 x2 x3 x4 x5 (ix2 r d) = res 2 1 x0 x1 x2 x3 x4 x5 r d := by
  have e : resid 2 1 x0 x1 x4 x5 r = fun k => val_main_v49 (F := Ideal) x0 x1 x4 x5 (ix2 r k) := funext fun k => (v49_at x0 x1 x4 x5 r k).symm
  unfold res DenseMath.norm
  rw [e, ← v57_at, ← v64_at]
  pointwise [val_main_v77, val_main_v76, val_main_v75, val_main_v74, val_main_v73, val_main_v72, val_main_v71, val_main_v70, val_main_v69, val_main_v68, val_main_v67,
    val_main_v66, val_main_v65, val_main_v53, val_main_v52, val_main_v51, val_main_v50, val_main_cst_5]

end Cert.DenseLastReferenceIdeal.Hand
end
-- ==== Proof.OutMath.lean ====
module

public import proofs.«01_k».proof.Proof.DenseMath

@[expose] public section

noncomputable section

namespace Cert.OutMath

open Idealize.ShloMosaic Cert.DenseMath

/-- The residual of row `r`: the row times the factor, and the gated projection of the attention's row. -/
def resid (l : Fin 4) (w : Fin 2) (o x : (⟨2, ![12288, 2048]⟩ : Shape).Idx → EReal) (M : (⟨4, ![4, 5, 8, 2048]⟩ : Shape).Idx → EReal)
    (W : (⟨3, ![2, 2048, 2048]⟩ : Shape).Idx → EReal) (r : Fin 12288) (d : Fin 2048) : EReal :=
  Ideal.ofBits FTy.f32 0x3FD744FD#32 * x (ix2 r d) + M (ix4 l ⟨grp r.val, grp_lt r⟩ 2 d) * ∑ k : Fin 2048, o (ix2 r k) * W (ix3 w k d)

/-- Row `r` of the result: the norm of the residual. -/
def res (l : Fin 4) (w : Fin 2) (o x : (⟨2, ![12288, 2048]⟩ : Shape).Idx → EReal) (M : (⟨4, ![4, 5, 8, 2048]⟩ : Shape).Idx → EReal)
    (g b : (⟨3, ![4, 2, 2048]⟩ : Shape).Idx → EReal)
    (W : (⟨3, ![2, 2048, 2048]⟩ : Shape).Idx → EReal) (r : Fin 12288) (d : Fin 2048) : EReal :=
  DenseMath.norm (resid l w o x M W r) (fun k => g (ix3 l 0 k)) (fun k => b (ix3 l 0 k)) d

end Cert.OutMath
end
end
-- ==== Proof.OutVal.lean ====
module

public import proofs.«01_k».proof.Proof.Gen.OutIdeal.Frame
public import Idealize.ShloMosaic.Lib.Pipeline.ValueKit
public import Idealize.ShloMosaic.Lib.Pipeline.ReadBack
public import proofs.«01_k».proof.Proof.OutMath

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)
open Cert.DenseMath

/-- The rows of a tile: the norm of the residual. -/
theorem pay1_at (o : Vec Ideal S512x2048 .bf16) (w : Vec Ideal S1x2048x2048 .bf16) (x : Vec Ideal S512x2048 .f32) (gate : Vec Ideal S1x1x1x2048 .f32) (g b : Vec Ideal S1x2048 .f32)
    (p : Fin 512) (d : Fin 2048) : k0_pay1 (F := Ideal) o w x gate g b (ix2 p d)
      = DenseMath.norm (fun k => Ideal.ofBits FTy.f32 0x3FD744FD#32 * x (ix2 p k) + gate (ix4 0 0 0 k) * ∑ j : Fin 2048, o (ix2 p j) * w (ix3 0 j k)) (fun k => g (ix2 0 k)) (fun k => b (ix2 0 k)) d := by
  unfold DenseMath.norm DenseMath.mean
  pointwise [k0_pay1]

/-- Where each window's block sits at each point. -/
theorem idx : ∀ t : Fin cfg0.N, win0_0.index t = ![t.val, 0] ∧ win0_1.index t = ![0, 0, 0] ∧ win0_2.index t = ![t.val, 0]
   ∧ win0_3.index t = ![1, grp (t.val * 512), 0, 0] ∧ win0_4.index t = ![0, 0] ∧ win0_5.index t = ![0, 0] ∧ win0_6.index t = ![t.val, 0] :=
  (by decide +kernel : ∀ t : Fin grid0.N, _)

/-- The gate's row of a group. -/
theorem ldG_at (x : Vec Ideal S1x1x8x2048 .f32) (k : Fin 2048) : View.ld x r0_2 (ix4 0 0 0 k) = x (ix4 0 0 2 k) := by
  unfold r0_2
  pointwise
/-- The norm's row of a layer. -/
theorem ldN_at (x : Vec Ideal S8x2048 .f32) (k : Fin 2048) : View.ld x r0_3 (ix2 0 k) = x (ix2 2 k) := by
  unfold r0_3
  pointwise

variable (m : (ℓ : Loc nD τ sig) → Buf (Elt Ideal) ℓ) (c : Dev nD)

/-- The attention's rows, -/
abbrev X0 : FVec Ideal S12288x2048 .bf16 := m ((c : Thread nD τ).loc main_arg0)
/-- the model's rows, -/
abbrev X1 : FVec Ideal S12288x2048 .f32 := m ((c : Thread nD τ).loc main_arg1)
/-- the modulations, -/
abbrev X2 : FVec Ideal S4x5x8x2048 .f32 := m ((c : Thread nD τ).loc main_arg2)
/-- the norms' weights, -/
abbrev X3 : FVec Ideal S4x2x2048 .f32 := m ((c : Thread nD τ).loc main_arg3)
/-- the norms' offsets, -/
abbrev X4 : FVec Ideal S4x2x2048 .f32 := m ((c : Thread nD τ).loc main_arg4)
/-- and the projection. -/
abbrev X5 : FVec Ideal S2x2048x2048 .f32 := m ((c : Thread nD τ).loc main_arg5)

/-- The norms' weights as the call is given them, -/
theorem v0_read : V m c main_v0 = shapeCast S8x2048 (X3 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X4 m c) shapeCasts_S4x2x2048_S8x2048 := by
  unfold V; simp only [hostOps0, List.flatten_cons, List.flatten_nil, List.append_nil, List.cons_append, List.nil_append]; after_results; rfl
/-- and the projection. -/
theorem v2_read : (V m c main_v2 : S2x2048x2048.Idx → EReal) = X5 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 2 k) = x (ix3 1 0 k) := by
  pointwise

/-- There are 24 tiles. -/
theorem bound (t : Fin cfg0.N) : t.val < 24 := lt_of_lt_of_eq t.isLt N_0

/-- The row of the model that row `p` of a point's tile is. -/
def row (t : Fin cfg0.N) (p : Fin 512) : Fin 12288 := ⟨t.val * 512 + p.val, by have := bound t; omega⟩

/-- All rows of a tile have one group. -/
theorem grp_row (t : Fin cfg0.N) (p : Fin 512) : grp (t.val * 512) = grp (row t p).val := by
  have := bound t
  have := p.isLt
  unfold row grp
  split
  · rw [if_pos (by show t.val * 512 + p.val < 4096; omega)]
  · rw [if_neg (by show ¬ t.val * 512 + p.val < 4096; omega)]
    show _ = 1 + (t.val * 512 + p.val - 4096) / 2048
    omega

/-- The attention's rows of a point. -/
theorem blk0 (t : Fin cfg0.N) (p : Fin 512) (k : Fin 2048) : iblk m c 0 t (ix2 p k) = X0 m c (ix2 (row t p) k) := by
  obtain ⟨i0, -⟩ := idx t
  unfold row
  blk_ext [iblk, V, i0]
/-- The projection. -/
theorem blk1 (t : Fin cfg0.N) (k d : Fin 2048) : iblk m c 1 t (ix3 0 k d) = X5 m c (ix3 0 k d) := by
  obtain ⟨-, i1, -⟩ := idx t
  refine Eq.trans ?_ (congrFun (v2_read m c) _)
  blk_ext [iblk, i1]
/-- The model's rows of a point. -/
theorem blk2 (t : Fin cfg0.N) (p : Fin 512) (k : Fin 2048) : iblk m c 2 t (ix2 p k) = X1 m c (ix2 (row t p) k) := by
  obtain ⟨-, -, i2, -⟩ := idx t
  unfold row
  blk_ext [iblk, V, i2]
/-- Their modulations. -/
theorem blk3 (t : Fin cfg0.N) (p : Fin 512) (j : Fin 8) (k : Fin 2048) :
    iblk m c 3 t (ix4 0 0 j k) = X2 m c (ix4 1 ⟨grp (row t p).val, grp_lt (row t p)⟩ j k) := by
  obtain ⟨-, -, -, i3, -⟩ := idx t
  rw [grp_row t p] at i3
  blk_ext [iblk, V, i3]
/-- The norm's weights. -/
theorem blk4 (t : Fin cfg0.N) (k : Fin 2048) : iblk m c 4 t (ix2 2 k) = X3 m c (ix3 1 0 k) := by
  obtain ⟨-, -, -, -, i4, -⟩ := idx t
  refine Eq.trans ?_ ((congrFun (v0_read m c) (ix2 2 k)).trans (cast_at _ k))
  blk_ext [iblk, i4]
/-- Its offsets. -/
theorem blk5 (t : Fin cfg0.N) (k : Fin 2048) : iblk m c 5 t (ix2 2 k) = X4 m c (ix3 1 0 k) := by
  obtain ⟨-, -, -, -, -, i5, -⟩ := idx t
  refine Eq.trans ?_ ((congrFun (v1_read m c) (ix2 2 k)).trans (cast_at _ k))
  blk_ext [iblk, i5]

/-- What a point stores, over its blocks. -/
theorem stored (t : Fin cfg0.N) : out0_6 (iblk m c 0 t) (iblk m c 1 t) (iblk m c 2 t) (iblk m c 3 t) (iblk m c 4 t) (iblk m c 5 t)
    = k0_pay1 (iblk m c 0 t) (iblk m c 1 t) (iblk m c 2 t) (View.ld (iblk m c 3 t) r0_2) (View.ld (iblk m c 4 t) r0_3) (View.ld (iblk m c 5 t) r0_3) := by
  unfold out0_6; frame_out; rfl

/-- What a point stores. -/
theorem at_pt (t : Fin cfg0.N) (p : Fin 512) (d : Fin 2048) :
    out0_6 (iblk m c 0 t) (iblk m c 1 t) (iblk m c 2 t) (iblk m c 3 t) (iblk m c 4 t) (iblk m c 5 t) (ix2 p d)
    = OutMath.res 1 0 (X0 m c) (X1 m c) (X2 m c) (X3 m c) (X4 m c) (X5 m c) (row t p) d := by
  rw [stored, pay1_at]
  unfold OutMath.res
  refine congrFun (congr (congr (congrArg DenseMath.norm (funext fun k => ?_)) (funext fun k => ?_)) (funext fun k => ?_)) d
  · unfold OutMath.resid
    refine congrArg₂ (· + ·) (congrArg _ (blk2 m c t p k)) (congrArg₂ (· * ·) ((ldG_at _ k).trans (blk3 m c t p 2 k)) ?_)
    exact Finset.sum_congr rfl fun j _ => congrArg₂ (· * ·) (blk0 m c t p j) (blk1 m c t j k)
  · exact (ldN_at _ k).trans (blk4 m c t k)
  · exact (ldN_at _ k).trans (blk5 m c t k)

/-- The whole result. -/
def out (i : S12288x2048.Idx) : EReal := OutMath.res 1 0 (X0 m c) (X1 m c) (X2 m c) (X3 m c) (X4 m c) (X5 m c) (i 0) (i 1)

/-- The result's array after the call. -/
theorem final : (dats m 0 c).arrAt 6 (cfgs 0).N = out m c := by
  refine (dats m 0 c).arrAt_eq_of_covers 6 _ (by decide +kernel) fun t hf y => ?_
  blk_simp
  rw [after0_6]
  have hb := bound t
  obtain ⟨-, -, -, -, -, -, i6⟩ := idx t
  obtain ⟨p, d, rfl⟩ : ∃ (p : Fin 512) (d : Fin 2048), y = ix2 p d := ⟨y 0, y 1, by funext k; fin_cases k <;> rfl⟩
  have hemb : ((View.whole main_v3).slice (win0_6.rect t)).emb (ix2 p d) = ix2 ⟨t.val * 512 + p.val, by omega⟩ d := by
    blk_ext [i6]
  rw [hemb]
  exact at_pt m c t p d

end Cert.OutIdeal.Hand
end
-- ==== Proof.OutRef.lean ====
module

public import proofs.«01_k».proof.Proof.Gen.OutReferenceIdeal.Read
public import Idealize.ShloMosaic.Lib.Pipeline.ValueKit
public import proofs.«01_k».proof.Proof.OutMath

@[expose] public section

set_option maxRecDepth 16384

noncomputable section

namespace Cert.OutReferenceIdeal.Hand

open Cert.OutReferenceIdeal Cert.OutReferenceIdeal.Gen Cert.OutReferenceIdeal.Read Idealize.ShloMosaic Idealize.ShloMosaic.TcCoe Idealize.SL.Sem
open Cert.DenseMath

variable (x0 : FVec Ideal S12288x2048 .bf16) (x1 : FVec Ideal S12288x2048 .f32) (x2 : FVec Ideal S4x5x8x2048 .f32) (x3 x4 : FVec Ideal S4x2x2048 .f32)
  (x5 : FVec Ideal S2x2048x2048 .f32)

/-- Row `j` of the modulations, for the rows of the prompt and of the sequences. -/
def modRow (j : Fin 8) (r : Fin 12288) (k : Fin 2048) : EReal :=
  if h : r.val < 4096 then x2 (ix4 1 0 j k) else x2 (ix4 1 ⟨1 + (r.val - 4096) / 2048, by omega⟩ j k)

/-- It is the row of the group. -/
theorem modRow_eq (j : Fin 8) (r : Fin 12288) (k : Fin 2048) : modRow x2 j r k = x2 (ix4 1 ⟨grp r.val, grp_lt r⟩ j k) := by
  unfold modRow
  split
  · rename_i h
    refine congrArg (fun z => x2 (ix4 1 z j k)) (Fin.ext ?_)
    show 0 = grp r.val
    unfold grp; rw [if_pos h]
  · rename_i h
    refine congrArg (fun z => x2 (ix4 1 z j k)) (Fin.ext ?_)
    show 1 + (r.val - 4096) / 2048 = grp r.val
    unfold grp; rw [if_neg h]

/-- The projection of the attention's rows. -/
theorem v3_at (r : Fin 12288) (d : Fin 2048) : val_main_v3 (F := Ideal) x0 x5 (ix2 r d) = ∑ k : Fin 2048, x0 (ix2 r k) * x5 (ix3 0 k d) := by
  pointwise [val_main_v3, val_main_v2, val_main_v1, val_main_v0]
/-- The gates of the rows. -/
theorem v17_at (r : Fin 12288) (k : Fin 2048) : val_main_v17 (F := Ideal) x2 (ix2 r k) = modRow x2 2 r k := by
  unfold modRow
  pointwise [val_main_v17, val_main_v16, val_main_v15, val_main_v14, val_main_v13, val_main_v12, val_main_v11, val_main_v10, val_main_v9, val_main_v8, val_main_v7, val_main_v6]
/-- The residual. -/
theorem v19_at (r : Fin 12288) (d : Fin 2048) : val_main_v19 (F := Ideal) x0 x1 x2 x5 (ix2 r d) = OutMath.resid 1 0 x0 x1 x2 x5 r d := by
  unfold OutMath.resid
  rw [← v3_at, ← modRow_eq x2, ← v17_at]
  pointwise [val_main_v19, val_main_v18, val_main_v5, val_main_v4, val_main_cst]
/-- The mean of a row. -/
theorem v27_at (r : Fin 12288) : val_main_v27 (F := Ideal) x0 x1 x2 x5 (ix2 r 0) = mean (fun k => val_main_v19 (F := Ideal) x0 x1 x2 x5 (ix2 r k)) := by
  unfold mean
  pointwise [val_main_v27, val_main_v26, val_main_v25, val_main_v24, val_main_cst_1, val_main_cst_0]
/-- The mean of its squared distances from the mean. -/
theorem v34_at (r : Fin 12288) : val_main_v34 (F := Ideal) x0 x1 x2 x5 (ix2 r 0) = mean (fun k => (val_main_v19 (F := Ideal) x0 x1 x2 x5 (ix2 r k) - val_main_v27 (F := Ideal) x0 x1 x2 x5 (ix2 r 0))
      * (val_main_v19 (F := Ideal) x0 x1 x2 x5 (ix2 r k) - val_main_v27 (F := Ideal) x0 x1 x2 x5 (ix2 r 0))) := by
  unfold mean
  pointwise [val_main_v34, val_main_v33, val_main_v32, val_main_v31, val_main_v30, val_main_v29, val_main_v28, val_main_cst_3, val_main_cst_2]
/-- The result. -/
theorem v47_at (r : Fin 12288) (d : Fin 2048) : val_main_v47 (F := Ideal) x0 x1 x2 x3 x4 x5 (ix2 r d) = OutMath.res 1 0 x0 x1 x2 x3 x4 x5 r d := by
  have e : OutMath.resid 1 0 x0 x1 x2 x5 r = fun k => val_main_v19 (F := Ideal) x0 x1 x2 x5 (ix2 r k) := funext fun k => (v19_at x0 x1 x2 x5 r k).symm
  unfold OutMath.res DenseMath.norm
  rw [e, ← v27_at, ← v34_at]
  pointwise [val_main_v47, val_main_v46, val_main_v45, val_main_v44, val_main_v43, val_main_v42, val_main_v41, val_main_v40, val_main_v39, val_main_v38, val_main_v37,
    val_main_v36, val_main_v35, val_main_v23, val_main_v22, val_main_v21, val_main_v20, val_main_cst_4]

end Cert.OutReferenceIdeal.Hand
end
-- ==== Proof.OutLastVal.lean ====
module

public import proofs.«01_k».proof.Proof.Gen.OutLastIdeal.Frame
public import Idealize.ShloMosaic.Lib.Pipeline.ValueKit
public import Idealize.ShloMosaic.Lib.Pipeline.ReadBack
public import proofs.«01_k».proof.Proof.OutMath

@[expose] public section

set_option maxRecDepth 16384

noncomputable section

namespace Cert.OutLastIdeal.Hand

open Cert.OutLastIdeal Cert.OutLastIdeal.Gen Idealize.ShloMosaic Idealize.ShloMosaic.TcCoe Idealize.SL.Sem
open Idealize.ShloMosaic.Pipeline (Dat)
open Cert.DenseMath

/-- The rows of a tile: the norm of the residual. -/
theorem pay1_at (o : Vec Ideal S512x2048 .bf16) (w : Vec Ideal S1x2048x2048 .bf16) (x : Vec Ideal S512x2048 .f32) (gate : Vec Ideal S1x1x1x2048 .f32) (g b : Vec Ideal S1x2048 .f32)
    (p : Fin 512) (d : Fin 2048) : k0_pay1 (F := Ideal) o w x gate g b (ix2 p d)
      = DenseMath.norm (fun k => Ideal.ofBits FTy.f32 0x3FD744FD#32 * x (ix2 p k) + gate (ix4 0 0 0 k) * ∑ j : Fin 2048, o (ix2 p j) * w (ix3 0 j k)) (fun k => g (ix2 0 k)) (fun k => b (ix2 0 k)) d := by
  unfold DenseMath.norm DenseMath.mean
  pointwise [k0_pay1]

/-- Where each window's block sits at each point. -/
theorem idx : ∀ t : Fin cfg0.N, win0_0.index t = ![t.val, 0] ∧ win0_1.index t = ![1, 0, 0] ∧ win0_2.index t = ![t.val, 0]
   ∧ win0_3.index t = ![3, grp (t.val * 512), 0, 0] ∧ win0_4.index t = ![0, 0] ∧ win0_5.index t = ![0, 0] ∧ win0_6.index t = ![t.val, 0] :=
  (by decide +kernel : ∀ t : Fin grid0.N, _)

/-- The gate's row of a group. -/
theorem ldG_at (x : Vec Ideal S1x1x8x2048 .f32) (k : Fin 2048) : View.ld x r0_2 (ix4 0 0 0 k) = x (ix4 0 0 2 k) := by
  unfold r0_2
  pointwise
/-- The norm's row of a layer. -/
theorem ldN_at (x : Vec Ideal S8x2048 .f32) (k : Fin 2048) : View.ld x r0_3 (ix2 0 k) = x (ix2 6 k) := by
  unfold r0_3
  pointwise

variable (m : (ℓ : Loc nD τ sig) → Buf (Elt Ideal) ℓ) (c : Dev nD)

/-- The attention's rows, -/
abbrev X0 : FVec Ideal S12288x2048 .bf16 := m ((c : Thread nD τ).loc main_arg0)
/-- the model's rows, -/
abbrev X1 : FVec Ideal S12288x2048 .f32 := m ((c : Thread nD τ).loc main_arg1)
/-- the modulations, -/
abbrev X2 : FVec Ideal S4x5x8x2048 .f32 := m ((c : Thread nD τ).loc main_arg2)
/-- the norms' weights, -/
abbrev X3 : FVec Ideal S4x2x2048 .f32 := m ((c : Thread nD τ).loc main_arg3)
/-- the norms' offsets, -/
abbrev X4 : FVec Ideal S4x2x2048 .f32 := m ((c : Thread nD τ).loc main_arg4)
/-- and the projection. -/
abbrev X5 : FVec Ideal S2x2048x2048 .f32 := m ((c : Thread nD τ).loc main_arg5)

/-- The norms' weights as the call is given them, -/
theorem v0_read : V m c main_v0 = shapeCast S8x2048 (X3 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X4 m c) shapeCasts_S4x2x2048_S8x2048 := by
  unfold V; simp only [hostOps0, List.flatten_cons, List.flatten_nil, List.append_nil, List.cons_append, List.nil_append]; after_results; rfl
/-- and the projection. -/
theorem v2_read : (V m c main_v2 : S2x2048x2048.Idx → EReal) = X5 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 6 k) = x (ix3 3 0 k) := by
  pointwise

/-- There are 24 tiles. -/
theorem bound (t : Fin cfg0.N) : t.val < 24 := lt_of_lt_of_eq t.isLt N_0

/-- The row of the model that row `p` of a point's tile is. -/
def row (t : Fin cfg0.N) (p : Fin 512) : Fin 12288 := ⟨t.val * 512 + p.val, by have := bound t; omega⟩

/-- All rows of a tile have one group. -/
theorem grp_row (t : Fin cfg0.N) (p : Fin 512) : grp (t.val * 512) = grp (row t p).val := by
  have := bound t
  have := p.isLt
  unfold row grp
  split
  · rw [if_pos (by show t.val * 512 + p.val < 4096; omega)]
  · rw [if_neg (by show ¬ t.val * 512 + p.val < 4096; omega)]
    show _ = 1 + (t.val * 512 + p.val - 4096) / 2048
    omega

/-- The attention's rows of a point. -/
theorem blk0 (t : Fin cfg0.N) (p : Fin 512) (k : Fin 2048) : iblk m c 0 t (ix2 p k) = X0 m c (ix2 (row t p) k) := by
  obtain ⟨i0, -⟩ := idx t
  unfold row
  blk_ext [iblk, V, i0]
/-- The projection. -/
theorem blk1 (t : Fin cfg0.N) (k d : Fin 2048) : iblk m c 1 t (ix3 0 k d) = X5 m c (ix3 1 k d) := by
  obtain ⟨-, i1, -⟩ := idx t
  refine Eq.trans ?_ (congrFun (v2_read m c) _)
  blk_ext [iblk, i1]
/-- The model's rows of a point. -/
theorem blk2 (t : Fin cfg0.N) (p : Fin 512) (k : Fin 2048) : iblk m c 2 t (ix2 p k) = X1 m c (ix2 (row t p) k) := by
  obtain ⟨-, -, i2, -⟩ := idx t
  unfold row
  blk_ext [iblk, V, i2]
/-- Their modulations. -/
theorem blk3 (t : Fin cfg0.N) (p : Fin 512) (j : Fin 8) (k : Fin 2048) :
    iblk m c 3 t (ix4 0 0 j k) = X2 m c (ix4 3 ⟨grp (row t p).val, grp_lt (row t p)⟩ j k) := by
  obtain ⟨-, -, -, i3, -⟩ := idx t
  rw [grp_row t p] at i3
  blk_ext [iblk, V, i3]
/-- The norm's weights. -/
theorem blk4 (t : Fin cfg0.N) (k : Fin 2048) : iblk m c 4 t (ix2 6 k) = X3 m c (ix3 3 0 k) := by
  obtain ⟨-, -, -, -, i4, -⟩ := idx t
  refine Eq.trans ?_ ((congrFun (v0_read m c) (ix2 6 k)).trans (cast_at _ k))
  blk_ext [iblk, i4]
/-- Its offsets. -/
theorem blk5 (t : Fin cfg0.N) (k : Fin 2048) : iblk m c 5 t (ix2 6 k) = X4 m c (ix3 3 0 k) := by
  obtain ⟨-, -, -, -, -, i5, -⟩ := idx t
  refine Eq.trans ?_ ((congrFun (v1_read m c) (ix2 6 k)).trans (cast_at _ k))
  blk_ext [iblk, i5]

/-- What a point stores, over its blocks. -/
theorem stored (t : Fin cfg0.N) : out0_6 (iblk m c 0 t) (iblk m c 1 t) (iblk m c 2 t) (iblk m c 3 t) (iblk m c 4 t) (iblk m c 5 t)
    = k0_pay1 (iblk m c 0 t) (iblk m c 1 t) (iblk m c 2 t) (View.ld (iblk m c 3 t) r0_2) (View.ld (iblk m c 4 t) r0_3) (View.ld (iblk m c 5 t) r0_3) := by
  unfold out0_6; frame_out; rfl

/-- What a point stores. -/
theorem at_pt (t : Fin cfg0.N) (p : Fin 512) (d : Fin 2048) :
    out0_6 (iblk m c 0 t) (iblk m c 1 t) (iblk m c 2 t) (iblk m c 3 t) (iblk m c 4 t) (iblk m c 5 t) (ix2 p d)
    = OutMath.res 3 1 (X0 m c) (X1 m c) (X2 m c) (X3 m c) (X4 m c) (X5 m c) (row t p) d := by
  rw [stored, pay1_at]
  unfold OutMath.res
  refine congrFun (congr (congr (congrArg DenseMath.norm (funext fun k => ?_)) (funext fun k => ?_)) (funext fun k => ?_)) d
  · unfold OutMath.resid
    refine congrArg₂ (· + ·) (congrArg _ (blk2 m c t p k)) (congrArg₂ (· * ·) ((ldG_at _ k).trans (blk3 m c t p 2 k)) ?_)
    exact Finset.sum_congr rfl fun j _ => congrArg₂ (· * ·) (blk0 m c t p j) (blk1 m c t j k)
  · exact (ldN_at _ k).trans (blk4 m c t k)
  · exact (ldN_at _ k).trans (blk5 m c t k)

/-- The whole result. -/
def out (i : S12288x2048.Idx) : EReal := OutMath.res 3 1 (X0 m c) (X1 m c) (X2 m c) (X3 m c) (X4 m c) (X5 m c) (i 0) (i 1)

/-- The result's array after the call. -/
theorem final : (dats m 0 c).arrAt 6 (cfgs 0).N = out m c := by
  refine (dats m 0 c).arrAt_eq_of_covers 6 _ (by decide +kernel) fun t hf y => ?_
  blk_simp
  rw [after0_6]
  have hb := bound t
  obtain ⟨-, -, -, -, -, -, i6⟩ := idx t
  obtain ⟨p, d, rfl⟩ : ∃ (p : Fin 512) (d : Fin 2048), y = ix2 p d := ⟨y 0, y 1, by funext k; fin_cases k <;> rfl⟩
  have hemb : ((View.whole main_v3).slice (win0_6.rect t)).emb (ix2 p d) = ix2 ⟨t.val * 512 + p.val, by omega⟩ d := by
    blk_ext [i6]
  rw [hemb]
  exact at_pt m c t p d

end Cert.OutLastIdeal.Hand
end
-- ==== Proof.OutLastRef.lean ====
module

public import proofs.«01_k».proof.Proof.Gen.OutLastReferenceIdeal.Read
public import Idealize.ShloMosaic.Lib.Pipeline.ValueKit
public import proofs.«01_k».proof.Proof.OutMath

@[expose] public section

set_option maxRecDepth 16384

noncomputable section

namespace Cert.OutLastReferenceIdeal.Hand

open Cert.OutLastReferenceIdeal Cert.OutLastReferenceIdeal.Gen Cert.OutLastReferenceIdeal.Read Idealize.ShloMosaic Idealize.ShloMosaic.TcCoe Idealize.SL.Sem
open Cert.DenseMath

variable (x0 : FVec Ideal S12288x2048 .bf16) (x1 : FVec Ideal S12288x2048 .f32) (x2 : FVec Ideal S4x5x8x2048 .f32) (x3 x4 : FVec Ideal S4x2x2048 .f32)
  (x5 : FVec Ideal S2x2048x2048 .f32)

/-- Row `j` of the modulations, for the rows of the prompt and of the sequences. -/
def modRow (j : Fin 8) (r : Fin 12288) (k : Fin 2048) : EReal :=
  if h : r.val < 4096 then x2 (ix4 3 0 j k) else x2 (ix4 3 ⟨1 + (r.val - 4096) / 2048, by omega⟩ j k)

/-- It is the row of the group. -/
theorem modRow_eq (j : Fin 8) (r : Fin 12288) (k : Fin 2048) : modRow x2 j r k = x2 (ix4 3 ⟨grp r.val, grp_lt r⟩ j k) := by
  unfold modRow
  split
  · rename_i h
    refine congrArg (fun z => x2 (ix4 3 z j k)) (Fin.ext ?_)
    show 0 = grp r.val
    unfold grp; rw [if_pos h]
  · rename_i h
    refine congrArg (fun z => x2 (ix4 3 z j k)) (Fin.ext ?_)
    show 1 + (r.val - 4096) / 2048 = grp r.val
    unfold grp; rw [if_neg h]

/-- The projection of the attention's rows. -/
theorem v3_at (r : Fin 12288) (d : Fin 2048) : val_main_v3 (F := Ideal) x0 x5 (ix2 r d) = ∑ k : Fin 2048, x0 (ix2 r k) * x5 (ix3 1 k d) := by
  pointwise [val_main_v3, val_main_v2, val_main_v1, val_main_v0]
/-- The gates of the rows. -/
theorem v17_at (r : Fin 12288) (k : Fin 2048) : val_main_v17 (F := Ideal) x2 (ix2 r k) = modRow x2 2 r k := by
  unfold modRow
  pointwise [val_main_v17, val_main_v16, val_main_v15, val_main_v14, val_main_v13, val_main_v12, val_main_v11, val_main_v10, val_main_v9, val_main_v8, val_main_v7, val_main_v6]
/-- The residual. -/
theorem v19_at (r : Fin 12288) (d : Fin 2048) : val_main_v19 (F := Ideal) x0 x1 x2 x5 (ix2 r d) = OutMath.resid 3 1 x0 x1 x2 x5 r d := by
  unfold OutMath.resid
  rw [← v3_at, ← modRow_eq x2, ← v17_at]
  pointwise [val_main_v19, val_main_v18, val_main_v5, val_main_v4, val_main_cst]
/-- The mean of a row. -/
theorem v27_at (r : Fin 12288) : val_main_v27 (F := Ideal) x0 x1 x2 x5 (ix2 r 0) = mean (fun k => val_main_v19 (F := Ideal) x0 x1 x2 x5 (ix2 r k)) := by
  unfold mean
  pointwise [val_main_v27, val_main_v26, val_main_v25, val_main_v24, val_main_cst_1, val_main_cst_0]
/-- The mean of its squared distances from the mean. -/
theorem v34_at (r : Fin 12288) : val_main_v34 (F := Ideal) x0 x1 x2 x5 (ix2 r 0) = mean (fun k => (val_main_v19 (F := Ideal) x0 x1 x2 x5 (ix2 r k) - val_main_v27 (F := Ideal) x0 x1 x2 x5 (ix2 r 0))
      * (val_main_v19 (F := Ideal) x0 x1 x2 x5 (ix2 r k) - val_main_v27 (F := Ideal) x0 x1 x2 x5 (ix2 r 0))) := by
  unfold mean
  pointwise [val_main_v34, val_main_v33, val_main_v32, val_main_v31, val_main_v30, val_main_v29, val_main_v28, val_main_cst_3, val_main_cst_2]
/-- The result. -/
theorem v47_at (r : Fin 12288) (d : Fin 2048) : val_main_v47 (F := Ideal) x0 x1 x2 x3 x4 x5 (ix2 r d) = OutMath.res 3 1 x0 x1 x2 x3 x4 x5 r d := by
  have e : OutMath.resid 3 1 x0 x1 x2 x5 r = fun k => val_main_v19 (F := Ideal) x0 x1 x2 x5 (ix2 r k) := funext fun k => (v19_at x0 x1 x2 x5 r k).symm
  unfold OutMath.res DenseMath.norm
  rw [e, ← v27_at, ← v34_at]
  pointwise [val_main_v47, val_main_v46, val_main_v45, val_main_v44, val_main_v43, val_main_v42, val_main_v41, val_main_v40, val_main_v39, val_main_v38, val_main_v37,
    val_main_v36, val_main_v35, val_main_v23, val_main_v22, val_main_v21, val_main_v20, val_main_cst_4]

end Cert.OutLastReferenceIdeal.Hand
end
-- ==== Proof.EvenMath.lean ====
module

public import proofs.«01_k».proof.Proof.DenseMath

@[expose] public section

noncomputable section

namespace Cert.EvenMath

open Idealize.ShloMosaic Cert.DenseMath

/-- The residual of row `r`: the row times the factor, and the gated projection of the two mixers' rows. -/
def resid (l : Fin 4) (w : Fin 2) (o o1 : (⟨2, ![12288, 1024]⟩ : Shape).Idx → EReal) (x : (⟨2, ![12288, 2048]⟩ : Shape).Idx → EReal) (M : (⟨4, ![4, 5, 8, 2048]⟩ : Shape).Idx → EReal)
    (W : (⟨3, ![2, 2048, 2048]⟩ : Shape).Idx → EReal) (r : Fin 12288) (d : Fin 2048) : EReal :=
  Ideal.ofBits FTy.f32 0x3FD744FD#32 * x (ix2 r d) + M (ix4 l ⟨grp r.val, grp_lt r⟩ 2 d) * (∑ k : Fin 1024, o (ix2 r k) * W (ix3 w ⟨k.val, by omega⟩ d) + ∑ k : Fin 1024, o1 (ix2 r k) * W (ix3 w ⟨1024 + k.val, by omega⟩ d))

/-- Row `r` of the result: the norm of the residual. -/
def res (l : Fin 4) (w : Fin 2) (o o1 : (⟨2, ![12288, 1024]⟩ : Shape).Idx → EReal) (x : (⟨2, ![12288, 2048]⟩ : Shape).Idx → EReal) (M : (⟨4, ![4, 5, 8, 2048]⟩ : Shape).Idx → EReal)
    (g b : (⟨3, ![4, 2, 2048]⟩ : Shape).Idx → EReal)
    (W : (⟨3, ![2, 2048, 2048]⟩ : Shape).Idx → EReal) (r : Fin 12288) (d : Fin 2048) : EReal :=
  DenseMath.norm (resid l w o o1 x M W r) (fun k => g (ix3 l 0 k)) (fun k => b (ix3 l 0 k)) d

end Cert.EvenMath
end
end
-- ==== Proof.EvenVal.lean ====
module

public import proofs.«01_k».proof.Proof.Gen.EvenIdeal.Frame
public import Idealize.ShloMosaic.Lib.Pipeline.ValueKit
public import Idealize.ShloMosaic.Lib.Pipeline.ReadBack
public import proofs.«01_k».proof.Proof.EvenMath

@[expose] public section

set_option maxRecDepth 16384

noncomputable section

namespace Cert.EvenIdeal.Hand

open Cert.EvenIdeal Cert.EvenIdeal.Gen Idealize.ShloMosaic Idealize.ShloMosaic.TcCoe Idealize.SL.Sem
open Idealize.ShloMosaic.Pipeline (Dat)
open Cert.DenseMath

/-- The rows of a tile: the norm of the residual. -/
theorem pay1_at (o : Vec Ideal S512x1024 .bf16) (w : Vec Ideal S1x1024x2048 .bf16) (o1 : Vec Ideal S512x1024 .bf16) (w1 : Vec Ideal S1x1024x2048 .bf16) (x : Vec Ideal S512x2048 .f32) (gate : Vec Ideal S1x1x1x2048 .f32) (g b : Vec Ideal S1x2048 .f32)
    (p : Fin 512) (d : Fin 2048) : k0_pay1 (F := Ideal) (k0_pay2 g) (k0_pay3 b) (k0_pay4 o w o1 w1 x gate) (k0_pay5 o w o1 w1 x gate) (ix2 p d)
      = DenseMath.norm (fun k => Ideal.ofBits FTy.f32 0x3FD744FD#32 * x (ix2 p k) + gate (ix4 0 0 0 k) * (∑ j : Fin 1024, o (ix2 p j) * w (ix3 0 j k) + ∑ j : Fin 1024, o1 (ix2 p j) * w1 (ix3 0 j k)))
        (fun k => g (ix2 0 k)) (fun k => b (ix2 0 k)) d := by
  unfold DenseMath.norm DenseMath.mean
  pointwise [k0_pay1, k0_pay2, k0_pay3, k0_pay4, k0_pay5]

/-- Where each window's block sits at each point. -/
theorem idx : ∀ t : Fin cfg0.N, win0_0.index t = ![t.val, 0] ∧ win0_1.index t = ![t.val, 0] ∧ win0_2.index t = ![0, 0, 0] ∧ win0_3.index t = ![0, 1, 0] ∧ win0_4.index t = ![t.val, 0]
   ∧ win0_5.index t = ![0, grp (t.val * 512), 0, 0] ∧ win0_6.index t = ![0, 0] ∧ win0_7.index t = ![0, 0] ∧ win0_8.index t = ![t.val, 0] :=
  (by decide +kernel : ∀ t : Fin grid0.N, _)

/-- The gate's row of a group. -/
theorem ldG_at (x : Vec Ideal S1x1x8x2048 .f32) (k : Fin 2048) : View.ld x r0_3 (ix4 0 0 0 k) = x (ix4 0 0 2 k) := by
  unfold r0_3
  pointwise
/-- The norm's row of a layer. -/
theorem ldN_at (x : Vec Ideal S8x2048 .f32) (k : Fin 2048) : View.ld x r0_4 (ix2 0 k) = x (ix2 0 k) := by
  unfold r0_4
  pointwise

variable (m : (ℓ : Loc nD τ sig) → Buf (Elt Ideal) ℓ) (c : Dev nD)

/-- The rows of the first mixer, -/
abbrev X0 : FVec Ideal S12288x1024 .bf16 := m ((c : Thread nD τ).loc main_arg0)
/-- the rows of the second, -/
abbrev X1 : FVec Ideal S12288x1024 .bf16 := m ((c : Thread nD τ).loc main_arg1)
/-- the model's rows, -/
abbrev X2 : FVec Ideal S12288x2048 .f32 := m ((c : Thread nD τ).loc main_arg2)
/-- the modulations, -/
abbrev X3 : FVec Ideal S4x5x8x2048 .f32 := m ((c : Thread nD τ).loc main_arg3)
/-- the norms' weights, -/
abbrev X4 : FVec Ideal S4x2x2048 .f32 := m ((c : Thread nD τ).loc main_arg4)
/-- the norms' offsets, -/
abbrev X5 : FVec Ideal S4x2x2048 .f32 := m ((c : Thread nD τ).loc main_arg5)
/-- and the projection. -/
abbrev X6 : FVec Ideal S2x2048x2048 .f32 := m ((c : Thread nD τ).loc main_arg6)

/-- The norms' weights as the call is given them, -/
theorem v0_read : V m c main_v0 = shapeCast S8x2048 (X4 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X5 m c) shapeCasts_S4x2x2048_S8x2048 := by
  unfold V; simp only [hostOps0, List.flatten_cons, List.flatten_nil, List.append_nil, List.cons_append, List.nil_append]; after_results; rfl
/-- and the projection. -/
theorem v2_read : (V m c main_v2 : S2x2048x2048.Idx → EReal) = X6 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 0 k) = x (ix3 0 0 k) := by
  pointwise

/-- There are 24 tiles. -/
theorem bound (t : Fin cfg0.N) : t.val < 24 := lt_of_lt_of_eq t.isLt N_0

/-- The row of the model that row `p` of a point's tile is. -/
def row (t : Fin cfg0.N) (p : Fin 512) : Fin 12288 := ⟨t.val * 512 + p.val, by have := bound t; omega⟩

/-- All rows of a tile have one group. -/
theorem grp_row (t : Fin cfg0.N) (p : Fin 512) : grp (t.val * 512) = grp (row t p).val := by
  have := bound t
  have := p.isLt
  unfold row grp
  split
  · rw [if_pos (by show t.val * 512 + p.val < 4096; omega)]
  · rw [if_neg (by show ¬ t.val * 512 + p.val < 4096; omega)]
    show _ = 1 + (t.val * 512 + p.val - 4096) / 2048
    omega

/-- The first mixer's rows of a point. -/
theorem blk0 (t : Fin cfg0.N) (p : Fin 512) (k : Fin 1024) : iblk m c 0 t (ix2 p k) = X0 m c (ix2 (row t p) k) := by
  obtain ⟨i0, -⟩ := idx t
  unfold row
  blk_ext [iblk, V, i0]
/-- The second mixer's. -/
theorem blk1 (t : Fin cfg0.N) (p : Fin 512) (k : Fin 1024) : iblk m c 1 t (ix2 p k) = X1 m c (ix2 (row t p) k) := by
  obtain ⟨-, i1, -⟩ := idx t
  unfold row
  blk_ext [iblk, V, i1]
/-- The projection's upper half. -/
theorem blk2 (t : Fin cfg0.N) (k : Fin 1024) (d : Fin 2048) : iblk m c 2 t (ix3 0 k d) = X6 m c (ix3 0 ⟨k.val, by omega⟩ d) := by
  obtain ⟨-, -, i2, -⟩ := idx t
  refine Eq.trans ?_ (congrFun (v2_read m c) _)
  blk_ext [iblk, i2]
/-- Its lower half. -/
theorem blk3 (t : Fin cfg0.N) (k : Fin 1024) (d : Fin 2048) : iblk m c 3 t (ix3 0 k d) = X6 m c (ix3 0 ⟨1024 + k.val, by omega⟩ d) := by
  obtain ⟨-, -, -, i3, -⟩ := idx t
  refine Eq.trans ?_ (congrFun (v2_read m c) _)
  blk_ext [iblk, i3]
/-- The model's rows of a point. -/
theorem blk4 (t : Fin cfg0.N) (p : Fin 512) (k : Fin 2048) : iblk m c 4 t (ix2 p k) = X2 m c (ix2 (row t p) k) := by
  obtain ⟨-, -, -, -, i4, -⟩ := idx t
  unfold row
  blk_ext [iblk, V, i4]
/-- Their modulations. -/
theorem blk5 (t : Fin cfg0.N) (p : Fin 512) (j : Fin 8) (k : Fin 2048) :
    iblk m c 5 t (ix4 0 0 j k) = X3 m c (ix4 0 ⟨grp (row t p).val, grp_lt (row t p)⟩ j k) := by
  obtain ⟨-, -, -, -, -, i5, -⟩ := idx t
  rw [grp_row t p] at i5
  blk_ext [iblk, V, i5]
/-- The norm's weights. -/
theorem blk6 (t : Fin cfg0.N) (k : Fin 2048) : iblk m c 6 t (ix2 0 k) = X4 m c (ix3 0 0 k) := by
  obtain ⟨-, -, -, -, -, -, i6, -⟩ := idx t
  refine Eq.trans ?_ ((congrFun (v0_read m c) (ix2 0 k)).trans (cast_at _ k))
  blk_ext [iblk, i6]
/-- Its offsets. -/
theorem blk7 (t : Fin cfg0.N) (k : Fin 2048) : iblk m c 7 t (ix2 0 k) = X5 m c (ix3 0 0 k) := by
  obtain ⟨-, -, -, -, -, -, -, i7, -⟩ := idx t
  refine Eq.trans ?_ ((congrFun (v1_read m c) (ix2 0 k)).trans (cast_at _ k))
  blk_ext [iblk, i7]

/-- What a point stores, over its blocks. -/
theorem stored (t : Fin cfg0.N) : out0_8 (iblk m c 0 t) (iblk m c 1 t) (iblk m c 2 t) (iblk m c 3 t) (iblk m c 4 t) (iblk m c 5 t) (iblk m c 6 t) (iblk m c 7 t)
    = k0_pay1 (k0_pay2 (View.ld (iblk m c 6 t) r0_4)) (k0_pay3 (View.ld (iblk m c 7 t) r0_4)) (k0_pay4 (iblk m c 0 t) (iblk m c 2 t) (iblk m c 1 t) (iblk m c 3 t) (iblk m c 4 t) (View.ld (iblk m c 5 t) r0_3))
        (k0_pay5 (iblk m c 0 t) (iblk m c 2 t) (iblk m c 1 t) (iblk m c 3 t) (iblk m c 4 t) (View.ld (iblk m c 5 t) r0_3)) := by
  unfold out0_8; frame_out; rfl

/-- What a point stores. -/
theorem at_pt (t : Fin cfg0.N) (p : Fin 512) (d : Fin 2048) :
    out0_8 (iblk m c 0 t) (iblk m c 1 t) (iblk m c 2 t) (iblk m c 3 t) (iblk m c 4 t) (iblk m c 5 t) (iblk m c 6 t) (iblk m c 7 t) (ix2 p d)
    = EvenMath.res 0 0 (X0 m c) (X1 m c) (X2 m c) (X3 m c) (X4 m c) (X5 m c) (X6 m c) (row t p) d := by
  rw [stored, pay1_at]
  unfold EvenMath.res
  refine congrFun (congr (congr (congrArg DenseMath.norm (funext fun k => ?_)) (funext fun k => ?_)) (funext fun k => ?_)) d
  · unfold EvenMath.resid
    refine congrArg₂ (· + ·) (congrArg _ (blk4 m c t p k)) (congrArg₂ (· * ·) ((ldG_at _ k).trans (blk5 m c t p 2 k)) (congrArg₂ (· + ·) ?_ ?_))
    · exact Finset.sum_congr rfl fun j _ => congrArg₂ (· * ·) (blk0 m c t p j) (blk2 m c t j k)
    · exact Finset.sum_congr rfl fun j _ => congrArg₂ (· * ·) (blk1 m c t p j) (blk3 m c t j k)
  · exact (ldN_at _ k).trans (blk6 m c t k)
  · exact (ldN_at _ k).trans (blk7 m c t k)

/-- The whole result. -/
def out (i : S12288x2048.Idx) : EReal := EvenMath.res 0 0 (X0 m c) (X1 m c) (X2 m c) (X3 m c) (X4 m c) (X5 m c) (X6 m c) (i 0) (i 1)

/-- The result's array after the call. -/
theorem final : (dats m 0 c).arrAt 8 (cfgs 0).N = out m c := by
  refine (dats m 0 c).arrAt_eq_of_covers 8 _ (by decide +kernel) fun t hf y => ?_
  blk_simp
  rw [after0_8]
  have hb := bound t
  obtain ⟨-, -, -, -, -, -, -, -, i8⟩ := idx t
  obtain ⟨p, d, rfl⟩ : ∃ (p : Fin 512) (d : Fin 2048), y = ix2 p d := ⟨y 0, y 1, by funext k; fin_cases k <;> rfl⟩
  have hemb : ((View.whole main_v3).slice (win0_8.rect t)).emb (ix2 p d) = ix2 ⟨t.val * 512 + p.val, by omega⟩ d := by
    blk_ext [i8]
  rw [hemb]
  exact at_pt m c t p d

end Cert.EvenIdeal.Hand
end
-- ==== Proof.EvenRef.lean ====
module

public import proofs.«01_k».proof.Proof.Gen.EvenReferenceIdeal.Read
public import Idealize.ShloMosaic.Lib.Pipeline.ValueKit
public import proofs.«01_k».proof.Proof.EvenMath

@[expose] public section

set_option maxRecDepth 16384

noncomputable section

namespace Cert.EvenReferenceIdeal.Hand

open Cert.EvenReferenceIdeal Cert.EvenReferenceIdeal.Gen Cert.EvenReferenceIdeal.Read Idealize.ShloMosaic Idealize.ShloMosaic.TcCoe Idealize.SL.Sem
open Cert.DenseMath

variable (x0 x1 : FVec Ideal S12288x1024 .bf16) (x2 : FVec Ideal S12288x2048 .f32) (x3 : FVec Ideal S4x5x8x2048 .f32) (x4 x5 : FVec Ideal S4x2x2048 .f32)
  (x6 : FVec Ideal S2x2048x2048 .f32)

/-- Row `j` of the modulations, for the rows of the prompt and of the sequences. -/
def modRow (j : Fin 8) (r : Fin 12288) (k : Fin 2048) : EReal :=
  if h : r.val < 4096 then x3 (ix4 0 0 j k) else x3 (ix4 0 ⟨1 + (r.val - 4096) / 2048, by omega⟩ j k)

/-- It is the row of the group. -/
theorem modRow_eq (j : Fin 8) (r : Fin 12288) (k : Fin 2048) : modRow x3 j r k = x3 (ix4 0 ⟨grp r.val, grp_lt r⟩ j k) := by
  unfold modRow
  split
  · rename_i h
    refine congrArg (fun z => x3 (ix4 0 z j k)) (Fin.ext ?_)
    show 0 = grp r.val
    unfold grp; rw [if_pos h]
  · rename_i h
    refine congrArg (fun z => x3 (ix4 0 z j k)) (Fin.ext ?_)
    show 1 + (r.val - 4096) / 2048 = grp r.val
    unfold grp; rw [if_neg h]

/-- The two mixers' rows, side by side. -/
def both (r : Fin 12288) (k : Fin 2048) : EReal := if h : k.val < 1024 then x0 (ix2 r ⟨k.val, h⟩) else x1 (ix2 r ⟨k.val - 1024, by omega⟩)
/-- The reference's concatenation. -/
theorem v0_at (r : Fin 12288) (k : Fin 2048) : val_main_v0 (F := Ideal) x0 x1 (ix2 r k) = both x0 x1 r k := by
  unfold both
  pointwise [val_main_v0]
/-- The sum over the rows side by side is the two sums. -/
theorem both_sum (f : Fin 2048 → EReal) (r : Fin 12288) : ∑ k : Fin 2048, both x0 x1 r k * f k
    = ∑ k : Fin 1024, x0 (ix2 r k) * f ⟨k.val, by omega⟩ + ∑ k : Fin 1024, x1 (ix2 r k) * f ⟨1024 + k.val, by omega⟩ := by
  refine (Fin.sum_univ_add (a := 1024) (b := 1024) fun k => both x0 x1 r k * f k).trans (congrArg₂ (· + ·) ?_ ?_)
  · refine Finset.sum_congr rfl fun k _ => congrArg₂ (· * ·) ?_ rfl
    exact dif_pos k.isLt
  · refine Finset.sum_congr rfl fun k _ => congrArg₂ (· * ·) ?_ rfl
    refine (dif_neg (by show ¬ 1024 + k.val < 1024; omega)).trans (congrArg x1 (congrArg (ix2 r) (Fin.ext ?_)))
    show 1024 + k.val - 1024 = k.val
    omega
/-- The projection of the mixers' rows. -/
theorem v4_at (r : Fin 12288) (d : Fin 2048) : val_main_v4 (F := Ideal) x0 x1 x6 (ix2 r d)
    = ∑ k : Fin 1024, x0 (ix2 r k) * x6 (ix3 0 ⟨k.val, by omega⟩ d) + ∑ k : Fin 1024, x1 (ix2 r k) * x6 (ix3 0 ⟨1024 + k.val, by omega⟩ d) := by
  rw [← both_sum x0 x1 (fun k => x6 (ix3 0 k d)) r]
  simp only [← v0_at]
  pointwise [val_main_v4, val_main_v3, val_main_v2, val_main_v1]
/-- The gates of the rows. -/
theorem v18_at (r : Fin 12288) (k : Fin 2048) : val_main_v18 (F := Ideal) x3 (ix2 r k) = modRow x3 2 r k := by
  unfold modRow
  pointwise [val_main_v18, val_main_v17, val_main_v16, val_main_v15, val_main_v14, val_main_v13, val_main_v12, val_main_v11, val_main_v10, val_main_v9, val_main_v8, val_main_v7]
/-- The residual. -/
theorem v20_at (r : Fin 12288) (d : Fin 2048) : val_main_v20 (F := Ideal) x0 x1 x2 x3 x6 (ix2 r d) = EvenMath.resid 0 0 x0 x1 x2 x3 x6 r d := by
  unfold EvenMath.resid
  rw [← v4_at, ← modRow_eq x3, ← v18_at]
  pointwise [val_main_v20, val_main_v19, val_main_v6, val_main_v5, val_main_cst]
/-- The mean of a row. -/
theorem v28_at (r : Fin 12288) : val_main_v28 (F := Ideal) x0 x1 x2 x3 x6 (ix2 r 0) = mean (fun k => val_main_v20 (F := Ideal) x0 x1 x2 x3 x6 (ix2 r k)) := by
  unfold mean
  pointwise [val_main_v28, val_main_v27, val_main_v26, val_main_v25, val_main_cst_1, val_main_cst_0]
/-- The mean of its squared distances from the mean. -/
theorem v35_at (r : Fin 12288) : val_main_v35 (F := Ideal) x0 x1 x2 x3 x6 (ix2 r 0) = mean (fun k => (val_main_v20 (F := Ideal) x0 x1 x2 x3 x6 (ix2 r k) - val_main_v28 (F := Ideal) x0 x1 x2 x3 x6 (ix2 r 0))
      * (val_main_v20 (F := Ideal) x0 x1 x2 x3 x6 (ix2 r k) - val_main_v28 (F := Ideal) x0 x1 x2 x3 x6 (ix2 r 0))) := by
  unfold mean
  pointwise [val_main_v35, val_main_v34, val_main_v33, val_main_v32, val_main_v31, val_main_v30, val_main_v29, val_main_cst_3, val_main_cst_2]
/-- The result. -/
theorem v48_at (r : Fin 12288) (d : Fin 2048) : val_main_v48 (F := Ideal) x0 x1 x2 x3 x4 x5 x6 (ix2 r d) = EvenMath.res 0 0 x0 x1 x2 x3 x4 x5 x6 r d := by
  have e : EvenMath.resid 0 0 x0 x1 x2 x3 x6 r = fun k => val_main_v20 (F := Ideal) x0 x1 x2 x3 x6 (ix2 r k) := funext fun k => (v20_at x0 x1 x2 x3 x6 r k).symm
  unfold EvenMath.res DenseMath.norm
  rw [e, ← v28_at, ← v35_at]
  pointwise [val_main_v48, val_main_v47, val_main_v46, val_main_v45, val_main_v44, val_main_v43, val_main_v42, val_main_v41, val_main_v40, val_main_v39, val_main_v38,
    val_main_v37, val_main_v36, val_main_v24, val_main_v23, val_main_v22, val_main_v21, val_main_cst_4]

end Cert.EvenReferenceIdeal.Hand
end
-- ==== Proof.EvenLastVal.lean ====
module

public import proofs.«01_k».proof.Proof.Gen.EvenLastIdeal.Frame
public import Idealize.ShloMosaic.Lib.Pipeline.ValueKit
public import Idealize.ShloMosaic.Lib.Pipeline.ReadBack
public import proofs.«01_k».proof.Proof.EvenMath

@[expose] public section

set_option maxRecDepth 16384

noncomputable section

namespace Cert.EvenLastIdeal.Hand

open Cert.EvenLastIdeal Cert.EvenLastIdeal.Gen Idealize.ShloMosaic Idealize.ShloMosaic.TcCoe Idealize.SL.Sem
open Idealize.ShloMosaic.Pipeline (Dat)
open Cert.DenseMath

/-- The rows of a tile: the norm of the residual. -/
theorem pay1_at (o : Vec Ideal S512x1024 .bf16) (w : Vec Ideal S1x1024x2048 .bf16) (o1 : Vec Ideal S512x1024 .bf16) (w1 : Vec Ideal S1x1024x2048 .bf16) (x : Vec Ideal S512x2048 .f32) (gate : Vec Ideal S1x1x1x2048 .f32) (g b : Vec Ideal S1x2048 .f32)
    (p : Fin 512) (d : Fin 2048) : k0_pay1 (F := Ideal) (k0_pay2 g) (k0_pay3 b) (k0_pay4 o w o1 w1 x gate) (k0_pay5 o w o1 w1 x gate) (ix2 p d)
      = DenseMath.norm (fun k => Ideal.ofBits FTy.f32 0x3FD744FD#32 * x (ix2 p k) + gate (ix4 0 0 0 k) * (∑ j : Fin 1024, o (ix2 p j) * w (ix3 0 j k) + ∑ j : Fin 1024, o1 (ix2 p j) * w1 (ix3 0 j k)))
        (fun k => g (ix2 0 k)) (fun k => b (ix2 0 k)) d := by
  unfold DenseMath.norm DenseMath.mean
  pointwise [k0_pay1, k0_pay2, k0_pay3, k0_pay4, k0_pay5]

/-- Where each window's block sits at each point. -/
theorem idx : ∀ t : Fin cfg0.N, win0_0.index t = ![t.val, 0] ∧ win0_1.index t = ![t.val, 0] ∧ win0_2.index t = ![1, 0, 0] ∧ win0_3.index t = ![1, 1, 0] ∧ win0_4.index t = ![t.val, 0]
   ∧ win0_5.index t = ![2, grp (t.val * 512), 0, 0] ∧ win0_6.index t = ![0, 0] ∧ win0_7.index t = ![0, 0] ∧ win0_8.index t = ![t.val, 0] :=
  (by decide +kernel : ∀ t : Fin grid0.N, _)

/-- The gate's row of a group. -/
theorem ldG_at (x : Vec Ideal S1x1x8x2048 .f32) (k : Fin 2048) : View.ld x r0_3 (ix4 0 0 0 k) = x (ix4 0 0 2 k) := by
  unfold r0_3
  pointwise
/-- The norm's row of a layer. -/
theorem ldN_at (x : Vec Ideal S8x2048 .f32) (k : Fin 2048) : View.ld x r0_4 (ix2 0 k) = x (ix2 4 k) := by
  unfold r0_4
  pointwise

variable (m : (ℓ : Loc nD τ sig) → Buf (Elt Ideal) ℓ) (c : Dev nD)

/-- The rows of the first mixer, -/
abbrev X0 : FVec Ideal S12288x1024 .bf16 := m ((c : Thread nD τ).loc main_arg0)
/-- the rows of the second, -/
abbrev X1 : FVec Ideal S12288x1024 .bf16 := m ((c : Thread nD τ).loc main_arg1)
/-- the model's rows, -/
abbrev X2 : FVec Ideal S12288x2048 .f32 := m ((c : Thread nD τ).loc main_arg2)
/-- the modulations, -/
abbrev X3 : FVec Ideal S4x5x8x2048 .f32 := m ((c : Thread nD τ).loc main_arg3)
/-- the norms' weights, -/
abbrev X4 : FVec Ideal S4x2x2048 .f32 := m ((c : Thread nD τ).loc main_arg4)
/-- the norms' offsets, -/
abbrev X5 : FVec Ideal S4x2x2048 .f32 := m ((c : Thread nD τ).loc main_arg5)
/-- and the projection. -/
abbrev X6 : FVec Ideal S2x2048x2048 .f32 := m ((c : Thread nD τ).loc main_arg6)

/-- The norms' weights as the call is given them, -/
theorem v0_read : V m c main_v0 = shapeCast S8x2048 (X4 m c) shapeCasts_S4x2x2048_S8x2048 := by
  unfold V; simp only [hostOps0, List.flatten_cons, List.flatten_nil, List.append_nil, List.cons_append, List.nil_append]; after_results; rfl
/-- their offsets, -/
theorem v1_read : V m c main_v1 = shapeCast S8x2048 (X5 m c) shapeCasts_S4x2x2048_S8x2048 := by
  unfold V; simp only [hostOps0, List.flatten_cons, List.flatten_nil, List.append_nil, List.cons_append, List.nil_append]; after_results; rfl
/-- and the projection. -/
theorem v2_read : (V m c main_v2 : S2x2048x2048.Idx → EReal) = X6 m c := by
  unfold V; simp only [hostOps0, List.flatten_cons, List.flatten_nil, List.append_nil, List.cons_append, List.nil_append]; after_results; rfl

/-- A row of the reshaped weights. -/
theorem cast_at (x : FVec Ideal S4x2x2048 .f32) (k : Fin 2048) : shapeCast S8x2048 x shapeCasts_S4x2x2048_S8x2048 (ix2 4 k) = x (ix3 2 0 k) := by
  pointwise

/-- There are 24 tiles. -/
theorem bound (t : Fin cfg0.N) : t.val < 24 := lt_of_lt_of_eq t.isLt N_0

/-- The row of the model that row `p` of a point's tile is. -/
def row (t : Fin cfg0.N) (p : Fin 512) : Fin 12288 := ⟨t.val * 512 + p.val, by have := bound t; omega⟩

/-- All rows of a tile have one group. -/
theorem grp_row (t : Fin cfg0.N) (p : Fin 512) : grp (t.val * 512) = grp (row t p).val := by
  have := bound t
  have := p.isLt
  unfold row grp
  split
  · rw [if_pos (by show t.val * 512 + p.val < 4096; omega)]
  · rw [if_neg (by show ¬ t.val * 512 + p.val < 4096; omega)]
    show _ = 1 + (t.val * 512 + p.val - 4096) / 2048
    omega

/-- The first mixer's rows of a point. -/
theorem blk0 (t : Fin cfg0.N) (p : Fin 512) (k : Fin 1024) : iblk m c 0 t (ix2 p k) = X0 m c (ix2 (row t p) k) := by
  obtain ⟨i0, -⟩ := idx t
  unfold row
  blk_ext [iblk, V, i0]
/-- The second mixer's. -/
theorem blk1 (t : Fin cfg0.N) (p : Fin 512) (k : Fin 1024) : iblk m c 1 t (ix2 p k) = X1 m c (ix2 (row t p) k) := by
  obtain ⟨-, i1, -⟩ := idx t
  unfold row
  blk_ext [iblk, V, i1]
/-- The projection's upper half. -/
theorem blk2 (t : Fin cfg0.N) (k : Fin 1024) (d : Fin 2048) : iblk m c 2 t (ix3 0 k d) = X6 m c (ix3 1 ⟨k.val, by omega⟩ d) := by
  obtain ⟨-, -, i2, -⟩ := idx t
  refine Eq.trans ?_ (congrFun (v2_read m c) _)
  blk_ext [iblk, i2]
/-- Its lower half. -/
theorem blk3 (t : Fin cfg0.N) (k : Fin 1024) (d : Fin 2048) : iblk m c 3 t (ix3 0 k d) = X6 m c (ix3 1 ⟨1024 + k.val, by omega⟩ d) := by
  obtain ⟨-, -, -, i3, -⟩ := idx t
  refine Eq.trans ?_ (congrFun (v2_read m c) _)
  blk_ext [iblk, i3]
/-- The model's rows of a point. -/
theorem blk4 (t : Fin cfg0.N) (p : Fin 512) (k : Fin 2048) : iblk m c 4 t (ix2 p k) = X2 m c (ix2 (row t p) k) := by
  obtain ⟨-, -, -, -, i4, -⟩ := idx t
  unfold row
  blk_ext [iblk, V, i4]
/-- Their modulations. -/
theorem blk5 (t : Fin cfg0.N) (p : Fin 512) (j : Fin 8) (k : Fin 2048) :
    iblk m c 5 t (ix4 0 0 j k) = X3 m c (ix4 2 ⟨grp (row t p).val, grp_lt (row t p)⟩ j k) := by
  obtain ⟨-, -, -, -, -, i5, -⟩ := idx t
  rw [grp_row t p] at i5
  blk_ext [iblk, V, i5]
/-- The norm's weights. -/
theorem blk6 (t : Fin cfg0.N) (k : Fin 2048) : iblk m c 6 t (ix2 4 k) = X4 m c (ix3 2 0 k) := by
  obtain ⟨-, -, -, -, -, -, i6, -⟩ := idx t
  refine Eq.trans ?_ ((congrFun (v0_read m c) (ix2 4 k)).trans (cast_at _ k))
  blk_ext [iblk, i6]
/-- Its offsets. -/
theorem blk7 (t : Fin cfg0.N) (k : Fin 2048) : iblk m c 7 t (ix2 4 k) = X5 m c (ix3 2 0 k) := by
  obtain ⟨-, -, -, -, -, -, -, i7, -⟩ := idx t
  refine Eq.trans ?_ ((congrFun (v1_read m c) (ix2 4 k)).trans (cast_at _ k))
  blk_ext [iblk, i7]

/-- What a point stores, over its blocks. -/
theorem stored (t : Fin cfg0.N) : out0_8 (iblk m c 0 t) (iblk m c 1 t) (iblk m c 2 t) (iblk m c 3 t) (iblk m c 4 t) (iblk m c 5 t) (iblk m c 6 t) (iblk m c 7 t)
    = k0_pay1 (k0_pay2 (View.ld (iblk m c 6 t) r0_4)) (k0_pay3 (View.ld (iblk m c 7 t) r0_4)) (k0_pay4 (iblk m c 0 t) (iblk m c 2 t) (iblk m c 1 t) (iblk m c 3 t) (iblk m c 4 t) (View.ld (iblk m c 5 t) r0_3))
        (k0_pay5 (iblk m c 0 t) (iblk m c 2 t) (iblk m c 1 t) (iblk m c 3 t) (iblk m c 4 t) (View.ld (iblk m c 5 t) r0_3)) := by
  unfold out0_8; frame_out; rfl

/-- What a point stores. -/
theorem at_pt (t : Fin cfg0.N) (p : Fin 512) (d : Fin 2048) :
    out0_8 (iblk m c 0 t) (iblk m c 1 t) (iblk m c 2 t) (iblk m c 3 t) (iblk m c 4 t) (iblk m c 5 t) (iblk m c 6 t) (iblk m c 7 t) (ix2 p d)
    = EvenMath.res 2 1 (X0 m c) (X1 m c) (X2 m c) (X3 m c) (X4 m c) (X5 m c) (X6 m c) (row t p) d := by
  rw [stored, pay1_at]
  unfold EvenMath.res
  refine congrFun (congr (congr (congrArg DenseMath.norm (funext fun k => ?_)) (funext fun k => ?_)) (funext fun k => ?_)) d
  · unfold EvenMath.resid
    refine congrArg₂ (· + ·) (congrArg _ (blk4 m c t p k)) (congrArg₂ (· * ·) ((ldG_at _ k).trans (blk5 m c t p 2 k)) (congrArg₂ (· + ·) ?_ ?_))
    · exact Finset.sum_congr rfl fun j _ => congrArg₂ (· * ·) (blk0 m c t p j) (blk2 m c t j k)
    · exact Finset.sum_congr rfl fun j _ => congrArg₂ (· * ·) (blk1 m c t p j) (blk3 m c t j k)
  · exact (ldN_at _ k).trans (blk6 m c t k)
  · exact (ldN_at _ k).trans (blk7 m c t k)

/-- The whole result. -/
def out (i : S12288x2048.Idx) : EReal := EvenMath.res 2 1 (X0 m c) (X1 m c) (X2 m c) (X3 m c) (X4 m c) (X5 m c) (X6 m c) (i 0) (i 1)

/-- The result's array after the call. -/
theorem final : (dats m 0 c).arrAt 8 (cfgs 0).N = out m c := by
  refine (dats m 0 c).arrAt_eq_of_covers 8 _ (by decide +kernel) fun t hf y => ?_
  blk_simp
  rw [after0_8]
  have hb := bound t
  obtain ⟨-, -, -, -, -, -, -, -, i8⟩ := idx t
  obtain ⟨p, d, rfl⟩ : ∃ (p : Fin 512) (d : Fin 2048), y = ix2 p d := ⟨y 0, y 1, by funext k; fin_cases k <;> rfl⟩
  have hemb : ((View.whole main_v3).slice (win0_8.rect t)).emb (ix2 p d) = ix2 ⟨t.val * 512 + p.val, by omega⟩ d := by
    blk_ext [i8]
  rw [hemb]
  exact at_pt m c t p d

end Cert.EvenLastIdeal.Hand
end
-- ==== Proof.EvenLastRef.lean ====
module

public import proofs.«01_k».proof.Proof.Gen.EvenLastReferenceIdeal.Read
public import Idealize.ShloMosaic.Lib.Pipeline.ValueKit
public import proofs.«01_k».proof.Proof.EvenMath

@[expose] public section

set_option maxRecDepth 16384

noncomputable section

namespace Cert.EvenLastReferenceIdeal.Hand

open Cert.EvenLastReferenceIdeal Cert.EvenLastReferenceIdeal.Gen Cert.EvenLastReferenceIdeal.Read Idealize.ShloMosaic Idealize.ShloMosaic.TcCoe Idealize.SL.Sem
open Cert.DenseMath

variable (x0 x1 : FVec Ideal S12288x1024 .bf16) (x2 : FVec Ideal S12288x2048 .f32) (x3 : FVec Ideal S4x5x8x2048 .f32) (x4 x5 : FVec Ideal S4x2x2048 .f32)
  (x6 : FVec Ideal S2x2048x2048 .f32)

/-- Row `j` of the modulations, for the rows of the prompt and of the sequences. -/
def modRow (j : Fin 8) (r : Fin 12288) (k : Fin 2048) : EReal :=
  if h : r.val < 4096 then x3 (ix4 2 0 j k) else x3 (ix4 2 ⟨1 + (r.val - 4096) / 2048, by omega⟩ j k)

/-- It is the row of the group. -/
theorem modRow_eq (j : Fin 8) (r : Fin 12288) (k : Fin 2048) : modRow x3 j r k = x3 (ix4 2 ⟨grp r.val, grp_lt r⟩ j k) := by
  unfold modRow
  split
  · rename_i h
    refine congrArg (fun z => x3 (ix4 2 z j k)) (Fin.ext ?_)
    show 0 = grp r.val
    unfold grp; rw [if_pos h]
  · rename_i h
    refine congrArg (fun z => x3 (ix4 2 z j k)) (Fin.ext ?_)
    show 1 + (r.val - 4096) / 2048 = grp r.val
    unfold grp; rw [if_neg h]

/-- The two mixers' rows, side by side. -/
def both (r : Fin 12288) (k : Fin 2048) : EReal := if h : k.val < 1024 then x0 (ix2 r ⟨k.val, h⟩) else x1 (ix2 r ⟨k.val - 1024, by omega⟩)
/-- The reference's concatenation. -/
theorem v0_at (r : Fin 12288) (k : Fin 2048) : val_main_v0 (F := Ideal) x0 x1 (ix2 r k) = both x0 x1 r k := by
  unfold both
  pointwise [val_main_v0]
/-- The sum over the rows side by side is the two sums. -/
theorem both_sum (f : Fin 2048 → EReal) (r : Fin 12288) : ∑ k : Fin 2048, both x0 x1 r k * f k
    = ∑ k : Fin 1024, x0 (ix2 r k) * f ⟨k.val, by omega⟩ + ∑ k : Fin 1024, x1 (ix2 r k) * f ⟨1024 + k.val, by omega⟩ := by
  refine (Fin.sum_univ_add (a := 1024) (b := 1024) fun k => both x0 x1 r k * f k).trans (congrArg₂ (· + ·) ?_ ?_)
  · refine Finset.sum_congr rfl fun k _ => congrArg₂ (· * ·) ?_ rfl
    exact dif_pos k.isLt
  · refine Finset.sum_congr rfl fun k _ => congrArg₂ (· * ·) ?_ rfl
    refine (dif_neg (by show ¬ 1024 + k.val < 1024; omega)).trans (congrArg x1 (congrArg (ix2 r) (Fin.ext ?_)))
    show 1024 + k.val - 1024 = k.val
    omega
/-- The projection of the mixers' rows. -/
theorem v4_at (r : Fin 12288) (d : Fin 2048) : val_main_v4 (F := Ideal) x0 x1 x6 (ix2 r d)
    = ∑ k : Fin 1024, x0 (ix2 r k) * x6 (ix3 1 ⟨k.val, by omega⟩ d) + ∑ k : Fin 1024, x1 (ix2 r k) * x6 (ix3 1 ⟨1024 + k.val, by omega⟩ d) := by
  rw [← both_sum x0 x1 (fun k => x6 (ix3 1 k d)) r]
  simp only [← v0_at]
  pointwise [val_main_v4, val_main_v3, val_main_v2, val_main_v1]
/-- The gates of the rows. -/
theorem v18_at (r : Fin 12288) (k : Fin 2048) : val_main_v18 (F := Ideal) x3 (ix2 r k) = modRow x3 2 r k := by
  unfold modRow
  pointwise [val_main_v18, val_main_v17, val_main_v16, val_main_v15, val_main_v14, val_main_v13, val_main_v12, val_main_v11, val_main_v10, val_main_v9, val_main_v8, val_main_v7]
/-- The residual. -/
theorem v20_at (r : Fin 12288) (d : Fin 2048) : val_main_v20 (F := Ideal) x0 x1 x2 x3 x6 (ix2 r d) = EvenMath.resid 2 1 x0 x1 x2 x3 x6 r d := by
  unfold EvenMath.resid
  rw [← v4_at, ← modRow_eq x3, ← v18_at]
  pointwise [val_main_v20, val_main_v19, val_main_v6, val_main_v5, val_main_cst]
/-- The mean of a row. -/
theorem v28_at (r : Fin 12288) : val_main_v28 (F := Ideal) x0 x1 x2 x3 x6 (ix2 r 0) = mean (fun k => val_main_v20 (F := Ideal) x0 x1 x2 x3 x6 (ix2 r k)) := by
  unfold mean
  pointwise [val_main_v28, val_main_v27, val_main_v26, val_main_v25, val_main_cst_1, val_main_cst_0]
/-- The mean of its squared distances from the mean. -/
theorem v35_at (r : Fin 12288) : val_main_v35 (F := Ideal) x0 x1 x2 x3 x6 (ix2 r 0) = mean (fun k => (val_main_v20 (F := Ideal) x0 x1 x2 x3 x6 (ix2 r k) - val_main_v28 (F := Ideal) x0 x1 x2 x3 x6 (ix2 r 0))
      * (val_main_v20 (F := Ideal) x0 x1 x2 x3 x6 (ix2 r k) - val_main_v28 (F := Ideal) x0 x1 x2 x3 x6 (ix2 r 0))) := by
  unfold mean
  pointwise [val_main_v35, val_main_v34, val_main_v33, val_main_v32, val_main_v31, val_main_v30, val_main_v29, val_main_cst_3, val_main_cst_2]
/-- The result. -/
theorem v48_at (r : Fin 12288) (d : Fin 2048) : val_main_v48 (F := Ideal) x0 x1 x2 x3 x4 x5 x6 (ix2 r d) = EvenMath.res 2 1 x0 x1 x2 x3 x4 x5 x6 r d := by
  have e : EvenMath.resid 2 1 x0 x1 x2 x3 x6 r = fun k => val_main_v20 (F := Ideal) x0 x1 x2 x3 x6 (ix2 r k) := funext fun k => (v20_at x0 x1 x2 x3 x6 r k).symm
  unfold EvenMath.res DenseMath.norm
  rw [e, ← v28_at, ← v35_at]
  pointwise [val_main_v48, val_main_v47, val_main_v46, val_main_v45, val_main_v44, val_main_v43, val_main_v42, val_main_v41, val_main_v40, val_main_v39, val_main_v38,
    val_main_v37, val_main_v36, val_main_v24, val_main_v23, val_main_v22, val_main_v21, val_main_cst_4]

end Cert.EvenLastReferenceIdeal.Hand
end
-- ==== Proof.AttnLastPay.lean ====
module

public import proofs.«01_k».proof.Proof.Gen.AttnLastIdeal.Frame
public import Idealize.ShloMosaic.Lib.Pipeline.ValueKit

@[expose] public section

set_option maxRecDepth 16384

noncomputable section

namespace Cert.AttnLastIdeal.Attn

open Cert.AttnLastIdeal Cert.AttnLastIdeal.Gen Idealize.ShloMosaic Idealize.ShloMosaic.TcCoe Idealize.SL.Sem
open Idealize.ShloMosaic.Pipeline (Dat)

/-- The scores of a head against the new keys: a product over the 128 lanes. -/
theorem pay16_at (a : FVec Ideal S256x128 .bf16) (b : FVec Ideal S2048x128 .bf16) (r : Fin 256) (x : Fin 2048) :
    k0_pay16 a b (ix2 r x) = ∑ k : Fin 128, a (ix2 r k) * b (ix2 x k) := by
  pointwise [k0_pay16]
/-- The scores of a head against the cached keys. -/
theorem pay17_at (a : FVec Ideal S256x128 .bf16) (b : FVec Ideal S256x128 .bf16) (r : Fin 256) (x : Fin 256) :
    k0_pay17 a b (ix2 r x) = ∑ k : Fin 128, a (ix2 r k) * b (ix2 x k) := by
  pointwise [k0_pay17]
/-- The largest score of a row over both groups of keys. -/
theorem pay18_at (a : FVec Ideal S256x128 .bf16) (b : FVec Ideal S2048x128 .bf16) (c : FVec Ideal S256x128 .bf16) (r : Fin 256) :
    k0_pay18 a b c (ix2 r 0) = max (Finset.fold max (Ideal.ofBits FTy.f32 0xFF800000#32) (fun x => k0_pay16 a b (ix2 r x)) Finset.univ)
      (Finset.fold max (Ideal.ofBits FTy.f32 0xFF800000#32) (fun x => k0_pay17 a c (ix2 r x)) Finset.univ) := by
  pointwise [k0_pay18]
/-- The exponentials of the cached keys' scores. -/
theorem pay19_at (a : FVec Ideal S256x128 .bf16) (b : FVec Ideal S2048x128 .bf16) (c : FVec Ideal S256x128 .bf16) (r : Fin 256) (x : Fin 256) :
    k0_pay19 a b c (ix2 r x) = Ideal.exp (k0_pay17 a c (ix2 r x) - k0_pay18 a b c (ix2 r 0)) := by
  pointwise [k0_pay19]
/-- The exponentials of the new keys' scores. -/
theorem pay20_at (a : FVec Ideal S256x128 .bf16) (b : FVec Ideal S2048x128 .bf16) (c : FVec Ideal S256x128 .bf16) (r : Fin 256) (x : Fin 2048) :
    k0_pay20 a b c (ix2 r x) = Ideal.exp (k0_pay16 a b (ix2 r x) - k0_pay18 a b c (ix2 r 0)) := by
  pointwise [k0_pay20]
/-- The reciprocal of a row's sum over both groups. -/
theorem pay21_at (a : FVec Ideal S256x128 .bf16) (b : FVec Ideal S2048x128 .bf16) (c : FVec Ideal S256x128 .bf16) (r : Fin 256) :
    k0_pay21 a b c (ix2 r 0) = Ideal.div 1 (∑ x : Fin 2048, k0_pay20 a b c (ix2 r x) + ∑ x : Fin 256, k0_pay19 a b c (ix2 r x)) := by
  pointwise [k0_pay21]
/-- The probabilities of the new keys. -/
theorem pay22_at (a : FVec Ideal S256x128 .bf16) (b : FVec Ideal S2048x128 .bf16) (c : FVec Ideal S256x128 .bf16) (r : Fin 256) (x : Fin 2048) :
    k0_pay22 a b c (ix2 r x) = k0_pay20 a b c (ix2 r x) * k0_pay21 a b c (ix2 r 0) := by
  pointwise [k0_pay22]
/-- The probabilities of the cached keys. -/
theorem pay23_at (a : FVec Ideal S256x128 .bf16) (b : FVec Ideal S2048x128 .bf16) (c : FVec Ideal S256x128 .bf16) (r : Fin 256) (x : Fin 256) :
    k0_pay23 a b c (ix2 r x) = k0_pay19 a b c (ix2 r x) * k0_pay21 a b c (ix2 r 0) := by
  pointwise [k0_pay23]
/-- The first head's queries: scaled, the second head's lanes zero. -/
theorem pay4_at (a : Vec Ideal S256x128 .f32) (r : Fin 256) (x : Fin 128) :
    k0_pay4 (F := Ideal) a (ix2 r x) = if x.val < 64 then a (ix2 r x) * Ideal.ofBits FTy.f32 0x3E000000#32 else (0 : EReal) := by
  pointwise [k0_pay4, k0_pay3]
  have h : IntOp.cmpi CmpIPredicate.slt (BitVec.ofNat 32 x.val) 64#32 = if x.val < 64 then 1#1 else 0#1 :=
    (by decide +kernel : ∀ v : Fin 128, IntOp.cmpi CmpIPredicate.slt (BitVec.ofNat 32 v.val) 64#32 = if v.val < 64 then 1#1 else 0#1) x
  rw [h]
  split <;> rfl
/-- The second head's queries. -/
theorem pay5_at (a : Vec Ideal S256x128 .f32) (r : Fin 256) (x : Fin 128) :
    k0_pay5 (F := Ideal) a (ix2 r x) = if 64 ≤ x.val then a (ix2 r x) * Ideal.ofBits FTy.f32 0x3E000000#32 else (0 : EReal) := by
  pointwise [k0_pay5, k0_pay3]
  have h : IntOp.cmpi CmpIPredicate.sge (BitVec.ofNat 32 x.val) 64#32 = if 64 ≤ x.val then 1#1 else 0#1 :=
    (by decide +kernel : ∀ v : Fin 128, IntOp.cmpi CmpIPredicate.sge (BitVec.ofNat 32 v.val) 64#32 = if 64 ≤ v.val then 1#1 else 0#1) x
  rw [h]
  split <;> rfl
/-- The keys as they are. -/
theorem pay6_at (a : Vec Ideal S2048x128 .f32)  (j) :
    k0_pay6 (F := Ideal) a j = a j := by
  pointwise [k0_pay6]
/-- The cached keys as they are. -/
theorem pay7_at (a : Vec Ideal S1x1x256x128 .f32) (r : Fin 256) (x : Fin 128) :
    k0_pay7 (F := Ideal) a (ix2 r x) = a (ix4 0 0 r x) := by
  pointwise [k0_pay7]
/-- The factor on the second head, from the four rows of its weights. -/
theorem pay2_at (a : Vec Ideal S1x8x128 .f32) :
    k0_pay2 (F := Ideal) a (ix2 0 0) = Ideal.exp (∑ x : Fin 128, a (ix3 0 0 x) * a (ix3 0 1 x)) - Ideal.exp (∑ x : Fin 128, a (ix3 0 2 x) * a (ix3 0 3 x)) +
      Ideal.ofBits FTy.f32 1057905109#32 := by
  pointwise [k0_pay2]
/-- What a point stores: the difference of the two heads against the values, its norm and factors. -/
theorem pay1_at (l : FVec Ideal S1x1 .f32) (p : FVec Ideal S256x2048 .f32) (pc : FVec Ideal S256x256 .f32) (q : FVec Ideal S256x2048 .f32) (qc : FVec Ideal S256x256 .f32)
    (v : Vec Ideal S2048x128 .f32) (vc : Vec Ideal S1x1x256x128 .f32) (g : Vec Ideal S1x1x128 .f32) (r : Fin 256) (y : Fin 128) (o : Fin 128 → EReal)
    (ho : ∀ e : Fin 128, o e = ∑ x : Fin 2048, (p (ix2 r x) - l (ix2 0 0) * q (ix2 r x)) * v (ix2 x e) +
            ∑ x : Fin 256, (pc (ix2 r x) - l (ix2 0 0) * qc (ix2 r x)) * vc (ix4 0 0 x e)) :
    k0_pay1 (F := Ideal) l p pc q qc v vc g (ix2 r y) = o y * Ideal.rsqrt (Ideal.div (∑ e, o e * o e) (Ideal.ofBits FTy.f32 1124073472#32) + Ideal.ofBits FTy.f32 897988541#32)
      * g (ix3 0 0 y) * Ideal.ofBits FTy.f32 1055083607#32 := by
  rw [show (∑ e, o e * o e) = ∑ e, (∑ x : Fin 2048, (p (ix2 r x) - l (ix2 0 0) * q (ix2 r x)) * v (ix2 x e) +
            ∑ x : Fin 256, (pc (ix2 r x) - l (ix2 0 0) * qc (ix2 r x)) * vc (ix4 0 0 x e)) * (∑ x : Fin 2048, (p (ix2 r x) - l (ix2 0 0) * q (ix2 r x)) * v (ix2 x e) +
            ∑ x : Fin 256, (pc (ix2 r x) - l (ix2 0 0) * qc (ix2 r x)) * vc (ix4 0 0 x e)) from
      Finset.sum_congr rfl fun e _ => by rw [ho e], ho y]
  pointwise [k0_pay1]
/-- The first head's probabilities are the same term as the second's, over the new keys. -/
theorem eq14 (q : Vec Ideal S256x128 .f32) (k : Vec Ideal S2048x128 .f32) (c : FVec Ideal S256x128 .bf16) : k0_pay14 (F := Ideal) (k0_pay4 q) c (k0_pay8 q k) = k0_pay22 (k0_pay4 q) (k0_pay6 k) c := rfl
/-- The same over the cached keys. -/
theorem eq15 (q : Vec Ideal S256x128 .f32) (k : Vec Ideal S2048x128 .f32) (c : FVec Ideal S256x128 .bf16) : k0_pay15 (F := Ideal) (k0_pay4 q) c (k0_pay8 q k) = k0_pay23 (k0_pay4 q) (k0_pay6 k) c := rfl
/-- Where each window's block sits at each point. -/
theorem idx : ∀ t : Fin cfg0.N, win0_0.index t = ![16 + (grid0.coords t 0).val * 8 + (grid0.coords t 2).val, (grid0.coords t 1).val] ∧ win0_1.index t = ![2 + (grid0.coords t 0).val, 16 + (grid0.coords t 1).val]
   ∧ win0_2.index t = ![2 + (grid0.coords t 0).val, 32 + (grid0.coords t 1).val] ∧ win0_3.index t = ![(grid0.coords t 0).val, 1, 0, (grid0.coords t 1).val]  ∧ win0_4.index t = ![(grid0.coords t 0).val, 1, 0, (grid0.coords t 1).val] ∧ win0_5.index t = ![1, 0, 0] ∧ win0_6.index t = ![1, 0, 0] ∧ win0_7.index t = ![16 + (grid0.coords t 0).val * 8 + (grid0.coords t 2).val, (grid0.coords t 1).val] :=
  (by decide +kernel : ∀ t : Fin grid0.N, _)

variable (m : (ℓ : Loc nD τ sig) → Buf (Elt Ideal) ℓ)

/-- The rows of weights the call is given: four rows stacked and padded by zeros. -/
def lamT (x3 x4 x5 x6 : FVec Ideal S2x64 .f32) : FVec Ideal S2x8x128 .f32 :=
  pad S2x8x128 ![0, 0, 0] ![0, 4, 64] ![0, 0, 0]
    (concatenate S2x4x64 1 [⟨S2x1x64, broadcastInDim S2x1x64 ![0, 2] bcast_S2x64_S2x1x64_0_2 x3⟩,
      ⟨S2x1x64, broadcastInDim S2x1x64 ![0, 2] bcast_S2x64_S2x1x64_0_2 x4⟩,
      ⟨S2x1x64, broadcastInDim S2x1x64 ![0, 2] bcast_S2x64_S2x1x64_0_2 x5⟩,
      ⟨S2x1x64, broadcastInDim S2x1x64 ![0, 2] bcast_S2x64_S2x1x64_0_2 x6⟩] concatenates_S2x1x64_S2x1x64_S2x1x64_S2x1x64_S2x4x64_d1)
    (sitofp .f32 (constantI S_ 32 0#32)) pads_S2x4x64_S2x8x128_000_040_0640 h_S_

/-! What the host prepares for the call. -/

/-- The stacked rows of weights. -/
theorem v5_read (c : Dev nD) : V m c main_v5 = lamT (m ((c : Thread nD τ).loc main_arg3)) (m ((c : Thread nD τ).loc main_arg4)) (m ((c : Thread nD τ).loc main_arg5)) (m ((c : Thread nD τ).loc main_arg6)) := by
  unfold V; simp only [hostOps0, hostOps0_1, hostOps0_2, List.flatten_cons, List.flatten_nil, List.append_nil, List.cons_append, List.nil_append]; after_results; rfl
/-- The norm's weights. -/
theorem v6_read (c : Dev nD) : V m c main_v6 = shapeCast S2x1x128 (show FVec Ideal S2x128 .f32 from m ((c : Thread nD τ).loc main_arg7)) shapeCasts_S2x128_S2x1x128 := by
  unfold V; simp only [hostOps0, hostOps0_1, hostOps0_2, List.flatten_cons, List.flatten_nil, List.append_nil, List.cons_append, List.nil_append]; after_results; rfl
/-- The cached keys. -/
theorem v7_read (c : Dev nD) : V m c main_v7 = shapeCast S4x2x256x2048 (show FVec Ideal S4x2x256x32x64 .f32 from m ((c : Thread nD τ).loc main_arg1)) shapeCasts_S4x2x256x32x64_S4x2x256x2048 := by
  unfold V; simp only [hostOps0, hostOps0_1, hostOps0_2, List.flatten_cons, List.flatten_nil, List.append_nil, List.cons_append, List.nil_append]; after_results; rfl
/-- The cached values. -/
theorem v8_read (c : Dev nD) : V m c main_v8 = shapeCast S4x2x256x2048 (show FVec Ideal S4x2x256x16x128 .f32 from m ((c : Thread nD τ).loc main_arg2)) shapeCasts_S4x2x256x16x128_S4x2x256x2048 := by
  unfold V; simp only [hostOps0, hostOps0_1, hostOps0_2, List.flatten_cons, List.flatten_nil, List.append_nil, List.cons_append, List.nil_append]; after_results; rfl
/-- The array whose rows the call replaces. -/
theorem v9_read (c : Dev nD) : V m c main_v9 = m ((c : Thread nD τ).loc main_arg8) := by
  unfold V; simp only [hostOps0, hostOps0_1, hostOps0_2, List.flatten_cons, List.flatten_nil, List.append_nil, List.cons_append, List.nil_append]; after_results; rfl

/-- The stacked rows at an index. -/
theorem lam_at (x3 x4 x5 x6 : FVec Ideal S2x64 .f32) (r : Fin 8) (x : Fin 128) : lamT x3 x4 x5 x6 (ix3 1 r x)
    = if h : r.val < 4 ∧ x.val < 64 then
        (if r.val < 1 then x3 (ix2 1 ⟨x.val, h.2⟩) else if r.val - 1 < 1 then x4 (ix2 1 ⟨x.val, h.2⟩)
          else if r.val - 1 - 1 < 1 then x5 (ix2 1 ⟨x.val, h.2⟩) else x6 (ix2 1 ⟨x.val, h.2⟩))
      else (0 : EReal) := by
  pointwise [lamT]
  have h0 : FloatOps.sitofp (F := Ideal) FTy.f32 (0#32) = (0 : EReal) := by
    show ((((0#32 : BitVec 32).toInt : ℝ)) : EReal) = 0
    simp
  split
  · split
    · rfl
    · split
      · rfl
      · split <;> rfl
  · exact h0
/-- The cached keys of the layer at an index. -/
theorem ck_at (x1 : FVec Ideal S4x2x256x32x64 .f32) (b : Fin 4) (r : Fin 256) (x : Fin 2048) : shapeCast S4x2x256x2048 x1 shapeCasts_S4x2x256x32x64_S4x2x256x2048 (ix4 b 1 r x)
    = x1 (ix5 b 1 r ⟨x.val / 64, by omega⟩ ⟨x.val % 64, by omega⟩) := by
  pointwise []
/-- The cached values of the layer at an index. -/
theorem cv_at (x2 : FVec Ideal S4x2x256x16x128 .f32) (b : Fin 4) (r : Fin 256) (x : Fin 2048) : shapeCast S4x2x256x2048 x2 shapeCasts_S4x2x256x16x128_S4x2x256x2048 (ix4 b 1 r x)
    = x2 (ix5 b 1 r ⟨x.val / 128, by omega⟩ ⟨x.val % 128, by omega⟩) := by
  pointwise []
/-- The norm's weights of the layer at an index. -/
theorem g_at (x7 : FVec Ideal S2x128 .f32) (x : Fin 128) : shapeCast S2x1x128 x7 shapeCasts_S2x128_S2x1x128 (ix3 1 0 x)
    = x7 (ix2 1 x) := by
  pointwise []

end Cert.AttnLastIdeal.Attn
end
-- ==== Proof.AttnLastRef.lean ====
module

public import proofs.«01_k».proof.Proof.Gen.AttnLastReferenceIdeal.Read
public import Idealize.ShloMosaic.Lib.Pipeline.ValueKit
public import proofs.«01_k».proof.Proof.AttnMath

@[expose] public section

set_option maxRecDepth 16384

noncomputable section

namespace Cert.AttnLastReferenceIdeal.Attn

open Cert.AttnLastReferenceIdeal Cert.AttnLastReferenceIdeal.Gen Cert.AttnLastReferenceIdeal.Read Idealize.ShloMosaic Idealize.ShloMosaic.TcCoe Idealize.SL.Sem

variable (x0 : FVec Ideal S12288x6144 .f32) (x1 : FVec Ideal S4x2x256x32x64 .f32) (x2 : FVec Ideal S4x2x256x16x128 .f32) (x3 x4 x5 x6 : FVec Ideal S2x64 .f32) (x7 : FVec Ideal S2x128 .f32) (x8 : FVec Ideal S12288x2048 .bf16)

section
variable {F : FTy → Type} [FloatOps F]

/-- the largest score of each row -/
def rowMaxT (y : FVec F S4x32x2048x2304 .f32) : FVec F S4x32x2048 .f32 :=
  have cst_3 : FVec F S_ .f32 := constant S_ .f32 0xFF800000#32
  have v33 : FVec F S4x32x2048 .f32 := Host.reduce FloatOps.maximumf y cst_3 reducesTo_S4x32x2048x2304_S4x32x2048_d3 h_S_
  v33

/-- that maximum against the least float, as the reference writes it -/
def capT (v33 : FVec F S4x32x2048 .f32) : FVec F S4x32x2048 .f32 :=
  have cst_4 : FVec F S_ .f32 := constant S_ .f32 0xFF800000#32
  have v34 : FVec F S4x32x2048 .f32 := broadcastInDim S4x32x2048 ![] bcast_S_S4x32x2048 cst_4
  have v35 : FVec F S4x32x2048 .f32 := maximumf v34 v33
  v35

/-- the exponential of each score less its row's largest -/
def expT (y : FVec F S4x32x2048x2304 .f32) (v35 : FVec F S4x32x2048 .f32) : FVec F S4x32x2048x2304 .f32 :=
  have v36 : FVec F S4x32x2048x1 .f32 := broadcastInDim S4x32x2048x1 ![0, 1, 2] bcast_S4x32x2048_S4x32x2048x1_0_1_2 v35
  have v37 : FVec F S4x32x2048x2304 .f32 := broadcastInDim S4x32x2048x2304 ![0, 1, 2, 3] bcast_S4x32x2048x1_S4x32x2048x2304_0_1_2_3 v36
  have v38 : FVec F S4x32x2048x2304 .f32 := subf y v37
  have v39 : FVec F S4x32x2048x2304 .f32 := Host.exp v38
  v39

/-- the sum of each row of exponentials -/
def sumT (v39 : FVec F S4x32x2048x2304 .f32) : FVec F S4x32x2048 .f32 :=
  have cst_5 : FVec F S_ .f32 := constant S_ .f32 0x00000000#32
  have v40 : FVec F S4x32x2048 .f32 := Host.reduceAdd v39 cst_5 reducesTo_S4x32x2048x2304_S4x32x2048_d3 h_S_
  v40

/-- each exponential over its row's sum -/
def quotT (v39 : FVec F S4x32x2048x2304 .f32) (v40 : FVec F S4x32x2048 .f32) : FVec F S4x32x2048x2304 .f32 :=
  have v41 : FVec F S4x32x2048x1 .f32 := broadcastInDim S4x32x2048x1 ![0, 1, 2] bcast_S4x32x2048_S4x32x2048x1_0_1_2 v40
  have v42 : FVec F S4x32x2048x2304 .f32 := broadcastInDim S4x32x2048x2304 ![0, 1, 2, 3] bcast_S4x32x2048x1_S4x32x2048x2304_0_1_2_3 v41
  have v43 : FVec F S4x32x2048x2304 .f32 := Host.divf v39 v42
  v43

/-- the difference of the two attentions against the values, rows first -/
def attT (p : FVec F S4x32x2048x2304 .f32) (v : FVec F S4x2304x16x128 .f32) (lam : FVec F S_ .f32) : FVec F S4x2048x16x128 .f32 :=
  have v44 : FVec F S4x16x2x2048x2304 .f32 := shapeCast _ p shapeCasts_S4x32x2048x2304_S4x16x2x2048x2304
  have v45 : FVec F S4x16x1x2048x2304 .f32 := extractStridedSlice S4x16x1x2048x2304 ![0, 0, 0, 0, 0] v44 slices_S4x16x2x2048x2304_S4x16x1x2048x2304_0_0_0_0_0
  have v46 : FVec F S4x16x2048x2304 .f32 := shapeCast _ v45 shapeCasts_S4x16x1x2048x2304_S4x16x2048x2304
  have v47 : FVec F S4x16x1x2048x2304 .f32 := extractStridedSlice S4x16x1x2048x2304 ![0, 0, 1, 0, 0] v44 slices_S4x16x2x2048x2304_S4x16x1x2048x2304_0_0_1_0_0
  have v48 : FVec F S4x16x2048x2304 .f32 := shapeCast _ v47 shapeCasts_S4x16x1x2048x2304_S4x16x2048x2304
  have v49 : FVec F S4x16x2048x2304 .f32 := broadcastInDim S4x16x2048x2304 ![] bcast_S_S4x16x2048x2304 lam
  have v50 : FVec F S4x16x2048x2304 .f32 := mulf v49 v48
  have v51 : FVec F S4x16x2048x2304 .f32 := subf v46 v50
  have v52 : FVec F S4x16x128x2048 .f32 := Host.dotGeneral dot_S4x2304x16x128_S4x16x2048x2304_S4x16x128x2048_1_3_3_2_02_01 none v v51
  have v53 : FVec F S4x2048x16x128 .f32 := transpose S4x2048x16x128 [0, 3, 1, 2] v52 transposes_S4x16x128x2048_S4x2048x16x128_0_3_1_2
  v53

/-- the root-mean-square norm of each head, its weight and the output factor -/
def normT (o : FVec F S4x2048x16x128 .f32) (x7 : FVec F S2x128 .f32) : FVec F S4x2048x16x128 .f32 :=
  have v54 : FVec F S1x128 .f32 := extractStridedSlice S1x128 ![1, 0] (x7) slices_S2x128_S1x128_1_0
  have v55 : FVec F S128 .f32 := shapeCast _ v54 shapeCasts_S1x128_S128
  have v56 : FVec F S4x2048x16x128 .f32 := mulf o o
  have cst_6 : FVec F S_ .f32 := constant S_ .f32 0x00000000#32
  have v57 : FVec F S4x2048x16 .f32 := Host.reduceAdd v56 cst_6 reducesTo_S4x2048x16x128_S4x2048x16_d3 h_S_
  have v58 : FVec F S4x2048x16x1 .f32 := broadcastInDim S4x2048x16x1 ![0, 1, 2] bcast_S4x2048x16_S4x2048x16x1_0_1_2 v57
  have cst_7 : FVec F S_ .f32 := constant S_ .f32 0x43000000#32
  have v59 : FVec F S4x2048x16x1 .f32 := broadcastInDim S4x2048x16x1 ![] bcast_S_S4x2048x16x1 cst_7
  have v60 : FVec F S4x2048x16x1 .f32 := Host.divf v58 v59
  have cst_8 : FVec F S_ .f32 := constant S_ .f32 0x358637BD#32
  have v61 : FVec F S4x2048x16x1 .f32 := broadcastInDim S4x2048x16x1 ![] bcast_S_S4x2048x16x1 cst_8
  have v62 : FVec F S4x2048x16x1 .f32 := addf v60 v61
  have v63 : FVec F S4x2048x16x1 .f32 := Host.rsqrt v62
  have v64 : FVec F S4x2048x16x128 .f32 := broadcastInDim S4x2048x16x128 ![0, 1, 2, 3] bcast_S4x2048x16x1_S4x2048x16x128_0_1_2_3 v63
  have v65 : FVec F S4x2048x16x128 .f32 := mulf o v64
  have v66 : FVec F S1x1x1x128 .f32 := broadcastInDim S1x1x1x128 ![3] bcast_S128_S1x1x1x128_3 v55
  have v67 : FVec F S4x2048x16x128 .f32 := broadcastInDim S4x2048x16x128 ![0, 1, 2, 3] bcast_S1x1x1x128_S4x2048x16x128_0_1_2_3 v66
  have v68 : FVec F S4x2048x16x128 .f32 := mulf v65 v67
  have cst_9 : FVec F S_ .f32 := constant S_ .f32 0x3EE34C57#32
  have v69 : FVec F S4x2048x16x128 .f32 := broadcastInDim S4x2048x16x128 ![] bcast_S_S4x2048x16x128 cst_9
  have v70 : FVec F S4x2048x16x128 .f32 := mulf v68 v69
  v70

/-- the prompt rows as they were, then the latent tokens' rows -/
def outT (o : FVec F S4x2048x16x128 .f32) (x8 : FVec F S12288x2048 .bf16) : FVec F S12288x2048 .bf16 :=
  have v71 : FVec F S4096x2048 .bf16 := extractStridedSlice S4096x2048 ![0, 0] (x8) slices_S12288x2048_S4096x2048_0_0
  have v72 : FVec F S8192x2048 .f32 := shapeCast _ o shapeCasts_S4x2048x16x128_S8192x2048
  have v73 : FVec F S8192x2048 .bf16 := truncf .bf16 v72 bitsLt_bf16_f32
  have v74 : FVec F S12288x2048 .bf16 := concatenate S12288x2048 0 [⟨S4096x2048, v71⟩, ⟨S8192x2048, v73⟩] concatenates_S4096x2048_S8192x2048_S12288x2048_d0
  v74
end

/-! The reference's stages, as the small terms above over the stage before. -/

/-- The row maxima. -/
theorem v35_eq : val_main_v35 (F := Ideal) x0 x1 = capT (F := Ideal) (rowMaxT (F := Ideal) (val_main_v32 (F := Ideal) x0 x1)) := rfl
/-- The exponentials. -/
theorem v39_eq : val_main_v39 (F := Ideal) x0 x1 = expT (F := Ideal) (val_main_v32 (F := Ideal) x0 x1) (val_main_v35 (F := Ideal) x0 x1) := rfl
/-- The probabilities. -/
theorem v43_eq : val_main_v43 (F := Ideal) x0 x1 = quotT (F := Ideal) (val_main_v39 (F := Ideal) x0 x1) (sumT (F := Ideal) (val_main_v39 (F := Ideal) x0 x1)) := rfl
/-- The difference of the two heads against the values. -/
theorem v53_eq : val_main_v53 (F := Ideal) x0 x1 x2 x3 x4 x5 x6 = attT (F := Ideal) (val_main_v43 (F := Ideal) x0 x1) (val_main_v13 (F := Ideal) x0 x2) (val_main_v29 (F := Ideal) x3 x4 x5 x6) := rfl
/-- Its norm and factors. -/
theorem v70_eq : val_main_v70 (F := Ideal) x0 x1 x2 x3 x4 x5 x6 x7 = normT (F := Ideal) (val_main_v53 (F := Ideal) x0 x1 x2 x3 x4 x5 x6) x7 := rfl
/-- The result: the sampled rows replaced. -/
theorem v74_eq : val_main_v74 (F := Ideal) x0 x1 x2 x3 x4 x5 x6 x7 x8 = outT (F := Ideal) (val_main_v70 (F := Ideal) x0 x1 x2 x3 x4 x5 x6 x7) x8 := rfl

/-- A row's largest score. -/
theorem rowMax_at (y : FVec Ideal S4x32x2048x2304 .f32) (b : Fin 4) (H : Fin 32) (r : Fin 2048) :
    rowMaxT y (ix3 b H r) = Finset.fold max (Ideal.ofBits FTy.f32 0xFF800000#32) (fun x => y (ix4 b H r x)) Finset.univ := by
  pointwise [rowMaxT]
/-- The maximum with minus infinity. -/
theorem cap_at (y : FVec Ideal S4x32x2048 .f32) (j : S4x32x2048.Idx) : capT y j = max (Ideal.ofBits FTy.f32 0xFF800000#32) (y j) := by
  pointwise [capT]
/-- An exponential at an index. -/
theorem exp_at (y : FVec Ideal S4x32x2048x2304 .f32) (z : FVec Ideal S4x32x2048 .f32) (b : Fin 4) (H : Fin 32) (r : Fin 2048) (x : Fin 2304) :
    expT y z (ix4 b H r x) = Ideal.exp (y (ix4 b H r x) - z (ix3 b H r)) := by
  pointwise [expT]
/-- A row's sum. -/
theorem sum_at (y : FVec Ideal S4x32x2048x2304 .f32) (b : Fin 4) (H : Fin 32) (r : Fin 2048) : sumT y (ix3 b H r) = ∑ x : Fin 2304, y (ix4 b H r x) := by
  pointwise [sumT]
/-- A probability at an index. -/
theorem quot_at (y : FVec Ideal S4x32x2048x2304 .f32) (z : FVec Ideal S4x32x2048 .f32) (b : Fin 4) (H : Fin 32) (r : Fin 2048) (x : Fin 2304) :
    quotT y z (ix4 b H r x) = Ideal.div (y (ix4 b H r x)) (z (ix3 b H r)) := by
  pointwise [quotT]

/-- The reference's probabilities: the softmax of a row of scores. -/
theorem v43_at (b : Fin 4) (H : Fin 32) (r : Fin 2048) (x : Fin 2304) :
    val_main_v43 (F := Ideal) x0 x1 (ix4 b H r x) = Cert.AttnMath.soft (fun x => val_main_v32 (F := Ideal) x0 x1 (ix4 b H r x)) x := by
  rw [v43_eq, quot_at, sum_at, v39_eq]
  simp only [exp_at, v35_eq, cap_at, rowMax_at, Cert.AttnMath.bits_bot]
  rfl

/-- The reference's scores. -/
theorem v32_at (b : Fin 4) (H : Fin 32) (r : Fin 2048) (x : Fin 2304) : val_main_v32 (F := Ideal) x0 x1 (ix4 b H r x)
    = (∑ d : Fin 64, x0 (ix2 ⟨4096 + (b.val * 2048 + r.val), by omega⟩ ⟨H.val * 64 + d.val, by omega⟩) * val_main_v10 (F := Ideal) x0 x1 (ix4 b x H d))
      * Ideal.ofBits FTy.f32 0x3E000000#32 := by
  pointwise [val_main_v32, val_main_v31, val_main_cst_2, val_main_v30, val_main_v3, val_main_v2, val_main_v1, val_main_v0]

/-- The keys of a sequence: the cache, then the new ones. -/
theorem v10_at (b : Fin 4) (H : Fin 32) (x : Fin 2304) (d : Fin 64) : val_main_v10 (F := Ideal) x0 x1 (ix4 b x H d)
    = if h : x.val < 256 then x1 (ix5 b 1 ⟨x.val, h⟩ H d)
      else x0 (ix2 ⟨4096 + (b.val * 2048 + (x.val - 256)), by omega⟩ ⟨2048 + (H.val * 64 + d.val), by omega⟩) := by
  pointwise [val_main_v10, val_main_v9, val_main_v8, val_main_v5, val_main_v4, val_main_v1, val_main_v0]

/-- The cached keys come first. -/
theorem v10_old (b : Fin 4) (H : Fin 32) (x : Fin 256) (d : Fin 64) : val_main_v10 (F := Ideal) x0 x1 (ix4 b ⟨x.val, by omega⟩ H d)
    = x1 (ix5 b 1 x H d) := by
  rw [v10_at, dif_pos x.isLt]
/-- Then the new ones. -/
theorem v10_new (b : Fin 4) (H : Fin 32) (x : Fin 2048) (d : Fin 64) : val_main_v10 (F := Ideal) x0 x1 (ix4 b ⟨256 + x.val, by omega⟩ H d)
    = x0 (ix2 ⟨4096 + (b.val * 2048 + x.val), by omega⟩ ⟨2048 + (H.val * 64 + d.val), by omega⟩) := by
  rw [v10_at, dif_neg (show ¬ (256 + x.val < 256) by omega)]
  congr 3
  simp

/-- The values of a sequence: the cache, then the new ones. -/
theorem v13_at (b : Fin 4) (h : Fin 16) (x : Fin 2304) (e : Fin 128) : val_main_v13 (F := Ideal) x0 x2 (ix4 b x h e)
    = if hx : x.val < 256 then x2 (ix5 b 1 ⟨x.val, hx⟩ h e)
      else x0 (ix2 ⟨4096 + (b.val * 2048 + (x.val - 256)), by omega⟩ ⟨4096 + (h.val * 128 + e.val), by omega⟩) := by
  pointwise [val_main_v13, val_main_v12, val_main_v11, val_main_v7, val_main_v6, val_main_v1, val_main_v0]
/-- The cached values come first. -/
theorem v13_old (b : Fin 4) (h : Fin 16) (x : Fin 256) (e : Fin 128) : val_main_v13 (F := Ideal) x0 x2 (ix4 b ⟨x.val, by omega⟩ h e)
    = x2 (ix5 b 1 x h e) := by
  rw [v13_at, dif_pos x.isLt]
/-- Then the new ones. -/
theorem v13_new (b : Fin 4) (h : Fin 16) (x : Fin 2048) (e : Fin 128) : val_main_v13 (F := Ideal) x0 x2 (ix4 b ⟨256 + x.val, by omega⟩ h e)
    = x0 (ix2 ⟨4096 + (b.val * 2048 + x.val), by omega⟩ ⟨4096 + (h.val * 128 + e.val), by omega⟩) := by
  rw [v13_at, dif_neg (show ¬ (256 + x.val < 256) by omega)]
  congr 3
  simp

/-- The factor on the second head. -/
theorem v29_at : val_main_v29 (F := Ideal) x3 x4 x5 x6 ix0 = Ideal.exp (∑ x : Fin 64, x3 (ix2 1 x) * x4 (ix2 1 x)) - Ideal.exp (∑ x : Fin 64, x5 (ix2 1 x) * x6 (ix2 1 x)) +
      Ideal.ofBits FTy.f32 1057905109#32 := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_1, val_main_cst, val_main_cst_0]

/-- Head `2h` less the factor times head `2h+1`, against the values. -/
theorem att_at (p : FVec Ideal S4x32x2048x2304 .f32) (v : FVec Ideal S4x2304x16x128 .f32) (lam : FVec Ideal S_ .f32) (b : Fin 4) (r : Fin 2048) (h : Fin 16) (e : Fin 128) :
    attT p v lam (ix4 b r h e) = ∑ x : Fin 2304, v (ix4 b x h e) *
        (p (ix4 b ⟨h.val * 2, by omega⟩ r x) - lam ix0 * p (ix4 b ⟨h.val * 2 + 1, by omega⟩ r x)) := by
  pointwise [attT]
/-- The norm over a head's 128 numbers. -/
theorem norm_at (o : FVec Ideal S4x2048x16x128 .f32) (x7 : FVec Ideal S2x128 .f32) (b : Fin 4) (r : Fin 2048) (h : Fin 16) (e : Fin 128) :
    normT o x7 (ix4 b r h e) = o (ix4 b r h e) * Ideal.rsqrt
            (Ideal.div (∑ x : Fin 128, o (ix4 b r h x) * o (ix4 b r h x))
                (Ideal.ofBits FTy.f32 1124073472#32) + Ideal.ofBits FTy.f32 897988541#32) * x7 (ix2 1 e) * Ideal.ofBits FTy.f32 1055083607#32 := by
  pointwise [normT]
/-- The first 4096 rows are the given ones. -/
theorem out_at (o : FVec Ideal S4x2048x16x128 .f32) (i : Fin 12288) (k : Fin 2048) : outT o x8 (ix2 i k)
    = if i.val < 4096 then x8 (ix2 i k)
      else o (ix4 ⟨(i.val - 4096) / 2048, by omega⟩ ⟨(i.val - 4096) % 2048, by omega⟩ ⟨k.val / 128, by omega⟩ ⟨k.val % 128, by omega⟩) := by
  pointwise [outT]
  split <;> rfl
end Cert.AttnLastReferenceIdeal.Attn
end
end
-- ==== Proof.AttnLastPre.lean ====
module

public import proofs.«01_k».proof.Pre_finite_scores_last
public import proofs.«01_k».proof.Proof.Gen.Pre_finite_scores_last
public import proofs.«01_k».proof.Proof.AttnMath
public import Idealize.ShloMosaic.Lib.ReduceAll
public import Idealize.ShloMosaic.Lib.Pipeline.ValueKit

@[expose] public section

noncomputable section

namespace Cert.Pre_finite_scores_last.Attn

open Cert.Pre_finite_scores_last Idealize.ShloMosaic
open Cert.AttnMath (Fin')

/-- Where the comparison with infinity answers true, the number is finite. -/
theorem finite_of_lt {x : EReal} (h : Ideal.cmp .olt (max x (-x)) (Ideal.ofBits .f32 0x7F800000#32) = 1#1) : Fin' x := by
  rw [Cert.AttnMath.bits_top] at h
  have h' : max x (-x) < ⊤ := by
    by_contra hn
    simp [Ideal.cmp, hn] at h
  refine ⟨fun e => ?_, fun e => ?_⟩ <;> simp [e] at h'

/-- The comparison the precondition makes of a projected number. -/
theorem cmp_at2 (x : FVec Ideal S12288x6144 .f32) (h1) (h2) (r : Fin 8192) (k : Fin 4096) :
    cmpf .olt (Host.absf (extractStridedSlice S8192x4096 ![4096, 0] x h1)) (broadcastInDim S8192x4096 ![] h2 (constant (F := Ideal) S_ .f32 0x7F800000#32)) (ix2 r k)
      = Ideal.cmp .olt (max (x (ix2 ⟨4096 + r.val, by omega⟩ ⟨k.val, by omega⟩)) (-(x (ix2 ⟨4096 + r.val, by omega⟩ ⟨k.val, by omega⟩)))) (Ideal.ofBits .f32 0x7F800000#32) := by
  pointwise []
  rfl

/-- The comparison it makes of a cached key. -/
theorem cmp_at4 (x : FVec Ideal S4x2x256x32x64 .f32) (h1) (h2) (h3) (b : Fin 4) (r : Fin 256) (H : Fin 32) (d : Fin 64) :
    cmpf .olt (Host.absf (shapeCast S4x256x32x64 (extractStridedSlice S4x1x256x32x64 ![0, 1, 0, 0, 0] x h1) h3)) (broadcastInDim S4x256x32x64 ![] h2 (constant (F := Ideal) S_ .f32 0x7F800000#32)) (ix4 b r H d)
      = Ideal.cmp .olt (max (x (ix5 b 1 r H d)) (-(x (ix5 b 1 r H d)))) (Ideal.ofBits .f32 0x7F800000#32) := by
  pointwise []
  rfl

/-- The precondition read: the queries, the new keys and the cached keys of the layer are finite. -/
theorem finite (x0 : FVec Ideal S12288x6144 .f32) (x1 : FVec Ideal S4x2x256x32x64 .f32) (x2 : FVec Ideal S4x2x256x16x128 .f32)
    (x3 x4 x5 x6 : FVec Ideal S2x64 .f32) (x7 : FVec Ideal S2x128 .f32) (x8 : FVec Ideal S12288x2048 .bf16)
    (hp : fn (F := Ideal) x0 x1 x2 x3 x4 x5 x6 x7 x8 = fun _ => 1#1) :
    (∀ (r : Fin 8192) (k : Fin 4096), Fin' (x0 (ix2 ⟨4096 + r.val, by omega⟩ ⟨k.val, by omega⟩)))
      ∧ ∀ (b : Fin 4) (r : Fin 256) (H : Fin 32) (d : Fin 64), Fin' (x1 (ix5 b 1 r H d)) := by
  have h : ∀ a b : BitVec 1, IntOp.andi a b = 1#1 → a = 1#1 ∧ b = 1#1 := by decide
  haveI : Subsingleton S_.Idx := ⟨fun a b => funext fun k => k.elim0⟩
  obtain ⟨ha, hb⟩ := h _ _ (congrFun hp ix0)
  refine ⟨fun r k => finite_of_lt ?_, fun b r H d => finite_of_lt ?_⟩
  · rw [← cmp_at2 x0 Facts.slices_S12288x6144_S8192x4096_4096_0 Facts.bcast_S_S8192x4096]
    exact Host.reduce_andi_all _ _ _ _ _ ha _
  · rw [← cmp_at4 x1 Facts.slices_S4x2x256x32x64_S4x1x256x32x64_0_1_0_0_0 Facts.bcast_S_S4x256x32x64 Facts.shapeCasts_S4x1x256x32x64_S4x256x32x64]
    exact Host.reduce_andi_all _ _ _ _ _ hb _

end Cert.Pre_finite_scores_last.Attn
end
end
-- ==== Proof.AttnLastValue.lean ====
module

public import proofs.«01_k».proof.Proof.AttnLastPay
public import proofs.«01_k».proof.Proof.AttnLastRef

@[expose] public section

set_option maxRecDepth 16384

noncomputable section

namespace Cert.AttnLastIdeal.Attn

open Cert.AttnLastIdeal Cert.AttnLastIdeal.Gen Idealize.ShloMosaic Idealize.ShloMosaic.TcCoe Idealize.SL.Sem
open Idealize.ShloMosaic.Pipeline (Dat)
open Cert.AttnMath
open Cert.AttnLastReferenceIdeal.Read (val_main_v32 val_main_v43 val_main_v53 val_main_v70 val_main_v74 val_main_v13 val_main_v29)
open Cert.AttnLastReferenceIdeal.Attn (v32_at v43_at v10_old v10_new v13_old v13_new v29_at v53_eq v70_eq v74_eq att_at norm_at out_at)

/-- Where the two products of a row are the two parts of one row `u` of finite scores, the kernel's
    probabilities are the softmax of `u`. -/
theorem probs (a : FVec Ideal S256x128 .bf16) (K : FVec Ideal S2048x128 .bf16) (C : FVec Ideal S256x128 .bf16) (r : Fin 256)
    (u : Fin 2304 → EReal) (hu : ∀ x, Fin' (u x))
    (hn : ∀ x : Fin 2048, k0_pay16 a K (ix2 r x) = u ⟨256 + x.val, by omega⟩)
    (ho : ∀ x : Fin 256, k0_pay17 a C (ix2 r x) = u ⟨x.val, by omega⟩) :
    (∀ x : Fin 2048, k0_pay22 a K C (ix2 r x) = soft u ⟨256 + x.val, by omega⟩)
      ∧ ∀ x : Fin 256, k0_pay23 a K C (ix2 r x) = soft u ⟨x.val, by omega⟩ := by
  have h18 : k0_pay18 a K C (ix2 r 0) = top (fun x => u ⟨256 + x.val, by omega⟩) (fun x => u ⟨x.val, by omega⟩) := by
    rw [pay18_at, bits_bot]
    unfold top
    congr 1
    · congr 1; funext x; exact hn x
    · congr 1; funext x; exact ho x
  have h21 : k0_pay21 a K C (ix2 r 0) = AttnMath.inv (fun x => u ⟨256 + x.val, by omega⟩) (fun x => u ⟨x.val, by omega⟩) := by
    have e1 : ∑ x, k0_pay20 a K C (ix2 r x) = ∑ x : Fin 2048, Ideal.exp (u ⟨256 + x.val, by omega⟩ - top (fun x => u ⟨256 + x.val, by omega⟩) (fun x => u ⟨x.val, by omega⟩)) :=
      Finset.sum_congr rfl fun x _ => by rw [pay20_at, h18, hn]
    have e2 : ∑ x, k0_pay19 a K C (ix2 r x) = ∑ x : Fin 256, Ideal.exp (u ⟨x.val, by omega⟩ - top (fun x => u ⟨256 + x.val, by omega⟩) (fun x => u ⟨x.val, by omega⟩)) :=
      Finset.sum_congr rfl fun x _ => by rw [pay19_at, h18, ho]
    rw [pay21_at, e1, e2]
    rfl
  exact ⟨fun x => by rw [pay22_at, pay20_at, h18, h21, hn, soft_eq u hu],
    fun x => by rw [pay23_at, pay19_at, h18, h21, ho, soft_eq u hu]⟩

section
variable (x0 : FVec Ideal S12288x6144 .f32) (x1 : FVec Ideal S4x2x256x32x64 .f32) (x2 : FVec Ideal S4x2x256x16x128 .f32)
  (x3 x4 x5 x6 : FVec Ideal S2x64 .f32) (x7 : FVec Ideal S2x128 .f32) (x8 : FVec Ideal S12288x2048 .bf16)

/-- The finiteness of what the scores are taken from. -/
def Finite : Prop := (∀ (r : Fin 8192) (k : Fin 4096), Fin' (x0 (ix2 ⟨4096 + r.val, by omega⟩ ⟨k.val, by omega⟩)))
      ∧ ∀ (b : Fin 4) (r : Fin 256) (H : Fin 32) (d : Fin 64), Fin' (x1 (ix5 b 1 r H d))

/-- A score against a cached key. -/
theorem u_old (b : Fin 4) (H : Fin 32) (r : Fin 2048) (x : Fin 256) : val_main_v32 (F := Ideal) x0 x1 (ix4 b H r ⟨x.val, by omega⟩)
    = (∑ d : Fin 64, x0 (ix2 ⟨4096 + (b.val * 2048 + r.val), by omega⟩ ⟨H.val * 64 + d.val, by omega⟩) * x1 (ix5 b 1 x H d)) * Ideal.ofBits FTy.f32 0x3E000000#32 := by
  rw [v32_at]
  simp only [v10_old]
/-- A score against a new key. -/
theorem u_new (b : Fin 4) (H : Fin 32) (r : Fin 2048) (x : Fin 2048) : val_main_v32 (F := Ideal) x0 x1 (ix4 b H r ⟨256 + x.val, by omega⟩)
    = (∑ d : Fin 64, x0 (ix2 ⟨4096 + (b.val * 2048 + r.val), by omega⟩ ⟨H.val * 64 + d.val, by omega⟩)
        * x0 (ix2 ⟨4096 + (b.val * 2048 + x.val), by omega⟩ ⟨2048 + (H.val * 64 + d.val), by omega⟩)) * Ideal.ofBits FTy.f32 0x3E000000#32 := by
  rw [v32_at]
  simp only [v10_new]

/-- The scores are finite. -/
theorem u_finite (hf : Finite x0 x1) (b : Fin 4) (H : Fin 32) (r : Fin 2048) (x : Fin 2304) : Fin' (val_main_v32 (F := Ideal) x0 x1 (ix4 b H r x)) := by
  rcases Nat.lt_or_ge x.val 256 with h | h
  · refine (show Fin' (val_main_v32 (F := Ideal) x0 x1 (ix4 b H r ⟨(⟨x.val, h⟩ : Fin 256).val, by omega⟩)) from ?_)
    rw [u_old]
    exact (Fin'.sum _ fun d => (hf.1 ⟨b.val * 2048 + r.val, by omega⟩ ⟨H.val * 64 + d.val, by omega⟩).mul (hf.2 b _ H d)).mul bits_scale.2
  · have e : x = ⟨256 + (⟨x.val - 256, by omega⟩ : Fin 2048).val, by omega⟩ := Fin.ext (by simp; omega)
    rw [e, u_new]
    exact (Fin'.sum _ fun d => (hf.1 ⟨b.val * 2048 + r.val, by omega⟩ ⟨H.val * 64 + d.val, by omega⟩).mul
      (hf.1 ⟨b.val * 2048 + (x.val - 256), by omega⟩ ⟨2048 + (H.val * 64 + d.val), by omega⟩)).mul bits_scale.2

/-- One point's block: what the body stores from its blocks is the reference's normalised attention. -/
theorem tile (b : Fin 4) (h : Fin 16) (i : Fin 8) (q : Vec Ideal S256x128 .f32) (k v : Vec Ideal S2048x128 .f32)
    (kc vc : Vec Ideal S1x1x256x128 .f32) (l : Vec Ideal S1x8x128 .f32) (g : Vec Ideal S1x1x128 .f32) (hf : Finite x0 x1)
    (hq : ∀ (r : Fin 256) (x : Fin 128), q (ix2 r x) = x0 (ix2 ⟨4096 + (b.val * 2048 + (i.val * 256 + r.val)), by omega⟩ ⟨h.val * 128 + x.val, by omega⟩))
    (hk : ∀ (r : Fin 2048) (x : Fin 128), k (ix2 r x) = x0 (ix2 ⟨4096 + (b.val * 2048 + r.val), by omega⟩ ⟨2048 + (h.val * 128 + x.val), by omega⟩))
    (hv : ∀ (r : Fin 2048) (x : Fin 128), v (ix2 r x) = x0 (ix2 ⟨4096 + (b.val * 2048 + r.val), by omega⟩ ⟨4096 + (h.val * 128 + x.val), by omega⟩))
    (hkc : ∀ (r : Fin 256) (x : Fin 128), kc (ix4 0 0 r x) = x1 (ix5 b 1 r ⟨(h.val * 128 + x.val) / 64, by omega⟩ ⟨(h.val * 128 + x.val) % 64, by omega⟩))
    (hvc : ∀ (r : Fin 256) (x : Fin 128), vc (ix4 0 0 r x) = x2 (ix5 b 1 r h x))
    (hl : ∀ (r : Fin 8) (x : Fin 128), l (ix3 0 r x) = lamT x3 x4 x5 x6 (ix3 1 r x))
    (hg : ∀ x : Fin 128, g (ix3 0 0 x) = x7 (ix2 1 x)) (r : Fin 256) (e : Fin 128) :
    k0_pay1 (F := Ideal) (k0_pay2 l) (k0_pay14 (k0_pay4 q) (k0_pay7 kc) (k0_pay8 q k)) (k0_pay15 (k0_pay4 q) (k0_pay7 kc) (k0_pay8 q k))
        (k0_pay22 (k0_pay5 q) (k0_pay6 k) (k0_pay7 kc)) (k0_pay23 (k0_pay5 q) (k0_pay6 k) (k0_pay7 kc)) v vc g (ix2 r e)
      = val_main_v70 (F := Ideal) x0 x1 x2 x3 x4 x5 x6 x7 (ix4 b ⟨i.val * 256 + r.val, by omega⟩ h e) := by
  obtain ⟨P1, P1c⟩ := probs (k0_pay4 q) (k0_pay6 k) (k0_pay7 kc) r
    (fun x => val_main_v32 (F := Ideal) x0 x1 (ix4 b ⟨h.val * 2, by omega⟩ ⟨i.val * 256 + r.val, by omega⟩ x)) (fun x => u_finite x0 x1 hf _ _ _ x)
    (fun x => by
      rw [pay16_at]
      simp only [pay4_at, pay6_at]
      rw [score_lo (fun x => q (ix2 r x)) (fun y => k (ix2 x y)) bits_scale.1 bits_scale.2.1, u_new]
      refine congrArg (· * _) (Finset.sum_congr rfl fun d _ => ?_)
      rw [hq, hk]
      congr 3 <;> exact Fin.ext (by simp; omega))
    (fun x => by
      rw [pay17_at]
      simp only [pay4_at, pay7_at]
      rw [score_lo (fun x => q (ix2 r x)) (fun y => kc (ix4 0 0 x y)) bits_scale.1 bits_scale.2.1, u_old]
      refine congrArg (· * _) (Finset.sum_congr rfl fun d _ => ?_)
      rw [hq, hkc]
      congr 3 <;> exact Fin.ext (by simp; omega))
  obtain ⟨P2, P2c⟩ := probs (k0_pay5 q) (k0_pay6 k) (k0_pay7 kc) r
    (fun x => val_main_v32 (F := Ideal) x0 x1 (ix4 b ⟨h.val * 2 + 1, by omega⟩ ⟨i.val * 256 + r.val, by omega⟩ x)) (fun x => u_finite x0 x1 hf _ _ _ x)
    (fun x => by
      rw [pay16_at]
      simp only [pay5_at, pay6_at]
      rw [score_hi (fun x => q (ix2 r x)) (fun y => k (ix2 x y)) bits_scale.1 bits_scale.2.1, u_new]
      refine congrArg (· * _) (Finset.sum_congr rfl fun d _ => ?_)
      rw [hq, hk]
      congr 3 <;> exact Fin.ext (by simp; omega))
    (fun x => by
      rw [pay17_at]
      simp only [pay5_at, pay7_at]
      rw [score_hi (fun x => q (ix2 r x)) (fun y => kc (ix4 0 0 x y)) bits_scale.1 bits_scale.2.1, u_old]
      refine congrArg (· * _) (Finset.sum_congr rfl fun d _ => ?_)
      rw [hq, hkc]
      congr 3 <;> exact Fin.ext (by simp; omega))
  have hlam : k0_pay2 (F := Ideal) l (ix2 0 0) = val_main_v29 (F := Ideal) x3 x4 x5 x6 ix0 := by
    rw [pay2_at, v29_at]
    simp only [hl, lam_at, sum_lanes]
    simp
  rw [eq14, eq15, pay1_at _ _ _ _ _ v vc g r e
    (fun e => val_main_v53 (F := Ideal) x0 x1 x2 x3 x4 x5 x6 (ix4 b ⟨i.val * 256 + r.val, by omega⟩ h e)) (fun e => by
      rw [v53_eq, att_at, sum_keys, hlam]
      congr 1
      · refine Finset.sum_congr rfl fun x _ => ?_
        rw [v13_new, v43_at, v43_at, P1, P2, hv, mul_comm]
      · refine Finset.sum_congr rfl fun x _ => ?_
        rw [v13_old, v43_at, v43_at, P1c, P2c, hvc, mul_comm]), hg, v70_eq, norm_at]

end

variable (m : (ℓ : Loc nD τ sig) → Buf (Elt Ideal) ℓ)

/-- The sequences. -/
theorem bound0 (t : Fin cfg0.N) : (grid0.coords t 0).val < 4 := (grid0.coords t 0).isLt
/-- The pairs of heads. -/
theorem bound1 (t : Fin cfg0.N) : (grid0.coords t 1).val < 16 := (grid0.coords t 1).isLt
/-- The tiles of queries. -/
theorem bound2 (t : Fin cfg0.N) : (grid0.coords t 2).val < 8 := (grid0.coords t 2).isLt

/-- The queries of a point. -/
theorem blk0 (c : Dev nD) (t : Fin cfg0.N) (r : Fin 256) (x : Fin 128) : iblk m c 0 t (ix2 r x) = m ((c : Thread nD τ).loc main_arg0)
    (ix2 ⟨4096 + ((grid0.coords t 0).val * 2048 + ((grid0.coords t 2).val * 256 + r.val)), by have := bound0 t; have := bound2 t; omega⟩
      ⟨(grid0.coords t 1).val * 128 + x.val, by have := bound1 t; omega⟩) := by
  obtain ⟨i0, -⟩ := idx t
  have := bound0 t; have := bound1 t; have := bound2 t
  blk_ext [iblk, V, i0]
/-- The new keys of a point. -/
theorem blk1 (c : Dev nD) (t : Fin cfg0.N) (r : Fin 2048) (x : Fin 128) : iblk m c 1 t (ix2 r x) = m ((c : Thread nD τ).loc main_arg0)
    (ix2 ⟨4096 + ((grid0.coords t 0).val * 2048 + r.val), by have := bound0 t; omega⟩
      ⟨2048 + ((grid0.coords t 1).val * 128 + x.val), by have := bound1 t; omega⟩) := by
  obtain ⟨-, i1, -⟩ := idx t
  have := bound0 t; have := bound1 t
  blk_ext [iblk, V, i1]
/-- The new values of a point. -/
theorem blk2 (c : Dev nD) (t : Fin cfg0.N) (r : Fin 2048) (x : Fin 128) : iblk m c 2 t (ix2 r x) = m ((c : Thread nD τ).loc main_arg0)
    (ix2 ⟨4096 + ((grid0.coords t 0).val * 2048 + r.val), by have := bound0 t; omega⟩
      ⟨4096 + ((grid0.coords t 1).val * 128 + x.val), by have := bound1 t; omega⟩) := by
  obtain ⟨-, -, i2, -⟩ := idx t
  have := bound0 t; have := bound1 t
  blk_ext [iblk, V, i2]
/-- The cached keys of a point. -/
theorem blk3 (c : Dev nD) (t : Fin cfg0.N) (r : Fin 256) (x : Fin 128) : iblk m c 3 t (ix4 0 0 r x) = V m c main_v7
    (ix4 (grid0.coords t 0) 1 r ⟨(grid0.coords t 1).val * 128 + x.val, by have := bound1 t; omega⟩) := by
  obtain ⟨-, -, -, i3, -⟩ := idx t
  have := bound0 t; have := bound1 t
  blk_ext [iblk, i3]
/-- The cached values of a point. -/
theorem blk4 (c : Dev nD) (t : Fin cfg0.N) (r : Fin 256) (x : Fin 128) : iblk m c 4 t (ix4 0 0 r x) = V m c main_v8
    (ix4 (grid0.coords t 0) 1 r ⟨(grid0.coords t 1).val * 128 + x.val, by have := bound1 t; omega⟩) := by
  obtain ⟨-, -, -, -, i4, -⟩ := idx t
  have := bound0 t; have := bound1 t
  blk_ext [iblk, i4]
/-- The rows of weights. -/
theorem blk5 (c : Dev nD) (t : Fin cfg0.N) (r : Fin 8) (x : Fin 128) : iblk m c 5 t (ix3 0 r x) = V m c main_v5 (ix3 1 r x) := by
  obtain ⟨-, -, -, -, -, i5, -⟩ := idx t
  blk_ext [iblk, i5]
/-- The norm's weights. -/
theorem blk6 (c : Dev nD) (t : Fin cfg0.N) (x : Fin 128) : iblk m c 6 t (ix3 0 0 x) = V m c main_v6 (ix3 1 0 x) := by
  obtain ⟨-, -, -, -, -, -, i6, -⟩ := idx t
  blk_ext [iblk, i6]

/-- The results array after the call: the normalised attention on the sampled rows, the given array on the others. -/
theorem final (c : Dev nD) (hf : Finite (m ((c : Thread nD τ).loc main_arg0)) (m ((c : Thread nD τ).loc main_arg1))) :
    (dats m 0 c).arrAt 7 (cfgs 0).N = val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  have hfin : (dats m 0 c).arrAt 7 (cfgs 0).N = fun i => if 4096 ≤ (i 0 : ℕ) then val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) i else V m c main_v9 i := by
    refine (dats m 0 c).arrAt_eq_of_coversWhere 7 _ (fun β => 16 ≤ β 0) (by decide +kernel) (fun t hf' y => ?_)
      (fun j => by blk_simp [Pipeline.Window.cell_apply]; omega)
    blk_simp; rw [after0_7]; unfold outsAt0; frame_out
    obtain ⟨-, -, -, -, -, -, -, i7⟩ := idx t
    have t0 : (grid0.coords t 0).val < 4 := (grid0.coords t 0).isLt
    have t1 : (grid0.coords t 1).val < 16 := (grid0.coords t 1).isLt
    have t2 : (grid0.coords t 2).val < 8 := (grid0.coords t 2).isLt
    obtain ⟨r, e, rfl⟩ : ∃ (r : Fin 256) (e : Fin 128), y = ix2 r e := ⟨y 0, y 1, by funext k; fin_cases k <;> rfl⟩
    have hemb : ((View.whole main_v9).slice (win0_7.rect t)).emb (ix2 r e)
        = ix2 ⟨4096 + ((grid0.coords t 0).val * 2048 + ((grid0.coords t 2).val * 256 + r.val)), by omega⟩ ⟨(grid0.coords t 1).val * 128 + e.val, by omega⟩ := by
      blk_ext [i7]
    rw [hemb, v74_eq, out_at, if_neg (by show ¬ (4096 + _ < 4096); omega)]
    refine (tile (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (grid0.coords t 0) (grid0.coords t 1) (grid0.coords t 2) _ _ _ _ _ _ _ hf
      (fun r x => ?_) (fun r x => ?_) (fun r x => ?_) (fun r x => ?_) (fun r x => ?_) (fun r x => ?_) (fun x => ?_) r e).trans ?_
    · exact blk0 m c t r x
    · exact blk1 m c t r x
    · exact blk2 m c t r x
    · rw [blk3, v7_read]
      exact ck_at _ _ _ _
    · rw [blk4, v8_read]
      refine (cv_at _ _ _ _).trans (congrArg (m ((c : Thread nD τ).loc main_arg2)) ?_)
      have h1 : ((grid0.coords t 1).val * 128 + x.val) / 128 = (grid0.coords t 1).val := by omega
      have h2 : ((grid0.coords t 1).val * 128 + x.val) % 128 = x.val := by omega
      exact congrArg₂ (fun a b => ix5 (grid0.coords t 0) 1 r a b) (Fin.ext h1) (Fin.ext h2)
    · rw [blk5, v5_read]
    · rw [blk6, v6_read]
      exact g_at _ _
    · refine congrArg (val_main_v70 (F := Ideal) _ _ _ _ _ _ _ _) ?_
      have h0 : (grid0.coords t 0).val = (4096 + ((grid0.coords t 0).val * 2048 + ((grid0.coords t 2).val * 256 + r.val)) - 4096) / 2048 := by omega
      have h1 : (grid0.coords t 2).val * 256 + r.val = (4096 + ((grid0.coords t 0).val * 2048 + ((grid0.coords t 2).val * 256 + r.val)) - 4096) % 2048 := by omega
      have h2 : (grid0.coords t 1).val = ((grid0.coords t 1).val * 128 + e.val) / 128 := by omega
      have h3 : e.val = ((grid0.coords t 1).val * 128 + e.val) % 128 := by omega
      funext k
      fin_cases k
      · exact Fin.ext h0
      · exact Fin.ext h1
      · exact Fin.ext h2
      · exact Fin.ext h3
  rw [hfin]
  funext i
  split
  · rfl
  · rename_i hi
    rw [v9_read, v74_eq]
    obtain ⟨a, b, rfl⟩ : ∃ (a : Fin 12288) (b : Fin 2048), i = ix2 a b := ⟨i 0, i 1, by funext k; fin_cases k <;> rfl⟩
    rw [out_at, if_pos (by have : ¬ 4096 ≤ a.val := hi; omega)]
end Cert.AttnLastIdeal.Attn
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.AttnPre
public import proofs.«01_k».proof.Proof.AttnValue
public import proofs.«01_k».proof.Proof.Gen.ReferenceIdeal.Read
public import proofs.«01_k».proof.Proof.Gen.Moe
public import proofs.«01_k».proof.Proof.Gen.Moe.Skeleton
public import proofs.«01_k».proof.Proof.Gen.Moe.Launch
public import proofs.«01_k».proof.Proof.Gen.Moe.Loops
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Loops
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.MoeLast
public import proofs.«01_k».proof.Proof.Gen.MoeLast.Skeleton
public import proofs.«01_k».proof.Proof.Gen.MoeLast.Launch
public import proofs.«01_k».proof.Proof.Gen.MoeLast.Loops
public import proofs.«01_k».proof.Proof.Gen.MoeLastIdeal
public import proofs.«01_k».proof.Proof.Gen.MoeLastIdeal.Skeleton
public import proofs.«01_k».proof.Proof.Gen.MoeLastIdeal.Launch
public import proofs.«01_k».proof.Proof.Gen.MoeLastIdeal.Loops
public import proofs.«01_k».proof.Proof.Gen.MoeLastReferenceIdeal
public import proofs.«01_k».proof.Proof.Gen.MoeLastReferenceIdeal.Run
public import proofs.«01_k».proof.Proof.Gen.MoeLastReferenceIdeal.Read
public import proofs.«01_k».proof.Proof.Gen.Pre_tables_in_range
public import proofs.«01_k».proof.Proof.MoeFrames
public import proofs.«01_k».proof.Proof.MoeVal
public import proofs.«01_k».proof.Proof.MoeRef
public import proofs.«01_k».proof.Proof.MoeLastFrames
public import proofs.«01_k».proof.Proof.MoeLastVal
public import proofs.«01_k».proof.Proof.MoeLastRef
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseReferenceIdeal
public import proofs.«01_k».proof.Proof.Gen.DenseReferenceIdeal.Run
public import proofs.«01_k».proof.Proof.Gen.DenseReferenceIdeal.Read
public import proofs.«01_k».proof.Proof.DenseRun
public import proofs.«01_k».proof.Proof.DenseVal
public import proofs.«01_k».proof.Proof.DenseRef
public import proofs.«01_k».proof.Proof.Gen.DenseLast
public import proofs.«01_k».proof.Proof.Gen.DenseLast.Skeleton
public import proofs.«01_k».proof.Proof.Gen.DenseLast.Launch
public import proofs.«01_k».proof.Proof.Gen.DenseLast.Points
public import proofs.«01_k».proof.Proof.Gen.DenseLast.Frame
public import proofs.«01_k».proof.Proof.Gen.DenseLastIdeal
public import proofs.«01_k».proof.Proof.Gen.DenseLastIdeal.Skeleton
public import proofs.«01_k».proof.Proof.Gen.DenseLastIdeal.Launch
public import proofs.«01_k».proof.Proof.Gen.DenseLastIdeal.Points
public import proofs.«01_k».proof.Proof.Gen.DenseLastIdeal.Frame
public import proofs.«01_k».proof.Proof.Gen.DenseLastReferenceIdeal
public import proofs.«01_k».proof.Proof.Gen.DenseLastReferenceIdeal.Run
public import proofs.«01_k».proof.Proof.Gen.DenseLastReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OutLast
public import proofs.«01_k».proof.Proof.Gen.OutLast.Skeleton
public import proofs.«01_k».proof.Proof.Gen.OutLast.Launch
public import proofs.«01_k».proof.Proof.Gen.OutLast.Points
public import proofs.«01_k».proof.Proof.Gen.OutLast.Frame
public import proofs.«01_k».proof.Proof.Gen.OutLastIdeal
public import proofs.«01_k».proof.Proof.Gen.OutLastIdeal.Skeleton
public import proofs.«01_k».proof.Proof.Gen.OutLastIdeal.Launch
public import proofs.«01_k».proof.Proof.Gen.OutLastIdeal.Points
public import proofs.«01_k».proof.Proof.Gen.OutLastIdeal.Frame
public import proofs.«01_k».proof.Proof.Gen.OutLastIdeal.Value
public import proofs.«01_k».proof.Proof.Gen.OutLastReferenceIdeal
public import proofs.«01_k».proof.Proof.Gen.OutLastReferenceIdeal.Run
public import proofs.«01_k».proof.Proof.Gen.OutLastReferenceIdeal.Read
public import proofs.«01_k».proof.Proof.DenseLastRun
public import proofs.«01_k».proof.Proof.DenseLastVal
public import proofs.«01_k».proof.Proof.DenseLastRef
public import proofs.«01_k».proof.Proof.OutVal
public import proofs.«01_k».proof.Proof.OutRef
public import proofs.«01_k».proof.Proof.OutLastVal
public import proofs.«01_k».proof.Proof.OutLastRef
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenIdeal.Value
public import proofs.«01_k».proof.Proof.Gen.EvenReferenceIdeal
public import proofs.«01_k».proof.Proof.Gen.EvenReferenceIdeal.Run
public import proofs.«01_k».proof.Proof.Gen.EvenReferenceIdeal.Read
public import proofs.«01_k».proof.Proof.Gen.EvenLast
public import proofs.«01_k».proof.Proof.Gen.EvenLast.Skeleton
public import proofs.«01_k».proof.Proof.Gen.EvenLast.Launch
public import proofs.«01_k».proof.Proof.Gen.EvenLast.Points
public import proofs.«01_k».proof.Proof.Gen.EvenLast.Frame
public import proofs.«01_k».proof.Proof.Gen.EvenLastIdeal
public import proofs.«01_k».proof.Proof.Gen.EvenLastIdeal.Skeleton
public import proofs.«01_k».proof.Proof.Gen.EvenLastIdeal.Launch
public import proofs.«01_k».proof.Proof.Gen.EvenLastIdeal.Points
public import proofs.«01_k».proof.Proof.Gen.EvenLastIdeal.Frame
public import proofs.«01_k».proof.Proof.Gen.EvenLastIdeal.Value
public import proofs.«01_k».proof.Proof.Gen.EvenLastReferenceIdeal
public import proofs.«01_k».proof.Proof.Gen.EvenLastReferenceIdeal.Run
public import proofs.«01_k».proof.Proof.Gen.EvenLastReferenceIdeal.Read
public import proofs.«01_k».proof.Proof.EvenVal
public import proofs.«01_k».proof.Proof.EvenRef
public import proofs.«01_k».proof.Proof.EvenLastVal
public import proofs.«01_k».proof.Proof.EvenLastRef
public import proofs.«01_k».proof.Proof.Gen.AttnLast
public import proofs.«01_k».proof.Proof.Gen.AttnLast.Skeleton
public import proofs.«01_k».proof.Proof.Gen.AttnLast.Launch
public import proofs.«01_k».proof.Proof.Gen.AttnLast.Points
public import proofs.«01_k».proof.Proof.Gen.AttnLast.Frame
public import proofs.«01_k».proof.Proof.Gen.AttnLastIdeal
public import proofs.«01_k».proof.Proof.Gen.AttnLastIdeal.Skeleton
public import proofs.«01_k».proof.Proof.Gen.AttnLastIdeal.Launch
public import proofs.«01_k».proof.Proof.Gen.AttnLastIdeal.Points
public import proofs.«01_k».proof.Proof.Gen.AttnLastIdeal.Frame
public import proofs.«01_k».proof.Proof.Gen.AttnLastReferenceIdeal
public import proofs.«01_k».proof.Proof.Gen.Pre_finite_scores_last
public import proofs.«01_k».proof.Proof.Gen.AttnLastIdeal.Value
public import proofs.«01_k».proof.Proof.Gen.AttnLastReferenceIdeal.Read
public import proofs.«01_k».proof.Proof.AttnLastPay
public import proofs.«01_k».proof.Proof.AttnLastRef
public import proofs.«01_k».proof.Proof.AttnLastPre
public import proofs.«01_k».proof.Proof.AttnLastValue
public import Idealize.ShloMosaic.Adequacy
public import Idealize.ShloMosaic.Init

@[expose] public section

noncomputable section

namespace Cert.Proof

open Idealize.ShloMosaic Idealize.SL.Sem Cert.Kernel

/-- The reference's own run: it terminates, keeps its arguments and leaves every counter at zero. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The kernel's results array is the reference's, where the layer's queries and keys are finite. -/
theorem algebraic : Cert.algebraic_KernelIdeal_ReferenceIdeal_pre_finite_scores := by
  pair_intro
  · run_from Cert.KernelIdeal.Value.run_blocks m g
  · run_from Cert.ReferenceIdeal.Value.run m' g'
    rw [Cert.ReferenceIdeal.Read.val_main_v74_eq, Cert.KernelIdeal.Attn.final m c (Cert.Pre_finite_scores.Attn.finite _ _ _ _ _ _ _ _ _ (hpre c))]
    obtain ⟨e0, e1, e2, e3, e4, e5, e6, e7, e8⟩ := hagree c
    rw [e0, e1, e2, e3, e4, e5, e6, e7, e8]

/-- The reference of the experts ends, keeps its arguments and leaves every counter at zero. -/
theorem moe_reference_frame : Cert.quiescent_MoeReferenceIdeal := by
  intro m g _
  exact (θ_run Cert.MoeReferenceIdeal.defs _ _).mono (fun r h => ⟨fun c => (h c).2, sem_eq_zero_of_no_sems (by decide) r.2⟩)
    (Cert.MoeReferenceIdeal.Value.run m g)

/-- The expert kernel's array of routed rows is the reference's, where the routing tables are in range. -/
theorem moe_value (m : (ℓ : Loc Cert.MoeIdeal.nD Cert.MoeIdeal.τ Cert.MoeIdeal.sig) → Buf (Elt Ideal) ℓ) (hr : Cert.MoeIdeal.Hand.Ranges m) :
    (Cert.MoeIdeal.Hand.dats m (Cert.MoeIdeal.Hand.ok_of m hr) 0 0).arrAt 3 (Cert.MoeIdeal.Hand.cf m (Cert.MoeIdeal.Hand.ok_of m hr)).N
      = Cert.MoeReferenceIdeal.Read.val_main_v38 (F := Ideal) (Cert.MoeIdeal.Hand.X0 m) (Cert.MoeIdeal.Hand.X1 m) (Cert.MoeIdeal.Hand.X2 m)
          (Cert.MoeIdeal.Hand.X3 m) (Cert.MoeIdeal.Hand.X4 m) (Cert.MoeIdeal.Hand.X5 m) := by
  refine (Cert.MoeIdeal.Hand.final m hr).trans (funext fun (i : Cert.MoeIdeal.S30080x2048.Idx) => ?_)
  obtain ⟨r, d, rfl⟩ : ∃ (r : Fin 30080) (d : Fin 2048), i = ValueIdx.ix2 r d := ⟨i 0, i 1, by funext k; fin_cases k <;> rfl⟩
  exact (Cert.MoeReferenceIdeal.Experts.value_at _ _ _ _ _ _ hr.1 hr.2 r d).symm

/-- The expert kernel and its reference end with the same array of routed rows. -/
theorem moe_algebraic : Cert.algebraic_MoeIdeal_MoeReferenceIdeal := by
  intro m g m' g' hpre hagree
  have hr := Cert.MoeIdeal.Hand.ranges_of m hpre
  refine ⟨fun c => (Cert.MoeIdeal.Hand.dats m (Cert.MoeIdeal.Hand.ok_of m hr) 0 c).arrAt 3 (Cert.MoeIdeal.Hand.cf m (Cert.MoeIdeal.Hand.ok_of m hr)).N, ?_, ?_⟩
  · exact (θ_run Cert.MoeIdeal.defs _ _).mono (fun r h c => ⟨(h.1 c).2, (h.1 c).1⟩) (Cert.MoeIdeal.Hand.run_post m g (Cert.MoeIdeal.Hand.ok_of m hr))
  · refine (θ_run Cert.MoeReferenceIdeal.defs _ _).mono (fun r h c => ⟨(h c).1.trans ?_, (h c).2⟩) (Cert.MoeReferenceIdeal.Value.run m' g')
    obtain rfl := Cert.MoeIdeal.Hand.dev0 c
    rw [Cert.MoeReferenceIdeal.Read.val_main_v38_eq]
    obtain ⟨e0, e1, e2, e3, e4, e5⟩ := hagree 0
    rw [e0, e1, e2, e3, e4, e5]
    exact (moe_value m hr).symm

/-- The last layer's reference of the experts ends, keeps its arguments and leaves every counter at zero. -/
theorem last_reference_frame : Cert.quiescent_MoeLastReferenceIdeal := by
  intro m g _
  exact (θ_run Cert.MoeLastReferenceIdeal.defs _ _).mono (fun r h => ⟨fun c => (h c).2, sem_eq_zero_of_no_sems (by decide) r.2⟩)
    (Cert.MoeLastReferenceIdeal.Value.run m g)

/-- The last layer's array of routed rows is the reference's, where the routing tables are in range. -/
theorem last_value (m : (ℓ : Loc Cert.MoeLastIdeal.nD Cert.MoeLastIdeal.τ Cert.MoeLastIdeal.sig) → Buf (Elt Ideal) ℓ) (hr : Cert.MoeLastIdeal.Hand.Ranges m) :
    (Cert.MoeLastIdeal.Hand.dats m (Cert.MoeLastIdeal.Hand.ok_of m hr) 0 0).arrAt 3 (Cert.MoeLastIdeal.Hand.cf m (Cert.MoeLastIdeal.Hand.ok_of m hr)).N
      = Cert.MoeLastReferenceIdeal.Read.val_main_v38 (F := Ideal) (Cert.MoeLastIdeal.Hand.X0 m) (Cert.MoeLastIdeal.Hand.X1 m) (Cert.MoeLastIdeal.Hand.X2 m)
          (Cert.MoeLastIdeal.Hand.X3 m) (Cert.MoeLastIdeal.Hand.X4 m) (Cert.MoeLastIdeal.Hand.X5 m) := by
  refine (Cert.MoeLastIdeal.Hand.final m hr).trans (funext fun (i : Cert.MoeLastIdeal.S30080x2048.Idx) => ?_)
  obtain ⟨r, d, rfl⟩ : ∃ (r : Fin 30080) (d : Fin 2048), i = ValueIdx.ix2 r d := ⟨i 0, i 1, by funext k; fin_cases k <;> rfl⟩
  exact (Cert.MoeLastReferenceIdeal.Experts.value_at _ _ _ _ _ _ hr.1 hr.2 r d).symm

/-- The last layer's kernel and its reference end with the same array of routed rows. -/
theorem last_algebraic : Cert.algebraic_MoeLastIdeal_MoeLastReferenceIdeal := by
  intro m g m' g' hpre hagree
  have hr := Cert.MoeLastIdeal.Hand.ranges_of m hpre
  refine ⟨fun c => (Cert.MoeLastIdeal.Hand.dats m (Cert.MoeLastIdeal.Hand.ok_of m hr) 0 c).arrAt 3 (Cert.MoeLastIdeal.Hand.cf m (Cert.MoeLastIdeal.Hand.ok_of m hr)).N, ?_, ?_⟩
  · exact (θ_run Cert.MoeLastIdeal.defs _ _).mono (fun r h c => ⟨(h.1 c).2, (h.1 c).1⟩) (Cert.MoeLastIdeal.Hand.run_post m g (Cert.MoeLastIdeal.Hand.ok_of m hr))
  · refine (θ_run Cert.MoeLastReferenceIdeal.defs _ _).mono (fun r h c => ⟨(h c).1.trans ?_, (h c).2⟩) (Cert.MoeLastReferenceIdeal.Value.run m' g')
    obtain rfl := Cert.MoeLastIdeal.Hand.dev0 c
    rw [Cert.MoeLastReferenceIdeal.Read.val_main_v38_eq]
    obtain ⟨e0, e1, e2, e3, e4, e5⟩ := hagree 0
    rw [e0, e1, e2, e3, e4, e5]
    exact (last_value m hr).symm

/-- The reference of the dense block ends, keeps its arguments and leaves every counter at zero. -/
theorem dense_reference_frame : Cert.quiescent_DenseReferenceIdeal := by
  intro m g _
  exact (θ_run Cert.DenseReferenceIdeal.defs _ _).mono (fun r h => ⟨fun c => (h c).2, sem_eq_zero_of_no_sems (by decide) r.2⟩)
    (Cert.DenseReferenceIdeal.Value.run m g)

/-- The dense block's array of rows is its reference's. -/
theorem dense_value (m : (ℓ : Loc Cert.DenseIdeal.nD Cert.DenseIdeal.τ Cert.DenseIdeal.sig) → Buf (Elt Ideal) ℓ) (c : Dev Cert.DenseIdeal.nD) :
    (Cert.DenseIdeal.Gen.dats m 0 c).arrAt 7 (Cert.DenseIdeal.cfgs 0).N
      = Cert.DenseReferenceIdeal.Read.val_main_v77 (F := Ideal) (Cert.DenseIdeal.Hand.X0 m c) (Cert.DenseIdeal.Hand.X1 m c) (Cert.DenseIdeal.Hand.X2 m c)
          (Cert.DenseIdeal.Hand.X3 m c) (Cert.DenseIdeal.Hand.X4 m c) (Cert.DenseIdeal.Hand.X5 m c) := by
  refine (Cert.DenseIdeal.Hand.final m c).trans (funext fun (i : Cert.DenseIdeal.S12288x2048.Idx) => ?_)
  obtain ⟨r, d, rfl⟩ : ∃ (r : Fin 12288) (d : Fin 2048), i = ValueIdx.ix2 r d := ⟨i 0, i 1, by funext k; fin_cases k <;> rfl⟩
  exact (Cert.DenseReferenceIdeal.Hand.v77_at _ _ _ _ _ _ r d).symm

/-- The dense block and its reference end with the same array of rows. -/
theorem dense_algebraic : Cert.algebraic_DenseIdeal_DenseReferenceIdeal := by
  pair_intro
  · run_from Cert.DenseIdeal.Hand.run_blocks m g
  · run_from Cert.DenseReferenceIdeal.Value.run m' g'
    rw [Cert.DenseReferenceIdeal.Read.val_main_v77_eq]
    refine Eq.trans ?_ (dense_value m c).symm
    obtain ⟨e0, e1, e2, e3, e4, e5⟩ := hagree c
    rw [e0, e1, e2, e3, e4, e5]

/-- The reference of the dense block of the third layer ends, keeps its arguments and leaves every counter at zero. -/
theorem dense_last_reference_frame : Cert.quiescent_DenseLastReferenceIdeal := by
  intro m g _
  exact (θ_run Cert.DenseLastReferenceIdeal.defs _ _).mono (fun r h => ⟨fun c => (h c).2, sem_eq_zero_of_no_sems (by decide) r.2⟩)
    (Cert.DenseLastReferenceIdeal.Value.run m g)

/-- The dense block of the third layer's array of rows is its reference's. -/
theorem dense_last_value (m : (ℓ : Loc Cert.DenseLastIdeal.nD Cert.DenseLastIdeal.τ Cert.DenseLastIdeal.sig) → Buf (Elt Ideal) ℓ) (c : Dev Cert.DenseLastIdeal.nD) :
    (Cert.DenseLastIdeal.Gen.dats m 0 c).arrAt 7 (Cert.DenseLastIdeal.cfgs 0).N
      = Cert.DenseLastReferenceIdeal.Read.val_main_v77 (F := Ideal) (Cert.DenseLastIdeal.Hand.X0 m c) (Cert.DenseLastIdeal.Hand.X1 m c) (Cert.DenseLastIdeal.Hand.X2 m c)
          (Cert.DenseLastIdeal.Hand.X3 m c) (Cert.DenseLastIdeal.Hand.X4 m c) (Cert.DenseLastIdeal.Hand.X5 m c) := by
  refine (Cert.DenseLastIdeal.Hand.final m c).trans (funext fun (i : Cert.DenseLastIdeal.S12288x2048.Idx) => ?_)
  obtain ⟨r, d, rfl⟩ : ∃ (r : Fin 12288) (d : Fin 2048), i = ValueIdx.ix2 r d := ⟨i 0, i 1, by funext k; fin_cases k <;> rfl⟩
  exact (Cert.DenseLastReferenceIdeal.Hand.v77_at _ _ _ _ _ _ r d).symm

/-- The dense block of the third layer and its reference end with the same array of rows. -/
theorem dense_last_algebraic : Cert.algebraic_DenseLastIdeal_DenseLastReferenceIdeal := by
  pair_intro
  · run_from Cert.DenseLastIdeal.Hand.run_blocks m g
  · run_from Cert.DenseLastReferenceIdeal.Value.run m' g'
    rw [Cert.DenseLastReferenceIdeal.Read.val_main_v77_eq]
    refine Eq.trans ?_ (dense_last_value m c).symm
    obtain ⟨e0, e1, e2, e3, e4, e5⟩ := hagree c
    rw [e0, e1, e2, e3, e4, e5]

/-- The reference of the output projection ends, keeps its arguments and leaves every counter at zero. -/
theorem out_reference_frame : Cert.quiescent_OutReferenceIdeal := by
  intro m g _
  exact (θ_run Cert.OutReferenceIdeal.defs _ _).mono (fun r h => ⟨fun c => (h c).2, sem_eq_zero_of_no_sems (by decide) r.2⟩)
    (Cert.OutReferenceIdeal.Value.run m g)

/-- The output projection's array of rows is its reference's. -/
theorem out_value (m : (ℓ : Loc Cert.OutIdeal.nD Cert.OutIdeal.τ Cert.OutIdeal.sig) → Buf (Elt Ideal) ℓ) (c : Dev Cert.OutIdeal.nD) :
    (Cert.OutIdeal.Gen.dats m 0 c).arrAt 6 (Cert.OutIdeal.cfgs 0).N
      = Cert.OutReferenceIdeal.Read.val_main_v47 (F := Ideal) (Cert.OutIdeal.Hand.X0 m c) (Cert.OutIdeal.Hand.X1 m c) (Cert.OutIdeal.Hand.X2 m c)
          (Cert.OutIdeal.Hand.X3 m c) (Cert.OutIdeal.Hand.X4 m c) (Cert.OutIdeal.Hand.X5 m c) := by
  refine (Cert.OutIdeal.Hand.final m c).trans (funext fun (i : Cert.OutIdeal.S12288x2048.Idx) => ?_)
  obtain ⟨r, d, rfl⟩ : ∃ (r : Fin 12288) (d : Fin 2048), i = ValueIdx.ix2 r d := ⟨i 0, i 1, by funext k; fin_cases k <;> rfl⟩
  exact (Cert.OutReferenceIdeal.Hand.v47_at _ _ _ _ _ _ r d).symm

/-- The output projection and its reference end with the same array of rows. -/
theorem out_algebraic : Cert.algebraic_OutIdeal_OutReferenceIdeal := by
  pair_intro
  · run_from Cert.OutIdeal.Value.run_blocks m g
  · run_from Cert.OutReferenceIdeal.Value.run m' g'
    rw [Cert.OutReferenceIdeal.Read.val_main_v47_eq]
    refine Eq.trans ?_ (out_value m c).symm
    obtain ⟨e0, e1, e2, e3, e4, e5⟩ := hagree c
    rw [e0, e1, e2, e3, e4, e5]

/-- The reference of the output projection of the last layer ends, keeps its arguments and leaves every counter at zero. -/
theorem out_last_reference_frame : Cert.quiescent_OutLastReferenceIdeal := by
  intro m g _
  exact (θ_run Cert.OutLastReferenceIdeal.defs _ _).mono (fun r h => ⟨fun c => (h c).2, sem_eq_zero_of_no_sems (by decide) r.2⟩)
    (Cert.OutLastReferenceIdeal.Value.run m g)

/-- The output projection of the last layer's array of rows is its reference's. -/
theorem out_last_value (m : (ℓ : Loc Cert.OutLastIdeal.nD Cert.OutLastIdeal.τ Cert.OutLastIdeal.sig) → Buf (Elt Ideal) ℓ) (c : Dev Cert.OutLastIdeal.nD) :
    (Cert.OutLastIdeal.Gen.dats m 0 c).arrAt 6 (Cert.OutLastIdeal.cfgs 0).N
      = Cert.OutLastReferenceIdeal.Read.val_main_v47 (F := Ideal) (Cert.OutLastIdeal.Hand.X0 m c) (Cert.OutLastIdeal.Hand.X1 m c) (Cert.OutLastIdeal.Hand.X2 m c)
          (Cert.OutLastIdeal.Hand.X3 m c) (Cert.OutLastIdeal.Hand.X4 m c) (Cert.OutLastIdeal.Hand.X5 m c) := by
  refine (Cert.OutLastIdeal.Hand.final m c).trans (funext fun (i : Cert.OutLastIdeal.S12288x2048.Idx) => ?_)
  obtain ⟨r, d, rfl⟩ : ∃ (r : Fin 12288) (d : Fin 2048), i = ValueIdx.ix2 r d := ⟨i 0, i 1, by funext k; fin_cases k <;> rfl⟩
  exact (Cert.OutLastReferenceIdeal.Hand.v47_at _ _ _ _ _ _ r d).symm

/-- The output projection of the last layer and its reference end with the same array of rows. -/
theorem out_last_algebraic : Cert.algebraic_OutLastIdeal_OutLastReferenceIdeal := by
  pair_intro
  · run_from Cert.OutLastIdeal.Value.run_blocks m g
  · run_from Cert.OutLastReferenceIdeal.Value.run m' g'
    rw [Cert.OutLastReferenceIdeal.Read.val_main_v47_eq]
    refine Eq.trans ?_ (out_last_value m c).symm
    obtain ⟨e0, e1, e2, e3, e4, e5⟩ := hagree c
    rw [e0, e1, e2, e3, e4, e5]

/-- The reference of the output projection of the first layer ends, keeps its arguments and leaves every counter at zero. -/
theorem even_reference_frame : Cert.quiescent_EvenReferenceIdeal := by
  intro m g _
  exact (θ_run Cert.EvenReferenceIdeal.defs _ _).mono (fun r h => ⟨fun c => (h c).2, sem_eq_zero_of_no_sems (by decide) r.2⟩)
    (Cert.EvenReferenceIdeal.Value.run m g)

/-- The output projection of the first layer's array of rows is its reference's. -/
theorem even_value (m : (ℓ : Loc Cert.EvenIdeal.nD Cert.EvenIdeal.τ Cert.EvenIdeal.sig) → Buf (Elt Ideal) ℓ) (c : Dev Cert.EvenIdeal.nD) :
    (Cert.EvenIdeal.Gen.dats m 0 c).arrAt 8 (Cert.EvenIdeal.cfgs 0).N
      = Cert.EvenReferenceIdeal.Read.val_main_v48 (F := Ideal) (Cert.EvenIdeal.Hand.X0 m c) (Cert.EvenIdeal.Hand.X1 m c) (Cert.EvenIdeal.Hand.X2 m c)
          (Cert.EvenIdeal.Hand.X3 m c) (Cert.EvenIdeal.Hand.X4 m c) (Cert.EvenIdeal.Hand.X5 m c) (Cert.EvenIdeal.Hand.X6 m c) := by
  refine (Cert.EvenIdeal.Hand.final m c).trans (funext fun (i : Cert.EvenIdeal.S12288x2048.Idx) => ?_)
  obtain ⟨r, d, rfl⟩ : ∃ (r : Fin 12288) (d : Fin 2048), i = ValueIdx.ix2 r d := ⟨i 0, i 1, by funext k; fin_cases k <;> rfl⟩
  exact (Cert.EvenReferenceIdeal.Hand.v48_at _ _ _ _ _ _ _ r d).symm

/-- The output projection of the first layer and its reference end with the same array of rows. -/
theorem even_algebraic : Cert.algebraic_EvenIdeal_EvenReferenceIdeal := by
  pair_intro
  · run_from Cert.EvenIdeal.Value.run_blocks m g
  · run_from Cert.EvenReferenceIdeal.Value.run m' g'
    rw [Cert.EvenReferenceIdeal.Read.val_main_v48_eq]
    refine Eq.trans ?_ (even_value m c).symm
    obtain ⟨e0, e1, e2, e3, e4, e5, e6⟩ := hagree c
    rw [e0, e1, e2, e3, e4, e5, e6]

/-- The reference of the output projection of the third layer ends, keeps its arguments and leaves every counter at zero. -/
theorem even_last_reference_frame : Cert.quiescent_EvenLastReferenceIdeal := by
  intro m g _
  exact (θ_run Cert.EvenLastReferenceIdeal.defs _ _).mono (fun r h => ⟨fun c => (h c).2, sem_eq_zero_of_no_sems (by decide) r.2⟩)
    (Cert.EvenLastReferenceIdeal.Value.run m g)

/-- The output projection of the third layer's array of rows is its reference's. -/
theorem even_last_value (m : (ℓ : Loc Cert.EvenLastIdeal.nD Cert.EvenLastIdeal.τ Cert.EvenLastIdeal.sig) → Buf (Elt Ideal) ℓ) (c : Dev Cert.EvenLastIdeal.nD) :
    (Cert.EvenLastIdeal.Gen.dats m 0 c).arrAt 8 (Cert.EvenLastIdeal.cfgs 0).N
      = Cert.EvenLastReferenceIdeal.Read.val_main_v48 (F := Ideal) (Cert.EvenLastIdeal.Hand.X0 m c) (Cert.EvenLastIdeal.Hand.X1 m c) (Cert.EvenLastIdeal.Hand.X2 m c)
          (Cert.EvenLastIdeal.Hand.X3 m c) (Cert.EvenLastIdeal.Hand.X4 m c) (Cert.EvenLastIdeal.Hand.X5 m c) (Cert.EvenLastIdeal.Hand.X6 m c) := by
  refine (Cert.EvenLastIdeal.Hand.final m c).trans (funext fun (i : Cert.EvenLastIdeal.S12288x2048.Idx) => ?_)
  obtain ⟨r, d, rfl⟩ : ∃ (r : Fin 12288) (d : Fin 2048), i = ValueIdx.ix2 r d := ⟨i 0, i 1, by funext k; fin_cases k <;> rfl⟩
  exact (Cert.EvenLastReferenceIdeal.Hand.v48_at _ _ _ _ _ _ _ r d).symm

/-- The output projection of the third layer and its reference end with the same array of rows. -/
theorem even_last_algebraic : Cert.algebraic_EvenLastIdeal_EvenLastReferenceIdeal := by
  pair_intro
  · run_from Cert.EvenLastIdeal.Value.run_blocks m g
  · run_from Cert.EvenLastReferenceIdeal.Value.run m' g'
    rw [Cert.EvenLastReferenceIdeal.Read.val_main_v48_eq]
    refine Eq.trans ?_ (even_last_value m c).symm
    obtain ⟨e0, e1, e2, e3, e4, e5, e6⟩ := hagree c
    rw [e0, e1, e2, e3, e4, e5, e6]

/-- The last layer's reference's own run: it terminates, keeps its arguments and leaves every counter at zero. -/
theorem attn_last_reference_frame : Cert.quiescent_AttnLastReferenceIdeal := by
  intro m g _
  exact (θ_run Cert.AttnLastReferenceIdeal.defs _ _).mono (fun r h => ⟨fun c => (h c).2, sem_eq_zero_of_no_sems (by decide) r.2⟩)
    (Cert.AttnLastReferenceIdeal.Value.run m g)

/-- The last layer's results array is the reference's, where the layer's queries and keys are finite. -/
theorem attn_last_algebraic : Cert.algebraic_AttnLastIdeal_AttnLastReferenceIdeal_pre_finite_scores_last := by
  pair_intro
  · run_from Cert.AttnLastIdeal.Value.run_blocks m g
  · run_from Cert.AttnLastReferenceIdeal.Value.run m' g'
    rw [Cert.AttnLastReferenceIdeal.Read.val_main_v74_eq, Cert.AttnLastIdeal.Attn.final m c (Cert.Pre_finite_scores_last.Attn.finite _ _ _ _ _ _ _ _ _ (hpre c))]
    obtain ⟨e0, e1, e2, e3, e4, e5, e6, e7, e8⟩ := hagree c
    rw [e0, e1, e2, e3, e4, e5, e6, e7, e8]

/-- The claims of the certificate. -/
theorem claim : Cert.Claim :=
  ⟨Cert.Kernel.Gen.facts, Cert.KernelIdeal.Gen.facts, Cert.ReferenceIdeal.Gen.facts, Cert.Moe.Gen.facts, Cert.MoeIdeal.Gen.facts, Cert.MoeReferenceIdeal.Gen.facts,
    Cert.MoeLast.Gen.facts, Cert.MoeLastIdeal.Gen.facts, Cert.MoeLastReferenceIdeal.Gen.facts,
    Cert.Dense.Gen.facts, Cert.DenseIdeal.Gen.facts, Cert.DenseReferenceIdeal.Gen.facts,
    Cert.DenseLast.Gen.facts, Cert.DenseLastIdeal.Gen.facts, Cert.DenseLastReferenceIdeal.Gen.facts,
    Cert.Out.Gen.facts, Cert.OutIdeal.Gen.facts, Cert.OutReferenceIdeal.Gen.facts,
    Cert.OutLast.Gen.facts, Cert.OutLastIdeal.Gen.facts, Cert.OutLastReferenceIdeal.Gen.facts,
    Cert.Even.Gen.facts, Cert.EvenIdeal.Gen.facts, Cert.EvenReferenceIdeal.Gen.facts,
    Cert.EvenLast.Gen.facts, Cert.EvenLastIdeal.Gen.facts, Cert.EvenLastReferenceIdeal.Gen.facts,
    Cert.AttnLast.Gen.facts, Cert.AttnLastIdeal.Gen.facts, Cert.AttnLastReferenceIdeal.Gen.facts,
    Cert.Pre_finite_scores.Gen.facts, Cert.Pre_tables_in_range.Gen.facts, Cert.Pre_finite_scores_last.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    Cert.MoeIdeal.Hand.frame_bits, Cert.MoeIdeal.Hand.frame_ideal, moe_reference_frame, fun m ρ _ => moe_reference_frame m ρ trivial,
    Cert.MoeLastIdeal.Hand.frame_bits, Cert.MoeLastIdeal.Hand.frame_ideal, last_reference_frame, fun m ρ _ => last_reference_frame m ρ trivial,
    fun m ρ _ => Cert.Dense.Gen.frame m ρ, fun m ρ _ => Cert.DenseIdeal.Gen.frame m ρ, dense_reference_frame,
    fun m ρ _ => Cert.DenseLast.Gen.frame m ρ, fun m ρ _ => Cert.DenseLastIdeal.Gen.frame m ρ, dense_last_reference_frame,
    fun m ρ _ => Cert.Out.Gen.frame m ρ, fun m ρ _ => Cert.OutIdeal.Gen.frame m ρ, out_reference_frame,
    fun m ρ _ => Cert.OutLast.Gen.frame m ρ, fun m ρ _ => Cert.OutLastIdeal.Gen.frame m ρ, out_last_reference_frame,
    fun m ρ _ => Cert.Even.Gen.frame m ρ, fun m ρ _ => Cert.EvenIdeal.Gen.frame m ρ, even_reference_frame,
    fun m ρ _ => Cert.EvenLast.Gen.frame m ρ, fun m ρ _ => Cert.EvenLastIdeal.Gen.frame m ρ, even_last_reference_frame,
    fun m ρ _ => Cert.AttnLast.Gen.frame m ρ, fun m ρ _ => Cert.AttnLastIdeal.Gen.frame m ρ, fun m ρ _ => Cert.AttnLastIdeal.Gen.frame m ρ,
    attn_last_reference_frame, fun m ρ _ => attn_last_reference_frame m ρ trivial,
    trivial, algebraic, trivial, moe_algebraic, trivial, last_algebraic, trivial, dense_algebraic, trivial, dense_last_algebraic,
    trivial, out_algebraic, trivial, out_last_algebraic, trivial, even_algebraic, trivial, even_last_algebraic,
    trivial, attn_last_algebraic⟩

end Cert.Proof

end
